-- ==== Defs.lean ====
def Pre_Kernel [hPre_segments_filled : Cert.Pre_segments_filled.Facts] (m : (ℓ : Loc Cert.Kernel.nD Cert.Kernel.τ Cert.Kernel.sig) → Buf (Elt Bits) ℓ) : Prop :=
  ∀ c : Dev Cert.Kernel.nD,
    (Cert.Pre_segments_filled.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_segments_filled.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_segments_filled.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2 = (fun _ => 1#1)

def Pre_KernelIdeal [hPre_segments_filled : Cert.Pre_segments_filled.Facts] (m : (ℓ : Loc Cert.KernelIdeal.nD Cert.KernelIdeal.τ Cert.KernelIdeal.sig) → Buf (Elt Ideal) ℓ) : Prop :=
  ∀ c : Dev Cert.KernelIdeal.nD,
    (Cert.Pre_segments_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_segments_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_segments_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_filled [hPre_segments_filled : Cert.Pre_segments_filled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_segments_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_segments_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Reference [hPre_segments_filled : Cert.Pre_segments_filled.Facts] (m : (ℓ : Loc Cert.Reference.nD Cert.Reference.τ Cert.Reference.sig) → Buf (Elt Bits) ℓ) : Prop :=
  ∀ c : Dev Cert.Reference.nD,
    (Cert.Pre_segments_filled.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).1 = (fun _ => 1#1)
    ∧ (Cert.Pre_segments_filled.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.1 = (fun _ => 1#1)
    ∧ (Cert.Pre_segments_filled.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_tables : Cert.Pre_experts_tables.Facts] (m : (ℓ : Loc Cert.Kernel3.nD Cert.Kernel3.τ Cert.Kernel3.sig) → Buf (Elt Bits) ℓ) : Prop :=
  ∀ c : Dev Cert.Kernel3.nD,
    (Cert.Pre_experts_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8)) (m ((c.tc : Thread Cert.Kernel3.nD Cert.Kernel3.τ).loc Cert.Kernel3.main_arg9))) = (fun _ => 1#1)

def Pre_Kernel3Ideal [hPre_experts_tables : Cert.Pre_experts_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_tables [hPre_experts_tables : Cert.Pre_experts_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] [hPre_segments_filled : Cert.Pre_segments_filled.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_segments_filled : Cert.Pre_segments_filled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_segments_filled [hReferenceIdeal : Cert.ReferenceIdeal.Facts] [hPre_segments_filled : Cert.Pre_segments_filled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_filled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_segments_filled : Cert.Pre_segments_filled.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts_tables : Cert.Pre_experts_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] [hPre_experts_tables : Cert.Pre_experts_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_experts_tables [hReference3Ideal : Cert.Reference3Ideal.Facts] [hPre_experts_tables : Cert.Pre_experts_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_segments_filled : Cert.Pre_segments_filled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_segments_filled : Cert.Pre_segments_filled.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v36) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_v38) = v5 c
          ∧ r.2.mem ((c.tc : Thread Cert.Reference2Ideal.nD Cert.Reference2Ideal.τ).loc Cert.Reference2Ideal.main_v32) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_experts_tables : Cert.Pre_experts_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_segments_filled : Cert.Pre_segments_filled.Facts) (hPre_experts_tables : Cert.Pre_experts_tables.Facts),
    quiescent_Kernel (hKernel := hKernel) (hPre_segments_filled := hPre_segments_filled)
    ∧ quiescent_KernelIdeal (hKernelIdeal := hKernelIdeal) (hPre_segments_filled := hPre_segments_filled)
    ∧ quiescent_ReferenceIdeal (hReferenceIdeal := hReferenceIdeal)
    ∧ quiescent_ReferenceIdeal_pre_segments_filled (hReferenceIdeal := hReferenceIdeal) (hPre_segments_filled := hPre_segments_filled)
    ∧ quiescent_Reference (hReference := hReference) (hPre_segments_filled := hPre_segments_filled)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_tables := hPre_experts_tables)
    ∧ quiescent_Kernel3Ideal (hKernel3Ideal := hKernel3Ideal) (hPre_experts_tables := hPre_experts_tables)
    ∧ quiescent_Reference3Ideal (hReference3Ideal := hReference3Ideal)
    ∧ quiescent_Reference3Ideal_pre_experts_tables (hReference3Ideal := hReference3Ideal) (hPre_experts_tables := hPre_experts_tables)
    ∧ preserves_Kernel_KernelIdeal
    ∧ algebraic_KernelIdeal_ReferenceIdeal (hKernelIdeal := hKernelIdeal) (hReferenceIdeal := hReferenceIdeal) (hPre_segments_filled := hPre_segments_filled)
    ∧ bitexact_Kernel_Reference (hKernel := hKernel) (hReference := hReference) (hPre_segments_filled := hPre_segments_filled)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_tables := hPre_experts_tables)
-- ==== Pre_experts_tables.lean ====
abbrev S160 : Shape := ⟨1, ![160]⟩
abbrev S1 : Shape := ⟨1, ![1]⟩
abbrev S64 : Shape := ⟨1, ![64]⟩
abbrev S655360x128 : Shape := ⟨2, ![655360, 128]⟩
abbrev S32x1024x1024 : Shape := ⟨3, ![32, 1024, 1024]⟩
abbrev S32x1024 : Shape := ⟨2, ![32, 1024]⟩
abbrev S_ : Shape := ⟨0, ![]⟩
abbrev S160x1 : Shape := ⟨2, ![160, 1]⟩
abbrev S159 : Shape := ⟨1, ![159]⟩

class Facts : Prop where
  shapeCasts_S1_S_ : S1.ShapeCasts S_
  bcast_S_S160 : S_.BroadcastsInDim S160 (![] : Fin 0 → Fin S160.rank)
  bcast_S160_S160x1_0 : S160.BroadcastsInDim S160x1 (![0] : Fin 1 → Fin S160x1.rank)
  slices_S160_S159_1 : S160.Slices ![1] S159
  slices_S160_S159_0 : S160.Slices ![0] S159
  reducesTo_S160_S_d0 : S160.ReducesTo [0] S_
  h_S_ : 0 < S_.numel
  bcast_S_S159 : S_.BroadcastsInDim S159 (![] : Fin 0 → Fin S159.rank)
  reducesTo_S159_S_d0 : S159.ReducesTo [0] S_
  gather_S64_S160x1_S160_n_0_n_n_0_1_1_wf : GatherDims.WF S64 S160x1 S160 [] [0] [] [0] [] 1 ![1]

variable [Facts]

def gather_S64_S160x1_S160_n_0_n_n_0_1_1 : GatherDims S64 S160x1 S160 where
  offsetDims := []
  collapsedSliceDims := [0]
  operandBatchingDims := []
  startIndicesBatchingDims := []
  startIndexMap := [0]
  indexVectorDim := 1
  sliceSizes := ![1]
  wf := gather_S64_S160x1_S160_n_0_n_n_0_1_1_wf
def fn_where {F : FTy → Type} [FloatOps F] (arg0 : IVec S160 1) (arg1 : IVec S160 1) (arg2 : IVec S160 1) : IVec S160 1 :=
  let v0 : IVec S160 1 := select arg0 arg1 arg2
  v0

def fn_where_0 {F : FTy → Type} [FloatOps F] (arg0 : IVec S160 1) (arg1 : IVec S160 1) (arg2 : IVec S_ 1) : IVec S160 1 :=
  let v0 : IVec S160 1 := broadcastInDim S160 ![] bcast_S_S160 arg2
  let v1 : IVec S160 1 := select arg0 arg1 v0
  v1

def fn_where_1 {F : FTy → Type} [FloatOps F] (arg0 : IVec S159 1) (arg1 : IVec S159 1) (arg2 : IVec S159 1) : IVec S159 1 :=
  let v0 : IVec S159 1 := select arg0 arg1 arg2
  v0

def fn_where_2 {F : FTy → Type} [FloatOps F] (arg0 : IVec S159 1) (arg1 : IVec S159 1) (arg2 : IVec S_ 1) : IVec S159 1 :=
  let v0 : IVec S159 1 := broadcastInDim S159 ![] bcast_S_S159 arg2
  let v1 : IVec S159 1 := select arg0 arg1 v0
  v1

def fn_part3 {F : FTy → Type} [FloatOps F] (main_v50 : IVec S_ 1) (main_v51 : IVec S159 1) (main_v55 : IVec S159 1) : IVec S_ 1 :=
  let main_c_15 : IVec S_ 1 := constantI S_ 1 1#1
  let main_v56 : IVec S159 1 := fn_where_2 (F := F) main_v51 main_v55 main_c_15
  let main_c_16 : IVec S_ 1 := constantI S_ 1 1#1
  let main_v57 : IVec S_ 1 := (fun x v => Host.reduce IntOp.andi x v reducesTo_S159_S_d0 h_S_) main_v56 main_c_16
  let main_v58 : IVec S_ 1 := andi main_v50 main_v57
  main_v58

def fn_part2 {F : FTy → Type} [FloatOps F] (main_v3 : IVec S160 1) (main_v5 : IVec S160 32) (main_v12 : IVec S160 32) (main_v21 : IVec S160 32) (main_v24 : IVec S160 1) (main_v27 : IVec S159 1) (main_v32 : IVec S_ 1) (main_v34 : IVec S160 1) (main_v36 : IVec S160 1) : IVec S_ 1 :=
  let main_v37 : IVec S160 1 := andi main_v34 main_v36
  let main_c_10 : IVec S_ 1 := constantI S_ 1 1#1
  let main_v38 : IVec S_ 1 := (fun x v => Host.reduce IntOp.andi x v reducesTo_S160_S_d0 h_S_) main_v37 main_c_10
  let main_v39 : IVec S_ 1 := andi main_v32 main_v38
  let main_v40 : IVec S160 1 := cmpi .slt main_v5 main_v21
  let main_v41 : IVec S160 1 := cmpi .sle main_v21 main_v5
  let main_v42 : IVec S160 1 := fn_where (F := F) main_v3 main_v40 main_v41
  let main_c_11 : IVec S_ 1 := constantI S_ 1 1#1
  let main_v43 : IVec S_ 1 := (fun x v => Host.reduce IntOp.andi x v reducesTo_S160_S_d0 h_S_) main_v42 main_c_11
  let main_v44 : IVec S_ 1 := andi main_v39 main_v43
  let main_c_12 : IVec S_ 32 := constantI S_ 32 512#32
  let main_v45 : IVec S160 32 := broadcastInDim S160 ![] bcast_S_S160 main_c_12
  let main_v46 : IVec S160 32 := addi main_v5 main_v45
  let main_v47 : IVec S160 1 := cmpi .sle main_v46 main_v12
  let main_c_13 : IVec S_ 1 := constantI S_ 1 1#1
  let main_v48 : IVec S160 1 := fn_where_0 (F := F) main_v3 main_v47 main_c_13
  let main_c_14 : IVec S_ 1 := constantI S_ 1 1#1
  let main_v49 : IVec S_ 1 := (fun x v => Host.reduce IntOp.andi x v reducesTo_S160_S_d0 h_S_) main_v48 main_c_14
  let main_v50 : IVec S_ 1 := andi main_v44 main_v49
  let main_v51 : IVec S159 1 := (extractStridedSlice S159 ![1] · slices_S160_S159_1) main_v3
  let main_v52 : IVec S159 1 := (extractStridedSlice S159 ![0] · slices_S160_S159_0) main_v24
  let main_v53 : IVec S159 1 := (extractStridedSlice S159 ![0] · slices_S160_S159_0) main_v24
  let main_v54 : IVec S159 1 := noti main_v53
  let main_v55 : IVec S159 1 := fn_where_1 (F := F) main_v27 main_v52 main_v54
  fn_part3 (F := F) main_v50 main_v51 main_v55

def fn_part1 {F : FTy → Type} [FloatOps F] (main_arg0 : IVec S160 32) (main_arg1 : IVec S1 32) (main_arg2 : IVec S64 32) (main_v3 : IVec S160 1) (main_v5 : IVec S160 32) (main_v12 : IVec S160 32) (main_v14 : IVec S160 32) (main_v16 : IVec S160 1) (main_v17 : IVec S160 32) : IVec S_ 1 :=
  let main_v18 : IVec S160 32 := addi main_v14 main_v17
  let main_v19 : IVec S160 32 := select main_v16 main_v18 main_v14
  let main_v20 : IVec S160x1 32 := broadcastInDim S160x1 ![0] bcast_S160_S160x1_0 main_v19
  let main_v21 : IVec S160 32 := (fun x i => Host.gather gather_S64_S160x1_S160_n_0_n_n_0_1_1 x i) main_arg2 main_v20
  let main_c_5 : IVec S_ 32 := constantI S_ 32 1024#32
  let main_v22 : IVec S160 32 := broadcastInDim S160 ![] bcast_S_S160 main_c_5
  let main_v23 : IVec S160 32 := addi main_v5 main_v22
  let main_v24 : IVec S160 1 := cmpi .sle main_v23 main_v12
  let main_v25 : IVec S159 32 := (extractStridedSlice S159 ![1] · slices_S160_S159_1) main_arg0
  let main_v26 : IVec S159 32 := (extractStridedSlice S159 ![0] · slices_S160_S159_0) main_arg0
  let main_v27 : IVec S159 1 := cmpi .eq main_v25 main_v26
  let main_v28 : IVec S_ 32 := shapeCast S_ main_arg1 shapeCasts_S1_S_
  let main_c_6 : IVec S_ 32 := constantI S_ 32 1#32
  let main_v29 : IVec S_ 1 := cmpi .sge main_v28 main_c_6
  let main_v30 : IVec S_ 32 := shapeCast S_ main_arg1 shapeCasts_S1_S_
  let main_c_7 : IVec S_ 32 := constantI S_ 32 160#32
  let main_v31 : IVec S_ 1 := cmpi .sle main_v30 main_c_7
  let main_v32 : IVec S_ 1 := andi main_v29 main_v31
  let main_c_8 : IVec S_ 32 := constantI S_ 32 0#32
  let main_v33 : IVec S160 32 := broadcastInDim S160 ![] bcast_S_S160 main_c_8
  let main_v34 : IVec S160 1 := cmpi .sge main_arg0 main_v33
  let main_c_9 : IVec S_ 32 := constantI S_ 32 32#32
  let main_v35 : IVec S160 32 := broadcastInDim S160 ![] bcast_S_S160 main_c_9
  let main_v36 : IVec S160 1 := cmpi .slt main_arg0 main_v35
  fn_part2 (F := F) main_v3 main_v5 main_v12 main_v21 main_v24 main_v27 main_v32 main_v34 main_v36

def fn {F : FTy → Type} [FloatOps F] (main_arg0 : IVec S160 32) (main_arg1 : IVec S1 32) (main_arg2 : IVec S64 32) (main_arg3 : FVec F S655360x128 .f32) (main_arg4 : FVec F S32x1024x1024 .f32) (main_arg5 : FVec F S32x1024 .f32) (main_arg6 : FVec F S32x1024x1024 .f32) (main_arg7 : FVec F S32x1024 .f32) (main_arg8 : FVec F S32x1024x1024 .f32) (main_arg9 : FVec F S32x1024 .f32) : IVec S_ 1 :=
  let main_v0 : IVec S160 32 := iotaInDim S160 32 0
  let main_v1 : IVec S_ 32 := shapeCast S_ main_arg1 shapeCasts_S1_S_
  let main_v2 : IVec S160 32 := broadcastInDim S160 ![] bcast_S_S160 main_v1
  let main_v3 : IVec S160 1 := cmpi .slt main_v0 main_v2
  let main_c : IVec S_ 32 := constantI S_ 32 512#32
  let main_v4 : IVec S160 32 := broadcastInDim S160 ![] bcast_S_S160 main_c
  let main_v5 : IVec S160 32 := muli main_v0 main_v4
  let main_c_0 : IVec S_ 32 := constantI S_ 32 0#32
  let main_v6 : IVec S160 32 := broadcastInDim S160 ![] bcast_S_S160 main_c_0
  let main_v7 : IVec S160 1 := cmpi .slt main_arg0 main_v6
  let main_c_1 : IVec S_ 32 := constantI S_ 32 64#32
  let main_v8 : IVec S160 32 := broadcastInDim S160 ![] bcast_S_S160 main_c_1
  let main_v9 : IVec S160 32 := addi main_arg0 main_v8
  let main_v10 : IVec S160 32 := select main_v7 main_v9 main_arg0
  let main_v11 : IVec S160x1 32 := broadcastInDim S160x1 ![0] bcast_S160_S160x1_0 main_v10
  let main_v12 : IVec S160 32 := (fun x i => Host.gather gather_S64_S160x1_S160_n_0_n_n_0_1_1 x i) main_arg2 main_v11
  let main_c_2 : IVec S_ 32 := constantI S_ 32 32#32
  let main_v13 : IVec S160 32 := broadcastInDim S160 ![] bcast_S_S160 main_c_2
  let main_v14 : IVec S160 32 := addi main_v13 main_arg0
  let main_c_3 : IVec S_ 32 := constantI S_ 32 0#32
  let main_v15 : IVec S160 32 := broadcastInDim S160 ![] bcast_S_S160 main_c_3
  let main_v16 : IVec S160 1 := cmpi .slt main_v14 main_v15
  let main_c_4 : IVec S_ 32 := constantI S_ 32 64#32
  let main_v17 : IVec S160 32 := broadcastInDim S160 ![] bcast_S_S160 main_c_4
  fn_part1 (F := F) main_arg0 main_arg1 main_arg2 main_v3 main_v5 main_v12 main_v14 main_v16 main_v17
-- ==== Pre_segments_filled.lean ====
abbrev S32 : Shape := ⟨1, ![32]⟩
abbrev S4x16384 : Shape := ⟨2, ![4, 16384]⟩
abbrev S16384x1024 : Shape := ⟨2, ![16384, 1024]⟩
abbrev S65536 : Shape := ⟨1, ![65536]⟩
abbrev S_ : Shape := ⟨0, ![]⟩
abbrev S81920 : Shape := ⟨1, ![81920]⟩
abbrev S4x16384x1 : Shape := ⟨3, ![4, 16384, 1]⟩
abbrev S1 : Shape := ⟨1, ![1]⟩
abbrev S31 : Shape := ⟨1, ![31]⟩
abbrev S81920x1 : Shape := ⟨2, ![81920, 1]⟩
abbrev S1x32 : Shape := ⟨2, ![1, 32]⟩
abbrev S81920x32 : Shape := ⟨2, ![81920, 32]⟩

class Facts : Prop where
  shapeCasts_S65536_S4x16384 : S65536.ShapeCasts S4x16384
  bcast_S_S81920 : S_.BroadcastsInDim S81920 (![] : Fin 0 → Fin S81920.rank)
  bcast_S_S4x16384 : S_.BroadcastsInDim S4x16384 (![] : Fin 0 → Fin S4x16384.rank)
  bcast_S4x16384_S4x16384x1_0_1 : S4x16384.BroadcastsInDim S4x16384x1 (![0, 1] : Fin 2 → Fin S4x16384x1.rank)
  bcast_S_S1 : S_.BroadcastsInDim S1 (![] : Fin 0 → Fin S1.rank)
  slices_S32_S31_0 : S32.Slices ![0] S31
  concatenates_S1_S31_S32_d0 : Shape.Concatenates [S1, S31] S32 0
  bcast_S_S32 : S_.BroadcastsInDim S32 (![] : Fin 0 → Fin S32.rank)
  bcast_S81920_S81920x1_0 : S81920.BroadcastsInDim S81920x1 (![0] : Fin 1 → Fin S81920x1.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S81920x32_0_1 : S1x32.BroadcastsInDim S81920x32 (![0, 1] : Fin 2 → Fin S81920x32.rank)
  bcast_S81920x1_S81920x32_0_1 : S81920x1.BroadcastsInDim S81920x32 (![0, 1] : Fin 2 → Fin S81920x32.rank)
  reducesTo_S81920x32_S81920_d1 : S81920x32.ReducesTo [1] S81920
  h_S_ : 0 < S_.numel
  slices_S32_S1_31 : S32.Slices ![31] S1
  shapeCasts_S1_S_ : S1.ShapeCasts S_
  shapeCasts_S4x16384_S65536 : S4x16384.ShapeCasts S65536
  scatter_S81920_S4x16384x1_S4x16384_n_0_0_2_wf : ScatterDims.WF S81920 S4x16384x1 S4x16384 [] [0] [0] 2
  gather_S81920_S4x16384x1_S4x16384_n_0_n_n_0_2_1_wf : GatherDims.WF S81920 S4x16384x1 S4x16384 [] [0] [] [0] [] 2 ![1]
  gather_S65536_S81920x1_S81920_n_0_n_n_0_1_1_wf : GatherDims.WF S65536 S81920x1 S81920 [] [0] [] [0] [] 1 ![1]

variable [Facts]

def scatter_S81920_S4x16384x1_S4x16384_n_0_0_2 : ScatterDims S81920 S4x16384x1 S4x16384 where
  updateWindowDims := []
  insertedWindowDims := [0]
  scatterDimsToOperandDims := [0]
  indexVectorDim := 2
  wf := scatter_S81920_S4x16384x1_S4x16384_n_0_0_2_wf
def gather_S81920_S4x16384x1_S4x16384_n_0_n_n_0_2_1 : GatherDims S81920 S4x16384x1 S4x16384 where
  offsetDims := []
  collapsedSliceDims := [0]
  operandBatchingDims := []
  startIndicesBatchingDims := []
  startIndexMap := [0]
  indexVectorDim := 2
  sliceSizes := ![1]
  wf := gather_S81920_S4x16384x1_S4x16384_n_0_n_n_0_2_1_wf
def gather_S65536_S81920x1_S81920_n_0_n_n_0_1_1 : GatherDims S65536 S81920x1 S81920 where
  offsetDims := []
  collapsedSliceDims := [0]
  operandBatchingDims := []
  startIndicesBatchingDims := []
  startIndexMap := [0]
  indexVectorDim := 1
  sliceSizes := ![1]
  wf := gather_S65536_S81920x1_S81920_n_0_n_n_0_1_1_wf
def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32 32) (arg1 : IVec S_ 32) : IVec S32 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32 32 := broadcastInDim S32 ![] bcast_S_S32 v2
  let v4 : IVec S32 32 := Host.remsi arg0 v3
  let c_1 : IVec S_ 32 := constantI S_ 32 0#32
  let v5 : IVec S32 32 := broadcastInDim S32 ![] bcast_S_S32 c_1
  let v6 : IVec S32 1 := cmpi .ne v4 v5
  let c_2 : IVec S_ 32 := constantI S_ 32 0#32
  let v7 : IVec S32 32 := broadcastInDim S32 ![] bcast_S_S32 c_2
  let v8 : IVec S32 1 := cmpi .slt v4 v7
  let c_3 : IVec S_ 32 := constantI S_ 32 0#32
  let v9 : IVec S_ 1 := cmpi .slt v2 c_3
  let v10 : IVec S32 1 := broadcastInDim S32 ![] bcast_S_S32 v9
  let v11 : IVec S32 1 := cmpi .ne v8 v10
  let v12 : IVec S32 1 := andi v11 v6
  let v13 : IVec S32 32 := broadcastInDim S32 ![] bcast_S_S32 v2
  let v14 : IVec S32 32 := addi v4 v13
  let v15 : IVec S32 32 := select v12 v14 v4
  v15

def fn_part3 {F : FTy → Type} [FloatOps F] (main_arg1 : IVec S4x16384 32) (main_v9 : IVec S81920 32) (main_v23 : IVec S4x16384 1) (main_v34 : IVec S32 1) (main_v35 : IVec S81920 32) (main_v53 : IVec S81920 1) (main_v55 : IVec S81920 1) (main_v57 : IVec S_ 32) : IVec S4x16384 1 × IVec S32 1 × IVec S81920 1 :=
  let main_v58 : IVec S81920 32 := broadcastInDim S81920 ![] bcast_S_S81920 main_v57
  let main_v59 : IVec S81920 1 := cmpi .sle main_v58 main_v35
  let main_v60 : IVec S81920 1 := andi main_v55 main_v59
  let main_v61 : IVec S65536 32 := shapeCast S65536 main_arg1 shapeCasts_S4x16384_S65536
  let main_c_13 : IVec S_ 32 := constantI S_ 32 0#32
  let main_v62 : IVec S81920 32 := broadcastInDim S81920 ![] bcast_S_S81920 main_c_13
  let main_v63 : IVec S81920 1 := cmpi .slt main_v9 main_v62
  let main_c_14 : IVec S_ 32 := constantI S_ 32 65536#32
  let main_v64 : IVec S81920 32 := broadcastInDim S81920 ![] bcast_S_S81920 main_c_14
  let main_v65 : IVec S81920 32 := addi main_v9 main_v64
  let main_v66 : IVec S81920 32 := select main_v63 main_v65 main_v9
  let main_v67 : IVec S81920x1 32 := broadcastInDim S81920x1 ![0] bcast_S81920_S81920x1_0 main_v66
  let main_v68 : IVec S81920 32 := (fun x i => Host.gather gather_S65536_S81920x1_S81920_n_0_n_n_0_1_1 x i) main_v61 main_v67
  let main_v69 : IVec S81920 1 := cmpi .eq main_v68 main_v35
  let main_v70 : IVec S81920 1 := ori main_v69 main_v53
  let main_v71 : IVec S81920 1 := ori main_v70 main_v60
  (main_v23, main_v34, main_v71)

def fn_part2 {F : FTy → Type} [FloatOps F] (main_arg0 : IVec S32 32) (main_arg1 : IVec S4x16384 32) (main_v9 : IVec S81920 32) (main_v23 : IVec S4x16384 1) (main_v26 : IVec S32 32) (main_v34 : IVec S32 1) (main_v35 : IVec S81920 32) (main_v36 : IVec S81920x1 32) : IVec S4x16384 1 × IVec S32 1 × IVec S81920 1 :=
  let main_v37 : IVec S1x32 32 := broadcastInDim S1x32 ![1] bcast_S32_S1x32_1 main_v26
  let main_v38 : IVec S1x32 32 := broadcastInDim S1x32 ![1] bcast_S32_S1x32_1 main_arg0
  let main_v39 : IVec S1x32 1 := cmpi .slt main_v37 main_v38
  let main_v40 : IVec S1x32 32 := broadcastInDim S1x32 ![1] bcast_S32_S1x32_1 main_arg0
  let main_c_10 : IVec S_ 32 := constantI S_ 32 512#32
  let main_v41 : IVec S1x32 32 := broadcastInDim S1x32 ![] bcast_S_S1x32 main_c_10
  let main_v42 : IVec S1x32 32 := subi main_v40 main_v41
  let main_v43 : IVec S81920x32 32 := broadcastInDim S81920x32 ![0, 1] bcast_S1x32_S81920x32_0_1 main_v42
  let main_v44 : IVec S81920x32 32 := broadcastInDim S81920x32 ![0, 1] bcast_S81920x1_S81920x32_0_1 main_v36
  let main_v45 : IVec S81920x32 1 := cmpi .sle main_v43 main_v44
  let main_v46 : IVec S81920x32 1 := broadcastInDim S81920x32 ![0, 1] bcast_S1x32_S81920x32_0_1 main_v39
  let main_v47 : IVec S81920x32 1 := andi main_v46 main_v45
  let main_v48 : IVec S1x32 32 := broadcastInDim S1x32 ![1] bcast_S32_S1x32_1 main_arg0
  let main_v49 : IVec S81920x32 32 := broadcastInDim S81920x32 ![0, 1] bcast_S81920x1_S81920x32_0_1 main_v36
  let main_v50 : IVec S81920x32 32 := broadcastInDim S81920x32 ![0, 1] bcast_S1x32_S81920x32_0_1 main_v48
  let main_v51 : IVec S81920x32 1 := cmpi .slt main_v49 main_v50
  let main_v52 : IVec S81920x32 1 := andi main_v47 main_v51
  let main_c_11 : IVec S_ 1 := constantI S_ 1 0#1
  let main_v53 : IVec S81920 1 := (fun x v => Host.reduce IntOp.ori x v reducesTo_S81920x32_S81920_d1 h_S_) main_v52 main_c_11
  let main_c_12 : IVec S_ 32 := constantI S_ 32 65536#32
  let main_v54 : IVec S81920 32 := broadcastInDim S81920 ![] bcast_S_S81920 main_c_12
  let main_v55 : IVec S81920 1 := cmpi .sge main_v35 main_v54
  let main_v56 : IVec S1 32 := (extractStridedSlice S1 ![31] · slices_S32_S1_31) main_arg0
  let main_v57 : IVec S_ 32 := shapeCast S_ main_v56 shapeCasts_S1_S_
  fn_part3 (F := F) main_arg1 main_v9 main_v23 main_v34 main_v35 main_v53 main_v55 main_v57

def fn_part1 {F : FTy → Type} [FloatOps F] (main_arg0 : IVec S32 32) (main_arg1 : IVec S4x16384 32) (main_v1 : IVec S4x16384 32) (main_v9 : IVec S81920 32) (main_v14 : IVec S4x16384 1) (main_v16 : IVec S4x16384 1) (main_c_5 : IVec S_ 32) : IVec S4x16384 1 × IVec S32 1 × IVec S81920 1 :=
  let main_v17 : IVec S4x16384 32 := broadcastInDim S4x16384 ![] bcast_S_S4x16384 main_c_5
  let main_v18 : IVec S4x16384 32 := addi main_arg1 main_v17
  let main_v19 : IVec S4x16384 32 := select main_v16 main_v18 main_arg1
  let main_v20 : IVec S4x16384x1 32 := broadcastInDim S4x16384x1 ![0, 1] bcast_S4x16384_S4x16384x1_0_1 main_v19
  let main_v21 : IVec S4x16384 32 := (fun x i => Host.gather gather_S81920_S4x16384x1_S4x16384_n_0_n_n_0_2_1 x i) main_v9 main_v20
  let main_v22 : IVec S4x16384 1 := cmpi .eq main_v21 main_v1
  let main_v23 : IVec S4x16384 1 := andi main_v14 main_v22
  let main_c_6 : IVec S_ 32 := constantI S_ 32 0#32
  let main_v24 : IVec S1 32 := broadcastInDim S1 ![] bcast_S_S1 main_c_6
  let main_v25 : IVec S31 32 := (extractStridedSlice S31 ![0] · slices_S32_S31_0) main_arg0
  let main_v26 : IVec S32 32 := (fun a b => concatenate S32 0 [⟨S1, a⟩, ⟨S31, b⟩] concatenates_S1_S31_S32_d0) main_v24 main_v25
  let main_v27 : IVec S32 1 := cmpi .sle main_v26 main_arg0
  let main_c_7 : IVec S_ 32 := constantI S_ 32 81920#32
  let main_v28 : IVec S32 32 := broadcastInDim S32 ![] bcast_S_S32 main_c_7
  let main_v29 : IVec S32 1 := cmpi .sle main_arg0 main_v28
  let main_v30 : IVec S32 1 := andi main_v27 main_v29
  let main_c_8 : IVec S_ 32 := constantI S_ 32 512#32
  let main_v31 : IVec S32 32 := fn_remainder (F := F) main_arg0 main_c_8
  let main_c_9 : IVec S_ 32 := constantI S_ 32 0#32
  let main_v32 : IVec S32 32 := broadcastInDim S32 ![] bcast_S_S32 main_c_9
  let main_v33 : IVec S32 1 := cmpi .eq main_v31 main_v32
  let main_v34 : IVec S32 1 := andi main_v30 main_v33
  let main_v35 : IVec S81920 32 := iotaInDim S81920 32 0
  let main_v36 : IVec S81920x1 32 := broadcastInDim S81920x1 ![0] bcast_S81920_S81920x1_0 main_v35
  fn_part2 (F := F) main_arg0 main_arg1 main_v9 main_v23 main_v26 main_v34 main_v35 main_v36

def fn {F : FTy → Type} [FloatOps F] (main_arg0 : IVec S32 32) (main_arg1 : IVec S4x16384 32) (main_arg2 : FVec F S16384x1024 .f32) : IVec S4x16384 1 × IVec S32 1 × IVec S81920 1 :=
  let main_v0 : IVec S65536 32 := iotaInDim S65536 32 0
  let main_v1 : IVec S4x16384 32 := shapeCast S4x16384 main_v0 shapeCasts_S65536_S4x16384
  let main_c : IVec S_ 32 := constantI S_ 32 0#32
  let main_v2 : IVec S81920 32 := broadcastInDim S81920 ![] bcast_S_S81920 main_c
  let main_c_0 : IVec S_ 32 := constantI S_ 32 0#32
  let main_v3 : IVec S4x16384 32 := broadcastInDim S4x16384 ![] bcast_S_S4x16384 main_c_0
  let main_v4 : IVec S4x16384 1 := cmpi .slt main_arg1 main_v3
  let main_c_1 : IVec S_ 32 := constantI S_ 32 81920#32
  let main_v5 : IVec S4x16384 32 := broadcastInDim S4x16384 ![] bcast_S_S4x16384 main_c_1
  let main_v6 : IVec S4x16384 32 := addi main_arg1 main_v5
  let main_v7 : IVec S4x16384 32 := select main_v4 main_v6 main_arg1
  let main_v8 : IVec S4x16384x1 32 := broadcastInDim S4x16384x1 ![0, 1] bcast_S4x16384_S4x16384x1_0_1 main_v7
  let main_v9 : IVec S81920 32 := (fun x i u => Host.scatter scatter_S81920_S4x16384x1_S4x16384_n_0_0_2 (fun _ b => b) x i u) main_v2 main_v8 main_v1
  let main_c_2 : IVec S_ 32 := constantI S_ 32 0#32
  let main_v10 : IVec S4x16384 32 := broadcastInDim S4x16384 ![] bcast_S_S4x16384 main_c_2
  let main_v11 : IVec S4x16384 1 := cmpi .sge main_arg1 main_v10
  let main_c_3 : IVec S_ 32 := constantI S_ 32 81920#32
  let main_v12 : IVec S4x16384 32 := broadcastInDim S4x16384 ![] bcast_S_S4x16384 main_c_3
  let main_v13 : IVec S4x16384 1 := cmpi .slt main_arg1 main_v12
  let main_v14 : IVec S4x16384 1 := andi main_v11 main_v13
  let main_c_4 : IVec S_ 32 := constantI S_ 32 0#32
  let main_v15 : IVec S4x16384 32 := broadcastInDim S4x16384 ![] bcast_S_S4x16384 main_c_4
  let main_v16 : IVec S4x16384 1 := cmpi .slt main_arg1 main_v15
  let main_c_5 : IVec S_ 32 := constantI S_ 32 81920#32
  fn_part1 (F := F) main_arg0 main_arg1 main_v1 main_v9 main_v14 main_v16 main_c_5
-- ==== Kernel.lean ====
abbrev S32 : Shape := ⟨1, ![32]⟩
abbrev S4x16384 : Shape := ⟨2, ![4, 16384]⟩
abbrev S16384x1024 : Shape := ⟨2, ![16384, 1024]⟩
abbrev S131072x128 : Shape := ⟨2, ![131072, 128]⟩
abbrev S655360x128 : Shape := ⟨2, ![655360, 128]⟩
abbrev S16384x128 : Shape := ⟨2, ![16384, 128]⟩
abbrev S8x2048 : Shape := ⟨2, ![8, 2048]⟩
abbrev S4096x128 : Shape := ⟨2, ![4096, 128]⟩
abbrev S2 : Shape := ⟨1, ![2]⟩
abbrev S_ : Shape := ⟨0, ![]⟩
abbrev S1 : Shape := ⟨1, ![1]⟩
abbrev S4x2048 : Shape := ⟨2, ![4, 2048]⟩
abbrev S1x1 : Shape := ⟨2, ![1, 1]⟩
abbrev S8x128 : Shape := ⟨2, ![8, 128]⟩

abbrev nBuf : Space → Nat
  | .hbm => 4
  | .vmem => 3
  | .smem => 2
  | _ => 0

abbrev bufTy : (tb : Table) → Fin (tcTables nBuf tb) → BufTy
  | .hbm, ⟨0, _⟩ => ⟨S4x16384, .i32⟩
  | .hbm, ⟨1, _⟩ => ⟨S16384x1024, .f32⟩
  | .hbm, ⟨2, _⟩ => ⟨S131072x128, .f32⟩
  | .hbm, ⟨3, _⟩ => ⟨S655360x128, .f32⟩
  | .local _ .vmem, ⟨0, _⟩ => ⟨S16384x128, .f32⟩
  | .local _ .vmem, ⟨1, _⟩ => ⟨S16384x128, .f32⟩
  | .local _ .vmem, ⟨2, _⟩ => ⟨S4096x128, .f32⟩
  | .local _ .smem, ⟨0, _⟩ => ⟨S32, .i32⟩
  | .local _ .smem, ⟨1, _⟩ => ⟨S8x2048, .i32⟩
  | _, _ => ⟨S4x16384, .i32⟩

abbrev bufScoped : (cs : CoreSpace) → Fin (nBuf (.core cs)) → Bool
  | .vmem, ⟨0, _⟩ => true
  | .vmem, ⟨1, _⟩ => true
  | .vmem, ⟨2, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch1 : Ref sig .tc := ⟨.vmem, 2, rfl⟩
abbrev cc0_scratch0 : Ref sig .tc := ⟨.smem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v23 : BitVec 32) : BitVec 32 :=
  let c512_i32 : BitVec 32 := 512#32
  let v533 : BitVec 32 := Scalar.subi v23 c512_i32
  let c8_i32 : BitVec 32 := 8#32
  let v534 : BitVec 32 := Scalar.muli v533 c8_i32
  v534
def k0_cond2 (v23 : BitVec 32) : BitVec 1 :=
  let c0_i32_17 : BitVec 32 := 0#32
  let v24 : BitVec 1 := Scalar.cmpi .sgt v23 c0_i32_17
  let v25 : BitVec 32 := Scalar.extui v24
  let c0_i32_18 : BitVec 32 := 0#32
  let v26 : BitVec 1 := Scalar.cmpi .ne v25 c0_i32_18
  v26

def k0_off1 (v23 : BitVec 32) : Fin 2 → Nat :=
  let c512_i32 : BitVec 32 := 512#32
  let v533 : BitVec 32 := Scalar.subi v23 c512_i32
  let c8_i32 : BitVec 32 := 8#32
  let v534 : BitVec 32 := Scalar.muli v533 c8_i32
  let v535 : BitVec 32 := v534
  let c0_i32_274 : BitVec 32 := 0#32
  ![v535.toNat, 0]

def k0_chk1 (i : grid0.Coords) (v23 : BitVec 32) : Prop :=
  (∀ (k0_h1 : k0_cond1 i = 1#1), ∀ (k0_h2 : k0_cond2 v23 = 1#1), 4096 ∣ (k0_mult1 v23).toNat) ∧
  (∀ (k0_h1 : k0_cond1 i = 1#1), ∀ (k0_h2 : k0_cond2 v23 = 1#1), ∀ a, (k0_off1 v23) a + S4096x128.size a ≤ S655360x128.size a)
theorem k0_mult1_dvd : ∀ (i : grid0.Coords) (v23 : BitVec 32) (k0_hw1 : k0_chk1 i v23), ∀ (k0_h1 : k0_cond1 i = 1#1), ∀ (k0_h2 : k0_cond2 v23 = 1#1), 4096 ∣ (k0_mult1 v23).toNat := fun i v23 k0_hw1 k0_h1 k0_h2 => k0_hw1.1 k0_h1 k0_h2
theorem k0_off1_inb : ∀ (i : grid0.Coords) (v23 : BitVec 32) (k0_hw1 : k0_chk1 i v23), ∀ (k0_h1 : k0_cond1 i = 1#1), ∀ (k0_h2 : k0_cond2 v23 = 1#1), ∀ a, (k0_off1 v23) a + S4096x128.size a ≤ S655360x128.size a := fun i v23 k0_hw1 k0_h1 k0_h2 => k0_hw1.2 k0_h1 k0_h2

def k0_mult2 (v27 : BitVec 32) : BitVec 32 :=
  let c512_i32 : BitVec 32 := 512#32
  let v533 : BitVec 32 := Scalar.subi v27 c512_i32
  let c8_i32 : BitVec 32 := 8#32
  let v534 : BitVec 32 := Scalar.muli v533 c8_i32
  v534
def k0_cond3 (v27 : BitVec 32) (v28 : BitVec 32) : BitVec 1 :=
  let v29 : BitVec 1 := Scalar.cmpi .sgt v27 v28
  let v30 : BitVec 32 := Scalar.extui v29
  let c0_i32_20 : BitVec 32 := 0#32
  let v31 : BitVec 1 := Scalar.cmpi .ne v30 c0_i32_20
  v31

def k0_off2 (v27 : BitVec 32) : Fin 2 → Nat :=
  let c512_i32 : BitVec 32 := 512#32
  let v533 : BitVec 32 := Scalar.subi v27 c512_i32
  let c8_i32 : BitVec 32 := 8#32
  let v534 : BitVec 32 := Scalar.muli v533 c8_i32
  let v535 : BitVec 32 := v534
  let c0_i32_274 : BitVec 32 := 0#32
  ![v535.toNat, 0]

def k0_chk2 (i : grid0.Coords) (v27 : BitVec 32) (v28 : BitVec 32) : Prop :=
  (∀ (k0_h1 : k0_cond1 i = 1#1), ∀ (k0_h3 : k0_cond3 v27 v28 = 1#1), 4096 ∣ (k0_mult2 v27).toNat) ∧
  (∀ (k0_h1 : k0_cond1 i = 1#1), ∀ (k0_h3 : k0_cond3 v27 v28 = 1#1), ∀ a, (k0_off2 v27) a + S4096x128.size a ≤ S655360x128.size a)
theorem k0_mult2_dvd : ∀ (i : grid0.Coords) (v27 : BitVec 32) (v28 : BitVec 32) (k0_hw2 : k0_chk2 i v27 v28), ∀ (k0_h1 : k0_cond1 i = 1#1), ∀ (k0_h3 : k0_cond3 v27 v28 = 1#1), 4096 ∣ (k0_mult2 v27).toNat := fun i v27 v28 k0_hw2 k0_h1 k0_h3 => k0_hw2.1 k0_h1 k0_h3
theorem k0_off2_inb : ∀ (i : grid0.Coords) (v27 : BitVec 32) (v28 : BitVec 32) (k0_hw2 : k0_chk2 i v27 v28), ∀ (k0_h1 : k0_cond1 i = 1#1), ∀ (k0_h3 : k0_cond3 v27 v28 = 1#1), ∀ a, (k0_off2 v27) a + S4096x128.size a ≤ S655360x128.size a := fun i v27 v28 k0_hw2 k0_h1 k0_h3 => k0_hw2.2 k0_h1 k0_h3

def k0_mult3 (v32 : BitVec 32) : BitVec 32 :=
  let c512_i32 : BitVec 32 := 512#32
  let v533 : BitVec 32 := Scalar.subi v32 c512_i32
  let c8_i32 : BitVec 32 := 8#32
  let v534 : BitVec 32 := Scalar.muli v533 c8_i32
  v534
def k0_cond4 (v32 : BitVec 32) (v33 : BitVec 32) : BitVec 1 :=
  let v34 : BitVec 1 := Scalar.cmpi .sgt v32 v33
  let v35 : BitVec 32 := Scalar.extui v34
  let c0_i32_22 : BitVec 32 := 0#32
  let v36 : BitVec 1 := Scalar.cmpi .ne v35 c0_i32_22
  v36

def k0_off3 (v32 : BitVec 32) : Fin 2 → Nat :=
  let c512_i32 : BitVec 32 := 512#32
  let v533 : BitVec 32 := Scalar.subi v32 c512_i32
  let c8_i32 : BitVec 32 := 8#32
  let v534 : BitVec 32 := Scalar.muli v533 c8_i32
  let v535 : BitVec 32 := v534
  let c0_i32_274 : BitVec 32 := 0#32
  ![v535.toNat, 0]

def k0_chk3 (i : grid0.Coords) (v32 : BitVec 32) (v33 : BitVec 32) : Prop :=
  (∀ (k0_h1 : k0_cond1 i = 1#1), ∀ (k0_h4 : k0_cond4 v32 v33 = 1#1), 4096 ∣ (k0_mult3 v32).toNat) ∧
  (∀ (k0_h1 : k0_cond1 i = 1#1), ∀ (k0_h4 : k0_cond4 v32 v33 = 1#1), ∀ a, (k0_off3 v32) a + S4096x128.size a ≤ S655360x128.size a)
theorem k0_mult3_dvd : ∀ (i : grid0.Coords) (v32 : BitVec 32) (v33 : BitVec 32) (k0_hw3 : k0_chk3 i v32 v33), ∀ (k0_h1 : k0_cond1 i = 1#1), ∀ (k0_h4 : k0_cond4 v32 v33 = 1#1), 4096 ∣ (k0_mult3 v32).toNat := fun i v32 v33 k0_hw3 k0_h1 k0_h4 => k0_hw3.1 k0_h1 k0_h4
theorem k0_off3_inb : ∀ (i : grid0.Coords) (v32 : BitVec 32) (v33 : BitVec 32) (k0_hw3 : k0_chk3 i v32 v33), ∀ (k0_h1 : k0_cond1 i = 1#1), ∀ (k0_h4 : k0_cond4 v32 v33 = 1#1), ∀ a, (k0_off3 v32) a + S4096x128.size a ≤ S655360x128.size a := fun i v32 v33 k0_hw3 k0_h1 k0_h4 => k0_hw3.2 k0_h1 k0_h4

def k0_mult4 (v37 : BitVec 32) : BitVec 32 :=
  let c512_i32 : BitVec 32 := 512#32
  let v533 : BitVec 32 := Scalar.subi v37 c512_i32
  let c8_i32 : BitVec 32 := 8#32
  let v534 : BitVec 32 := Scalar.muli v533 c8_i32
  v534
def k0_cond5 (v37 : BitVec 32) (v38 : BitVec 32) : BitVec 1 :=
  let v39 : BitVec 1 := Scalar.cmpi .sgt v37 v38
  let v40 : BitVec 32 := Scalar.extui v39
  let c0_i32_24 : BitVec 32 := 0#32
  let v41 : BitVec 1 := Scalar.cmpi .ne v40 c0_i32_24
  v41

def k0_off4 (v37 : BitVec 32) : Fin 2 → Nat :=
  let c512_i32 : BitVec 32 := 512#32
  let v533 : BitVec 32 := Scalar.subi v37 c512_i32
  let c8_i32 : BitVec 32 := 8#32
  let v534 : BitVec 32 := Scalar.muli v533 c8_i32
  let v535 : BitVec 32 := v534
  let c0_i32_274 : BitVec 32 := 0#32
  ![v535.toNat, 0]

def k0_chk4 (i : grid0.Coords) (v37 : BitVec 32) (v38 : BitVec 32) : Prop :=
  (∀ (k0_h1 : k0_cond1 i = 1#1), ∀ (k0_h5 : k0_cond5 v37 v38 = 1#1), 4096 ∣ (k0_mult4 v37).toNat) ∧
  (∀ (k0_h1 : k0_cond1 i = 1#1), ∀ (k0_h5 : k0_cond5 v37 v38 = 1#1), ∀ a, (k0_off4 v37) a + S4096x128.size a ≤ S655360x128.size a)
theorem k0_mult4_dvd : ∀ (i : grid0.Coords) (v37 : BitVec 32) (v38 : BitVec 32) (k0_hw4 : k0_chk4 i v37 v38), ∀ (k0_h1 : k0_cond1 i = 1#1), ∀ (k0_h5 : k0_cond5 v37 v38 = 1#1), 4096 ∣ (k0_mult4 v37).toNat := fun i v37 v38 k0_hw4 k0_h1 k0_h5 => k0_hw4.1 k0_h1 k0_h5
theorem k0_off4_inb : ∀ (i : grid0.Coords) (v37 : BitVec 32) (v38 : BitVec 32) (k0_hw4 : k0_chk4 i v37 v38), ∀ (k0_h1 : k0_cond1 i = 1#1), ∀ (k0_h5 : k0_cond5 v37 v38 = 1#1), ∀ a, (k0_off4 v37) a + S4096x128.size a ≤ S655360x128.size a := fun i v37 v38 k0_hw4 k0_h1 k0_h5 => k0_hw4.2 k0_h1 k0_h5

def k0_mult5 (v42 : BitVec 32) : BitVec 32 :=
  let c512_i32 : BitVec 32 := 512#32
  let v533 : BitVec 32 := Scalar.subi v42 c512_i32
  let c8_i32 : BitVec 32 := 8#32
  let v534 : BitVec 32 := Scalar.muli v533 c8_i32
  v534
def k0_cond6 (v42 : BitVec 32) (v43 : BitVec 32) : BitVec 1 :=
  let v44 : BitVec 1 := Scalar.cmpi .sgt v42 v43
  let v45 : BitVec 32 := Scalar.extui v44
  let c0_i32_26 : BitVec 32 := 0#32
  let v46 : BitVec 1 := Scalar.cmpi .ne v45 c0_i32_26
  v46

def k0_off5 (v42 : BitVec 32) : Fin 2 → Nat :=
  let c512_i32 : BitVec 32 := 512#32
  let v533 : BitVec 32 := Scalar.subi v42 c512_i32
  let c8_i32 : BitVec 32 := 8#32
  let v534 : BitVec 32 := Scalar.muli v533 c8_i32
  let v535 : BitVec 32 := v534
  let c0_i32_274 : BitVec 32 := 0#32
  ![v535.toNat, 0]

def k0_chk5 (i : grid0.Coords) (v42 : BitVec 32) (v43 : BitVec 32) : Prop :=
  (∀ (k0_h1 : k0_cond1 i = 1#1), ∀ (k0_h6 : k0_cond6 v42 v43 = 1#1), 4096 ∣ (k0_mult5 v42).toNat) ∧
  (∀ (k0_h1 : k0_cond1 i = 1#1), ∀ (k0_h6 : k0_cond6 v42 v43 = 1#1), ∀ a, (k0_off5 v42) a + S4096x128.size a ≤ S655360x128.size a)
theorem k0_mult5_dvd : ∀ (i : grid0.Coords) (v42 : BitVec 32) (v43 : BitVec 32) (k0_hw5 : k0_chk5 i v42 v43), ∀ (k0_h1 : k0_cond1 i = 1#1), ∀ (k0_h6 : k0_cond6 v42 v43 = 1#1), 4096 ∣ (k0_mult5 v42).toNat := fun i v42 v43 k0_hw5 k0_h1 k0_h6 => k0_hw5.1 k0_h1 k0_h6
theorem k0_off5_inb : ∀ (i : grid0.Coords) (v42 : BitVec 32) (v43 : BitVec 32) (k0_hw5 : k0_chk5 i v42 v43), ∀ (k0_h1 : k0_cond1 i = 1#1), ∀ (k0_h6 : k0_cond6 v42 v43 = 1#1), ∀ a, (k0_off5 v42) a + S4096x128.size a ≤ S655360x128.size a := fun i v42 v43 k0_hw5 k0_h1 k0_h6 => k0_hw5.2 k0_h1 k0_h6

def k0_mult6 (v47 : BitVec 32) : BitVec 32 :=
  let c512_i32 : BitVec 32 := 512#32
  let v533 : BitVec 32 := Scalar.subi v47 c512_i32
  let c8_i32 : BitVec 32 := 8#32
  let v534 : BitVec 32 := Scalar.muli v533 c8_i32
  v534
def k0_cond7 (v47 : BitVec 32) (v48 : BitVec 32) : BitVec 1 :=
  let v49 : BitVec 1 := Scalar.cmpi .sgt v47 v48
  let v50 : BitVec 32 := Scalar.extui v49
  let c0_i32_28 : BitVec 32 := 0#32
  let v51 : BitVec 1 := Scalar.cmpi .ne v50 c0_i32_28
  v51

def k0_off6 (v47 : BitVec 32) : Fin 2 → Nat :=
  let c512_i32 : BitVec 32 := 512#32
  let v533 : BitVec 32 := Scalar.subi v47 c512_i32
  let c8_i32 : BitVec 32 := 8#32
  let v534 : BitVec 32 := Scalar.muli v533 c8_i32
  let v535 : BitVec 32 := v534
  let c0_i32_274 : BitVec 32 := 0#32
  ![v535.toNat, 0]

def k0_chk6 (i : grid0.Coords) (v47 : BitVec 32) (v48 : BitVec 32) : Prop :=
  (∀ (k0_h1 : k0_cond1 i = 1#1), ∀ (k0_h7 : k0_cond7 v47 v48 = 1#1), 4096 ∣ (k0_mult6 v47).toNat) ∧
  (∀ (k0_h1 : k0_cond1 i = 1#1), ∀ (k0_h7 : k0_cond7 v47 v48 = 1#1), ∀ a, (k0_off6 v47) a + S4096x128.size a ≤ S655360x128.size a)
theorem k0_mult6_dvd : ∀ (i : grid0.Coords) (v47 : BitVec 32) (v48 : BitVec 32) (k0_hw6 : k0_chk6 i v47 v48), ∀ (k0_h1 : k0_cond1 i = 1#1), ∀ (k0_h7 : k0_cond7 v47 v48 = 1#1), 4096 ∣ (k0_mult6 v47).toNat := fun i v47 v48 k0_hw6 k0_h1 k0_h7 => k0_hw6.1 k0_h1 k0_h7
theorem k0_off6_inb : ∀ (i : grid0.Coords) (v47 : BitVec 32) (v48 : BitVec 32) (k0_hw6 : k0_chk6 i v47 v48), ∀ (k0_h1 : k0_cond1 i = 1#1), ∀ (k0_h7 : k0_cond7 v47 v48 = 1#1), ∀ a, (k0_off6 v47) a + S4096x128.size a ≤ S655360x128.size a := fun i v47 v48 k0_hw6 k0_h1 k0_h7 => k0_hw6.2 k0_h1 k0_h7

def k0_mult7 (v52 : BitVec 32) : BitVec 32 :=
  let c512_i32 : BitVec 32 := 512#32
  let v533 : BitVec 32 := Scalar.subi v52 c512_i32
  let c8_i32 : BitVec 32 := 8#32
  let v534 : BitVec 32 := Scalar.muli v533 c8_i32
  v534
def k0_cond8 (v52 : BitVec 32) (v53 : BitVec 32) : BitVec 1 :=
  let v54 : BitVec 1 := Scalar.cmpi .sgt v52 v53
  let v55 : BitVec 32 := Scalar.extui v54
  let c0_i32_30 : BitVec 32 := 0#32
  let v56 : BitVec 1 := Scalar.cmpi .ne v55 c0_i32_30
  v56

def k0_off7 (v52 : BitVec 32) : Fin 2 → Nat :=
  let c512_i32 : BitVec 32 := 512#32
  let v533 : BitVec 32 := Scalar.subi v52 c512_i32
  let c8_i32 : BitVec 32 := 8#32
  let v534 : BitVec 32 := Scalar.muli v533 c8_i32
  let v535 : BitVec 32 := v534
  let c0_i32_274 : BitVec 32 := 0#32
  ![v535.toNat, 0]

def k0_chk7 (i : grid0.Coords) (v52 : BitVec 32) (v53 : BitVec 32) : Prop :=
  (∀ (k0_h1 : k0_cond1 i = 1#1), ∀ (k0_h8 : k0_cond8 v52 v53 = 1#1), 4096 ∣ (k0_mult7 v52).toNat) ∧
  (∀ (k0_h1 : k0_cond1 i = 1#1), ∀ (k0_h8 : k0_cond8 v52 v53 = 1#1), ∀ a, (k0_off7 v52) a + S4096x128.size a ≤ S655360x128.size a)
theorem k0_mult7_dvd : ∀ (i : grid0.Coords) (v52 : BitVec 32) (v53 : BitVec 32) (k0_hw7 : k0_chk7 i v52 v53), ∀ (k0_h1 : k0_cond1 i = 1#1), ∀ (k0_h8 : k0_cond8 v52 v53 = 1#1), 4096 ∣ (k0_mult7 v52).toNat := fun i v52 v53 k0_hw7 k0_h1 k0_h8 => k0_hw7.1 k0_h1 k0_h8
theorem k0_off7_inb : ∀ (i : grid0.Coords) (v52 : BitVec 32) (v53 : BitVec 32) (k0_hw7 : k0_chk7 i v52 v53), ∀ (k0_h1 : k0_cond1 i = 1#1), ∀ (k0_h8 : k0_cond8 v52 v53 = 1#1), ∀ a, (k0_off7 v52) a + S4096x128.size a ≤ S655360x128.size a := fun i v52 v53 k0_hw7 k0_h1 k0_h8 => k0_hw7.2 k0_h1 k0_h8

def k0_mult8 (v57 : BitVec 32) : BitVec 32 :=
  let c512_i32 : BitVec 32 := 512#32
  let v533 : BitVec 32 := Scalar.subi v57 c512_i32
  let c8_i32 : BitVec 32 := 8#32
  let v534 : BitVec 32 := Scalar.muli v533 c8_i32
  v534
def k0_cond9 (v57 : BitVec 32) (v58 : BitVec 32) : BitVec 1 :=
  let v59 : BitVec 1 := Scalar.cmpi .sgt v57 v58
  let v60 : BitVec 32 := Scalar.extui v59
  let c0_i32_32 : BitVec 32 := 0#32
  let v61 : BitVec 1 := Scalar.cmpi .ne v60 c0_i32_32
  v61

def k0_off8 (v57 : BitVec 32) : Fin 2 → Nat :=
  let c512_i32 : BitVec 32 := 512#32
  let v533 : BitVec 32 := Scalar.subi v57 c512_i32
  let c8_i32 : BitVec 32 := 8#32
  let v534 : BitVec 32 := Scalar.muli v533 c8_i32
  let v535 : BitVec 32 := v534
  let c0_i32_274 : BitVec 32 := 0#32
  ![v535.toNat, 0]

def k0_chk8 (i : grid0.Coords) (v57 : BitVec 32) (v58 : BitVec 32) : Prop :=
  (∀ (k0_h1 : k0_cond1 i = 1#1), ∀ (k0_h9 : k0_cond9 v57 v58 = 1#1), 4096 ∣ (k0_mult8 v57).toNat) ∧
  (∀ (k0_h1 : k0_cond1 i = 1#1), ∀ (k0_h9 : k0_cond9 v57 v58 = 1#1), ∀ a, (k0_off8 v57) a + S4096x128.size a ≤ S655360x128.size a)
theorem k0_mult8_dvd : ∀ (i : grid0.Coords) (v57 : BitVec 32) (v58 : BitVec 32) (k0_hw8 : k0_chk8 i v57 v58), ∀ (k0_h1 : k0_cond1 i = 1#1), ∀ (k0_h9 : k0_cond9 v57 v58 = 1#1), 4096 ∣ (k0_mult8 v57).toNat := fun i v57 v58 k0_hw8 k0_h1 k0_h9 => k0_hw8.1 k0_h1 k0_h9
theorem k0_off8_inb : ∀ (i : grid0.Coords) (v57 : BitVec 32) (v58 : BitVec 32) (k0_hw8 : k0_chk8 i v57 v58), ∀ (k0_h1 : k0_cond1 i = 1#1), ∀ (k0_h9 : k0_cond9 v57 v58 = 1#1), ∀ a, (k0_off8 v57) a + S4096x128.size a ≤ S655360x128.size a := fun i v57 v58 k0_hw8 k0_h1 k0_h9 => k0_hw8.2 k0_h1 k0_h9

def k0_mult9 (v62 : BitVec 32) : BitVec 32 :=
  let c512_i32 : BitVec 32 := 512#32
  let v533 : BitVec 32 := Scalar.subi v62 c512_i32
  let c8_i32 : BitVec 32 := 8#32
  let v534 : BitVec 32 := Scalar.muli v533 c8_i32
  v534
def k0_cond10 (v62 : BitVec 32) (v63 : BitVec 32) : BitVec 1 :=
  let v64 : BitVec 1 := Scalar.cmpi .sgt v62 v63
  let v65 : BitVec 32 := Scalar.extui v64
  let c0_i32_34 : BitVec 32 := 0#32
  let v66 : BitVec 1 := Scalar.cmpi .ne v65 c0_i32_34
  v66

def k0_off9 (v62 : BitVec 32) : Fin 2 → Nat :=
  let c512_i32 : BitVec 32 := 512#32
  let v533 : BitVec 32 := Scalar.subi v62 c512_i32
  let c8_i32 : BitVec 32 := 8#32
  let v534 : BitVec 32 := Scalar.muli v533 c8_i32
  let v535 : BitVec 32 := v534
  let c0_i32_274 : BitVec 32 := 0#32
  ![v535.toNat, 0]

def k0_chk9 (i : grid0.Coords) (v62 : BitVec 32) (v63 : BitVec 32) : Prop :=
  (∀ (k0_h1 : k0_cond1 i = 1#1), ∀ (k0_h10 : k0_cond10 v62 v63 = 1#1), 4096 ∣ (k0_mult9 v62).toNat) ∧
  (∀ (k0_h1 : k0_cond1 i = 1#1), ∀ (k0_h10 : k0_cond10 v62 v63 = 1#1), ∀ a, (k0_off9 v62) a + S4096x128.size a ≤ S655360x128.size a)
theorem k0_mult9_dvd : ∀ (i : grid0.Coords) (v62 : BitVec 32) (v63 : BitVec 32) (k0_hw9 : k0_chk9 i v62 v63), ∀ (k0_h1 : k0_cond1 i = 1#1), ∀ (k0_h10 : k0_cond10 v62 v63 = 1#1), 4096 ∣ (k0_mult9 v62).toNat := fun i v62 v63 k0_hw9 k0_h1 k0_h10 => k0_hw9.1 k0_h1 k0_h10
theorem k0_off9_inb : ∀ (i : grid0.Coords) (v62 : BitVec 32) (v63 : BitVec 32) (k0_hw9 : k0_chk9 i v62 v63), ∀ (k0_h1 : k0_cond1 i = 1#1), ∀ (k0_h10 : k0_cond10 v62 v63 = 1#1), ∀ a, (k0_off9 v62) a + S4096x128.size a ≤ S655360x128.size a := fun i v62 v63 k0_hw9 k0_h1 k0_h10 => k0_hw9.2 k0_h1 k0_h10

def k0_mult10 (v67 : BitVec 32) : BitVec 32 :=
  let c512_i32 : BitVec 32 := 512#32
  let v533 : BitVec 32 := Scalar.subi v67 c512_i32
  let c8_i32 : BitVec 32 := 8#32
  let v534 : BitVec 32 := Scalar.muli v533 c8_i32
  v534
def k0_cond11 (v67 : BitVec 32) (v68 : BitVec 32) : BitVec 1 :=
  let v69 : BitVec 1 := Scalar.cmpi .sgt v67 v68
  let v70 : BitVec 32 := Scalar.extui v69
  let c0_i32_36 : BitVec 32 := 0#32
  let v71 : BitVec 1 := Scalar.cmpi .ne v70 c0_i32_36
  v71

def k0_off10 (v67 : BitVec 32) : Fin 2 → Nat :=
  let c512_i32 : BitVec 32 := 512#32
  let v533 : BitVec 32 := Scalar.subi v67 c512_i32
  let c8_i32 : BitVec 32 := 8#32
  let v534 : BitVec 32 := Scalar.muli v533 c8_i32
  let v535 : BitVec 32 := v534
  let c0_i32_274 : BitVec 32 := 0#32
  ![v535.toNat, 0]

def k0_chk10 (i : grid0.Coords) (v67 : BitVec 32) (v68 : BitVec 32) : Prop :=
  (∀ (k0_h1 : k0_cond1 i = 1#1), ∀ (k0_h11 : k0_cond11 v67 v68 = 1#1), 4096 ∣ (k0_mult10 v67).toNat) ∧
  (∀ (k0_h1 : k0_cond1 i = 1#1), ∀ (k0_h11 : k0_cond11 v67 v68 = 1#1), ∀ a, (k0_off10 v67) a + S4096x128.size a ≤ S655360x128.size a)
theorem k0_mult10_dvd : ∀ (i : grid0.Coords) (v67 : BitVec 32) (v68 : BitVec 32) (k0_hw10 : k0_chk10 i v67 v68), ∀ (k0_h1 : k0_cond1 i = 1#1), ∀ (k0_h11 : k0_cond11 v67 v68 = 1#1), 4096 ∣ (k0_mult10 v67).toNat := fun i v67 v68 k0_hw10 k0_h1 k0_h11 => k0_hw10.1 k0_h1 k0_h11
theorem k0_off10_inb : ∀ (i : grid0.Coords) (v67 : BitVec 32) (v68 : BitVec 32) (k0_hw10 : k0_chk10 i v67 v68), ∀ (k0_h1 : k0_cond1 i = 1#1), ∀ (k0_h11 : k0_cond11 v67 v68 = 1#1), ∀ a, (k0_off10 v67) a + S4096x128.size a ≤ S655360x128.size a := fun i v67 v68 k0_hw10 k0_h1 k0_h11 => k0_hw10.2 k0_h1 k0_h11

def k0_mult11 (v72 : BitVec 32) : BitVec 32 :=
  let c512_i32 : BitVec 32 := 512#32
  let v533 : BitVec 32 := Scalar.subi v72 c512_i32
  let c8_i32 : BitVec 32 := 8#32
  let v534 : BitVec 32 := Scalar.muli v533 c8_i32
  v534
def k0_cond12 (v72 : BitVec 32) (v73 : BitVec 32) : BitVec 1 :=
  let v74 : BitVec 1 := Scalar.cmpi .sgt v72 v73
  let v75 : BitVec 32 := Scalar.extui v74
  let c0_i32_38 : BitVec 32 := 0#32
  let v76 : BitVec 1 := Scalar.cmpi .ne v75 c0_i32_38
  v76

def k0_off11 (v72 : BitVec 32) : Fin 2 → Nat :=
  let c512_i32 : BitVec 32 := 512#32
  let v533 : BitVec 32 := Scalar.subi v72 c512_i32
  let c8_i32 : BitVec 32 := 8#32
  let v534 : BitVec 32 := Scalar.muli v533 c8_i32
  let v535 : BitVec 32 := v534
  let c0_i32_274 : BitVec 32 := 0#32
  ![v535.toNat, 0]

def k0_chk11 (i : grid0.Coords) (v72 : BitVec 32) (v73 : BitVec 32) : Prop :=
  (∀ (k0_h1 : k0_cond1 i = 1#1), ∀ (k0_h12 : k0_cond12 v72 v73 = 1#1), 4096 ∣ (k0_mult11 v72).toNat) ∧
  (∀ (k0_h1 : k0_cond1 i = 1#1), ∀ (k0_h12 : k0_cond12 v72 v73 = 1#1), ∀ a, (k0_off11 v72) a + S4096x128.size a ≤ S655360x128.size a)
theorem k0_mult11_dvd : ∀ (i : grid0.Coords) (v72 : BitVec 32) (v73 : BitVec 32) (k0_hw11 : k0_chk11 i v72 v73), ∀ (k0_h1 : k0_cond1 i = 1#1), ∀ (k0_h12 : k0_cond12 v72 v73 = 1#1), 4096 ∣ (k0_mult11 v72).toNat := fun i v72 v73 k0_hw11 k0_h1 k0_h12 => k0_hw11.1 k0_h1 k0_h12
theorem k0_off11_inb : ∀ (i : grid0.Coords) (v72 : BitVec 32) (v73 : BitVec 32) (k0_hw11 : k0_chk11 i v72 v73), ∀ (k0_h1 : k0_cond1 i = 1#1), ∀ (k0_h12 : k0_cond12 v72 v73 = 1#1), ∀ a, (k0_off11 v72) a + S4096x128.size a ≤ S655360x128.size a := fun i v72 v73 k0_hw11 k0_h1 k0_h12 => k0_hw11.2 k0_h1 k0_h12

def k0_mult12 (v77 : BitVec 32) : BitVec 32 :=
  let c512_i32 : BitVec 32 := 512#32
  let v533 : BitVec 32 := Scalar.subi v77 c512_i32
  let c8_i32 : BitVec 32 := 8#32
  let v534 : BitVec 32 := Scalar.muli v533 c8_i32
  v534
def k0_cond13 (v77 : BitVec 32) (v78 : BitVec 32) : BitVec 1 :=
  let v79 : BitVec 1 := Scalar.cmpi .sgt v77 v78
  let v80 : BitVec 32 := Scalar.extui v79
  let c0_i32_40 : BitVec 32 := 0#32
  let v81 : BitVec 1 := Scalar.cmpi .ne v80 c0_i32_40
  v81

def k0_off12 (v77 : BitVec 32) : Fin 2 → Nat :=
  let c512_i32 : BitVec 32 := 512#32
  let v533 : BitVec 32 := Scalar.subi v77 c512_i32
  let c8_i32 : BitVec 32 := 8#32
  let v534 : BitVec 32 := Scalar.muli v533 c8_i32
  let v535 : BitVec 32 := v534
  let c0_i32_274 : BitVec 32 := 0#32
  ![v535.toNat, 0]

def k0_chk12 (i : grid0.Coords) (v77 : BitVec 32) (v78 : BitVec 32) : Prop :=
  (∀ (k0_h1 : k0_cond1 i = 1#1), ∀ (k0_h13 : k0_cond13 v77 v78 = 1#1), 4096 ∣ (k0_mult12 v77).toNat) ∧
  (∀ (k0_h1 : k0_cond1 i = 1#1), ∀ (k0_h13 : k0_cond13 v77 v78 = 1#1), ∀ a, (k0_off12 v77) a + S4096x128.size a ≤ S655360x128.size a)
theorem k0_mult12_dvd : ∀ (i : grid0.Coords) (v77 : BitVec 32) (v78 : BitVec 32) (k0_hw12 : k0_chk12 i v77 v78), ∀ (k0_h1 : k0_cond1 i = 1#1), ∀ (k0_h13 : k0_cond13 v77 v78 = 1#1), 4096 ∣ (k0_mult12 v77).toNat := fun i v77 v78 k0_hw12 k0_h1 k0_h13 => k0_hw12.1 k0_h1 k0_h13
theorem k0_off12_inb : ∀ (i : grid0.Coords) (v77 : BitVec 32) (v78 : BitVec 32) (k0_hw12 : k0_chk12 i v77 v78), ∀ (k0_h1 : k0_cond1 i = 1#1), ∀ (k0_h13 : k0_cond13 v77 v78 = 1#1), ∀ a, (k0_off12 v77) a + S4096x128.size a ≤ S655360x128.size a := fun i v77 v78 k0_hw12 k0_h1 k0_h13 => k0_hw12.2 k0_h1 k0_h13

def k0_mult13 (v82 : BitVec 32) : BitVec 32 :=
  let c512_i32 : BitVec 32 := 512#32
  let v533 : BitVec 32 := Scalar.subi v82 c512_i32
  let c8_i32 : BitVec 32 := 8#32
  let v534 : BitVec 32 := Scalar.muli v533 c8_i32
  v534
def k0_cond14 (v82 : BitVec 32) (v83 : BitVec 32) : BitVec 1 :=
  let v84 : BitVec 1 := Scalar.cmpi .sgt v82 v83
  let v85 : BitVec 32 := Scalar.extui v84
  let c0_i32_42 : BitVec 32 := 0#32
  let v86 : BitVec 1 := Scalar.cmpi .ne v85 c0_i32_42
  v86

def k0_off13 (v82 : BitVec 32) : Fin 2 → Nat :=
  let c512_i32 : BitVec 32 := 512#32
  let v533 : BitVec 32 := Scalar.subi v82 c512_i32
  let c8_i32 : BitVec 32 := 8#32
  let v534 : BitVec 32 := Scalar.muli v533 c8_i32
  let v535 : BitVec 32 := v534
  let c0_i32_274 : BitVec 32 := 0#32
  ![v535.toNat, 0]

def k0_chk13 (i : grid0.Coords) (v82 : BitVec 32) (v83 : BitVec 32) : Prop :=
  (∀ (k0_h1 : k0_cond1 i = 1#1), ∀ (k0_h14 : k0_cond14 v82 v83 = 1#1), 4096 ∣ (k0_mult13 v82).toNat) ∧
  (∀ (k0_h1 : k0_cond1 i = 1#1), ∀ (k0_h14 : k0_cond14 v82 v83 = 1#1), ∀ a, (k0_off13 v82) a + S4096x128.size a ≤ S655360x128.size a)
theorem k0_mult13_dvd : ∀ (i : grid0.Coords) (v82 : BitVec 32) (v83 : BitVec 32) (k0_hw13 : k0_chk13 i v82 v83), ∀ (k0_h1 : k0_cond1 i = 1#1), ∀ (k0_h14 : k0_cond14 v82 v83 = 1#1), 4096 ∣ (k0_mult13 v82).toNat := fun i v82 v83 k0_hw13 k0_h1 k0_h14 => k0_hw13.1 k0_h1 k0_h14
theorem k0_off13_inb : ∀ (i : grid0.Coords) (v82 : BitVec 32) (v83 : BitVec 32) (k0_hw13 : k0_chk13 i v82 v83), ∀ (k0_h1 : k0_cond1 i = 1#1), ∀ (k0_h14 : k0_cond14 v82 v83 = 1#1), ∀ a, (k0_off13 v82) a + S4096x128.size a ≤ S655360x128.size a := fun i v82 v83 k0_hw13 k0_h1 k0_h14 => k0_hw13.2 k0_h1 k0_h14

def k0_mult14 (v87 : BitVec 32) : BitVec 32 :=
  let c512_i32 : BitVec 32 := 512#32
  let v533 : BitVec 32 := Scalar.subi v87 c512_i32
  let c8_i32 : BitVec 32 := 8#32
  let v534 : BitVec 32 := Scalar.muli v533 c8_i32
  v534
def k0_cond15 (v87 : BitVec 32) (v88 : BitVec 32) : BitVec 1 :=
  let v89 : BitVec 1 := Scalar.cmpi .sgt v87 v88
  let v90 : BitVec 32 := Scalar.extui v89
  let c0_i32_44 : BitVec 32 := 0#32
  let v91 : BitVec 1 := Scalar.cmpi .ne v90 c0_i32_44
  v91

def k0_off14 (v87 : BitVec 32) : Fin 2 → Nat :=
  let c512_i32 : BitVec 32 := 512#32
  let v533 : BitVec 32 := Scalar.subi v87 c512_i32
  let c8_i32 : BitVec 32 := 8#32
  let v534 : BitVec 32 := Scalar.muli v533 c8_i32
  let v535 : BitVec 32 := v534
  let c0_i32_274 : BitVec 32 := 0#32
  ![v535.toNat, 0]

def k0_chk14 (i : grid0.Coords) (v87 : BitVec 32) (v88 : BitVec 32) : Prop :=
  (∀ (k0_h1 : k0_cond1 i = 1#1), ∀ (k0_h15 : k0_cond15 v87 v88 = 1#1), 4096 ∣ (k0_mult14 v87).toNat) ∧
  (∀ (k0_h1 : k0_cond1 i = 1#1), ∀ (k0_h15 : k0_cond15 v87 v88 = 1#1), ∀ a, (k0_off14 v87) a + S4096x128.size a ≤ S655360x128.size a)
theorem k0_mult14_dvd : ∀ (i : grid0.Coords) (v87 : BitVec 32) (v88 : BitVec 32) (k0_hw14 : k0_chk14 i v87 v88), ∀ (k0_h1 : k0_cond1 i = 1#1), ∀ (k0_h15 : k0_cond15 v87 v88 = 1#1), 4096 ∣ (k0_mult14 v87).toNat := fun i v87 v88 k0_hw14 k0_h1 k0_h15 => k0_hw14.1 k0_h1 k0_h15
theorem k0_off14_inb : ∀ (i : grid0.Coords) (v87 : BitVec 32) (v88 : BitVec 32) (k0_hw14 : k0_chk14 i v87 v88), ∀ (k0_h1 : k0_cond1 i = 1#1), ∀ (k0_h15 : k0_cond15 v87 v88 = 1#1), ∀ a, (k0_off14 v87) a + S4096x128.size a ≤ S655360x128.size a := fun i v87 v88 k0_hw14 k0_h1 k0_h15 => k0_hw14.2 k0_h1 k0_h15

def k0_mult15 (v92 : BitVec 32) : BitVec 32 :=
  let c512_i32 : BitVec 32 := 512#32
  let v533 : BitVec 32 := Scalar.subi v92 c512_i32
  let c8_i32 : BitVec 32 := 8#32
  let v534 : BitVec 32 := Scalar.muli v533 c8_i32
  v534
def k0_cond16 (v92 : BitVec 32) (v93 : BitVec 32) : BitVec 1 :=
  let v94 : BitVec 1 := Scalar.cmpi .sgt v92 v93
  let v95 : BitVec 32 := Scalar.extui v94
  let c0_i32_46 : BitVec 32 := 0#32
  let v96 : BitVec 1 := Scalar.cmpi .ne v95 c0_i32_46
  v96

def k0_off15 (v92 : BitVec 32) : Fin 2 → Nat :=
  let c512_i32 : BitVec 32 := 512#32
  let v533 : BitVec 32 := Scalar.subi v92 c512_i32
  let c8_i32 : BitVec 32 := 8#32
  let v534 : BitVec 32 := Scalar.muli v533 c8_i32
  let v535 : BitVec 32 := v534
  let c0_i32_274 : BitVec 32 := 0#32
  ![v535.toNat, 0]

def k0_chk15 (i : grid0.Coords) (v92 : BitVec 32) (v93 : BitVec 32) : Prop :=
  (∀ (k0_h1 : k0_cond1 i = 1#1), ∀ (k0_h16 : k0_cond16 v92 v93 = 1#1), 4096 ∣ (k0_mult15 v92).toNat) ∧
  (∀ (k0_h1 : k0_cond1 i = 1#1), ∀ (k0_h16 : k0_cond16 v92 v93 = 1#1), ∀ a, (k0_off15 v92) a + S4096x128.size a ≤ S655360x128.size a)
theorem k0_mult15_dvd : ∀ (i : grid0.Coords) (v92 : BitVec 32) (v93 : BitVec 32) (k0_hw15 : k0_chk15 i v92 v93), ∀ (k0_h1 : k0_cond1 i = 1#1), ∀ (k0_h16 : k0_cond16 v92 v93 = 1#1), 4096 ∣ (k0_mult15 v92).toNat := fun i v92 v93 k0_hw15 k0_h1 k0_h16 => k0_hw15.1 k0_h1 k0_h16
theorem k0_off15_inb : ∀ (i : grid0.Coords) (v92 : BitVec 32) (v93 : BitVec 32) (k0_hw15 : k0_chk15 i v92 v93), ∀ (k0_h1 : k0_cond1 i = 1#1), ∀ (k0_h16 : k0_cond16 v92 v93 = 1#1), ∀ a, (k0_off15 v92) a + S4096x128.size a ≤ S655360x128.size a := fun i v92 v93 k0_hw15 k0_h1 k0_h16 => k0_hw15.2 k0_h1 k0_h16

def k0_mult16 (v97 : BitVec 32) : BitVec 32 :=
  let c512_i32 : BitVec 32 := 512#32
  let v533 : BitVec 32 := Scalar.subi v97 c512_i32
  let c8_i32 : BitVec 32 := 8#32
  let v534 : BitVec 32 := Scalar.muli v533 c8_i32
  v534
def k0_cond17 (v97 : BitVec 32) (v98 : BitVec 32) : BitVec 1 :=
  let v99 : BitVec 1 := Scalar.cmpi .sgt v97 v98
  let v100 : BitVec 32 := Scalar.extui v99
  let c0_i32_48 : BitVec 32 := 0#32
  let v101 : BitVec 1 := Scalar.cmpi .ne v100 c0_i32_48
  v101

def k0_off16 (v97 : BitVec 32) : Fin 2 → Nat :=
  let c512_i32 : BitVec 32 := 512#32
  let v533 : BitVec 32 := Scalar.subi v97 c512_i32
  let c8_i32 : BitVec 32 := 8#32
  let v534 : BitVec 32 := Scalar.muli v533 c8_i32
  let v535 : BitVec 32 := v534
  let c0_i32_274 : BitVec 32 := 0#32
  ![v535.toNat, 0]

def k0_chk16 (i : grid0.Coords) (v97 : BitVec 32) (v98 : BitVec 32) : Prop :=
  (∀ (k0_h1 : k0_cond1 i = 1#1), ∀ (k0_h17 : k0_cond17 v97 v98 = 1#1), 4096 ∣ (k0_mult16 v97).toNat) ∧
  (∀ (k0_h1 : k0_cond1 i = 1#1), ∀ (k0_h17 : k0_cond17 v97 v98 = 1#1), ∀ a, (k0_off16 v97) a + S4096x128.size a ≤ S655360x128.size a)
theorem k0_mult16_dvd : ∀ (i : grid0.Coords) (v97 : BitVec 32) (v98 : BitVec 32) (k0_hw16 : k0_chk16 i v97 v98), ∀ (k0_h1 : k0_cond1 i = 1#1), ∀ (k0_h17 : k0_cond17 v97 v98 = 1#1), 4096 ∣ (k0_mult16 v97).toNat := fun i v97 v98 k0_hw16 k0_h1 k0_h17 => k0_hw16.1 k0_h1 k0_h17
theorem k0_off16_inb : ∀ (i : grid0.Coords) (v97 : BitVec 32) (v98 : BitVec 32) (k0_hw16 : k0_chk16 i v97 v98), ∀ (k0_h1 : k0_cond1 i = 1#1), ∀ (k0_h17 : k0_cond17 v97 v98 = 1#1), ∀ a, (k0_off16 v97) a + S4096x128.size a ≤ S655360x128.size a := fun i v97 v98 k0_hw16 k0_h1 k0_h17 => k0_hw16.2 k0_h1 k0_h17

def k0_mult17 (v102 : BitVec 32) : BitVec 32 :=
  let c512_i32 : BitVec 32 := 512#32
  let v533 : BitVec 32 := Scalar.subi v102 c512_i32
  let c8_i32 : BitVec 32 := 8#32
  let v534 : BitVec 32 := Scalar.muli v533 c8_i32
  v534
def k0_cond18 (v102 : BitVec 32) (v103 : BitVec 32) : BitVec 1 :=
  let v104 : BitVec 1 := Scalar.cmpi .sgt v102 v103
  let v105 : BitVec 32 := Scalar.extui v104
  let c0_i32_50 : BitVec 32 := 0#32
  let v106 : BitVec 1 := Scalar.cmpi .ne v105 c0_i32_50
  v106

def k0_off17 (v102 : BitVec 32) : Fin 2 → Nat :=
  let c512_i32 : BitVec 32 := 512#32
  let v533 : BitVec 32 := Scalar.subi v102 c512_i32
  let c8_i32 : BitVec 32 := 8#32
  let v534 : BitVec 32 := Scalar.muli v533 c8_i32
  let v535 : BitVec 32 := v534
  let c0_i32_274 : BitVec 32 := 0#32
  ![v535.toNat, 0]

def k0_chk17 (i : grid0.Coords) (v102 : BitVec 32) (v103 : BitVec 32) : Prop :=
  (∀ (k0_h1 : k0_cond1 i = 1#1), ∀ (k0_h18 : k0_cond18 v102 v103 = 1#1), 4096 ∣ (k0_mult17 v102).toNat) ∧
  (∀ (k0_h1 : k0_cond1 i = 1#1), ∀ (k0_h18 : k0_cond18 v102 v103 = 1#1), ∀ a, (k0_off17 v102) a + S4096x128.size a ≤ S655360x128.size a)
theorem k0_mult17_dvd : ∀ (i : grid0.Coords) (v102 : BitVec 32) (v103 : BitVec 32) (k0_hw17 : k0_chk17 i v102 v103), ∀ (k0_h1 : k0_cond1 i = 1#1), ∀ (k0_h18 : k0_cond18 v102 v103 = 1#1), 4096 ∣ (k0_mult17 v102).toNat := fun i v102 v103 k0_hw17 k0_h1 k0_h18 => k0_hw17.1 k0_h1 k0_h18
theorem k0_off17_inb : ∀ (i : grid0.Coords) (v102 : BitVec 32) (v103 : BitVec 32) (k0_hw17 : k0_chk17 i v102 v103), ∀ (k0_h1 : k0_cond1 i = 1#1), ∀ (k0_h18 : k0_cond18 v102 v103 = 1#1), ∀ a, (k0_off17 v102) a + S4096x128.size a ≤ S655360x128.size a := fun i v102 v103 k0_hw17 k0_h1 k0_h18 => k0_hw17.2 k0_h1 k0_h18

def k0_mult18 (v107 : BitVec 32) : BitVec 32 :=
  let c512_i32 : BitVec 32 := 512#32
  let v533 : BitVec 32 := Scalar.subi v107 c512_i32
  let c8_i32 : BitVec 32 := 8#32
  let v534 : BitVec 32 := Scalar.muli v533 c8_i32
  v534
def k0_cond19 (v107 : BitVec 32) (v108 : BitVec 32) : BitVec 1 :=
  let v109 : BitVec 1 := Scalar.cmpi .sgt v107 v108
  let v110 : BitVec 32 := Scalar.extui v109
  let c0_i32_52 : BitVec 32 := 0#32
  let v111 : BitVec 1 := Scalar.cmpi .ne v110 c0_i32_52
  v111

def k0_off18 (v107 : BitVec 32) : Fin 2 → Nat :=
  let c512_i32 : BitVec 32 := 512#32
  let v533 : BitVec 32 := Scalar.subi v107 c512_i32
  let c8_i32 : BitVec 32 := 8#32
  let v534 : BitVec 32 := Scalar.muli v533 c8_i32
  let v535 : BitVec 32 := v534
  let c0_i32_274 : BitVec 32 := 0#32
  ![v535.toNat, 0]

def k0_chk18 (i : grid0.Coords) (v107 : BitVec 32) (v108 : BitVec 32) : Prop :=
  (∀ (k0_h1 : k0_cond1 i = 1#1), ∀ (k0_h19 : k0_cond19 v107 v108 = 1#1), 4096 ∣ (k0_mult18 v107).toNat) ∧
  (∀ (k0_h1 : k0_cond1 i = 1#1), ∀ (k0_h19 : k0_cond19 v107 v108 = 1#1), ∀ a, (k0_off18 v107) a + S4096x128.size a ≤ S655360x128.size a)
theorem k0_mult18_dvd : ∀ (i : grid0.Coords) (v107 : BitVec 32) (v108 : BitVec 32) (k0_hw18 : k0_chk18 i v107 v108), ∀ (k0_h1 : k0_cond1 i = 1#1), ∀ (k0_h19 : k0_cond19 v107 v108 = 1#1), 4096 ∣ (k0_mult18 v107).toNat := fun i v107 v108 k0_hw18 k0_h1 k0_h19 => k0_hw18.1 k0_h1 k0_h19
theorem k0_off18_inb : ∀ (i : grid0.Coords) (v107 : BitVec 32) (v108 : BitVec 32) (k0_hw18 : k0_chk18 i v107 v108), ∀ (k0_h1 : k0_cond1 i = 1#1), ∀ (k0_h19 : k0_cond19 v107 v108 = 1#1), ∀ a, (k0_off18 v107) a + S4096x128.size a ≤ S655360x128.size a := fun i v107 v108 k0_hw18 k0_h1 k0_h19 => k0_hw18.2 k0_h1 k0_h19

def k0_mult19 (v112 : BitVec 32) : BitVec 32 :=
  let c512_i32 : BitVec 32 := 512#32
  let v533 : BitVec 32 := Scalar.subi v112 c512_i32
  let c8_i32 : BitVec 32 := 8#32
  let v534 : BitVec 32 := Scalar.muli v533 c8_i32
  v534
def k0_cond20 (v112 : BitVec 32) (v113 : BitVec 32) : BitVec 1 :=
  let v114 : BitVec 1 := Scalar.cmpi .sgt v112 v113
  let v115 : BitVec 32 := Scalar.extui v114
  let c0_i32_54 : BitVec 32 := 0#32
  let v116 : BitVec 1 := Scalar.cmpi .ne v115 c0_i32_54
  v116

def k0_off19 (v112 : BitVec 32) : Fin 2 → Nat :=
  let c512_i32 : BitVec 32 := 512#32
  let v533 : BitVec 32 := Scalar.subi v112 c512_i32
  let c8_i32 : BitVec 32 := 8#32
  let v534 : BitVec 32 := Scalar.muli v533 c8_i32
  let v535 : BitVec 32 := v534
  let c0_i32_274 : BitVec 32 := 0#32
  ![v535.toNat, 0]

def k0_chk19 (i : grid0.Coords) (v112 : BitVec 32) (v113 : BitVec 32) : Prop :=
  (∀ (k0_h1 : k0_cond1 i = 1#1), ∀ (k0_h20 : k0_cond20 v112 v113 = 1#1), 4096 ∣ (k0_mult19 v112).toNat) ∧
  (∀ (k0_h1 : k0_cond1 i = 1#1), ∀ (k0_h20 : k0_cond20 v112 v113 = 1#1), ∀ a, (k0_off19 v112) a + S4096x128.size a ≤ S655360x128.size a)
theorem k0_mult19_dvd : ∀ (i : grid0.Coords) (v112 : BitVec 32) (v113 : BitVec 32) (k0_hw19 : k0_chk19 i v112 v113), ∀ (k0_h1 : k0_cond1 i = 1#1), ∀ (k0_h20 : k0_cond20 v112 v113 = 1#1), 4096 ∣ (k0_mult19 v112).toNat := fun i v112 v113 k0_hw19 k0_h1 k0_h20 => k0_hw19.1 k0_h1 k0_h20
theorem k0_off19_inb : ∀ (i : grid0.Coords) (v112 : BitVec 32) (v113 : BitVec 32) (k0_hw19 : k0_chk19 i v112 v113), ∀ (k0_h1 : k0_cond1 i = 1#1), ∀ (k0_h20 : k0_cond20 v112 v113 = 1#1), ∀ a, (k0_off19 v112) a + S4096x128.size a ≤ S655360x128.size a := fun i v112 v113 k0_hw19 k0_h1 k0_h20 => k0_hw19.2 k0_h1 k0_h20

def k0_mult20 (v117 : BitVec 32) : BitVec 32 :=
  let c512_i32 : BitVec 32 := 512#32
  let v533 : BitVec 32 := Scalar.subi v117 c512_i32
  let c8_i32 : BitVec 32 := 8#32
  let v534 : BitVec 32 := Scalar.muli v533 c8_i32
  v534
def k0_cond21 (v117 : BitVec 32) (v118 : BitVec 32) : BitVec 1 :=
  let v119 : BitVec 1 := Scalar.cmpi .sgt v117 v118
  let v120 : BitVec 32 := Scalar.extui v119
  let c0_i32_56 : BitVec 32 := 0#32
  let v121 : BitVec 1 := Scalar.cmpi .ne v120 c0_i32_56
  v121

def k0_off20 (v117 : BitVec 32) : Fin 2 → Nat :=
  let c512_i32 : BitVec 32 := 512#32
  let v533 : BitVec 32 := Scalar.subi v117 c512_i32
  let c8_i32 : BitVec 32 := 8#32
  let v534 : BitVec 32 := Scalar.muli v533 c8_i32
  let v535 : BitVec 32 := v534
  let c0_i32_274 : BitVec 32 := 0#32
  ![v535.toNat, 0]

def k0_chk20 (i : grid0.Coords) (v117 : BitVec 32) (v118 : BitVec 32) : Prop :=
  (∀ (k0_h1 : k0_cond1 i = 1#1), ∀ (k0_h21 : k0_cond21 v117 v118 = 1#1), 4096 ∣ (k0_mult20 v117).toNat) ∧
  (∀ (k0_h1 : k0_cond1 i = 1#1), ∀ (k0_h21 : k0_cond21 v117 v118 = 1#1), ∀ a, (k0_off20 v117) a + S4096x128.size a ≤ S655360x128.size a)
theorem k0_mult20_dvd : ∀ (i : grid0.Coords) (v117 : BitVec 32) (v118 : BitVec 32) (k0_hw20 : k0_chk20 i v117 v118), ∀ (k0_h1 : k0_cond1 i = 1#1), ∀ (k0_h21 : k0_cond21 v117 v118 = 1#1), 4096 ∣ (k0_mult20 v117).toNat := fun i v117 v118 k0_hw20 k0_h1 k0_h21 => k0_hw20.1 k0_h1 k0_h21
theorem k0_off20_inb : ∀ (i : grid0.Coords) (v117 : BitVec 32) (v118 : BitVec 32) (k0_hw20 : k0_chk20 i v117 v118), ∀ (k0_h1 : k0_cond1 i = 1#1), ∀ (k0_h21 : k0_cond21 v117 v118 = 1#1), ∀ a, (k0_off20 v117) a + S4096x128.size a ≤ S655360x128.size a := fun i v117 v118 k0_hw20 k0_h1 k0_h21 => k0_hw20.2 k0_h1 k0_h21

def k0_mult21 (v122 : BitVec 32) : BitVec 32 :=
  let c512_i32 : BitVec 32 := 512#32
  let v533 : BitVec 32 := Scalar.subi v122 c512_i32
  let c8_i32 : BitVec 32 := 8#32
  let v534 : BitVec 32 := Scalar.muli v533 c8_i32
  v534
def k0_cond22 (v122 : BitVec 32) (v123 : BitVec 32) : BitVec 1 :=
  let v124 : BitVec 1 := Scalar.cmpi .sgt v122 v123
  let v125 : BitVec 32 := Scalar.extui v124
  let c0_i32_58 : BitVec 32 := 0#32
  let v126 : BitVec 1 := Scalar.cmpi .ne v125 c0_i32_58
  v126

def k0_off21 (v122 : BitVec 32) : Fin 2 → Nat :=
  let c512_i32 : BitVec 32 := 512#32
  let v533 : BitVec 32 := Scalar.subi v122 c512_i32
  let c8_i32 : BitVec 32 := 8#32
  let v534 : BitVec 32 := Scalar.muli v533 c8_i32
  let v535 : BitVec 32 := v534
  let c0_i32_274 : BitVec 32 := 0#32
  ![v535.toNat, 0]

def k0_chk21 (i : grid0.Coords) (v122 : BitVec 32) (v123 : BitVec 32) : Prop :=
  (∀ (k0_h1 : k0_cond1 i = 1#1), ∀ (k0_h22 : k0_cond22 v122 v123 = 1#1), 4096 ∣ (k0_mult21 v122).toNat) ∧
  (∀ (k0_h1 : k0_cond1 i = 1#1), ∀ (k0_h22 : k0_cond22 v122 v123 = 1#1), ∀ a, (k0_off21 v122) a + S4096x128.size a ≤ S655360x128.size a)
theorem k0_mult21_dvd : ∀ (i : grid0.Coords) (v122 : BitVec 32) (v123 : BitVec 32) (k0_hw21 : k0_chk21 i v122 v123), ∀ (k0_h1 : k0_cond1 i = 1#1), ∀ (k0_h22 : k0_cond22 v122 v123 = 1#1), 4096 ∣ (k0_mult21 v122).toNat := fun i v122 v123 k0_hw21 k0_h1 k0_h22 => k0_hw21.1 k0_h1 k0_h22
theorem k0_off21_inb : ∀ (i : grid0.Coords) (v122 : BitVec 32) (v123 : BitVec 32) (k0_hw21 : k0_chk21 i v122 v123), ∀ (k0_h1 : k0_cond1 i = 1#1), ∀ (k0_h22 : k0_cond22 v122 v123 = 1#1), ∀ a, (k0_off21 v122) a + S4096x128.size a ≤ S655360x128.size a := fun i v122 v123 k0_hw21 k0_h1 k0_h22 => k0_hw21.2 k0_h1 k0_h22

def k0_mult22 (v127 : BitVec 32) : BitVec 32 :=
  let c512_i32 : BitVec 32 := 512#32
  let v533 : BitVec 32 := Scalar.subi v127 c512_i32
  let c8_i32 : BitVec 32 := 8#32
  let v534 : BitVec 32 := Scalar.muli v533 c8_i32
  v534
def k0_cond23 (v127 : BitVec 32) (v128 : BitVec 32) : BitVec 1 :=
  let v129 : BitVec 1 := Scalar.cmpi .sgt v127 v128
  let v130 : BitVec 32 := Scalar.extui v129
  let c0_i32_60 : BitVec 32 := 0#32
  let v131 : BitVec 1 := Scalar.cmpi .ne v130 c0_i32_60
  v131

def k0_off22 (v127 : BitVec 32) : Fin 2 → Nat :=
  let c512_i32 : BitVec 32 := 512#32
  let v533 : BitVec 32 := Scalar.subi v127 c512_i32
  let c8_i32 : BitVec 32 := 8#32
  let v534 : BitVec 32 := Scalar.muli v533 c8_i32
  let v535 : BitVec 32 := v534
  let c0_i32_274 : BitVec 32 := 0#32
  ![v535.toNat, 0]

def k0_chk22 (i : grid0.Coords) (v127 : BitVec 32) (v128 : BitVec 32) : Prop :=
  (∀ (k0_h1 : k0_cond1 i = 1#1), ∀ (k0_h23 : k0_cond23 v127 v128 = 1#1), 4096 ∣ (k0_mult22 v127).toNat) ∧
  (∀ (k0_h1 : k0_cond1 i = 1#1), ∀ (k0_h23 : k0_cond23 v127 v128 = 1#1), ∀ a, (k0_off22 v127) a + S4096x128.size a ≤ S655360x128.size a)
theorem k0_mult22_dvd : ∀ (i : grid0.Coords) (v127 : BitVec 32) (v128 : BitVec 32) (k0_hw22 : k0_chk22 i v127 v128), ∀ (k0_h1 : k0_cond1 i = 1#1), ∀ (k0_h23 : k0_cond23 v127 v128 = 1#1), 4096 ∣ (k0_mult22 v127).toNat := fun i v127 v128 k0_hw22 k0_h1 k0_h23 => k0_hw22.1 k0_h1 k0_h23
theorem k0_off22_inb : ∀ (i : grid0.Coords) (v127 : BitVec 32) (v128 : BitVec 32) (k0_hw22 : k0_chk22 i v127 v128), ∀ (k0_h1 : k0_cond1 i = 1#1), ∀ (k0_h23 : k0_cond23 v127 v128 = 1#1), ∀ a, (k0_off22 v127) a + S4096x128.size a ≤ S655360x128.size a := fun i v127 v128 k0_hw22 k0_h1 k0_h23 => k0_hw22.2 k0_h1 k0_h23

def k0_mult23 (v132 : BitVec 32) : BitVec 32 :=
  let c512_i32 : BitVec 32 := 512#32
  let v533 : BitVec 32 := Scalar.subi v132 c512_i32
  let c8_i32 : BitVec 32 := 8#32
  let v534 : BitVec 32 := Scalar.muli v533 c8_i32
  v534
def k0_cond24 (v132 : BitVec 32) (v133 : BitVec 32) : BitVec 1 :=
  let v134 : BitVec 1 := Scalar.cmpi .sgt v132 v133
  let v135 : BitVec 32 := Scalar.extui v134
  let c0_i32_62 : BitVec 32 := 0#32
  let v136 : BitVec 1 := Scalar.cmpi .ne v135 c0_i32_62
  v136

def k0_off23 (v132 : BitVec 32) : Fin 2 → Nat :=
  let c512_i32 : BitVec 32 := 512#32
  let v533 : BitVec 32 := Scalar.subi v132 c512_i32
  let c8_i32 : BitVec 32 := 8#32
  let v534 : BitVec 32 := Scalar.muli v533 c8_i32
  let v535 : BitVec 32 := v534
  let c0_i32_274 : BitVec 32 := 0#32
  ![v535.toNat, 0]

def k0_chk23 (i : grid0.Coords) (v132 : BitVec 32) (v133 : BitVec 32) : Prop :=
  (∀ (k0_h1 : k0_cond1 i = 1#1), ∀ (k0_h24 : k0_cond24 v132 v133 = 1#1), 4096 ∣ (k0_mult23 v132).toNat) ∧
  (∀ (k0_h1 : k0_cond1 i = 1#1), ∀ (k0_h24 : k0_cond24 v132 v133 = 1#1), ∀ a, (k0_off23 v132) a + S4096x128.size a ≤ S655360x128.size a)
theorem k0_mult23_dvd : ∀ (i : grid0.Coords) (v132 : BitVec 32) (v133 : BitVec 32) (k0_hw23 : k0_chk23 i v132 v133), ∀ (k0_h1 : k0_cond1 i = 1#1), ∀ (k0_h24 : k0_cond24 v132 v133 = 1#1), 4096 ∣ (k0_mult23 v132).toNat := fun i v132 v133 k0_hw23 k0_h1 k0_h24 => k0_hw23.1 k0_h1 k0_h24
theorem k0_off23_inb : ∀ (i : grid0.Coords) (v132 : BitVec 32) (v133 : BitVec 32) (k0_hw23 : k0_chk23 i v132 v133), ∀ (k0_h1 : k0_cond1 i = 1#1), ∀ (k0_h24 : k0_cond24 v132 v133 = 1#1), ∀ a, (k0_off23 v132) a + S4096x128.size a ≤ S655360x128.size a := fun i v132 v133 k0_hw23 k0_h1 k0_h24 => k0_hw23.2 k0_h1 k0_h24

def k0_mult24 (v137 : BitVec 32) : BitVec 32 :=
  let c512_i32 : BitVec 32 := 512#32
  let v533 : BitVec 32 := Scalar.subi v137 c512_i32
  let c8_i32 : BitVec 32 := 8#32
  let v534 : BitVec 32 := Scalar.muli v533 c8_i32
  v534
def k0_cond25 (v137 : BitVec 32) (v138 : BitVec 32) : BitVec 1 :=
  let v139 : BitVec 1 := Scalar.cmpi .sgt v137 v138
  let v140 : BitVec 32 := Scalar.extui v139
  let c0_i32_64 : BitVec 32 := 0#32
  let v141 : BitVec 1 := Scalar.cmpi .ne v140 c0_i32_64
  v141

def k0_off24 (v137 : BitVec 32) : Fin 2 → Nat :=
  let c512_i32 : BitVec 32 := 512#32
  let v533 : BitVec 32 := Scalar.subi v137 c512_i32
  let c8_i32 : BitVec 32 := 8#32
  let v534 : BitVec 32 := Scalar.muli v533 c8_i32
  let v535 : BitVec 32 := v534
  let c0_i32_274 : BitVec 32 := 0#32
  ![v535.toNat, 0]

def k0_chk24 (i : grid0.Coords) (v137 : BitVec 32) (v138 : BitVec 32) : Prop :=
  (∀ (k0_h1 : k0_cond1 i = 1#1), ∀ (k0_h25 : k0_cond25 v137 v138 = 1#1), 4096 ∣ (k0_mult24 v137).toNat) ∧
  (∀ (k0_h1 : k0_cond1 i = 1#1), ∀ (k0_h25 : k0_cond25 v137 v138 = 1#1), ∀ a, (k0_off24 v137) a + S4096x128.size a ≤ S655360x128.size a)
theorem k0_mult24_dvd : ∀ (i : grid0.Coords) (v137 : BitVec 32) (v138 : BitVec 32) (k0_hw24 : k0_chk24 i v137 v138), ∀ (k0_h1 : k0_cond1 i = 1#1), ∀ (k0_h25 : k0_cond25 v137 v138 = 1#1), 4096 ∣ (k0_mult24 v137).toNat := fun i v137 v138 k0_hw24 k0_h1 k0_h25 => k0_hw24.1 k0_h1 k0_h25
theorem k0_off24_inb : ∀ (i : grid0.Coords) (v137 : BitVec 32) (v138 : BitVec 32) (k0_hw24 : k0_chk24 i v137 v138), ∀ (k0_h1 : k0_cond1 i = 1#1), ∀ (k0_h25 : k0_cond25 v137 v138 = 1#1), ∀ a, (k0_off24 v137) a + S4096x128.size a ≤ S655360x128.size a := fun i v137 v138 k0_hw24 k0_h1 k0_h25 => k0_hw24.2 k0_h1 k0_h25

def k0_mult25 (v142 : BitVec 32) : BitVec 32 :=
  let c512_i32 : BitVec 32 := 512#32
  let v533 : BitVec 32 := Scalar.subi v142 c512_i32
  let c8_i32 : BitVec 32 := 8#32
  let v534 : BitVec 32 := Scalar.muli v533 c8_i32
  v534
def k0_cond26 (v142 : BitVec 32) (v143 : BitVec 32) : BitVec 1 :=
  let v144 : BitVec 1 := Scalar.cmpi .sgt v142 v143
  let v145 : BitVec 32 := Scalar.extui v144
  let c0_i32_66 : BitVec 32 := 0#32
  let v146 : BitVec 1 := Scalar.cmpi .ne v145 c0_i32_66
  v146

def k0_off25 (v142 : BitVec 32) : Fin 2 → Nat :=
  let c512_i32 : BitVec 32 := 512#32
  let v533 : BitVec 32 := Scalar.subi v142 c512_i32
  let c8_i32 : BitVec 32 := 8#32
  let v534 : BitVec 32 := Scalar.muli v533 c8_i32
  let v535 : BitVec 32 := v534
  let c0_i32_274 : BitVec 32 := 0#32
  ![v535.toNat, 0]

def k0_chk25 (i : grid0.Coords) (v142 : BitVec 32) (v143 : BitVec 32) : Prop :=
  (∀ (k0_h1 : k0_cond1 i = 1#1), ∀ (k0_h26 : k0_cond26 v142 v143 = 1#1), 4096 ∣ (k0_mult25 v142).toNat) ∧
  (∀ (k0_h1 : k0_cond1 i = 1#1), ∀ (k0_h26 : k0_cond26 v142 v143 = 1#1), ∀ a, (k0_off25 v142) a + S4096x128.size a ≤ S655360x128.size a)
theorem k0_mult25_dvd : ∀ (i : grid0.Coords) (v142 : BitVec 32) (v143 : BitVec 32) (k0_hw25 : k0_chk25 i v142 v143), ∀ (k0_h1 : k0_cond1 i = 1#1), ∀ (k0_h26 : k0_cond26 v142 v143 = 1#1), 4096 ∣ (k0_mult25 v142).toNat := fun i v142 v143 k0_hw25 k0_h1 k0_h26 => k0_hw25.1 k0_h1 k0_h26
theorem k0_off25_inb : ∀ (i : grid0.Coords) (v142 : BitVec 32) (v143 : BitVec 32) (k0_hw25 : k0_chk25 i v142 v143), ∀ (k0_h1 : k0_cond1 i = 1#1), ∀ (k0_h26 : k0_cond26 v142 v143 = 1#1), ∀ a, (k0_off25 v142) a + S4096x128.size a ≤ S655360x128.size a := fun i v142 v143 k0_hw25 k0_h1 k0_h26 => k0_hw25.2 k0_h1 k0_h26

def k0_mult26 (v147 : BitVec 32) : BitVec 32 :=
  let c512_i32 : BitVec 32 := 512#32
  let v533 : BitVec 32 := Scalar.subi v147 c512_i32
  let c8_i32 : BitVec 32 := 8#32
  let v534 : BitVec 32 := Scalar.muli v533 c8_i32
  v534
def k0_cond27 (v147 : BitVec 32) (v148 : BitVec 32) : BitVec 1 :=
  let v149 : BitVec 1 := Scalar.cmpi .sgt v147 v148
  let v150 : BitVec 32 := Scalar.extui v149
  let c0_i32_68 : BitVec 32 := 0#32
  let v151 : BitVec 1 := Scalar.cmpi .ne v150 c0_i32_68
  v151

def k0_off26 (v147 : BitVec 32) : Fin 2 → Nat :=
  let c512_i32 : BitVec 32 := 512#32
  let v533 : BitVec 32 := Scalar.subi v147 c512_i32
  let c8_i32 : BitVec 32 := 8#32
  let v534 : BitVec 32 := Scalar.muli v533 c8_i32
  let v535 : BitVec 32 := v534
  let c0_i32_274 : BitVec 32 := 0#32
  ![v535.toNat, 0]

def k0_chk26 (i : grid0.Coords) (v147 : BitVec 32) (v148 : BitVec 32) : Prop :=
  (∀ (k0_h1 : k0_cond1 i = 1#1), ∀ (k0_h27 : k0_cond27 v147 v148 = 1#1), 4096 ∣ (k0_mult26 v147).toNat) ∧
  (∀ (k0_h1 : k0_cond1 i = 1#1), ∀ (k0_h27 : k0_cond27 v147 v148 = 1#1), ∀ a, (k0_off26 v147) a + S4096x128.size a ≤ S655360x128.size a)
theorem k0_mult26_dvd : ∀ (i : grid0.Coords) (v147 : BitVec 32) (v148 : BitVec 32) (k0_hw26 : k0_chk26 i v147 v148), ∀ (k0_h1 : k0_cond1 i = 1#1), ∀ (k0_h27 : k0_cond27 v147 v148 = 1#1), 4096 ∣ (k0_mult26 v147).toNat := fun i v147 v148 k0_hw26 k0_h1 k0_h27 => k0_hw26.1 k0_h1 k0_h27
theorem k0_off26_inb : ∀ (i : grid0.Coords) (v147 : BitVec 32) (v148 : BitVec 32) (k0_hw26 : k0_chk26 i v147 v148), ∀ (k0_h1 : k0_cond1 i = 1#1), ∀ (k0_h27 : k0_cond27 v147 v148 = 1#1), ∀ a, (k0_off26 v147) a + S4096x128.size a ≤ S655360x128.size a := fun i v147 v148 k0_hw26 k0_h1 k0_h27 => k0_hw26.2 k0_h1 k0_h27

def k0_mult27 (v152 : BitVec 32) : BitVec 32 :=
  let c512_i32 : BitVec 32 := 512#32
  let v533 : BitVec 32 := Scalar.subi v152 c512_i32
  let c8_i32 : BitVec 32 := 8#32
  let v534 : BitVec 32 := Scalar.muli v533 c8_i32
  v534
def k0_cond28 (v152 : BitVec 32) (v153 : BitVec 32) : BitVec 1 :=
  let v154 : BitVec 1 := Scalar.cmpi .sgt v152 v153
  let v155 : BitVec 32 := Scalar.extui v154
  let c0_i32_70 : BitVec 32 := 0#32
  let v156 : BitVec 1 := Scalar.cmpi .ne v155 c0_i32_70
  v156

def k0_off27 (v152 : BitVec 32) : Fin 2 → Nat :=
  let c512_i32 : BitVec 32 := 512#32
  let v533 : BitVec 32 := Scalar.subi v152 c512_i32
  let c8_i32 : BitVec 32 := 8#32
  let v534 : BitVec 32 := Scalar.muli v533 c8_i32
  let v535 : BitVec 32 := v534
  let c0_i32_274 : BitVec 32 := 0#32
  ![v535.toNat, 0]

def k0_chk27 (i : grid0.Coords) (v152 : BitVec 32) (v153 : BitVec 32) : Prop :=
  (∀ (k0_h1 : k0_cond1 i = 1#1), ∀ (k0_h28 : k0_cond28 v152 v153 = 1#1), 4096 ∣ (k0_mult27 v152).toNat) ∧
  (∀ (k0_h1 : k0_cond1 i = 1#1), ∀ (k0_h28 : k0_cond28 v152 v153 = 1#1), ∀ a, (k0_off27 v152) a + S4096x128.size a ≤ S655360x128.size a)
theorem k0_mult27_dvd : ∀ (i : grid0.Coords) (v152 : BitVec 32) (v153 : BitVec 32) (k0_hw27 : k0_chk27 i v152 v153), ∀ (k0_h1 : k0_cond1 i = 1#1), ∀ (k0_h28 : k0_cond28 v152 v153 = 1#1), 4096 ∣ (k0_mult27 v152).toNat := fun i v152 v153 k0_hw27 k0_h1 k0_h28 => k0_hw27.1 k0_h1 k0_h28
theorem k0_off27_inb : ∀ (i : grid0.Coords) (v152 : BitVec 32) (v153 : BitVec 32) (k0_hw27 : k0_chk27 i v152 v153), ∀ (k0_h1 : k0_cond1 i = 1#1), ∀ (k0_h28 : k0_cond28 v152 v153 = 1#1), ∀ a, (k0_off27 v152) a + S4096x128.size a ≤ S655360x128.size a := fun i v152 v153 k0_hw27 k0_h1 k0_h28 => k0_hw27.2 k0_h1 k0_h28

def k0_mult28 (v157 : BitVec 32) : BitVec 32 :=
  let c512_i32 : BitVec 32 := 512#32
  let v533 : BitVec 32 := Scalar.subi v157 c512_i32
  let c8_i32 : BitVec 32 := 8#32
  let v534 : BitVec 32 := Scalar.muli v533 c8_i32
  v534
def k0_cond29 (v157 : BitVec 32) (v158 : BitVec 32) : BitVec 1 :=
  let v159 : BitVec 1 := Scalar.cmpi .sgt v157 v158
  let v160 : BitVec 32 := Scalar.extui v159
  let c0_i32_72 : BitVec 32 := 0#32
  let v161 : BitVec 1 := Scalar.cmpi .ne v160 c0_i32_72
  v161

def k0_off28 (v157 : BitVec 32) : Fin 2 → Nat :=
  let c512_i32 : BitVec 32 := 512#32
  let v533 : BitVec 32 := Scalar.subi v157 c512_i32
  let c8_i32 : BitVec 32 := 8#32
  let v534 : BitVec 32 := Scalar.muli v533 c8_i32
  let v535 : BitVec 32 := v534
  let c0_i32_274 : BitVec 32 := 0#32
  ![v535.toNat, 0]

def k0_chk28 (i : grid0.Coords) (v157 : BitVec 32) (v158 : BitVec 32) : Prop :=
  (∀ (k0_h1 : k0_cond1 i = 1#1), ∀ (k0_h29 : k0_cond29 v157 v158 = 1#1), 4096 ∣ (k0_mult28 v157).toNat) ∧
  (∀ (k0_h1 : k0_cond1 i = 1#1), ∀ (k0_h29 : k0_cond29 v157 v158 = 1#1), ∀ a, (k0_off28 v157) a + S4096x128.size a ≤ S655360x128.size a)
theorem k0_mult28_dvd : ∀ (i : grid0.Coords) (v157 : BitVec 32) (v158 : BitVec 32) (k0_hw28 : k0_chk28 i v157 v158), ∀ (k0_h1 : k0_cond1 i = 1#1), ∀ (k0_h29 : k0_cond29 v157 v158 = 1#1), 4096 ∣ (k0_mult28 v157).toNat := fun i v157 v158 k0_hw28 k0_h1 k0_h29 => k0_hw28.1 k0_h1 k0_h29
theorem k0_off28_inb : ∀ (i : grid0.Coords) (v157 : BitVec 32) (v158 : BitVec 32) (k0_hw28 : k0_chk28 i v157 v158), ∀ (k0_h1 : k0_cond1 i = 1#1), ∀ (k0_h29 : k0_cond29 v157 v158 = 1#1), ∀ a, (k0_off28 v157) a + S4096x128.size a ≤ S655360x128.size a := fun i v157 v158 k0_hw28 k0_h1 k0_h29 => k0_hw28.2 k0_h1 k0_h29

def k0_mult29 (v162 : BitVec 32) : BitVec 32 :=
  let c512_i32 : BitVec 32 := 512#32
  let v533 : BitVec 32 := Scalar.subi v162 c512_i32
  let c8_i32 : BitVec 32 := 8#32
  let v534 : BitVec 32 := Scalar.muli v533 c8_i32
  v534
def k0_cond30 (v162 : BitVec 32) (v163 : BitVec 32) : BitVec 1 :=
  let v164 : BitVec 1 := Scalar.cmpi .sgt v162 v163
  let v165 : BitVec 32 := Scalar.extui v164
  let c0_i32_74 : BitVec 32 := 0#32
  let v166 : BitVec 1 := Scalar.cmpi .ne v165 c0_i32_74
  v166

def k0_off29 (v162 : BitVec 32) : Fin 2 → Nat :=
  let c512_i32 : BitVec 32 := 512#32
  let v533 : BitVec 32 := Scalar.subi v162 c512_i32
  let c8_i32 : BitVec 32 := 8#32
  let v534 : BitVec 32 := Scalar.muli v533 c8_i32
  let v535 : BitVec 32 := v534
  let c0_i32_274 : BitVec 32 := 0#32
  ![v535.toNat, 0]

def k0_chk29 (i : grid0.Coords) (v162 : BitVec 32) (v163 : BitVec 32) : Prop :=
  (∀ (k0_h1 : k0_cond1 i = 1#1), ∀ (k0_h30 : k0_cond30 v162 v163 = 1#1), 4096 ∣ (k0_mult29 v162).toNat) ∧
  (∀ (k0_h1 : k0_cond1 i = 1#1), ∀ (k0_h30 : k0_cond30 v162 v163 = 1#1), ∀ a, (k0_off29 v162) a + S4096x128.size a ≤ S655360x128.size a)
theorem k0_mult29_dvd : ∀ (i : grid0.Coords) (v162 : BitVec 32) (v163 : BitVec 32) (k0_hw29 : k0_chk29 i v162 v163), ∀ (k0_h1 : k0_cond1 i = 1#1), ∀ (k0_h30 : k0_cond30 v162 v163 = 1#1), 4096 ∣ (k0_mult29 v162).toNat := fun i v162 v163 k0_hw29 k0_h1 k0_h30 => k0_hw29.1 k0_h1 k0_h30
theorem k0_off29_inb : ∀ (i : grid0.Coords) (v162 : BitVec 32) (v163 : BitVec 32) (k0_hw29 : k0_chk29 i v162 v163), ∀ (k0_h1 : k0_cond1 i = 1#1), ∀ (k0_h30 : k0_cond30 v162 v163 = 1#1), ∀ a, (k0_off29 v162) a + S4096x128.size a ≤ S655360x128.size a := fun i v162 v163 k0_hw29 k0_h1 k0_h30 => k0_hw29.2 k0_h1 k0_h30

def k0_mult30 (v167 : BitVec 32) : BitVec 32 :=
  let c512_i32 : BitVec 32 := 512#32
  let v533 : BitVec 32 := Scalar.subi v167 c512_i32
  let c8_i32 : BitVec 32 := 8#32
  let v534 : BitVec 32 := Scalar.muli v533 c8_i32
  v534
def k0_cond31 (v167 : BitVec 32) (v168 : BitVec 32) : BitVec 1 :=
  let v169 : BitVec 1 := Scalar.cmpi .sgt v167 v168
  let v170 : BitVec 32 := Scalar.extui v169
  let c0_i32_76 : BitVec 32 := 0#32
  let v171 : BitVec 1 := Scalar.cmpi .ne v170 c0_i32_76
  v171

def k0_off30 (v167 : BitVec 32) : Fin 2 → Nat :=
  let c512_i32 : BitVec 32 := 512#32
  let v533 : BitVec 32 := Scalar.subi v167 c512_i32
  let c8_i32 : BitVec 32 := 8#32
  let v534 : BitVec 32 := Scalar.muli v533 c8_i32
  let v535 : BitVec 32 := v534
  let c0_i32_274 : BitVec 32 := 0#32
  ![v535.toNat, 0]

def k0_chk30 (i : grid0.Coords) (v167 : BitVec 32) (v168 : BitVec 32) : Prop :=
  (∀ (k0_h1 : k0_cond1 i = 1#1), ∀ (k0_h31 : k0_cond31 v167 v168 = 1#1), 4096 ∣ (k0_mult30 v167).toNat) ∧
  (∀ (k0_h1 : k0_cond1 i = 1#1), ∀ (k0_h31 : k0_cond31 v167 v168 = 1#1), ∀ a, (k0_off30 v167) a + S4096x128.size a ≤ S655360x128.size a)
theorem k0_mult30_dvd : ∀ (i : grid0.Coords) (v167 : BitVec 32) (v168 : BitVec 32) (k0_hw30 : k0_chk30 i v167 v168), ∀ (k0_h1 : k0_cond1 i = 1#1), ∀ (k0_h31 : k0_cond31 v167 v168 = 1#1), 4096 ∣ (k0_mult30 v167).toNat := fun i v167 v168 k0_hw30 k0_h1 k0_h31 => k0_hw30.1 k0_h1 k0_h31
theorem k0_off30_inb : ∀ (i : grid0.Coords) (v167 : BitVec 32) (v168 : BitVec 32) (k0_hw30 : k0_chk30 i v167 v168), ∀ (k0_h1 : k0_cond1 i = 1#1), ∀ (k0_h31 : k0_cond31 v167 v168 = 1#1), ∀ a, (k0_off30 v167) a + S4096x128.size a ≤ S655360x128.size a := fun i v167 v168 k0_hw30 k0_h1 k0_h31 => k0_hw30.2 k0_h1 k0_h31

def k0_mult31 (v172 : BitVec 32) : BitVec 32 :=
  let c512_i32 : BitVec 32 := 512#32
  let v533 : BitVec 32 := Scalar.subi v172 c512_i32
  let c8_i32 : BitVec 32 := 8#32
  let v534 : BitVec 32 := Scalar.muli v533 c8_i32
  v534
def k0_cond32 (v172 : BitVec 32) (v173 : BitVec 32) : BitVec 1 :=
  let v174 : BitVec 1 := Scalar.cmpi .sgt v172 v173
  let v175 : BitVec 32 := Scalar.extui v174
  let c0_i32_78 : BitVec 32 := 0#32
  let v176 : BitVec 1 := Scalar.cmpi .ne v175 c0_i32_78
  v176

def k0_off31 (v172 : BitVec 32) : Fin 2 → Nat :=
  let c512_i32 : BitVec 32 := 512#32
  let v533 : BitVec 32 := Scalar.subi v172 c512_i32
  let c8_i32 : BitVec 32 := 8#32
  let v534 : BitVec 32 := Scalar.muli v533 c8_i32
  let v535 : BitVec 32 := v534
  let c0_i32_274 : BitVec 32 := 0#32
  ![v535.toNat, 0]

def k0_chk31 (i : grid0.Coords) (v172 : BitVec 32) (v173 : BitVec 32) : Prop :=
  (∀ (k0_h1 : k0_cond1 i = 1#1), ∀ (k0_h32 : k0_cond32 v172 v173 = 1#1), 4096 ∣ (k0_mult31 v172).toNat) ∧
  (∀ (k0_h1 : k0_cond1 i = 1#1), ∀ (k0_h32 : k0_cond32 v172 v173 = 1#1), ∀ a, (k0_off31 v172) a + S4096x128.size a ≤ S655360x128.size a)
theorem k0_mult31_dvd : ∀ (i : grid0.Coords) (v172 : BitVec 32) (v173 : BitVec 32) (k0_hw31 : k0_chk31 i v172 v173), ∀ (k0_h1 : k0_cond1 i = 1#1), ∀ (k0_h32 : k0_cond32 v172 v173 = 1#1), 4096 ∣ (k0_mult31 v172).toNat := fun i v172 v173 k0_hw31 k0_h1 k0_h32 => k0_hw31.1 k0_h1 k0_h32
theorem k0_off31_inb : ∀ (i : grid0.Coords) (v172 : BitVec 32) (v173 : BitVec 32) (k0_hw31 : k0_chk31 i v172 v173), ∀ (k0_h1 : k0_cond1 i = 1#1), ∀ (k0_h32 : k0_cond32 v172 v173 = 1#1), ∀ a, (k0_off31 v172) a + S4096x128.size a ≤ S655360x128.size a := fun i v172 v173 k0_hw31 k0_h1 k0_h32 => k0_hw31.2 k0_h1 k0_h32

def k0_mult32 (v177 : BitVec 32) : BitVec 32 :=
  let c512_i32 : BitVec 32 := 512#32
  let v533 : BitVec 32 := Scalar.subi v177 c512_i32
  let c8_i32 : BitVec 32 := 8#32
  let v534 : BitVec 32 := Scalar.muli v533 c8_i32
  v534
def k0_cond33 (v177 : BitVec 32) (v178 : BitVec 32) : BitVec 1 :=
  let v179 : BitVec 1 := Scalar.cmpi .sgt v177 v178
  let v180 : BitVec 32 := Scalar.extui v179
  let c0_i32_81 : BitVec 32 := 0#32
  let v181 : BitVec 1 := Scalar.cmpi .ne v180 c0_i32_81
  v181

def k0_off32 (v177 : BitVec 32) : Fin 2 → Nat :=
  let c512_i32 : BitVec 32 := 512#32
  let v533 : BitVec 32 := Scalar.subi v177 c512_i32
  let c8_i32 : BitVec 32 := 8#32
  let v534 : BitVec 32 := Scalar.muli v533 c8_i32
  let v535 : BitVec 32 := v534
  let c0_i32_274 : BitVec 32 := 0#32
  ![v535.toNat, 0]

def k0_chk32 (i : grid0.Coords) (v177 : BitVec 32) (v178 : BitVec 32) : Prop :=
  (∀ (k0_h1 : k0_cond1 i = 1#1), ∀ (k0_h33 : k0_cond33 v177 v178 = 1#1), 4096 ∣ (k0_mult32 v177).toNat) ∧
  (∀ (k0_h1 : k0_cond1 i = 1#1), ∀ (k0_h33 : k0_cond33 v177 v178 = 1#1), ∀ a, (k0_off32 v177) a + S4096x128.size a ≤ S655360x128.size a)
theorem k0_mult32_dvd : ∀ (i : grid0.Coords) (v177 : BitVec 32) (v178 : BitVec 32) (k0_hw32 : k0_chk32 i v177 v178), ∀ (k0_h1 : k0_cond1 i = 1#1), ∀ (k0_h33 : k0_cond33 v177 v178 = 1#1), 4096 ∣ (k0_mult32 v177).toNat := fun i v177 v178 k0_hw32 k0_h1 k0_h33 => k0_hw32.1 k0_h1 k0_h33
theorem k0_off32_inb : ∀ (i : grid0.Coords) (v177 : BitVec 32) (v178 : BitVec 32) (k0_hw32 : k0_chk32 i v177 v178), ∀ (k0_h1 : k0_cond1 i = 1#1), ∀ (k0_h33 : k0_cond33 v177 v178 = 1#1), ∀ a, (k0_off32 v177) a + S4096x128.size a ≤ S655360x128.size a := fun i v177 v178 k0_hw32 k0_h1 k0_h33 => k0_hw32.2 k0_h1 k0_h33

def k0_mult33 (v278 : BitVec 32) : BitVec 32 :=
  let c512_i32 : BitVec 32 := 512#32
  let v533 : BitVec 32 := Scalar.subi v278 c512_i32
  let c8_i32 : BitVec 32 := 8#32
  let v534 : BitVec 32 := Scalar.muli v533 c8_i32
  v534
def k0_cond66 (v278 : BitVec 32) : BitVec 1 :=
  let c0_i32_115 : BitVec 32 := 0#32
  let v279 : BitVec 1 := Scalar.cmpi .sgt v278 c0_i32_115
  let v280 : BitVec 32 := Scalar.extui v279
  let c0_i32_116 : BitVec 32 := 0#32
  let v281 : BitVec 1 := Scalar.cmpi .ne v280 c0_i32_116
  v281

def k0_off33 (v278 : BitVec 32) : Fin 2 → Nat :=
  let c512_i32 : BitVec 32 := 512#32
  let v533 : BitVec 32 := Scalar.subi v278 c512_i32
  let c8_i32 : BitVec 32 := 8#32
  let v534 : BitVec 32 := Scalar.muli v533 c8_i32
  let v535 : BitVec 32 := v534
  let c0_i32_274 : BitVec 32 := 0#32
  ![v535.toNat, 0]

def k0_chk33 (i : grid0.Coords) (v278 : BitVec 32) : Prop :=
  (∀ (k0_h1 : k0_cond1 i = 1#1), ∀ (k0_h66 : k0_cond66 v278 = 1#1), 4096 ∣ (k0_mult33 v278).toNat) ∧
  (∀ (k0_h1 : k0_cond1 i = 1#1), ∀ (k0_h66 : k0_cond66 v278 = 1#1), ∀ a, (k0_off33 v278) a + S4096x128.size a ≤ S655360x128.size a)
theorem k0_mult33_dvd : ∀ (i : grid0.Coords) (v278 : BitVec 32) (k0_hw33 : k0_chk33 i v278), ∀ (k0_h1 : k0_cond1 i = 1#1), ∀ (k0_h66 : k0_cond66 v278 = 1#1), 4096 ∣ (k0_mult33 v278).toNat := fun i v278 k0_hw33 k0_h1 k0_h66 => k0_hw33.1 k0_h1 k0_h66
theorem k0_off33_inb : ∀ (i : grid0.Coords) (v278 : BitVec 32) (k0_hw33 : k0_chk33 i v278), ∀ (k0_h1 : k0_cond1 i = 1#1), ∀ (k0_h66 : k0_cond66 v278 = 1#1), ∀ a, (k0_off33 v278) a + S4096x128.size a ≤ S655360x128.size a := fun i v278 k0_hw33 k0_h1 k0_h66 => k0_hw33.2 k0_h1 k0_h66

def k0_mult34 (v282 : BitVec 32) : BitVec 32 :=
  let c512_i32 : BitVec 32 := 512#32
  let v533 : BitVec 32 := Scalar.subi v282 c512_i32
  let c8_i32 : BitVec 32 := 8#32
  let v534 : BitVec 32 := Scalar.muli v533 c8_i32
  v534
def k0_cond67 (v282 : BitVec 32) (v283 : BitVec 32) : BitVec 1 :=
  let v284 : BitVec 1 := Scalar.cmpi .sgt v282 v283
  let v285 : BitVec 32 := Scalar.extui v284
  let c0_i32_119 : BitVec 32 := 0#32
  let v286 : BitVec 1 := Scalar.cmpi .ne v285 c0_i32_119
  v286

def k0_off34 (v282 : BitVec 32) : Fin 2 → Nat :=
  let c512_i32 : BitVec 32 := 512#32
  let v533 : BitVec 32 := Scalar.subi v282 c512_i32
  let c8_i32 : BitVec 32 := 8#32
  let v534 : BitVec 32 := Scalar.muli v533 c8_i32
  let v535 : BitVec 32 := v534
  let c0_i32_274 : BitVec 32 := 0#32
  ![v535.toNat, 0]

def k0_chk34 (i : grid0.Coords) (v282 : BitVec 32) (v283 : BitVec 32) : Prop :=
  (∀ (k0_h1 : k0_cond1 i = 1#1), ∀ (k0_h67 : k0_cond67 v282 v283 = 1#1), 4096 ∣ (k0_mult34 v282).toNat) ∧
  (∀ (k0_h1 : k0_cond1 i = 1#1), ∀ (k0_h67 : k0_cond67 v282 v283 = 1#1), ∀ a, (k0_off34 v282) a + S4096x128.size a ≤ S655360x128.size a)
theorem k0_mult34_dvd : ∀ (i : grid0.Coords) (v282 : BitVec 32) (v283 : BitVec 32) (k0_hw34 : k0_chk34 i v282 v283), ∀ (k0_h1 : k0_cond1 i = 1#1), ∀ (k0_h67 : k0_cond67 v282 v283 = 1#1), 4096 ∣ (k0_mult34 v282).toNat := fun i v282 v283 k0_hw34 k0_h1 k0_h67 => k0_hw34.1 k0_h1 k0_h67
theorem k0_off34_inb : ∀ (i : grid0.Coords) (v282 : BitVec 32) (v283 : BitVec 32) (k0_hw34 : k0_chk34 i v282 v283), ∀ (k0_h1 : k0_cond1 i = 1#1), ∀ (k0_h67 : k0_cond67 v282 v283 = 1#1), ∀ a, (k0_off34 v282) a + S4096x128.size a ≤ S655360x128.size a := fun i v282 v283 k0_hw34 k0_h1 k0_h67 => k0_hw34.2 k0_h1 k0_h67

def k0_mult35 (v287 : BitVec 32) : BitVec 32 :=
  let c512_i32 : BitVec 32 := 512#32
  let v533 : BitVec 32 := Scalar.subi v287 c512_i32
  let c8_i32 : BitVec 32 := 8#32
  let v534 : BitVec 32 := Scalar.muli v533 c8_i32
  v534
def k0_cond68 (v287 : BitVec 32) (v288 : BitVec 32) : BitVec 1 :=
  let v289 : BitVec 1 := Scalar.cmpi .sgt v287 v288
  let v290 : BitVec 32 := Scalar.extui v289
  let c0_i32_122 : BitVec 32 := 0#32
  let v291 : BitVec 1 := Scalar.cmpi .ne v290 c0_i32_122
  v291

def k0_off35 (v287 : BitVec 32) : Fin 2 → Nat :=
  let c512_i32 : BitVec 32 := 512#32
  let v533 : BitVec 32 := Scalar.subi v287 c512_i32
  let c8_i32 : BitVec 32 := 8#32
  let v534 : BitVec 32 := Scalar.muli v533 c8_i32
  let v535 : BitVec 32 := v534
  let c0_i32_274 : BitVec 32 := 0#32
  ![v535.toNat, 0]

def k0_chk35 (i : grid0.Coords) (v287 : BitVec 32) (v288 : BitVec 32) : Prop :=
  (∀ (k0_h1 : k0_cond1 i = 1#1), ∀ (k0_h68 : k0_cond68 v287 v288 = 1#1), 4096 ∣ (k0_mult35 v287).toNat) ∧
  (∀ (k0_h1 : k0_cond1 i = 1#1), ∀ (k0_h68 : k0_cond68 v287 v288 = 1#1), ∀ a, (k0_off35 v287) a + S4096x128.size a ≤ S655360x128.size a)
theorem k0_mult35_dvd : ∀ (i : grid0.Coords) (v287 : BitVec 32) (v288 : BitVec 32) (k0_hw35 : k0_chk35 i v287 v288), ∀ (k0_h1 : k0_cond1 i = 1#1), ∀ (k0_h68 : k0_cond68 v287 v288 = 1#1), 4096 ∣ (k0_mult35 v287).toNat := fun i v287 v288 k0_hw35 k0_h1 k0_h68 => k0_hw35.1 k0_h1 k0_h68
theorem k0_off35_inb : ∀ (i : grid0.Coords) (v287 : BitVec 32) (v288 : BitVec 32) (k0_hw35 : k0_chk35 i v287 v288), ∀ (k0_h1 : k0_cond1 i = 1#1), ∀ (k0_h68 : k0_cond68 v287 v288 = 1#1), ∀ a, (k0_off35 v287) a + S4096x128.size a ≤ S655360x128.size a := fun i v287 v288 k0_hw35 k0_h1 k0_h68 => k0_hw35.2 k0_h1 k0_h68

def k0_mult36 (v292 : BitVec 32) : BitVec 32 :=
  let c512_i32 : BitVec 32 := 512#32
  let v533 : BitVec 32 := Scalar.subi v292 c512_i32
  let c8_i32 : BitVec 32 := 8#32
  let v534 : BitVec 32 := Scalar.muli v533 c8_i32
  v534
def k0_cond69 (v292 : BitVec 32) (v293 : BitVec 32) : BitVec 1 :=
  let v294 : BitVec 1 := Scalar.cmpi .sgt v292 v293
  let v295 : BitVec 32 := Scalar.extui v294
  let c0_i32_125 : BitVec 32 := 0#32
  let v296 : BitVec 1 := Scalar.cmpi .ne v295 c0_i32_125
  v296

def k0_off36 (v292 : BitVec 32) : Fin 2 → Nat :=
  let c512_i32 : BitVec 32 := 512#32
  let v533 : BitVec 32 := Scalar.subi v292 c512_i32
  let c8_i32 : BitVec 32 := 8#32
  let v534 : BitVec 32 := Scalar.muli v533 c8_i32
  let v535 : BitVec 32 := v534
  let c0_i32_274 : BitVec 32 := 0#32
  ![v535.toNat, 0]

def k0_chk36 (i : grid0.Coords) (v292 : BitVec 32) (v293 : BitVec 32) : Prop :=
  (∀ (k0_h1 : k0_cond1 i = 1#1), ∀ (k0_h69 : k0_cond69 v292 v293 = 1#1), 4096 ∣ (k0_mult36 v292).toNat) ∧
  (∀ (k0_h1 : k0_cond1 i = 1#1), ∀ (k0_h69 : k0_cond69 v292 v293 = 1#1), ∀ a, (k0_off36 v292) a + S4096x128.size a ≤ S655360x128.size a)
theorem k0_mult36_dvd : ∀ (i : grid0.Coords) (v292 : BitVec 32) (v293 : BitVec 32) (k0_hw36 : k0_chk36 i v292 v293), ∀ (k0_h1 : k0_cond1 i = 1#1), ∀ (k0_h69 : k0_cond69 v292 v293 = 1#1), 4096 ∣ (k0_mult36 v292).toNat := fun i v292 v293 k0_hw36 k0_h1 k0_h69 => k0_hw36.1 k0_h1 k0_h69
theorem k0_off36_inb : ∀ (i : grid0.Coords) (v292 : BitVec 32) (v293 : BitVec 32) (k0_hw36 : k0_chk36 i v292 v293), ∀ (k0_h1 : k0_cond1 i = 1#1), ∀ (k0_h69 : k0_cond69 v292 v293 = 1#1), ∀ a, (k0_off36 v292) a + S4096x128.size a ≤ S655360x128.size a := fun i v292 v293 k0_hw36 k0_h1 k0_h69 => k0_hw36.2 k0_h1 k0_h69

def k0_mult37 (v297 : BitVec 32) : BitVec 32 :=
  let c512_i32 : BitVec 32 := 512#32
  let v533 : BitVec 32 := Scalar.subi v297 c512_i32
  let c8_i32 : BitVec 32 := 8#32
  let v534 : BitVec 32 := Scalar.muli v533 c8_i32
  v534
def k0_cond70 (v297 : BitVec 32) (v298 : BitVec 32) : BitVec 1 :=
  let v299 : BitVec 1 := Scalar.cmpi .sgt v297 v298
  let v300 : BitVec 32 := Scalar.extui v299
  let c0_i32_128 : BitVec 32 := 0#32
  let v301 : BitVec 1 := Scalar.cmpi .ne v300 c0_i32_128
  v301

def k0_off37 (v297 : BitVec 32) : Fin 2 → Nat :=
  let c512_i32 : BitVec 32 := 512#32
  let v533 : BitVec 32 := Scalar.subi v297 c512_i32
  let c8_i32 : BitVec 32 := 8#32
  let v534 : BitVec 32 := Scalar.muli v533 c8_i32
  let v535 : BitVec 32 := v534
  let c0_i32_274 : BitVec 32 := 0#32
  ![v535.toNat, 0]

def k0_chk37 (i : grid0.Coords) (v297 : BitVec 32) (v298 : BitVec 32) : Prop :=
  (∀ (k0_h1 : k0_cond1 i = 1#1), ∀ (k0_h70 : k0_cond70 v297 v298 = 1#1), 4096 ∣ (k0_mult37 v297).toNat) ∧
  (∀ (k0_h1 : k0_cond1 i = 1#1), ∀ (k0_h70 : k0_cond70 v297 v298 = 1#1), ∀ a, (k0_off37 v297) a + S4096x128.size a ≤ S655360x128.size a)
theorem k0_mult37_dvd : ∀ (i : grid0.Coords) (v297 : BitVec 32) (v298 : BitVec 32) (k0_hw37 : k0_chk37 i v297 v298), ∀ (k0_h1 : k0_cond1 i = 1#1), ∀ (k0_h70 : k0_cond70 v297 v298 = 1#1), 4096 ∣ (k0_mult37 v297).toNat := fun i v297 v298 k0_hw37 k0_h1 k0_h70 => k0_hw37.1 k0_h1 k0_h70
theorem k0_off37_inb : ∀ (i : grid0.Coords) (v297 : BitVec 32) (v298 : BitVec 32) (k0_hw37 : k0_chk37 i v297 v298), ∀ (k0_h1 : k0_cond1 i = 1#1), ∀ (k0_h70 : k0_cond70 v297 v298 = 1#1), ∀ a, (k0_off37 v297) a + S4096x128.size a ≤ S655360x128.size a := fun i v297 v298 k0_hw37 k0_h1 k0_h70 => k0_hw37.2 k0_h1 k0_h70

def k0_mult38 (v302 : BitVec 32) : BitVec 32 :=
  let c512_i32 : BitVec 32 := 512#32
  let v533 : BitVec 32 := Scalar.subi v302 c512_i32
  let c8_i32 : BitVec 32 := 8#32
  let v534 : BitVec 32 := Scalar.muli v533 c8_i32
  v534
def k0_cond71 (v302 : BitVec 32) (v303 : BitVec 32) : BitVec 1 :=
  let v304 : BitVec 1 := Scalar.cmpi .sgt v302 v303
  let v305 : BitVec 32 := Scalar.extui v304
  let c0_i32_131 : BitVec 32 := 0#32
  let v306 : BitVec 1 := Scalar.cmpi .ne v305 c0_i32_131
  v306

def k0_off38 (v302 : BitVec 32) : Fin 2 → Nat :=
  let c512_i32 : BitVec 32 := 512#32
  let v533 : BitVec 32 := Scalar.subi v302 c512_i32
  let c8_i32 : BitVec 32 := 8#32
  let v534 : BitVec 32 := Scalar.muli v533 c8_i32
  let v535 : BitVec 32 := v534
  let c0_i32_274 : BitVec 32 := 0#32
  ![v535.toNat, 0]

def k0_chk38 (i : grid0.Coords) (v302 : BitVec 32) (v303 : BitVec 32) : Prop :=
  (∀ (k0_h1 : k0_cond1 i = 1#1), ∀ (k0_h71 : k0_cond71 v302 v303 = 1#1), 4096 ∣ (k0_mult38 v302).toNat) ∧
  (∀ (k0_h1 : k0_cond1 i = 1#1), ∀ (k0_h71 : k0_cond71 v302 v303 = 1#1), ∀ a, (k0_off38 v302) a + S4096x128.size a ≤ S655360x128.size a)
theorem k0_mult38_dvd : ∀ (i : grid0.Coords) (v302 : BitVec 32) (v303 : BitVec 32) (k0_hw38 : k0_chk38 i v302 v303), ∀ (k0_h1 : k0_cond1 i = 1#1), ∀ (k0_h71 : k0_cond71 v302 v303 = 1#1), 4096 ∣ (k0_mult38 v302).toNat := fun i v302 v303 k0_hw38 k0_h1 k0_h71 => k0_hw38.1 k0_h1 k0_h71
theorem k0_off38_inb : ∀ (i : grid0.Coords) (v302 : BitVec 32) (v303 : BitVec 32) (k0_hw38 : k0_chk38 i v302 v303), ∀ (k0_h1 : k0_cond1 i = 1#1), ∀ (k0_h71 : k0_cond71 v302 v303 = 1#1), ∀ a, (k0_off38 v302) a + S4096x128.size a ≤ S655360x128.size a := fun i v302 v303 k0_hw38 k0_h1 k0_h71 => k0_hw38.2 k0_h1 k0_h71

def k0_mult39 (v307 : BitVec 32) : BitVec 32 :=
  let c512_i32 : BitVec 32 := 512#32
  let v533 : BitVec 32 := Scalar.subi v307 c512_i32
  let c8_i32 : BitVec 32 := 8#32
  let v534 : BitVec 32 := Scalar.muli v533 c8_i32
  v534
def k0_cond72 (v307 : BitVec 32) (v308 : BitVec 32) : BitVec 1 :=
  let v309 : BitVec 1 := Scalar.cmpi .sgt v307 v308
  let v310 : BitVec 32 := Scalar.extui v309
  let c0_i32_134 : BitVec 32 := 0#32
  let v311 : BitVec 1 := Scalar.cmpi .ne v310 c0_i32_134
  v311

def k0_off39 (v307 : BitVec 32) : Fin 2 → Nat :=
  let c512_i32 : BitVec 32 := 512#32
  let v533 : BitVec 32 := Scalar.subi v307 c512_i32
  let c8_i32 : BitVec 32 := 8#32
  let v534 : BitVec 32 := Scalar.muli v533 c8_i32
  let v535 : BitVec 32 := v534
  let c0_i32_274 : BitVec 32 := 0#32
  ![v535.toNat, 0]

def k0_chk39 (i : grid0.Coords) (v307 : BitVec 32) (v308 : BitVec 32) : Prop :=
  (∀ (k0_h1 : k0_cond1 i = 1#1), ∀ (k0_h72 : k0_cond72 v307 v308 = 1#1), 4096 ∣ (k0_mult39 v307).toNat) ∧
  (∀ (k0_h1 : k0_cond1 i = 1#1), ∀ (k0_h72 : k0_cond72 v307 v308 = 1#1), ∀ a, (k0_off39 v307) a + S4096x128.size a ≤ S655360x128.size a)
theorem k0_mult39_dvd : ∀ (i : grid0.Coords) (v307 : BitVec 32) (v308 : BitVec 32) (k0_hw39 : k0_chk39 i v307 v308), ∀ (k0_h1 : k0_cond1 i = 1#1), ∀ (k0_h72 : k0_cond72 v307 v308 = 1#1), 4096 ∣ (k0_mult39 v307).toNat := fun i v307 v308 k0_hw39 k0_h1 k0_h72 => k0_hw39.1 k0_h1 k0_h72
theorem k0_off39_inb : ∀ (i : grid0.Coords) (v307 : BitVec 32) (v308 : BitVec 32) (k0_hw39 : k0_chk39 i v307 v308), ∀ (k0_h1 : k0_cond1 i = 1#1), ∀ (k0_h72 : k0_cond72 v307 v308 = 1#1), ∀ a, (k0_off39 v307) a + S4096x128.size a ≤ S655360x128.size a := fun i v307 v308 k0_hw39 k0_h1 k0_h72 => k0_hw39.2 k0_h1 k0_h72

def k0_mult40 (v312 : BitVec 32) : BitVec 32 :=
  let c512_i32 : BitVec 32 := 512#32
  let v533 : BitVec 32 := Scalar.subi v312 c512_i32
  let c8_i32 : BitVec 32 := 8#32
  let v534 : BitVec 32 := Scalar.muli v533 c8_i32
  v534
def k0_cond73 (v312 : BitVec 32) (v313 : BitVec 32) : BitVec 1 :=
  let v314 : BitVec 1 := Scalar.cmpi .sgt v312 v313
  let v315 : BitVec 32 := Scalar.extui v314
  let c0_i32_137 : BitVec 32 := 0#32
  let v316 : BitVec 1 := Scalar.cmpi .ne v315 c0_i32_137
  v316

def k0_off40 (v312 : BitVec 32) : Fin 2 → Nat :=
  let c512_i32 : BitVec 32 := 512#32
  let v533 : BitVec 32 := Scalar.subi v312 c512_i32
  let c8_i32 : BitVec 32 := 8#32
  let v534 : BitVec 32 := Scalar.muli v533 c8_i32
  let v535 : BitVec 32 := v534
  let c0_i32_274 : BitVec 32 := 0#32
  ![v535.toNat, 0]

def k0_chk40 (i : grid0.Coords) (v312 : BitVec 32) (v313 : BitVec 32) : Prop :=
  (∀ (k0_h1 : k0_cond1 i = 1#1), ∀ (k0_h73 : k0_cond73 v312 v313 = 1#1), 4096 ∣ (k0_mult40 v312).toNat) ∧
  (∀ (k0_h1 : k0_cond1 i = 1#1), ∀ (k0_h73 : k0_cond73 v312 v313 = 1#1), ∀ a, (k0_off40 v312) a + S4096x128.size a ≤ S655360x128.size a)
theorem k0_mult40_dvd : ∀ (i : grid0.Coords) (v312 : BitVec 32) (v313 : BitVec 32) (k0_hw40 : k0_chk40 i v312 v313), ∀ (k0_h1 : k0_cond1 i = 1#1), ∀ (k0_h73 : k0_cond73 v312 v313 = 1#1), 4096 ∣ (k0_mult40 v312).toNat := fun i v312 v313 k0_hw40 k0_h1 k0_h73 => k0_hw40.1 k0_h1 k0_h73
theorem k0_off40_inb : ∀ (i : grid0.Coords) (v312 : BitVec 32) (v313 : BitVec 32) (k0_hw40 : k0_chk40 i v312 v313), ∀ (k0_h1 : k0_cond1 i = 1#1), ∀ (k0_h73 : k0_cond73 v312 v313 = 1#1), ∀ a, (k0_off40 v312) a + S4096x128.size a ≤ S655360x128.size a := fun i v312 v313 k0_hw40 k0_h1 k0_h73 => k0_hw40.2 k0_h1 k0_h73

def k0_mult41 (v317 : BitVec 32) : BitVec 32 :=
  let c512_i32 : BitVec 32 := 512#32
  let v533 : BitVec 32 := Scalar.subi v317 c512_i32
  let c8_i32 : BitVec 32 := 8#32
  let v534 : BitVec 32 := Scalar.muli v533 c8_i32
  v534
def k0_cond74 (v317 : BitVec 32) (v318 : BitVec 32) : BitVec 1 :=
  let v319 : BitVec 1 := Scalar.cmpi .sgt v317 v318
  let v320 : BitVec 32 := Scalar.extui v319
  let c0_i32_140 : BitVec 32 := 0#32
  let v321 : BitVec 1 := Scalar.cmpi .ne v320 c0_i32_140
  v321

def k0_off41 (v317 : BitVec 32) : Fin 2 → Nat :=
  let c512_i32 : BitVec 32 := 512#32
  let v533 : BitVec 32 := Scalar.subi v317 c512_i32
  let c8_i32 : BitVec 32 := 8#32
  let v534 : BitVec 32 := Scalar.muli v533 c8_i32
  let v535 : BitVec 32 := v534
  let c0_i32_274 : BitVec 32 := 0#32
  ![v535.toNat, 0]

def k0_chk41 (i : grid0.Coords) (v317 : BitVec 32) (v318 : BitVec 32) : Prop :=
  (∀ (k0_h1 : k0_cond1 i = 1#1), ∀ (k0_h74 : k0_cond74 v317 v318 = 1#1), 4096 ∣ (k0_mult41 v317).toNat) ∧
  (∀ (k0_h1 : k0_cond1 i = 1#1), ∀ (k0_h74 : k0_cond74 v317 v318 = 1#1), ∀ a, (k0_off41 v317) a + S4096x128.size a ≤ S655360x128.size a)
theorem k0_mult41_dvd : ∀ (i : grid0.Coords) (v317 : BitVec 32) (v318 : BitVec 32) (k0_hw41 : k0_chk41 i v317 v318), ∀ (k0_h1 : k0_cond1 i = 1#1), ∀ (k0_h74 : k0_cond74 v317 v318 = 1#1), 4096 ∣ (k0_mult41 v317).toNat := fun i v317 v318 k0_hw41 k0_h1 k0_h74 => k0_hw41.1 k0_h1 k0_h74
theorem k0_off41_inb : ∀ (i : grid0.Coords) (v317 : BitVec 32) (v318 : BitVec 32) (k0_hw41 : k0_chk41 i v317 v318), ∀ (k0_h1 : k0_cond1 i = 1#1), ∀ (k0_h74 : k0_cond74 v317 v318 = 1#1), ∀ a, (k0_off41 v317) a + S4096x128.size a ≤ S655360x128.size a := fun i v317 v318 k0_hw41 k0_h1 k0_h74 => k0_hw41.2 k0_h1 k0_h74

def k0_mult42 (v322 : BitVec 32) : BitVec 32 :=
  let c512_i32 : BitVec 32 := 512#32
  let v533 : BitVec 32 := Scalar.subi v322 c512_i32
  let c8_i32 : BitVec 32 := 8#32
  let v534 : BitVec 32 := Scalar.muli v533 c8_i32
  v534
def k0_cond75 (v322 : BitVec 32) (v323 : BitVec 32) : BitVec 1 :=
  let v324 : BitVec 1 := Scalar.cmpi .sgt v322 v323
  let v325 : BitVec 32 := Scalar.extui v324
  let c0_i32_143 : BitVec 32 := 0#32
  let v326 : BitVec 1 := Scalar.cmpi .ne v325 c0_i32_143
  v326

def k0_off42 (v322 : BitVec 32) : Fin 2 → Nat :=
  let c512_i32 : BitVec 32 := 512#32
  let v533 : BitVec 32 := Scalar.subi v322 c512_i32
  let c8_i32 : BitVec 32 := 8#32
  let v534 : BitVec 32 := Scalar.muli v533 c8_i32
  let v535 : BitVec 32 := v534
  let c0_i32_274 : BitVec 32 := 0#32
  ![v535.toNat, 0]

def k0_chk42 (i : grid0.Coords) (v322 : BitVec 32) (v323 : BitVec 32) : Prop :=
  (∀ (k0_h1 : k0_cond1 i = 1#1), ∀ (k0_h75 : k0_cond75 v322 v323 = 1#1), 4096 ∣ (k0_mult42 v322).toNat) ∧
  (∀ (k0_h1 : k0_cond1 i = 1#1), ∀ (k0_h75 : k0_cond75 v322 v323 = 1#1), ∀ a, (k0_off42 v322) a + S4096x128.size a ≤ S655360x128.size a)
theorem k0_mult42_dvd : ∀ (i : grid0.Coords) (v322 : BitVec 32) (v323 : BitVec 32) (k0_hw42 : k0_chk42 i v322 v323), ∀ (k0_h1 : k0_cond1 i = 1#1), ∀ (k0_h75 : k0_cond75 v322 v323 = 1#1), 4096 ∣ (k0_mult42 v322).toNat := fun i v322 v323 k0_hw42 k0_h1 k0_h75 => k0_hw42.1 k0_h1 k0_h75
theorem k0_off42_inb : ∀ (i : grid0.Coords) (v322 : BitVec 32) (v323 : BitVec 32) (k0_hw42 : k0_chk42 i v322 v323), ∀ (k0_h1 : k0_cond1 i = 1#1), ∀ (k0_h75 : k0_cond75 v322 v323 = 1#1), ∀ a, (k0_off42 v322) a + S4096x128.size a ≤ S655360x128.size a := fun i v322 v323 k0_hw42 k0_h1 k0_h75 => k0_hw42.2 k0_h1 k0_h75

def k0_mult43 (v327 : BitVec 32) : BitVec 32 :=
  let c512_i32 : BitVec 32 := 512#32
  let v533 : BitVec 32 := Scalar.subi v327 c512_i32
  let c8_i32 : BitVec 32 := 8#32
  let v534 : BitVec 32 := Scalar.muli v533 c8_i32
  v534
def k0_cond76 (v327 : BitVec 32) (v328 : BitVec 32) : BitVec 1 :=
  let v329 : BitVec 1 := Scalar.cmpi .sgt v327 v328
  let v330 : BitVec 32 := Scalar.extui v329
  let c0_i32_146 : BitVec 32 := 0#32
  let v331 : BitVec 1 := Scalar.cmpi .ne v330 c0_i32_146
  v331

def k0_off43 (v327 : BitVec 32) : Fin 2 → Nat :=
  let c512_i32 : BitVec 32 := 512#32
  let v533 : BitVec 32 := Scalar.subi v327 c512_i32
  let c8_i32 : BitVec 32 := 8#32
  let v534 : BitVec 32 := Scalar.muli v533 c8_i32
  let v535 : BitVec 32 := v534
  let c0_i32_274 : BitVec 32 := 0#32
  ![v535.toNat, 0]

def k0_chk43 (i : grid0.Coords) (v327 : BitVec 32) (v328 : BitVec 32) : Prop :=
  (∀ (k0_h1 : k0_cond1 i = 1#1), ∀ (k0_h76 : k0_cond76 v327 v328 = 1#1), 4096 ∣ (k0_mult43 v327).toNat) ∧
  (∀ (k0_h1 : k0_cond1 i = 1#1), ∀ (k0_h76 : k0_cond76 v327 v328 = 1#1), ∀ a, (k0_off43 v327) a + S4096x128.size a ≤ S655360x128.size a)
theorem k0_mult43_dvd : ∀ (i : grid0.Coords) (v327 : BitVec 32) (v328 : BitVec 32) (k0_hw43 : k0_chk43 i v327 v328), ∀ (k0_h1 : k0_cond1 i = 1#1), ∀ (k0_h76 : k0_cond76 v327 v328 = 1#1), 4096 ∣ (k0_mult43 v327).toNat := fun i v327 v328 k0_hw43 k0_h1 k0_h76 => k0_hw43.1 k0_h1 k0_h76
theorem k0_off43_inb : ∀ (i : grid0.Coords) (v327 : BitVec 32) (v328 : BitVec 32) (k0_hw43 : k0_chk43 i v327 v328), ∀ (k0_h1 : k0_cond1 i = 1#1), ∀ (k0_h76 : k0_cond76 v327 v328 = 1#1), ∀ a, (k0_off43 v327) a + S4096x128.size a ≤ S655360x128.size a := fun i v327 v328 k0_hw43 k0_h1 k0_h76 => k0_hw43.2 k0_h1 k0_h76

def k0_mult44 (v332 : BitVec 32) : BitVec 32 :=
  let c512_i32 : BitVec 32 := 512#32
  let v533 : BitVec 32 := Scalar.subi v332 c512_i32
  let c8_i32 : BitVec 32 := 8#32
  let v534 : BitVec 32 := Scalar.muli v533 c8_i32
  v534
def k0_cond77 (v332 : BitVec 32) (v333 : BitVec 32) : BitVec 1 :=
  let v334 : BitVec 1 := Scalar.cmpi .sgt v332 v333
  let v335 : BitVec 32 := Scalar.extui v334
  let c0_i32_149 : BitVec 32 := 0#32
  let v336 : BitVec 1 := Scalar.cmpi .ne v335 c0_i32_149
  v336

def k0_off44 (v332 : BitVec 32) : Fin 2 → Nat :=
  let c512_i32 : BitVec 32 := 512#32
  let v533 : BitVec 32 := Scalar.subi v332 c512_i32
  let c8_i32 : BitVec 32 := 8#32
  let v534 : BitVec 32 := Scalar.muli v533 c8_i32
  let v535 : BitVec 32 := v534
  let c0_i32_274 : BitVec 32 := 0#32
  ![v535.toNat, 0]

def k0_chk44 (i : grid0.Coords) (v332 : BitVec 32) (v333 : BitVec 32) : Prop :=
  (∀ (k0_h1 : k0_cond1 i = 1#1), ∀ (k0_h77 : k0_cond77 v332 v333 = 1#1), 4096 ∣ (k0_mult44 v332).toNat) ∧
  (∀ (k0_h1 : k0_cond1 i = 1#1), ∀ (k0_h77 : k0_cond77 v332 v333 = 1#1), ∀ a, (k0_off44 v332) a + S4096x128.size a ≤ S655360x128.size a)
theorem k0_mult44_dvd : ∀ (i : grid0.Coords) (v332 : BitVec 32) (v333 : BitVec 32) (k0_hw44 : k0_chk44 i v332 v333), ∀ (k0_h1 : k0_cond1 i = 1#1), ∀ (k0_h77 : k0_cond77 v332 v333 = 1#1), 4096 ∣ (k0_mult44 v332).toNat := fun i v332 v333 k0_hw44 k0_h1 k0_h77 => k0_hw44.1 k0_h1 k0_h77
theorem k0_off44_inb : ∀ (i : grid0.Coords) (v332 : BitVec 32) (v333 : BitVec 32) (k0_hw44 : k0_chk44 i v332 v333), ∀ (k0_h1 : k0_cond1 i = 1#1), ∀ (k0_h77 : k0_cond77 v332 v333 = 1#1), ∀ a, (k0_off44 v332) a + S4096x128.size a ≤ S655360x128.size a := fun i v332 v333 k0_hw44 k0_h1 k0_h77 => k0_hw44.2 k0_h1 k0_h77

def k0_mult45 (v337 : BitVec 32) : BitVec 32 :=
  let c512_i32 : BitVec 32 := 512#32
  let v533 : BitVec 32 := Scalar.subi v337 c512_i32
  let c8_i32 : BitVec 32 := 8#32
  let v534 : BitVec 32 := Scalar.muli v533 c8_i32
  v534
def k0_cond78 (v337 : BitVec 32) (v338 : BitVec 32) : BitVec 1 :=
  let v339 : BitVec 1 := Scalar.cmpi .sgt v337 v338
  let v340 : BitVec 32 := Scalar.extui v339
  let c0_i32_152 : BitVec 32 := 0#32
  let v341 : BitVec 1 := Scalar.cmpi .ne v340 c0_i32_152
  v341

def k0_off45 (v337 : BitVec 32) : Fin 2 → Nat :=
  let c512_i32 : BitVec 32 := 512#32
  let v533 : BitVec 32 := Scalar.subi v337 c512_i32
  let c8_i32 : BitVec 32 := 8#32
  let v534 : BitVec 32 := Scalar.muli v533 c8_i32
  let v535 : BitVec 32 := v534
  let c0_i32_274 : BitVec 32 := 0#32
  ![v535.toNat, 0]

def k0_chk45 (i : grid0.Coords) (v337 : BitVec 32) (v338 : BitVec 32) : Prop :=
  (∀ (k0_h1 : k0_cond1 i = 1#1), ∀ (k0_h78 : k0_cond78 v337 v338 = 1#1), 4096 ∣ (k0_mult45 v337).toNat) ∧
  (∀ (k0_h1 : k0_cond1 i = 1#1), ∀ (k0_h78 : k0_cond78 v337 v338 = 1#1), ∀ a, (k0_off45 v337) a + S4096x128.size a ≤ S655360x128.size a)
theorem k0_mult45_dvd : ∀ (i : grid0.Coords) (v337 : BitVec 32) (v338 : BitVec 32) (k0_hw45 : k0_chk45 i v337 v338), ∀ (k0_h1 : k0_cond1 i = 1#1), ∀ (k0_h78 : k0_cond78 v337 v338 = 1#1), 4096 ∣ (k0_mult45 v337).toNat := fun i v337 v338 k0_hw45 k0_h1 k0_h78 => k0_hw45.1 k0_h1 k0_h78
theorem k0_off45_inb : ∀ (i : grid0.Coords) (v337 : BitVec 32) (v338 : BitVec 32) (k0_hw45 : k0_chk45 i v337 v338), ∀ (k0_h1 : k0_cond1 i = 1#1), ∀ (k0_h78 : k0_cond78 v337 v338 = 1#1), ∀ a, (k0_off45 v337) a + S4096x128.size a ≤ S655360x128.size a := fun i v337 v338 k0_hw45 k0_h1 k0_h78 => k0_hw45.2 k0_h1 k0_h78

def k0_mult46 (v342 : BitVec 32) : BitVec 32 :=
  let c512_i32 : BitVec 32 := 512#32
  let v533 : BitVec 32 := Scalar.subi v342 c512_i32
  let c8_i32 : BitVec 32 := 8#32
  let v534 : BitVec 32 := Scalar.muli v533 c8_i32
  v534
def k0_cond79 (v342 : BitVec 32) (v343 : BitVec 32) : BitVec 1 :=
  let v344 : BitVec 1 := Scalar.cmpi .sgt v342 v343
  let v345 : BitVec 32 := Scalar.extui v344
  let c0_i32_155 : BitVec 32 := 0#32
  let v346 : BitVec 1 := Scalar.cmpi .ne v345 c0_i32_155
  v346

def k0_off46 (v342 : BitVec 32) : Fin 2 → Nat :=
  let c512_i32 : BitVec 32 := 512#32
  let v533 : BitVec 32 := Scalar.subi v342 c512_i32
  let c8_i32 : BitVec 32 := 8#32
  let v534 : BitVec 32 := Scalar.muli v533 c8_i32
  let v535 : BitVec 32 := v534
  let c0_i32_274 : BitVec 32 := 0#32
  ![v535.toNat, 0]

def k0_chk46 (i : grid0.Coords) (v342 : BitVec 32) (v343 : BitVec 32) : Prop :=
  (∀ (k0_h1 : k0_cond1 i = 1#1), ∀ (k0_h79 : k0_cond79 v342 v343 = 1#1), 4096 ∣ (k0_mult46 v342).toNat) ∧
  (∀ (k0_h1 : k0_cond1 i = 1#1), ∀ (k0_h79 : k0_cond79 v342 v343 = 1#1), ∀ a, (k0_off46 v342) a + S4096x128.size a ≤ S655360x128.size a)
theorem k0_mult46_dvd : ∀ (i : grid0.Coords) (v342 : BitVec 32) (v343 : BitVec 32) (k0_hw46 : k0_chk46 i v342 v343), ∀ (k0_h1 : k0_cond1 i = 1#1), ∀ (k0_h79 : k0_cond79 v342 v343 = 1#1), 4096 ∣ (k0_mult46 v342).toNat := fun i v342 v343 k0_hw46 k0_h1 k0_h79 => k0_hw46.1 k0_h1 k0_h79
theorem k0_off46_inb : ∀ (i : grid0.Coords) (v342 : BitVec 32) (v343 : BitVec 32) (k0_hw46 : k0_chk46 i v342 v343), ∀ (k0_h1 : k0_cond1 i = 1#1), ∀ (k0_h79 : k0_cond79 v342 v343 = 1#1), ∀ a, (k0_off46 v342) a + S4096x128.size a ≤ S655360x128.size a := fun i v342 v343 k0_hw46 k0_h1 k0_h79 => k0_hw46.2 k0_h1 k0_h79

def k0_mult47 (v347 : BitVec 32) : BitVec 32 :=
  let c512_i32 : BitVec 32 := 512#32
  let v533 : BitVec 32 := Scalar.subi v347 c512_i32
  let c8_i32 : BitVec 32 := 8#32
  let v534 : BitVec 32 := Scalar.muli v533 c8_i32
  v534
def k0_cond80 (v347 : BitVec 32) (v348 : BitVec 32) : BitVec 1 :=
  let v349 : BitVec 1 := Scalar.cmpi .sgt v347 v348
  let v350 : BitVec 32 := Scalar.extui v349
  let c0_i32_158 : BitVec 32 := 0#32
  let v351 : BitVec 1 := Scalar.cmpi .ne v350 c0_i32_158
  v351

def k0_off47 (v347 : BitVec 32) : Fin 2 → Nat :=
  let c512_i32 : BitVec 32 := 512#32
  let v533 : BitVec 32 := Scalar.subi v347 c512_i32
  let c8_i32 : BitVec 32 := 8#32
  let v534 : BitVec 32 := Scalar.muli v533 c8_i32
  let v535 : BitVec 32 := v534
  let c0_i32_274 : BitVec 32 := 0#32
  ![v535.toNat, 0]

def k0_chk47 (i : grid0.Coords) (v347 : BitVec 32) (v348 : BitVec 32) : Prop :=
  (∀ (k0_h1 : k0_cond1 i = 1#1), ∀ (k0_h80 : k0_cond80 v347 v348 = 1#1), 4096 ∣ (k0_mult47 v347).toNat) ∧
  (∀ (k0_h1 : k0_cond1 i = 1#1), ∀ (k0_h80 : k0_cond80 v347 v348 = 1#1), ∀ a, (k0_off47 v347) a + S4096x128.size a ≤ S655360x128.size a)
theorem k0_mult47_dvd : ∀ (i : grid0.Coords) (v347 : BitVec 32) (v348 : BitVec 32) (k0_hw47 : k0_chk47 i v347 v348), ∀ (k0_h1 : k0_cond1 i = 1#1), ∀ (k0_h80 : k0_cond80 v347 v348 = 1#1), 4096 ∣ (k0_mult47 v347).toNat := fun i v347 v348 k0_hw47 k0_h1 k0_h80 => k0_hw47.1 k0_h1 k0_h80
theorem k0_off47_inb : ∀ (i : grid0.Coords) (v347 : BitVec 32) (v348 : BitVec 32) (k0_hw47 : k0_chk47 i v347 v348), ∀ (k0_h1 : k0_cond1 i = 1#1), ∀ (k0_h80 : k0_cond80 v347 v348 = 1#1), ∀ a, (k0_off47 v347) a + S4096x128.size a ≤ S655360x128.size a := fun i v347 v348 k0_hw47 k0_h1 k0_h80 => k0_hw47.2 k0_h1 k0_h80

def k0_mult48 (v352 : BitVec 32) : BitVec 32 :=
  let c512_i32 : BitVec 32 := 512#32
  let v533 : BitVec 32 := Scalar.subi v352 c512_i32
  let c8_i32 : BitVec 32 := 8#32
  let v534 : BitVec 32 := Scalar.muli v533 c8_i32
  v534
def k0_cond81 (v352 : BitVec 32) (v353 : BitVec 32) : BitVec 1 :=
  let v354 : BitVec 1 := Scalar.cmpi .sgt v352 v353
  let v355 : BitVec 32 := Scalar.extui v354
  let c0_i32_161 : BitVec 32 := 0#32
  let v356 : BitVec 1 := Scalar.cmpi .ne v355 c0_i32_161
  v356

def k0_off48 (v352 : BitVec 32) : Fin 2 → Nat :=
  let c512_i32 : BitVec 32 := 512#32
  let v533 : BitVec 32 := Scalar.subi v352 c512_i32
  let c8_i32 : BitVec 32 := 8#32
  let v534 : BitVec 32 := Scalar.muli v533 c8_i32
  let v535 : BitVec 32 := v534
  let c0_i32_274 : BitVec 32 := 0#32
  ![v535.toNat, 0]

def k0_chk48 (i : grid0.Coords) (v352 : BitVec 32) (v353 : BitVec 32) : Prop :=
  (∀ (k0_h1 : k0_cond1 i = 1#1), ∀ (k0_h81 : k0_cond81 v352 v353 = 1#1), 4096 ∣ (k0_mult48 v352).toNat) ∧
  (∀ (k0_h1 : k0_cond1 i = 1#1), ∀ (k0_h81 : k0_cond81 v352 v353 = 1#1), ∀ a, (k0_off48 v352) a + S4096x128.size a ≤ S655360x128.size a)
theorem k0_mult48_dvd : ∀ (i : grid0.Coords) (v352 : BitVec 32) (v353 : BitVec 32) (k0_hw48 : k0_chk48 i v352 v353), ∀ (k0_h1 : k0_cond1 i = 1#1), ∀ (k0_h81 : k0_cond81 v352 v353 = 1#1), 4096 ∣ (k0_mult48 v352).toNat := fun i v352 v353 k0_hw48 k0_h1 k0_h81 => k0_hw48.1 k0_h1 k0_h81
theorem k0_off48_inb : ∀ (i : grid0.Coords) (v352 : BitVec 32) (v353 : BitVec 32) (k0_hw48 : k0_chk48 i v352 v353), ∀ (k0_h1 : k0_cond1 i = 1#1), ∀ (k0_h81 : k0_cond81 v352 v353 = 1#1), ∀ a, (k0_off48 v352) a + S4096x128.size a ≤ S655360x128.size a := fun i v352 v353 k0_hw48 k0_h1 k0_h81 => k0_hw48.2 k0_h1 k0_h81

def k0_mult49 (v357 : BitVec 32) : BitVec 32 :=
  let c512_i32 : BitVec 32 := 512#32
  let v533 : BitVec 32 := Scalar.subi v357 c512_i32
  let c8_i32 : BitVec 32 := 8#32
  let v534 : BitVec 32 := Scalar.muli v533 c8_i32
  v534
def k0_cond82 (v357 : BitVec 32) (v358 : BitVec 32) : BitVec 1 :=
  let v359 : BitVec 1 := Scalar.cmpi .sgt v357 v358
  let v360 : BitVec 32 := Scalar.extui v359
  let c0_i32_164 : BitVec 32 := 0#32
  let v361 : BitVec 1 := Scalar.cmpi .ne v360 c0_i32_164
  v361

def k0_off49 (v357 : BitVec 32) : Fin 2 → Nat :=
  let c512_i32 : BitVec 32 := 512#32
  let v533 : BitVec 32 := Scalar.subi v357 c512_i32
  let c8_i32 : BitVec 32 := 8#32
  let v534 : BitVec 32 := Scalar.muli v533 c8_i32
  let v535 : BitVec 32 := v534
  let c0_i32_274 : BitVec 32 := 0#32
  ![v535.toNat, 0]

def k0_chk49 (i : grid0.Coords) (v357 : BitVec 32) (v358 : BitVec 32) : Prop :=
  (∀ (k0_h1 : k0_cond1 i = 1#1), ∀ (k0_h82 : k0_cond82 v357 v358 = 1#1), 4096 ∣ (k0_mult49 v357).toNat) ∧
  (∀ (k0_h1 : k0_cond1 i = 1#1), ∀ (k0_h82 : k0_cond82 v357 v358 = 1#1), ∀ a, (k0_off49 v357) a + S4096x128.size a ≤ S655360x128.size a)
theorem k0_mult49_dvd : ∀ (i : grid0.Coords) (v357 : BitVec 32) (v358 : BitVec 32) (k0_hw49 : k0_chk49 i v357 v358), ∀ (k0_h1 : k0_cond1 i = 1#1), ∀ (k0_h82 : k0_cond82 v357 v358 = 1#1), 4096 ∣ (k0_mult49 v357).toNat := fun i v357 v358 k0_hw49 k0_h1 k0_h82 => k0_hw49.1 k0_h1 k0_h82
theorem k0_off49_inb : ∀ (i : grid0.Coords) (v357 : BitVec 32) (v358 : BitVec 32) (k0_hw49 : k0_chk49 i v357 v358), ∀ (k0_h1 : k0_cond1 i = 1#1), ∀ (k0_h82 : k0_cond82 v357 v358 = 1#1), ∀ a, (k0_off49 v357) a + S4096x128.size a ≤ S655360x128.size a := fun i v357 v358 k0_hw49 k0_h1 k0_h82 => k0_hw49.2 k0_h1 k0_h82

def k0_mult50 (v362 : BitVec 32) : BitVec 32 :=
  let c512_i32 : BitVec 32 := 512#32
  let v533 : BitVec 32 := Scalar.subi v362 c512_i32
  let c8_i32 : BitVec 32 := 8#32
  let v534 : BitVec 32 := Scalar.muli v533 c8_i32
  v534
def k0_cond83 (v362 : BitVec 32) (v363 : BitVec 32) : BitVec 1 :=
  let v364 : BitVec 1 := Scalar.cmpi .sgt v362 v363
  let v365 : BitVec 32 := Scalar.extui v364
  let c0_i32_167 : BitVec 32 := 0#32
  let v366 : BitVec 1 := Scalar.cmpi .ne v365 c0_i32_167
  v366

def k0_off50 (v362 : BitVec 32) : Fin 2 → Nat :=
  let c512_i32 : BitVec 32 := 512#32
  let v533 : BitVec 32 := Scalar.subi v362 c512_i32
  let c8_i32 : BitVec 32 := 8#32
  let v534 : BitVec 32 := Scalar.muli v533 c8_i32
  let v535 : BitVec 32 := v534
  let c0_i32_274 : BitVec 32 := 0#32
  ![v535.toNat, 0]

def k0_chk50 (i : grid0.Coords) (v362 : BitVec 32) (v363 : BitVec 32) : Prop :=
  (∀ (k0_h1 : k0_cond1 i = 1#1), ∀ (k0_h83 : k0_cond83 v362 v363 = 1#1), 4096 ∣ (k0_mult50 v362).toNat) ∧
  (∀ (k0_h1 : k0_cond1 i = 1#1), ∀ (k0_h83 : k0_cond83 v362 v363 = 1#1), ∀ a, (k0_off50 v362) a + S4096x128.size a ≤ S655360x128.size a)
theorem k0_mult50_dvd : ∀ (i : grid0.Coords) (v362 : BitVec 32) (v363 : BitVec 32) (k0_hw50 : k0_chk50 i v362 v363), ∀ (k0_h1 : k0_cond1 i = 1#1), ∀ (k0_h83 : k0_cond83 v362 v363 = 1#1), 4096 ∣ (k0_mult50 v362).toNat := fun i v362 v363 k0_hw50 k0_h1 k0_h83 => k0_hw50.1 k0_h1 k0_h83
theorem k0_off50_inb : ∀ (i : grid0.Coords) (v362 : BitVec 32) (v363 : BitVec 32) (k0_hw50 : k0_chk50 i v362 v363), ∀ (k0_h1 : k0_cond1 i = 1#1), ∀ (k0_h83 : k0_cond83 v362 v363 = 1#1), ∀ a, (k0_off50 v362) a + S4096x128.size a ≤ S655360x128.size a := fun i v362 v363 k0_hw50 k0_h1 k0_h83 => k0_hw50.2 k0_h1 k0_h83

def k0_mult51 (v367 : BitVec 32) : BitVec 32 :=
  let c512_i32 : BitVec 32 := 512#32
  let v533 : BitVec 32 := Scalar.subi v367 c512_i32
  let c8_i32 : BitVec 32 := 8#32
  let v534 : BitVec 32 := Scalar.muli v533 c8_i32
  v534
def k0_cond84 (v367 : BitVec 32) (v368 : BitVec 32) : BitVec 1 :=
  let v369 : BitVec 1 := Scalar.cmpi .sgt v367 v368
  let v370 : BitVec 32 := Scalar.extui v369
  let c0_i32_170 : BitVec 32 := 0#32
  let v371 : BitVec 1 := Scalar.cmpi .ne v370 c0_i32_170
  v371

def k0_off51 (v367 : BitVec 32) : Fin 2 → Nat :=
  let c512_i32 : BitVec 32 := 512#32
  let v533 : BitVec 32 := Scalar.subi v367 c512_i32
  let c8_i32 : BitVec 32 := 8#32
  let v534 : BitVec 32 := Scalar.muli v533 c8_i32
  let v535 : BitVec 32 := v534
  let c0_i32_274 : BitVec 32 := 0#32
  ![v535.toNat, 0]

def k0_chk51 (i : grid0.Coords) (v367 : BitVec 32) (v368 : BitVec 32) : Prop :=
  (∀ (k0_h1 : k0_cond1 i = 1#1), ∀ (k0_h84 : k0_cond84 v367 v368 = 1#1), 4096 ∣ (k0_mult51 v367).toNat) ∧
  (∀ (k0_h1 : k0_cond1 i = 1#1), ∀ (k0_h84 : k0_cond84 v367 v368 = 1#1), ∀ a, (k0_off51 v367) a + S4096x128.size a ≤ S655360x128.size a)
theorem k0_mult51_dvd : ∀ (i : grid0.Coords) (v367 : BitVec 32) (v368 : BitVec 32) (k0_hw51 : k0_chk51 i v367 v368), ∀ (k0_h1 : k0_cond1 i = 1#1), ∀ (k0_h84 : k0_cond84 v367 v368 = 1#1), 4096 ∣ (k0_mult51 v367).toNat := fun i v367 v368 k0_hw51 k0_h1 k0_h84 => k0_hw51.1 k0_h1 k0_h84
theorem k0_off51_inb : ∀ (i : grid0.Coords) (v367 : BitVec 32) (v368 : BitVec 32) (k0_hw51 : k0_chk51 i v367 v368), ∀ (k0_h1 : k0_cond1 i = 1#1), ∀ (k0_h84 : k0_cond84 v367 v368 = 1#1), ∀ a, (k0_off51 v367) a + S4096x128.size a ≤ S655360x128.size a := fun i v367 v368 k0_hw51 k0_h1 k0_h84 => k0_hw51.2 k0_h1 k0_h84

def k0_mult52 (v372 : BitVec 32) : BitVec 32 :=
  let c512_i32 : BitVec 32 := 512#32
  let v533 : BitVec 32 := Scalar.subi v372 c512_i32
  let c8_i32 : BitVec 32 := 8#32
  let v534 : BitVec 32 := Scalar.muli v533 c8_i32
  v534
def k0_cond85 (v372 : BitVec 32) (v373 : BitVec 32) : BitVec 1 :=
  let v374 : BitVec 1 := Scalar.cmpi .sgt v372 v373
  let v375 : BitVec 32 := Scalar.extui v374
  let c0_i32_173 : BitVec 32 := 0#32
  let v376 : BitVec 1 := Scalar.cmpi .ne v375 c0_i32_173
  v376

def k0_off52 (v372 : BitVec 32) : Fin 2 → Nat :=
  let c512_i32 : BitVec 32 := 512#32
  let v533 : BitVec 32 := Scalar.subi v372 c512_i32
  let c8_i32 : BitVec 32 := 8#32
  let v534 : BitVec 32 := Scalar.muli v533 c8_i32
  let v535 : BitVec 32 := v534
  let c0_i32_274 : BitVec 32 := 0#32
  ![v535.toNat, 0]

def k0_chk52 (i : grid0.Coords) (v372 : BitVec 32) (v373 : BitVec 32) : Prop :=
  (∀ (k0_h1 : k0_cond1 i = 1#1), ∀ (k0_h85 : k0_cond85 v372 v373 = 1#1), 4096 ∣ (k0_mult52 v372).toNat) ∧
  (∀ (k0_h1 : k0_cond1 i = 1#1), ∀ (k0_h85 : k0_cond85 v372 v373 = 1#1), ∀ a, (k0_off52 v372) a + S4096x128.size a ≤ S655360x128.size a)
theorem k0_mult52_dvd : ∀ (i : grid0.Coords) (v372 : BitVec 32) (v373 : BitVec 32) (k0_hw52 : k0_chk52 i v372 v373), ∀ (k0_h1 : k0_cond1 i = 1#1), ∀ (k0_h85 : k0_cond85 v372 v373 = 1#1), 4096 ∣ (k0_mult52 v372).toNat := fun i v372 v373 k0_hw52 k0_h1 k0_h85 => k0_hw52.1 k0_h1 k0_h85
theorem k0_off52_inb : ∀ (i : grid0.Coords) (v372 : BitVec 32) (v373 : BitVec 32) (k0_hw52 : k0_chk52 i v372 v373), ∀ (k0_h1 : k0_cond1 i = 1#1), ∀ (k0_h85 : k0_cond85 v372 v373 = 1#1), ∀ a, (k0_off52 v372) a + S4096x128.size a ≤ S655360x128.size a := fun i v372 v373 k0_hw52 k0_h1 k0_h85 => k0_hw52.2 k0_h1 k0_h85

def k0_mult53 (v377 : BitVec 32) : BitVec 32 :=
  let c512_i32 : BitVec 32 := 512#32
  let v533 : BitVec 32 := Scalar.subi v377 c512_i32
  let c8_i32 : BitVec 32 := 8#32
  let v534 : BitVec 32 := Scalar.muli v533 c8_i32
  v534
def k0_cond86 (v377 : BitVec 32) (v378 : BitVec 32) : BitVec 1 :=
  let v379 : BitVec 1 := Scalar.cmpi .sgt v377 v378
  let v380 : BitVec 32 := Scalar.extui v379
  let c0_i32_176 : BitVec 32 := 0#32
  let v381 : BitVec 1 := Scalar.cmpi .ne v380 c0_i32_176
  v381

def k0_off53 (v377 : BitVec 32) : Fin 2 → Nat :=
  let c512_i32 : BitVec 32 := 512#32
  let v533 : BitVec 32 := Scalar.subi v377 c512_i32
  let c8_i32 : BitVec 32 := 8#32
  let v534 : BitVec 32 := Scalar.muli v533 c8_i32
  let v535 : BitVec 32 := v534
  let c0_i32_274 : BitVec 32 := 0#32
  ![v535.toNat, 0]

def k0_chk53 (i : grid0.Coords) (v377 : BitVec 32) (v378 : BitVec 32) : Prop :=
  (∀ (k0_h1 : k0_cond1 i = 1#1), ∀ (k0_h86 : k0_cond86 v377 v378 = 1#1), 4096 ∣ (k0_mult53 v377).toNat) ∧
  (∀ (k0_h1 : k0_cond1 i = 1#1), ∀ (k0_h86 : k0_cond86 v377 v378 = 1#1), ∀ a, (k0_off53 v377) a + S4096x128.size a ≤ S655360x128.size a)
theorem k0_mult53_dvd : ∀ (i : grid0.Coords) (v377 : BitVec 32) (v378 : BitVec 32) (k0_hw53 : k0_chk53 i v377 v378), ∀ (k0_h1 : k0_cond1 i = 1#1), ∀ (k0_h86 : k0_cond86 v377 v378 = 1#1), 4096 ∣ (k0_mult53 v377).toNat := fun i v377 v378 k0_hw53 k0_h1 k0_h86 => k0_hw53.1 k0_h1 k0_h86
theorem k0_off53_inb : ∀ (i : grid0.Coords) (v377 : BitVec 32) (v378 : BitVec 32) (k0_hw53 : k0_chk53 i v377 v378), ∀ (k0_h1 : k0_cond1 i = 1#1), ∀ (k0_h86 : k0_cond86 v377 v378 = 1#1), ∀ a, (k0_off53 v377) a + S4096x128.size a ≤ S655360x128.size a := fun i v377 v378 k0_hw53 k0_h1 k0_h86 => k0_hw53.2 k0_h1 k0_h86

def k0_mult54 (v382 : BitVec 32) : BitVec 32 :=
  let c512_i32 : BitVec 32 := 512#32
  let v533 : BitVec 32 := Scalar.subi v382 c512_i32
  let c8_i32 : BitVec 32 := 8#32
  let v534 : BitVec 32 := Scalar.muli v533 c8_i32
  v534
def k0_cond87 (v382 : BitVec 32) (v383 : BitVec 32) : BitVec 1 :=
  let v384 : BitVec 1 := Scalar.cmpi .sgt v382 v383
  let v385 : BitVec 32 := Scalar.extui v384
  let c0_i32_179 : BitVec 32 := 0#32
  let v386 : BitVec 1 := Scalar.cmpi .ne v385 c0_i32_179
  v386

def k0_off54 (v382 : BitVec 32) : Fin 2 → Nat :=
  let c512_i32 : BitVec 32 := 512#32
  let v533 : BitVec 32 := Scalar.subi v382 c512_i32
  let c8_i32 : BitVec 32 := 8#32
  let v534 : BitVec 32 := Scalar.muli v533 c8_i32
  let v535 : BitVec 32 := v534
  let c0_i32_274 : BitVec 32 := 0#32
  ![v535.toNat, 0]

def k0_chk54 (i : grid0.Coords) (v382 : BitVec 32) (v383 : BitVec 32) : Prop :=
  (∀ (k0_h1 : k0_cond1 i = 1#1), ∀ (k0_h87 : k0_cond87 v382 v383 = 1#1), 4096 ∣ (k0_mult54 v382).toNat) ∧
  (∀ (k0_h1 : k0_cond1 i = 1#1), ∀ (k0_h87 : k0_cond87 v382 v383 = 1#1), ∀ a, (k0_off54 v382) a + S4096x128.size a ≤ S655360x128.size a)
theorem k0_mult54_dvd : ∀ (i : grid0.Coords) (v382 : BitVec 32) (v383 : BitVec 32) (k0_hw54 : k0_chk54 i v382 v383), ∀ (k0_h1 : k0_cond1 i = 1#1), ∀ (k0_h87 : k0_cond87 v382 v383 = 1#1), 4096 ∣ (k0_mult54 v382).toNat := fun i v382 v383 k0_hw54 k0_h1 k0_h87 => k0_hw54.1 k0_h1 k0_h87
theorem k0_off54_inb : ∀ (i : grid0.Coords) (v382 : BitVec 32) (v383 : BitVec 32) (k0_hw54 : k0_chk54 i v382 v383), ∀ (k0_h1 : k0_cond1 i = 1#1), ∀ (k0_h87 : k0_cond87 v382 v383 = 1#1), ∀ a, (k0_off54 v382) a + S4096x128.size a ≤ S655360x128.size a := fun i v382 v383 k0_hw54 k0_h1 k0_h87 => k0_hw54.2 k0_h1 k0_h87

def k0_mult55 (v387 : BitVec 32) : BitVec 32 :=
  let c512_i32 : BitVec 32 := 512#32
  let v533 : BitVec 32 := Scalar.subi v387 c512_i32
  let c8_i32 : BitVec 32 := 8#32
  let v534 : BitVec 32 := Scalar.muli v533 c8_i32
  v534
def k0_cond88 (v387 : BitVec 32) (v388 : BitVec 32) : BitVec 1 :=
  let v389 : BitVec 1 := Scalar.cmpi .sgt v387 v388
  let v390 : BitVec 32 := Scalar.extui v389
  let c0_i32_182 : BitVec 32 := 0#32
  let v391 : BitVec 1 := Scalar.cmpi .ne v390 c0_i32_182
  v391

def k0_off55 (v387 : BitVec 32) : Fin 2 → Nat :=
  let c512_i32 : BitVec 32 := 512#32
  let v533 : BitVec 32 := Scalar.subi v387 c512_i32
  let c8_i32 : BitVec 32 := 8#32
  let v534 : BitVec 32 := Scalar.muli v533 c8_i32
  let v535 : BitVec 32 := v534
  let c0_i32_274 : BitVec 32 := 0#32
  ![v535.toNat, 0]

def k0_chk55 (i : grid0.Coords) (v387 : BitVec 32) (v388 : BitVec 32) : Prop :=
  (∀ (k0_h1 : k0_cond1 i = 1#1), ∀ (k0_h88 : k0_cond88 v387 v388 = 1#1), 4096 ∣ (k0_mult55 v387).toNat) ∧
  (∀ (k0_h1 : k0_cond1 i = 1#1), ∀ (k0_h88 : k0_cond88 v387 v388 = 1#1), ∀ a, (k0_off55 v387) a + S4096x128.size a ≤ S655360x128.size a)
theorem k0_mult55_dvd : ∀ (i : grid0.Coords) (v387 : BitVec 32) (v388 : BitVec 32) (k0_hw55 : k0_chk55 i v387 v388), ∀ (k0_h1 : k0_cond1 i = 1#1), ∀ (k0_h88 : k0_cond88 v387 v388 = 1#1), 4096 ∣ (k0_mult55 v387).toNat := fun i v387 v388 k0_hw55 k0_h1 k0_h88 => k0_hw55.1 k0_h1 k0_h88
theorem k0_off55_inb : ∀ (i : grid0.Coords) (v387 : BitVec 32) (v388 : BitVec 32) (k0_hw55 : k0_chk55 i v387 v388), ∀ (k0_h1 : k0_cond1 i = 1#1), ∀ (k0_h88 : k0_cond88 v387 v388 = 1#1), ∀ a, (k0_off55 v387) a + S4096x128.size a ≤ S655360x128.size a := fun i v387 v388 k0_hw55 k0_h1 k0_h88 => k0_hw55.2 k0_h1 k0_h88

def k0_mult56 (v392 : BitVec 32) : BitVec 32 :=
  let c512_i32 : BitVec 32 := 512#32
  let v533 : BitVec 32 := Scalar.subi v392 c512_i32
  let c8_i32 : BitVec 32 := 8#32
  let v534 : BitVec 32 := Scalar.muli v533 c8_i32
  v534
def k0_cond89 (v392 : BitVec 32) (v393 : BitVec 32) : BitVec 1 :=
  let v394 : BitVec 1 := Scalar.cmpi .sgt v392 v393
  let v395 : BitVec 32 := Scalar.extui v394
  let c0_i32_185 : BitVec 32 := 0#32
  let v396 : BitVec 1 := Scalar.cmpi .ne v395 c0_i32_185
  v396

def k0_off56 (v392 : BitVec 32) : Fin 2 → Nat :=
  let c512_i32 : BitVec 32 := 512#32
  let v533 : BitVec 32 := Scalar.subi v392 c512_i32
  let c8_i32 : BitVec 32 := 8#32
  let v534 : BitVec 32 := Scalar.muli v533 c8_i32
  let v535 : BitVec 32 := v534
  let c0_i32_274 : BitVec 32 := 0#32
  ![v535.toNat, 0]

def k0_chk56 (i : grid0.Coords) (v392 : BitVec 32) (v393 : BitVec 32) : Prop :=
  (∀ (k0_h1 : k0_cond1 i = 1#1), ∀ (k0_h89 : k0_cond89 v392 v393 = 1#1), 4096 ∣ (k0_mult56 v392).toNat) ∧
  (∀ (k0_h1 : k0_cond1 i = 1#1), ∀ (k0_h89 : k0_cond89 v392 v393 = 1#1), ∀ a, (k0_off56 v392) a + S4096x128.size a ≤ S655360x128.size a)
theorem k0_mult56_dvd : ∀ (i : grid0.Coords) (v392 : BitVec 32) (v393 : BitVec 32) (k0_hw56 : k0_chk56 i v392 v393), ∀ (k0_h1 : k0_cond1 i = 1#1), ∀ (k0_h89 : k0_cond89 v392 v393 = 1#1), 4096 ∣ (k0_mult56 v392).toNat := fun i v392 v393 k0_hw56 k0_h1 k0_h89 => k0_hw56.1 k0_h1 k0_h89
theorem k0_off56_inb : ∀ (i : grid0.Coords) (v392 : BitVec 32) (v393 : BitVec 32) (k0_hw56 : k0_chk56 i v392 v393), ∀ (k0_h1 : k0_cond1 i = 1#1), ∀ (k0_h89 : k0_cond89 v392 v393 = 1#1), ∀ a, (k0_off56 v392) a + S4096x128.size a ≤ S655360x128.size a := fun i v392 v393 k0_hw56 k0_h1 k0_h89 => k0_hw56.2 k0_h1 k0_h89

def k0_mult57 (v397 : BitVec 32) : BitVec 32 :=
  let c512_i32 : BitVec 32 := 512#32
  let v533 : BitVec 32 := Scalar.subi v397 c512_i32
  let c8_i32 : BitVec 32 := 8#32
  let v534 : BitVec 32 := Scalar.muli v533 c8_i32
  v534
def k0_cond90 (v397 : BitVec 32) (v398 : BitVec 32) : BitVec 1 :=
  let v399 : BitVec 1 := Scalar.cmpi .sgt v397 v398
  let v400 : BitVec 32 := Scalar.extui v399
  let c0_i32_188 : BitVec 32 := 0#32
  let v401 : BitVec 1 := Scalar.cmpi .ne v400 c0_i32_188
  v401

def k0_off57 (v397 : BitVec 32) : Fin 2 → Nat :=
  let c512_i32 : BitVec 32 := 512#32
  let v533 : BitVec 32 := Scalar.subi v397 c512_i32
  let c8_i32 : BitVec 32 := 8#32
  let v534 : BitVec 32 := Scalar.muli v533 c8_i32
  let v535 : BitVec 32 := v534
  let c0_i32_274 : BitVec 32 := 0#32
  ![v535.toNat, 0]

def k0_chk57 (i : grid0.Coords) (v397 : BitVec 32) (v398 : BitVec 32) : Prop :=
  (∀ (k0_h1 : k0_cond1 i = 1#1), ∀ (k0_h90 : k0_cond90 v397 v398 = 1#1), 4096 ∣ (k0_mult57 v397).toNat) ∧
  (∀ (k0_h1 : k0_cond1 i = 1#1), ∀ (k0_h90 : k0_cond90 v397 v398 = 1#1), ∀ a, (k0_off57 v397) a + S4096x128.size a ≤ S655360x128.size a)
theorem k0_mult57_dvd : ∀ (i : grid0.Coords) (v397 : BitVec 32) (v398 : BitVec 32) (k0_hw57 : k0_chk57 i v397 v398), ∀ (k0_h1 : k0_cond1 i = 1#1), ∀ (k0_h90 : k0_cond90 v397 v398 = 1#1), 4096 ∣ (k0_mult57 v397).toNat := fun i v397 v398 k0_hw57 k0_h1 k0_h90 => k0_hw57.1 k0_h1 k0_h90
theorem k0_off57_inb : ∀ (i : grid0.Coords) (v397 : BitVec 32) (v398 : BitVec 32) (k0_hw57 : k0_chk57 i v397 v398), ∀ (k0_h1 : k0_cond1 i = 1#1), ∀ (k0_h90 : k0_cond90 v397 v398 = 1#1), ∀ a, (k0_off57 v397) a + S4096x128.size a ≤ S655360x128.size a := fun i v397 v398 k0_hw57 k0_h1 k0_h90 => k0_hw57.2 k0_h1 k0_h90

def k0_mult58 (v402 : BitVec 32) : BitVec 32 :=
  let c512_i32 : BitVec 32 := 512#32
  let v533 : BitVec 32 := Scalar.subi v402 c512_i32
  let c8_i32 : BitVec 32 := 8#32
  let v534 : BitVec 32 := Scalar.muli v533 c8_i32
  v534
def k0_cond91 (v402 : BitVec 32) (v403 : BitVec 32) : BitVec 1 :=
  let v404 : BitVec 1 := Scalar.cmpi .sgt v402 v403
  let v405 : BitVec 32 := Scalar.extui v404
  let c0_i32_191 : BitVec 32 := 0#32
  let v406 : BitVec 1 := Scalar.cmpi .ne v405 c0_i32_191
  v406

def k0_off58 (v402 : BitVec 32) : Fin 2 → Nat :=
  let c512_i32 : BitVec 32 := 512#32
  let v533 : BitVec 32 := Scalar.subi v402 c512_i32
  let c8_i32 : BitVec 32 := 8#32
  let v534 : BitVec 32 := Scalar.muli v533 c8_i32
  let v535 : BitVec 32 := v534
  let c0_i32_274 : BitVec 32 := 0#32
  ![v535.toNat, 0]

def k0_chk58 (i : grid0.Coords) (v402 : BitVec 32) (v403 : BitVec 32) : Prop :=
  (∀ (k0_h1 : k0_cond1 i = 1#1), ∀ (k0_h91 : k0_cond91 v402 v403 = 1#1), 4096 ∣ (k0_mult58 v402).toNat) ∧
  (∀ (k0_h1 : k0_cond1 i = 1#1), ∀ (k0_h91 : k0_cond91 v402 v403 = 1#1), ∀ a, (k0_off58 v402) a + S4096x128.size a ≤ S655360x128.size a)
theorem k0_mult58_dvd : ∀ (i : grid0.Coords) (v402 : BitVec 32) (v403 : BitVec 32) (k0_hw58 : k0_chk58 i v402 v403), ∀ (k0_h1 : k0_cond1 i = 1#1), ∀ (k0_h91 : k0_cond91 v402 v403 = 1#1), 4096 ∣ (k0_mult58 v402).toNat := fun i v402 v403 k0_hw58 k0_h1 k0_h91 => k0_hw58.1 k0_h1 k0_h91
theorem k0_off58_inb : ∀ (i : grid0.Coords) (v402 : BitVec 32) (v403 : BitVec 32) (k0_hw58 : k0_chk58 i v402 v403), ∀ (k0_h1 : k0_cond1 i = 1#1), ∀ (k0_h91 : k0_cond91 v402 v403 = 1#1), ∀ a, (k0_off58 v402) a + S4096x128.size a ≤ S655360x128.size a := fun i v402 v403 k0_hw58 k0_h1 k0_h91 => k0_hw58.2 k0_h1 k0_h91

def k0_mult59 (v407 : BitVec 32) : BitVec 32 :=
  let c512_i32 : BitVec 32 := 512#32
  let v533 : BitVec 32 := Scalar.subi v407 c512_i32
  let c8_i32 : BitVec 32 := 8#32
  let v534 : BitVec 32 := Scalar.muli v533 c8_i32
  v534
def k0_cond92 (v407 : BitVec 32) (v408 : BitVec 32) : BitVec 1 :=
  let v409 : BitVec 1 := Scalar.cmpi .sgt v407 v408
  let v410 : BitVec 32 := Scalar.extui v409
  let c0_i32_194 : BitVec 32 := 0#32
  let v411 : BitVec 1 := Scalar.cmpi .ne v410 c0_i32_194
  v411

def k0_off59 (v407 : BitVec 32) : Fin 2 → Nat :=
  let c512_i32 : BitVec 32 := 512#32
  let v533 : BitVec 32 := Scalar.subi v407 c512_i32
  let c8_i32 : BitVec 32 := 8#32
  let v534 : BitVec 32 := Scalar.muli v533 c8_i32
  let v535 : BitVec 32 := v534
  let c0_i32_274 : BitVec 32 := 0#32
  ![v535.toNat, 0]

def k0_chk59 (i : grid0.Coords) (v407 : BitVec 32) (v408 : BitVec 32) : Prop :=
  (∀ (k0_h1 : k0_cond1 i = 1#1), ∀ (k0_h92 : k0_cond92 v407 v408 = 1#1), 4096 ∣ (k0_mult59 v407).toNat) ∧
  (∀ (k0_h1 : k0_cond1 i = 1#1), ∀ (k0_h92 : k0_cond92 v407 v408 = 1#1), ∀ a, (k0_off59 v407) a + S4096x128.size a ≤ S655360x128.size a)
theorem k0_mult59_dvd : ∀ (i : grid0.Coords) (v407 : BitVec 32) (v408 : BitVec 32) (k0_hw59 : k0_chk59 i v407 v408), ∀ (k0_h1 : k0_cond1 i = 1#1), ∀ (k0_h92 : k0_cond92 v407 v408 = 1#1), 4096 ∣ (k0_mult59 v407).toNat := fun i v407 v408 k0_hw59 k0_h1 k0_h92 => k0_hw59.1 k0_h1 k0_h92
theorem k0_off59_inb : ∀ (i : grid0.Coords) (v407 : BitVec 32) (v408 : BitVec 32) (k0_hw59 : k0_chk59 i v407 v408), ∀ (k0_h1 : k0_cond1 i = 1#1), ∀ (k0_h92 : k0_cond92 v407 v408 = 1#1), ∀ a, (k0_off59 v407) a + S4096x128.size a ≤ S655360x128.size a := fun i v407 v408 k0_hw59 k0_h1 k0_h92 => k0_hw59.2 k0_h1 k0_h92

def k0_mult60 (v412 : BitVec 32) : BitVec 32 :=
  let c512_i32 : BitVec 32 := 512#32
  let v533 : BitVec 32 := Scalar.subi v412 c512_i32
  let c8_i32 : BitVec 32 := 8#32
  let v534 : BitVec 32 := Scalar.muli v533 c8_i32
  v534
def k0_cond93 (v412 : BitVec 32) (v413 : BitVec 32) : BitVec 1 :=
  let v414 : BitVec 1 := Scalar.cmpi .sgt v412 v413
  let v415 : BitVec 32 := Scalar.extui v414
  let c0_i32_197 : BitVec 32 := 0#32
  let v416 : BitVec 1 := Scalar.cmpi .ne v415 c0_i32_197
  v416

def k0_off60 (v412 : BitVec 32) : Fin 2 → Nat :=
  let c512_i32 : BitVec 32 := 512#32
  let v533 : BitVec 32 := Scalar.subi v412 c512_i32
  let c8_i32 : BitVec 32 := 8#32
  let v534 : BitVec 32 := Scalar.muli v533 c8_i32
  let v535 : BitVec 32 := v534
  let c0_i32_274 : BitVec 32 := 0#32
  ![v535.toNat, 0]

def k0_chk60 (i : grid0.Coords) (v412 : BitVec 32) (v413 : BitVec 32) : Prop :=
  (∀ (k0_h1 : k0_cond1 i = 1#1), ∀ (k0_h93 : k0_cond93 v412 v413 = 1#1), 4096 ∣ (k0_mult60 v412).toNat) ∧
  (∀ (k0_h1 : k0_cond1 i = 1#1), ∀ (k0_h93 : k0_cond93 v412 v413 = 1#1), ∀ a, (k0_off60 v412) a + S4096x128.size a ≤ S655360x128.size a)
theorem k0_mult60_dvd : ∀ (i : grid0.Coords) (v412 : BitVec 32) (v413 : BitVec 32) (k0_hw60 : k0_chk60 i v412 v413), ∀ (k0_h1 : k0_cond1 i = 1#1), ∀ (k0_h93 : k0_cond93 v412 v413 = 1#1), 4096 ∣ (k0_mult60 v412).toNat := fun i v412 v413 k0_hw60 k0_h1 k0_h93 => k0_hw60.1 k0_h1 k0_h93
theorem k0_off60_inb : ∀ (i : grid0.Coords) (v412 : BitVec 32) (v413 : BitVec 32) (k0_hw60 : k0_chk60 i v412 v413), ∀ (k0_h1 : k0_cond1 i = 1#1), ∀ (k0_h93 : k0_cond93 v412 v413 = 1#1), ∀ a, (k0_off60 v412) a + S4096x128.size a ≤ S655360x128.size a := fun i v412 v413 k0_hw60 k0_h1 k0_h93 => k0_hw60.2 k0_h1 k0_h93

def k0_mult61 (v417 : BitVec 32) : BitVec 32 :=
  let c512_i32 : BitVec 32 := 512#32
  let v533 : BitVec 32 := Scalar.subi v417 c512_i32
  let c8_i32 : BitVec 32 := 8#32
  let v534 : BitVec 32 := Scalar.muli v533 c8_i32
  v534
def k0_cond94 (v417 : BitVec 32) (v418 : BitVec 32) : BitVec 1 :=
  let v419 : BitVec 1 := Scalar.cmpi .sgt v417 v418
  let v420 : BitVec 32 := Scalar.extui v419
  let c0_i32_200 : BitVec 32 := 0#32
  let v421 : BitVec 1 := Scalar.cmpi .ne v420 c0_i32_200
  v421

def k0_off61 (v417 : BitVec 32) : Fin 2 → Nat :=
  let c512_i32 : BitVec 32 := 512#32
  let v533 : BitVec 32 := Scalar.subi v417 c512_i32
  let c8_i32 : BitVec 32 := 8#32
  let v534 : BitVec 32 := Scalar.muli v533 c8_i32
  let v535 : BitVec 32 := v534
  let c0_i32_274 : BitVec 32 := 0#32
  ![v535.toNat, 0]

def k0_chk61 (i : grid0.Coords) (v417 : BitVec 32) (v418 : BitVec 32) : Prop :=
  (∀ (k0_h1 : k0_cond1 i = 1#1), ∀ (k0_h94 : k0_cond94 v417 v418 = 1#1), 4096 ∣ (k0_mult61 v417).toNat) ∧
  (∀ (k0_h1 : k0_cond1 i = 1#1), ∀ (k0_h94 : k0_cond94 v417 v418 = 1#1), ∀ a, (k0_off61 v417) a + S4096x128.size a ≤ S655360x128.size a)
theorem k0_mult61_dvd : ∀ (i : grid0.Coords) (v417 : BitVec 32) (v418 : BitVec 32) (k0_hw61 : k0_chk61 i v417 v418), ∀ (k0_h1 : k0_cond1 i = 1#1), ∀ (k0_h94 : k0_cond94 v417 v418 = 1#1), 4096 ∣ (k0_mult61 v417).toNat := fun i v417 v418 k0_hw61 k0_h1 k0_h94 => k0_hw61.1 k0_h1 k0_h94
theorem k0_off61_inb : ∀ (i : grid0.Coords) (v417 : BitVec 32) (v418 : BitVec 32) (k0_hw61 : k0_chk61 i v417 v418), ∀ (k0_h1 : k0_cond1 i = 1#1), ∀ (k0_h94 : k0_cond94 v417 v418 = 1#1), ∀ a, (k0_off61 v417) a + S4096x128.size a ≤ S655360x128.size a := fun i v417 v418 k0_hw61 k0_h1 k0_h94 => k0_hw61.2 k0_h1 k0_h94

def k0_mult62 (v422 : BitVec 32) : BitVec 32 :=
  let c512_i32 : BitVec 32 := 512#32
  let v533 : BitVec 32 := Scalar.subi v422 c512_i32
  let c8_i32 : BitVec 32 := 8#32
  let v534 : BitVec 32 := Scalar.muli v533 c8_i32
  v534
def k0_cond95 (v422 : BitVec 32) (v423 : BitVec 32) : BitVec 1 :=
  let v424 : BitVec 1 := Scalar.cmpi .sgt v422 v423
  let v425 : BitVec 32 := Scalar.extui v424
  let c0_i32_203 : BitVec 32 := 0#32
  let v426 : BitVec 1 := Scalar.cmpi .ne v425 c0_i32_203
  v426

def k0_off62 (v422 : BitVec 32) : Fin 2 → Nat :=
  let c512_i32 : BitVec 32 := 512#32
  let v533 : BitVec 32 := Scalar.subi v422 c512_i32
  let c8_i32 : BitVec 32 := 8#32
  let v534 : BitVec 32 := Scalar.muli v533 c8_i32
  let v535 : BitVec 32 := v534
  let c0_i32_274 : BitVec 32 := 0#32
  ![v535.toNat, 0]

def k0_chk62 (i : grid0.Coords) (v422 : BitVec 32) (v423 : BitVec 32) : Prop :=
  (∀ (k0_h1 : k0_cond1 i = 1#1), ∀ (k0_h95 : k0_cond95 v422 v423 = 1#1), 4096 ∣ (k0_mult62 v422).toNat) ∧
  (∀ (k0_h1 : k0_cond1 i = 1#1), ∀ (k0_h95 : k0_cond95 v422 v423 = 1#1), ∀ a, (k0_off62 v422) a + S4096x128.size a ≤ S655360x128.size a)
theorem k0_mult62_dvd : ∀ (i : grid0.Coords) (v422 : BitVec 32) (v423 : BitVec 32) (k0_hw62 : k0_chk62 i v422 v423), ∀ (k0_h1 : k0_cond1 i = 1#1), ∀ (k0_h95 : k0_cond95 v422 v423 = 1#1), 4096 ∣ (k0_mult62 v422).toNat := fun i v422 v423 k0_hw62 k0_h1 k0_h95 => k0_hw62.1 k0_h1 k0_h95
theorem k0_off62_inb : ∀ (i : grid0.Coords) (v422 : BitVec 32) (v423 : BitVec 32) (k0_hw62 : k0_chk62 i v422 v423), ∀ (k0_h1 : k0_cond1 i = 1#1), ∀ (k0_h95 : k0_cond95 v422 v423 = 1#1), ∀ a, (k0_off62 v422) a + S4096x128.size a ≤ S655360x128.size a := fun i v422 v423 k0_hw62 k0_h1 k0_h95 => k0_hw62.2 k0_h1 k0_h95

def k0_mult63 (v427 : BitVec 32) : BitVec 32 :=
  let c512_i32 : BitVec 32 := 512#32
  let v533 : BitVec 32 := Scalar.subi v427 c512_i32
  let c8_i32 : BitVec 32 := 8#32
  let v534 : BitVec 32 := Scalar.muli v533 c8_i32
  v534
def k0_cond96 (v427 : BitVec 32) (v428 : BitVec 32) : BitVec 1 :=
  let v429 : BitVec 1 := Scalar.cmpi .sgt v427 v428
  let v430 : BitVec 32 := Scalar.extui v429
  let c0_i32_206 : BitVec 32 := 0#32
  let v431 : BitVec 1 := Scalar.cmpi .ne v430 c0_i32_206
  v431

def k0_off63 (v427 : BitVec 32) : Fin 2 → Nat :=
  let c512_i32 : BitVec 32 := 512#32
  let v533 : BitVec 32 := Scalar.subi v427 c512_i32
  let c8_i32 : BitVec 32 := 8#32
  let v534 : BitVec 32 := Scalar.muli v533 c8_i32
  let v535 : BitVec 32 := v534
  let c0_i32_274 : BitVec 32 := 0#32
  ![v535.toNat, 0]

def k0_chk63 (i : grid0.Coords) (v427 : BitVec 32) (v428 : BitVec 32) : Prop :=
  (∀ (k0_h1 : k0_cond1 i = 1#1), ∀ (k0_h96 : k0_cond96 v427 v428 = 1#1), 4096 ∣ (k0_mult63 v427).toNat) ∧
  (∀ (k0_h1 : k0_cond1 i = 1#1), ∀ (k0_h96 : k0_cond96 v427 v428 = 1#1), ∀ a, (k0_off63 v427) a + S4096x128.size a ≤ S655360x128.size a)
theorem k0_mult63_dvd : ∀ (i : grid0.Coords) (v427 : BitVec 32) (v428 : BitVec 32) (k0_hw63 : k0_chk63 i v427 v428), ∀ (k0_h1 : k0_cond1 i = 1#1), ∀ (k0_h96 : k0_cond96 v427 v428 = 1#1), 4096 ∣ (k0_mult63 v427).toNat := fun i v427 v428 k0_hw63 k0_h1 k0_h96 => k0_hw63.1 k0_h1 k0_h96
theorem k0_off63_inb : ∀ (i : grid0.Coords) (v427 : BitVec 32) (v428 : BitVec 32) (k0_hw63 : k0_chk63 i v427 v428), ∀ (k0_h1 : k0_cond1 i = 1#1), ∀ (k0_h96 : k0_cond96 v427 v428 = 1#1), ∀ a, (k0_off63 v427) a + S4096x128.size a ≤ S655360x128.size a := fun i v427 v428 k0_hw63 k0_h1 k0_h96 => k0_hw63.2 k0_h1 k0_h96

def k0_mult64 (v432 : BitVec 32) : BitVec 32 :=
  let c512_i32 : BitVec 32 := 512#32
  let v533 : BitVec 32 := Scalar.subi v432 c512_i32
  let c8_i32 : BitVec 32 := 8#32
  let v534 : BitVec 32 := Scalar.muli v533 c8_i32
  v534
def k0_cond97 (v432 : BitVec 32) (v433 : BitVec 32) : BitVec 1 :=
  let v434 : BitVec 1 := Scalar.cmpi .sgt v432 v433
  let v435 : BitVec 32 := Scalar.extui v434
  let c0_i32_209 : BitVec 32 := 0#32
  let v436 : BitVec 1 := Scalar.cmpi .ne v435 c0_i32_209
  v436

def k0_off64 (v432 : BitVec 32) : Fin 2 → Nat :=
  let c512_i32 : BitVec 32 := 512#32
  let v533 : BitVec 32 := Scalar.subi v432 c512_i32
  let c8_i32 : BitVec 32 := 8#32
  let v534 : BitVec 32 := Scalar.muli v533 c8_i32
  let v535 : BitVec 32 := v534
  let c0_i32_274 : BitVec 32 := 0#32
  ![v535.toNat, 0]

def k0_chk64 (i : grid0.Coords) (v432 : BitVec 32) (v433 : BitVec 32) : Prop :=
  (∀ (k0_h1 : k0_cond1 i = 1#1), ∀ (k0_h97 : k0_cond97 v432 v433 = 1#1), 4096 ∣ (k0_mult64 v432).toNat) ∧
  (∀ (k0_h1 : k0_cond1 i = 1#1), ∀ (k0_h97 : k0_cond97 v432 v433 = 1#1), ∀ a, (k0_off64 v432) a + S4096x128.size a ≤ S655360x128.size a)
theorem k0_mult64_dvd : ∀ (i : grid0.Coords) (v432 : BitVec 32) (v433 : BitVec 32) (k0_hw64 : k0_chk64 i v432 v433), ∀ (k0_h1 : k0_cond1 i = 1#1), ∀ (k0_h97 : k0_cond97 v432 v433 = 1#1), 4096 ∣ (k0_mult64 v432).toNat := fun i v432 v433 k0_hw64 k0_h1 k0_h97 => k0_hw64.1 k0_h1 k0_h97
theorem k0_off64_inb : ∀ (i : grid0.Coords) (v432 : BitVec 32) (v433 : BitVec 32) (k0_hw64 : k0_chk64 i v432 v433), ∀ (k0_h1 : k0_cond1 i = 1#1), ∀ (k0_h97 : k0_cond97 v432 v433 = 1#1), ∀ a, (k0_off64 v432) a + S4096x128.size a ≤ S655360x128.size a := fun i v432 v433 k0_hw64 k0_h1 k0_h97 => k0_hw64.2 k0_h1 k0_h97

def k0_cond130 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult65 : BitVec 32 :=
  let c0_i32_15 : BitVec 32 := 0#32
  c0_i32_15
def k0_cond131 (i : grid0.Coords) : BitVec 1 :=
  let arg0 : BitVec 32 := BitVec.ofNat 32 (i 0).val
  let c2_i32 : BitVec 32 := 2#32
  let v6 : BitVec 32 := Scalar.remsi arg0 c2_i32
  let c0_i32_3 : BitVec 32 := 0#32
  let v7 : BitVec 1 := Scalar.cmpi .eq v6 c0_i32_3
  let v8 : BitVec 32 := Scalar.extui v7
  let c0_i32_4 : BitVec 32 := 0#32
  let v9 : BitVec 1 := Scalar.cmpi .ne v8 c0_i32_4
  v9

def k0_mult66 (i : grid0.Coords) : BitVec 32 :=
  let arg0 : BitVec 32 := BitVec.ofNat 32 (i 0).val
  let c2048_i32 : BitVec 32 := 2048#32
  let v18 : BitVec 32 := Scalar.muli arg0 c2048_i32
  v18
def k0_off65 (i : grid0.Coords) : Fin 2 → Nat :=
  let c0_i32_18 : BitVec 32 := 0#32
  let arg0 : BitVec 32 := BitVec.ofNat 32 (i 0).val
  let c2048_i32 : BitVec 32 := 2048#32
  let v18 : BitVec 32 := Scalar.muli arg0 c2048_i32
  let v19 : BitVec 32 := v18
  ![0, v19.toNat]
def k0_cond132 (i : grid0.Coords) : BitVec 1 :=
  let arg0 : BitVec 32 := BitVec.ofNat 32 (i 0).val
  let c1_i32_19 : BitVec 32 := 1#32
  let v24 : BitVec 32 := Scalar.addi arg0 c1_i32_19
  let c8_i32 : BitVec 32 := 8#32
  let v25 : BitVec 1 := Scalar.cmpi .slt v24 c8_i32
  let v26 : BitVec 32 := Scalar.extui v25
  let c0_i32_20 : BitVec 32 := 0#32
  let v27 : BitVec 1 := Scalar.cmpi .ne v26 c0_i32_20
  v27

def k0_mult67 (i : grid0.Coords) : BitVec 32 :=
  let arg0 : BitVec 32 := BitVec.ofNat 32 (i 0).val
  let c1_i32_25 : BitVec 32 := 1#32
  let v29 : BitVec 32 := Scalar.addi arg0 c1_i32_25
  let c2048_i32_26 : BitVec 32 := 2048#32
  let v30 : BitVec 32 := Scalar.muli v29 c2048_i32_26
  v30
def k0_off66 (i : grid0.Coords) : Fin 2 → Nat :=
  let c0_i32_29 : BitVec 32 := 0#32
  let arg0 : BitVec 32 := BitVec.ofNat 32 (i 0).val
  let c1_i32_25 : BitVec 32 := 1#32
  let v29 : BitVec 32 := Scalar.addi arg0 c1_i32_25
  let c2048_i32_26 : BitVec 32 := 2048#32
  let v30 : BitVec 32 := Scalar.muli v29 c2048_i32_26
  let v31 : BitVec 32 := v30
  ![0, v31.toNat]
@[reducible] def k0_t1_loop : Scf.Loop 32 :=
  let c0_i32_21 : BitVec 32 := 0#32
  let c2048_i32_22 : BitVec 32 := 2048#32
  let v28 : BitVec 32 := Scalar.addi c0_i32_21 c2048_i32_22
  let c1_i32_23 : BitVec 32 := 1#32
  ⟨c0_i32_21, v28, c1_i32_23⟩
def k0_mult68 (k0_t1 : Fin k0_t1_loop.trips) : BitVec 32 :=
  let c0_i32_21 : BitVec 32 := 0#32
  let c1_i32_23 : BitVec 32 := 1#32
  let arg9 : BitVec 32 := Scf.iv c0_i32_21 c1_i32_23 k0_t1
  let c8_i32_25 : BitVec 32 := 8#32
  let v29 : BitVec 32 := Scalar.muli arg9 c8_i32_25
  v29
def k0_off67 (k0_t1 : Fin k0_t1_loop.trips) : Fin 2 → Nat :=
  let c0 : Index := 0#32
  let c0_i32_21 : BitVec 32 := 0#32
  let c1_i32_23 : BitVec 32 := 1#32
  let arg9 : BitVec 32 := Scf.iv c0_i32_21 c1_i32_23 k0_t1
  let v31 : Index := Scalar.indexCast arg9
  ![0, v31.toNat]
def k0_mult69 (v32 : BitVec 32) : BitVec 32 :=
  let c8_i32_26 : BitVec 32 := 8#32
  let v33 : BitVec 32 := Scalar.muli v32 c8_i32_26
  v33

def k0_off68 (v32 : BitVec 32) : Fin 2 → Nat :=
  let c8_i32_26 : BitVec 32 := 8#32
  let v33 : BitVec 32 := Scalar.muli v32 c8_i32_26
  let v34 : BitVec 32 := v33
  let c0_i32_27 : BitVec 32 := 0#32
  ![v34.toNat, 0]

def k0_chk65 (i : grid0.Coords) (v32 : BitVec 32) : Prop :=
  (∀ (k0_h131 : k0_cond131 i = 1#1), 8 ∣ (k0_mult69 v32).toNat) ∧
  (∀ (k0_h131 : k0_cond131 i = 1#1), ∀ a, (k0_off68 v32) a + S8x128.size a ≤ S655360x128.size a)
theorem k0_mult69_dvd : ∀ (i : grid0.Coords) (v32 : BitVec 32) (k0_hw65 : k0_chk65 i v32), ∀ (k0_h131 : k0_cond131 i = 1#1), 8 ∣ (k0_mult69 v32).toNat := fun i v32 k0_hw65 k0_h131 => k0_hw65.1 k0_h131
theorem k0_off68_inb : ∀ (i : grid0.Coords) (v32 : BitVec 32) (k0_hw65 : k0_chk65 i v32), ∀ (k0_h131 : k0_cond131 i = 1#1), ∀ a, (k0_off68 v32) a + S8x128.size a ≤ S655360x128.size a := fun i v32 k0_hw65 k0_h131 => k0_hw65.2 k0_h131

def k0_off69 (k0_t1 : Fin k0_t1_loop.trips) : Fin 2 → Nat :=
  let c0_i32_21 : BitVec 32 := 0#32
  let c1_i32_23 : BitVec 32 := 1#32
  let arg9 : BitVec 32 := Scf.iv c0_i32_21 c1_i32_23 k0_t1
  let c8_i32_25 : BitVec 32 := 8#32
  let v29 : BitVec 32 := Scalar.muli arg9 c8_i32_25
  let v30 : BitVec 32 := v29
  let c0_i32_28 : BitVec 32 := 0#32
  ![v30.toNat, 0]
def k0_off70 (k0_t1 : Fin k0_t1_loop.trips) : Fin 2 → Nat :=
  let c1 : Index := 1#32
  let c0_i32_21 : BitVec 32 := 0#32
  let c1_i32_23 : BitVec 32 := 1#32
  let arg9 : BitVec 32 := Scf.iv c0_i32_21 c1_i32_23 k0_t1
  let v37 : Index := Scalar.indexCast arg9
  ![1, v37.toNat]
def k0_mult70 (v38 : BitVec 32) : BitVec 32 :=
  let c8_i32_29 : BitVec 32 := 8#32
  let v39 : BitVec 32 := Scalar.muli v38 c8_i32_29
  v39

def k0_off71 (v38 : BitVec 32) : Fin 2 → Nat :=
  let c8_i32_29 : BitVec 32 := 8#32
  let v39 : BitVec 32 := Scalar.muli v38 c8_i32_29
  let v40 : BitVec 32 := v39
  let c0_i32_30 : BitVec 32 := 0#32
  ![v40.toNat, 0]

def k0_chk66 (i : grid0.Coords) (v38 : BitVec 32) : Prop :=
  (∀ (k0_h131 : k0_cond131 i = 1#1), 8 ∣ (k0_mult70 v38).toNat) ∧
  (∀ (k0_h131 : k0_cond131 i = 1#1), ∀ a, (k0_off71 v38) a + S8x128.size a ≤ S655360x128.size a)
theorem k0_mult70_dvd : ∀ (i : grid0.Coords) (v38 : BitVec 32) (k0_hw66 : k0_chk66 i v38), ∀ (k0_h131 : k0_cond131 i = 1#1), 8 ∣ (k0_mult70 v38).toNat := fun i v38 k0_hw66 k0_h131 => k0_hw66.1 k0_h131
theorem k0_off71_inb : ∀ (i : grid0.Coords) (v38 : BitVec 32) (k0_hw66 : k0_chk66 i v38), ∀ (k0_h131 : k0_cond131 i = 1#1), ∀ a, (k0_off71 v38) a + S8x128.size a ≤ S655360x128.size a := fun i v38 k0_hw66 k0_h131 => k0_hw66.2 k0_h131

def k0_off72 (k0_t1 : Fin k0_t1_loop.trips) : Fin 2 → Nat :=
  let c0_i32_21 : BitVec 32 := 0#32
  let c1_i32_23 : BitVec 32 := 1#32
  let arg9 : BitVec 32 := Scf.iv c0_i32_21 c1_i32_23 k0_t1
  let c8_i32_25 : BitVec 32 := 8#32
  let v29 : BitVec 32 := Scalar.muli arg9 c8_i32_25
  let v30 : BitVec 32 := v29
  let c0_i32_31 : BitVec 32 := 0#32
  ![v30.toNat, 0]
def k0_off73 (k0_t1 : Fin k0_t1_loop.trips) : Fin 2 → Nat :=
  let c2 : Index := 2#32
  let c0_i32_21 : BitVec 32 := 0#32
  let c1_i32_23 : BitVec 32 := 1#32
  let arg9 : BitVec 32 := Scf.iv c0_i32_21 c1_i32_23 k0_t1
  let v43 : Index := Scalar.indexCast arg9
  ![2, v43.toNat]
def k0_mult71 (v44 : BitVec 32) : BitVec 32 :=
  let c8_i32_32 : BitVec 32 := 8#32
  let v45 : BitVec 32 := Scalar.muli v44 c8_i32_32
  v45

def k0_off74 (v44 : BitVec 32) : Fin 2 → Nat :=
  let c8_i32_32 : BitVec 32 := 8#32
  let v45 : BitVec 32 := Scalar.muli v44 c8_i32_32
  let v46 : BitVec 32 := v45
  let c0_i32_33 : BitVec 32 := 0#32
  ![v46.toNat, 0]

def k0_chk67 (i : grid0.Coords) (v44 : BitVec 32) : Prop :=
  (∀ (k0_h131 : k0_cond131 i = 1#1), 8 ∣ (k0_mult71 v44).toNat) ∧
  (∀ (k0_h131 : k0_cond131 i = 1#1), ∀ a, (k0_off74 v44) a + S8x128.size a ≤ S655360x128.size a)
theorem k0_mult71_dvd : ∀ (i : grid0.Coords) (v44 : BitVec 32) (k0_hw67 : k0_chk67 i v44), ∀ (k0_h131 : k0_cond131 i = 1#1), 8 ∣ (k0_mult71 v44).toNat := fun i v44 k0_hw67 k0_h131 => k0_hw67.1 k0_h131
theorem k0_off74_inb : ∀ (i : grid0.Coords) (v44 : BitVec 32) (k0_hw67 : k0_chk67 i v44), ∀ (k0_h131 : k0_cond131 i = 1#1), ∀ a, (k0_off74 v44) a + S8x128.size a ≤ S655360x128.size a := fun i v44 k0_hw67 k0_h131 => k0_hw67.2 k0_h131

def k0_off75 (k0_t1 : Fin k0_t1_loop.trips) : Fin 2 → Nat :=
  let c0_i32_21 : BitVec 32 := 0#32
  let c1_i32_23 : BitVec 32 := 1#32
  let arg9 : BitVec 32 := Scf.iv c0_i32_21 c1_i32_23 k0_t1
  let c8_i32_25 : BitVec 32 := 8#32
  let v29 : BitVec 32 := Scalar.muli arg9 c8_i32_25
  let v30 : BitVec 32 := v29
  let c0_i32_34 : BitVec 32 := 0#32
  ![v30.toNat, 0]
def k0_off76 (k0_t1 : Fin k0_t1_loop.trips) : Fin 2 → Nat :=
  let c3 : Index := 3#32
  let c0_i32_21 : BitVec 32 := 0#32
  let c1_i32_23 : BitVec 32 := 1#32
  let arg9 : BitVec 32 := Scf.iv c0_i32_21 c1_i32_23 k0_t1
  let v49 : Index := Scalar.indexCast arg9
  ![3, v49.toNat]
def k0_mult72 (v50 : BitVec 32) : BitVec 32 :=
  let c8_i32_35 : BitVec 32 := 8#32
  let v51 : BitVec 32 := Scalar.muli v50 c8_i32_35
  v51

def k0_off77 (v50 : BitVec 32) : Fin 2 → Nat :=
  let c8_i32_35 : BitVec 32 := 8#32
  let v51 : BitVec 32 := Scalar.muli v50 c8_i32_35
  let v52 : BitVec 32 := v51
  let c0_i32_36 : BitVec 32 := 0#32
  ![v52.toNat, 0]

def k0_chk68 (i : grid0.Coords) (v50 : BitVec 32) : Prop :=
  (∀ (k0_h131 : k0_cond131 i = 1#1), 8 ∣ (k0_mult72 v50).toNat) ∧
  (∀ (k0_h131 : k0_cond131 i = 1#1), ∀ a, (k0_off77 v50) a + S8x128.size a ≤ S655360x128.size a)
theorem k0_mult72_dvd : ∀ (i : grid0.Coords) (v50 : BitVec 32) (k0_hw68 : k0_chk68 i v50), ∀ (k0_h131 : k0_cond131 i = 1#1), 8 ∣ (k0_mult72 v50).toNat := fun i v50 k0_hw68 k0_h131 => k0_hw68.1 k0_h131
theorem k0_off77_inb : ∀ (i : grid0.Coords) (v50 : BitVec 32) (k0_hw68 : k0_chk68 i v50), ∀ (k0_h131 : k0_cond131 i = 1#1), ∀ a, (k0_off77 v50) a + S8x128.size a ≤ S655360x128.size a := fun i v50 k0_hw68 k0_h131 => k0_hw68.2 k0_h131

def k0_off78 (k0_t1 : Fin k0_t1_loop.trips) : Fin 2 → Nat :=
  let c0_i32_21 : BitVec 32 := 0#32
  let c1_i32_23 : BitVec 32 := 1#32
  let arg9 : BitVec 32 := Scf.iv c0_i32_21 c1_i32_23 k0_t1
  let c8_i32_25 : BitVec 32 := 8#32
  let v29 : BitVec 32 := Scalar.muli arg9 c8_i32_25
  let v30 : BitVec 32 := v29
  let c0_i32_37 : BitVec 32 := 0#32
  ![v30.toNat, 0]
def k0_cond133 (i : grid0.Coords) : BitVec 1 :=
  let arg0 : BitVec 32 := BitVec.ofNat 32 (i 0).val
  let c2_i32_5 : BitVec 32 := 2#32
  let v10 : BitVec 32 := Scalar.remsi arg0 c2_i32_5
  let c1_i32 : BitVec 32 := 1#32
  let v11 : BitVec 1 := Scalar.cmpi .eq v10 c1_i32
  let v12 : BitVec 32 := Scalar.extui v11
  let c0_i32_6 : BitVec 32 := 0#32
  let v13 : BitVec 1 := Scalar.cmpi .ne v12 c0_i32_6
  v13

def k0_mult73 (i : grid0.Coords) : BitVec 32 :=
  let arg0 : BitVec 32 := BitVec.ofNat 32 (i 0).val
  let c2048_i32 : BitVec 32 := 2048#32
  let v18 : BitVec 32 := Scalar.muli arg0 c2048_i32
  v18
def k0_off79 (i : grid0.Coords) : Fin 2 → Nat :=
  let c0_i32_17 : BitVec 32 := 0#32
  let arg0 : BitVec 32 := BitVec.ofNat 32 (i 0).val
  let c2048_i32 : BitVec 32 := 2048#32
  let v18 : BitVec 32 := Scalar.muli arg0 c2048_i32
  let v19 : BitVec 32 := v18
  ![0, v19.toNat]
def k0_cond134 (i : grid0.Coords) : BitVec 1 :=
  let arg0 : BitVec 32 := BitVec.ofNat 32 (i 0).val
  let c1_i32_18 : BitVec 32 := 1#32
  let v24 : BitVec 32 := Scalar.addi arg0 c1_i32_18
  let c8_i32 : BitVec 32 := 8#32
  let v25 : BitVec 1 := Scalar.cmpi .slt v24 c8_i32
  let v26 : BitVec 32 := Scalar.extui v25
  let c0_i32_19 : BitVec 32 := 0#32
  let v27 : BitVec 1 := Scalar.cmpi .ne v26 c0_i32_19
  v27

def k0_mult74 (i : grid0.Coords) : BitVec 32 :=
  let arg0 : BitVec 32 := BitVec.ofNat 32 (i 0).val
  let c1_i32_24 : BitVec 32 := 1#32
  let v29 : BitVec 32 := Scalar.addi arg0 c1_i32_24
  let c2048_i32_25 : BitVec 32 := 2048#32
  let v30 : BitVec 32 := Scalar.muli v29 c2048_i32_25
  v30
def k0_off80 (i : grid0.Coords) : Fin 2 → Nat :=
  let c0_i32_29 : BitVec 32 := 0#32
  let arg0 : BitVec 32 := BitVec.ofNat 32 (i 0).val
  let c1_i32_24 : BitVec 32 := 1#32
  let v29 : BitVec 32 := Scalar.addi arg0 c1_i32_24
  let c2048_i32_25 : BitVec 32 := 2048#32
  let v30 : BitVec 32 := Scalar.muli v29 c2048_i32_25
  let v31 : BitVec 32 := v30
  ![0, v31.toNat]
@[reducible] def k0_t2_loop : Scf.Loop 32 :=
  let c0_i32_20 : BitVec 32 := 0#32
  let c2048_i32_21 : BitVec 32 := 2048#32
  let v28 : BitVec 32 := Scalar.addi c0_i32_20 c2048_i32_21
  let c1_i32_22 : BitVec 32 := 1#32
  ⟨c0_i32_20, v28, c1_i32_22⟩
def k0_mult75 (k0_t2 : Fin k0_t2_loop.trips) : BitVec 32 :=
  let c0_i32_20 : BitVec 32 := 0#32
  let c1_i32_22 : BitVec 32 := 1#32
  let arg9 : BitVec 32 := Scf.iv c0_i32_20 c1_i32_22 k0_t2
  let c8_i32_24 : BitVec 32 := 8#32
  let v29 : BitVec 32 := Scalar.muli arg9 c8_i32_24
  v29
def k0_off81 (k0_t2 : Fin k0_t2_loop.trips) : Fin 2 → Nat :=
  let c4 : Index := 4#32
  let c0_i32_20 : BitVec 32 := 0#32
  let c1_i32_22 : BitVec 32 := 1#32
  let arg9 : BitVec 32 := Scf.iv c0_i32_20 c1_i32_22 k0_t2
  let v31 : Index := Scalar.indexCast arg9
  ![4, v31.toNat]
def k0_mult76 (v32 : BitVec 32) : BitVec 32 :=
  let c8_i32_25 : BitVec 32 := 8#32
  let v33 : BitVec 32 := Scalar.muli v32 c8_i32_25
  v33

def k0_off82 (v32 : BitVec 32) : Fin 2 → Nat :=
  let c8_i32_25 : BitVec 32 := 8#32
  let v33 : BitVec 32 := Scalar.muli v32 c8_i32_25
  let v34 : BitVec 32 := v33
  let c0_i32_26 : BitVec 32 := 0#32
  ![v34.toNat, 0]

def k0_chk69 (i : grid0.Coords) (v32 : BitVec 32) : Prop :=
  (∀ (k0_h133 : k0_cond133 i = 1#1), 8 ∣ (k0_mult76 v32).toNat) ∧
  (∀ (k0_h133 : k0_cond133 i = 1#1), ∀ a, (k0_off82 v32) a + S8x128.size a ≤ S655360x128.size a)
theorem k0_mult76_dvd : ∀ (i : grid0.Coords) (v32 : BitVec 32) (k0_hw69 : k0_chk69 i v32), ∀ (k0_h133 : k0_cond133 i = 1#1), 8 ∣ (k0_mult76 v32).toNat := fun i v32 k0_hw69 k0_h133 => k0_hw69.1 k0_h133
theorem k0_off82_inb : ∀ (i : grid0.Coords) (v32 : BitVec 32) (k0_hw69 : k0_chk69 i v32), ∀ (k0_h133 : k0_cond133 i = 1#1), ∀ a, (k0_off82 v32) a + S8x128.size a ≤ S655360x128.size a := fun i v32 k0_hw69 k0_h133 => k0_hw69.2 k0_h133

def k0_off83 (k0_t2 : Fin k0_t2_loop.trips) : Fin 2 → Nat :=
  let c0_i32_20 : BitVec 32 := 0#32
  let c1_i32_22 : BitVec 32 := 1#32
  let arg9 : BitVec 32 := Scf.iv c0_i32_20 c1_i32_22 k0_t2
  let c8_i32_24 : BitVec 32 := 8#32
  let v29 : BitVec 32 := Scalar.muli arg9 c8_i32_24
  let v30 : BitVec 32 := v29
  let c0_i32_27 : BitVec 32 := 0#32
  ![v30.toNat, 0]
def k0_off84 (k0_t2 : Fin k0_t2_loop.trips) : Fin 2 → Nat :=
  let c5 : Index := 5#32
  let c0_i32_20 : BitVec 32 := 0#32
  let c1_i32_22 : BitVec 32 := 1#32
  let arg9 : BitVec 32 := Scf.iv c0_i32_20 c1_i32_22 k0_t2
  let v37 : Index := Scalar.indexCast arg9
  ![5, v37.toNat]
def k0_mult77 (v38 : BitVec 32) : BitVec 32 :=
  let c8_i32_28 : BitVec 32 := 8#32
  let v39 : BitVec 32 := Scalar.muli v38 c8_i32_28
  v39

def k0_off85 (v38 : BitVec 32) : Fin 2 → Nat :=
  let c8_i32_28 : BitVec 32 := 8#32
  let v39 : BitVec 32 := Scalar.muli v38 c8_i32_28
  let v40 : BitVec 32 := v39
  let c0_i32_29 : BitVec 32 := 0#32
  ![v40.toNat, 0]

def k0_chk70 (i : grid0.Coords) (v38 : BitVec 32) : Prop :=
  (∀ (k0_h133 : k0_cond133 i = 1#1), 8 ∣ (k0_mult77 v38).toNat) ∧
  (∀ (k0_h133 : k0_cond133 i = 1#1), ∀ a, (k0_off85 v38) a + S8x128.size a ≤ S655360x128.size a)
theorem k0_mult77_dvd : ∀ (i : grid0.Coords) (v38 : BitVec 32) (k0_hw70 : k0_chk70 i v38), ∀ (k0_h133 : k0_cond133 i = 1#1), 8 ∣ (k0_mult77 v38).toNat := fun i v38 k0_hw70 k0_h133 => k0_hw70.1 k0_h133
theorem k0_off85_inb : ∀ (i : grid0.Coords) (v38 : BitVec 32) (k0_hw70 : k0_chk70 i v38), ∀ (k0_h133 : k0_cond133 i = 1#1), ∀ a, (k0_off85 v38) a + S8x128.size a ≤ S655360x128.size a := fun i v38 k0_hw70 k0_h133 => k0_hw70.2 k0_h133

def k0_off86 (k0_t2 : Fin k0_t2_loop.trips) : Fin 2 → Nat :=
  let c0_i32_20 : BitVec 32 := 0#32
  let c1_i32_22 : BitVec 32 := 1#32
  let arg9 : BitVec 32 := Scf.iv c0_i32_20 c1_i32_22 k0_t2
  let c8_i32_24 : BitVec 32 := 8#32
  let v29 : BitVec 32 := Scalar.muli arg9 c8_i32_24
  let v30 : BitVec 32 := v29
  let c0_i32_30 : BitVec 32 := 0#32
  ![v30.toNat, 0]
def k0_off87 (k0_t2 : Fin k0_t2_loop.trips) : Fin 2 → Nat :=
  let c6 : Index := 6#32
  let c0_i32_20 : BitVec 32 := 0#32
  let c1_i32_22 : BitVec 32 := 1#32
  let arg9 : BitVec 32 := Scf.iv c0_i32_20 c1_i32_22 k0_t2
  let v43 : Index := Scalar.indexCast arg9
  ![6, v43.toNat]
def k0_mult78 (v44 : BitVec 32) : BitVec 32 :=
  let c8_i32_31 : BitVec 32 := 8#32
  let v45 : BitVec 32 := Scalar.muli v44 c8_i32_31
  v45

def k0_off88 (v44 : BitVec 32) : Fin 2 → Nat :=
  let c8_i32_31 : BitVec 32 := 8#32
  let v45 : BitVec 32 := Scalar.muli v44 c8_i32_31
  let v46 : BitVec 32 := v45
  let c0_i32_32 : BitVec 32 := 0#32
  ![v46.toNat, 0]

def k0_chk71 (i : grid0.Coords) (v44 : BitVec 32) : Prop :=
  (∀ (k0_h133 : k0_cond133 i = 1#1), 8 ∣ (k0_mult78 v44).toNat) ∧
  (∀ (k0_h133 : k0_cond133 i = 1#1), ∀ a, (k0_off88 v44) a + S8x128.size a ≤ S655360x128.size a)
theorem k0_mult78_dvd : ∀ (i : grid0.Coords) (v44 : BitVec 32) (k0_hw71 : k0_chk71 i v44), ∀ (k0_h133 : k0_cond133 i = 1#1), 8 ∣ (k0_mult78 v44).toNat := fun i v44 k0_hw71 k0_h133 => k0_hw71.1 k0_h133
theorem k0_off88_inb : ∀ (i : grid0.Coords) (v44 : BitVec 32) (k0_hw71 : k0_chk71 i v44), ∀ (k0_h133 : k0_cond133 i = 1#1), ∀ a, (k0_off88 v44) a + S8x128.size a ≤ S655360x128.size a := fun i v44 k0_hw71 k0_h133 => k0_hw71.2 k0_h133

def k0_off89 (k0_t2 : Fin k0_t2_loop.trips) : Fin 2 → Nat :=
  let c0_i32_20 : BitVec 32 := 0#32
  let c1_i32_22 : BitVec 32 := 1#32
  let arg9 : BitVec 32 := Scf.iv c0_i32_20 c1_i32_22 k0_t2
  let c8_i32_24 : BitVec 32 := 8#32
  let v29 : BitVec 32 := Scalar.muli arg9 c8_i32_24
  let v30 : BitVec 32 := v29
  let c0_i32_33 : BitVec 32 := 0#32
  ![v30.toNat, 0]
def k0_off90 (k0_t2 : Fin k0_t2_loop.trips) : Fin 2 → Nat :=
  let c7 : Index := 7#32
  let c0_i32_20 : BitVec 32 := 0#32
  let c1_i32_22 : BitVec 32 := 1#32
  let arg9 : BitVec 32 := Scf.iv c0_i32_20 c1_i32_22 k0_t2
  let v49 : Index := Scalar.indexCast arg9
  ![7, v49.toNat]
def k0_mult79 (v50 : BitVec 32) : BitVec 32 :=
  let c8_i32_34 : BitVec 32 := 8#32
  let v51 : BitVec 32 := Scalar.muli v50 c8_i32_34
  v51

def k0_off91 (v50 : BitVec 32) : Fin 2 → Nat :=
  let c8_i32_34 : BitVec 32 := 8#32
  let v51 : BitVec 32 := Scalar.muli v50 c8_i32_34
  let v52 : BitVec 32 := v51
  let c0_i32_35 : BitVec 32 := 0#32
  ![v52.toNat, 0]

def k0_chk72 (i : grid0.Coords) (v50 : BitVec 32) : Prop :=
  (∀ (k0_h133 : k0_cond133 i = 1#1), 8 ∣ (k0_mult79 v50).toNat) ∧
  (∀ (k0_h133 : k0_cond133 i = 1#1), ∀ a, (k0_off91 v50) a + S8x128.size a ≤ S655360x128.size a)
theorem k0_mult79_dvd : ∀ (i : grid0.Coords) (v50 : BitVec 32) (k0_hw72 : k0_chk72 i v50), ∀ (k0_h133 : k0_cond133 i = 1#1), 8 ∣ (k0_mult79 v50).toNat := fun i v50 k0_hw72 k0_h133 => k0_hw72.1 k0_h133
theorem k0_off91_inb : ∀ (i : grid0.Coords) (v50 : BitVec 32) (k0_hw72 : k0_chk72 i v50), ∀ (k0_h133 : k0_cond133 i = 1#1), ∀ a, (k0_off91 v50) a + S8x128.size a ≤ S655360x128.size a := fun i v50 k0_hw72 k0_h133 => k0_hw72.2 k0_h133

def k0_off92 (k0_t2 : Fin k0_t2_loop.trips) : Fin 2 → Nat :=
  let c0_i32_20 : BitVec 32 := 0#32
  let c1_i32_22 : BitVec 32 := 1#32
  let arg9 : BitVec 32 := Scf.iv c0_i32_20 c1_i32_22 k0_t2
  let c8_i32_24 : BitVec 32 := 8#32
  let v29 : BitVec 32 := Scalar.muli arg9 c8_i32_24
  let v30 : BitVec 32 := v29
  let c0_i32_36 : BitVec 32 := 0#32
  ![v30.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S32 : Shape := ⟨1, ![32]⟩
abbrev S4x16384 : Shape := ⟨2, ![4, 16384]⟩
abbrev S16384x1024 : Shape := ⟨2, ![16384, 1024]⟩
abbrev S_ : Shape := ⟨0, ![]⟩
abbrev S81920x1024 : Shape := ⟨2, ![81920, 1024]⟩
abbrev S4x16384x1 : Shape := ⟨3, ![4, 16384, 1]⟩
abbrev S4x16384x1024 : Shape := ⟨3, ![4, 16384, 1024]⟩
abbrev S655360x128 : Shape := ⟨2, ![655360, 128]⟩

abbrev nBuf : Space → Nat
  | .hbm => 16
  | .vmem => 0
  | .smem => 0
  | _ => 0

abbrev bufTy : (tb : Table) → Fin (tcTables nBuf tb) → BufTy
  | .hbm, ⟨0, _⟩ => ⟨S32, .i32⟩
  | .hbm, ⟨1, _⟩ => ⟨S4x16384, .i32⟩
  | .hbm, ⟨2, _⟩ => ⟨S16384x1024, .f32⟩
  | .hbm, ⟨3, _⟩ => ⟨S_, .f32⟩
  | .hbm, ⟨4, _⟩ => ⟨S81920x1024, .f32⟩
  | .hbm, ⟨5, _⟩ => ⟨S_, .i32⟩
  | .hbm, ⟨6, _⟩ => ⟨S4x16384, .i32⟩
  | .hbm, ⟨7, _⟩ => ⟨S4x16384, .i1⟩
  | .hbm, ⟨8, _⟩ => ⟨S_, .i32⟩
  | .hbm, ⟨9, _⟩ => ⟨S4x16384, .i32⟩
  | .hbm, ⟨10, _⟩ => ⟨S4x16384, .i32⟩
  | .hbm, ⟨11, _⟩ => ⟨S4x16384, .i32⟩
  | .hbm, ⟨12, _⟩ => ⟨S4x16384x1, .i32⟩
  | .hbm, ⟨13, _⟩ => ⟨S4x16384x1024, .f32⟩
  | .hbm, ⟨14, _⟩ => ⟨S81920x1024, .f32⟩
  | .hbm, ⟨15, _⟩ => ⟨S655360x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1024 : Shape := ⟨2, ![4, 1024]⟩
abbrev S1024 : Shape := ⟨1, ![1024]⟩
abbrev S1024x5664 : Shape := ⟨2, ![1024, 5664]⟩
abbrev S16384x1024 : Shape := ⟨2, ![16384, 1024]⟩
abbrev S4x1x1024 : Shape := ⟨3, ![4, 1, 1024]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S1x1x1024 : Shape := ⟨3, ![1, 1, 1024]⟩
abbrev S512x1536 : Shape := ⟨2, ![512, 1536]⟩
abbrev S512x512 : Shape := ⟨2, ![512, 512]⟩
abbrev S512x128 : Shape := ⟨2, ![512, 128]⟩
abbrev S1024x5760 : Shape := ⟨2, ![1024, 5760]⟩
abbrev S1024x1024 : Shape := ⟨2, ![1024, 1024]⟩
abbrev S1024x1536 : Shape := ⟨2, ![1024, 1536]⟩
abbrev S1024x512 : Shape := ⟨2, ![1024, 512]⟩
abbrev S1024x16 : Shape := ⟨2, ![1024, 16]⟩
abbrev S1024x96 : Shape := ⟨2, ![1024, 96]⟩
abbrev S512 : Shape := ⟨1, ![512]⟩
abbrev S512x1 : Shape := ⟨2, ![512, 1]⟩
abbrev S1024x128 : Shape := ⟨2, ![1024, 128]⟩

abbrev nBuf : Space → Nat
  | .hbm => 17
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x5664, .f32⟩
  | .hbm, ⟨5, _⟩ => ⟨S16384x1024, .f32⟩
  | .hbm, ⟨6, _⟩ => ⟨S4x1x1024, .f32⟩
  | .hbm, ⟨7, _⟩ => ⟨S4x1x1024, .f32⟩
  | .hbm, ⟨8, _⟩ => ⟨S1x1024, .f32⟩
  | .hbm, ⟨9, _⟩ => ⟨S1024x5664, .bf16⟩
  | .hbm, ⟨10, _⟩ => ⟨S16384x1024, .bf16⟩
  | .hbm, ⟨11, _⟩ => ⟨S16384x1536, .bf16⟩
  | .hbm, ⟨12, _⟩ => ⟨S16384x512, .bf16⟩
  | .hbm, ⟨13, _⟩ => ⟨S16384x512, .bf16⟩
  | .hbm, ⟨14, _⟩ => ⟨S16384x1024, .bf16⟩
  | .hbm, ⟨15, _⟩ => ⟨S16384x1024, .bf16⟩
  | .hbm, ⟨16, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5664, .bf16⟩
  | .local _ .vmem, ⟨8, _⟩ => ⟨S512x1024, .bf16⟩
  | .local _ .vmem, ⟨9, _⟩ => ⟨S512x1024, .bf16⟩
  | .local _ .vmem, ⟨10, _⟩ => ⟨S512x1536, .bf16⟩
  | .local _ .vmem, ⟨11, _⟩ => ⟨S512x1536, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S1024x5760, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S4x1024 : Shape := ⟨2, ![4, 1024]⟩
abbrev S1024 : Shape := ⟨1, ![1024]⟩
abbrev S1024x5664 : Shape := ⟨2, ![1024, 5664]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S16384x1024 : Shape := ⟨2, ![16384, 1024]⟩
abbrev S16384x5664 : Shape := ⟨2, ![16384, 5664]⟩
abbrev S16384x1536 : Shape := ⟨2, ![16384, 1536]⟩
abbrev S16384x16 : Shape := ⟨2, ![16384, 16]⟩
abbrev S16384x512 : Shape := ⟨2, ![16384, 512]⟩
abbrev S16384x96 : Shape := ⟨2, ![16384, 96]⟩
abbrev S16384x128 : Shape := ⟨2, ![16384, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x5664, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S16384x1024, .f32⟩
  | .hbm, ⟨31, _⟩ => ⟨S16384x5664, .f32⟩
  | .hbm, ⟨32, _⟩ => ⟨S16384x1024, .f32⟩
  | .hbm, ⟨33, _⟩ => ⟨S16384x1536, .f32⟩
  | .hbm, ⟨34, _⟩ => ⟨S16384x16, .f32⟩
  | .hbm, ⟨35, _⟩ => ⟨S16384x512, .f32⟩
  | .hbm, ⟨36, _⟩ => ⟨S16384x512, .f32⟩
  | .hbm, ⟨37, _⟩ => ⟨S16384x1024, .f32⟩
  | .hbm, ⟨38, _⟩ => ⟨S16384x16, .f32⟩
  | .hbm, ⟨39, _⟩ => ⟨S16384x1024, .f32⟩
  | .hbm, ⟨40, _⟩ => ⟨S_, .f32⟩
  | .hbm, ⟨41, _⟩ => ⟨S16384x96, .f32⟩
  | .hbm, ⟨42, _⟩ => ⟨S16384x128, .f32⟩
  | .hbm, ⟨43, _⟩ => ⟨S16384x1024, .bf16⟩
  | .hbm, ⟨44, _⟩ => ⟨S16384x1536, .bf16⟩
  | .hbm, ⟨45, _⟩ => ⟨S16384x512, .bf16⟩
  | .hbm, ⟨46, _⟩ => ⟨S16384x512, .bf16⟩
  | .hbm, ⟨47, _⟩ => ⟨S16384x1024, .bf16⟩
  | .hbm, ⟨48, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel3.lean ====
abbrev S160 : Shape := ⟨1, ![160]⟩
abbrev S1 : Shape := ⟨1, ![1]⟩
abbrev S64 : Shape := ⟨1, ![64]⟩
abbrev S655360x128 : Shape := ⟨2, ![655360, 128]⟩
abbrev S32x1024x1024 : Shape := ⟨3, ![32, 1024, 1024]⟩
abbrev S32x1024 : Shape := ⟨2, ![32, 1024]⟩
abbrev S_ : Shape := ⟨0, ![]⟩
abbrev S160x1 : Shape := ⟨2, ![160, 1]⟩
abbrev S32x1x1024 : Shape := ⟨3, ![32, 1, 1024]⟩
abbrev S4096x128 : Shape := ⟨2, ![4096, 128]⟩
abbrev S1x1x1024 : Shape := ⟨3, ![1, 1, 1024]⟩
abbrev S2x1024x1024 : Shape := ⟨3, ![2, 1024, 1024]⟩
abbrev S1024x1024 : Shape := ⟨2, ![1024, 1024]⟩
abbrev S2 : Shape := ⟨1, ![2]⟩
abbrev S1x1024x1024 : Shape := ⟨3, ![1, 1024, 1024]⟩
abbrev S128x128 : Shape := ⟨2, ![128, 128]⟩
abbrev S128x1024 : Shape := ⟨2, ![128, 1024]⟩
abbrev S1x1024 : Shape := ⟨2, ![1, 1024]⟩
abbrev S3072x128 : Shape := ⟨2, ![3072, 128]⟩
abbrev S256x128 : Shape := ⟨2, ![256, 128]⟩
abbrev S256x1024 : Shape := ⟨2, ![256, 1024]⟩
abbrev S2048x128 : Shape := ⟨2, ![2048, 128]⟩
abbrev S384x128 : Shape := ⟨2, ![384, 128]⟩
abbrev S384x1024 : Shape := ⟨2, ![384, 1024]⟩
abbrev S1024x128 : Shape := ⟨2, ![1024, 128]⟩
abbrev S512x128 : Shape := ⟨2, ![512, 128]⟩
abbrev S512x1024 : Shape := ⟨2, ![512, 1024]⟩

abbrev nBuf : Space → Nat
  | .hbm => 29
  | .vmem => 16
  | .smem => 4
  | _ => 0

abbrev bufTy : (tb : Table) → Fin (tcTables nBuf tb) → BufTy
  | .hbm, ⟨0, _⟩ => ⟨S160, .i32⟩
  | .hbm, ⟨1, _⟩ => ⟨S655360x128, .f32⟩
  | .hbm, ⟨2, _⟩ => ⟨S32x1024x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S160, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S_, .i32⟩
  | .hbm, ⟨15, _⟩ => ⟨S160, .i32⟩
  | .hbm, ⟨16, _⟩ => ⟨S160, .i32⟩
  | .hbm, ⟨17, _⟩ => ⟨S_, .i32⟩
  | .hbm, ⟨18, _⟩ => ⟨S160, .i32⟩
  | .hbm, ⟨19, _⟩ => ⟨S160, .i1⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S160, .i32⟩
  | .hbm, ⟨24, _⟩ => ⟨S160x1, .i32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S4096x128, .f32⟩
  | .local _ .vmem, ⟨9, _⟩ => ⟨S4096x128, .f32⟩
  | .local _ .vmem, ⟨10, _⟩ => ⟨S2x1024x1024, .f32⟩
  | .local _ .vmem, ⟨11, _⟩ => ⟨S2x1024x1024, .f32⟩
  | .local _ .vmem, ⟨12, _⟩ => ⟨S2x1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .smem, ⟨0, _⟩ => ⟨S160, .i32⟩
  | .local _ .smem, ⟨1, _⟩ => ⟨S1, .i32⟩
  | .local _ .smem, ⟨2, _⟩ => ⟨S64, .i32⟩
  | .local _ .smem, ⟨3, _⟩ => ⟨S1, .i32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v13 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_v13.idx, main_arg1.idx, main_arg2.idx], fun | 0 => main_v13.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_off2 (v3 : BitVec 32) : Fin 3 → Nat :=
  let c0_i32_20 : BitVec 32 := 0#32
  let c0_i32_21 : BitVec 32 := 0#32
  ![v3.toNat, 0, 0]

def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off4 (v47 : BitVec 32) : Fin 1 → Nat :=
  ![v47.toNat]
def k0_cond2 (i : grid0.Coords) (v0 : BitVec 32) (v3 : BitVec 32) (v11 : BitVec 32) : BitVec 1 :=
  let arg0 : BitVec 32 := BitVec.ofNat 32 (i 0).val
  let v1 : BitVec 1 := Scalar.cmpi .slt arg0 v0
  let c0_i32_1 : BitVec 32 := 0#32
  let v7 : BitVec 1 := Scalar.cmpi .eq arg0 c0_i32_1
  let v12 : BitVec 1 := Scalar.cmpi .ne v3 v11
  let v13 : BitVec 1 := Scalar.ori v7 v12
  let v14 : BitVec 1 := Scalar.andi v1 v13
  let v15 : BitVec 32 := Scalar.extui v14
  let c0_i32_3 : BitVec 32 := 0#32
  let v16 : BitVec 1 := Scalar.cmpi .ne v15 c0_i32_3
  v16

def k0_off5 (v47 : BitVec 32) : Fin 3 → Nat :=
  let c0_i32_15 : BitVec 32 := 0#32
  let c0_i32_16 : BitVec 32 := 0#32
  ![v47.toNat, 0, 0]
def k0_off6 (v3 : BitVec 32) : Fin 3 → Nat :=
  let c0_i32_17 : BitVec 32 := 0#32
  let c0_i32_18 : BitVec 32 := 0#32
  ![v3.toNat, 0, 0]

def k0_off7 (v47 : BitVec 32) : Fin 3 → Nat :=
  let v66 : Index := Scalar.indexCast v47
  let c0_27 : Index := 0#32
  let c0_28 : Index := 0#32
  ![v66.toNat, 0, 0]

def k0_chk2 (i : grid0.Coords) (v0 : BitVec 32) (v3 : BitVec 32) (v11 : BitVec 32) (v47 : BitVec 32) : Prop :=
  (∀ (k0_h2 : k0_cond2 i v0 v3 v11 = 1#1), ∀ a, (k0_off4 v47) a + S1.size a ≤ S2.size a) ∧
  (∀ (k0_h2 : k0_cond2 i v0 v3 v11 = 1#1), ∀ a, (k0_off5 v47) a + S1x1024x1024.size a ≤ S2x1024x1024.size a) ∧
  (∀ (k0_h2 : k0_cond2 i v0 v3 v11 = 1#1), ∀ a, (k0_off7 v47) a + S1x1024x1024.size a ≤ S2x1024x1024.size a)
theorem k0_off4_inb : ∀ (i : grid0.Coords) (v0 : BitVec 32) (v3 : BitVec 32) (v11 : BitVec 32) (v47 : BitVec 32) (k0_hw2 : k0_chk2 i v0 v3 v11 v47), ∀ (k0_h2 : k0_cond2 i v0 v3 v11 = 1#1), ∀ a, (k0_off4 v47) a + S1.size a ≤ S2.size a := fun i v0 v3 v11 v47 k0_hw2 k0_h2 => k0_hw2.1 k0_h2
theorem k0_off5_inb : ∀ (i : grid0.Coords) (v0 : BitVec 32) (v3 : BitVec 32) (v11 : BitVec 32) (v47 : BitVec 32) (k0_hw2 : k0_chk2 i v0 v3 v11 v47), ∀ (k0_h2 : k0_cond2 i v0 v3 v11 = 1#1), ∀ a, (k0_off5 v47) a + S1x1024x1024.size a ≤ S2x1024x1024.size a := fun i v0 v3 v11 v47 k0_hw2 k0_h2 => k0_hw2.2.1 k0_h2
theorem k0_off7_inb : ∀ (i : grid0.Coords) (v0 : BitVec 32) (v3 : BitVec 32) (v11 : BitVec 32) (v47 : BitVec 32) (k0_hw2 : k0_chk2 i v0 v3 v11 v47), ∀ (k0_h2 : k0_cond2 i v0 v3 v11 = 1#1), ∀ a, (k0_off7 v47) a + S1x1024x1024.size a ≤ S2x1024x1024.size a := fun i v0 v3 v11 v47 k0_hw2 k0_h2 => k0_hw2.2.2 k0_h2

def k0_off8 (v3 : BitVec 32) : Fin 1 → Nat :=
  let v87 : Index := Scalar.indexCast v3
  ![v87.toNat]

def k0_chk3 (i : grid0.Coords) (v0 : BitVec 32) (v3 : BitVec 32) (v11 : BitVec 32) : Prop :=
  (∀ (k0_h2 : k0_cond2 i v0 v3 v11 = 1#1), ∀ a, (k0_off6 v3) a + S1x1024x1024.size a ≤ S32x1024x1024.size a) ∧
  (∀ (k0_h2 : k0_cond2 i v0 v3 v11 = 1#1), ∀ a, (k0_off8 v3) a + S1.size a ≤ S64.size a)
theorem k0_off6_inb : ∀ (i : grid0.Coords) (v0 : BitVec 32) (v3 : BitVec 32) (v11 : BitVec 32) (k0_hw3 : k0_chk3 i v0 v3 v11), ∀ (k0_h2 : k0_cond2 i v0 v3 v11 = 1#1), ∀ a, (k0_off6 v3) a + S1x1024x1024.size a ≤ S32x1024x1024.size a := fun i v0 v3 v11 k0_hw3 k0_h2 => k0_hw3.1 k0_h2
theorem k0_off8_inb : ∀ (i : grid0.Coords) (v0 : BitVec 32) (v3 : BitVec 32) (v11 : BitVec 32) (k0_hw3 : k0_chk3 i v0 v3 v11), ∀ (k0_h2 : k0_cond2 i v0 v3 v11 = 1#1), ∀ a, (k0_off8 v3) a + S1.size a ≤ S64.size a := fun i v0 v3 v11 k0_hw3 k0_h2 => k0_hw3.2 k0_h2

def k0_off9 (v88 : BitVec 32) : Fin 1 → Nat :=
  let c512_i32_39 : BitVec 32 := 512#32
  let v89 : BitVec 32 := Scalar.divsi v88 c512_i32_39
  let v96 : Index := Scalar.indexCast v89
  ![v96.toNat]
def k0_cond3 (v88 : BitVec 32) (v90 : BitVec 32) : BitVec 1 :=
  let c512_i32_39 : BitVec 32 := 512#32
  let v89 : BitVec 32 := Scalar.divsi v88 c512_i32_39
  let v91 : BitVec 1 := Scalar.cmpi .slt v89 v90
  let v92 : BitVec 32 := Scalar.extui v91
  let c0_i32_41 : BitVec 32 := 0#32
  let v93 : BitVec 1 := Scalar.cmpi .ne v92 c0_i32_41
  v93

def k0_off10 (v47 : BitVec 32) : Fin 1 → Nat :=
  let c1_i32_44 : BitVec 32 := 1#32
  let v98 : BitVec 32 := Scalar.subi c1_i32_44 v47
  ![v98.toNat]
def k0_off11 (v47 : BitVec 32) : Fin 3 → Nat :=
  let c1_i32_44 : BitVec 32 := 1#32
  let v98 : BitVec 32 := Scalar.subi c1_i32_44 v47
  let c0_i32_45 : BitVec 32 := 0#32
  let c0_i32_46 : BitVec 32 := 0#32
  ![v98.toNat, 0, 0]
def k0_off12 (v97 : BitVec 32) : Fin 3 → Nat :=
  let c0_i32_47 : BitVec 32 := 0#32
  let c0_i32_48 : BitVec 32 := 0#32
  ![v97.toNat, 0, 0]

def k0_chk5 (i : grid0.Coords) (v0 : BitVec 32) (v3 : BitVec 32) (v11 : BitVec 32) (v88 : BitVec 32) (v90 : BitVec 32) (v97 : BitVec 32) : Prop :=
  (∀ (k0_h2 : k0_cond2 i v0 v3 v11 = 1#1), ∀ (k0_h3 : k0_cond3 v88 v90 = 1#1), ∀ a, (k0_off12 v97) a + S1x1024x1024.size a ≤ S32x1024x1024.size a)
theorem k0_off12_inb : ∀ (i : grid0.Coords) (v0 : BitVec 32) (v3 : BitVec 32) (v11 : BitVec 32) (v88 : BitVec 32) (v90 : BitVec 32) (v97 : BitVec 32) (k0_hw5 : k0_chk5 i v0 v3 v11 v88 v90 v97), ∀ (k0_h2 : k0_cond2 i v0 v3 v11 = 1#1), ∀ (k0_h3 : k0_cond3 v88 v90 = 1#1), ∀ a, (k0_off12 v97) a + S1x1024x1024.size a ≤ S32x1024x1024.size a := fun i v0 v3 v11 v88 v90 v97 k0_hw5 k0_h2 k0_h3 => k0_hw5 k0_h2 k0_h3

def k0_off13 (v47 : BitVec 32) : Fin 1 → Nat :=
  let c1_i32_44 : BitVec 32 := 1#32
  let v98 : BitVec 32 := Scalar.subi c1_i32_44 v47
  ![v98.toNat]
def k0_off14 (v47 : BitVec 32) : Fin 3 → Nat :=
  let c1_i32_44 : BitVec 32 := 1#32
  let v98 : BitVec 32 := Scalar.subi c1_i32_44 v47
  let c0_i32_49 : BitVec 32 := 0#32
  let c0_i32_50 : BitVec 32 := 0#32
  ![v98.toNat, 0, 0]

def k0_chk4 (i : grid0.Coords) (v0 : BitVec 32) (v3 : BitVec 32) (v11 : BitVec 32) (v47 : BitVec 32) (v88 : BitVec 32) (v90 : BitVec 32) : Prop :=
  (∀ (k0_h2 : k0_cond2 i v0 v3 v11 = 1#1), ∀ (k0_h3 : k0_cond3 v88 v90 = 1#1), ∀ a, (k0_off9 v88) a + S1.size a ≤ S160.size a) ∧
  (∀ (k0_h2 : k0_cond2 i v0 v3 v11 = 1#1), ∀ (k0_h3 : k0_cond3 v88 v90 = 1#1), ∀ a, (k0_off10 v47) a + S1.size a ≤ S2.size a) ∧
  (∀ (k0_h2 : k0_cond2 i v0 v3 v11 = 1#1), ∀ (k0_h3 : k0_cond3 v88 v90 = 1#1), ∀ a, (k0_off11 v47) a + S1x1024x1024.size a ≤ S2x1024x1024.size a) ∧
  (∀ (k0_h2 : k0_cond2 i v0 v3 v11 = 1#1), ∀ (k0_h3 : k0_cond3 v88 v90 = 1#1), ∀ a, (k0_off13 v47) a + S1.size a ≤ S2.size a) ∧
  (∀ (k0_h2 : k0_cond2 i v0 v3 v11 = 1#1), ∀ (k0_h3 : k0_cond3 v88 v90 = 1#1), ∀ a, (k0_off14 v47) a + S1x1024x1024.size a ≤ S2x1024x1024.size a)
theorem k0_off9_inb : ∀ (i : grid0.Coords) (v0 : BitVec 32) (v3 : BitVec 32) (v11 : BitVec 32) (v47 : BitVec 32) (v88 : BitVec 32) (v90 : BitVec 32) (k0_hw4 : k0_chk4 i v0 v3 v11 v47 v88 v90), ∀ (k0_h2 : k0_cond2 i v0 v3 v11 = 1#1), ∀ (k0_h3 : k0_cond3 v88 v90 = 1#1), ∀ a, (k0_off9 v88) a + S1.size a ≤ S160.size a := fun i v0 v3 v11 v47 v88 v90 k0_hw4 k0_h2 k0_h3 => k0_hw4.1 k0_h2 k0_h3
theorem k0_off10_inb : ∀ (i : grid0.Coords) (v0 : BitVec 32) (v3 : BitVec 32) (v11 : BitVec 32) (v47 : BitVec 32) (v88 : BitVec 32) (v90 : BitVec 32) (k0_hw4 : k0_chk4 i v0 v3 v11 v47 v88 v90), ∀ (k0_h2 : k0_cond2 i v0 v3 v11 = 1#1), ∀ (k0_h3 : k0_cond3 v88 v90 = 1#1), ∀ a, (k0_off10 v47) a + S1.size a ≤ S2.size a := fun i v0 v3 v11 v47 v88 v90 k0_hw4 k0_h2 k0_h3 => k0_hw4.2.1 k0_h2 k0_h3
theorem k0_off11_inb : ∀ (i : grid0.Coords) (v0 : BitVec 32) (v3 : BitVec 32) (v11 : BitVec 32) (v47 : BitVec 32) (v88 : BitVec 32) (v90 : BitVec 32) (k0_hw4 : k0_chk4 i v0 v3 v11 v47 v88 v90), ∀ (k0_h2 : k0_cond2 i v0 v3 v11 = 1#1), ∀ (k0_h3 : k0_cond3 v88 v90 = 1#1), ∀ a, (k0_off11 v47) a + S1x1024x1024.size a ≤ S2x1024x1024.size a := fun i v0 v3 v11 v47 v88 v90 k0_hw4 k0_h2 k0_h3 => k0_hw4.2.2.1 k0_h2 k0_h3
theorem k0_off13_inb : ∀ (i : grid0.Coords) (v0 : BitVec 32) (v3 : BitVec 32) (v11 : BitVec 32) (v47 : BitVec 32) (v88 : BitVec 32) (v90 : BitVec 32) (k0_hw4 : k0_chk4 i v0 v3 v11 v47 v88 v90), ∀ (k0_h2 : k0_cond2 i v0 v3 v11 = 1#1), ∀ (k0_h3 : k0_cond3 v88 v90 = 1#1), ∀ a, (k0_off13 v47) a + S1.size a ≤ S2.size a := fun i v0 v3 v11 v47 v88 v90 k0_hw4 k0_h2 k0_h3 => k0_hw4.2.2.2.1 k0_h2 k0_h3
theorem k0_off14_inb : ∀ (i : grid0.Coords) (v0 : BitVec 32) (v3 : BitVec 32) (v11 : BitVec 32) (v47 : BitVec 32) (v88 : BitVec 32) (v90 : BitVec 32) (k0_hw4 : k0_chk4 i v0 v3 v11 v47 v88 v90), ∀ (k0_h2 : k0_cond2 i v0 v3 v11 = 1#1), ∀ (k0_h3 : k0_cond3 v88 v90 = 1#1), ∀ a, (k0_off14 v47) a + S1x1024x1024.size a ≤ S2x1024x1024.size a := fun i v0 v3 v11 v47 v88 v90 k0_hw4 k0_h2 k0_h3 => k0_hw4.2.2.2.2 k0_h2 k0_h3

def k0_off15 (v3 : BitVec 32) : Fin 1 → Nat :=
  let c32_i32 : BitVec 32 := 32#32
  let v17 : BitVec 32 := Scalar.addi c32_i32 v3
  let v18 : Index := Scalar.indexCast v17
  ![v18.toNat]

def k0_chk1 (i : grid0.Coords) (v3 : BitVec 32) : Prop :=
  (∀ (k0_h1 : k0_cond1 i = 1#1), ∀ a, (k0_off2 v3) a + S1x1024x1024.size a ≤ S32x1024x1024.size a) ∧
  (∀ a, (k0_off15 v3) a + S1.size a ≤ S64.size a)
theorem k0_off2_inb : ∀ (i : grid0.Coords) (v3 : BitVec 32) (k0_hw1 : k0_chk1 i v3), ∀ (k0_h1 : k0_cond1 i = 1#1), ∀ a, (k0_off2 v3) a + S1x1024x1024.size a ≤ S32x1024x1024.size a := fun i v3 k0_hw1 k0_h1 => k0_hw1.1 k0_h1
theorem k0_off15_inb : ∀ (i : grid0.Coords) (v3 : BitVec 32) (k0_hw1 : k0_chk1 i v3), ∀ a, (k0_off15 v3) a + S1.size a ≤ S64.size a := fun i v3 k0_hw1 => k0_hw1.2

def k0_cond4 (i : grid0.Coords) (v0 : BitVec 32) (v19 : BitVec 32) : BitVec 1 :=
  let arg0 : BitVec 32 := BitVec.ofNat 32 (i 0).val
  let v1 : BitVec 1 := Scalar.cmpi .slt arg0 v0
  let c512_i32 : BitVec 32 := 512#32
  let v20 : BitVec 32 := Scalar.muli arg0 c512_i32
  let v21 : BitVec 32 := Scalar.subi v19 v20
  let c128_i32 : BitVec 32 := 128#32
  let v22 : BitVec 1 := Scalar.cmpi .sle v21 c128_i32
  let v_true : BitVec 1 := 1#1
  let v23 : BitVec 1 := Scalar.andi v22 v_true
  let v24 : BitVec 1 := Scalar.andi v1 v23
  let v25 : BitVec 32 := Scalar.extui v24
  let c0_i32_4 : BitVec 32 := 0#32
  let v26 : BitVec 1 := Scalar.cmpi .ne v25 c0_i32_4
  v26

def k0_cond5 (i : grid0.Coords) (v0 : BitVec 32) (v19 : BitVec 32) : BitVec 1 :=
  let arg0 : BitVec 32 := BitVec.ofNat 32 (i 0).val
  let v1 : BitVec 1 := Scalar.cmpi .slt arg0 v0
  let c512_i32 : BitVec 32 := 512#32
  let v20 : BitVec 32 := Scalar.muli arg0 c512_i32
  let v21 : BitVec 32 := Scalar.subi v19 v20
  let c256_i32 : BitVec 32 := 256#32
  let v27 : BitVec 1 := Scalar.cmpi .sle v21 c256_i32
  let c128_i32_5 : BitVec 32 := 128#32
  let v28 : BitVec 1 := Scalar.cmpi .sgt v21 c128_i32_5
  let v29 : BitVec 1 := Scalar.andi v27 v28
  let v30 : BitVec 1 := Scalar.andi v1 v29
  let v31 : BitVec 32 := Scalar.extui v30
  let c0_i32_6 : BitVec 32 := 0#32
  let v32 : BitVec 1 := Scalar.cmpi .ne v31 c0_i32_6
  v32

def k0_cond6 (i : grid0.Coords) (v0 : BitVec 32) (v19 : BitVec 32) : BitVec 1 :=
  let arg0 : BitVec 32 := BitVec.ofNat 32 (i 0).val
  let v1 : BitVec 1 := Scalar.cmpi .slt arg0 v0
  let c512_i32 : BitVec 32 := 512#32
  let v20 : BitVec 32 := Scalar.muli arg0 c512_i32
  let v21 : BitVec 32 := Scalar.subi v19 v20
  let c384_i32 : BitVec 32 := 384#32
  let v33 : BitVec 1 := Scalar.cmpi .sle v21 c384_i32
  let c256_i32_7 : BitVec 32 := 256#32
  let v34 : BitVec 1 := Scalar.cmpi .sgt v21 c256_i32_7
  let v35 : BitVec 1 := Scalar.andi v33 v34
  let v36 : BitVec 1 := Scalar.andi v1 v35
  let v37 : BitVec 32 := Scalar.extui v36
  let c0_i32_8 : BitVec 32 := 0#32
  let v38 : BitVec 1 := Scalar.cmpi .ne v37 c0_i32_8
  v38

def k0_cond7 (i : grid0.Coords) (v0 : BitVec 32) (v19 : BitVec 32) : BitVec 1 :=
  let arg0 : BitVec 32 := BitVec.ofNat 32 (i 0).val
  let v1 : BitVec 1 := Scalar.cmpi .slt arg0 v0
  let true_10 : BitVec 1 := 1#1
  let c512_i32 : BitVec 32 := 512#32
  let v20 : BitVec 32 := Scalar.muli arg0 c512_i32
  let v21 : BitVec 32 := Scalar.subi v19 v20
  let c384_i32_9 : BitVec 32 := 384#32
  let v39 : BitVec 1 := Scalar.cmpi .sgt v21 c384_i32_9
  let v40 : BitVec 1 := Scalar.andi true_10 v39
  let v41 : BitVec 1 := Scalar.andi v1 v40
  let v42 : BitVec 32 := Scalar.extui v41
  let c0_i32_11 : BitVec 32 := 0#32
  let v43 : BitVec 1 := Scalar.cmpi .ne v42 c0_i32_11
  v43

def k0_cond8 (i : grid0.Coords) (v0 : BitVec 32) : BitVec 1 :=
  let arg0 : BitVec 32 := BitVec.ofNat 32 (i 0).val
  let v1 : BitVec 1 := Scalar.cmpi .slt arg0 v0
  let true_12 : BitVec 1 := 1#1
  let v44 : BitVec 1 := Scalar.xori v1 true_12
  let v45 : BitVec 32 := Scalar.extui v44
  let c0_i32_13 : BitVec 32 := 0#32
  let v46 : BitVec 1 := Scalar.cmpi .ne v45 c0_i32_13
  v46

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S160 : Shape := ⟨1, ![160]⟩
abbrev S1 : Shape := ⟨1, ![1]⟩
abbrev S64 : Shape := ⟨1, ![64]⟩
abbrev S655360x128 : Shape := ⟨2, ![655360, 128]⟩
abbrev S32x1024x1024 : Shape := ⟨3, ![32, 1024, 1024]⟩
abbrev S32x1024 : Shape := ⟨2, ![32, 1024]⟩
abbrev S160x512x1024 : Shape := ⟨3, ![160, 512, 1024]⟩
abbrev S_ : Shape := ⟨0, ![]⟩
abbrev S160x1 : Shape := ⟨2, ![160, 1]⟩
abbrev S160x1024x1024 : Shape := ⟨3, ![160, 1024, 1024]⟩
abbrev S160x1024 : Shape := ⟨2, ![160, 1024]⟩
abbrev S160x1x1024 : Shape := ⟨3, ![160, 1, 1024]⟩
abbrev S640 : Shape := ⟨1, ![640]⟩
abbrev S160x4 : Shape := ⟨2, ![160, 4]⟩
abbrev S160x4x128x1024 : Shape := ⟨4, ![160, 4, 128, 1024]⟩
abbrev S160x4x1x1 : Shape := ⟨4, ![160, 4, 1, 1]⟩

abbrev nBuf : Space → Nat
  | .hbm => 132
  | .vmem => 0
  | .smem => 0
  | _ => 0

abbrev hbmTy0_0 (i : Nat) : BufTy := match i % 128 with
  | 0 => ⟨S160, .i32⟩
  | 1 => ⟨S1, .i32⟩
  | 2 => ⟨S64, .i32⟩
  | 3 => ⟨S655360x128, .f32⟩
  | 4 => ⟨S32x1024x1024, .f32⟩
  | 5 => ⟨S32x1024, .f32⟩
  | 6 => ⟨S32x1024x1024, .f32⟩
  | 7 => ⟨S32x1024, .f32⟩
  | 8 => ⟨S32x1024x1024, .f32⟩
  | 9 => ⟨S32x1024, .f32⟩
  | 10 => ⟨S160x512x1024, .f32⟩
  | 11 => ⟨S_, .i32⟩
  | 12 => ⟨S160, .i32⟩
  | 13 => ⟨S160, .i1⟩
  | 14 => ⟨S_, .i32⟩
  | 15 => ⟨S160, .i32⟩
  | 16 => ⟨S160, .i32⟩
  | 17 => ⟨S160, .i32⟩
  | 18 => ⟨S160x1, .i32⟩
  | 19 => ⟨S160x1024x1024, .f32⟩
  | 20 => ⟨S160x512x1024, .f32⟩
  | 21 => ⟨S_, .i32⟩
  | 22 => ⟨S160, .i32⟩
  | 23 => ⟨S160, .i1⟩
  | 24 => ⟨S_, .i32⟩
  | 25 => ⟨S160, .i32⟩
  | 26 => ⟨S160, .i32⟩
  | 27 => ⟨S160, .i32⟩
  | 28 => ⟨S160x1, .i32⟩
  | 29 => ⟨S160x1024, .f32⟩
  | 30 => ⟨S160x1x1024, .f32⟩
  | 31 => ⟨S160x512x1024, .f32⟩
  | 32 => ⟨S160x512x1024, .f32⟩
  | 33 => ⟨S_, .f32⟩
  | 34 => ⟨S160x512x1024, .f32⟩
  | 35 => ⟨S160x512x1024, .f32⟩
  | 36 => ⟨S_, .i32⟩
  | 37 => ⟨S160, .i32⟩
  | 38 => ⟨S160, .i1⟩
  | 39 => ⟨S_, .i32⟩
  | 40 => ⟨S160, .i32⟩
  | 41 => ⟨S160, .i32⟩
  | 42 => ⟨S160, .i32⟩
  | 43 => ⟨S160x1, .i32⟩
  | 44 => ⟨S160x1024x1024, .f32⟩
  | 45 => ⟨S160x512x1024, .f32⟩
  | 46 => ⟨S_, .i32⟩
  | 47 => ⟨S160, .i32⟩
  | 48 => ⟨S160, .i1⟩
  | 49 => ⟨S_, .i32⟩
  | 50 => ⟨S160, .i32⟩
  | 51 => ⟨S160, .i32⟩
  | 52 => ⟨S160, .i32⟩
  | 53 => ⟨S160x1, .i32⟩
  | 54 => ⟨S160x1024, .f32⟩
  | 55 => ⟨S160x1x1024, .f32⟩
  | 56 => ⟨S160x512x1024, .f32⟩
  | 57 => ⟨S160x512x1024, .f32⟩
  | 58 => ⟨S_, .f32⟩
  | 59 => ⟨S_, .f32⟩
  | 60 => ⟨S_, .f32⟩
  | 61 => ⟨S160x512x1024, .f32⟩
  | 62 => ⟨S160x512x1024, .f32⟩
  | 63 => ⟨S_, .f32⟩
  | 64 => ⟨S160x512x1024, .f32⟩
  | 65 => ⟨S160x512x1024, .f32⟩
  | 66 => ⟨S_, .f32⟩
  | 67 => ⟨S160x512x1024, .f32⟩
  | 68 => ⟨S160x512x1024, .f32⟩
  | 69 => ⟨S_, .f32⟩
  | 70 => ⟨S160x512x1024, .f32⟩
  | 71 => ⟨S160x512x1024, .f32⟩
  | 72 => ⟨S160x512x1024, .f32⟩
  | 73 => ⟨S160x512x1024, .f32⟩
  | 74 => ⟨S_, .f32⟩
  | 75 => ⟨S160x512x1024, .f32⟩
  | 76 => ⟨S160x512x1024, .f32⟩
  | 77 => ⟨S_, .f32⟩
  | 78 => ⟨S160x512x1024, .f32⟩
  | 79 => ⟨S160x512x1024, .f32⟩
  | 80 => ⟨S160x512x1024, .f32⟩
  | 81 => ⟨S160x512x1024, .f32⟩
  | 82 => ⟨S_, .i32⟩
  | 83 => ⟨S160, .i32⟩
  | 84 => ⟨S160, .i1⟩
  | 85 => ⟨S_, .i32⟩
  | 86 => ⟨S160, .i32⟩
  | 87 => ⟨S160, .i32⟩
  | 88 => ⟨S160, .i32⟩
  | 89 => ⟨S160x1, .i32⟩
  | 90 => ⟨S160x1024x1024, .f32⟩
  | 91 => ⟨S160x512x1024, .f32⟩
  | 92 => ⟨S_, .i32⟩
  | 93 => ⟨S160, .i32⟩
  | 94 => ⟨S160, .i1⟩
  | 95 => ⟨S_, .i32⟩
  | 96 => ⟨S160, .i32⟩
  | 97 => ⟨S160, .i32⟩
  | 98 => ⟨S160, .i32⟩
  | 99 => ⟨S160x1, .i32⟩
  | 100 => ⟨S160x1024, .f32⟩
  | 101 => ⟨S160x1x1024, .f32⟩
  | 102 => ⟨S160x512x1024, .f32⟩
  | 103 => ⟨S160x512x1024, .f32⟩
  | 104 => ⟨S640, .i32⟩
  | 105 => ⟨S_, .i32⟩
  | 106 => ⟨S640, .i32⟩
  | 107 => ⟨S640, .i32⟩
  | 108 => ⟨S160x4, .i32⟩
  | 109 => ⟨S_, .i32⟩
  | 110 => ⟨S160, .i32⟩
  | 111 => ⟨S160, .i32⟩
  | 112 => ⟨S_, .i32⟩
  | 113 => ⟨S160, .i32⟩
  | 114 => ⟨S160, .i1⟩
  | 115 => ⟨S_, .i32⟩
  | 116 => ⟨S160, .i32⟩
  | 117 => ⟨S160, .i32⟩
  | 118 => ⟨S160, .i32⟩
  | 119 => ⟨S160x1, .i32⟩
  | 120 => ⟨S160, .i32⟩
  | 121 => ⟨S160x1, .i32⟩
  | 122 => ⟨S160x4, .i32⟩
  | 123 => ⟨S160x4, .i1⟩
  | 124 => ⟨S160x4x128x1024, .f32⟩
  | 125 => ⟨S160x4x1x1, .i1⟩
  | 126 => ⟨S_, .f32⟩
  | 127 => ⟨S_, .f32⟩
  | _ => ⟨S160, .i32⟩

abbrev hbmTy0_1 (i : Nat) : BufTy := match i % 128 with
  | 0 => ⟨S160x4x128x1024, .i1⟩
  | 1 => ⟨S160x4x128x1024, .f32⟩
  | 2 => ⟨S160x4x128x1024, .f32⟩
  | 3 => ⟨S655360x128, .f32⟩
  | _ => ⟨S160, .i32⟩

abbrev hbmTy (i : Nat) : BufTy := match i / 128 with
  | 0 => hbmTy0_0 i
  | 1 => hbmTy0_1 i
  | _ => ⟨S160, .i32⟩

abbrev bufTy : (tb : Table) → Fin (tcTables nBuf tb) → BufTy
  | .hbm, ⟨i, _⟩ => hbmTy i
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_11 : Ref sig .tc := ⟨.hbm, 74, rfl⟩
abbrev main_v46 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_13 : Ref sig .tc := ⟨.hbm, 82, rfl⟩
abbrev main_v52 : Ref sig .tc := ⟨.hbm, 83, rfl⟩
abbrev main_v53 : Ref sig .tc := ⟨.hbm, 84, rfl⟩
abbrev main_c_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_c_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_c_19 : Ref sig .tc := ⟨.hbm, 112, rfl⟩
abbrev main_v76 : Ref sig .tc := ⟨.hbm, 113, rfl⟩
abbrev main_v77 : Ref sig .tc := ⟨.hbm, 114, rfl⟩
abbrev main_c_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_21 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v88 : Ref sig .tc := ⟨.hbm, 130, rfl⟩
abbrev main_v89 : Ref sig .tc := ⟨.hbm, 131, rfl⟩

abbrev nD : Nat := 1
abbrev τ : Topo := Topo.v7x

variable {F : FTy → Type} [FloatOps F]
-- ==== Proof.Lend.lean ====
/-
  Lending the pieces of two buffers to a batch of copies and taking them back.

  A batch of `m` copies reads elements `sS i` of a source buffer and writes elements `sD i` of a destination buffer, the
  destination's elements disjoint from copy to copy. Before the first copy both buffers are cut: copy `i` gets a read
  share of its source elements and the full share of its destination elements (`pieceIn`), and what no copy touches is
  kept (`kept`). When every copy has landed (`pieceOut`), the pieces make the two buffers whole again, the source as it
  was, the destination at what the copies wrote over what it held.
-/
module

public import Idealize.ShloMosaic.Lib.Batch
public import Idealize.ShloMosaic.Lib.Ring
public import Idealize.ShloMosaic.Lib.Tactic

@[expose] public section

set_option maxRecDepth 16384

noncomputable section

namespace Cert.Lend

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type} {Ix : Type} [DecidableEq Ix]
  {Name : Type} [DecidableEq Name] {U : Type} [URA U] {Lvl : Type} [Preorder Lvl]

local notation "𝕄" => MT nD τ sig Ix Val Name U Lvl

variable {m : ℕ} {ℓs ℓd : Loc nD τ sig} (q : PosShare TreeShare) (h : Buf Val ℓs)
  (sS : Fin m → Finset (Idx ℓs)) (sD : Fin m → Finset (Idx ℓd))

/-- What copy `i` is lent: a read share of its source elements, and its destination elements. -/
def pieceIn (f : Buf Val ℓd) (i : Fin m) : sProp 𝕄 :=
  iprop((ℓs ↦[sS i]{shareTok q m i} h) ∗ (ℓd ↦[sD i]{fullShare} f))

/-- What copy `i` gives back: its destination elements written, and its read share. -/
def pieceOut (g : Fin m → Buf Val ℓd) (i : Fin m) : sProp 𝕄 :=
  iprop((ℓd ↦[sD i]{fullShare} g i) ∗ (ℓs ↦[sS i]{shareTok q m i} h))

instance pieceOut_storable (g : Fin m → Buf Val ℓd) (i : Fin m) :
    Storable (upEmb : UEmb _ 𝕄) (pieceOut q h sS sD g i) := by
  unfold pieceOut; infer_instance

/-- What no copy is lent: the rest of the source at every share, and the rest of the destination. -/
def kept (f : Buf Val ℓd) : sProp 𝕄 :=
  iprop((ℓs ↦{shareDrop q m} h) ∗ bigSep Finset.univ (fun i : Fin m => (ℓs ↦[Finset.univ \ sS i]{shareTok q m i} h : sProp 𝕄))
    ∗ (ℓd ↦[Finset.univ \ Finset.univ.biUnion sD]{fullShare} f))

theorem tok_cut : bigSep Finset.univ (fun i : Fin m => (ℓs ↦{shareTok q m i} h : sProp 𝕄))
    = iprop(bigSep Finset.univ (fun i : Fin m => (ℓs ↦[sS i]{shareTok q m i} h : sProp 𝕄))
        ∗ bigSep Finset.univ (fun i : Fin m => (ℓs ↦[Finset.univ \ sS i]{shareTok q m i} h : sProp 𝕄))) := by
  rw [show (iprop(bigSep Finset.univ (fun i : Fin m => (ℓs ↦[sS i]{shareTok q m i} h : sProp 𝕄))
        ∗ bigSep Finset.univ (fun i : Fin m => (ℓs ↦[Finset.univ \ sS i]{shareTok q m i} h : sProp 𝕄))) : sProp 𝕄)
      = bigSep Finset.univ (fun i : Fin m => iprop((ℓs ↦[sS i]{shareTok q m i} h) ∗ (ℓs ↦[Finset.univ \ sS i]{shareTok q m i} h)))
    from (BI.bigSep_sep Finset.univ _ _).symm]
  congr 1
  funext i
  exact Entails.antisymm (pointsTo_split_subset (Finset.subset_univ _)).1 (pointsTo_split_subset (Finset.subset_univ _)).2

variable (hD : ∀ i j : Fin m, i ≠ j → Disjoint (sD i) (sD j))
include hD

/-- Both buffers whole are the pieces of the `m` copies and what is kept. -/
theorem lend (f : Buf Val ℓd) :
    iprop((ℓs ↦{q} h) ∗ (ℓd ↦{fullShare} f)) ⊢ (iprop(kept q h sS sD f ∗ bigSep Finset.univ (pieceIn q h sS sD f)) : sProp 𝕄) := by
  have hbig : (bigSep Finset.univ (pieceIn q h sS sD f) : sProp 𝕄)
      = iprop(bigSep Finset.univ (fun i : Fin m => (ℓs ↦[sS i]{shareTok q m i} h : sProp 𝕄))
          ∗ bigSep Finset.univ (fun i : Fin m => (ℓd ↦[sD i]{fullShare} f : sProp 𝕄))) := by
    unfold pieceIn; exact BI.bigSep_sep Finset.univ _ _
  rw [hbig, ← pointsTo_biUnion Finset.univ sD (fun i _ j _ hne => hD i j hne)]
  unfold kept
  iintro ⟨Hs, Hd⟩
  ihave Hs' := (pointsTo_toks_split q m) $$ Hs
  icases Hs' with ⟨Hr, Ht⟩
  ihave Ht' := (Entails.of_eq (tok_cut (Name := Name) (U := U) (Lvl := Lvl) (Ix := Ix) q h sS)) $$ Ht
  icases Ht' with ⟨Hp, Hk⟩
  ihave Hd' := (pointsTo_split_subset (I := Finset.univ.biUnion sD) (Finset.subset_univ _)).1 $$ Hd
  icases Hd' with ⟨Hdp, Hdr⟩
  isplitl [Hr Hk Hdr]
  · isplitl [Hr]; · iexact Hr
    isplitl [Hk]; · iexact Hk
    iexact Hdr
  · isplitl [Hp]; · iexact Hp
    iexact Hdp

/-- The pieces given back and what was kept are both buffers whole again: the source as it was, the destination at what
    each copy wrote on its own elements and as it was elsewhere. -/
theorem collect (f : Buf Val ℓd) (g : Fin m → Buf Val ℓd) :
    iprop(kept q h sS sD f ∗ bigSep Finset.univ (pieceOut q h sS sD g))
      ⊢ (iprop((ℓs ↦{q} h) ∗ ∃ f' : Buf Val ℓd, ⌜(∀ i, ∀ x ∈ sD i, f' x = g i x) ∧ ∀ x, (∀ i, x ∉ sD i) → f' x = f x⌝
          ∗ (ℓd ↦{fullShare} f')) : sProp 𝕄) := by
  have hbig : (bigSep Finset.univ (pieceOut q h sS sD g) : sProp 𝕄)
      = iprop(bigSep Finset.univ (fun i : Fin m => (ℓd ↦[sD i]{fullShare} g i : sProp 𝕄))
          ∗ bigSep Finset.univ (fun i : Fin m => (ℓs ↦[sS i]{shareTok q m i} h : sProp 𝕄))) := by
    unfold pieceOut; exact BI.bigSep_sep Finset.univ _ _
  rw [hbig]
  unfold kept
  iintro ⟨⟨Hr, Hk, Hdr⟩, Hdp, Hp⟩
  isplitl [Hr Hk Hp]
  · iapply (pointsTo_toks_join q m)
    isplitl [Hr]; · iexact Hr
    iapply (Entails.of_eq (tok_cut (Name := Name) (U := U) (Lvl := Lvl) (Ix := Ix) q h sS).symm)
    isplitl [Hp]; · iexact Hp
    iexact Hk
  · ihave H := (pointsTo_biUnion_join Finset.univ sD g f (fun i _ j _ hne => hD i j hne)) $$ Hdp
    icases H with ⟨%g', %hg', Hg⟩
    iexists ((Finset.univ.biUnion sD).piecewise g' f)
    isplitr
    · ipureintro
      refine ⟨fun i x hx => ?_, fun x hx => ?_⟩
      · rw [Finset.piecewise_eq_of_mem _ _ _ (Finset.mem_biUnion.mpr ⟨i, Finset.mem_univ _, hx⟩)]
        exact hg' i (Finset.mem_univ _) x hx
      · exact Finset.piecewise_eq_of_notMem _ _ _ (by simpa using hx)
    iapply (pointsTo_join_subset (Finset.subset_univ _))
    isplitl [Hg]; · iexact Hg
    iexact Hdr

end Cert.Lend

end
-- ==== Proof.Blocks.lean ====
/-
  The blocks of rows the kernel clears before it copies: for each expert with a nonempty segment the 512 rows that end
  it, and every block of 512 rows that starts at or past the end of the last segment. `p e` is the end of expert `e`'s
  segment. Candidate `n` is expert `n` for `n < 32` and the trailing block `n - 32` otherwise.
-/
module

public import Idealize.ShloMosaic.PureOps

@[expose] public section

namespace Cert.Blocks

/-- The end of the segment before expert `n`'s. -/
def prev (p : ℕ → ℕ) : ℕ → ℕ
  | 0 => 0
  | n + 1 => p n

/-- The first row of candidate `n`'s block. -/
def start (p : ℕ → ℕ) (n : ℕ) : ℕ := if n < 32 then p n - 512 else 65536 + 512 * (n - 32)

/-- Whether candidate `n` is cleared. -/
def Cleared (p : ℕ → ℕ) (n : ℕ) : Prop := if n < 32 then prev p n < p n else p 31 ≤ 65536 + 512 * (n - 32)

instance (p : ℕ → ℕ) : DecidablePred (Cleared p) := fun n => by unfold Cleared; infer_instance

/-- The first rows of the blocks cleared among the first `n` candidates, in order. -/
def starts (p : ℕ → ℕ) (n : ℕ) : List ℕ := ((List.range n).filter fun k => decide (Cleared p k)).map (start p)

theorem starts_zero (p : ℕ → ℕ) : starts p 0 = [] := rfl

theorem starts_succ_of {p : ℕ → ℕ} {n : ℕ} (h : Cleared p n) : starts p (n + 1) = starts p n ++ [start p n] := by
  unfold starts; rw [List.range_succ, List.filter_append, List.map_append]; simp [h]

theorem starts_succ_of_not {p : ℕ → ℕ} {n : ℕ} (h : ¬ Cleared p n) : starts p (n + 1) = starts p n := by
  unfold starts; rw [List.range_succ, List.filter_append, List.map_append]; simp [h]

theorem starts_prefix (p : ℕ → ℕ) {n k : ℕ} (h : n ≤ k) : starts p n <+: starts p k := by
  induction k, h using Nat.le_induction with
  | base => exact List.prefix_rfl
  | succ k _ ih =>
    by_cases hc : Cleared p k
    · rw [starts_succ_of hc]; exact ih.trans (List.prefix_append _ _)
    · rw [starts_succ_of_not hc]; exact ih

/-- A cleared candidate `n` is the block at position `(starts p n).length` of all `64` candidates'. -/
theorem lt_of_cleared {p : ℕ → ℕ} {n : ℕ} (hn : n < 64) (h : Cleared p n) : (starts p n).length < (starts p 64).length := by
  have := (starts_prefix p (show n + 1 ≤ 64 by omega)).length_le
  rw [starts_succ_of h, List.length_append, List.length_singleton] at this; omega

theorem get_of_cleared {p : ℕ → ℕ} {n : ℕ} (hn : n < 64) (h : Cleared p n) :
    (starts p 64)[(starts p n).length]'(lt_of_cleared hn h) = start p n := by
  have hp := starts_prefix p (show n + 1 ≤ 64 by omega)
  rw [starts_succ_of h] at hp
  obtain ⟨t, ht⟩ := hp
  have : (starts p 64)[(starts p n).length]? = some (start p n) := by rw [← ht]; simp
  rw [List.getElem_eq_iff]; exact this

/-- What the ends of the segments are: multiples of 512 in order, at most the number of rows. -/
structure Ends (p : ℕ → ℕ) : Prop where
  mono : ∀ n, n < 32 → prev p n ≤ p n
  le : ∀ n, n < 32 → p n ≤ 81920
  dvd : ∀ n, n < 32 → 512 ∣ p n

theorem Ends.mono' {p : ℕ → ℕ} (hp : Ends p) {a b : ℕ} (hab : a ≤ b) (hb : b < 32) : p a ≤ p b := by
  induction b, hab using Nat.le_induction with
  | base => exact le_refl _
  | succ k _ ih => exact (ih (by omega)).trans (hp.mono (k + 1) hb)

theorem Ends.start_lt {p : ℕ → ℕ} (hp : Ends p) {a b : ℕ} (hab : a < b) (hb : b < 64) (ha : Cleared p a) (hbc : Cleared p b) :
    start p a + 512 ≤ start p b := by
  unfold start Cleared at *
  by_cases h1 : a < 32
  · have hda := hp.dvd a h1
    rw [if_pos h1] at ha ⊢
    have hpa : 512 ≤ p a := Nat.le_of_dvd (by omega) hda
    by_cases h2 : b < 32
    · rw [if_pos h2] at hbc ⊢
      have hdb := hp.dvd b h2
      obtain ⟨b', rfl⟩ : ∃ b', b = b' + 1 := ⟨b - 1, by omega⟩
      have h3 : p a ≤ p b' := hp.mono' (by omega) (by omega)
      simp only [prev] at hbc
      omega
    · rw [if_neg h2] at hbc ⊢
      have h3 : p a ≤ p 31 := hp.mono' (by omega) (by omega)
      omega
  · have h2 : ¬ b < 32 := by omega
    rw [if_neg h1, if_neg h2]; omega

theorem Ends.start_le {p : ℕ → ℕ} (hp : Ends p) {a : ℕ} (h : a < 64) (ha : Cleared p a) : start p a + 512 ≤ 81920 := by
  unfold start Cleared at *
  by_cases h1 : a < 32
  · rw [if_pos h1] at ha ⊢
    have := Nat.le_of_dvd (by omega) (hp.dvd a h1)
    have := hp.le a h1
    omega
  · rw [if_neg h1]; omega

theorem Ends.pairwise {p : ℕ → ℕ} (hp : Ends p) : (starts p 64).Pairwise fun a b => a + 512 ≤ b := by
  unfold starts
  rw [List.pairwise_map]
  refine List.Pairwise.imp_of_mem ?_ (List.pairwise_lt_range.filter _)
  intro a b ha hb hab
  simp only [List.mem_filter, List.mem_range, decide_eq_true_eq] at ha hb
  exact hp.start_lt hab hb.1 ha.2 hb.2

theorem Ends.mem_le {p : ℕ → ℕ} (hp : Ends p) {b : ℕ} (hb : b ∈ starts p 64) : b + 512 ≤ 81920 := by
  simp only [starts, List.mem_map, List.mem_filter, List.mem_range, decide_eq_true_eq] at hb
  obtain ⟨a, ⟨ha, hc⟩, rfl⟩ := hb
  exact hp.start_le ha hc

/-- Two of the cleared blocks at different positions share no row. -/
theorem Ends.disjoint {p : ℕ → ℕ} (hp : Ends p) {i j : Fin (starts p 64).length} (h : i ≠ j) :
    (starts p 64)[i] + 512 ≤ (starts p 64)[j] ∨ (starts p 64)[j] + 512 ≤ (starts p 64)[i] := by
  have hpw := List.pairwise_iff_getElem.mp hp.pairwise
  rcases lt_or_gt_of_ne (fun e => h (Fin.ext e)) with hl | hl
  · exact .inl (hpw _ _ i.isLt j.isLt hl)
  · exact .inr (hpw _ _ j.isLt i.isLt hl)

/-- A row in an expert's last block, or past every segment, lies in a cleared block. -/
theorem Ends.covered {p : ℕ → ℕ} (hp : Ends p) {r : ℕ} (hr : r < 81920)
    (h : (∃ e, e < 32 ∧ prev p e < p e ∧ p e - 512 ≤ r ∧ r < p e) ∨ (65536 ≤ r ∧ p 31 ≤ r)) :
    ∃ i : Fin (starts p 64).length, (starts p 64)[i] ≤ r ∧ r < (starts p 64)[i] + 512 := by
  have key : ∀ n, n < 64 → Cleared p n → start p n ≤ r → r < start p n + 512 →
      ∃ i : Fin (starts p 64).length, (starts p 64)[i] ≤ r ∧ r < (starts p 64)[i] + 512 := by
    intro n hn hc h1 h2
    have hg := get_of_cleared hn hc
    refine ⟨⟨_, lt_of_cleared hn hc⟩, ?_⟩
    rw [Fin.getElem_fin]
    rw [hg]; exact ⟨h1, h2⟩
  rcases h with ⟨e, he, h1, h2, h3⟩ | ⟨h1, h2⟩
  · have := Nat.le_of_dvd (by omega) (hp.dvd e he)
    refine key e (by omega) ?_ ?_ ?_
    · unfold Cleared; rw [if_pos he]; exact h1
    · unfold start; rw [if_pos he]; exact h2
    · unfold start; rw [if_pos he]; omega
  · have hd := hp.dvd 31 (by omega)
    refine key (32 + (r - 65536) / 512) (by omega) ?_ ?_ ?_
    · unfold Cleared; rw [if_neg (by omega)]; omega
    · unfold start; rw [if_neg (by omega)]; omega
    · unfold start; rw [if_neg (by omega)]; omega

end Cert.Blocks
-- ==== Proof.Fill.lean ====
/-
  Clearing the blocks: the first grid point fills its zero buffer, starts one copy of it per block to clear, all on one
  semaphore, and then waits once for each of them.
-/
module

public import proofs.«01_k».proof.Proof.Gen.KernelIdeal.Launch
public import proofs.«01_k».proof.Proof.Gen.KernelIdeal.Skeleton
public import proofs.«01_k».proof.Proof.Lend
public import proofs.«01_k».proof.Proof.Blocks
public import Idealize.ShloMosaic.Lib.Pipeline.FrameValue

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's resources: the pipeline's beside the copies' counters. -/
local notation "𝕄" => MT nD τ sig Unit (Elt F) ℕ (Pipeline.UD sig nD τ) ℕ

/-! ## The kernel's buffers -/

/-- The ends of the experts' segments, in scalar memory. -/
abbrev bEnds : Memref sig .tc .smem S32 .i32 := Memref.whole main_arg0
/-- The rows' destinations. -/
abbrev bDest : Memref sig .tc .hbm S4x16384 .i32 := Memref.whole main_arg1
/-- The result. -/
abbrev bOut : Memref sig .tc .hbm S655360x128 .f32 := Memref.whole main_v1
/-- The double buffer of destinations in scalar memory. -/
abbrev bIdx : Memref sig .tc .smem S8x2048 .i32 := Memref.whole cc0_scratch0
/-- The block of zeros. -/
abbrev bZero : Memref sig .tc .vmem S4096x128 .f32 := Memref.whole cc0_scratch1
/-- The semaphore of the row copies. -/
abbrev rowSem : DmaSem sig := cc0_scratch3.sem

/-- The zero the kernel fills its block with. -/
def zeroF : Elt F .f32 := (k0_pay1 (F := F)) (fun a => ⟨0, by fin_cases a <;> decide⟩)

theorem pay1_apply (x : S4096x128.Idx) : (k0_pay1 (F := F)) x = zeroF := rfl

/-! ## Rows of the result -/

/-- The elements of `n` rows of the result from row `o`. -/
def slab (o n : ℕ) : Finset S655360x128.Idx := Finset.univ.filter fun x => o ≤ (x 0).val ∧ (x 0).val < o + n

theorem mem_slab {o n : ℕ} {x : S655360x128.Idx} : x ∈ slab o n ↔ o ≤ (x 0).val ∧ (x 0).val < o + n := by
  simp [slab]

theorem slab_disjoint {o o' n : ℕ} (h : o + n ≤ o' ∨ o' + n ≤ o) : Disjoint (slab o n) (slab o' n) := by
  rw [Finset.disjoint_left]; intro x hx hx'; rw [mem_slab] at hx hx'; omega

theorem slice_set {off : Fin 2 → ℕ} {n : ℕ} {inb} (h1 : off 1 = 0) :
    (bOut.slice (Rect.unit (s := S655360x128) off ![n, 128] inb) (fun _ => rfl)).view.set = slab (off 0) n := by
  rw [show (bOut.slice (Rect.unit (s := S655360x128) off ![n, 128] inb) (fun _ => rfl)).view.set
    = (Rect.unit (s := S655360x128) off ![n, 128] inb).set from View.set_slice_whole _ _]
  ext x
  rw [mem_slab, Rect.mem_set_unit, Fin.forall_fin_two, h1]
  have := (x 1).isLt
  simp only [Matrix.cons_val_zero, Matrix.cons_val_one]
  constructor
  · rintro ⟨h, -⟩; exact h
  · intro h; refine ⟨h, Nat.zero_le _, ?_⟩
    show (x 1).val < 0 + 128
    have h128 : (x 1).val < 128 := (x 1).isLt
    omega

/-- An element of a view, after a write through it, is the word written there. -/
theorem written_at {sp : Space} {s : Shape} {e : EltTy} (v : View sig .tc sp s e) (f : v.ty.Contents (Elt F)) (w : s.Idx → Elt F e)
    {x : v.ty.Idx} (hx : x ∈ v.set) : ∃ y, v.emb y = x ∧ v.write (Elt F) f w Finset.univ x = _root_.cast (congrArg (Elt F) v.elt_eq.symm) (w y) := by
  unfold View.set at hx
  obtain ⟨y, -, rfl⟩ := Finset.mem_map.mp hx
  exact ⟨y, rfl, v.write_emb_of_mem f w (Finset.mem_univ y)⟩

/-- Writing one word everywhere leaves that word everywhere on the view. -/
theorem written_const {sp : Space} {s : Shape} (v : View sig .tc sp s .f32) (f : v.ty.Contents (Elt F)) (w : s.Idx → Elt F .f32)
    (z : Elt F .f32) (hw : ∀ y, w y = z) {S : Finset v.ty.Idx} (hS : S ⊆ v.set) (he : v.ty.elt = .f32) :
    ∀ x ∈ S, v.write (Elt F) f w Finset.univ x = _root_.cast (congrArg (Elt F) he.symm) z := by
  intro x hx
  obtain ⟨y, -, h⟩ := written_at v f w (hS hx)
  rw [h, hw]

/-! ## The state while the blocks are being cleared -/

/-- One copy's units. -/
abbrev fillUnits : ℕ := (bOut.slice (Rect.unit (s := S655360x128) ![524288, 0] S4096x128.size inb_S655360x128_S4096x128_524288_0) (fun _ => rfl)).view.dmaCredit

/-- Index `n` of a vector of 32. -/
def at32 (n : ℕ) (h : n < 32) : S32.Idx := fun a => ⟨n, by fin_cases a; exact h⟩

variable (c : Dev nD) (P : Buf (Elt F) (bEnds.view.loc (c : Thread nD τ)))

/-- The end of expert `n`'s segment, as a number. -/
def ends (n : ℕ) : ℕ := if h : n < 32 then BitVec.toNat (P (at32 n h)) else 0

/-- How many blocks are cleared among the first `n` candidates. -/
abbrev count (n : ℕ) : ℕ := (starts (ends c P) n).length

/-- The elements of the block at position `i`. -/
def blockAt (i : Fin (count c P 64)) : Finset S655360x128.Idx := slab (8 * (starts (ends c P) 64)[i]) 4096

def zerosIn : Buf (Elt F) (bZero.view.loc (c : Thread nD τ)) := fun _ => zeroF
def zerosOut : Buf (Elt F) (bOut.view.loc (c : Thread nD τ)) := fun _ => zeroF

abbrev blockOut (i : Fin (count c P 64)) : sProp 𝕄 :=
  pieceOut (ℓs := bZero.view.loc (c : Thread nD τ)) (ℓd := bOut.view.loc (c : Thread nD τ)) fullShare (zerosIn c)
    (fun _ => Finset.univ) (blockAt c P) (fun _ => zerosOut c) i
abbrev blockIn (f : Buf (Elt F) (bOut.view.loc (c : Thread nD τ))) (i : Fin (count c P 64)) : sProp 𝕄 :=
  pieceIn (ℓs := bZero.view.loc (c : Thread nD τ)) (ℓd := bOut.view.loc (c : Thread nD τ)) fullShare (zerosIn c)
    (fun _ => Finset.univ) (blockAt c P) f i

abbrev fillBatch (k u : ℕ) : sProp 𝕄 :=
  Batch (countersEmb (U := Pipeline.UD sig nD τ)) (c : Thread nD τ) (.dma rowSem) () fillUnits (blockOut c P) k u

/-- After the first `n` candidates' copies were started. -/
def Started (qe : PosShare TreeShare) (f : Buf (Elt F) (bOut.view.loc (c : Thread nD τ))) (R : sProp 𝕄) (n : ℕ) : sProp 𝕄 :=
  iprop((bEnds.view.loc (c : Thread nD τ) ↦{qe} P) ∗ fillBatch c P (count c P n) 0
    ∗ bigSep (pending (count c P n)) (blockIn c P f) ∗ R)

/-- After the first `n` candidates' copies were waited for. -/
def Waited (qe : PosShare TreeShare) (R : sProp 𝕄) (n : ℕ) : sProp 𝕄 :=
  iprop((bEnds.view.loc (c : Thread nD τ) ↦{qe} P) ∗ fillBatch c P (count c P 64) (count c P n * fillUnits)
    ∗ (∃ W, owes (c : Thread nD τ) 0 W) ∗ R)

abbrev runs {α : Type} (p : Prog (TpuEff nD τ sig (Elt F) Λ₀ .tc) α) (Q : α → sProp 𝕄) : sProp 𝕄 :=
  wp frame (wpE (defs₀ (F := F)) Variants.none (c : Thread nD τ) none) Set.univ p Q

variable {c P} {qe : PosShare TreeShare} {f : Buf (Elt F) (bOut.view.loc (c : Thread nD τ))}

/-- Starting the copy of a cleared candidate's block. -/
theorem start_copy {R : sProp 𝕄} {α : Type} {n : ℕ} (hn : n < 64) (hc : Cleared (ends c P) n) (off : Fin 2 → ℕ) (inb)
    (h0 : off 0 = 8 * start (ends c P) n) (h1 : off 1 = 0) {w1 w2 w3}
    {k : PUnit → Prog (TpuEff nD τ sig (Elt F) Λ₀ .tc) α} {Q : α → sProp 𝕄}
    (hk : Started c P qe f R (n + 1) ⊢ runs c (k ⟨⟩) Q) :
    Started c P qe f R n ⊢ runs c (.op (.enqueueDma bZero
      (.here (bOut.slice (Rect.unit (s := S655360x128) off S4096x128.size inb) (fun _ => rfl))) (.dma rowSem) w1 w2 w3) k) Q := by
  have hlt := lt_of_cleared hn hc
  have hget := get_of_cleared hn hc
  have hset : (bOut.slice (Rect.unit (s := S655360x128) off S4096x128.size inb) (fun _ => rfl)).view.set
      = blockAt c P ⟨count c P n, hlt⟩ := by
    unfold blockAt; rw [Fin.getElem_fin]; rw [hget, ← h0]; exact slice_set h1
  unfold Started at hk ⊢
  rw [show count c P (n + 1) = count c P n + 1 by rw [count, starts_succ_of hc, List.length_append, List.length_singleton]] at hk
  rw [bigSep_pending_step _ _ hlt, show blockIn c P f ⟨count c P n, hlt⟩
    = iprop((bZero.view.loc (c : Thread nD τ) ↦[Finset.univ]{shareTok fullShare (count c P 64) ⟨count c P n, hlt⟩} zerosIn c)
      ∗ (bOut.view.loc (c : Thread nD τ) ↦[blockAt c P ⟨count c P n, hlt⟩]{fullShare} f)) from rfl]
  have hback : iprop((bOut.view.loc (c : Thread nD τ) ↦[blockAt c P ⟨count c P n, hlt⟩]{fullShare}
        ((bOut.slice (Rect.unit (s := S655360x128) off S4096x128.size inb) (fun _ => rfl)).view.write (Elt F) f
          (ReadAs.same.apply (bZero.view.read (Elt F) (zerosIn c))) Finset.univ))
      ∗ (bZero.view.loc (c : Thread nD τ) ↦[bZero.view.set]{shareTok fullShare (count c P 64) ⟨count c P n, hlt⟩} zerosIn c))
      ⊢ blockOut c P ⟨count c P n, hlt⟩ := by
    rw [(Memref.isWhole_whole cc0_scratch1).set_eq_univ]
    unfold blockOut pieceOut
    exact sep_mono_left (Entails.of_eq (pointsTo_congr (written_const
      (bOut.slice (Rect.unit (s := S655360x128) off S4096x128.size inb) (fun _ => rfl)).view
      f (ReadAs.same.apply (bZero.view.read (Elt F) (zerosIn c))) zeroF (fun _ => rfl) hset.symm.subset rfl)))
  iintro ⟨He, HB, ⟨⟨Hs, Hd⟩, Hp⟩, HR⟩
  iapply (wp_dmaBatch (countersEmb (U := Pipeline.UD sig nD τ)) Variants.none (c : Thread nD τ) none (src := bZero)
    (dst := bOut.slice (Rect.unit (s := S655360x128) off S4096x128.size inb) (fun _ => rfl)) () fillUnits rfl hset.subset
    (D := blockOut c P) (j := count c P n) (u := 0) hlt (Nat.zero_le _) hback) $$ [Hs Hd HB]
  · isplitl [Hs]
    · rw [(Memref.isWhole_whole cc0_scratch1).set_eq_univ]; iexact Hs
    isplitl [Hd]; · iexact Hd
    iexact HB
  iintro HB
  iapply hk
  isplitl [He]; · iexact He
  isplitl [HB]; · iexact HB
  isplitl [Hp]; · iexact Hp
  iexact HR

/-! ## The steps of the two sweeps -/

/-- Reading the end of segment `n`. -/
theorem load_end {R : sProp 𝕄} {α : Type} {n : ℕ} (h : n < 32) (inb : ∀ a, (![n] : Fin 1 → ℕ) a + S1.size a ≤ S32.size a)
    {k : BitVec 32 → Prog (TpuEff nD τ sig (Elt F) Λ₀ .tc) α} {Q : α → sProp 𝕄}
    (hk : iprop((bEnds.view.loc (c : Thread nD τ) ↦{qe} P) ∗ R) ⊢ runs c (k (P (at32 n h))) Q) :
    iprop((bEnds.view.loc (c : Thread nD τ) ↦{qe} P) ∗ R)
      ⊢ runs c (smemLoad bEnds (Rect.unit (s := S32) ![n] S1.size inb) numel1_S1 rfl >>= k) Q := by
  have hv : (bEnds.access (Rect.unit (s := S32) ![n] S1.size inb)).read (Elt F) P (Shape.Idx.first (numel1_S1.symm ▸ Nat.one_pos))
      = P (at32 n h) := by
    refine congrArg P (funext fun a => Fin.ext ?_)
    fin_cases a
    have h0 : ((Shape.Idx.first (s := S1) (numel1_S1.symm ▸ Nat.one_pos)) 0).val = 0 := Nat.lt_one_iff.mp (Fin.isLt _)
    show n + 1 * ((Shape.Idx.first (s := S1) (numel1_S1.symm ▸ Nat.one_pos)) 0).val = n
    rw [h0]; rfl
  have step := wp_smemLoadElt (defs := defs₀ (F := F)) (Γ := []) Variants.none (c : Thread nD τ) none Set.univ (m := bEnds)
    (r := Rect.unit (s := S32) ![n] S1.size inb) (hw := View.loads_smem_one rfl numel1_S1)
    (x := Shape.Idx.first (numel1_S1.symm ▸ Nat.one_pos)) (k := k) (Q := Q) (q := qe) (f := P) (Finset.subset_univ _)
  rw [hv] at step
  show _ ⊢ runs c (smemLoadElt bEnds (Rect.unit (s := S32) ![n] S1.size inb) (View.loads_smem_one rfl numel1_S1)
    (Shape.Idx.first (numel1_S1.symm ▸ Nat.one_pos)) k) Q
  iintro ⟨He, HR⟩
  iapply step $$ He
  iintro He
  iapply hk
  isplitl [He]; · iexact He
  iexact HR

end Cert.KernelIdeal.Hand

end
-- ==== Proof.Cond.lean ====
/-
  The words the clearing sweeps compute from the ends of the segments, as numbers.
-/
module

public import proofs.«01_k».proof.Proof.Gen.KernelIdeal.Skeleton
public import proofs.«01_k».proof.Proof.Blocks

@[expose] public section

set_option maxRecDepth 16384

namespace Cert.KernelIdeal.Hand

open Cert.KernelIdeal Cert.KernelIdeal.Gen
open Idealize.ShloMosaic

/-- A comparison carried through a word and back is the comparison. -/
theorem widened (b : BitVec 1) : (Scalar.cmpi .ne (Scalar.extui b) 0#32 = 1#1) ↔ b = 1#1 := by
  revert b; decide

theorem ofBool_one (b : Bool) : BitVec.ofBool b = 1#1 ↔ b = true := by cases b <;> decide

/-- Signed words below half the range compare as numbers. -/
theorem slt_iff {v v' : BitVec 32} (h : v.toNat ≤ 81920) (h' : v'.toNat ≤ 81920) : v.slt v' = true ↔ v.toNat < v'.toNat := by
  rw [BitVec.slt_iff_toInt_lt, BitVec.toInt_eq_toNat_of_lt (by omega), BitVec.toInt_eq_toNat_of_lt (by omega)]; omega
theorem sle_iff {v v' : BitVec 32} (h : v.toNat ≤ 81920) (h' : v'.toNat ≤ 81920) : v.sle v' = true ↔ v.toNat ≤ v'.toNat := by
  rw [BitVec.sle_iff_toInt_le, BitVec.toInt_eq_toNat_of_lt (by omega), BitVec.toInt_eq_toNat_of_lt (by omega)]; omega

/-- An expert's block is cleared when its segment ends past the one before it. -/
theorem cond3_iff {v v' : BitVec 32} (h : v.toNat ≤ 81920) (h' : v'.toNat ≤ 81920) : k0_cond3 v v' = 1#1 ↔ v'.toNat < v.toNat :=
  (widened _).trans ((ofBool_one _).trans (slt_iff h' h))
theorem cond2_iff {v : BitVec 32} (h : v.toNat ≤ 81920) : k0_cond2 v = 1#1 ↔ 0 < v.toNat :=
  (widened _).trans ((ofBool_one _).trans (slt_iff (v := 0#32) (by decide) h))
/-- A trailing block is cleared when it starts at or past the last segment's end. -/
theorem trail_iff {v w : BitVec 32} (h : v.toNat ≤ 81920) (h' : w.toNat ≤ 81920) :
    Scalar.cmpi .ne (Scalar.extui (Scalar.cmpi .sle v w)) 0#32 = 1#1 ↔ v.toNat ≤ w.toNat :=
  (widened _).trans ((ofBool_one _).trans (sle_iff h h'))

/-- The first element row of the block that ends a segment. -/
theorem mult2_toNat {v : BitVec 32} (h : v.toNat ≤ 81920) (h5 : 512 ≤ v.toNat) : (k0_mult2 v).toNat = 8 * (v.toNat - 512) := by
  show ((v - 512#32) * 8#32).toNat = _
  rw [BitVec.toNat_mul, BitVec.toNat_sub]
  simp only [BitVec.toNat_ofNat]
  omega

theorem off2_zero {v : BitVec 32} (h : v.toNat ≤ 81920) (h5 : 512 ≤ v.toNat) : k0_off2 v 0 = 8 * (v.toNat - 512) := mult2_toNat h h5

/-- What the program assumes of an expert's block. -/
theorem chk2_of {i : grid0.Coords} {v v' : BitVec 32} (h : v.toNat ≤ 81920) (h' : v'.toNat ≤ 81920) (hd : 512 ∣ v.toNat) :
    k0_chk2 i v v' := by
  refine ⟨fun _ h3 => ?_, fun _ h3 => ?_⟩ <;> have := (cond3_iff h h').mp h3
  · rw [mult2_toNat h (by omega)]; omega
  · rw [Fin.forall_fin_two, off2_zero h (by omega)]
    refine ⟨?_, (by decide : (0 : ℕ) + 128 ≤ 128)⟩
    show 8 * (v.toNat - 512) + 4096 ≤ 655360
    omega
theorem chk1_of {i : grid0.Coords} {v : BitVec 32} (h : v.toNat ≤ 81920) (hd : 512 ∣ v.toNat) : k0_chk1 i v := by
  refine ⟨fun _ h3 => ?_, fun _ h3 => ?_⟩ <;> have := (cond2_iff h).mp h3
  · rw [show k0_mult1 v = k0_mult2 v from rfl, mult2_toNat h (by omega)]; omega
  · rw [Fin.forall_fin_two, show k0_off1 v = k0_off2 v from rfl, off2_zero h (by omega)]
    refine ⟨?_, (by decide : (0 : ℕ) + 128 ≤ 128)⟩
    show 8 * (v.toNat - 512) + 4096 ≤ 655360
    omega

end Cert.KernelIdeal.Hand
-- ==== Proof.Sweep.lean ====
/-
  The steps of the clearing sweeps, each candidate's as the program spells it: read the ends it needs, decide, and start
  its copy or wait for it. Each lemma carries the state over one candidate.
-/
module

public import proofs.«01_k».proof.Proof.Fill
public import proofs.«01_k».proof.Proof.Cond

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The kernel's programs. -/
abbrev Prg (F : FTy → Type) (α : Type) := Prog (TpuEff nD τ sig (Elt F) Λ₀ .tc) α

variable {c : Dev nD} {P : Buf (Elt F) (bEnds.view.loc (c : Thread nD τ))} {qe : PosShare TreeShare}
  {f : Buf (Elt F) (bOut.view.loc (c : Thread nD τ))}

/-- Waiting for the copy of a cleared candidate's block. -/
theorem wait_copy {R : sProp 𝕄} {α : Type} {n : ℕ} (hn : n < 64) (hc : Cleared (ends c P) n) (off : Fin 2 → ℕ) (inb) {w1 w2}
    {k : PUnit → Prg F α} {Q : α → sProp 𝕄} (hk : Waited c P qe R (n + 1) ⊢ runs c (k ⟨⟩) Q) :
    Waited c P qe R n ⊢ runs c (.op (.waitDma2 rowSem bZero
      (bOut.slice (Rect.unit (s := S655360x128) off S4096x128.size inb) (fun _ => rfl)) w1 w2) k) Q := by
  have hlt := lt_of_cleared hn hc
  unfold Waited at hk ⊢
  rw [show count c P (n + 1) = count c P n + 1 by rw [count, starts_succ_of hc, List.length_append, List.length_singleton],
    Nat.succ_mul] at hk
  iintro ⟨He, HB, ⟨%W, HO⟩, HR⟩
  iapply (wp_waitBatchMul (countersEmb (U := Pipeline.UD sig nD τ)) Variants.none (c : Thread nD τ) none (srcw := bZero)
    (dstw := bOut.slice (Rect.unit (s := S655360x128) off S4096x128.size inb) (fun _ => rfl)) (N := fillUnits) () 1
    (show _ = 1 * fillUnits from (Nat.one_mul _).symm)
    (show count c P n * fillUnits + 1 * fillUnits ≤ fillUnits * count c P 64 by
      rw [← Nat.add_mul, Nat.mul_comm]; exact Nat.mul_le_mul_left _ hlt)) $$ [HB HO]
  · isplitl [HB]; · iexact HB
    iexact HO
  rw [Nat.one_mul]
  iintro ⟨HB, HO⟩
  iapply hk
  isplitl [He]; · iexact He
  isplitl [HB]; · iexact HB
  isplitl [HO]; · iexists _; iexact HO
  iexact HR

theorem started_skip {R : sProp 𝕄} {n : ℕ} (hc : ¬ Cleared (ends c P) n) :
    Started c P qe f R (n + 1) = Started c P qe f R n := by
  unfold Started; rw [show count c P (n + 1) = count c P n by rw [count, starts_succ_of_not hc]]
theorem waited_skip {R : sProp 𝕄} {n : ℕ} (hc : ¬ Cleared (ends c P) n) : Waited c P qe R (n + 1) = Waited c P qe R n := by
  unfold Waited; rw [show count c P (n + 1) = count c P n by rw [count, starts_succ_of_not hc]]

theorem ends_at (n : ℕ) (h : n < 32) : (P (at32 n h) : BitVec 32).toNat = ends c P n := by unfold ends; rw [dif_pos h]

theorem cleared_first : Cleared (ends c P) 0 ↔ 0 < (P (at32 0 (by omega)) : BitVec 32).toNat := by
  rw [ends_at]; unfold Cleared prev; rw [if_pos (by omega)]
theorem cleared_next (n : ℕ) (h : n + 1 < 32) :
    Cleared (ends c P) (n + 1) ↔ (P (at32 n (by omega)) : BitVec 32).toNat < (P (at32 (n + 1) h) : BitVec 32).toNat := by
  rw [ends_at, ends_at]; unfold Cleared prev; rw [if_pos h]
theorem cleared_trail (j : ℕ) : Cleared (ends c P) (32 + j) ↔ (P (at32 31 (by omega)) : BitVec 32).toNat ≤ 65536 + 512 * j := by
  rw [ends_at]; unfold Cleared; rw [if_neg (by omega), Nat.add_sub_cancel_left]

/-- A program that returns at once. -/
theorem runs_ret {α : Type} {X : sProp 𝕄} {a : α} {Q : α → sProp 𝕄} (h : X ⊢ Q a) : X ⊢ runs c (pure a) Q := by
  unfold runs; rw [wp_pure]; exact h.trans fupd_intro

/-- One program after another. -/
theorem runs_bind {α β : Type} {X : sProp 𝕄} {p : Prg F α} {k : α → Prg F β} {Q : β → sProp 𝕄}
    (h : X ⊢ runs c p fun a => runs c (k a) Q) : X ⊢ runs c (p >>= k) Q := by
  unfold runs at h ⊢; rw [wp_bind]; exact h

/-- Between the sweeps: every copy is started, none waited for. -/
theorem turn {R : sProp 𝕄} {α : Type} {J : Prg F α} {Q : α → sProp 𝕄} (hk : Waited c P qe R 0 ⊢ runs c J Q) :
    Started c P qe f iprop((∃ W, owes (c : Thread nD τ) 0 W) ∗ R) 64 ⊢ runs c J Q := by
  refine .trans ?_ hk
  unfold Started Waited
  rw [show count c P 0 * fillUnits = 0 from Nat.zero_mul _]
  iintro ⟨He, HB, -, HO, HR⟩
  isplitl [He]; · iexact He
  isplitl [HB]; · iexact HB
  isplitl [HO]; · iexact HO
  iexact HR

section Steps
variable (hp : Ends (ends c P)) (i : grid0.Coords) (h1 : k0_cond1 i = 1#1)
include hp

theorem word_le (n : ℕ) (h : n < 32) : (P (at32 n h) : BitVec 32).toNat ≤ 81920 := by rw [ends_at]; exact hp.le n h
theorem word_dvd (n : ℕ) (h : n < 32) : 512 ∣ (P (at32 n h) : BitVec 32).toNat := by rw [ends_at]; exact hp.dvd n h

/-- The first expert, in the starting sweep. -/
theorem issue_first {R : sProp 𝕄} {α : Type} {inb} {J : Prg F α} {Q : α → sProp 𝕄}
    (hk : Started c P qe f R 1 ⊢ runs c J Q) :
    Started c P qe f R 0 ⊢ runs c (do
      let v ← smemLoad bEnds (Rect.unit (s := S32) ![0] S1.size inb) numel1_S1 rfl
      have hw : k0_chk1 i v := (← Prog.lift (TpuEff.assume (k0_chk1 i v) (k0_chk1.dec i v))).down
      if h : k0_cond2 v = 1#1 then do
        let dst : Memref sig .tc .hbm S4096x128 .f32 := bOut.slice (Rect.unit (s := S655360x128) (k0_off1 v) S4096x128.size (k0_off1_inb i v hw h1 h)) (fun _ => rfl)
        Prog.lift (.enqueueDma bZero (.here dst) (.dma cc0_scratch3.sem) (Memref.isWhole_whole cc0_scratch1).wordExact (View.wordExact_bits rfl) ⟨Or.inl rfl, trivial⟩)
        pure ⟨⟩
      else do
        pure ⟨⟩
      J) Q := by
  refine load_end (by omega) inb ?_
  have hle := word_le hp 0 (by omega)
  have hd := word_dvd hp 0 (by omega)
  have hw := chk1_of (i := i) hle hd
  refine .trans ?_ (wp_assume Variants.none (c : Thread nD τ) none Set.univ hw)
  by_cases h3 : k0_cond2 (P (at32 0 (by omega))) = 1#1
  · have hlt := (cond2_iff hle).mp h3
    have hc := cleared_first.mpr hlt
    simp only [dif_pos h3]
    exact start_copy (by omega) hc (k0_off1 (P (at32 0 (by omega)))) (k0_off1_inb i _ hw h1 h3)
      (by rw [show k0_off1 = k0_off2 from rfl, off2_zero hle (by omega), start, if_pos (by omega), ends_at]) rfl (k := fun _ => J) hk
  · have hc : ¬ Cleared (ends c P) 0 := fun hc => h3 ((cond2_iff hle).mpr (cleared_first.mp hc))
    rw [started_skip hc] at hk
    simp only [dif_neg h3]
    exact hk

/-- One expert after the first, in the starting sweep. -/
theorem issue_next {R : sProp 𝕄} {α : Type} (n : ℕ) (hn : n + 1 < 32) {inb inb'} {J : Prg F α} {Q : α → sProp 𝕄}
    (hk : Started c P qe f R (n + 1 + 1) ⊢ runs c J Q) :
    Started c P qe f R (n + 1) ⊢ runs c (do
      let v ← smemLoad bEnds (Rect.unit (s := S32) ![n + 1] S1.size inb) numel1_S1 rfl
      let v' ← smemLoad bEnds (Rect.unit (s := S32) ![n] S1.size inb') numel1_S1 rfl
      have hw : k0_chk2 i v v' := (← Prog.lift (TpuEff.assume (k0_chk2 i v v') (k0_chk2.dec i v v'))).down
      if h : k0_cond3 v v' = 1#1 then do
        let dst : Memref sig .tc .hbm S4096x128 .f32 := bOut.slice (Rect.unit (s := S655360x128) (k0_off2 v) S4096x128.size (k0_off2_inb i v v' hw h1 h)) (fun _ => rfl)
        Prog.lift (.enqueueDma bZero (.here dst) (.dma cc0_scratch3.sem) (Memref.isWhole_whole cc0_scratch1).wordExact (View.wordExact_bits rfl) ⟨Or.inl rfl, trivial⟩)
        pure ⟨⟩
      else do
        pure ⟨⟩
      J) Q := by
  refine load_end hn inb (load_end (by omega) inb' ?_)
  have hle := word_le hp (n + 1) hn
  have hle' := word_le hp n (by omega)
  have hw := chk2_of (i := i) hle hle' (word_dvd hp (n + 1) hn)
  refine .trans ?_ (wp_assume Variants.none (c : Thread nD τ) none Set.univ hw)
  by_cases h3 : k0_cond3 (P (at32 (n + 1) hn)) (P (at32 n (by omega))) = 1#1
  · have hlt := (cond3_iff hle hle').mp h3
    have hc := (cleared_next n hn).mpr hlt
    have hd := word_dvd hp (n + 1) hn
    simp only [dif_pos h3]
    exact start_copy (by omega) hc (k0_off2 (P (at32 (n + 1) hn))) (k0_off2_inb i _ _ hw h1 h3)
      (by rw [off2_zero hle (by omega), start, if_pos hn, ends_at]) rfl (k := fun _ => J) hk
  · have hc : ¬ Cleared (ends c P) (n + 1) := fun hc => h3 ((cond3_iff hle hle').mpr ((cleared_next n hn).mp hc))
    rw [started_skip hc] at hk
    simp only [dif_neg h3]
    exact hk

/-- One trailing block, in the starting sweep. -/
theorem issue_trail {R : sProp 𝕄} {α : Type} (j : ℕ) (hj : j < 32) {C : BitVec 32} (hC : C.toNat = 65536 + 512 * j)
    {off : Fin 2 → ℕ} {inb} (h0 : off 0 = 8 * (65536 + 512 * j)) (h1 : off 1 = 0) {J : Prg F α} {Q : α → sProp 𝕄}
    (hk : Started c P qe f R (32 + j + 1) ⊢ runs c J Q) :
    Started c P qe f R (32 + j) ⊢ runs c (do
      let a : BitVec 1 := Scalar.cmpi .sle (P (at32 31 (by omega)) : BitVec 32) C
      let b : BitVec 32 := Scalar.extui a
      let d : BitVec 1 := Scalar.cmpi .ne b 0#32
      if d = 1#1 then do
        let dst : Memref sig .tc .hbm S4096x128 .f32 := bOut.slice (Rect.unit (s := S655360x128) off S4096x128.size inb) (fun _ => rfl)
        Prog.lift (.enqueueDma bZero (.here dst) (.dma cc0_scratch3.sem) (Memref.isWhole_whole cc0_scratch1).wordExact (View.wordExact_bits rfl) ⟨Or.inl rfl, trivial⟩)
        pure ⟨⟩
      else do
        pure ⟨⟩
      J) Q := by
  have hiff := (trail_iff (word_le hp 31 (by omega)) (w := C) (by omega)).trans (hC ▸ (cleared_trail (c := c) (P := P) j).symm)
  by_cases hc : Cleared (ends c P) (32 + j)
  · simp only [if_pos (hiff.mpr hc)]
    exact start_copy (by omega) hc off inb (by rw [h0, start, if_neg (by omega), Nat.add_sub_cancel_left]) h1 (k := fun _ => J) hk
  · rw [started_skip hc] at hk
    simp only [if_neg (fun h => hc (hiff.mp h))]
    exact hk

/-- The first expert, in the waiting sweep. -/
theorem await_first {R : sProp 𝕄} {α : Type} {inb} {J : Prg F α} {Q : α → sProp 𝕄}
    (hk : Waited c P qe R 1 ⊢ runs c J Q) :
    Waited c P qe R 0 ⊢ runs c (do
      let v ← smemLoad bEnds (Rect.unit (s := S32) ![0] S1.size inb) numel1_S1 rfl
      have hw : k0_chk1 i v := (← Prog.lift (TpuEff.assume (k0_chk1 i v) (k0_chk1.dec i v))).down
      if h : k0_cond2 v = 1#1 then do
        let dst : Memref sig .tc .hbm S4096x128 .f32 := bOut.slice (Rect.unit (s := S655360x128) (k0_off1 v) S4096x128.size (k0_off1_inb i v hw h1 h)) (fun _ => rfl)
        Prog.lift (.waitDma2 cc0_scratch3.sem bZero dst (Memref.isWhole_whole cc0_scratch1).wordExact (View.wordExact_bits rfl))
        pure ⟨⟩
      else do
        pure ⟨⟩
      J) Q := by
  refine load_end (by omega) inb ?_
  have hle := word_le hp 0 (by omega)
  have hd := word_dvd hp 0 (by omega)
  have hw := chk1_of (i := i) hle hd
  refine .trans ?_ (wp_assume Variants.none (c : Thread nD τ) none Set.univ hw)
  by_cases h3 : k0_cond2 (P (at32 0 (by omega))) = 1#1
  · have hlt := (cond2_iff hle).mp h3
    have hc := cleared_first.mpr hlt
    simp only [dif_pos h3]
    exact wait_copy (by omega) hc _ _ (k := fun _ => J) hk
  · have hc : ¬ Cleared (ends c P) 0 := fun hc => h3 ((cond2_iff hle).mpr (cleared_first.mp hc))
    rw [waited_skip hc] at hk
    simp only [dif_neg h3]
    exact hk

/-- One expert after the first, in the waiting sweep. -/
theorem await_next {R : sProp 𝕄} {α : Type} (n : ℕ) (hn : n + 1 < 32) {inb inb'} {J : Prg F α} {Q : α → sProp 𝕄}
    (hk : Waited c P qe R (n + 1 + 1) ⊢ runs c J Q) :
    Waited c P qe R (n + 1) ⊢ runs c (do
      let v ← smemLoad bEnds (Rect.unit (s := S32) ![n + 1] S1.size inb) numel1_S1 rfl
      let v' ← smemLoad bEnds (Rect.unit (s := S32) ![n] S1.size inb') numel1_S1 rfl
      have hw : k0_chk2 i v v' := (← Prog.lift (TpuEff.assume (k0_chk2 i v v') (k0_chk2.dec i v v'))).down
      if h : k0_cond3 v v' = 1#1 then do
        let dst : Memref sig .tc .hbm S4096x128 .f32 := bOut.slice (Rect.unit (s := S655360x128) (k0_off2 v) S4096x128.size (k0_off2_inb i v v' hw h1 h)) (fun _ => rfl)
        Prog.lift (.waitDma2 cc0_scratch3.sem bZero dst (Memref.isWhole_whole cc0_scratch1).wordExact (View.wordExact_bits rfl))
        pure ⟨⟩
      else do
        pure ⟨⟩
      J) Q := by
  refine load_end hn inb (load_end (by omega) inb' ?_)
  have hle := word_le hp (n + 1) hn
  have hle' := word_le hp n (by omega)
  have hw := chk2_of (i := i) hle hle' (word_dvd hp (n + 1) hn)
  refine .trans ?_ (wp_assume Variants.none (c : Thread nD τ) none Set.univ hw)
  by_cases h3 : k0_cond3 (P (at32 (n + 1) hn)) (P (at32 n (by omega))) = 1#1
  · have hlt := (cond3_iff hle hle').mp h3
    have hc := (cleared_next n hn).mpr hlt
    have hd := word_dvd hp (n + 1) hn
    simp only [dif_pos h3]
    exact wait_copy (by omega) hc _ _ (k := fun _ => J) hk
  · have hc : ¬ Cleared (ends c P) (n + 1) := fun hc => h3 ((cond3_iff hle hle').mpr ((cleared_next n hn).mp hc))
    rw [waited_skip hc] at hk
    simp only [dif_neg h3]
    exact hk

/-- One trailing block, in the waiting sweep. -/
theorem await_trail {R : sProp 𝕄} {α : Type} (j : ℕ) (hj : j < 32) {C : BitVec 32} (hC : C.toNat = 65536 + 512 * j)
    {off : Fin 2 → ℕ} {inb} (h0 : off 0 = 8 * (65536 + 512 * j)) (h1 : off 1 = 0) {J : Prg F α} {Q : α → sProp 𝕄}
    (hk : Waited c P qe R (32 + j + 1) ⊢ runs c J Q) :
    Waited c P qe R (32 + j) ⊢ runs c (do
      let a : BitVec 1 := Scalar.cmpi .sle (P (at32 31 (by omega)) : BitVec 32) C
      let b : BitVec 32 := Scalar.extui a
      let d : BitVec 1 := Scalar.cmpi .ne b 0#32
      if d = 1#1 then do
        let dst : Memref sig .tc .hbm S4096x128 .f32 := bOut.slice (Rect.unit (s := S655360x128) off S4096x128.size inb) (fun _ => rfl)
        Prog.lift (.waitDma2 cc0_scratch3.sem bZero dst (Memref.isWhole_whole cc0_scratch1).wordExact (View.wordExact_bits rfl))
        pure ⟨⟩
      else do
        pure ⟨⟩
      J) Q := by
  have hiff := (trail_iff (word_le hp 31 (by omega)) (w := C) (by omega)).trans (hC ▸ (cleared_trail (c := c) (P := P) j).symm)
  by_cases hc : Cleared (ends c P) (32 + j)
  · simp only [if_pos (hiff.mpr hc)]
    exact wait_copy (by omega) hc _ _ (k := fun _ => J) hk
  · rw [waited_skip hc] at hk
    simp only [if_neg (fun h => hc (hiff.mp h))]
    exact hk

end Steps

end Cert.KernelIdeal.Hand

end
-- ==== Proof.Rows.lean ====
/-
  The row copies of one grid point: for each of its 2048 tokens and each of the token's four slots, read the destination
  from the staged table, and start one copy of the token's eight element rows to it, all on one semaphore; then four waits
  for all of them together.
-/
module

public import proofs.«01_k».proof.Proof.Sweep

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} (D : Buf (Elt F) (bDest.view.loc (c : Thread nD τ)))

/-- The destination word of slot `k` of token `n`. -/
def word (k n : ℕ) : BitVec 32 :=
  D (Shape.pair (d := S4x16384.size) ⟨k % 4, Nat.mod_lt _ (by decide)⟩ ⟨n % 16384, Nat.mod_lt _ (by decide)⟩)

/-- The destination as a number. -/
abbrev dst (k n : ℕ) : ℕ := (word D k n).toNat

/-- The destinations are rows of the result, and no two are the same. -/
structure Dests : Prop where
  lt : ∀ k n, k < 4 → n < 16384 → dst D k n < 81920
  inj : ∀ k n k' n', k < 4 → n < 16384 → k' < 4 → n' < 16384 → dst D k n = dst D k' n' → k = k' ∧ n = n'

/-- The staged table of point `t`, on either of its two places. -/
def staged (t : ℕ) : Buf (Elt F) (bIdx.view.loc (c : Thread nD τ)) := fun x => word D (x 0).val (2048 * t + (x 1).val)

/-- Place `s` of the staged tables. -/
def place (s : ℕ) : Finset S8x2048.Idx := Finset.univ.filter fun x => 4 * s ≤ (x 0).val ∧ (x 0).val < 4 * s + 4

theorem mem_place {s : ℕ} {x : S8x2048.Idx} : x ∈ place s ↔ 4 * s ≤ (x 0).val ∧ (x 0).val < 4 * s + 4 := by simp [place]

/-- One row copy's units. -/
abbrev rowUnits : ℕ := (bOut.slice (Rect.unit (s := S655360x128) ![0, 0] S8x128.size (by decide)) (fun _ => rfl)).view.dmaCredit

variable (arg3 : Memref sig .tc .vmem S16384x128 .f32) (h3 : Buf (Elt F) (arg3.view.loc (c : Thread nD τ)))

theorem src_inb {tok : ℕ} (h : tok < 2048) : ∀ a, (![8 * tok, 0] : Fin 2 → ℕ) a + S8x128.size a ≤ S16384x128.size a := by
  rw [Fin.forall_fin_two]
  exact ⟨(show 8 * tok + 8 ≤ 16384 by omega), (show 0 + 128 ≤ 128 by omega)⟩

/-- The eight element rows of token `tok` in the staged input. -/
abbrev srcRow (tok : ℕ) (h : tok < 2048) : Memref sig .tc .vmem S8x128 .f32 :=
  arg3.slice (Rect.unit (s := S16384x128) ![8 * tok, 0] S8x128.size (src_inb h)) (fun _ => rfl)

theorem tok_lt (j : Fin 8192) : j.val / 4 < 2048 := by omega

/-- Copy `j`'s source elements, destination elements, and what it writes. -/
def srcSet (j : Fin 8192) : Finset (Idx (arg3.view.loc (c : Thread nD τ))) := (srcRow arg3 (j.val / 4) (tok_lt j)).view.set
def rowBlock (t : ℕ) (j : Fin 8192) : Finset S655360x128.Idx := slab (8 * dst D (j.val % 4) (2048 * t + j.val / 4)) 8
def rowVal (j : Fin 8192) : Buf (Elt F) (bOut.view.loc (c : Thread nD τ)) := fun x =>
  arg3.view.read (Elt F) h3 (Shape.pair (d := S16384x128.size) ⟨8 * (j.val / 4) + (x 0).val % 8, by
    show _ < 16384; have := tok_lt j; omega⟩ (x 1))

theorem rowBlock_disjoint {D : Buf (Elt F) (bDest.view.loc (c : Thread nD τ))} (hD : Dests D) {t : ℕ} (ht : t < 8)
    (i j : Fin 8192) (h : i ≠ j) : Disjoint (rowBlock D t i) (rowBlock D t j) := by
  unfold rowBlock
  refine slab_disjoint ?_
  have hne : dst D (i.val % 4) (2048 * t + i.val / 4) ≠ dst D (j.val % 4) (2048 * t + j.val / 4) := fun e => by
    have := hD.inj _ _ _ _ (by omega) (by omega) (by omega) (by omega) e
    exact h (Fin.ext (by omega))
  omega

abbrev rowOut (t : ℕ) (j : Fin 8192) : sProp 𝕄 :=
  pieceOut (ℓs := arg3.view.loc (c : Thread nD τ)) (ℓd := bOut.view.loc (c : Thread nD τ)) fullShare h3
    (srcSet arg3) (rowBlock D t) (rowVal arg3 h3) j
abbrev rowIn (t : ℕ) (f : Buf (Elt F) (bOut.view.loc (c : Thread nD τ))) (j : Fin 8192) : sProp 𝕄 :=
  pieceIn (ℓs := arg3.view.loc (c : Thread nD τ)) (ℓd := bOut.view.loc (c : Thread nD τ)) fullShare h3
    (srcSet arg3) (rowBlock D t) f j
abbrev keptRows (t : ℕ) (f : Buf (Elt F) (bOut.view.loc (c : Thread nD τ))) : sProp 𝕄 :=
  kept (ℓs := arg3.view.loc (c : Thread nD τ)) (ℓd := bOut.view.loc (c : Thread nD τ)) fullShare h3
    (srcSet arg3) (rowBlock D t) f

abbrev rowBatch (t k u : ℕ) : sProp 𝕄 :=
  Batch (countersEmb (U := Pipeline.UD sig nD τ)) (c : Thread nD τ) (.dma rowSem) () rowUnits (rowOut D arg3 h3 t) k u

/-- After `n` copies were started. -/
def Sent (s t : ℕ) (f : Buf (Elt F) (bOut.view.loc (c : Thread nD τ))) (R : sProp 𝕄) (n : ℕ) : sProp 𝕄 :=
  iprop((bIdx.view.loc (c : Thread nD τ) ↦[place s]{fullShare} staged D t) ∗ rowBatch D arg3 h3 t n 0
    ∗ bigSep (pending n) (rowIn D arg3 h3 t f) ∗ R)

variable {D arg3 h3}

/-- What a copy leaves on its destination is what `rowVal` says. -/
theorem row_written (j : Fin 8192) (off : Fin 2 → ℕ) (inb) (h1 : off 1 = 0) (h8 : 8 ∣ off 0)
    (f : Buf (Elt F) (bOut.view.loc (c : Thread nD τ))) :
    ∀ x ∈ slab (off 0) 8,
      (bOut.slice (Rect.unit (s := S655360x128) off S8x128.size inb) (fun _ => rfl)).view.write (Elt F) f
        (ReadAs.same.apply ((srcRow arg3 (j.val / 4) (tok_lt j)).view.read (Elt F) h3)) Finset.univ x = rowVal arg3 h3 j x := by
  intro x hx
  rw [← slice_set (inb := inb) h1] at hx
  obtain ⟨y, hy, hw⟩ := written_at _ f (ReadAs.same.apply ((srcRow arg3 (j.val / 4) (tok_lt j)).view.read (Elt F) h3)) hx
  rw [hw]
  have hx0 : (x 0).val = off 0 + (y 0).val := by
    rw [← hy]; show off 0 + 1 * (y 0).val = _; omega
  have hx1 : (x 1).val = (y 1).val := by
    rw [← hy]; show off 1 + 1 * (y 1).val = _; omega
  have hy0 : (y 0).val < 8 := (y 0).isLt
  have he : (Rect.unit (s := S16384x128) ![8 * (j.val / 4), 0] S8x128.size (src_inb (tok_lt j))).emb y
      = Shape.pair (d := S16384x128.size) ⟨8 * (j.val / 4) + (x 0).val % 8, by
          show _ < 16384; have := tok_lt j; omega⟩ (x 1) := by
    rw [← Shape.pair_eta (d := S16384x128.size) ((Rect.unit (s := S16384x128) ![8 * (j.val / 4), 0] S8x128.size (src_inb (tok_lt j))).emb y)]
    congr 1
    · refine Fin.ext ?_
      show 8 * (j.val / 4) + 1 * (y 0).val = 8 * (j.val / 4) + (x 0).val % 8
      omega
    · refine Fin.ext ?_
      show 0 + 1 * (y 1).val = (x 1).val
      omega
  show arg3.view.read (Elt F) h3 ((Rect.unit (s := S16384x128) ![8 * (j.val / 4), 0] S8x128.size (src_inb (tok_lt j))).emb y) = _
  rw [he]; rfl

/-- Starting copy `j`. -/
theorem send {R : sProp 𝕄} {α : Type} {s t : ℕ} {f : Buf (Elt F) (bOut.view.loc (c : Thread nD τ))} {n : ℕ} (hn : n < 8192)
    (offS : Fin 2 → ℕ) (hS : offS = ![8 * (n / 4), 0]) (inbS) (off : Fin 2 → ℕ) (inb)
    (h0 : off 0 = 8 * dst D (n % 4) (2048 * t + n / 4)) (h1 : off 1 = 0) {w1 w2 w3}
    {k : PUnit → Prg F α} {Q : α → sProp 𝕄} (hk : Sent D arg3 h3 s t f R (n + 1) ⊢ runs c (k ⟨⟩) Q) :
    Sent D arg3 h3 s t f R n ⊢ runs c (.op (.enqueueDma
      (arg3.slice (Rect.unit (s := S16384x128) offS S8x128.size inbS) (fun _ => rfl))
      (.here (bOut.slice (Rect.unit (s := S655360x128) off S8x128.size inb) (fun _ => rfl))) (.dma rowSem) w1 w2 w3) k) Q := by
  subst hS
  have hset : (bOut.slice (Rect.unit (s := S655360x128) off S8x128.size inb) (fun _ => rfl)).view.set = rowBlock D t ⟨n, hn⟩ := by
    unfold rowBlock; rw [← h0]; exact slice_set h1
  unfold Sent at hk ⊢
  rw [bigSep_pending_step _ _ hn, show rowIn D arg3 h3 t f ⟨n, hn⟩
    = iprop((arg3.view.loc (c : Thread nD τ) ↦[srcSet arg3 ⟨n, hn⟩]{shareTok fullShare 8192 ⟨n, hn⟩} h3)
      ∗ (bOut.view.loc (c : Thread nD τ) ↦[rowBlock D t ⟨n, hn⟩]{fullShare} f)) from rfl]
  have hback : iprop((bOut.view.loc (c : Thread nD τ) ↦[rowBlock D t ⟨n, hn⟩]{fullShare}
        ((bOut.slice (Rect.unit (s := S655360x128) off S8x128.size inb) (fun _ => rfl)).view.write (Elt F) f
          (ReadAs.same.apply ((srcRow arg3 (n / 4) (tok_lt ⟨n, hn⟩)).view.read (Elt F) h3)) Finset.univ))
      ∗ (arg3.view.loc (c : Thread nD τ) ↦[srcSet arg3 ⟨n, hn⟩]{shareTok fullShare 8192 ⟨n, hn⟩} h3))
      ⊢ rowOut D arg3 h3 t ⟨n, hn⟩ := by
    unfold rowOut pieceOut
    refine sep_mono_left (Entails.of_eq (pointsTo_congr ?_))
    unfold rowBlock
    rw [← h0]
    exact row_written ⟨n, hn⟩ off inb h1 (by omega) f
  iintro ⟨He, HB, ⟨⟨Hs, Hd⟩, Hp⟩, HR⟩
  iapply (wp_dmaBatch (countersEmb (U := Pipeline.UD sig nD τ)) Variants.none (c : Thread nD τ) none
    (src := srcRow arg3 (n / 4) (tok_lt ⟨n, hn⟩))
    (dst := bOut.slice (Rect.unit (s := S655360x128) off S8x128.size inb) (fun _ => rfl)) () rowUnits rfl hset.subset
    (D := rowOut D arg3 h3 t) (j := n) (u := 0) hn (Nat.zero_le _) hback) $$ [Hs Hd HB]
  · isplitl [Hs]; · iexact Hs
    isplitl [Hd]; · iexact Hd
    iexact HB
  iintro HB
  iapply hk
  isplitl [He]; · iexact He
  isplitl [HB]; · iexact HB
  isplitl [Hp]; · iexact Hp
  iexact HR

/-- Reading the destination of slot `k` of token `tok` of the point from the staged table. -/
theorem load_dest {R : sProp 𝕄} {α : Type} {s t k tok : ℕ} (hs : s < 2) (hk4 : k < 4) (htok : tok < 2048) (off : Fin 2 → ℕ) (inb)
    (h0 : off 0 = 4 * s + k) (h1 : off 1 = tok) {kk : BitVec 32 → Prg F α} {Q : α → sProp 𝕄}
    (hk : iprop((bIdx.view.loc (c : Thread nD τ) ↦[place s]{fullShare} staged D t) ∗ R) ⊢ runs c (kk (word D k (2048 * t + tok))) Q) :
    iprop((bIdx.view.loc (c : Thread nD τ) ↦[place s]{fullShare} staged D t) ∗ R)
      ⊢ runs c (smemLoad bIdx (Rect.unit (s := S8x2048) off S1x1.size inb) numel1_S1x1 rfl >>= kk) Q := by
  have e0 : ((Shape.Idx.first (s := S1x1) (numel1_S1x1.symm ▸ Nat.one_pos)) 0).val = 0 := Nat.lt_one_iff.mp (Fin.isLt _)
  have e1 : ((Shape.Idx.first (s := S1x1) (numel1_S1x1.symm ▸ Nat.one_pos)) 1).val = 0 := Nat.lt_one_iff.mp (Fin.isLt _)
  have hv : (bIdx.access (Rect.unit (s := S8x2048) off S1x1.size inb)).read (Elt F) (staged D t)
      (Shape.Idx.first (numel1_S1x1.symm ▸ Nat.one_pos)) = word D k (2048 * t + tok) := by
    show word D (off 0 + 1 * ((Shape.Idx.first (s := S1x1) (numel1_S1x1.symm ▸ Nat.one_pos)) 0).val)
      (2048 * t + (off 1 + 1 * ((Shape.Idx.first (s := S1x1) (numel1_S1x1.symm ▸ Nat.one_pos)) 1).val)) = _
    rw [e0, e1, h0, h1]
    unfold word
    simp only [Nat.mul_zero, Nat.add_zero, Nat.mul_add_mod]
  have hsub : (bIdx.access (Rect.unit (s := S8x2048) off S1x1.size inb)).set ⊆ place s := by
    rw [show (bIdx.access (Rect.unit (s := S8x2048) off S1x1.size inb)).set
      = (Rect.unit (s := S8x2048) off S1x1.size inb).set from View.set_slice_whole _ _]
    intro x hx
    rw [Rect.mem_set_unit] at hx
    have := hx 0
    rw [mem_place]
    have hs1 : S1x1.size 0 = 1 := rfl
    omega
  have step := wp_smemLoadElt (defs := defs₀ (F := F)) (Γ := []) Variants.none (c : Thread nD τ) none Set.univ (m := bIdx)
    (r := Rect.unit (s := S8x2048) off S1x1.size inb) (hw := View.loads_smem_one rfl numel1_S1x1)
    (x := Shape.Idx.first (numel1_S1x1.symm ▸ Nat.one_pos)) (k := kk) (Q := Q) (q := fullShare) (f := staged D t) hsub
  rw [hv] at step
  show _ ⊢ runs c (smemLoadElt bIdx (Rect.unit (s := S8x2048) off S1x1.size inb) (View.loads_smem_one rfl numel1_S1x1)
    (Shape.Idx.first (numel1_S1x1.symm ▸ Nat.one_pos)) kk) Q
  iintro ⟨He, HR⟩
  iapply step $$ He
  iintro He
  iapply hk
  isplitl [He]; · iexact He
  iexact HR

/-- One copy as the program spells it: the destination read, its row checked, the copy started. -/
theorem row_step (hD : Dests D) {chk : BitVec 32 → Prop} {dec : ∀ v, Decidable (chk v)} {off : BitVec 32 → Fin 2 → ℕ}
    {inb : ∀ v, chk v → ∀ a, off v a + S8x128.size a ≤ S655360x128.size a}
    (hchk : ∀ v, v.toNat < 81920 → chk v) (hoff : ∀ v, v.toNat < 81920 → off v 0 = 8 * v.toNat) (hoff1 : ∀ v, off v 1 = 0)
    {R : sProp 𝕄} {α : Type} {s t : ℕ} {f : Buf (Elt F) (bOut.view.loc (c : Thread nD τ))} (n k tok : ℕ) (hn : n = 4 * tok + k) (hs : s < 2) (ht : t < 8)
    (hk4 : k < 4) (htok : tok < 2048) {offI offS : Fin 2 → ℕ} {inbI inbS} (hI0 : offI 0 = 4 * s + k) (hI1 : offI 1 = tok)
    (hS : offS = ![8 * tok, 0]) {J : Prg F α} {Q : α → sProp 𝕄}
    (hk : Sent D arg3 h3 s t f R (n + 1) ⊢ runs c J Q) :
    Sent D arg3 h3 s t f R n ⊢ runs c (do
      let v ← smemLoad bIdx (Rect.unit (s := S8x2048) offI S1x1.size inbI) numel1_S1x1 rfl
      have hw : chk v := (← Prog.lift (TpuEff.assume (chk v) (dec v))).down
      let d : Memref sig .tc .hbm S8x128 .f32 := bOut.slice (Rect.unit (s := S655360x128) (off v) S8x128.size (inb v hw)) (fun _ => rfl)
      let sr : Memref sig .tc .vmem S8x128 .f32 := arg3.slice (Rect.unit (s := S16384x128) offS S8x128.size inbS) (fun _ => rfl)
      Prog.lift (.enqueueDma sr (.here d) (.dma cc0_scratch3.sem) (View.wordExact_bits rfl) (View.wordExact_bits rfl) ⟨Or.inl rfl, trivial⟩)
      J) Q := by
  subst hn
  refine load_dest hs hk4 htok offI inbI hI0 hI1 ?_
  have hlt : (word D k (2048 * t + tok)).toNat < 81920 := hD.lt k _ hk4 (by omega)
  have hw := hchk _ hlt
  refine .trans ?_ (wp_assume Variants.none (c : Thread nD τ) none Set.univ hw)
  have e4 : (4 * tok + k) / 4 = tok := by omega
  have e5 : (4 * tok + k) % 4 = k := by omega
  exact send (by omega) offS (by rw [e4]; exact hS) _ _ _ (by rw [e4, e5]; exact hoff _ hlt) (hoff1 _) (k := fun _ => J) hk

/-- What the program assumes of a destination holds of a row of the result. -/
theorem off68_zero {v : BitVec 32} (h : v.toNat < 81920) : k0_off68 v 0 = 8 * v.toNat := by
  show (v * 8#32).toNat = _
  rw [BitVec.toNat_mul]
  simp only [BitVec.toNat_ofNat]
  omega
theorem row_dvd {v : BitVec 32} (h : v.toNat < 81920) : 8 ∣ (k0_mult69 v).toNat := ⟨v.toNat, off68_zero h⟩
theorem row_inb {v : BitVec 32} (h : v.toNat < 81920) : ∀ a, k0_off68 v a + S8x128.size a ≤ S655360x128.size a := by
  rw [Fin.forall_fin_two, off68_zero h]
  exact ⟨(show 8 * v.toNat + 8 ≤ 655360 by omega), (show 0 + 128 ≤ 128 by omega)⟩

theorem trip_lt (t1 : Fin k0_t1_loop.trips) : t1.val < 2048 := t1.isLt
theorem trip_word {n : ℕ} (h : n < 2048) : (0#32 + BitVec.ofNat 32 n * 1#32).toNat = n := by
  rw [BitVec.toNat_add, BitVec.toNat_mul, BitVec.toNat_ofNat]; simp only [BitVec.toNat_ofNat]; omega
theorem trip_off (t1 : Fin k0_t1_loop.trips) : k0_off67 t1 1 = t1.val := trip_word (trip_lt t1)
theorem trip_src (t1 : Fin k0_t1_loop.trips) : k0_off69 t1 = ![8 * t1.val, 0] := by
  have h := trip_lt t1
  have hw : ((0#32 + BitVec.ofNat 32 t1.val * 1#32) * 8#32).toNat = 8 * t1.val := by
    rw [BitVec.toNat_mul, trip_word h]; simp only [BitVec.toNat_ofNat]; omega
  show ![((0#32 + BitVec.ofNat 32 t1.val * 1#32) * 8#32).toNat, 0] = _
  rw [hw]

section Trips
variable (hD : Dests D) (i : grid0.Coords) (harg3 : arg3.IsWhole)
include hD

/-- One trip at an even point: the token's four copies. -/
theorem trip_even (h131 : k0_cond131 i = 1#1) {t : ℕ} (ht : t < 8) {R : sProp 𝕄} {f : Buf (Elt F) (bOut.view.loc (c : Thread nD τ))}
    (t1 : Fin k0_t1_loop.trips) (acc : Unit) :
    Sent D arg3 h3 0 t f R (4 * t1.val) ⊢ runs c (k0_t1_body i bEnds (Memref.isWhole_whole _) bDest (Memref.isWhole_whole _) arg3 harg3 bOut (Memref.isWhole_whole _) bIdx (Memref.isWhole_whole _) bZero (Memref.isWhole_whole _) cc0_scratch2 cc0_scratch3 h131 t1 acc) (fun _ => Sent D arg3 h3 0 t f R (4 * (t1.val + 1))) := by
  unfold k0_t1_body
  refine row_step hD (s := 0) (t := t) (f := f) (R := R) (chk := fun v => k0_chk65 i v) (inb := fun v hw => k0_off68_inb i v hw h131) (fun v h => ⟨fun _ => row_dvd h, fun _ => row_inb h⟩) (fun v h => off68_zero h)
    (fun _ => rfl) (4 * t1.val + 0) 0 t1.val rfl (by omega) ht (by omega) (trip_lt t1) rfl (trip_word (trip_lt t1)) (trip_src t1) ?_
  refine row_step hD (s := 0) (t := t) (f := f) (R := R) (chk := fun v => k0_chk66 i v) (inb := fun v hw => k0_off71_inb i v hw h131) (fun v h => ⟨fun _ => row_dvd h, fun _ => row_inb h⟩) (fun v h => off68_zero h)
    (fun _ => rfl) (4 * t1.val + 1) 1 t1.val rfl (by omega) ht (by omega) (trip_lt t1) rfl (trip_word (trip_lt t1)) (trip_src t1) ?_
  refine row_step hD (s := 0) (t := t) (f := f) (R := R) (chk := fun v => k0_chk67 i v) (inb := fun v hw => k0_off74_inb i v hw h131) (fun v h => ⟨fun _ => row_dvd h, fun _ => row_inb h⟩) (fun v h => off68_zero h)
    (fun _ => rfl) (4 * t1.val + 2) 2 t1.val rfl (by omega) ht (by omega) (trip_lt t1) rfl (trip_word (trip_lt t1)) (trip_src t1) ?_
  refine row_step hD (s := 0) (t := t) (f := f) (R := R) (chk := fun v => k0_chk68 i v) (inb := fun v hw => k0_off77_inb i v hw h131) (fun v h => ⟨fun _ => row_dvd h, fun _ => row_inb h⟩) (fun v h => off68_zero h)
    (fun _ => rfl) (4 * t1.val + 3) 3 t1.val rfl (by omega) ht (by omega) (trip_lt t1) rfl (trip_word (trip_lt t1)) (trip_src t1) ?_
  exact runs_ret .rfl

/-- One trip at an odd point. -/
theorem trip_odd (h133 : k0_cond133 i = 1#1) {t : ℕ} (ht : t < 8) {R : sProp 𝕄} {f : Buf (Elt F) (bOut.view.loc (c : Thread nD τ))}
    (t1 : Fin k0_t2_loop.trips) (acc : Unit) :
    Sent D arg3 h3 1 t f R (4 * t1.val) ⊢ runs c (k0_t2_body i bEnds (Memref.isWhole_whole _) bDest (Memref.isWhole_whole _) arg3 harg3 bOut (Memref.isWhole_whole _) bIdx (Memref.isWhole_whole _) bZero (Memref.isWhole_whole _) cc0_scratch2 cc0_scratch3 h133 t1 acc) (fun _ => Sent D arg3 h3 1 t f R (4 * (t1.val + 1))) := by
  unfold k0_t2_body
  refine row_step hD (s := 1) (t := t) (f := f) (R := R) (chk := fun v => k0_chk69 i v) (inb := fun v hw => k0_off82_inb i v hw h133) (fun v h => ⟨fun _ => row_dvd h, fun _ => row_inb h⟩) (fun v h => off68_zero h)
    (fun _ => rfl) (4 * t1.val + 0) 0 t1.val rfl (by omega) ht (by omega) (trip_lt t1) rfl (trip_word (trip_lt t1)) (trip_src t1) ?_
  refine row_step hD (s := 1) (t := t) (f := f) (R := R) (chk := fun v => k0_chk70 i v) (inb := fun v hw => k0_off85_inb i v hw h133) (fun v h => ⟨fun _ => row_dvd h, fun _ => row_inb h⟩) (fun v h => off68_zero h)
    (fun _ => rfl) (4 * t1.val + 1) 1 t1.val rfl (by omega) ht (by omega) (trip_lt t1) rfl (trip_word (trip_lt t1)) (trip_src t1) ?_
  refine row_step hD (s := 1) (t := t) (f := f) (R := R) (chk := fun v => k0_chk71 i v) (inb := fun v hw => k0_off88_inb i v hw h133) (fun v h => ⟨fun _ => row_dvd h, fun _ => row_inb h⟩) (fun v h => off68_zero h)
    (fun _ => rfl) (4 * t1.val + 2) 2 t1.val rfl (by omega) ht (by omega) (trip_lt t1) rfl (trip_word (trip_lt t1)) (trip_src t1) ?_
  refine row_step hD (s := 1) (t := t) (f := f) (R := R) (chk := fun v => k0_chk72 i v) (inb := fun v hw => k0_off91_inb i v hw h133) (fun v h => ⟨fun _ => row_dvd h, fun _ => row_inb h⟩) (fun v h => off68_zero h)
    (fun _ => rfl) (4 * t1.val + 3) 3 t1.val rfl (by omega) ht (by omega) (trip_lt t1) rfl (trip_word (trip_lt t1)) (trip_src t1) ?_
  exact runs_ret .rfl

/-- All trips at an even point. -/
theorem loop_even (h131 : k0_cond131 i = 1#1) {t : ℕ} (ht : t < 8) {R : sProp 𝕄} {f : Buf (Elt F) (bOut.view.loc (c : Thread nD τ))}
    {α : Type} {J : Unit → Prg F α} {Q : α → sProp 𝕄} (hk : Sent D arg3 h3 0 t f R 8192 ⊢ runs c (J ⟨⟩) Q) :
    Sent D arg3 h3 0 t f R 0 ⊢ runs c (Scf.Loop.for k0_t1_loop (k0_t1_ok i h131) ⟨⟩ (k0_t1_body i bEnds (Memref.isWhole_whole _) bDest (Memref.isWhole_whole _) arg3 harg3 bOut (Memref.isWhole_whole _) bIdx (Memref.isWhole_whole _) bZero (Memref.isWhole_whole _) cc0_scratch2 cc0_scratch3 h131) >>= J) Q := by
  refine runs_bind ?_
  refine .trans ?_ (Scf.wp_for _ _ _ _ _ _ (k0_t1_ok i h131) ⟨⟩ (k0_t1_body i bEnds (Memref.isWhole_whole _) bDest (Memref.isWhole_whole _) arg3 harg3 bOut (Memref.isWhole_whole _) bIdx (Memref.isWhole_whole _) bZero (Memref.isWhole_whole _) cc0_scratch2 cc0_scratch3 h131)
    (fun n _ => Sent D arg3 h3 0 t f R (4 * n)) (fun t1 acc => trip_even hD i harg3 h131 ht t1 acc))
  iintro H
  isplitl [H]; · iexact H
  iintro %a H
  iapply hk
  iexact H

/-- All trips at an odd point. -/
theorem loop_odd (h133 : k0_cond133 i = 1#1) {t : ℕ} (ht : t < 8) {R : sProp 𝕄} {f : Buf (Elt F) (bOut.view.loc (c : Thread nD τ))}
    {α : Type} {J : Unit → Prg F α} {Q : α → sProp 𝕄} (hk : Sent D arg3 h3 1 t f R 8192 ⊢ runs c (J ⟨⟩) Q) :
    Sent D arg3 h3 1 t f R 0 ⊢ runs c (Scf.Loop.for k0_t2_loop (k0_t2_ok i h133) ⟨⟩ (k0_t2_body i bEnds (Memref.isWhole_whole _) bDest (Memref.isWhole_whole _) arg3 harg3 bOut (Memref.isWhole_whole _) bIdx (Memref.isWhole_whole _) bZero (Memref.isWhole_whole _) cc0_scratch2 cc0_scratch3 h133) >>= J) Q := by
  refine runs_bind ?_
  refine .trans ?_ (Scf.wp_for _ _ _ _ _ _ (k0_t2_ok i h133) ⟨⟩ (k0_t2_body i bEnds (Memref.isWhole_whole _) bDest (Memref.isWhole_whole _) arg3 harg3 bOut (Memref.isWhole_whole _) bIdx (Memref.isWhole_whole _) bZero (Memref.isWhole_whole _) cc0_scratch2 cc0_scratch3 h133)
    (fun n _ => Sent D arg3 h3 1 t f R (4 * n)) (fun t1 acc => trip_odd hD i harg3 h133 ht t1 acc))
  iintro H
  isplitl [H]; · iexact H
  iintro %a H
  iapply hk
  iexact H

end Trips

end Cert.KernelIdeal.Hand

end
-- ==== Proof.RowsPhase.lean ====
/-
  The row copies of one grid point as a whole: opening them lends the staged input and the result's rows out, the four
  waits at the end bring every row back, written.
-/
module

public import proofs.«01_k».proof.Proof.Rows

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} {D : Buf (Elt F) (bDest.view.loc (c : Thread nD τ))}
  {arg3 : Memref sig .tc .vmem S16384x128 .f32} {h3 : Buf (Elt F) (arg3.view.loc (c : Thread nD τ))}

/-- The result's contents `f'` are `f` but for the rows of point `t`'s tokens, which hold the tokens. -/
def RowsDone (D : Buf (Elt F) (bDest.view.loc (c : Thread nD τ))) (arg3 : Memref sig .tc .vmem S16384x128 .f32)
    (h3 : Buf (Elt F) (arg3.view.loc (c : Thread nD τ))) (t : ℕ) (f f' : Buf (Elt F) (bOut.view.loc (c : Thread nD τ))) : Prop :=
  (∀ j, ∀ x ∈ rowBlock D t j, f' x = rowVal arg3 h3 j x) ∧ ∀ x, (∀ j, x ∉ rowBlock D t j) → f' x = f x

theorem rowUnits_pos : 0 < rowUnits := by decide

/-- Before the first row copy: the batch opened, the input and the rows lent out. -/
theorem open_rows (hD : Dests D) {R : sProp 𝕄} {α : Type} {s t : ℕ} (ht : t < 8) {f : Buf (Elt F) (bOut.view.loc (c : Thread nD τ))}
    {J : Prg F α} {Q : α → sProp 𝕄} (hk : Sent D arg3 h3 s t f iprop(keptRows D arg3 h3 t f ∗ R) 0 ⊢ runs c J Q) :
    iprop((bIdx.view.loc (c : Thread nD τ) ↦[place s]{fullShare} staged D t) ∗ (arg3.view.loc (c : Thread nD τ) ↦{fullShare} h3)
      ∗ (bOut.view.loc (c : Thread nD τ) ↦{fullShare} f) ∗ semVal ((c : Thread nD τ), SemLoc.dma rowSem) 0 ∗ R) ⊢ runs c J Q := by
  haveI : ∀ j, Storable (upEmb : UEmb _ 𝕄) (rowOut D arg3 h3 t j) := fun j => pieceOut_storable _ _ _ _ _ j
  iintro ⟨He, Hz, Ho, Hs, HR⟩
  imod (Transfers.batch_alloc' (Lvl := ℕ) (countersEmb (U := Pipeline.UD sig nD τ)) (c : Thread nD τ) () rowUnits (rowOut D arg3 h3 t)
    (sm := .dma rowSem) (E := Set.univ)) $$ Hs with HB
  ihave Hl := (lend (ℓs := arg3.view.loc (c : Thread nD τ)) (ℓd := bOut.view.loc (c : Thread nD τ)) fullShare h3
    (srcSet arg3) (rowBlock D t) (rowBlock_disjoint hD ht) f) $$ [Hz Ho]
  · isplitl [Hz]; · iexact Hz
    iexact Ho
  icases Hl with ⟨Hk, Hp⟩
  iapply hk
  unfold Sent
  isplitl [He]; · iexact He
  isplitl [HB]; · iexact HB
  isplitl [Hp]; · rw [pending_zero]; iexact Hp
  isplitl [Hk]; · iexact Hk
  iexact HR

/-- The rows' batch after `u` units were waited for. -/
def Awaited (D : Buf (Elt F) (bDest.view.loc (c : Thread nD τ))) (arg3 : Memref sig .tc .vmem S16384x128 .f32)
    (h3 : Buf (Elt F) (arg3.view.loc (c : Thread nD τ))) (t : ℕ) (R : sProp 𝕄) (u : ℕ) : sProp 𝕄 :=
  iprop(rowBatch D arg3 h3 t 8192 u ∗ (∃ W, owes (c : Thread nD τ) 0 W) ∗ R)

theorem quarter_units {inb} : (bOut.slice (Rect.unit (s := S655360x128) ![0, 0] S16384x128.size inb) (fun _ => rfl)).view.dmaCredit = 2048 * rowUnits :=
  (show (bOut.slice (Rect.unit (s := S655360x128) ![0, 0] S16384x128.size (by decide)) (fun _ => rfl)).view.dmaCredit = 2048 * rowUnits by decide)

/-- One of the four waits: a quarter of the copies. -/
theorem await_quarter {R : sProp 𝕄} {α : Type} {t u : ℕ} (hu : u + 2048 * rowUnits ≤ rowUnits * 8192) {inb w1 w2}
    {k : PUnit → Prg F α} {Q : α → sProp 𝕄} (hk : Awaited D arg3 h3 t R (u + 2048 * rowUnits) ⊢ runs c (k ⟨⟩) Q) :
    Awaited D arg3 h3 t R u ⊢ runs c (.op (.waitDma2 rowSem arg3
      (bOut.slice (Rect.unit (s := S655360x128) ![0, 0] S16384x128.size inb) (fun _ => rfl)) w1 w2) k) Q := by
  unfold Awaited at hk ⊢
  iintro ⟨HB, ⟨%W, HO⟩, HR⟩
  iapply (wp_waitBatchMul (countersEmb (U := Pipeline.UD sig nD τ)) Variants.none (c : Thread nD τ) none (srcw := arg3)
    (dstw := bOut.slice (Rect.unit (s := S655360x128) ![0, 0] S16384x128.size inb) (fun _ => rfl)) (N := rowUnits) () 2048
    quarter_units hu) $$ [HB HO]
  · isplitl [HB]; · iexact HB
    iexact HO
  iintro ⟨HB, HO⟩
  iapply hk
  isplitl [HB]; · iexact HB
  isplitl [HO]; · iexists _; iexact HO
  iexact HR

/-- After the last wait: the rows back, written. -/
theorem close_rows (hD : Dests D) {R : sProp 𝕄} {α : Type} {t : ℕ} (ht : t < 8) {f : Buf (Elt F) (bOut.view.loc (c : Thread nD τ))}
    {J : Prg F α} {Q : α → sProp 𝕄}
    (hk : iprop((arg3.view.loc (c : Thread nD τ) ↦{fullShare} h3)
      ∗ (∃ f', ⌜RowsDone D arg3 h3 t f f'⌝ ∗ (bOut.view.loc (c : Thread nD τ) ↦{fullShare} f'))
      ∗ semVal ((c : Thread nD τ), SemLoc.dma rowSem) 0 ∗ (∃ W, owes (c : Thread nD τ) 0 W) ∗ R) ⊢ runs c J Q) :
    Awaited D arg3 h3 t iprop(keptRows D arg3 h3 t f ∗ R) (rowUnits * 8192) ⊢ runs c J Q := by
  unfold Awaited
  iintro ⟨HB, HO, Hk, HR⟩
  imod (batch_collect' (countersEmb (U := Pipeline.UD sig nD τ)) (c : Thread nD τ) rowUnits_pos) $$ HB with ⟨Hp, Hs⟩
  ihave Hl := (collect (ℓs := arg3.view.loc (c : Thread nD τ)) (ℓd := bOut.view.loc (c : Thread nD τ)) fullShare h3
    (srcSet arg3) (rowBlock D t) (rowBlock_disjoint hD ht) f (rowVal arg3 h3)) $$ [Hk Hp]
  · isplitl [Hk]; · iexact Hk
    iexact Hp
  icases Hl with ⟨Hz, Ho⟩
  iapply hk
  isplitl [Hz]; · iexact Hz
  isplitl [Ho]; · iexact Ho
  isplitl [Hs]; · iexact Hs
  isplitl [HO]; · iexact HO
  iexact HR

/-- The four waits. -/
theorem finish_rows (hD : Dests D) {R : sProp 𝕄} {α : Type} {s t : ℕ} (ht : t < 8) {f : Buf (Elt F) (bOut.view.loc (c : Thread nD τ))}
    {inb} (w1 : arg3.view.WordExact) {J : Prg F α} {Q : α → sProp 𝕄}
    (hk : iprop((arg3.view.loc (c : Thread nD τ) ↦{fullShare} h3)
      ∗ (∃ f', ⌜RowsDone D arg3 h3 t f f'⌝ ∗ (bOut.view.loc (c : Thread nD τ) ↦{fullShare} f'))
      ∗ semVal ((c : Thread nD τ), SemLoc.dma rowSem) 0 ∗ (∃ W, owes (c : Thread nD τ) 0 W)
      ∗ (∃ g, bIdx.view.loc (c : Thread nD τ) ↦[place s]{fullShare} g) ∗ R) ⊢ runs c J Q) :
    Sent D arg3 h3 s t f iprop(keptRows D arg3 h3 t f ∗ (∃ W, owes (c : Thread nD τ) 0 W) ∗ R) 8192 ⊢ runs c (do
      Prog.lift (.waitDma2 cc0_scratch3.sem arg3 (bOut.slice (Rect.unit (s := S655360x128) ![0, 0] S16384x128.size inb) (fun _ => rfl)) w1 (View.wordExact_bits rfl))
      Prog.lift (.waitDma2 cc0_scratch3.sem arg3 (bOut.slice (Rect.unit (s := S655360x128) ![0, 0] S16384x128.size inb) (fun _ => rfl)) w1 (View.wordExact_bits rfl))
      Prog.lift (.waitDma2 cc0_scratch3.sem arg3 (bOut.slice (Rect.unit (s := S655360x128) ![0, 0] S16384x128.size inb) (fun _ => rfl)) w1 (View.wordExact_bits rfl))
      Prog.lift (.waitDma2 cc0_scratch3.sem arg3 (bOut.slice (Rect.unit (s := S655360x128) ![0, 0] S16384x128.size inb) (fun _ => rfl)) w1 (View.wordExact_bits rfl))
      J) Q := by
  have e : rowUnits * 8192 = 0 + 2048 * rowUnits + 2048 * rowUnits + 2048 * rowUnits + 2048 * rowUnits := by omega
  refine .trans (Q := Awaited D arg3 h3 t iprop(keptRows D arg3 h3 t f ∗ (∃ g, bIdx.view.loc (c : Thread nD τ) ↦[place s]{fullShare} g) ∗ R) 0) ?_ ?_
  · unfold Sent Awaited
    iintro ⟨He, HB, -, Hk, HO, HR⟩
    isplitl [HB]; · iexact HB
    isplitl [HO]; · iexact HO
    isplitl [Hk]; · iexact Hk
    isplitl [He]; · iexists _; iexact He
    iexact HR
  refine await_quarter (by omega) (k := fun _ => _) ?_
  refine await_quarter (by omega) (k := fun _ => _) ?_
  refine await_quarter (by omega) (k := fun _ => _) ?_
  refine await_quarter (by omega) (k := fun _ => _) ?_
  rw [← e]
  exact close_rows hD ht hk

end Cert.KernelIdeal.Hand

end
-- ==== Proof.Prefetch.lean ====
/-
  The staged tables: the copy of one point's destinations into its place, on the place's semaphore, started one point
  ahead and waited for at the point.
-/
module

public import proofs.«01_k».proof.Proof.RowsPhase

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} {D : Buf (Elt F) (bDest.view.loc (c : Thread nD τ))}

/-- The two places' semaphores. -/
abbrev idxSem0 : DmaSem sig := ((cc0_scratch2.slice (Rect.unit (s := S2) ![0] S1.size inb_S2_S1_0)).squeeze S_ squeezes_S1_S_).sem
abbrev idxSem1 : DmaSem sig := ((cc0_scratch2.slice (Rect.unit (s := S2) ![1] S1.size inb_S2_S1_1)).squeeze S_ squeezes_S1_S_).sem
def idxSem : ℕ → DmaSem sig
  | 0 => idxSem0
  | _ => idxSem1

/-- The destinations of the 2048 tokens from `o`. -/
def tile (o : ℕ) : Finset S4x16384.Idx := Finset.univ.filter fun x => o ≤ (x 1).val ∧ (x 1).val < o + 2048

theorem mem_tile {o : ℕ} {x : S4x16384.Idx} : x ∈ tile o ↔ o ≤ (x 1).val ∧ (x 1).val < o + 2048 := by simp [tile]

abbrev idxUnits : ℕ := (bIdx.slice (Rect.unit (s := S8x2048) ![0, 0] S4x2048.size (by decide)) (fun _ => rfl)).view.dmaCredit

theorem idxUnits_pos : 0 < idxUnits := by decide

/-- What the copy leaves: the place at the staged table, and the destinations it read. -/
def idxOut (D : Buf (Elt F) (bDest.view.loc (c : Thread nD τ))) (s t : ℕ) (_ : Fin 1) : sProp 𝕄 :=
  iprop((bIdx.view.loc (c : Thread nD τ) ↦[place s]{fullShare} staged D t) ∗ (bDest.view.loc (c : Thread nD τ) ↦[tile (2048 * t)]{fullShare} D))

instance idxOut_storable (s t : ℕ) (i : Fin 1) : Storable (upEmb : UEmb _ 𝕄) (idxOut D s t i) := by
  unfold idxOut; infer_instance

/-- The copy of point `t`'s destinations into place `s` is under way. -/
def Coming (D : Buf (Elt F) (bDest.view.loc (c : Thread nD τ))) (s t : ℕ) : sProp 𝕄 :=
  iprop(Batch (countersEmb (U := Pipeline.UD sig nD τ)) (c : Thread nD τ) (.dma (idxSem s)) () idxUnits (idxOut D s t) 1 0
    ∗ (bDest.view.loc (c : Thread nD τ) ↦[Finset.univ \ tile (2048 * t)]{fullShare} D))

/-- No copy is under way into place `s`. -/
def Quiet (c : Dev nD) (s : ℕ) : sProp 𝕄 :=
  iprop((∃ g, bIdx.view.loc (c : Thread nD τ) ↦[place s]{fullShare} g) ∗ semVal ((c : Thread nD τ), SemLoc.dma (idxSem s)) 0)

theorem idx_dst_set {s : ℕ} {off : Fin 2 → ℕ} {inb} (h0 : off 0 = 4 * s) (h1 : off 1 = 0) :
    (bIdx.slice (Rect.unit (s := S8x2048) off S4x2048.size inb) (fun _ => rfl)).view.set = place s := by
  rw [show (bIdx.slice (Rect.unit (s := S8x2048) off S4x2048.size inb) (fun _ => rfl)).view.set
    = (Rect.unit (s := S8x2048) off S4x2048.size inb).set from View.set_slice_whole _ _]
  ext x
  rw [mem_place, Rect.mem_set_unit, Fin.forall_fin_two, h0, h1]
  constructor
  · rintro ⟨h, -⟩; exact h
  · intro h; refine ⟨h, Nat.zero_le _, ?_⟩
    show (x 1).val < 0 + 2048
    have : (x 1).val < 2048 := (x 1).isLt
    omega

theorem idx_src_set {o : ℕ} {off : Fin 2 → ℕ} {inb} (h0 : off 0 = 0) (h1 : off 1 = o) :
    (bDest.slice (Rect.unit (s := S4x16384) off S4x2048.size inb) (fun _ => rfl)).view.set = tile o := by
  rw [show (bDest.slice (Rect.unit (s := S4x16384) off S4x2048.size inb) (fun _ => rfl)).view.set
    = (Rect.unit (s := S4x16384) off S4x2048.size inb).set from View.set_slice_whole _ _]
  ext x
  rw [mem_tile, Rect.mem_set_unit, Fin.forall_fin_two, h0, h1]
  constructor
  · rintro ⟨-, h⟩; exact h
  · intro h; refine ⟨⟨Nat.zero_le _, ?_⟩, h⟩
    show (x 0).val < 0 + 4
    have : (x 0).val < 4 := (x 0).isLt
    omega

/-- The copy leaves the staged table on its place. -/
theorem idx_written {s t : ℕ} (ht : t < 8) {offS offD : Fin 2 → ℕ} {inbS inbD} (hS0 : offS 0 = 0) (hS1 : offS 1 = 2048 * t)
    (hD0 : offD 0 = 4 * s) (hD1 : offD 1 = 0) (g : Buf (Elt F) (bIdx.view.loc (c : Thread nD τ))) :
    ∀ x ∈ place s, (bIdx.slice (Rect.unit (s := S8x2048) offD S4x2048.size inbD) (fun _ => rfl)).view.write (Elt F) g
      (ReadAs.same.apply ((bDest.slice (Rect.unit (s := S4x16384) offS S4x2048.size inbS) (fun _ => rfl)).view.read (Elt F) D)) Finset.univ x
        = staged D t x := by
  intro x hx
  rw [← idx_dst_set (inb := inbD) hD0 hD1] at hx
  obtain ⟨y, hy, hw⟩ := written_at _ g (ReadAs.same.apply ((bDest.slice (Rect.unit (s := S4x16384) offS S4x2048.size inbS) (fun _ => rfl)).view.read (Elt F) D)) hx
  rw [hw]
  have hx0 : (x 0).val = offD 0 + (y 0).val := by
    rw [← hy]; show offD 0 + 1 * (y 0).val = _; omega
  have hx1 : (x 1).val = offD 1 + (y 1).val := by
    rw [← hy]; show offD 1 + 1 * (y 1).val = _; omega
  have hy0 : (y 0).val < 4 := (y 0).isLt
  have hy1 : (y 1).val < 2048 := (y 1).isLt
  have he : (Rect.unit (s := S4x16384) offS S4x2048.size inbS).emb y
      = Shape.pair (d := S4x16384.size) ⟨(x 0).val % 4, Nat.mod_lt _ (by decide)⟩ ⟨(2048 * t + (x 1).val) % 16384, Nat.mod_lt _ (by decide)⟩ := by
    rw [← Shape.pair_eta (d := S4x16384.size) ((Rect.unit (s := S4x16384) offS S4x2048.size inbS).emb y)]
    have e0 : ((Rect.unit (s := S4x16384) offS S4x2048.size inbS).emb y 0).val = (x 0).val % 4 := by
      rw [show ((Rect.unit (s := S4x16384) offS S4x2048.size inbS).emb y 0).val = offS 0 + 1 * (y 0).val from rfl]; omega
    have e1 : ((Rect.unit (s := S4x16384) offS S4x2048.size inbS).emb y 1).val = (2048 * t + (x 1).val) % 16384 := by
      rw [show ((Rect.unit (s := S4x16384) offS S4x2048.size inbS).emb y 1).val = offS 1 + 1 * (y 1).val from rfl]; omega
    exact congrArg₂ _ (Fin.ext e0) (Fin.ext e1)
  show D ((Rect.unit (s := S4x16384) offS S4x2048.size inbS).emb y) = _
  rw [he]; rfl

/-- Starting the copy. -/
theorem fetch {R : sProp 𝕄} {α : Type} {s t : ℕ} (ht : t < 8) (sm : DmaSem sig) (hsm : idxSem s = sm) (offS offD : Fin 2 → ℕ) {inbS inbD}
    (hS0 : offS 0 = 0) (hS1 : offS 1 = 2048 * t) (hD0 : offD 0 = 4 * s) (hD1 : offD 1 = 0) {w1 w2 w3}
    {k : PUnit → Prg F α} {Q : α → sProp 𝕄} (hk : iprop(Coming D s t ∗ R) ⊢ runs c (k ⟨⟩) Q) :
    iprop((bDest.view.loc (c : Thread nD τ) ↦{fullShare} D) ∗ Quiet c s ∗ R) ⊢ runs c (.op (.enqueueDma
      (bDest.slice (Rect.unit (s := S4x16384) offS S4x2048.size inbS) (fun _ => rfl))
      (.here (bIdx.slice (Rect.unit (s := S8x2048) offD S4x2048.size inbD) (fun _ => rfl))) (.dma sm) w1 w2 w3) k) Q := by
  subst hsm
  unfold Quiet
  iintro ⟨Hd, ⟨⟨%g, Hi⟩, Hs⟩, HR⟩
  imod (Transfers.batch_alloc' (Lvl := ℕ) (countersEmb (U := Pipeline.UD sig nD τ)) (c : Thread nD τ) () idxUnits (idxOut D s t)
    (sm := .dma (idxSem s)) (E := Set.univ)) $$ Hs with HB
  ihave Hd' := (pointsTo_split_subset (I := tile (2048 * t)) (Finset.subset_univ _)).1 $$ Hd
  icases Hd' with ⟨Hdp, Hdr⟩
  have hback : iprop((bIdx.view.loc (c : Thread nD τ) ↦[place s]{fullShare}
        ((bIdx.slice (Rect.unit (s := S8x2048) offD S4x2048.size inbD) (fun _ => rfl)).view.write (Elt F) g
      (ReadAs.same.apply ((bDest.slice (Rect.unit (s := S4x16384) offS S4x2048.size inbS) (fun _ => rfl)).view.read (Elt F) D)) Finset.univ))
      ∗ (bDest.view.loc (c : Thread nD τ) ↦[(bDest.slice (Rect.unit (s := S4x16384) offS S4x2048.size inbS) (fun _ => rfl)).view.set]{fullShare} D))
      ⊢ idxOut D s t ⟨0, Nat.one_pos⟩ := by
    unfold idxOut
    rw [idx_src_set hS0 hS1]
    exact sep_mono_left (Entails.of_eq (pointsTo_congr (idx_written ht hS0 hS1 hD0 hD1 g)))
  iapply (wp_dmaBatch (countersEmb (U := Pipeline.UD sig nD τ)) Variants.none (c : Thread nD τ) none
    (src := bDest.slice (Rect.unit (s := S4x16384) offS S4x2048.size inbS) (fun _ => rfl))
    (dst := bIdx.slice (Rect.unit (s := S8x2048) offD S4x2048.size inbD) (fun _ => rfl)) () idxUnits rfl
    (idx_dst_set hD0 hD1).subset
    (D := idxOut D s t) (j := 0) (u := 0) Nat.one_pos (Nat.zero_le _) hback) $$ [Hdp Hi HB]
  · isplitl [Hdp]; · rw [idx_src_set hS0 hS1]; iexact Hdp
    isplitl [Hi]; · iexact Hi
    iexact HB
  iintro HB
  iapply hk
  unfold Coming
  isplitl [HB Hdr]
  · isplitl [HB]; · iexact HB
    iexact Hdr
  iexact HR

/-- Waiting for it. -/
theorem arrive {R : sProp 𝕄} {α : Type} {s t : ℕ} (sm : DmaSem sig) (hsm : idxSem s = sm) {offS offD : Fin 2 → ℕ} {inbS inbD} {w1 w2}
    {k : PUnit → Prg F α} {Q : α → sProp 𝕄}
    (hk : iprop((bDest.view.loc (c : Thread nD τ) ↦{fullShare} D) ∗ (bIdx.view.loc (c : Thread nD τ) ↦[place s]{fullShare} staged D t)
      ∗ semVal ((c : Thread nD τ), SemLoc.dma (idxSem s)) 0 ∗ (∃ W, owes (c : Thread nD τ) 0 W) ∗ R) ⊢ runs c (k ⟨⟩) Q) :
    iprop(Coming D s t ∗ (∃ W, owes (c : Thread nD τ) 0 W) ∗ R) ⊢ runs c (.op (.waitDma2 sm
      (bDest.slice (Rect.unit (s := S4x16384) offS S4x2048.size inbS) (fun _ => rfl))
      (bIdx.slice (Rect.unit (s := S8x2048) offD S4x2048.size inbD) (fun _ => rfl)) w1 w2) k) Q := by
  subst hsm
  unfold Coming
  iintro ⟨⟨HB, Hdr⟩, ⟨%W, HO⟩, HR⟩
  iapply (wp_waitBatchAll (countersEmb (U := Pipeline.UD sig nD τ)) Variants.none (c : Thread nD τ) none
    (srcw := bDest.slice (Rect.unit (s := S4x16384) offS S4x2048.size inbS) (fun _ => rfl))
    (dstw := bIdx.slice (Rect.unit (s := S8x2048) offD S4x2048.size inbD) (fun _ => rfl)) (N := idxUnits) (J := idxUnits) ()
    rfl idxUnits_pos (D := idxOut D s t) (u := 0) (by omega)) $$ [HB HO]
  · isplitl [HB]; · iexact HB
    iexact HO
  iintro ⟨Hp, Hs, HO⟩
  ihave Hp' := (Entails.of_eq (show bigSep Finset.univ (idxOut D s t) = idxOut D s t 0 from by rw [Finset.univ_unique, bigSep_singleton]; rfl)) $$ Hp
  unfold idxOut
  icases Hp' with ⟨Hi, Hdp⟩
  iapply hk
  isplitl [Hdp Hdr]
  · iapply (pointsTo_split_subset (I := tile (2048 * t)) (Finset.subset_univ _)).2
    isplitl [Hdp]; · iexact Hdp
    iexact Hdr
  isplitl [Hi]; · iexact Hi
  isplitl [Hs]; · iexact Hs
  isplitl [HO]; · iexists _; iexact HO
  iexact HR

end Cert.KernelIdeal.Hand

end
-- ==== Proof.PartsIssue.lean ====
/-
  The starting sweep, part by part as the program is printed.
-/
module

public import proofs.«01_k».proof.Proof.Sweep

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} {P : Buf (Elt F) (bEnds.view.loc (c : Thread nD τ))} {qe : PosShare TreeShare}
  {f : Buf (Elt F) (bOut.view.loc (c : Thread nD τ))}

section Parts
variable (hp : Ends (ends c P)) (i : grid0.Coords) (h1 : k0_cond1 i = 1#1)
  (arg3 : Memref sig .tc .vmem S16384x128 .f32) (harg3 : arg3.IsWhole)
include hp

/-- Candidates 5 to 10. -/
theorem part2_runs {R : sProp 𝕄} {Q : PUnit → sProp 𝕄} (hk : Started c P qe f iprop((∃ W, owes (c : Thread nD τ) 0 W) ∗ R) 11 ⊢ Q PUnit.unit) :
    Started c P qe f iprop((∃ W, owes (c : Thread nD τ) 0 W) ∗ R) 5 ⊢ runs c (k0_part2 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part2_eq_skeleton]; unfold k0_part2_skel
  refine issue_next hp i h1 4 (by omega) ?_
  refine issue_next hp i h1 5 (by omega) ?_
  refine issue_next hp i h1 6 (by omega) ?_
  refine issue_next hp i h1 7 (by omega) ?_
  refine issue_next hp i h1 8 (by omega) ?_
  refine issue_next hp i h1 9 (by omega) ?_
  exact runs_ret hk

/-- Candidates 11 to 16. -/
theorem part3_runs {R : sProp 𝕄} {Q : PUnit → sProp 𝕄} (hk : Started c P qe f iprop((∃ W, owes (c : Thread nD τ) 0 W) ∗ R) 17 ⊢ Q PUnit.unit) :
    Started c P qe f iprop((∃ W, owes (c : Thread nD τ) 0 W) ∗ R) 11 ⊢ runs c (k0_part3 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part3_eq_skeleton]; unfold k0_part3_skel
  refine issue_next hp i h1 10 (by omega) ?_
  refine issue_next hp i h1 11 (by omega) ?_
  refine issue_next hp i h1 12 (by omega) ?_
  refine issue_next hp i h1 13 (by omega) ?_
  refine issue_next hp i h1 14 (by omega) ?_
  refine issue_next hp i h1 15 (by omega) ?_
  exact runs_ret hk

/-- Candidates 17 to 22. -/
theorem part4_runs {R : sProp 𝕄} {Q : PUnit → sProp 𝕄} (hk : Started c P qe f iprop((∃ W, owes (c : Thread nD τ) 0 W) ∗ R) 23 ⊢ Q PUnit.unit) :
    Started c P qe f iprop((∃ W, owes (c : Thread nD τ) 0 W) ∗ R) 17 ⊢ runs c (k0_part4 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part4_eq_skeleton]; unfold k0_part4_skel
  refine issue_next hp i h1 16 (by omega) ?_
  refine issue_next hp i h1 17 (by omega) ?_
  refine issue_next hp i h1 18 (by omega) ?_
  refine issue_next hp i h1 19 (by omega) ?_
  refine issue_next hp i h1 20 (by omega) ?_
  refine issue_next hp i h1 21 (by omega) ?_
  exact runs_ret hk

/-- Candidates 23 to 28. -/
theorem part5_runs {R : sProp 𝕄} {Q : PUnit → sProp 𝕄} (hk : Started c P qe f iprop((∃ W, owes (c : Thread nD τ) 0 W) ∗ R) 29 ⊢ Q PUnit.unit) :
    Started c P qe f iprop((∃ W, owes (c : Thread nD τ) 0 W) ∗ R) 23 ⊢ runs c (k0_part5 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part5_eq_skeleton]; unfold k0_part5_skel
  refine issue_next hp i h1 22 (by omega) ?_
  refine issue_next hp i h1 23 (by omega) ?_
  refine issue_next hp i h1 24 (by omega) ?_
  refine issue_next hp i h1 25 (by omega) ?_
  refine issue_next hp i h1 26 (by omega) ?_
  refine issue_next hp i h1 27 (by omega) ?_
  exact runs_ret hk

/-- Candidates 29 to 36. -/
theorem part6_runs {R : sProp 𝕄} {Q : BitVec 32 → sProp 𝕄} (hk : Started c P qe f iprop((∃ W, owes (c : Thread nD τ) 0 W) ∗ R) 37 ⊢ Q 68096#32) :
    Started c P qe f iprop((∃ W, owes (c : Thread nD τ) 0 W) ∗ R) 29 ⊢ runs c (k0_part6 i bEnds (Memref.isWhole_whole _) bDest (Memref.isWhole_whole _) arg3 harg3 bOut (Memref.isWhole_whole _) bIdx (Memref.isWhole_whole _) bZero (Memref.isWhole_whole _) cc0_scratch2 cc0_scratch3 h1 (P (at32 31 (by omega)))) Q := by
  rw [k0_part6_eq_skeleton]; unfold k0_part6_skel
  refine issue_next hp i h1 28 (by omega) ?_
  refine issue_next hp i h1 29 (by omega) ?_
  refine issue_next hp i h1 30 (by omega) ?_
  refine issue_trail hp 0 (by omega) (by rfl) (by rfl) (by rfl) ?_
  refine issue_trail hp 1 (by omega) (by rfl) (by rfl) (by rfl) ?_
  refine issue_trail hp 2 (by omega) (by rfl) (by rfl) (by rfl) ?_
  refine issue_trail hp 3 (by omega) (by rfl) (by rfl) (by rfl) ?_
  refine issue_trail hp 4 (by omega) (by rfl) (by rfl) (by rfl) ?_
  exact runs_ret hk

/-- Candidates 37 to 46. -/
theorem part7_runs {R : sProp 𝕄} {Q : BitVec 32 → sProp 𝕄} (hk : Started c P qe f iprop((∃ W, owes (c : Thread nD τ) 0 W) ∗ R) 47 ⊢ Q 73216#32) :
    Started c P qe f iprop((∃ W, owes (c : Thread nD τ) 0 W) ∗ R) 37 ⊢ runs c (k0_part7 i bEnds (Memref.isWhole_whole _) bDest (Memref.isWhole_whole _) arg3 harg3 bOut (Memref.isWhole_whole _) bIdx (Memref.isWhole_whole _) bZero (Memref.isWhole_whole _) cc0_scratch2 cc0_scratch3 (P (at32 31 (by omega))) 68096#32) Q := by
  rw [k0_part7_eq_skeleton]; unfold k0_part7_skel
  refine issue_trail hp 5 (by omega) (by rfl) (by rfl) (by rfl) ?_
  refine issue_trail hp 6 (by omega) (by rfl) (by rfl) (by rfl) ?_
  refine issue_trail hp 7 (by omega) (by rfl) (by rfl) (by rfl) ?_
  refine issue_trail hp 8 (by omega) (by rfl) (by rfl) (by rfl) ?_
  refine issue_trail hp 9 (by omega) (by rfl) (by rfl) (by rfl) ?_
  refine issue_trail hp 10 (by omega) (by rfl) (by rfl) (by rfl) ?_
  refine issue_trail hp 11 (by omega) (by rfl) (by rfl) (by rfl) ?_
  refine issue_trail hp 12 (by omega) (by rfl) (by rfl) (by rfl) ?_
  refine issue_trail hp 13 (by omega) (by rfl) (by rfl) (by rfl) ?_
  refine issue_trail hp 14 (by omega) (by rfl) (by rfl) (by rfl) ?_
  exact runs_ret hk

/-- Candidates 47 to 56. -/
theorem part8_runs {R : sProp 𝕄} {Q : BitVec 32 → sProp 𝕄} (hk : Started c P qe f iprop((∃ W, owes (c : Thread nD τ) 0 W) ∗ R) 57 ⊢ Q 78336#32) :
    Started c P qe f iprop((∃ W, owes (c : Thread nD τ) 0 W) ∗ R) 47 ⊢ runs c (k0_part8 i bEnds (Memref.isWhole_whole _) bDest (Memref.isWhole_whole _) arg3 harg3 bOut (Memref.isWhole_whole _) bIdx (Memref.isWhole_whole _) bZero (Memref.isWhole_whole _) cc0_scratch2 cc0_scratch3 (P (at32 31 (by omega))) 73216#32) Q := by
  rw [k0_part8_eq_skeleton]; unfold k0_part8_skel
  refine issue_trail hp 15 (by omega) (by rfl) (by rfl) (by rfl) ?_
  refine issue_trail hp 16 (by omega) (by rfl) (by rfl) (by rfl) ?_
  refine issue_trail hp 17 (by omega) (by rfl) (by rfl) (by rfl) ?_
  refine issue_trail hp 18 (by omega) (by rfl) (by rfl) (by rfl) ?_
  refine issue_trail hp 19 (by omega) (by rfl) (by rfl) (by rfl) ?_
  refine issue_trail hp 20 (by omega) (by rfl) (by rfl) (by rfl) ?_
  refine issue_trail hp 21 (by omega) (by rfl) (by rfl) (by rfl) ?_
  refine issue_trail hp 22 (by omega) (by rfl) (by rfl) (by rfl) ?_
  refine issue_trail hp 23 (by omega) (by rfl) (by rfl) (by rfl) ?_
  refine issue_trail hp 24 (by omega) (by rfl) (by rfl) (by rfl) ?_
  exact runs_ret hk

end Parts

end Cert.KernelIdeal.Hand

end
-- ==== Proof.PartsAwait.lean ====
/-
  The rest of the starting sweep and the waiting sweep, part by part as the program is printed.
-/
module

public import proofs.«01_k».proof.Proof.Sweep

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} {P : Buf (Elt F) (bEnds.view.loc (c : Thread nD τ))} {qe : PosShare TreeShare}
  {f : Buf (Elt F) (bOut.view.loc (c : Thread nD τ))}

section Parts
variable (hp : Ends (ends c P)) (i : grid0.Coords) (h1 : k0_cond1 i = 1#1)
  (arg3 : Memref sig .tc .vmem S16384x128 .f32) (harg3 : arg3.IsWhole)
include hp

/-- Candidates 57 to 1. -/
theorem part9_runs {R : sProp 𝕄} {Q : PUnit → sProp 𝕄} (hk : Waited c P qe R 2 ⊢ Q PUnit.unit) :
    Started c P qe f iprop((∃ W, owes (c : Thread nD τ) 0 W) ∗ R) 57 ⊢ runs c (k0_part9 i bEnds (Memref.isWhole_whole _) bDest (Memref.isWhole_whole _) arg3 harg3 bOut (Memref.isWhole_whole _) bIdx (Memref.isWhole_whole _) bZero (Memref.isWhole_whole _) cc0_scratch2 cc0_scratch3 h1 (P (at32 31 (by omega))) 78336#32) Q := by
  rw [k0_part9_eq_skeleton]; unfold k0_part9_skel
  refine issue_trail hp 25 (by omega) (by rfl) (by rfl) (by rfl) ?_
  refine issue_trail hp 26 (by omega) (by rfl) (by rfl) (by rfl) ?_
  refine issue_trail hp 27 (by omega) (by rfl) (by rfl) (by rfl) ?_
  refine issue_trail hp 28 (by omega) (by rfl) (by rfl) (by rfl) ?_
  refine issue_trail hp 29 (by omega) (by rfl) (by rfl) (by rfl) ?_
  refine issue_trail hp 30 (by omega) (by rfl) (by rfl) (by rfl) ?_
  refine issue_trail hp 31 (by omega) (by rfl) (by rfl) (by rfl) ?_
  refine turn ?_
  refine await_first hp i h1 ?_
  refine await_next hp i h1 0 (by omega) ?_
  exact runs_ret hk

/-- Candidates 2 to 7. -/
theorem part10_runs {R : sProp 𝕄} {Q : PUnit → sProp 𝕄} (hk : Waited c P qe R 8 ⊢ Q PUnit.unit) :
    Waited c P qe R 2 ⊢ runs c (k0_part10 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part10_eq_skeleton]; unfold k0_part10_skel
  refine await_next hp i h1 1 (by omega) ?_
  refine await_next hp i h1 2 (by omega) ?_
  refine await_next hp i h1 3 (by omega) ?_
  refine await_next hp i h1 4 (by omega) ?_
  refine await_next hp i h1 5 (by omega) ?_
  refine await_next hp i h1 6 (by omega) ?_
  exact runs_ret hk

/-- Candidates 8 to 13. -/
theorem part11_runs {R : sProp 𝕄} {Q : PUnit → sProp 𝕄} (hk : Waited c P qe R 14 ⊢ Q PUnit.unit) :
    Waited c P qe R 8 ⊢ runs c (k0_part11 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part11_eq_skeleton]; unfold k0_part11_skel
  refine await_next hp i h1 7 (by omega) ?_
  refine await_next hp i h1 8 (by omega) ?_
  refine await_next hp i h1 9 (by omega) ?_
  refine await_next hp i h1 10 (by omega) ?_
  refine await_next hp i h1 11 (by omega) ?_
  refine await_next hp i h1 12 (by omega) ?_
  exact runs_ret hk

/-- Candidates 14 to 19. -/
theorem part12_runs {R : sProp 𝕄} {Q : PUnit → sProp 𝕄} (hk : Waited c P qe R 20 ⊢ Q PUnit.unit) :
    Waited c P qe R 14 ⊢ runs c (k0_part12 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part12_eq_skeleton]; unfold k0_part12_skel
  refine await_next hp i h1 13 (by omega) ?_
  refine await_next hp i h1 14 (by omega) ?_
  refine await_next hp i h1 15 (by omega) ?_
  refine await_next hp i h1 16 (by omega) ?_
  refine await_next hp i h1 17 (by omega) ?_
  refine await_next hp i h1 18 (by omega) ?_
  exact runs_ret hk

/-- Candidates 20 to 25. -/
theorem part13_runs {R : sProp 𝕄} {Q : PUnit → sProp 𝕄} (hk : Waited c P qe R 26 ⊢ Q PUnit.unit) :
    Waited c P qe R 20 ⊢ runs c (k0_part13 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part13_eq_skeleton]; unfold k0_part13_skel
  refine await_next hp i h1 19 (by omega) ?_
  refine await_next hp i h1 20 (by omega) ?_
  refine await_next hp i h1 21 (by omega) ?_
  refine await_next hp i h1 22 (by omega) ?_
  refine await_next hp i h1 23 (by omega) ?_
  refine await_next hp i h1 24 (by omega) ?_
  exact runs_ret hk

/-- Candidates 26 to 31. -/
theorem part14_runs {R : sProp 𝕄} {Q : PUnit → sProp 𝕄} (hk : Waited c P qe R 32 ⊢ Q PUnit.unit) :
    Waited c P qe R 26 ⊢ runs c (k0_part14 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part14_eq_skeleton]; unfold k0_part14_skel
  refine await_next hp i h1 25 (by omega) ?_
  refine await_next hp i h1 26 (by omega) ?_
  refine await_next hp i h1 27 (by omega) ?_
  refine await_next hp i h1 28 (by omega) ?_
  refine await_next hp i h1 29 (by omega) ?_
  refine await_next hp i h1 30 (by omega) ?_
  exact runs_ret hk

/-- Candidates 32 to 41. -/
theorem part15_runs {R : sProp 𝕄} {Q : PUnit → sProp 𝕄} (hk : Waited c P qe R 42 ⊢ Q PUnit.unit) :
    Waited c P qe R 32 ⊢ runs c (k0_part15 i bEnds (Memref.isWhole_whole _) bDest (Memref.isWhole_whole _) arg3 harg3 bOut (Memref.isWhole_whole _) bIdx (Memref.isWhole_whole _) bZero (Memref.isWhole_whole _) cc0_scratch2 cc0_scratch3 (P (at32 31 (by omega)))) Q := by
  rw [k0_part15_eq_skeleton]; unfold k0_part15_skel
  refine await_trail hp 0 (by omega) (by rfl) (by rfl) (by rfl) ?_
  refine await_trail hp 1 (by omega) (by rfl) (by rfl) (by rfl) ?_
  refine await_trail hp 2 (by omega) (by rfl) (by rfl) (by rfl) ?_
  refine await_trail hp 3 (by omega) (by rfl) (by rfl) (by rfl) ?_
  refine await_trail hp 4 (by omega) (by rfl) (by rfl) (by rfl) ?_
  refine await_trail hp 5 (by omega) (by rfl) (by rfl) (by rfl) ?_
  refine await_trail hp 6 (by omega) (by rfl) (by rfl) (by rfl) ?_
  refine await_trail hp 7 (by omega) (by rfl) (by rfl) (by rfl) ?_
  refine await_trail hp 8 (by omega) (by rfl) (by rfl) (by rfl) ?_
  refine await_trail hp 9 (by omega) (by rfl) (by rfl) (by rfl) ?_
  exact runs_ret hk

/-- Candidates 42 to 51. -/
theorem part16_runs {R : sProp 𝕄} {Q : PUnit → sProp 𝕄} (hk : Waited c P qe R 52 ⊢ Q PUnit.unit) :
    Waited c P qe R 42 ⊢ runs c (k0_part16 i bEnds (Memref.isWhole_whole _) bDest (Memref.isWhole_whole _) arg3 harg3 bOut (Memref.isWhole_whole _) bIdx (Memref.isWhole_whole _) bZero (Memref.isWhole_whole _) cc0_scratch2 cc0_scratch3 (P (at32 31 (by omega)))) Q := by
  rw [k0_part16_eq_skeleton]; unfold k0_part16_skel
  refine await_trail hp 10 (by omega) (by rfl) (by rfl) (by rfl) ?_
  refine await_trail hp 11 (by omega) (by rfl) (by rfl) (by rfl) ?_
  refine await_trail hp 12 (by omega) (by rfl) (by rfl) (by rfl) ?_
  refine await_trail hp 13 (by omega) (by rfl) (by rfl) (by rfl) ?_
  refine await_trail hp 14 (by omega) (by rfl) (by rfl) (by rfl) ?_
  refine await_trail hp 15 (by omega) (by rfl) (by rfl) (by rfl) ?_
  refine await_trail hp 16 (by omega) (by rfl) (by rfl) (by rfl) ?_
  refine await_trail hp 17 (by omega) (by rfl) (by rfl) (by rfl) ?_
  refine await_trail hp 18 (by omega) (by rfl) (by rfl) (by rfl) ?_
  refine await_trail hp 19 (by omega) (by rfl) (by rfl) (by rfl) ?_
  exact runs_ret hk

/-- Candidates 52 to 61. -/
theorem part17_runs {R : sProp 𝕄} {Q : PUnit → sProp 𝕄} (hk : Waited c P qe R 62 ⊢ Q PUnit.unit) :
    Waited c P qe R 52 ⊢ runs c (k0_part17 i bEnds (Memref.isWhole_whole _) bDest (Memref.isWhole_whole _) arg3 harg3 bOut (Memref.isWhole_whole _) bIdx (Memref.isWhole_whole _) bZero (Memref.isWhole_whole _) cc0_scratch2 cc0_scratch3 (P (at32 31 (by omega)))) Q := by
  rw [k0_part17_eq_skeleton]; unfold k0_part17_skel
  refine await_trail hp 20 (by omega) (by rfl) (by rfl) (by rfl) ?_
  refine await_trail hp 21 (by omega) (by rfl) (by rfl) (by rfl) ?_
  refine await_trail hp 22 (by omega) (by rfl) (by rfl) (by rfl) ?_
  refine await_trail hp 23 (by omega) (by rfl) (by rfl) (by rfl) ?_
  refine await_trail hp 24 (by omega) (by rfl) (by rfl) (by rfl) ?_
  refine await_trail hp 25 (by omega) (by rfl) (by rfl) (by rfl) ?_
  refine await_trail hp 26 (by omega) (by rfl) (by rfl) (by rfl) ?_
  refine await_trail hp 27 (by omega) (by rfl) (by rfl) (by rfl) ?_
  refine await_trail hp 28 (by omega) (by rfl) (by rfl) (by rfl) ?_
  refine await_trail hp 29 (by omega) (by rfl) (by rfl) (by rfl) ?_
  exact runs_ret hk

end Parts

end Cert.KernelIdeal.Hand

end
-- ==== Proof.FillPhase.lean ====
/-
  The first grid point's clearing as a whole: the zero buffer filled, the blocks lent out to their copies, both sweeps, and
  the blocks taken back, cleared.
-/
module

public import proofs.«01_k».proof.Proof.PartsIssue
public import proofs.«01_k».proof.Proof.PartsAwait

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} {P : Buf (Elt F) (bEnds.view.loc (c : Thread nD τ))} {qe : PosShare TreeShare}
  {f : Buf (Elt F) (bOut.view.loc (c : Thread nD τ))}

/-- What stays behind while the copies run. -/
abbrev keptBlocks (c : Dev nD) (P : Buf (Elt F) (bEnds.view.loc (c : Thread nD τ))) (f : Buf (Elt F) (bOut.view.loc (c : Thread nD τ))) : sProp 𝕄 :=
  kept (ℓs := bZero.view.loc (c : Thread nD τ)) (ℓd := bOut.view.loc (c : Thread nD τ)) fullShare (zerosIn c)
    (fun _ => Finset.univ) (blockAt c P) f

/-- The result's contents `f'` are `f` but for the cleared blocks, which hold the zero. -/
def BlocksZero (c : Dev nD) (P : Buf (Elt F) (bEnds.view.loc (c : Thread nD τ))) (f f' : Buf (Elt F) (bOut.view.loc (c : Thread nD τ))) : Prop :=
  (∀ i, ∀ x ∈ blockAt c P i, f' x = zerosOut c x) ∧ ∀ x, (∀ i, x ∉ blockAt c P i) → f' x = f x

theorem fillUnits_pos : 0 < fillUnits := by decide

/-- The blocks of different positions are disjoint. -/
theorem blockAt_disjoint (hp : Ends (ends c P)) (i j : Fin (count c P 64)) (h : i ≠ j) : Disjoint (blockAt c P i) (blockAt c P j) := by
  unfold blockAt
  exact slab_disjoint (by rcases hp.disjoint h with h | h <;> omega)

/-- Before the first copy: the batch opened, the zeros and the blocks lent out. -/
theorem open_fill (hp : Ends (ends c P)) {R : sProp 𝕄} {α : Type} {J : Prg F α} {Q : α → sProp 𝕄}
    (hk : Started c P qe f iprop((∃ W, owes (c : Thread nD τ) 0 W) ∗ keptBlocks c P f ∗ R) 0 ⊢ runs c J Q) :
    iprop((bEnds.view.loc (c : Thread nD τ) ↦{qe} P) ∗ (bZero.view.loc (c : Thread nD τ) ↦{fullShare} zerosIn c)
      ∗ (bOut.view.loc (c : Thread nD τ) ↦{fullShare} f) ∗ semVal ((c : Thread nD τ), SemLoc.dma rowSem) 0
      ∗ (∃ W, owes (c : Thread nD τ) 0 W) ∗ R) ⊢ runs c J Q := by
  haveI : ∀ t, Storable (upEmb : UEmb _ 𝕄) (blockOut c P t) := fun t => pieceOut_storable _ _ _ _ _ t
  iintro ⟨He, Hz, Ho, Hs, HO, HR⟩
  imod (Transfers.batch_alloc' (Lvl := ℕ) (countersEmb (U := Pipeline.UD sig nD τ)) (c : Thread nD τ) () fillUnits (blockOut c P)
    (sm := .dma rowSem) (E := Set.univ)) $$ Hs with HB
  ihave Hl := (lend (ℓs := bZero.view.loc (c : Thread nD τ)) (ℓd := bOut.view.loc (c : Thread nD τ)) fullShare (zerosIn c)
    (fun _ => Finset.univ) (blockAt c P) (blockAt_disjoint hp) f) $$ [Hz Ho]
  · isplitl [Hz]; · iexact Hz
    iexact Ho
  icases Hl with ⟨Hk, Hp⟩
  iapply hk
  unfold Started
  isplitl [He]; · iexact He
  isplitl [HB]; · iexact HB
  isplitl [Hp]; · rw [show count c P 0 = 0 from rfl, pending_zero]; iexact Hp
  isplitl [HO]; · iexact HO
  isplitl [Hk]; · iexact Hk
  iexact HR

/-- After the last wait: the blocks back, cleared. -/
theorem close_fill (hp : Ends (ends c P)) {R : sProp 𝕄} {α : Type} {J : Prg F α} {Q : α → sProp 𝕄}
    (hk : iprop((bEnds.view.loc (c : Thread nD τ) ↦{qe} P) ∗ (bZero.view.loc (c : Thread nD τ) ↦{fullShare} zerosIn c)
      ∗ (∃ f', ⌜BlocksZero c P f f'⌝ ∗ (bOut.view.loc (c : Thread nD τ) ↦{fullShare} f'))
      ∗ semVal ((c : Thread nD τ), SemLoc.dma rowSem) 0 ∗ (∃ W, owes (c : Thread nD τ) 0 W) ∗ R) ⊢ runs c J Q) :
    Waited c P qe iprop(keptBlocks c P f ∗ R) 64 ⊢ runs c J Q := by
  unfold Waited
  rw [Nat.mul_comm (count c P 64) fillUnits]
  iintro ⟨He, HB, HO, Hk, HR⟩
  imod (batch_collect' (countersEmb (U := Pipeline.UD sig nD τ)) (c : Thread nD τ) fillUnits_pos) $$ HB with ⟨Hp, Hs⟩
  ihave Hl := (collect (ℓs := bZero.view.loc (c : Thread nD τ)) (ℓd := bOut.view.loc (c : Thread nD τ)) fullShare (zerosIn c)
    (fun _ => Finset.univ) (blockAt c P) (blockAt_disjoint hp) f (fun _ => zerosOut c)) $$ [Hk Hp]
  · isplitl [Hk]; · iexact Hk
    iexact Hp
  icases Hl with ⟨Hz, Ho⟩
  iapply hk
  isplitl [He]; · iexact He
  isplitl [Hz]; · iexact Hz
  isplitl [Ho]; · iexact Ho
  isplitl [Hs]; · iexact Hs
  isplitl [HO]; · iexact HO
  iexact HR

/-- The zero buffer, written whole, holds the zero everywhere. -/
theorem zeros_written (z : Buf (Elt F) (bZero.view.loc (c : Thread nD τ))) :
    (bZero.access (Rect.unit (s := S4096x128) ![0, 0] S4096x128.size inb_S4096x128_S4096x128_0_0)).write (Elt F) z
      (k0_pay1 (F := F)) Finset.univ = zerosIn c := by
  funext x
  have hx : x ∈ (bZero.access (Rect.unit (s := S4096x128) ![0, 0] S4096x128.size inb_S4096x128_S4096x128_0_0)).set := by
    rw [show (bZero.access (Rect.unit (s := S4096x128) ![0, 0] S4096x128.size inb_S4096x128_S4096x128_0_0)).set
      = (Rect.unit (s := S4096x128) ![0, 0] S4096x128.size inb_S4096x128_S4096x128_0_0).set from View.set_slice_whole _ _]
    rw [Rect.mem_set_unit]
    intro a
    have h0 : (x 0).val < 4096 := (x 0).isLt
    have h1 : (x 1).val < 128 := (x 1).isLt
    fin_cases a
    · exact ⟨Nat.zero_le _, (show (x 0).val < 0 + 4096 by omega)⟩
    · exact ⟨Nat.zero_le _, (show (x 1).val < 0 + 128 by omega)⟩
  exact written_const _ z (k0_pay1 (F := F)) zeroF pay1_apply (Finset.Subset.refl _) rfl x hx

/-- Filling the zero buffer. -/
theorem fill_zeros {R : sProp 𝕄} {α : Type} {k : Prg F α} {Q : α → sProp 𝕄}
    (hk : iprop((bZero.view.loc (c : Thread nD τ) ↦{fullShare} zerosIn c) ∗ R) ⊢ runs c k Q) :
    iprop((∃ z, bZero.view.loc (c : Thread nD τ) ↦{fullShare} z) ∗ R) ⊢ runs c (do
      let _v : Vec F S4096x128 .f32 ← Prog.lift (.load bZero (Rect.unit (s := S4096x128) ![0, 0] S4096x128.size inb_S4096x128_S4096x128_0_0).toLoadRect (View.loadsAt_vmem h_S4096x128))
      Prog.lift (.store bZero (Rect.unit (s := S4096x128) ![0, 0] S4096x128.size inb_S4096x128_S4096x128_0_0) (k0_pay1 (F := F)) Finset.univ (View.stores_vmem_bits_univ h_S4096x128 rfl) (.inl rfl))
      k) Q := by
  iintro ⟨⟨%z, Hz⟩, HR⟩
  iapply (wp_load_rect (defs := defs₀ (F := F)) (Γ := []) Variants.none (c : Thread nD τ) none Set.univ (m := bZero)
    (r := Rect.unit (s := S4096x128) ![0, 0] S4096x128.size inb_S4096x128_S4096x128_0_0) (S := Finset.univ) (q := fullShare) (f := z)
    (Finset.subset_univ _)) $$ Hz
  iintro Hz
  iapply (wp_store (defs := defs₀ (F := F)) (Γ := []) Variants.none (c : Thread nD τ) none Set.univ (m := bZero)
    (r := Rect.unit (s := S4096x128) ![0, 0] S4096x128.size inb_S4096x128_S4096x128_0_0) (S := Finset.univ) (f := z)
    (Finset.subset_univ _)) $$ Hz
  rw [zeros_written]
  iintro Hz
  iapply hk
  isplitl [Hz]; · iexact Hz
  iexact HR

section Parts
variable (hp : Ends (ends c P)) (i : grid0.Coords) (h1 : k0_cond1 i = 1#1)
  (arg3 : Memref sig .tc .vmem S16384x128 .f32) (harg3 : arg3.IsWhole)
include hp

/-- The zero buffer filled and the first five experts' copies started. -/
theorem part1_runs {R : sProp 𝕄} {Q : BitVec 32 → sProp 𝕄}
    (hk : Started c P qe f iprop((∃ W, owes (c : Thread nD τ) 0 W) ∗ keptBlocks c P f ∗ R) 5 ⊢ Q (P (at32 31 (by omega)))) :
    iprop((bEnds.view.loc (c : Thread nD τ) ↦{qe} P) ∗ (∃ z, bZero.view.loc (c : Thread nD τ) ↦{fullShare} z)
      ∗ (bOut.view.loc (c : Thread nD τ) ↦{fullShare} f) ∗ semVal ((c : Thread nD τ), SemLoc.dma rowSem) 0
      ∗ (∃ W, owes (c : Thread nD τ) 0 W) ∗ R) ⊢ runs c (k0_part1 i bEnds (Memref.isWhole_whole _) bDest (Memref.isWhole_whole _) arg3 harg3 bOut (Memref.isWhole_whole _) bIdx (Memref.isWhole_whole _) bZero (Memref.isWhole_whole _) cc0_scratch2 cc0_scratch3 h1) Q := by
  rw [k0_part1_eq_skeleton]; unfold k0_part1_skel
  refine BIBase.Entails.trans ?_ (fill_zeros (R := iprop((bEnds.view.loc (c : Thread nD τ) ↦{qe} P)
      ∗ (bOut.view.loc (c : Thread nD τ) ↦{fullShare} f) ∗ semVal ((c : Thread nD τ), SemLoc.dma rowSem) 0
      ∗ (∃ W, owes (c : Thread nD τ) 0 W) ∗ R)) ?_)
  · iintro ⟨He, Hz, HX⟩
    isplitl [Hz]; · iexact Hz
    isplitl [He]; · iexact He
    iexact HX
  refine BIBase.Entails.trans (Q := iprop((bEnds.view.loc (c : Thread nD τ) ↦{qe} P) ∗ (bZero.view.loc (c : Thread nD τ) ↦{fullShare} zerosIn c)
      ∗ (bOut.view.loc (c : Thread nD τ) ↦{fullShare} f) ∗ semVal ((c : Thread nD τ), SemLoc.dma rowSem) 0
      ∗ (∃ W, owes (c : Thread nD τ) 0 W) ∗ R)) ?_ ?_
  · iintro ⟨Hz, He, HX⟩
    isplitl [He]; · iexact He
    isplitl [Hz]; · iexact Hz
    iexact HX
  refine load_end (n := 31) (by omega) _ (open_fill hp ?_)
  refine issue_first hp i h1 ?_
  refine issue_next hp i h1 0 (by omega) ?_
  refine issue_next hp i h1 1 (by omega) ?_
  refine issue_next hp i h1 2 (by omega) ?_
  refine issue_next hp i h1 3 (by omega) ?_
  exact runs_ret hk

/-- The first grid point clears the blocks; every other one does nothing here. -/
theorem fill_runs (i : grid0.Coords) {R : sProp 𝕄} {α : Type} {J : Prg F α} {Q : α → sProp 𝕄}
    (hk : iprop((bEnds.view.loc (c : Thread nD τ) ↦{qe} P) ∗ (∃ z, bZero.view.loc (c : Thread nD τ) ↦{fullShare} z)
      ∗ (∃ f', ⌜if k0_cond1 i = 1#1 then BlocksZero c P f f' else f' = f⌝ ∗ (bOut.view.loc (c : Thread nD τ) ↦{fullShare} f'))
      ∗ semVal ((c : Thread nD τ), SemLoc.dma rowSem) 0 ∗ (∃ W, owes (c : Thread nD τ) 0 W) ∗ R) ⊢ runs c J Q) :
    iprop((bEnds.view.loc (c : Thread nD τ) ↦{qe} P) ∗ (∃ z, bZero.view.loc (c : Thread nD τ) ↦{fullShare} z)
      ∗ (bOut.view.loc (c : Thread nD τ) ↦{fullShare} f) ∗ semVal ((c : Thread nD τ), SemLoc.dma rowSem) 0
      ∗ (∃ W, owes (c : Thread nD τ) 0 W) ∗ R) ⊢ runs c (do
      if k0_h1 : k0_cond1 i = 1#1 then do
        let v22 : Elt F .i32 ← k0_part1 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part2 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part3 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part4 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part5 i bEnds (Memref.isWhole_whole _) bDest (Memref.isWhole_whole _) arg3 harg3 bOut (Memref.isWhole_whole _) bIdx (Memref.isWhole_whole _) bZero (Memref.isWhole_whole _) cc0_scratch2 cc0_scratch3 k0_h1
        let c68096_i32 : BitVec 32 ← k0_part6 i bEnds (Memref.isWhole_whole _) bDest (Memref.isWhole_whole _) arg3 harg3 bOut (Memref.isWhole_whole _) bIdx (Memref.isWhole_whole _) bZero (Memref.isWhole_whole _) cc0_scratch2 cc0_scratch3 k0_h1 v22
        let c73216_i32 : BitVec 32 ← k0_part7 i bEnds (Memref.isWhole_whole _) bDest (Memref.isWhole_whole _) arg3 harg3 bOut (Memref.isWhole_whole _) bIdx (Memref.isWhole_whole _) bZero (Memref.isWhole_whole _) cc0_scratch2 cc0_scratch3 v22 c68096_i32
        let c78336_i32 : BitVec 32 ← k0_part8 i bEnds (Memref.isWhole_whole _) bDest (Memref.isWhole_whole _) arg3 harg3 bOut (Memref.isWhole_whole _) bIdx (Memref.isWhole_whole _) bZero (Memref.isWhole_whole _) cc0_scratch2 cc0_scratch3 v22 c73216_i32
        k0_part9 i bEnds (Memref.isWhole_whole _) bDest (Memref.isWhole_whole _) arg3 harg3 bOut (Memref.isWhole_whole _) bIdx (Memref.isWhole_whole _) bZero (Memref.isWhole_whole _) cc0_scratch2 cc0_scratch3 k0_h1 v22 c78336_i32
        k0_part10 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part11 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part12 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part13 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part14 i bEnds (Memref.isWhole_whole _) bDest (Memref.isWhole_whole _) arg3 harg3 bOut (Memref.isWhole_whole _) bIdx (Memref.isWhole_whole _) bZero (Memref.isWhole_whole _) cc0_scratch2 cc0_scratch3 k0_h1
        k0_part15 i bEnds (Memref.isWhole_whole _) bDest (Memref.isWhole_whole _) arg3 harg3 bOut (Memref.isWhole_whole _) bIdx (Memref.isWhole_whole _) bZero (Memref.isWhole_whole _) cc0_scratch2 cc0_scratch3 v22
        k0_part16 i bEnds (Memref.isWhole_whole _) bDest (Memref.isWhole_whole _) arg3 harg3 bOut (Memref.isWhole_whole _) bIdx (Memref.isWhole_whole _) bZero (Memref.isWhole_whole _) cc0_scratch2 cc0_scratch3 v22
        k0_part17 i bEnds (Memref.isWhole_whole _) bDest (Memref.isWhole_whole _) arg3 harg3 bOut (Memref.isWhole_whole _) bIdx (Memref.isWhole_whole _) bZero (Memref.isWhole_whole _) cc0_scratch2 cc0_scratch3 v22
        let v527 : BitVec 1 := Scalar.cmpi .sle v22 80896#32
        let v528 : BitVec 32 := Scalar.extui v527
        let v529 : BitVec 1 := Scalar.cmpi .ne v528 0#32
        if v529 = 1#1 then do
          let v533 : Memref sig .tc .hbm S4096x128 .f32 := bOut.slice (Rect.unit (s := S655360x128) ![647168, 0] S4096x128.size inb_S655360x128_S4096x128_647168_0) (fun _ => rfl)
          Prog.lift (.waitDma2 cc0_scratch3.sem bZero v533 (Memref.isWhole_whole cc0_scratch1).wordExact (View.wordExact_bits rfl))
          pure ⟨⟩
        else do
          pure ⟨⟩
        let v530 : BitVec 1 := Scalar.cmpi .sle v22 81408#32
        let v531 : BitVec 32 := Scalar.extui v530
        let v532 : BitVec 1 := Scalar.cmpi .ne v531 0#32
        if v532 = 1#1 then do
          let v533 : Memref sig .tc .hbm S4096x128 .f32 := bOut.slice (Rect.unit (s := S655360x128) ![651264, 0] S4096x128.size inb_S655360x128_S4096x128_651264_0) (fun _ => rfl)
          Prog.lift (.waitDma2 cc0_scratch3.sem bZero v533 (Memref.isWhole_whole cc0_scratch1).wordExact (View.wordExact_bits rfl))
          pure ⟨⟩
        else do
          pure ⟨⟩
        pure ⟨⟩
      else do
        pure ⟨⟩
      J) Q := by
  by_cases h1 : k0_cond1 i = 1#1
  · simp only [dif_pos h1, if_pos h1] at hk ⊢
    refine runs_bind (part1_runs hp i h1 arg3 harg3 ?_)
    refine runs_bind (part2_runs hp i h1 arg3 harg3 ?_)
    refine runs_bind (part3_runs hp i h1 arg3 harg3 ?_)
    refine runs_bind (part4_runs hp i h1 arg3 harg3 ?_)
    refine runs_bind (part5_runs hp i h1 arg3 harg3 ?_)
    refine runs_bind (part6_runs hp i h1 arg3 harg3 ?_)
    refine runs_bind (part7_runs hp i arg3 harg3 ?_)
    refine runs_bind (part8_runs hp i arg3 harg3 ?_)
    refine runs_bind (part9_runs hp i h1 arg3 harg3 ?_)
    refine runs_bind (part10_runs hp i h1 arg3 harg3 ?_)
    refine runs_bind (part11_runs hp i h1 arg3 harg3 ?_)
    refine runs_bind (part12_runs hp i h1 arg3 harg3 ?_)
    refine runs_bind (part13_runs hp i h1 arg3 harg3 ?_)
    refine runs_bind (part14_runs hp i h1 arg3 harg3 ?_)
    refine runs_bind (part15_runs hp i arg3 harg3 ?_)
    refine runs_bind (part16_runs hp i arg3 harg3 ?_)
    refine runs_bind (part17_runs hp i arg3 harg3 ?_)
    refine await_trail hp 30 (by omega) (by rfl) (by rfl) (by rfl) ?_
    refine await_trail hp 31 (by omega) (by rfl) (by rfl) (by rfl) ?_
    refine close_fill hp (.trans ?_ hk)
    iintro ⟨He, Hz, HX⟩
    isplitl [He]; · iexact He
    isplitl [Hz]; · iexists _; iexact Hz
    iexact HX
  · simp only [dif_neg h1, if_neg h1] at hk ⊢
    refine .trans ?_ hk
    iintro ⟨He, Hz, Ho, HX⟩
    isplitl [He]; · iexact He
    isplitl [Hz]; · iexact Hz
    isplitl [Ho]
    · iexists f; isplitr; · ipureintro; rfl
      iexact Ho
    iexact HX

end Parts

end Cert.KernelIdeal.Hand

end
-- ==== Proof.Point.lean ====
/-
  One grid point: the first point clears its blocks and starts the first staged copy; every point waits for its own staged
  copy, starts the next point's, copies its tokens' rows, and waits for them.
-/
module

public import proofs.«01_k».proof.Proof.Prefetch
public import proofs.«01_k».proof.Proof.FillPhase

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} {D : Buf (Elt F) (bDest.view.loc (c : Thread nD τ))} {P : Buf (Elt F) (bEnds.view.loc (c : Thread nD τ))}
  {qe : PosShare TreeShare} {arg3 : Memref sig .tc .vmem S16384x128 .f32} {h3 : Buf (Elt F) (arg3.view.loc (c : Thread nD τ))}

/-! ## The point's conditions, read off its number -/

theorem first_iff (i : grid0.Coords) : k0_cond1 i = 1#1 ↔ (i 0).val = 0 := by
  have h : ∀ v : Fin 8, (Scalar.cmpi .ne (Scalar.extui (Scalar.cmpi .eq (BitVec.ofNat 32 v.val) 0#32) : BitVec 32) 0#32 : BitVec 1) = 1#1 ↔ v.val = 0 := by decide
  exact h (i 0)
theorem open_iff (i : grid0.Coords) : k0_cond130 i = 1#1 ↔ (i 0).val = 0 := first_iff i
theorem even_iff (i : grid0.Coords) : k0_cond131 i = 1#1 ↔ (i 0).val % 2 = 0 := by
  have h : ∀ v : Fin 8, (Scalar.cmpi .ne (Scalar.extui (Scalar.cmpi .eq (Scalar.remsi (BitVec.ofNat 32 v.val) 2#32) 0#32) : BitVec 32) 0#32 : BitVec 1) = 1#1 ↔ v.val % 2 = 0 := by decide
  exact h (i 0)
theorem odd_iff (i : grid0.Coords) : k0_cond133 i = 1#1 ↔ (i 0).val % 2 = 1 := by
  have h : ∀ v : Fin 8, (Scalar.cmpi .ne (Scalar.extui (Scalar.cmpi .eq (Scalar.remsi (BitVec.ofNat 32 v.val) 2#32) 1#32) : BitVec 32) 0#32 : BitVec 1) = 1#1 ↔ v.val % 2 = 1 := by decide
  exact h (i 0)
theorem more_iff (i : grid0.Coords) : k0_cond132 i = 1#1 ↔ (i 0).val + 1 < 8 := by
  have h : ∀ v : Fin 8, (Scalar.cmpi .ne (Scalar.extui (Scalar.cmpi .slt (Scalar.addi (BitVec.ofNat 32 v.val) 1#32) 8#32) : BitVec 32) 0#32 : BitVec 1) = 1#1 ↔ v.val + 1 < 8 := by decide
  exact h (i 0)
theorem next_off (i : grid0.Coords) : k0_off66 i 1 = 2048 * ((i 0).val + 1) := by
  have h : ∀ v : Fin 8, (Scalar.muli (Scalar.addi (BitVec.ofNat 32 v.val) 1#32) 2048#32).toNat = 2048 * (v.val + 1) := by decide
  exact h (i 0)

/-! ## The staged tables between points -/

/-- Point `t`'s copy into place `s` is under way and the other place is quiet. -/
def Held (D : Buf (Elt F) (bDest.view.loc (c : Thread nD τ))) (s t : ℕ) : sProp 𝕄 := iprop(Coming D s t ∗ Quiet c (1 - s))

/-- No copy is under way. -/
def Idle (D : Buf (Elt F) (bDest.view.loc (c : Thread nD τ))) : sProp 𝕄 :=
  iprop((bDest.view.loc (c : Thread nD τ) ↦{fullShare} D) ∗ Quiet c 0 ∗ Quiet c 1)

/-- The staged tables before point `t`. -/
def Pipe (D : Buf (Elt F) (bDest.view.loc (c : Thread nD τ))) (t : ℕ) : sProp 𝕄 :=
  if 0 < t ∧ t < 8 then Held D (t % 2) t else Idle D

/-- The first staged copy. -/
theorem open_runs (i : grid0.Coords) {R : sProp 𝕄} {α : Type} {J : Prg F α} {Q : α → sProp 𝕄}
    (hk : iprop(Held D ((i 0).val % 2) (i 0).val ∗ R) ⊢ runs c J Q) :
    iprop(Pipe D (i 0).val ∗ R) ⊢ runs c (do
      if k0_h130 : k0_cond130 i = 1#1 then do
        let v19 : DmaSems sig S1 := cc0_scratch2.slice (Rect.unit (s := S2) ![0] S1.size inb_S2_S1_0)
        let v20 : DmaSems sig S_ := v19.squeeze S_ squeezes_S1_S_
        let v21 : Memref sig .tc .smem S4x2048 .i32 := bIdx.slice (Rect.unit (s := S8x2048) ![0, 0] S4x2048.size inb_S8x2048_S4x2048_0_0) (fun _ => rfl)
        let v22 : Memref sig .tc .hbm S4x2048 .i32 := bDest.slice (Rect.unit (s := S4x16384) ![0, 0] S4x2048.size inb_S4x16384_S4x2048_0_0) (fun _ => rfl)
        Prog.lift (.enqueueDma v22 (.here v21) (.dma v20.sem) (View.wordExact_bits rfl) (View.wordExact_bits rfl) ⟨Or.inl rfl, trivial⟩)
        pure ⟨⟩
      else do
        pure ⟨⟩
      J) Q := by
  have hlt : (i 0).val < 8 := (i 0).isLt
  by_cases h : k0_cond130 i = 1#1
  · have h0 := (open_iff i).mp h
    simp only [dif_pos h]
    rw [h0] at hk ⊢
    rw [show Pipe D 0 = iprop((bDest.view.loc (c : Thread nD τ) ↦{fullShare} D) ∗ Quiet c 0 ∗ Quiet c 1) from if_neg (by omega)]
    refine .trans (Q := iprop((bDest.view.loc (c : Thread nD τ) ↦{fullShare} D) ∗ Quiet c 0 ∗ iprop(Quiet c 1 ∗ R))) ?_
      (fetch (s := 0) (t := 0) (by omega) idxSem0 rfl ![0, 0] ![0, 0] rfl rfl rfl rfl (k := fun _ => J) (.trans ?_ hk))
    · iintro ⟨⟨H1, H2, H3⟩, HR⟩
      isplitl [H1]; · iexact H1
      isplitl [H2]; · iexact H2
      isplitl [H3]; · iexact H3
      iexact HR
    · unfold Held
      iintro ⟨H1, H2, H3⟩
      isplitl [H1 H2]
      · isplitl [H1]; · iexact H1
        iexact H2
      iexact H3
  · have h0 : (i 0).val ≠ 0 := fun e => h ((open_iff i).mpr e)
    simp only [dif_neg h]
    rw [show Pipe D (i 0).val = Held D ((i 0).val % 2) (i 0).val from if_pos (by omega)]
    exact hk

/-- The result and the input outside the row copies. -/
def Still (arg3 : Memref sig .tc .vmem S16384x128 .f32) (h3 : Buf (Elt F) (arg3.view.loc (c : Thread nD τ)))
    (f : Buf (Elt F) (bOut.view.loc (c : Thread nD τ))) : sProp 𝕄 :=
  iprop((arg3.view.loc (c : Thread nD τ) ↦{fullShare} h3) ∗ (bOut.view.loc (c : Thread nD τ) ↦{fullShare} f)
    ∗ semVal ((c : Thread nD τ), SemLoc.dma rowSem) 0)

/-- The staged tables while point `t`'s rows are copied from place `s`. -/
def Rest (D : Buf (Elt F) (bDest.view.loc (c : Thread nD τ))) (s t : ℕ) : sProp 𝕄 :=
  iprop(semVal ((c : Thread nD τ), SemLoc.dma (idxSem s)) 0
    ∗ if t + 1 < 8 then Coming D (1 - s) (t + 1) else iprop((bDest.view.loc (c : Thread nD τ) ↦{fullShare} D) ∗ Quiet c (1 - s)))

/-- One point's copies started: its staged copy waited for, the next one started, and the trips `L` made. -/
theorem copies_run (hD : Dests D) {s t : ℕ} (ht : t < 8) (sm sm' : DmaSem sig) (hsm : idxSem s = sm) (hsm' : idxSem (1 - s) = sm')
    {cnd : BitVec 1} (hcnd : cnd = 1#1 ↔ t + 1 < 8) {offS offD offN offP : Fin 2 → ℕ} {inbS inbD inbP}
    {inbN : cnd = 1#1 → ∀ a, offN a + S4x2048.size a ≤ S4x16384.size a}
    (hN0 : offN 0 = 0) (hN1 : offN 1 = 2048 * (t + 1)) (hP0 : offP 0 = 4 * (1 - s)) (hP1 : offP 1 = 0)
    {L : Prg F Unit} {f : Buf (Elt F) (bOut.view.loc (c : Thread nD τ))}
    (hL : ∀ {R : sProp 𝕄} {α : Type} {J : Unit → Prg F α} {Q : α → sProp 𝕄}, (Sent D arg3 h3 s t f R 8192 ⊢ runs c (J ⟨⟩) Q) → (Sent D arg3 h3 s t f R 0 ⊢ runs c (L >>= J) Q))
    {R : sProp 𝕄} {α : Type} {J : Prg F α} {Q : α → sProp 𝕄}
    (hk : Sent D arg3 h3 s t f iprop(keptRows D arg3 h3 t f ∗ (∃ W, owes (c : Thread nD τ) 0 W) ∗ Rest D s t ∗ R) 8192 ⊢ runs c J Q) :
    iprop(Held D s t ∗ (∃ W, owes (c : Thread nD τ) 0 W) ∗ Still arg3 h3 f ∗ R) ⊢ runs c (do
      Prog.lift (.waitDma2 sm (bDest.slice (Rect.unit (s := S4x16384) offS S4x2048.size inbS) (fun _ => rfl))
        (bIdx.slice (Rect.unit (s := S8x2048) offD S4x2048.size inbD) (fun _ => rfl)) (View.wordExact_bits rfl) (View.wordExact_bits rfl))
      if h : cnd = 1#1 then do
        Prog.lift (.enqueueDma (bDest.slice (Rect.unit (s := S4x16384) offN S4x2048.size (inbN h)) (fun _ => rfl))
          (.here (bIdx.slice (Rect.unit (s := S8x2048) offP S4x2048.size inbP) (fun _ => rfl))) (.dma sm')
          (View.wordExact_bits rfl) (View.wordExact_bits rfl) ⟨Or.inl rfl, trivial⟩)
        pure ⟨⟩
      else do
        pure ⟨⟩
      L
      J) Q := by
  unfold Held
  refine .trans (Q := iprop(Coming D s t ∗ (∃ W, owes (c : Thread nD τ) 0 W) ∗ iprop(Quiet c (1 - s) ∗ Still arg3 h3 f ∗ R))) ?_
    (arrive (t := t) sm hsm (k := fun _ => _) ?_)
  · iintro ⟨⟨H1, H2⟩, H3, H4, H5⟩
    isplitl [H1]; · iexact H1
    isplitl [H3]; · iexact H3
    isplitl [H2]; · iexact H2
    isplitl [H4]; · iexact H4
    iexact H5
  have fin : iprop((bIdx.view.loc (c : Thread nD τ) ↦[place s]{fullShare} staged D t) ∗ Rest D s t ∗ (∃ W, owes (c : Thread nD τ) 0 W) ∗ Still arg3 h3 f ∗ R)
      ⊢ runs c (L >>= fun _ => J) Q := by
    unfold Still
    refine .trans ?_ (open_rows (R := iprop((∃ W, owes (c : Thread nD τ) 0 W) ∗ Rest D s t ∗ R)) hD ht (hL (J := fun _ => J) hk))
    iintro ⟨H1, H2, H3, ⟨H4, H5, H6⟩, H7⟩
    isplitl [H1]; · iexact H1
    isplitl [H4]; · iexact H4
    isplitl [H5]; · iexact H5
    isplitl [H6]; · iexact H6
    isplitl [H3]; · iexact H3
    isplitl [H2]; · iexact H2
    iexact H7
  by_cases h : cnd = 1#1
  · have h1 := hcnd.mp h
    simp only [dif_pos h]
    refine .trans (Q := iprop((bDest.view.loc (c : Thread nD τ) ↦{fullShare} D) ∗ Quiet c (1 - s)
      ∗ iprop((bIdx.view.loc (c : Thread nD τ) ↦[place s]{fullShare} staged D t) ∗ semVal ((c : Thread nD τ), SemLoc.dma (idxSem s)) 0
        ∗ (∃ W, owes (c : Thread nD τ) 0 W) ∗ Still arg3 h3 f ∗ R))) ?_
      (fetch (t := t + 1) h1 sm' hsm' offN offP hN0 hN1 hP0 hP1 (k := fun _ => L >>= fun _ => J) (.trans ?_ fin))
    · iintro ⟨H1, H2, H3, H4, H5, H6⟩
      isplitl [H1]; · iexact H1
      isplitl [H5]; · iexact H5
      isplitl [H2]; · iexact H2
      isplitl [H3]; · iexact H3
      isplitl [H4]; · iexact H4
      iexact H6
    · unfold Rest
      rw [if_pos h1]
      iintro ⟨H1, H2, H3, H4⟩
      isplitl [H2]; · iexact H2
      isplitl [H1 H3]
      · isplitl [H3]; · iexact H3
        iexact H1
      iexact H4
  · have h1 : ¬ t + 1 < 8 := fun e => h (hcnd.mpr e)
    simp only [dif_neg h]
    refine .trans ?_ fin
    unfold Rest
    rw [if_neg h1]
    iintro ⟨H1, H2, H3, H4, H5, H6⟩
    isplitl [H2]; · iexact H2
    isplitl [H3 H1 H5]
    · isplitl [H3]; · iexact H3
      isplitl [H1]; · iexact H1
      iexact H5
    isplitl [H4]; · iexact H4
    iexact H6

/-- After the rows are back the staged tables are the next point's. -/
theorem rest_pipe {s t : ℕ} (hs : s = t % 2) (ht : t < 8) :
    iprop((∃ g, bIdx.view.loc (c : Thread nD τ) ↦[place s]{fullShare} g) ∗ Rest D s t) ⊢ Pipe D (t + 1) := by
  unfold Rest Pipe
  by_cases h : t + 1 < 8
  · rw [if_pos h, if_pos ⟨Nat.succ_pos _, h⟩, show (t + 1) % 2 = 1 - s by omega]
    unfold Held
    rw [show 1 - (1 - s) = s by omega]
    unfold Quiet
    iintro ⟨H1, H2, H3⟩
    isplitl [H3]; · iexact H3
    isplitl [H1]; · iexact H1
    iexact H2
  · rw [if_neg h, if_neg (fun e => h e.2), show s = 1 by omega]
    unfold Idle Quiet
    iintro ⟨H1, H2, H3, H4⟩
    isplitl [H3]; · iexact H3
    isplitl [H4]; · iexact H4
    isplitl [H1]; · iexact H1
    iexact H2

/-- What the point does to the result. -/
def PointDone (D : Buf (Elt F) (bDest.view.loc (c : Thread nD τ))) (P : Buf (Elt F) (bEnds.view.loc (c : Thread nD τ)))
    (arg3 : Memref sig .tc .vmem S16384x128 .f32) (h3 : Buf (Elt F) (arg3.view.loc (c : Thread nD τ))) (t : ℕ)
    (f f' : Buf (Elt F) (bOut.view.loc (c : Thread nD τ))) : Prop :=
  ∃ f1, (if t = 0 then BlocksZero c P f f1 else f1 = f) ∧ RowsDone D arg3 h3 t f1 f'

/-- What is left at the point's end. -/
theorem point_post {s t : ℕ} (hs : s = t % 2) (ht : t < 8) {f f1 : Buf (Elt F) (bOut.view.loc (c : Thread nD τ))}
    (h1 : if t = 0 then BlocksZero c P f f1 else f1 = f) :
    iprop((arg3.view.loc (c : Thread nD τ) ↦{fullShare} h3)
      ∗ (∃ f', ⌜RowsDone D arg3 h3 t f1 f'⌝ ∗ (bOut.view.loc (c : Thread nD τ) ↦{fullShare} f'))
      ∗ semVal ((c : Thread nD τ), SemLoc.dma rowSem) 0 ∗ (∃ W, owes (c : Thread nD τ) 0 W)
      ∗ (∃ g, bIdx.view.loc (c : Thread nD τ) ↦[place s]{fullShare} g) ∗ Rest D s t
      ∗ (bEnds.view.loc (c : Thread nD τ) ↦{qe} P) ∗ (∃ z, bZero.view.loc (c : Thread nD τ) ↦{fullShare} z))
    ⊢ iprop((bEnds.view.loc (c : Thread nD τ) ↦{qe} P) ∗ (∃ z, bZero.view.loc (c : Thread nD τ) ↦{fullShare} z)
        ∗ (∃ f', ⌜PointDone D P arg3 h3 t f f'⌝ ∗ (bOut.view.loc (c : Thread nD τ) ↦{fullShare} f'))
        ∗ semVal ((c : Thread nD τ), SemLoc.dma rowSem) 0
        ∗ (∃ W, owes (c : Thread nD τ) 0 W) ∗ (arg3.view.loc (c : Thread nD τ) ↦{fullShare} h3) ∗ Pipe D (t + 1)) := by
  iintro ⟨H3, ⟨%f', %hf, Ho⟩, Hs, HO, Hi, HR, He, Hz⟩
  isplitl [He]; · iexact He
  isplitl [Hz]; · iexact Hz
  isplitl [Ho]
  · iexists f'; isplitr; · ipureintro; exact ⟨f1, h1, hf⟩
    iexact Ho
  isplitl [Hs]; · iexact Hs
  isplitl [HO]; · iexact HO
  isplitl [H3]; · iexact H3
  iapply (rest_pipe hs ht)
  isplitl [Hi]; · iexact Hi
  iexact HR

/-- The whole body at one point. -/
theorem point_runs (hp : Ends (ends c P)) (hD : Dests D) (i : grid0.Coords) (harg3 : arg3.IsWhole)
    {f : Buf (Elt F) (bOut.view.loc (c : Thread nD τ))} :
    iprop((bEnds.view.loc (c : Thread nD τ) ↦{qe} P) ∗ (∃ z, bZero.view.loc (c : Thread nD τ) ↦{fullShare} z)
      ∗ (bOut.view.loc (c : Thread nD τ) ↦{fullShare} f) ∗ semVal ((c : Thread nD τ), SemLoc.dma rowSem) 0
      ∗ (∃ W, owes (c : Thread nD τ) 0 W) ∗ (arg3.view.loc (c : Thread nD τ) ↦{fullShare} h3) ∗ Pipe D (i 0).val)
    ⊢ runs c (cc0_dispatch i bEnds (Memref.isWhole_whole _) bDest (Memref.isWhole_whole _) arg3 harg3 bOut (Memref.isWhole_whole _) bIdx (Memref.isWhole_whole _) bZero (Memref.isWhole_whole _) cc0_scratch2 cc0_scratch3) (fun _ =>
      iprop((bEnds.view.loc (c : Thread nD τ) ↦{qe} P) ∗ (∃ z, bZero.view.loc (c : Thread nD τ) ↦{fullShare} z)
        ∗ (∃ f', ⌜PointDone D P arg3 h3 (i 0).val f f'⌝ ∗ (bOut.view.loc (c : Thread nD τ) ↦{fullShare} f'))
        ∗ semVal ((c : Thread nD τ), SemLoc.dma rowSem) 0
        ∗ (∃ W, owes (c : Thread nD τ) 0 W) ∗ (arg3.view.loc (c : Thread nD τ) ↦{fullShare} h3) ∗ Pipe D ((i 0).val + 1))) := by
  have hlt : (i 0).val < 8 := (i 0).isLt
  rw [cc0_dispatch_eq_skeleton]; unfold cc0_dispatch_skel
  refine fill_runs hp arg3 harg3 i ?_
  simp only [first_iff]
  iintro ⟨He, Hz, ⟨%f1, %h1, Ho⟩, Hs, HO, H3, HP⟩
  iapply (BIBase.Entails.trans (P := iprop(Pipe D (i 0).val ∗ iprop((∃ W, owes (c : Thread nD τ) 0 W) ∗ Still arg3 h3 f1
      ∗ iprop((bEnds.view.loc (c : Thread nD τ) ↦{qe} P) ∗ (∃ z, bZero.view.loc (c : Thread nD τ) ↦{fullShare} z))))) .rfl (open_runs i ?_)) $$ [He Hz Ho Hs HO H3 HP]
  · by_cases he : k0_cond131 i = 1#1
    · have hs := (even_iff i).mp he
      have ho : ¬ k0_cond133 i = 1#1 := fun h => by have := (odd_iff i).mp h; omega
      simp only [dif_pos he, dif_neg ho]
      rw [hs]
      refine (copies_run hD (s := 0) (cnd := k0_cond132 i) (offS := k0_off65 i) (offD := ![0, 0]) (offN := k0_off66 i) (offP := ![4, 0]) (inbN := fun h => k0_off66_inb i he h) hlt idxSem0 idxSem1 rfl rfl (more_iff i) rfl (next_off i) rfl rfl
        (fun h => loop_even hD i harg3 he hlt h) ?_)
      exact finish_rows hD hlt harg3.wordExact (runs_ret (point_post hs.symm hlt h1))
    · have hs : (i 0).val % 2 = 1 := by have hne : (i 0).val % 2 ≠ 0 := fun h => he ((even_iff i).mpr h); omega
      have ho := (odd_iff i).mpr hs
      simp only [dif_neg he, dif_pos ho]
      rw [hs]
      refine (copies_run hD (s := 1) (cnd := k0_cond134 i) (offS := k0_off79 i) (offD := ![4, 0]) (offN := k0_off80 i) (offP := ![0, 0]) (inbN := fun h => k0_off80_inb i ho h) hlt idxSem1 idxSem0 rfl rfl (more_iff i) rfl (next_off i) rfl rfl
        (fun h => loop_odd hD i harg3 ho hlt h) ?_)
      exact finish_rows hD hlt harg3.wordExact (runs_ret (point_post hs.symm hlt h1))
  unfold Still
  isplitl [HP]; · iexact HP
  isplitl [HO]; · iexact HO
  isplitl [H3 Ho Hs]
  · isplitl [H3]; · iexact H3
    isplitl [Ho]; · iexact Ho
    iexact Hs
  isplitl [He]; · iexact He
  iexact Hz

end Cert.KernelIdeal.Hand

end
-- ==== Proof.Value.lean ====
/-
  What the result holds between points: the rows of the tokens before the point hold those tokens, the rows no token goes to
  hold the zero from the first point on; so at the end the result is one function of the arguments.
-/
module

public import proofs.«01_k».proof.Proof.Point

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} (D : Buf (Elt F) (bDest.view.loc (c : Thread nD τ))) (H : S131072x128.Idx → Elt F .f32)

/-- Element row `r` of token `n` at column `x`. -/
def token (n r : ℕ) (x : Fin 128) : Elt F .f32 :=
  H (Shape.pair (d := S131072x128.size) ⟨(8 * n + r) % 131072, Nat.mod_lt _ (by decide)⟩ x)

/-- The result's row `r` is the destination of slot `k` of token `n`. -/
def Goes (r k n : ℕ) : Prop := k < 4 ∧ n < 16384 ∧ r = dst D k n

/-- The result before point `t`. -/
structure Good (t : ℕ) (f : Buf (Elt F) (bOut.view.loc (c : Thread nD τ))) : Prop where
  rows : ∀ x : S655360x128.Idx, ∀ k n, n < 2048 * t → Goes D ((x 0).val / 8) k n → f x = token H n ((x 0).val % 8) (x 1)
  zeros : 0 < t → ∀ x : S655360x128.Idx, (∀ k n, ¬ Goes D ((x 0).val / 8) k n) → f x = zeroF

/-- Every row no token goes to lies in a cleared block. -/
def Cover (P : Buf (Elt F) (bEnds.view.loc (c : Thread nD τ))) : Prop :=
  ∀ x : S655360x128.Idx, (∀ k n, ¬ Goes D ((x 0).val / 8) k n) → ∃ i, x ∈ blockAt c P i

/-- The staged input at point `t`. -/
def Staged (arg3 : Memref sig .tc .vmem S16384x128 .f32) (h3 : Buf (Elt F) (arg3.view.loc (c : Thread nD τ))) (t : ℕ) : Prop :=
  ∀ y : S16384x128.Idx, arg3.view.read (Elt F) h3 y
    = H (Shape.pair (d := S131072x128.size) ⟨(16384 * t + (y 0).val) % 131072, Nat.mod_lt _ (by decide)⟩ (y 1))

variable {D H} {P : Buf (Elt F) (bEnds.view.loc (c : Thread nD τ))} {arg3 : Memref sig .tc .vmem S16384x128 .f32}
  {h3 : Buf (Elt F) (arg3.view.loc (c : Thread nD τ))}

theorem good_start (f : Buf (Elt F) (bOut.view.loc (c : Thread nD τ))) : Good D H 0 f :=
  ⟨fun _ _ n h _ => absurd h (by omega), fun h => absurd h (by omega)⟩

/-- A row copied at point `t` is one of the point's tokens' destinations. -/
theorem mem_rowBlock {t : ℕ} {j : Fin 8192} {x : S655360x128.Idx} :
    x ∈ rowBlock D t j ↔ (x 0).val / 8 = dst D (j.val % 4) (2048 * t + j.val / 4) := by
  unfold rowBlock
  rw [mem_slab]
  omega

/-- One point's step. -/
theorem good_step (hD : Dests D) (hC : Cover D P) {t : ℕ} (ht : t < 8) (hS : Staged H arg3 h3 t)
    {f f' : Buf (Elt F) (bOut.view.loc (c : Thread nD τ))} (hf : Good D H t f) (h : PointDone D P arg3 h3 t f f') :
    Good D H (t + 1) f' := by
  obtain ⟨f1, h1, hin, hout⟩ := h
  refine ⟨fun x k n hn hg => ?_, fun _ x hx => ?_⟩
  · obtain ⟨hk, hn', hr⟩ := hg
    by_cases hlt : n < 2048 * t
    · have ht0 : t ≠ 0 := by omega
      rw [if_neg ht0] at h1
      subst h1
      rw [hout x fun j hj => ?_]
      · exact hf.rows x k n hlt ⟨hk, hn', hr⟩
      · rw [mem_rowBlock, hr] at hj
        have := hD.inj _ _ _ _ hk hn' (by omega) (by omega) hj
        omega
    · have hj : 4 * (n - 2048 * t) + k < 8192 := by omega
      have e1 : (4 * (n - 2048 * t) + k) % 4 = k := by omega
      have e2 : (4 * (n - 2048 * t) + k) / 4 = n - 2048 * t := by omega
      rw [hin ⟨4 * (n - 2048 * t) + k, hj⟩ x (by
        rw [mem_rowBlock]
        show _ = dst D ((4 * (n - 2048 * t) + k) % 4) (2048 * t + (4 * (n - 2048 * t) + k) / 4)
        rw [e1, e2, show 2048 * t + (n - 2048 * t) = n by omega]; exact hr)]
      unfold rowVal
      rw [hS]
      unfold token
      have e : (16384 * t + (8 * ((4 * (n - 2048 * t) + k) / 4) + (x 0).val % 8)) = 8 * n + (x 0).val % 8 := by
        rw [e2]; omega
      exact congrArg H (congrArg₂ (Shape.pair (d := S131072x128.size)) (Fin.ext (congrArg (· % 131072) e)) rfl)
  · rw [hout x fun j hj => hx _ _ ⟨Nat.mod_lt _ (by decide), by have := j.isLt; omega, mem_rowBlock.mp hj⟩]
    by_cases ht0 : t = 0
    · rw [if_pos ht0] at h1
      obtain ⟨i, hi⟩ := hC x hx
      exact h1.1 i x hi
    · rw [if_neg ht0] at h1
      subst h1
      exact hf.zeros (by omega) x hx

open Classical in
/-- The result at the end. -/
def final (D : Buf (Elt F) (bDest.view.loc (c : Thread nD τ))) (H : S131072x128.Idx → Elt F .f32) : Buf (Elt F) (bOut.view.loc (c : Thread nD τ)) := fun x =>
  if h : ∃ kn : ℕ × ℕ, Goes D ((x 0).val / 8) kn.1 kn.2 then token H h.choose.2 ((x 0).val % 8) (x 1) else zeroF

theorem good_final {f : Buf (Elt F) (bOut.view.loc (c : Thread nD τ))} (hf : Good D H 8 f) : f = final D H := by
  funext x
  unfold final
  split
  · next h => exact hf.rows x _ _ (h.choose_spec.2.1) h.choose_spec
  · next h => exact hf.zeros (by omega) x fun k n hg => h ⟨(k, n), hg⟩

end Cert.KernelIdeal.Hand

end
-- ==== Proof.Launch.lean ====
/-
  The launch around the grid points: what each buffer holds when the region starts, what the core holds between points, and
  the region's entry and exit.
-/
module

public import proofs.«01_k».proof.Proof.Value

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a buffer holds when the region starts: after the reshape of the tokens. -/
abbrev V (c : Dev nD) (b : Ref sig .tc) : Buf (Elt F) ((c : Thread nD τ).loc b) :=
  StableHlo.after hostOps0 (fun b => m (c, b)) b

theorem hostOps0_fresh : (hostOps0 (F := F)).Forall fun op => op.fresh = ∅ := by
  show (∅ : Finset (DevRef τ sig)) = ∅
  rfl

theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The destinations, the segments' ends and the rows of the tokens as the region finds them. -/
abbrev argD (c : Dev nD) : Buf (Elt F) (bDest.view.loc (c : Thread nD τ)) := m ((c : Thread nD τ).loc main_arg1)
abbrev argP (c : Dev nD) : Buf (Elt F) (bEnds.view.loc (c : Thread nD τ)) := m ((c : Thread nD τ).loc main_arg0)
abbrev argH (c : Dev nD) : S131072x128.Idx → Elt F .f32 := V m c main_v0

theorem hostOps0_writes : (hostOps0 (F := F)).Forall fun op => op.writes ⊆ ([main_v0].map Proc.tc.devRef).toFinset := by
  show ({Proc.tc.devRef main_v0} : Finset (DevRef τ sig)) ⊆ _
  decide
theorem V_arg0 (c : Dev nD) : V m c main_arg0 = m ((c : Thread nD τ).loc main_arg0) :=
  StableHlo.after_of_writes_sub (W := [main_v0]) hostOps0 _ hostOps0_writes (by decide)
theorem V_arg1 (c : Dev nD) : V m c main_arg1 = m ((c : Thread nD τ).loc main_arg1) :=
  StableHlo.after_of_writes_sub (W := [main_v0]) hostOps0 _ hostOps0_writes (by decide)
theorem V_arg2 (c : Dev nD) : V m c main_arg2 = m ((c : Thread nD τ).loc main_arg2) :=
  StableHlo.after_of_writes_sub (W := [main_v0]) hostOps0 _ hostOps0_writes (by decide)

/-- What the arguments must satisfy: the segments' ends are in order and whole blocks, the destinations are rows of the result
    and no two equal, and a row that is no destination lies in a cleared block. -/
structure Ready (c : Dev nD) : Prop where
  ends : Ends (ends c (argP m c))
  dests : Dests (argD m c)
  cover : Cover (argD m c) (argP m c)

/-- The table the region reads at entry. -/
abbrev adm : (p : Fin 1) → (pcfgs (F := F) p).Adm := fun _ => ⟨fun k => V m 0 (pre0.ref k), trivial⟩

/-! ## Buffers and semaphores of the body's own copies -/

abbrev osem0 : Fin 3 → SemLoc sig := fun j => (![SemLoc.dma 2, SemLoc.dma 3, SemLoc.dma 4] : Fin 3 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (idxSem 0)) 0 ∗ semVal ((c : Thread nD τ), SemLoc.dma (idxSem 1)) 0
          ∗ semVal ((c : Thread nD τ), SemLoc.dma rowSem) 0) := by
  rw [Pipeline.ownSems0_eq_of_list c osem0 [0, 1, 2] (by decide) (by decide)]; rfl

/-- The copies read the destinations and write the result. -/
def H0 : Finset (Ref sig .tc) := {main_arg1}
def R0 : Finset (Ref sig .tc) := {main_v1}
theorem H0_sub : H0 ⊆ Pipeline.restRefsP sig pre0 spec0 := by decide
theorem R0_sub : R0 ⊆ Pipeline.restRefsP sig pre0 spec0 \ H0 := by decide

/-- What the written buffers hold at the end. -/
def G (c : Dev nD) : (b : Ref sig .tc) → Buf (Elt F) ((c : Thread nD τ).loc b) :=
  Function.update (V m c) main_v1 (final (argD m c) (argH m c))

theorem G_out (c : Dev nD) : G m c main_v1 = final (argD m c) (argH m c) := Function.update_self ..

theorem held_eq (c : Dev nD) (X : (b : Ref sig .tc) → Buf (Elt F) ((c : Thread nD τ).loc b)) :
    (bigSep H0 fun b => ((c : Thread nD τ).loc b ↦{fullShare} X b : sProp 𝕄)) = (((c : Thread nD τ).loc main_arg1) ↦{fullShare} X main_arg1) := by
  unfold H0; exact bigSep_singleton ..
theorem routed_eq (c : Dev nD) (X : (b : Ref sig .tc) → Buf (Elt F) ((c : Thread nD τ).loc b)) :
    (Pipeline.routed R0 c X : sProp 𝕄) = (((c : Thread nD τ).loc main_v1) ↦{fullShare} X main_v1) := by
  unfold Pipeline.routed R0; exact bigSep_singleton ..
theorem tables_eq (c : Dev nD) :
    (Pipeline.ΦT pre0 (adm m 0).1 c : sProp 𝕄) = (((c : Thread nD τ).loc main_arg0) ↦{fullShare.right} V m 0 main_arg0) := by
  unfold Pipeline.ΦT Pipeline.prefHeld
  exact bigSep_univ_eq_bigSepL [(0 : Fin 1)] (by decide) (by decide) _

end Cert.KernelIdeal.Hand
end
-- ==== Proof.Run.lean ====
/-
  The run of the whole call: the proof data of its one pipeline, the body at every grid point, the region's entry and exit.
-/
module

public import proofs.«01_k».proof.Proof.Launch
public import Idealize.ShloMosaic.Lib.Pipeline.FrameBody

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat)

variable (m : (ℓ : Loc nD τ sig) → Buf (Elt F) ℓ) (ρ : Dev nD → PrngReg)

/-- The call's pipeline at the table the region reads. -/
abbrev cfgA : Pipeline.Cfg sig Λ₀ := Pipeline.pin pcfgs (adm m) 0

/-- The one grid coordinate is the point's number. -/
theorem coords_val : ∀ t : Fin grid0.N, (grid0.coords t 0).val = t.val := by decide

/-- What the core holds before point `t`. -/
def Between (c : Dev nD) (t : ℕ) : sProp 𝕄 :=
  iprop((bEnds.view.loc (c : Thread nD τ) ↦{fullShare.right} argP m c) ∗ (∃ z, bZero.view.loc (c : Thread nD τ) ↦{fullShare} z)
    ∗ (∃ f, ⌜Good (argD m c) (argH m c) t f⌝ ∗ (bOut.view.loc (c : Thread nD τ) ↦{fullShare} f))
    ∗ semVal ((c : Thread nD τ), SemLoc.dma rowSem) 0 ∗ (∃ r, prngReg c r) ∗ Pipe (argD m c) t)

/-- The staged block of point `t`: rows `16384 t …` of the tokens. -/
def stagedIn (c : Dev nD) (w : Fin (cfgA m).W) (t : Fin (cfgA m).N) : ((cfgA m).win w).block.Idx → Elt F ((cfgA m).win w).elt :=
  (((cfgA m).win w).blk t).view.read (Elt F) (V m c (Pipeline.arrRef spec0 w))

/-- The proof data of the one pipeline. -/
def dats (_ : Fin 1) (c : Dev nD) : Dat τ (Elt F) Unit ℕ (Pipeline.UD sig nD τ) ℕ (cfgA m) c where
  A w := V m c (Pipeline.arrRef spec0 w)
  after w t := stagedIn m c w t
  Φ t := Between m c t.val
  q _ := fullShare
  owed _ := 0

theorem A_eq (c : Dev nD) (w : Fin (cfgA m).W) : (dats m 0 c).A w = V m c (Pipeline.arrRef spec0 w) := by
  dsimp only [dats]
theorem after_eq (c : Dev nD) (t : Fin (cfgA m).N) : (dats m 0 c).after 0 t = stagedIn m c 0 t := by dsimp only [dats]
theorem before_eq (c : Dev nD) (t : Fin (cfgA m).N) (d) : (dats m 0 c).before 0 t d = stagedIn m c 0 t :=
  ((dats m 0 c).before_in_eq_fetched 0 rfl (fun _ => rfl) (fun _ _ _ => rfl) (fun _ => rfl) t d).trans rfl

/-- The staged block is the point's rows. -/
theorem stagedIn_apply (c : Dev nD) (t : Fin (cfgA m).N) (y : S16384x128.Idx) :
    stagedIn m c 0 t y = argH m c (Shape.pair (d := S131072x128.size) ⟨(16384 * t.val + (y 0).val) % 131072, Nat.mod_lt _ (by decide)⟩ (y 1)) := by
  have ht : t.val < 8 := lt_of_lt_of_eq t.isLt N_0
  have hc : (grid0.coords t 0).val = t.val := coords_val t
  have hy : (y 0).val < 16384 := (y 0).isLt
  let e : S131072x128.Idx := (((cfgA m).win 0).blk t).view.emb y
  show argH m c e = _
  refine congrArg (argH m c) ?_
  have e0 : (e 0).val = (16384 * t.val + (y 0).val) % 131072 := by
    rw [show (e 0).val
      = (BitVec.ofNat 32 (grid0.coords t 0).val).toNat * 16384 + 1 * (y 0).val from rfl, hc, BitVec.toNat_ofNat]
    omega
  have e1 : (e 1).val = (y 1).val := by
    rw [show (e 1).val = 0 * 128 + 1 * (y 1).val from rfl]
    omega
  funext a
  match a with
  | ⟨0, _⟩ => exact Fin.ext e0
  | ⟨1, _⟩ => exact Fin.ext e1

/-- The body at point `t`, on the buffers the pipeline calls it with. -/
abbrev stageAt (t : Fin (cfgA m).N) : Memref sig .tc .vmem S16384x128 .f32 := spec0_0.stage ((cfgA m).slots t 0)
abbrev bodyAt (t : Fin (cfgA m).N) : Prog (TpuEff nD τ sig (Elt F) Λ₀ .tc) PUnit :=
  cc0_dispatch (grid0.coords t) bEnds (Memref.isWhole_whole _) bDest (Memref.isWhole_whole _) (stageAt m t)
    (hstage0_0 (((cfgA m).slots t 0).cast nbuf0_0)) bOut (Memref.isWhole_whole _) bIdx (Memref.isWhole_whole _) bZero
    (Memref.isWhole_whole _) cc0_scratch2 cc0_scratch3

theorem stageAt_set (t : Fin (cfgA m).N) : (stageAt m t).view.set = Finset.univ :=
  (hstage0_0 (((cfgA m).slots t 0).cast nbuf0_0)).set_eq_univ

def bodyPre (c : Dev nD) (t : Fin (cfgA m).N) : sProp 𝕄 :=
  iprop((dats m 0 c).Φ t.castSucc ∗ (dats m 0 c).owesAt () t.castSucc
    ∗ (∃ d, owns (c : Thread nD τ) (stageAt m t) fullShare ((dats m 0 c).before 0 t d)))
def bodyPost (c : Dev nD) (t : Fin (cfgA m).N) : sProp 𝕄 :=
  iprop((dats m 0 c).Φ t.succ ∗ (dats m 0 c).owesAt () t.succ
    ∗ owns (c : Thread nD τ) (stageAt m t) fullShare ((dats m 0 c).after 0 t))

/-- The body runs at every point. -/
theorem sound_body (c : Dev nD) (hr : Ready m c) (t : Fin (cfgA m).N) :
    bodyPre m c t ⊢ wp frame (wpE (defs₀ (F := F)) Variants.none c none) Set.univ (bodyAt m t) (fun _ => bodyPost m c t) := by
  have ht : t.val < 8 := lt_of_lt_of_eq t.isLt N_0
  unfold bodyPre bodyPost bodyAt
  rw [show (dats m 0 c).Φ t.castSucc = Between m c t.val from rfl, show (dats m 0 c).Φ t.succ = Between m c (t.val + 1) from rfl, after_eq]
  unfold Dat.owesAt Pipeline.owesWithin Between owns
  rw [stageAt_set]
  rw [show (dats m 0 c).owed t.castSucc = 0 from rfl, show (dats m 0 c).owed t.succ = 0 from rfl]
  iintro ⟨⟨HP, HZ, ⟨%f, %hf, HO⟩, HS, Hg, HI⟩, ⟨%W, -, HW⟩, ⟨%d, ⟨%h3, %hh, H3⟩⟩⟩
  rw [before_eq] at hh
  have hS : Staged (argH m c) (stageAt m t) h3 t.val := fun y => (congrFun hh y).trans (stagedIn_apply m c t y)
  have run := point_runs (qe := fullShare.right) (h3 := h3) hr.ends hr.dests (grid0.coords t)
    (hstage0_0 (((cfgA m).slots t 0).cast nbuf0_0)) (f := f)
  rw [coords_val] at run
  iapply (wp_wand_r frame (wpE (defs₀ (F := F)) Variants.none c none) Set.univ)
  isplitr [Hg]
  · iapply run
    isplitl [HP]; · iexact HP
    isplitl [HZ]; · iexact HZ
    isplitl [HO]; · iexact HO
    isplitl [HS]; · iexact HS
    isplitl [HW]; · iexists W; iexact HW
    isplitl [H3]; · iexact H3
    iexact HI
  iintro %a ⟨HP, HZ, ⟨%f', %hf', HO⟩, HS, ⟨%W', HW⟩, H3, HI⟩
  isplitl [HP HZ HO HS Hg HI]
  · isplitl [HP]; · iexact HP
    isplitl [HZ]; · iexact HZ
    isplitl [HO]
    · iexists f'
      isplitr; · ipureintro; exact good_step hr.dests hr.cover ht hS hf hf'
      iexact HO
    isplitl [HS]; · iexact HS
    isplitl [Hg]; · iexact Hg
    iexact HI
  isplitl [HW]
  · iexists W'; isplitr; · ipureintro; exact fun _ _ => Or.inl trivial
    iexact HW
  iexists h3
  isplitr; · ipureintro; exact hh
  iexact H3

theorem defs₀_row (t : Fin (cfgA m).N) :
    defs₀ (F := F) .tc (cfgA m).body ((cfgA m).bodyArgs t ((cfgA m).slots t)) = bodyAt m t := by
  unfold defs₀; rw [Defs.onTc_tc]

theorem body_obligation (c : Dev nD) (hr : Ready m c) :
    Pipeline.BodyObligation (dats m 0 c) (defs₀ (F := F)) Variants.none () Set.univ := fun t => by
  rw [bigSep_W0, bigSep_W0, defs₀_row]
  exact triple_restated (sound_body m c hr t) rfl .rfl fun _ => .rfl

/-! ## Entry and exit of the region -/

theorem places_compl : place 1 = Finset.univ \ place 0 := by
  ext x
  have hx : (x 0).val < 8 := (x 0).isLt
  simp only [place, Finset.mem_filter, Finset.mem_univ, true_and, Finset.mem_sdiff]
  omega

/-- The two halves of the destinations' double buffer are all of it. -/
theorem places_split (c : Dev nD) (g : Buf (Elt F) (bIdx.view.loc (c : Thread nD τ))) :
    (bIdx.view.loc (c : Thread nD τ) ↦{fullShare} g : sProp 𝕄)
      ⊢ iprop((bIdx.view.loc (c : Thread nD τ) ↦[place 0]{fullShare} g) ∗ (bIdx.view.loc (c : Thread nD τ) ↦[place 1]{fullShare} g)) := by
  rw [places_compl]
  exact (pointsTo_split_subset (Finset.subset_univ _)).1

theorem places_join (c : Dev nD) (g h : Buf (Elt F) (bIdx.view.loc (c : Thread nD τ))) :
    iprop((bIdx.view.loc (c : Thread nD τ) ↦[place 0]{fullShare} g) ∗ (bIdx.view.loc (c : Thread nD τ) ↦[place 1]{fullShare} h))
      ⊢ (iprop(∃ k, bIdx.view.loc (c : Thread nD τ) ↦{fullShare} k) : sProp 𝕄) := by
  rw [places_compl]
  exact (pointsTo_join_subset (Finset.subset_univ _)).trans (exists_intro _)

theorem entry_ok (c : Dev nD) :
    iprop(Pipeline.ΦDRG osem0 spec0 H0 R0 (V m) (V m) c ∗ Pipeline.ΦT pre0 (adm m 0).1 c) ⊢ (dats m 0 c).Φ 0 := by
  rw [show (dats m 0 c).Φ 0 = Between m c 0 from rfl, Pipeline.ΦDRG_eq, scopedRest0_eq, ownSems0_eq, held_eq, routed_eq, tables_eq,
    V_arg0, V_arg1, Subsingleton.elim (0 : Dev nD) c]
  unfold Between Pipe Idle Quiet
  rw [if_neg (by omega)]
  iintro ⟨⟨⟨HZ, ⟨%g, HB⟩⟩, Hg, ⟨Hs0, Hs1, HS⟩, HD, HO⟩, HP⟩
  icases (places_split c g) $$ HB with ⟨HB0, HB1⟩
  isplitl [HP]; · iexact HP
  isplitl [HZ]; · iexact HZ
  isplitl [HO]
  · iexists (V m c main_v1)
    isplitr; · ipureintro; exact good_start _
    iexact HO
  isplitl [HS]; · iexact HS
  isplitl [Hg]; · iexact Hg
  isplitl [HD]; · iexact HD
  isplitl [HB0 Hs0]
  · isplitl [HB0]; · iexists g; iexact HB0
    iexact Hs0
  isplitl [HB1]; · iexists g; iexact HB1
  iexact Hs1

theorem exit_ok (c : Dev nD) :
    (dats m 0 c).Φ (Fin.last (cfgA m).N) ⊢ Pipeline.ΦDRG osem0 spec0 H0 R0 (V m) (G m) c := by
  rw [show (dats m 0 c).Φ (Fin.last (cfgA m).N) = Between m c 8 from rfl, Pipeline.ΦDRG_eq, scopedRest0_eq, ownSems0_eq, held_eq, routed_eq,
    V_arg1, G_out]
  unfold Between Pipe Idle Quiet
  rw [if_neg (by omega)]
  iintro ⟨-, HZ, ⟨%f, %hf, HO⟩, HS, Hg, HD, ⟨⟨%g, HB0⟩, Hs0⟩, ⟨%h, HB1⟩, Hs1⟩
  have hf := good_final hf
  subst hf
  isplitl [HZ HB0 HB1]
  · isplitl [HZ]; · iexact HZ
    iapply (places_join c g h)
    isplitl [HB0]; · iexact HB0
    iexact HB1
  isplitl [Hg]; · iexact Hg
  isplitl [Hs0 Hs1 HS]
  · isplitl [Hs0]; · iexact Hs0
    isplitl [Hs1]; · iexact Hs1
    iexact HS
  isplitl [HD]; · iexact HD
  iexact HO

/-! ## The run -/

set_option backward.isDefEq.respectTransparency.types false in
/-- Every run of the call ends with the result at `final` and the arguments as they were. -/
theorem run_main (hr : ∀ c, Ready m c) : θ_run defs (onTc (τ := τ) (main (F := F))) (s₀ m ρ)
    (fun r => Pipeline.FramePostRG (Pipeline.pin pcfgs (adm m)) (dats m) 0 R0 (V m) (G m) r ∧ r.2.sem = fun _ => 0) :=
  Pipeline.θ_run_frameP_dmaRG (Q' := _) pcfgs (adm m) (dats m) (0 : Fin 1) launch0 osem0 defs₀ Variants.none ownSemFacts0 H0 R0 H0_sub R0_sub
    m ρ main (hbody := fun c => (body_obligation m c (hr c)).loose) (hshare := fun c => (dats m 0 c).share_full fun _ => rfl)
    (howed := fun _ _ => rfl) (V := V m) (hmain := hmain m Variants.none) (hA := A_eq m)
    (hpf := fun c k => by rw [Subsingleton.elim c 0]) (G := G m) (hin := entry_ok m) (hout := exit_ok m)

end Cert.KernelIdeal.Hand
end
-- ==== Proof.Decode.lean ====
/-
  The precondition's three words, decoded: what each says of the segments' ends and of the destinations, as plain numbers.
-/
module

public import proofs.«01_k».proof.Proof.Gen.Pre_segments_filled
public import Idealize.ShloMosaic.Lib.StableHlo.Predicate
public import Idealize.ShloMosaic.Lib.Pipeline.Value
public import Idealize.ShloMosaic.Lib.Affine

@[expose] public section

set_option maxRecDepth 16384

noncomputable section

namespace Cert.Decode

open Cert.Pre_segments_filled Cert.Pre_segments_filled.Facts
open Idealize.ShloMosaic Idealize.ShloMosaic.StableHlo.Predicate

variable [Cert.Pre_segments_filled.Facts] {F : FTy → Type} [FloatOps F]
  (P : IVec S32 32) (D : IVec S4x16384 32) (T : FVec F S16384x1024 .f32)

/-! ## The words at an index -/

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

/-- The destinations as the predicate indexes with them: a negative one moved up by the number of rows. -/
def wrapped : IVec S4x16384 32 := fun j =>
  Scalar.select (IntOp.cmpi .slt (D j) 0#32) (IntOp.addi (D j) 81920#32) (D j)

/-- The slot number of each slot. -/
def number (j : S4x16384.Idx) : BitVec 32 := BitVec.ofNat 32 (Shape.reshapeEquiv shapeCasts_S65536_S4x16384 j 0).val

/-- The predicate's table of the slot that each row holds. -/
def holder : IVec S81920 32 :=
  Host.scatter scatter_S81920_S4x16384x1_S4x16384_n_0_0_2 (fun _ b => b) (fun _ => 0#32)
    (broadcastInDim S4x16384x1 ![0, 1] bcast_S4x16384_S4x16384x1_0_1 (wrapped D)) (shapeCast S4x16384 (iotaInDim S65536 32 0) shapeCasts_S65536_S4x16384)

/-- The row looked up for a slot: its wrapped destination, clamped. -/
def lookup (j : S4x16384.Idx) : S81920.Idx :=
  gather_S81920_S4x16384x1_S4x16384_n_0_n_n_0_2_1.operandIdx j (broadcastInDim S4x16384x1 ![0, 1] bcast_S4x16384_S4x16384x1_0_1 (wrapped D))

/-- The slots' word: the destination is a row, and the row holds this slot. -/
theorem fst_apply (j : S4x16384.Idx) : (fn (F := F) P D T).1 j
    = IntOp.andi (IntOp.andi (IntOp.cmpi .sge (D j) 0#32) (IntOp.cmpi .slt (D j) 81920#32))
        (IntOp.cmpi .eq (holder D (lookup D j)) (number j)) := rfl

/-- The end of the segment before. -/
def before : IVec S32 32 :=
  concatenate S32 0 [⟨S1, fun _ => 0#32⟩, ⟨S31, extractStridedSlice S31 ![0] P slices_S32_S31_0⟩] concatenates_S1_S31_S32_d0

/-- The segments' word: in order, within the rows, a multiple of a block. -/
theorem snd_apply (e : S32.Idx) : (fn (F := F) P D T).2.1 e
    = IntOp.andi (IntOp.andi (IntOp.cmpi .sle (before P e) (P e)) (IntOp.cmpi .sle (P e) 81920#32))
        (IntOp.cmpi .eq (fn_remainder (F := F) P (fun _ => 512#32) e) 0#32) := rfl

/-- Row `r` lies in the last block of a segment that is not empty, for each row and segment. -/
def inLast : IVec S81920x32 1 :=
  andi (andi
    (broadcastInDim S81920x32 ![0, 1] bcast_S1x32_S81920x32_0_1
      (cmpi .slt (broadcastInDim S1x32 ![1] bcast_S32_S1x32_1 (before P)) (broadcastInDim S1x32 ![1] bcast_S32_S1x32_1 P)))
    (cmpi .sle
      (broadcastInDim S81920x32 ![0, 1] bcast_S1x32_S81920x32_0_1
        (subi (broadcastInDim S1x32 ![1] bcast_S32_S1x32_1 P) (broadcastInDim S1x32 ![] bcast_S_S1x32 (constantI S_ 32 512#32))))
      (broadcastInDim S81920x32 ![0, 1] bcast_S81920x1_S81920x32_0_1
        (broadcastInDim S81920x1 ![0] bcast_S81920_S81920x1_0 (iotaInDim S81920 32 0)))))
    (cmpi .slt
      (broadcastInDim S81920x32 ![0, 1] bcast_S81920x1_S81920x32_0_1
        (broadcastInDim S81920x1 ![0] bcast_S81920_S81920x1_0 (iotaInDim S81920 32 0)))
      (broadcastInDim S81920x32 ![0, 1] bcast_S1x32_S81920x32_0_1 (broadcastInDim S1x32 ![1] bcast_S32_S1x32_1 P)))

/-- That word at an index, as a statement of one segment. -/
theorem inLast_apply (y : S81920x32.Idx) : ∃ e : S32.Idx, inLast P y
    = IntOp.andi (IntOp.andi (IntOp.cmpi .slt (before P e) (P e))
        (IntOp.cmpi .sle (IntOp.subi (P e) 512#32) (BitVec.ofNat 32 (y 0).val)))
      (IntOp.cmpi .slt (BitVec.ofNat 32 (y 0).val) (P e)) := ⟨_, rfl⟩

/-- The slot looked up for each row. -/
def seek (r : S81920.Idx) : S4x16384.Idx :=
  Shape.reshapeEquiv shapeCasts_S4x16384_S65536
    (gather_S65536_S81920x1_S81920_n_0_n_n_0_1_1.operandIdx r (broadcastInDim S81920x1 ![0] bcast_S81920_S81920x1_0
      (select (cmpi .slt (holder D) (broadcastInDim S81920 ![] bcast_S_S81920 (constantI S_ 32 0#32)))
        (addi (holder D) (broadcastInDim S81920 ![] bcast_S_S81920 (constantI S_ 32 65536#32))) (holder D))))

/-- The rows' word: the row is a destination, lies in a last block, or lies past all segments. -/
theorem trd_apply (r : S81920.Idx) : (fn (F := F) P D T).2.2 r
    = IntOp.ori (IntOp.ori (IntOp.cmpi .eq (D (seek D r)) (BitVec.ofNat 32 (r 0).val))
          (Host.reduce IntOp.ori (inLast P) (constantI S_ 1 0#1) reducesTo_S81920x32_S81920_d1 h_S_ r))
        (IntOp.andi (IntOp.cmpi .sge (BitVec.ofNat 32 (r 0).val) 65536#32)
          (IntOp.cmpi .sle (broadcastInDim S81920 ![] bcast_S_S81920
            (shapeCast S_ (extractStridedSlice S1 ![31] P slices_S32_S1_31) shapeCasts_S1_S_) r) (BitVec.ofNat 32 (r 0).val))) := rfl

/-! ## The parts of the words -/

/-- Index `n` of the segments. -/
abbrev seg (n : Nat) (h : n < 32) : S32.Idx := Shape.Idx.ofFin ⟨n, h⟩

theorem eq_seg (e : S32.Idx) : e = seg (e 0).val (e 0).isLt := by
  funext a; have : a = 0 := Subsingleton.elim _ _; subst this; rfl

theorem before_zero : before P (seg 0 (by omega)) = 0#32 :=
  concatenate_pair_apply_left 0 _ _ concatenates_S1_S31_S32_d0 (seg 0 (by omega)) rfl (Shape.Idx.ofFin (0 : Fin 1)) (fun _ => rfl)

theorem before_succ (n : Nat) (h : n + 1 < 32) : before P (seg (n + 1) h) = P (seg n (by omega)) := by
  refine (concatenate_pair_apply_right 0 _ _ concatenates_S1_S31_S32_d0 (seg (n + 1) h) rfl rfl
    (Shape.Idx.ofFin (⟨n, by omega⟩ : Fin 31)) (fun b hb => absurd (Subsingleton.elim _ _) hb) rfl).trans ?_
  refine congrArg P (funext fun a => Fin.ext ?_)
  have : a = 0 := Subsingleton.elim _ _
  subst this
  exact Nat.zero_add _

theorem lastEnd_apply (r : S81920.Idx) : broadcastInDim S81920 ![] bcast_S_S81920
    (shapeCast S_ (extractStridedSlice S1 ![31] P slices_S32_S1_31) shapeCasts_S1_S_) r = P (seg 31 (by omega)) := by
  refine congrArg P (funext fun a => Fin.ext ?_)
  have : a = 0 := Subsingleton.elim _ _
  subst this
  exact congrArg (31 + ·) (Nat.lt_one_iff.mp (Fin.isLt _))

/-- A fold of "or" that ends at one began at one or met one. -/
theorem foldl_or {α : Type} (f : α → BitVec 1) (l : List α) (b : BitVec 1)
    (h : l.foldl (fun r n => IntOp.ori r (f n)) b = 1#1) : b = 1#1 ∨ ∃ n ∈ l, f n = 1#1 := by
  induction l generalizing b with
  | nil => exact .inl h
  | cons n l ih =>
    rcases ih _ h with h | ⟨k, hk, h⟩
    · rcases (or_one _ _).mp h with h | h
      · exact .inl h
      · exact .inr ⟨n, List.mem_cons_self, h⟩
    · exact .inr ⟨k, List.mem_cons_of_mem _ hk, h⟩

/-- Where the rows' "or" over the segments is one, some segment's word is. -/
theorem reduce_inLast (r : S81920.Idx)
    (h : Host.reduce IntOp.ori (inLast P) (constantI S_ 1 0#1) reducesTo_S81920x32_S81920_d1 h_S_ r = 1#1) :
    ∃ y : S81920x32.Idx, (y 0).val = (r 0).val ∧ inLast P y = 1#1 := by
  rcases foldl_or (fun n => inLast P (S81920x32.rowMajor.symm n)) _ _ h with h | ⟨n, hn, h⟩
  · exact absurd h (show ¬(0#1 : BitVec 1) = 1#1 by decide)
  · refine ⟨_, ?_, h⟩
    have h2 := of_decide_eq_true (List.mem_filter.mp hn).2
    exact congrArg Fin.val (congrFun h2 0)

theorem sle_int {a b : BitVec 32} (h : IntOp.cmpi .sle a b = 1#1) : a.toInt ≤ b.toInt := by
  rw [← BitVec.sle_iff_toInt_le]; exact (ofBool_eq_one_iff _).mp h

theorem slt_int {a b : BitVec 32} (h : IntOp.cmpi .slt a b = 1#1) : a.toInt < b.toInt := by
  rw [← BitVec.slt_iff_toInt_lt]; exact (ofBool_eq_one_iff _).mp h

theorem sge_int {a b : BitVec 32} (h : IntOp.cmpi .sge a b = 1#1) : b.toInt ≤ a.toInt := sle_int h

/-- The row looked up for a slot is its wrapped destination, clamped. -/
theorem lookup_val (j : S4x16384.Idx) : (lookup D j 0).val = min (wrapped D j).toInt.toNat (81920 - 1) := by
  have hb : (0 : Fin 1) ∉ gather_S81920_S4x16384x1_S4x16384_n_0_n_n_0_2_1.operandBatchingDims := List.not_mem_nil
  have hk : (0 : Fin 1) ∉ gather_S81920_S4x16384x1_S4x16384_n_0_n_n_0_2_1.sKept := by
    rw [GatherDims.mem_sKept]; exact fun h => h.1 (List.mem_singleton.mpr rfl)
  have hm : (0 : Fin 1) ∈ gather_S81920_S4x16384x1_S4x16384_n_0_n_n_0_2_1.startIndexMap := List.mem_singleton.mpr rfl
  unfold lookup
  simp only [GatherDims.operandIdx, GatherDims.batchCoord_eq_zero _ _ _ hb, GatherDims.offCoord_eq_zero _ _ _ hk,
    Nat.add_zero, GatherDims.start, dif_pos hm]
  show min (wrapped D _).toInt.toNat (81920 - 1) = _
  refine congrArg (fun i => min (wrapped D i).toInt.toNat (81920 - 1)) (funext fun a => ?_)
  match a with
  | ⟨0, _⟩ => exact Fin.ext rfl
  | ⟨1, _⟩ => exact Fin.ext rfl

/-- Where the predicate's remainder by a block is zero, a block divides. -/
theorem dvd_of_remainder (e : S32.Idx) (hx : 2 * (P e).toNat < 2 ^ 32)
    (h : fn_remainder (F := F) P (fun _ => 512#32) e = 0#32) : 512 ∣ (P e).toNat := by
  have h1 : fn_remainder (F := F) P (fun _ => 512#32) e
      = Scalar.select (IntOp.andi (IntOp.cmpi .ne (IntOp.cmpi .slt (IntOp.remsi .host (P e) 512#32) 0#32) 0#1)
          (IntOp.cmpi .ne (IntOp.remsi .host (P e) 512#32) 0#32))
        (IntOp.addi (IntOp.remsi .host (P e) 512#32) 512#32) (IntOp.remsi .host (P e) 512#32) := rfl
  rw [h1] at h
  have h2 := IntOp.toNat_remsi .host hx 512 (by omega) (by omega)
  rw [show BitVec.ofNat 32 512 = 512#32 from rfl] at h2
  generalize IntOp.remsi .host (P e) 512#32 = w at h h2
  have h3 : IntOp.cmpi .slt w 0#32 = 0#1 := by
    refine (by decide : ∀ b : BitVec 1, b ≠ 1#1 → b = 0#1) _ fun h4 => ?_
    have := slt_int h4
    rw [toInt_eq_toNat_of_lt (by omega)] at this
    have h5 : (0#32 : BitVec 32).toInt = 0 := rfl
    omega
  rw [h3] at h
  have hz : ∀ b : BitVec 1, IntOp.andi (IntOp.cmpi .ne 0#1 0#1) b = 0#1 := by decide
  rw [hz] at h
  have h4 : w = 0#32 := h
  rw [h4] at h2
  exact Nat.dvd_of_mod_eq_zero h2.symm

/-! ## What the words say -/

section Slots
variable {P D T} (h : ∀ j, (fn (F := F) P D T).1 j = 1#1)
include h

/-- Every destination is a row. -/
theorem dest_lt (j : S4x16384.Idx) : (D j).toNat < 81920 := by
  have h1 := h j
  rw [fst_apply, and_one, and_one] at h1
  have h2 := sge_int h1.1.1
  have h3 := slt_int h1.1.2
  have e0 : (0#32 : BitVec 32).toInt = 0 := rfl
  have e1 : (81920#32 : BitVec 32).toInt = 81920 := rfl
  have key := BitVec.toInt_eq_toNat_cond (D j)
  have := (D j).isLt
  split at key <;> omega

/-- No two slots have one destination. -/
theorem dest_inj (j j' : S4x16384.Idx) (e : D j = D j') : j = j' := by
  have h1 := h j
  have h2 := h j'
  rw [fst_apply, and_one] at h1 h2
  have e1 := cmpi_eq_iff.mp h1.2
  have e2 := cmpi_eq_iff.mp h2.2
  have e3 : lookup D j = lookup D j' := by
    have hw : wrapped D j = wrapped D j' := by unfold wrapped; rw [e]
    have l := lookup_val D
    funext a
    have : a = 0 := Subsingleton.elim _ _
    subst this
    exact Fin.ext (by rw [l, l, hw])
  rw [e3] at e1
  have e4 : number j = number j' := e1.symm.trans e2
  have e5 := congrArg BitVec.toNat e4
  have b : ∀ i, (number i).toNat = (Shape.reshapeEquiv shapeCasts_S65536_S4x16384 i 0).val := fun i => by
    have : (Shape.reshapeEquiv shapeCasts_S65536_S4x16384 i 0).val < 65536 := Fin.isLt _
    exact (BitVec.toNat_ofNat _ _).trans (Nat.mod_eq_of_lt (by omega))
  rw [b, b] at e5
  refine (Shape.reshapeEquiv shapeCasts_S65536_S4x16384).injective (funext fun a => ?_)
  have : a = 0 := Subsingleton.elim _ _
  subst this
  exact Fin.ext e5

end Slots

section Segments
variable {P D T} (h : ∀ e, (fn (F := F) P D T).2.1 e = 1#1)
include h

theorem seg_int (n : Nat) (hn : n < 32) : 0 ≤ (P (seg n hn)).toInt ∧ (P (seg n hn)).toInt ≤ 81920 := by
  induction n with
  | zero =>
    have h1 := h (seg 0 hn)
    rw [snd_apply, and_one, and_one, before_zero] at h1
    exact ⟨sle_int h1.1.1, sle_int h1.1.2⟩
  | succ n ih =>
    have h1 := h (seg (n + 1) hn)
    rw [snd_apply, and_one, and_one, before_succ] at h1
    exact ⟨(ih (by omega)).1.trans (sle_int h1.1.1), sle_int h1.1.2⟩

/-- An end is no more than the number of rows. -/
theorem seg_le (n : Nat) (hn : n < 32) : (P (seg n hn)).toNat ≤ 81920 := by
  have h1 := seg_int h n hn
  have := (P (seg n hn)).isLt
  rw [BitVec.toInt_eq_toNat_cond] at h1
  split at h1 <;> omega

theorem before_le (n : Nat) (hn : n < 32) : (before P (seg n hn)).toNat ≤ 81920 := by
  rcases n with _ | n
  · rw [before_zero]; exact Nat.zero_le _
  · rw [before_succ]; exact seg_le h n (by omega)

/-- The ends go up. -/
theorem seg_mono (n : Nat) (hn : n + 1 < 32) : (P (seg n (by omega))).toNat ≤ (P (seg (n + 1) hn)).toNat := by
  have h1 := h (seg (n + 1) hn)
  rw [snd_apply, and_one, and_one, before_succ] at h1
  have a := seg_le h n (by omega)
  have b := seg_le h (n + 1) hn
  exact (sle_iff_toNat (by omega) (by omega)).mp h1.1.1

/-- A block divides every end. -/
theorem seg_dvd (n : Nat) (hn : n < 32) : 512 ∣ (P (seg n hn)).toNat := by
  have h1 := h (seg n hn)
  rw [snd_apply, and_one] at h1
  have a := seg_le h n hn
  exact dvd_of_remainder P _ (by omega) (cmpi_eq_iff.mp h1.2)

/-- A row that is no destination lies in the last block of a segment that is not empty, or past all segments. -/
theorem row_covered (h3 : ∀ r, (fn (F := F) P D T).2.2 r = 1#1) (r : S81920.Idx)
    (hr : ∀ y, (D y).toNat ≠ (r 0).val) :
    (∃ n, ∃ hn : n < 32, (before P (seg n hn)).toNat < (P (seg n hn)).toNat ∧ (P (seg n hn)).toNat ≤ (r 0).val + 512
        ∧ (r 0).val < (P (seg n hn)).toNat)
      ∨ (65536 ≤ (r 0).val ∧ (P (seg 31 (by omega))).toNat ≤ (r 0).val) := by
  have hb : (r 0).val < 81920 := (r 0).isLt
  have er : (BitVec.ofNat 32 (r 0).val).toNat = (r 0).val := (BitVec.toNat_ofNat _ _).trans (Nat.mod_eq_of_lt (by omega))
  have h1 := h3 r
  rw [trd_apply, or_one, or_one, and_one, lastEnd_apply] at h1
  rcases h1 with (h1 | h1) | ⟨h1, h2⟩
  · exact absurd ((congrArg BitVec.toNat (cmpi_eq_iff.mp h1)).trans er) (hr _)
  · obtain ⟨y, hy, h2⟩ := reduce_inLast P r h1
    obtain ⟨e, he⟩ := inLast_apply P y
    rw [he, and_one, and_one, hy, eq_seg e] at h2
    obtain ⟨⟨a, b⟩, c⟩ := h2
    have hle := seg_le h (e 0).val (e 0).isLt
    have hd := seg_dvd h (e 0).val (e 0).isLt
    have hbe := before_le h (e 0).val (e 0).isLt
    rw [slt_iff_toNat (by omega) (by omega)] at a
    rw [slt_iff_toNat (by omega) (by omega), er] at c
    have hs : (IntOp.subi (P (seg (e 0).val (e 0).isLt)) 512#32).toNat = (P (seg (e 0).val (e 0).isLt)).toNat - 512 := by
      show (_ - _ : BitVec 32).toNat = _
      rw [BitVec.toNat_sub]
      show (2 ^ 32 - 512 + _) % 2 ^ 32 = _
      omega
    rw [sle_iff_toNat (by omega) (by omega), er, hs] at b
    exact .inl ⟨_, (e 0).isLt, a, by omega, c⟩
  · rw [sge_iff_toNat (by omega) (by decide), er] at h1
    have := seg_le h 31 (by omega)
    rw [sle_iff_toNat (by omega) (by omega), er] at h2
    exact .inr ⟨h1, h2⟩

end Segments

end Cert.Decode
end
-- ==== Proof.Pre.lean ====
/-
  What the precondition gives of the arguments, and the call's run under it.
-/
module

public import proofs.«01_k».proof.Proof.Run
public import proofs.«01_k».proof.Proof.Decode

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable [Cert.Pre_segments_filled.Facts] {c : Dev nD} {P : Buf (Elt F) (bEnds.view.loc (c : Thread nD τ))}
  {D : Buf (Elt F) (bDest.view.loc (c : Thread nD τ))} {T : FVec F Cert.Pre_segments_filled.S16384x1024 .f32}

theorem ends_eq (n : ℕ) (hn : n < 32) : ends c P n = (BitVec.toNat (w := 32) (P (Cert.Decode.seg n hn))) := by
  unfold ends
  rw [dif_pos hn]
  refine congrArg (fun i => BitVec.toNat (w := 32) (P i)) (funext fun a => ?_)
  have : a = 0 := Subsingleton.elim _ _
  subst this
  rfl

section
variable (h2 : ∀ e, (Cert.Pre_segments_filled.fn (F := F) P D T).2.1 e = 1#1)
include h2

/-- The segments' ends are in order and whole blocks. -/
theorem ends_of_pre : Ends (ends c P) where
  mono n hn := by
    rcases n with _ | n
    · exact Nat.zero_le _
    · show ends c P n ≤ _
      rw [ends_eq n (by omega), ends_eq (n + 1) hn]
      exact Cert.Decode.seg_mono h2 n hn
  le n hn := by rw [ends_eq n hn]; exact Cert.Decode.seg_le h2 n hn
  dvd n hn := by rw [ends_eq n hn]; exact Cert.Decode.seg_dvd h2 n hn

/-- Every row no token goes to lies in a cleared block. -/
theorem cover_of_pre (h3 : ∀ r, (Cert.Pre_segments_filled.fn (F := F) P D T).2.2 r = 1#1) : Cover (c := c) D P := by
  intro x hx
  have hx0 : (x 0).val < 655360 := (x 0).isLt
  have hr : ∀ y, (BitVec.toNat (w := 32) (D y)) ≠ (x 0).val / 8 := fun y hy => by
    have h0 : (y 0).val < 4 := (y 0).isLt
    have h1 : (y 1).val < 16384 := (y 1).isLt
    refine hx (y 0).val (y 1).val ⟨h0, h1, hy.symm.trans ?_⟩
    unfold dst word
    refine congrArg (fun i => BitVec.toNat (w := 32) (D i)) (funext fun a => ?_)
    match a with
    | ⟨0, _⟩ => exact Fin.ext (Nat.mod_eq_of_lt h0).symm
    | ⟨1, _⟩ => exact Fin.ext (Nat.mod_eq_of_lt h1).symm
  have key := Cert.Decode.row_covered h2 h3 (Shape.Idx.ofFin (⟨(x 0).val / 8, by omega⟩ : Fin 81920)) hr
  obtain ⟨i, hi, hi'⟩ := (ends_of_pre h2).covered (r := (x 0).val / 8) (by omega) (by
    rcases key with ⟨n, hn, a, b, d⟩ | ⟨a, b⟩
    · refine .inl ⟨n, hn, ?_, ?_, ?_⟩
      · rw [ends_eq n hn]
        rcases n with _ | n
        · rw [Cert.Decode.before_zero] at a; exact a
        · rw [Cert.Decode.before_succ] at a
          show ends c P n < _
          rw [ends_eq n (by omega)]; exact a
      · rw [ends_eq n hn]; exact Nat.sub_le_iff_le_add.mpr b
      · rw [ends_eq n hn]; exact d
    · refine .inr ⟨a, ?_⟩
      rw [ends_eq 31 (by omega)]; exact b)
  refine ⟨i, ?_⟩
  unfold blockAt
  rw [mem_slab]
  omega

end

/-- The destinations are rows of the result and no two are equal. -/
theorem dests_of_pre (h1 : ∀ j, (Cert.Pre_segments_filled.fn (F := F) P D T).1 j = 1#1) : Dests (c := c) D where
  lt k n _ _ := Cert.Decode.dest_lt h1 _
  inj k n k' n' hk hn hk' hn' e := by
    have h := Cert.Decode.dest_inj h1 _ _ (BitVec.eq_of_toNat_eq e)
    have e0 : k % 4 = k' % 4 := congrArg (fun i : S4x16384.Idx => (i 0).val) h
    have e1 : n % 16384 = n' % 16384 := congrArg (fun i : S4x16384.Idx => (i 1).val) h
    omega

/-- The precondition, at any kind of numbers: the three words are all ones on every device. -/
def Filled (m : (ℓ : Loc nD τ sig) → Buf (Elt F) ℓ) : Prop := ∀ c : Dev nD,
  (Cert.Pre_segments_filled.fn (F := F) (m ((c : Thread nD τ).loc main_arg0)) (m ((c : Thread nD τ).loc main_arg1)) (m ((c : Thread nD τ).loc main_arg2))).1 = (fun _ => 1#1)
  ∧ (Cert.Pre_segments_filled.fn (F := F) (m ((c : Thread nD τ).loc main_arg0)) (m ((c : Thread nD τ).loc main_arg1)) (m ((c : Thread nD τ).loc main_arg2))).2.1 = (fun _ => 1#1)
  ∧ (Cert.Pre_segments_filled.fn (F := F) (m ((c : Thread nD τ).loc main_arg0)) (m ((c : Thread nD τ).loc main_arg1)) (m ((c : Thread nD τ).loc main_arg2))).2.2 = (fun _ => 1#1)

theorem ready_of_pre (m : (ℓ : Loc nD τ sig) → Buf (Elt F) ℓ) (h : Filled m) (c : Dev nD) : Ready m c where
  ends := ends_of_pre (c := c) fun e => congrFun (h c).2.1 e
  dests := dests_of_pre (c := c) fun e => congrFun (h c).1 e
  cover := cover_of_pre (c := c) (fun e => congrFun (h c).2.1 e) fun e => congrFun (h c).2.2 e

/-- The run of the whole program: the result is the tokens' rows at their destinations and zeros elsewhere, the arguments are
    as before, and every semaphore is back at zero. -/
theorem run_filled (m : (ℓ : Loc nD τ sig) → Buf (Elt F) ℓ) (ρ : Dev nD → PrngReg) (h : Filled m) :
    θ_run (defs (F := F)) (onTc (τ := τ) (main (F := F))) ⟨m, fun _ => 0, ρ⟩ (fun r => (∀ c : Dev nD,
      r.2.mem ((c : Thread nD τ).loc main_v1) = final (c := c) (argD m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (θ_run defs _ _).mono ?_ (run_main m ρ (ready_of_pre m h))
  rintro r ⟨hr, hs⟩
  refine ⟨fun c => ⟨?_, ?_, ?_, ?_⟩, hs⟩
  · exact (hr.written c (by decide)).trans (G_out m c)
  · exact ((hr.toR c).2 main_arg0 (Finset.mem_sdiff.mpr ⟨Pipeline.mem_restRefs_of main_arg0 rfl (fun | ⟨0, _⟩ => show main_v0 ≠ main_arg0 by decide), by decide⟩)).trans (V_arg0 m c)
  · exact ((hr.toR c).2 main_arg1 (Finset.mem_sdiff.mpr ⟨Pipeline.mem_restRefs_of main_arg1 rfl (fun | ⟨0, _⟩ => show main_v0 ≠ main_arg1 by decide), by decide⟩)).trans (V_arg1 m c)
  · exact ((hr.toR c).2 main_arg2 (Finset.mem_sdiff.mpr ⟨Pipeline.mem_restRefs_of main_arg2 rfl (fun | ⟨0, _⟩ => show main_v0 ≠ main_arg2 by decide), by decide⟩)).trans (V_arg2 m c)

end Cert.KernelIdeal.Hand
end
-- ==== Proof.RefValue.lean ====
/-
  The reference's result: read at an index, and equal to what the call's run leaves.
-/
module

public import proofs.«01_k».proof.Proof.Pre
public import proofs.«01_k».proof.Proof.Gen.ReferenceIdeal
public import Idealize.ShloMosaic.Lib.Routing.OpsSet
public import Idealize.ShloMosaic.Lib.Claim

@[expose] public section

set_option maxRecDepth 16384

noncomputable section

namespace Cert.RefValue

open Cert.ReferenceIdeal Cert.ReferenceIdeal.Facts Cert.ReferenceIdeal.Facts₀
open Idealize.ShloMosaic Idealize.ShloMosaic.StableHlo.Predicate

variable {F : FTy → Type} [FloatOps F] (D : IVec S4x16384 32) (T : FVec F S16384x1024 .f32)

/-- The destinations the reference indexes with: a negative one moved up by the number of rows. -/
def index : IVec S4x16384x1 32 :=
  broadcastInDim S4x16384x1 ![0, 1] bcast_S4x16384_S4x16384x1_0_1
    (select (cmpi .slt D (broadcastInDim S4x16384 ![] bcast_S_S4x16384 (constantI S_ 32 0#32)))
      (addi D (broadcastInDim S4x16384 ![] bcast_S_S4x16384 (constantI S_ 32 81920#32))) D)

/-- The reference's rows. -/
def rows : FVec F S81920x1024 .f32 :=
  Host.scatter scatter_S81920x1024_S4x16384x1_S4x16384x1024_2_0_0_2 (fun _ b => b)
    (broadcastInDim S81920x1024 ![] bcast_S_S81920x1024 (constant S_ .f32 0x00000000#32)) (index D)
    (broadcastInDim S4x16384x1024 ![1, 2] bcast_S16384x1024_S4x16384x1024_1_2 T)

/-- The reference's result. -/
def result : FVec F S655360x128 .f32 := shapeCast S655360x128 (rows D T) shapeCasts_S81920x1024_S655360x128

variable {D} in
/-- Slot `k`'s element lands at `ι` where the slot's destination is `ι`'s row and the columns agree. -/
theorem lands (hD : ∀ j, (D j).toNat < 81920) (k : S4x16384x1024.Idx) (ι : S81920x1024.Idx) :
    scatter_S81920x1024_S4x16384x1_S4x16384x1024_2_0_0_2.resultIdx? k (index D) = some ι
      ↔ (D (Shape.pair (d := S4x16384.size) (k 0) (k 1))).toNat = (ι 0).val ∧ (k 2).val = (ι 1).val := by
  rw [Routing.resultIdx?_eq_some]
  have hs0 : scatter_S81920x1024_S4x16384x1_S4x16384x1024_2_0_0_2.start k (index D) 0
      = ((D (Shape.pair (d := S4x16384.size) (k 0) (k 1))).toNat : Int) := by
    have hm : (0 : Fin 2) ∈ scatter_S81920x1024_S4x16384x1_S4x16384x1024_2_0_0_2.scatterDimsToOperandDims := List.mem_singleton.mpr rfl
    simp only [ScatterDims.start, dif_pos hm]
    have e : ∀ j, (Scalar.select (IntOp.cmpi .slt (D j) 0#32) (IntOp.addi (D j) 81920#32) (D j)).toInt = ((D j).toNat : Int) := fun j => by
      rw [Routing.wrap_of_lt _ _ (lt_of_lt_of_le (hD j) (by decide)), toInt_eq_toNat_of_lt (lt_of_lt_of_le (hD j) (by decide))]
    refine Eq.trans (e _) ?_
    refine congrArg (fun i => ((D i).toNat : Int)) (funext fun a => ?_)
    match a with
    | ⟨0, _⟩ => exact Fin.ext rfl
    | ⟨1, _⟩ => exact Fin.ext rfl
  have hs1 : scatter_S81920x1024_S4x16384x1_S4x16384x1024_2_0_0_2.start k (index D) 1 = 0 :=
    dif_neg (show (1 : Fin 2) ∉ [(0 : Fin 2)] by decide)
  have hw0 : scatter_S81920x1024_S4x16384x1_S4x16384x1024_2_0_0_2.window k 0 = 0 :=
    dif_neg (show (0 : Fin 2) ∉ S81920x1024.kept [(0 : Fin 2)] by decide)
  have hw1 : scatter_S81920x1024_S4x16384x1_S4x16384x1024_2_0_0_2.window k 1 = (k 2).val := by
    have hm : (1 : Fin 2) ∈ scatter_S81920x1024_S4x16384x1_S4x16384x1024_2_0_0_2.sKept :=
      (show (1 : Fin 2) ∈ S81920x1024.kept [(0 : Fin 2)] by decide)
    unfold ScatterDims.window
    rw [dif_pos hm]
    rfl
  constructor
  · intro h
    have h0 := h 0
    have h1 := h 1
    rw [hs0, hw0] at h0
    rw [hs1, hw1] at h1
    exact ⟨by omega, by omega⟩
  · rintro ⟨h0, h1⟩ a
    match a with
    | ⟨0, _⟩ => show ScatterDims.start _ _ _ 0 + (ScatterDims.window _ _ 0 : Int) = _; rw [hs0, hw0]; show _ = ((ι 0).val : Int); omega
    | ⟨1, _⟩ => show ScatterDims.start _ _ _ 1 + (ScatterDims.window _ _ 1 : Int) = _; rw [hs1, hw1]; show _ = ((ι 1).val : Int); omega

/-- A row some slot goes to holds that slot's token. -/
theorem rows_hit (hD : ∀ j, (D j).toNat < 81920) (hi : ∀ j j', D j = D j' → j = j') (k : Fin 4) (n : Fin 16384) (ι : S81920x1024.Idx)
    (h : (D (Shape.pair (d := S4x16384.size) k n)).toNat = (ι 0).val) :
    rows D T ι = T (Shape.pair (d := S16384x1024.size) n (ι 1)) := by
  refine Routing.scatter_set_hit _ _ _ _ _ _ (fun y hy => ?_) (fun a => match a with | ⟨0, _⟩ => k | ⟨1, _⟩ => n | ⟨2, _⟩ => ι 1)
    ((lands hD _ _).mpr ⟨h, rfl⟩)
  obtain ⟨h0, h1⟩ := (lands hD _ _).mp hy
  have e := hi _ _ (BitVec.eq_of_toNat_eq (h0.trans h.symm))
  have e1 : y 1 = n := congrFun e 1
  refine congrArg T (funext fun a => ?_)
  match a with
  | ⟨0, _⟩ => exact Fin.ext (congrArg Fin.val e1)
  | ⟨1, _⟩ => exact Fin.ext h1

/-- A row no slot goes to is zero. -/
theorem rows_miss (hD : ∀ j, (D j).toNat < 81920) (ι : S81920x1024.Idx) (h : ∀ j, (D j).toNat ≠ (ι 0).val) :
    rows D T ι = FloatOps.ofBits .f32 0x00000000#32 :=
  Routing.scatter_set_miss _ _ _ _ _ fun _ hk => h _ ((lands hD _ _).mp hk).1

/-- The result at an index, in the rows. -/
theorem result_apply (x : S655360x128.Idx) : result D T x
    = rows D T (Shape.pair (d := S81920x1024.size) ⟨(x 0).val / 8, by have : (x 0).val < 655360 := (x 0).isLt; show _ < 81920; omega⟩
        ⟨(x 0).val % 8 * 128 + (x 1).val, by have : (x 1).val < 128 := (x 1).isLt; show _ < 1024; omega⟩) := by
  refine shapeCast_apply _ _ _ _ ?_
  have h0 := Shape.rowMajor_val_two (d := S655360x128.size) x
  refine Eq.trans ?_ h0.symm
  refine (Shape.rowMajor_val_two (d := S81920x1024.size) _).trans ?_
  show (x 0).val / 8 * 1024 + ((x 0).val % 8 * 128 + (x 1).val) = (x 0).val * 128 + (x 1).val
  omega

end Cert.RefValue
end
-- ==== Proof.Final.lean ====
/-
  The call's result and the reference's are one array; the two programs' runs, in the claims' words.
-/
module

public import proofs.«01_k».proof.Proof.Pre
public import proofs.«01_k».proof.Proof.RefValue

@[expose] public section

set_option maxRecDepth 16384

noncomputable section

namespace Cert.KernelIdeal.Hand

open Cert.KernelIdeal Cert.KernelIdeal.Gen Cert.Lend Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- What the host line before the call leaves in the tokens' buffer. -/
theorem argH_eq (m : (ℓ : Loc nD τ sig) → Buf (Elt F) ℓ) (c : Dev nD) :
    argH m c = shapeCast S131072x128 (m ((c : Thread nD τ).loc main_arg2) : FVec F S16384x1024 .f32) Cert.KernelIdeal.Facts₀.shapeCasts_S16384x1024_S131072x128 := rfl

/-- An element of a token, in the array as given. -/
theorem token_eq (T : FVec F S16384x1024 .f32) (n r : ℕ) (hn : n < 16384) (hr : r < 8) (x : Fin 128) :
    token (F := F) (shapeCast S131072x128 T Cert.KernelIdeal.Facts₀.shapeCasts_S16384x1024_S131072x128) n r x
      = T (Shape.pair (d := S16384x1024.size) ⟨n, hn⟩ ⟨r * 128 + x.val, by have := x.isLt; show _ < 1024; omega⟩) := by
  unfold token
  refine shapeCast_apply _ _ _ _ ?_
  refine (Shape.rowMajor_val_two (d := S16384x1024.size) _).trans ?_
  refine Eq.trans ?_ (Shape.rowMajor_val_two (d := S131072x128.size) _).symm
  show n * 1024 + (r * 128 + x.val) = (8 * n + r) % 131072 * 128 + x.val
  omega

/-- The reference's result is what the call leaves. -/
theorem result_eq (c : Dev nD) (D : Buf (Elt F) (bDest.view.loc (c : Thread nD τ))) (T : FVec F S16384x1024 .f32)
    (hD : ∀ j : S4x16384.Idx, BitVec.toNat (w := 32) (D j) < 81920) (hi : ∀ j j' : S4x16384.Idx, D j = D j' → j = j') :
    Cert.RefValue.result D T = final (c := c) D (shapeCast S131072x128 T Cert.KernelIdeal.Facts₀.shapeCasts_S16384x1024_S131072x128) := by
  refine good_final ⟨fun x k n _ hg => ?_, fun _ x hx => ?_⟩
  · obtain ⟨hk, hn, hr⟩ := hg
    have hx1 : (x 1).val < 128 := (x 1).isLt
    rw [Cert.RefValue.result_apply, token_eq T n ((x 0).val % 8) hn (by omega) (x 1)]
    refine Cert.RefValue.rows_hit (D := D) T hD hi ⟨k, hk⟩ ⟨n, hn⟩ _ ?_
    refine Eq.trans ?_ hr.symm
    unfold dst word
    refine congrArg (fun i => BitVec.toNat (w := 32) (D i)) (funext fun a => ?_)
    match a with
    | ⟨0, _⟩ => exact Fin.ext (Nat.mod_eq_of_lt hk).symm
    | ⟨1, _⟩ => exact Fin.ext (Nat.mod_eq_of_lt hn).symm
  · rw [Cert.RefValue.result_apply]
    refine Cert.RefValue.rows_miss (D := D) T hD _ fun y hy => ?_
    have h0 : (y 0).val < 4 := (y 0).isLt
    have h1 : (y 1).val < 16384 := (y 1).isLt
    refine hx (y 0).val (y 1).val ⟨h0, h1, hy.symm.trans ?_⟩
    unfold dst word
    refine congrArg (fun i => BitVec.toNat (w := 32) (D i)) (funext fun a => ?_)
    match a with
    | ⟨0, _⟩ => exact Fin.ext (Nat.mod_eq_of_lt h0).symm
    | ⟨1, _⟩ => exact Fin.ext (Nat.mod_eq_of_lt h1).symm

end Cert.KernelIdeal.Hand

namespace Cert.Final

open Idealize.ShloMosaic Idealize.ShloMosaic.TcCoe Idealize.SL.Sem

/-- The reference's run: its result, its arguments as before, every semaphore at zero. -/
theorem run_reference {F : FTy → Type} [FloatOps F]
    (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      (fun r => ∀ c : Dev Cert.ReferenceIdeal.nD,
        r.2.mem ((c.tc : Thread Cert.ReferenceIdeal.nD Cert.ReferenceIdeal.τ).loc Cert.ReferenceIdeal.main_v9)
          = Cert.RefValue.result (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  hlo_run
  all_goals rfl

end Cert.Final
end
-- ==== Proof.Same.lean ====
/-
  A program as printed and its idealization are one program at any one kind of numbers: their texts are the same.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal

@[expose] public section

set_option maxHeartbeats 1000000

noncomputable section

namespace Cert.Same

open Idealize.ShloMosaic Idealize.ShloMosaic.TcCoe Idealize.SL.Sem

theorem body_eq : @Cert.Kernel.cc0_dispatch Bits _ Cert.Kernel.Gen.facts = @Cert.KernelIdeal.cc0_dispatch Bits _ Cert.KernelIdeal.Gen.facts := rfl

theorem bodies_eq : Cert.Kernel.defs₀ (F := Bits) = Cert.KernelIdeal.defs₀ := by
  unfold Cert.Kernel.defs₀ Cert.KernelIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem defs_eq : Cert.Kernel.defs (F := Bits) = Cert.KernelIdeal.defs := by
  unfold Cert.Kernel.defs Cert.KernelIdeal.defs
  rw [bodies_eq]
  rfl

theorem main_eq : Cert.Kernel.main (F := Bits) = Cert.KernelIdeal.main := rfl

theorem reference_bodies_eq : Cert.Reference.defs₀ (F := Bits) = Cert.ReferenceIdeal.defs₀ := by
  unfold Cert.Reference.defs₀ Cert.ReferenceIdeal.defs₀
  exact congrArg Defs.onTc (funext fun l => l.elim0)

theorem reference_defs_eq : Cert.Reference.defs (F := Bits) = Cert.ReferenceIdeal.defs := by
  unfold Cert.Reference.defs Cert.ReferenceIdeal.defs
  rw [reference_bodies_eq]

theorem reference_main_eq : Cert.Reference.main (F := Bits) = Cert.ReferenceIdeal.main := rfl

end Cert.Same

end
-- ==== Proof.ProjBlocks.lean ====
/- What one grid point of the input projection leaves in its seven result blocks and in the scratch that holds
   the rearranged weight matrix, each as a function of the point's input blocks. -/
module

public import proofs.«01_k».proof.Proof.Gen.Kernel2Ideal.Frame
public import Idealize.ShloMosaic.Lib.Pipeline.Value

@[expose] public section

set_option maxRecDepth 4000

noncomputable section

namespace Cert.Kernel2Ideal.Hand

open Cert.Kernel2Ideal Cert.Kernel2Ideal.Gen Idealize.ShloMosaic Idealize.ShloMosaic.TcCoe Idealize.SL.Sem

variable {F : FTy → Type} [FloatOps F]

/-- Two zero offsets. -/
theorem off2 : (![0, 0] : Fin 2 → Nat) = fun _ => 0 := funext fun a => by fin_cases a <;> rfl
/-- Three zero offsets. -/
theorem off3 : (![0, 0, 0] : Fin 3 → Nat) = fun _ => 0 := funext fun a => by fin_cases a <;> rfl

/-- Column `n` of the weight matrix, at row `r`. -/
def wcol (x : Vec F S1024x5664 .bf16) (r : Fin 1024) (n : ℕ) (h : n < 5664) : Elt F .bf16 :=
  x (fun a => match a with | ⟨0, _⟩ => r | ⟨1, _⟩ => ⟨n, h⟩)

/-- The weight matrix with its columns rearranged: the six wide groups first, then the two narrow ones, then zeros. -/
def arranged (x : Vec F S1024x5664 .bf16) : Vec F S1024x5760 .bf16 := fun i =>
  if h0 : (i 1).val < 2560 then wcol x (i 0) (i 1).val (by omega)
  else if h1 : (i 1).val < 4608 then wcol x (i 0) ((i 1).val + 16) (by omega)
  else if h2 : (i 1).val < 5632 then wcol x (i 0) ((i 1).val + 32) (by omega)
  else if h3 : (i 1).val < 5648 then wcol x (i 0) ((i 1).val - 3072) (by omega)
  else if h4 : (i 1).val < 5664 then wcol x (i 0) ((i 1).val - 1024) (by omega)
  else Scalar.ofBits .bf16 0x0000#16

/-- Its columns below 2560 are the matrix's own; -/
theorem arranged_low (x : Vec F S1024x5664 .bf16) (i : S1024x5760.Idx) (h : 0 ≤ (i 1).val ∧ (i 1).val < 2560) :
    arranged x i = wcol x (i 0) (i 1).val (by omega) := dif_pos h.2
/-- from 2560 to 4608, sixteen columns on; -/
theorem arranged_mid (x : Vec F S1024x5664 .bf16) (i : S1024x5760.Idx) (h : 2560 ≤ (i 1).val ∧ (i 1).val < 4608) :
    arranged x i = wcol x (i 0) ((i 1).val + 16) (by omega) := (dif_neg (by omega)).trans (dif_pos h.2)
/-- from 4608 to 5632, thirty-two columns on; -/
theorem arranged_high (x : Vec F S1024x5664 .bf16) (i : S1024x5760.Idx) (h : 4608 ≤ (i 1).val ∧ (i 1).val < 5632) :
    arranged x i = wcol x (i 0) ((i 1).val + 32) (by omega) :=
  (dif_neg (by omega)).trans ((dif_neg (by omega)).trans (dif_pos h.2))
/-- then the sixteen step-size columns; -/
theorem arranged_dt (x : Vec F S1024x5664 .bf16) (i : S1024x5760.Idx) (h : 5632 ≤ (i 1).val ∧ (i 1).val < 5648) :
    arranged x i = wcol x (i 0) ((i 1).val - 3072) (by omega) :=
  (dif_neg (by omega)).trans ((dif_neg (by omega)).trans ((dif_neg (by omega)).trans (dif_pos h.2)))
/-- then the sixteen gate columns; -/
theorem arranged_gate (x : Vec F S1024x5664 .bf16) (i : S1024x5760.Idx) (h : 5648 ≤ (i 1).val ∧ (i 1).val < 5664) :
    arranged x i = wcol x (i 0) ((i 1).val - 1024) (by omega) :=
  (dif_neg (by omega)).trans ((dif_neg (by omega)).trans ((dif_neg (by omega)).trans ((dif_neg (by omega)).trans (dif_pos h.2))))
/-- and zeros last. -/
theorem arranged_pad (x : Vec F S1024x5664 .bf16) (i : S1024x5760.Idx) (h : 5664 ≤ (i 1).val) :
    arranged x i = Scalar.ofBits .bf16 0x0000#16 :=
  (dif_neg (by omega)).trans ((dif_neg (by omega)).trans ((dif_neg (by omega)).trans ((dif_neg (by omega)).trans (dif_neg (by omega)))))

/-- The nine stores that fill the scratch at the first point, the last first. -/
def fills (x : Vec F S1024x5664 .bf16) : List (View.Piece (Elt F) S1024x5760 .bf16) :=
  [⟨Rect.unit (s := S1024x5760) ![0, 5664] S1024x96.size inb_S1024x5760_S1024x96_0_5664, k0_pay15⟩,
   ⟨Rect.unit (s := S1024x5760) ![0, 5648] S1024x16.size inb_S1024x5760_S1024x16_0_5648,
    View.ld x (Rect.unit (s := S1024x5664) ![0, 4624] S1024x16.size inb_S1024x5664_S1024x16_0_4624)⟩,
   ⟨Rect.unit (s := S1024x5760) ![0, 5632] S1024x16.size inb_S1024x5760_S1024x16_0_5632,
    View.ld x (Rect.unit (s := S1024x5664) ![0, 2560] S1024x16.size inb_S1024x5664_S1024x16_0_2560)⟩,
   ⟨Rect.unit (s := S1024x5760) ![0, 4608] S1024x1024.size inb_S1024x5760_S1024x1024_0_4608,
    View.ld x (Rect.unit (s := S1024x5664) ![0, 4640] S1024x1024.size inb_S1024x5664_S1024x1024_0_4640)⟩,
   ⟨Rect.unit (s := S1024x5760) ![0, 3584] S1024x1024.size inb_S1024x5760_S1024x1024_0_3584,
    View.ld x (Rect.unit (s := S1024x5664) ![0, 3600] S1024x1024.size inb_S1024x5664_S1024x1024_0_3600)⟩,
   ⟨Rect.unit (s := S1024x5760) ![0, 3072] S1024x512.size inb_S1024x5760_S1024x512_0_3072,
    View.ld x (Rect.unit (s := S1024x5664) ![0, 3088] S1024x512.size inb_S1024x5664_S1024x512_0_3088)⟩,
   ⟨Rect.unit (s := S1024x5760) ![0, 2560] S1024x512.size inb_S1024x5760_S1024x512_0_2560,
    View.ld x (Rect.unit (s := S1024x5664) ![0, 2576] S1024x512.size inb_S1024x5664_S1024x512_0_2576)⟩,
   ⟨Rect.unit (s := S1024x5760) ![0, 1024] S1024x1536.size inb_S1024x5760_S1024x1536_0_1024,
    View.ld x (Rect.unit (s := S1024x5664) ![0, 1024] S1024x1536.size inb_S1024x5664_S1024x1536_0_1024)⟩,
   ⟨Rect.unit (s := S1024x5760) ![0, 0] S1024x1024.size inb_S1024x5760_S1024x1024_0_0,
    View.ld x (Rect.unit (s := S1024x5664) ![0, 0] S1024x1024.size inb_S1024x5664_S1024x1024_0_0)⟩]

/-- What the nine stores leave is the rearranged matrix: each stores its columns of it, and together they cover it. -/
theorem canon_fills (x : Vec F S1024x5664 .bf16) : View.canon (fills x) = arranged x := by
  funext y
  refine View.canon_apply_of_pieces (arranged x) (fills x) ?_ y ?_
  · intro p hp
    simp only [fills, List.mem_cons, List.not_mem_nil, or_false] at hp
    rcases hp with rfl | rfl | rfl | rfl | rfl | rfl | rfl | rfl | rfl <;> intro z
    · have hz : (z 1).val < 96 := (z 1).isLt
      exact (arranged_pad x _ (by show 5664 ≤ 5664 + 1 * (z 1).val; omega)).symm
    · have hz : (z 1).val < 16 := (z 1).isLt
      refine Eq.trans ?_ (arranged_gate x _ (by show 5648 ≤ 5648 + 1 * (z 1).val ∧ 5648 + 1 * (z 1).val < 5664; omega)).symm
      exact congrArg x (funext fun a => match a with
        | ⟨0, _⟩ => Fin.ext (by show 0 + 1 * (z 0).val = 0 + 1 * (z 0).val; rfl)
        | ⟨1, _⟩ => Fin.ext (by show 4624 + 1 * (z 1).val = 5648 + 1 * (z 1).val - 1024; omega))
    · have hz : (z 1).val < 16 := (z 1).isLt
      refine Eq.trans ?_ (arranged_dt x _ (by show 5632 ≤ 5632 + 1 * (z 1).val ∧ 5632 + 1 * (z 1).val < 5648; omega)).symm
      exact congrArg x (funext fun a => match a with
        | ⟨0, _⟩ => Fin.ext (by show 0 + 1 * (z 0).val = 0 + 1 * (z 0).val; rfl)
        | ⟨1, _⟩ => Fin.ext (by show 2560 + 1 * (z 1).val = 5632 + 1 * (z 1).val - 3072; omega))
    · have hz : (z 1).val < 1024 := (z 1).isLt
      refine Eq.trans ?_ (arranged_high x _ (by show 4608 ≤ 4608 + 1 * (z 1).val ∧ 4608 + 1 * (z 1).val < 5632; omega)).symm
      exact congrArg x (funext fun a => match a with
        | ⟨0, _⟩ => Fin.ext (by show 0 + 1 * (z 0).val = 0 + 1 * (z 0).val; rfl)
        | ⟨1, _⟩ => Fin.ext (by show 4640 + 1 * (z 1).val = 4608 + 1 * (z 1).val + 32; omega))
    · have hz : (z 1).val < 1024 := (z 1).isLt
      refine Eq.trans ?_ (arranged_mid x _ (by show 2560 ≤ 3584 + 1 * (z 1).val ∧ 3584 + 1 * (z 1).val < 4608; omega)).symm
      exact congrArg x (funext fun a => match a with
        | ⟨0, _⟩ => Fin.ext (by show 0 + 1 * (z 0).val = 0 + 1 * (z 0).val; rfl)
        | ⟨1, _⟩ => Fin.ext (by show 3600 + 1 * (z 1).val = 3584 + 1 * (z 1).val + 16; omega))
    · have hz : (z 1).val < 512 := (z 1).isLt
      refine Eq.trans ?_ (arranged_mid x _ (by show 2560 ≤ 3072 + 1 * (z 1).val ∧ 3072 + 1 * (z 1).val < 4608; omega)).symm
      exact congrArg x (funext fun a => match a with
        | ⟨0, _⟩ => Fin.ext (by show 0 + 1 * (z 0).val = 0 + 1 * (z 0).val; rfl)
        | ⟨1, _⟩ => Fin.ext (by show 3088 + 1 * (z 1).val = 3072 + 1 * (z 1).val + 16; omega))
    · have hz : (z 1).val < 512 := (z 1).isLt
      refine Eq.trans ?_ (arranged_mid x _ (by show 2560 ≤ 2560 + 1 * (z 1).val ∧ 2560 + 1 * (z 1).val < 4608; omega)).symm
      exact congrArg x (funext fun a => match a with
        | ⟨0, _⟩ => Fin.ext (by show 0 + 1 * (z 0).val = 0 + 1 * (z 0).val; rfl)
        | ⟨1, _⟩ => Fin.ext (by show 2576 + 1 * (z 1).val = 2560 + 1 * (z 1).val + 16; omega))
    · have hz : (z 1).val < 1536 := (z 1).isLt
      refine Eq.trans ?_ (arranged_low x _ (by show 0 ≤ 1024 + 1 * (z 1).val ∧ 1024 + 1 * (z 1).val < 2560; omega)).symm
      exact congrArg x (funext fun a => match a with
        | ⟨0, _⟩ => Fin.ext (by show 0 + 1 * (z 0).val = 0 + 1 * (z 0).val; rfl)
        | ⟨1, _⟩ => Fin.ext (by show 1024 + 1 * (z 1).val = 1024 + 1 * (z 1).val; omega))
    · have hz : (z 1).val < 1024 := (z 1).isLt
      refine Eq.trans ?_ (arranged_low x _ (by show 0 ≤ 0 + 1 * (z 1).val ∧ 0 + 1 * (z 1).val < 2560; omega)).symm
      exact congrArg x (funext fun a => match a with
        | ⟨0, _⟩ => Fin.ext (by show 0 + 1 * (z 0).val = 0 + 1 * (z 0).val; rfl)
        | ⟨1, _⟩ => Fin.ext (by show 0 + 1 * (z 1).val = 0 + 1 * (z 1).val; omega))
  · have hy : (y 1).val < 5760 := (y 1).isLt
    have h0 : (y 0).val < 1024 := (y 0).isLt
    by_cases c0 : 5664 ≤ (y 1).val
    · refine ⟨_, List.mem_of_getElem? (i := 0) rfl, ?_⟩
      show y ∈ (Rect.unit (s := S1024x5760) ![0, 5664] S1024x96.size inb_S1024x5760_S1024x96_0_5664).set
      rw [Rect.mem_set_unit]
      exact fun a => match a with
        | ⟨0, _⟩ => ⟨Nat.zero_le _, by show (y 0).val < 0 + 1024; omega⟩
        | ⟨1, _⟩ => ⟨by show 5664 ≤ (y 1).val; omega, by show (y 1).val < 5664 + 96; omega⟩
    by_cases c1 : 5648 ≤ (y 1).val
    · refine ⟨_, List.mem_of_getElem? (i := 1) rfl, ?_⟩
      show y ∈ (Rect.unit (s := S1024x5760) ![0, 5648] S1024x16.size inb_S1024x5760_S1024x16_0_5648).set
      rw [Rect.mem_set_unit]
      exact fun a => match a with
        | ⟨0, _⟩ => ⟨Nat.zero_le _, by show (y 0).val < 0 + 1024; omega⟩
        | ⟨1, _⟩ => ⟨by show 5648 ≤ (y 1).val; omega, by show (y 1).val < 5648 + 16; omega⟩
    by_cases c2 : 5632 ≤ (y 1).val
    · refine ⟨_, List.mem_of_getElem? (i := 2) rfl, ?_⟩
      show y ∈ (Rect.unit (s := S1024x5760) ![0, 5632] S1024x16.size inb_S1024x5760_S1024x16_0_5632).set
      rw [Rect.mem_set_unit]
      exact fun a => match a with
        | ⟨0, _⟩ => ⟨Nat.zero_le _, by show (y 0).val < 0 + 1024; omega⟩
        | ⟨1, _⟩ => ⟨by show 5632 ≤ (y 1).val; omega, by show (y 1).val < 5632 + 16; omega⟩
    by_cases c3 : 4608 ≤ (y 1).val
    · refine ⟨_, List.mem_of_getElem? (i := 3) rfl, ?_⟩
      show y ∈ (Rect.unit (s := S1024x5760) ![0, 4608] S1024x1024.size inb_S1024x5760_S1024x1024_0_4608).set
      rw [Rect.mem_set_unit]
      exact fun a => match a with
        | ⟨0, _⟩ => ⟨Nat.zero_le _, by show (y 0).val < 0 + 1024; omega⟩
        | ⟨1, _⟩ => ⟨by show 4608 ≤ (y 1).val; omega, by show (y 1).val < 4608 + 1024; omega⟩
    by_cases c4 : 3584 ≤ (y 1).val
    · refine ⟨_, List.mem_of_getElem? (i := 4) rfl, ?_⟩
      show y ∈ (Rect.unit (s := S1024x5760) ![0, 3584] S1024x1024.size inb_S1024x5760_S1024x1024_0_3584).set
      rw [Rect.mem_set_unit]
      exact fun a => match a with
        | ⟨0, _⟩ => ⟨Nat.zero_le _, by show (y 0).val < 0 + 1024; omega⟩
        | ⟨1, _⟩ => ⟨by show 3584 ≤ (y 1).val; omega, by show (y 1).val < 3584 + 1024; omega⟩
    by_cases c5 : 3072 ≤ (y 1).val
    · refine ⟨_, List.mem_of_getElem? (i := 5) rfl, ?_⟩
      show y ∈ (Rect.unit (s := S1024x5760) ![0, 3072] S1024x512.size inb_S1024x5760_S1024x512_0_3072).set
      rw [Rect.mem_set_unit]
      exact fun a => match a with
        | ⟨0, _⟩ => ⟨Nat.zero_le _, by show (y 0).val < 0 + 1024; omega⟩
        | ⟨1, _⟩ => ⟨by show 3072 ≤ (y 1).val; omega, by show (y 1).val < 3072 + 512; omega⟩
    by_cases c6 : 2560 ≤ (y 1).val
    · refine ⟨_, List.mem_of_getElem? (i := 6) rfl, ?_⟩
      show y ∈ (Rect.unit (s := S1024x5760) ![0, 2560] S1024x512.size inb_S1024x5760_S1024x512_0_2560).set
      rw [Rect.mem_set_unit]
      exact fun a => match a with
        | ⟨0, _⟩ => ⟨Nat.zero_le _, by show (y 0).val < 0 + 1024; omega⟩
        | ⟨1, _⟩ => ⟨by show 2560 ≤ (y 1).val; omega, by show (y 1).val < 2560 + 512; omega⟩
    by_cases c7 : 1024 ≤ (y 1).val
    · refine ⟨_, List.mem_of_getElem? (i := 7) rfl, ?_⟩
      show y ∈ (Rect.unit (s := S1024x5760) ![0, 1024] S1024x1536.size inb_S1024x5760_S1024x1536_0_1024).set
      rw [Rect.mem_set_unit]
      exact fun a => match a with
        | ⟨0, _⟩ => ⟨Nat.zero_le _, by show (y 0).val < 0 + 1024; omega⟩
        | ⟨1, _⟩ => ⟨by show 1024 ≤ (y 1).val; omega, by show (y 1).val < 1024 + 1536; omega⟩
    by_cases c8 : 0 ≤ (y 1).val
    · refine ⟨_, List.mem_of_getElem? (i := 8) rfl, ?_⟩
      show y ∈ (Rect.unit (s := S1024x5760) ![0, 0] S1024x1024.size inb_S1024x5760_S1024x1024_0_0).set
      rw [Rect.mem_set_unit]
      exact fun a => match a with
        | ⟨0, _⟩ => ⟨Nat.zero_le _, by show (y 0).val < 0 + 1024; omega⟩
        | ⟨1, _⟩ => ⟨by show 0 ≤ (y 1).val; omega, by show (y 1).val < 0 + 1024; omega⟩
    exact absurd (Nat.zero_le _) c8

variable (c : Dev nD) (i : grid0.Coords)
  (a1 : Memref sig .tc .vmem S512x1024 .f32) (h1 : a1.IsWhole)
  (a2 : Memref sig .tc .vmem S1x1x1024 .f32) (h2 : a2.IsWhole)
  (a3 : Memref sig .tc .vmem S1x1x1024 .f32) (h3 : a3.IsWhole)
  (a4 : Memref sig .tc .vmem S1x1024 .f32) (h4 : a4.IsWhole)
  (a5 : Memref sig .tc .vmem S1024x5664 .bf16) (h5 : a5.IsWhole)
  (a6 : Memref sig .tc .vmem S512x1024 .bf16) (h6 : a6.IsWhole)
  (a7 : Memref sig .tc .vmem S512x1536 .bf16) (h7 : a7.IsWhole)
  (a8 : Memref sig .tc .vmem S512x512 .bf16) (h8 : a8.IsWhole)
  (a9 : Memref sig .tc .vmem S512x512 .bf16) (h9 : a9.IsWhole)
  (a10 : Memref sig .tc .vmem S512x1024 .bf16) (h10 : a10.IsWhole)
  (a11 : Memref sig .tc .vmem S512x1024 .bf16) (h11 : a11.IsWhole)
  (a12 : Memref sig .tc .vmem S512x128 .f32) (h12 : a12.IsWhole)
  (a13 : Memref sig .tc .vmem S1024x5760 .bf16) (h13 : a13.IsWhole)
  (x0 : Vec F S512x1024 .f32) (x1 : Vec F S1x1x1024 .f32) (x2 : Vec F S1x1x1024 .f32) (x3 : Vec F S1x1024 .f32)
  (x4 : Vec F S1024x5664 .bf16) (xs : Vec F S1024x5760 .bf16)

/-- After the first point the scratch holds the rearranged matrix. -/
theorem stored_A (hc : cond0_0 i) : sout0_A_0 c i a1 h1 a2 h2 a3 h3 a4 h4 a5 h5 a6 h6 a7 h7 a8 h8 a9 h9 a10 h10 a11 h11 a12 h12 a13 h13 hc x0 x1 x2 x3 x4 = arranged x4 := by
  unfold sout0_A_0
  rw [View.read_writes_junk_eq_canon]
  refine Eq.trans ?_ (canon_fills x4)
  unfold kernelRun0_A
  dsimp only
  sl_unfold_words
  simp only [View.readAt_eq_ld, h5.read_unread, k0_pay7, k0_pay8, k0_pay9, k0_pay10, k0_pay11, k0_pay12, k0_pay13,
    k0_pay14, shapeCast_self]
  rfl

/-- The normed and modulated rows of a point, which its seven products share. -/
abbrev rows (x0 : Vec F S512x1024 .f32) (x1 x2 : Vec F S1x1x1024 .f32) (x3 : Vec F S1x1024 .f32) : FVec F S512x1024 .bf16 :=
  k0_pay16 x0 x3 x1 x2

/-- Result 0 at a later point: the point's rows by the scratch's columns from 0. -/
theorem out5_B (hc : ¬cond0_0 i) : out0_B_5 c i a1 h1 a2 h2 a3 h3 a4 h4 a5 h5 a6 h6 a7 h7 a8 h8 a9 h9 a10 h10 a11 h11 a12 h12 a13 h13 hc x0 x1 x2 x3 x4 xs
    = k0_pay17 x0 x3 x1 x2 (View.ld xs (Rect.unit (s := S1024x5760) ![0, 0] S1024x1024.size inb_S1024x5760_S1024x1024_0_0)) := by
  unfold out0_B_5
  rw [View.read_writes_junk_eq_canon]
  unfold kernelRun0_B
  dsimp only
  sl_unfold_words
  rw [View.canon_unit_zero off2]
  simp only [View.readAt_eq_ld, h1.read_unread, h2.read_unread, h3.read_unread, h4.read_unread, h13.read_unread,
    View.ld_unit_zero (S := S512x1024) off2, View.ld_unit_zero (S := S1x1024) off2, View.ld_unit_zero (S := S1x1x1024) off3]
  try rfl

/-- Result 0 at the first point: the same by the rearranged matrix. -/
theorem out5_A (hc : cond0_0 i) : out0_A_5 c i a1 h1 a2 h2 a3 h3 a4 h4 a5 h5 a6 h6 a7 h7 a8 h8 a9 h9 a10 h10 a11 h11 a12 h12 a13 h13 hc x0 x1 x2 x3 x4
    = k0_pay17 x0 x3 x1 x2 (View.ld (arranged x4) (Rect.unit (s := S1024x5760) ![0, 0] S1024x1024.size inb_S1024x5760_S1024x1024_0_0)) := by
  unfold out0_A_5
  rw [View.read_writes_junk_eq_canon]
  refine Eq.trans ?_ (congrArg (fun W => k0_pay17 x0 x3 x1 x2 (View.ld W (Rect.unit (s := S1024x5760) ![0, 0] S1024x1024.size inb_S1024x5760_S1024x1024_0_0))) (canon_fills x4))
  dsimp only
  unfold kernelRun0_A
  dsimp only
  sl_unfold_words
  rw [View.canon_unit_zero off2]
  simp only [View.readCov_eq_canon', View.readAt_eq_ld, h1.read_unread, h2.read_unread, h3.read_unread, h4.read_unread,
    h5.read_unread, View.ld_unit_zero (S := S512x1024) off2, View.ld_unit_zero (S := S1x1024) off2,
    View.ld_unit_zero (S := S1x1x1024) off3, k0_pay7, k0_pay8, k0_pay9, k0_pay10, k0_pay11, k0_pay12, k0_pay13,
    k0_pay14, shapeCast_self]
  rfl

/-- Result 1 at a later point: the point's rows by the scratch's columns from 1024. -/
theorem out6_B (hc : ¬cond0_0 i) : out0_B_6 c i a1 h1 a2 h2 a3 h3 a4 h4 a5 h5 a6 h6 a7 h7 a8 h8 a9 h9 a10 h10 a11 h11 a12 h12 a13 h13 hc x0 x1 x2 x3 x4 xs
    = k0_pay1 (rows x0 x1 x2 x3) (View.ld xs (Rect.unit (s := S1024x5760) ![0, 1024] S1024x1536.size inb_S1024x5760_S1024x1536_0_1024)) := by
  unfold out0_B_6
  rw [View.read_writes_junk_eq_canon]
  unfold kernelRun0_B
  dsimp only
  sl_unfold_words
  rw [View.canon_unit_zero off2]
  simp only [View.readAt_eq_ld, h1.read_unread, h2.read_unread, h3.read_unread, h4.read_unread, h13.read_unread,
    View.ld_unit_zero (S := S512x1024) off2, View.ld_unit_zero (S := S1x1024) off2, View.ld_unit_zero (S := S1x1x1024) off3]
  try rfl

/-- Result 1 at the first point: the same by the rearranged matrix. -/
theorem out6_A (hc : cond0_0 i) : out0_A_6 c i a1 h1 a2 h2 a3 h3 a4 h4 a5 h5 a6 h6 a7 h7 a8 h8 a9 h9 a10 h10 a11 h11 a12 h12 a13 h13 hc x0 x1 x2 x3 x4
    = k0_pay1 (rows x0 x1 x2 x3) (View.ld (arranged x4) (Rect.unit (s := S1024x5760) ![0, 1024] S1024x1536.size inb_S1024x5760_S1024x1536_0_1024)) := by
  unfold out0_A_6
  rw [View.read_writes_junk_eq_canon]
  refine Eq.trans ?_ (congrArg (fun W => k0_pay1 (rows x0 x1 x2 x3) (View.ld W (Rect.unit (s := S1024x5760) ![0, 1024] S1024x1536.size inb_S1024x5760_S1024x1536_0_1024))) (canon_fills x4))
  dsimp only
  unfold kernelRun0_A
  dsimp only
  sl_unfold_words
  rw [View.canon_unit_zero off2]
  simp only [View.readCov_eq_canon', View.readAt_eq_ld, h1.read_unread, h2.read_unread, h3.read_unread, h4.read_unread,
    h5.read_unread, View.ld_unit_zero (S := S512x1024) off2, View.ld_unit_zero (S := S1x1024) off2,
    View.ld_unit_zero (S := S1x1x1024) off3, k0_pay7, k0_pay8, k0_pay9, k0_pay10, k0_pay11, k0_pay12, k0_pay13,
    k0_pay14, shapeCast_self]
  rfl

/-- Result 2 at a later point: the point's rows by the scratch's columns from 2560. -/
theorem out7_B (hc : ¬cond0_0 i) : out0_B_7 c i a1 h1 a2 h2 a3 h3 a4 h4 a5 h5 a6 h6 a7 h7 a8 h8 a9 h9 a10 h10 a11 h11 a12 h12 a13 h13 hc x0 x1 x2 x3 x4 xs
    = k0_pay2 (rows x0 x1 x2 x3) (View.ld xs (Rect.unit (s := S1024x5760) ![0, 2560] S1024x512.size inb_S1024x5760_S1024x512_0_2560)) := by
  unfold out0_B_7
  rw [View.read_writes_junk_eq_canon]
  unfold kernelRun0_B
  dsimp only
  sl_unfold_words
  rw [View.canon_unit_zero off2]
  simp only [View.readAt_eq_ld, h1.read_unread, h2.read_unread, h3.read_unread, h4.read_unread, h13.read_unread,
    View.ld_unit_zero (S := S512x1024) off2, View.ld_unit_zero (S := S1x1024) off2, View.ld_unit_zero (S := S1x1x1024) off3]
  try rfl

/-- Result 2 at the first point: the same by the rearranged matrix. -/
theorem out7_A (hc : cond0_0 i) : out0_A_7 c i a1 h1 a2 h2 a3 h3 a4 h4 a5 h5 a6 h6 a7 h7 a8 h8 a9 h9 a10 h10 a11 h11 a12 h12 a13 h13 hc x0 x1 x2 x3 x4
    = k0_pay2 (rows x0 x1 x2 x3) (View.ld (arranged x4) (Rect.unit (s := S1024x5760) ![0, 2560] S1024x512.size inb_S1024x5760_S1024x512_0_2560)) := by
  unfold out0_A_7
  rw [View.read_writes_junk_eq_canon]
  refine Eq.trans ?_ (congrArg (fun W => k0_pay2 (rows x0 x1 x2 x3) (View.ld W (Rect.unit (s := S1024x5760) ![0, 2560] S1024x512.size inb_S1024x5760_S1024x512_0_2560))) (canon_fills x4))
  dsimp only
  unfold kernelRun0_A
  dsimp only
  sl_unfold_words
  rw [View.canon_unit_zero off2]
  simp only [View.readCov_eq_canon', View.readAt_eq_ld, h1.read_unread, h2.read_unread, h3.read_unread, h4.read_unread,
    h5.read_unread, View.ld_unit_zero (S := S512x1024) off2, View.ld_unit_zero (S := S1x1024) off2,
    View.ld_unit_zero (S := S1x1x1024) off3, k0_pay7, k0_pay8, k0_pay9, k0_pay10, k0_pay11, k0_pay12, k0_pay13,
    k0_pay14, shapeCast_self]
  rfl

/-- Result 3 at a later point: the point's rows by the scratch's columns from 3072. -/
theorem out8_B (hc : ¬cond0_0 i) : out0_B_8 c i a1 h1 a2 h2 a3 h3 a4 h4 a5 h5 a6 h6 a7 h7 a8 h8 a9 h9 a10 h10 a11 h11 a12 h12 a13 h13 hc x0 x1 x2 x3 x4 xs
    = k0_pay3 (rows x0 x1 x2 x3) (View.ld xs (Rect.unit (s := S1024x5760) ![0, 3072] S1024x512.size inb_S1024x5760_S1024x512_0_3072)) := by
  unfold out0_B_8
  rw [View.read_writes_junk_eq_canon]
  unfold kernelRun0_B
  dsimp only
  sl_unfold_words
  rw [View.canon_unit_zero off2]
  simp only [View.readAt_eq_ld, h1.read_unread, h2.read_unread, h3.read_unread, h4.read_unread, h13.read_unread,
    View.ld_unit_zero (S := S512x1024) off2, View.ld_unit_zero (S := S1x1024) off2, View.ld_unit_zero (S := S1x1x1024) off3]
  try rfl

/-- Result 3 at the first point: the same by the rearranged matrix. -/
theorem out8_A (hc : cond0_0 i) : out0_A_8 c i a1 h1 a2 h2 a3 h3 a4 h4 a5 h5 a6 h6 a7 h7 a8 h8 a9 h9 a10 h10 a11 h11 a12 h12 a13 h13 hc x0 x1 x2 x3 x4
    = k0_pay3 (rows x0 x1 x2 x3) (View.ld (arranged x4) (Rect.unit (s := S1024x5760) ![0, 3072] S1024x512.size inb_S1024x5760_S1024x512_0_3072)) := by
  unfold out0_A_8
  rw [View.read_writes_junk_eq_canon]
  refine Eq.trans ?_ (congrArg (fun W => k0_pay3 (rows x0 x1 x2 x3) (View.ld W (Rect.unit (s := S1024x5760) ![0, 3072] S1024x512.size inb_S1024x5760_S1024x512_0_3072))) (canon_fills x4))
  dsimp only
  unfold kernelRun0_A
  dsimp only
  sl_unfold_words
  rw [View.canon_unit_zero off2]
  simp only [View.readCov_eq_canon', View.readAt_eq_ld, h1.read_unread, h2.read_unread, h3.read_unread, h4.read_unread,
    h5.read_unread, View.ld_unit_zero (S := S512x1024) off2, View.ld_unit_zero (S := S1x1024) off2,
    View.ld_unit_zero (S := S1x1x1024) off3, k0_pay7, k0_pay8, k0_pay9, k0_pay10, k0_pay11, k0_pay12, k0_pay13,
    k0_pay14, shapeCast_self]
  rfl

/-- Result 4 at a later point: the point's rows by the scratch's columns from 3584. -/
theorem out9_B (hc : ¬cond0_0 i) : out0_B_9 c i a1 h1 a2 h2 a3 h3 a4 h4 a5 h5 a6 h6 a7 h7 a8 h8 a9 h9 a10 h10 a11 h11 a12 h12 a13 h13 hc x0 x1 x2 x3 x4 xs
    = k0_pay4 (rows x0 x1 x2 x3) (View.ld xs (Rect.unit (s := S1024x5760) ![0, 3584] S1024x1024.size inb_S1024x5760_S1024x1024_0_3584)) := by
  unfold out0_B_9
  rw [View.read_writes_junk_eq_canon]
  unfold kernelRun0_B
  dsimp only
  sl_unfold_words
  rw [View.canon_unit_zero off2]
  simp only [View.readAt_eq_ld, h1.read_unread, h2.read_unread, h3.read_unread, h4.read_unread, h13.read_unread,
    View.ld_unit_zero (S := S512x1024) off2, View.ld_unit_zero (S := S1x1024) off2, View.ld_unit_zero (S := S1x1x1024) off3]
  try rfl

/-- Result 4 at the first point: the same by the rearranged matrix. -/
theorem out9_A (hc : cond0_0 i) : out0_A_9 c i a1 h1 a2 h2 a3 h3 a4 h4 a5 h5 a6 h6 a7 h7 a8 h8 a9 h9 a10 h10 a11 h11 a12 h12 a13 h13 hc x0 x1 x2 x3 x4
    = k0_pay4 (rows x0 x1 x2 x3) (View.ld (arranged x4) (Rect.unit (s := S1024x5760) ![0, 3584] S1024x1024.size inb_S1024x5760_S1024x1024_0_3584)) := by
  unfold out0_A_9
  rw [View.read_writes_junk_eq_canon]
  refine Eq.trans ?_ (congrArg (fun W => k0_pay4 (rows x0 x1 x2 x3) (View.ld W (Rect.unit (s := S1024x5760) ![0, 3584] S1024x1024.size inb_S1024x5760_S1024x1024_0_3584))) (canon_fills x4))
  dsimp only
  unfold kernelRun0_A
  dsimp only
  sl_unfold_words
  rw [View.canon_unit_zero off2]
  simp only [View.readCov_eq_canon', View.readAt_eq_ld, h1.read_unread, h2.read_unread, h3.read_unread, h4.read_unread,
    h5.read_unread, View.ld_unit_zero (S := S512x1024) off2, View.ld_unit_zero (S := S1x1024) off2,
    View.ld_unit_zero (S := S1x1x1024) off3, k0_pay7, k0_pay8, k0_pay9, k0_pay10, k0_pay11, k0_pay12, k0_pay13,
    k0_pay14, shapeCast_self]
  rfl

/-- Result 5 at a later point: the point's rows by the scratch's columns from 4608. -/
theorem out10_B (hc : ¬cond0_0 i) : out0_B_10 c i a1 h1 a2 h2 a3 h3 a4 h4 a5 h5 a6 h6 a7 h7 a8 h8 a9 h9 a10 h10 a11 h11 a12 h12 a13 h13 hc x0 x1 x2 x3 x4 xs
    = k0_pay5 (rows x0 x1 x2 x3) (View.ld xs (Rect.unit (s := S1024x5760) ![0, 4608] S1024x1024.size inb_S1024x5760_S1024x1024_0_4608)) := by
  unfold out0_B_10
  rw [View.read_writes_junk_eq_canon]
  unfold kernelRun0_B
  dsimp only
  sl_unfold_words
  rw [View.canon_unit_zero off2]
  simp only [View.readAt_eq_ld, h1.read_unread, h2.read_unread, h3.read_unread, h4.read_unread, h13.read_unread,
    View.ld_unit_zero (S := S512x1024) off2, View.ld_unit_zero (S := S1x1024) off2, View.ld_unit_zero (S := S1x1x1024) off3]
  try rfl

/-- Result 5 at the first point: the same by the rearranged matrix. -/
theorem out10_A (hc : cond0_0 i) : out0_A_10 c i a1 h1 a2 h2 a3 h3 a4 h4 a5 h5 a6 h6 a7 h7 a8 h8 a9 h9 a10 h10 a11 h11 a12 h12 a13 h13 hc x0 x1 x2 x3 x4
    = k0_pay5 (rows x0 x1 x2 x3) (View.ld (arranged x4) (Rect.unit (s := S1024x5760) ![0, 4608] S1024x1024.size inb_S1024x5760_S1024x1024_0_4608)) := by
  unfold out0_A_10
  rw [View.read_writes_junk_eq_canon]
  refine Eq.trans ?_ (congrArg (fun W => k0_pay5 (rows x0 x1 x2 x3) (View.ld W (Rect.unit (s := S1024x5760) ![0, 4608] S1024x1024.size inb_S1024x5760_S1024x1024_0_4608))) (canon_fills x4))
  dsimp only
  unfold kernelRun0_A
  dsimp only
  sl_unfold_words
  rw [View.canon_unit_zero off2]
  simp only [View.readCov_eq_canon', View.readAt_eq_ld, h1.read_unread, h2.read_unread, h3.read_unread, h4.read_unread,
    h5.read_unread, View.ld_unit_zero (S := S512x1024) off2, View.ld_unit_zero (S := S1x1024) off2,
    View.ld_unit_zero (S := S1x1x1024) off3, k0_pay7, k0_pay8, k0_pay9, k0_pay10, k0_pay11, k0_pay12, k0_pay13,
    k0_pay14, shapeCast_self]
  rfl

/-- Result 6 at a later point: the point's rows by the scratch's columns from 5632. -/
theorem out11_B (hc : ¬cond0_0 i) : out0_B_11 c i a1 h1 a2 h2 a3 h3 a4 h4 a5 h5 a6 h6 a7 h7 a8 h8 a9 h9 a10 h10 a11 h11 a12 h12 a13 h13 hc x0 x1 x2 x3 x4 xs
    = k0_pay6 (rows x0 x1 x2 x3) (View.ld xs (Rect.unit (s := S1024x5760) ![0, 5632] S1024x128.size inb_S1024x5760_S1024x128_0_5632)) := by
  unfold out0_B_11
  rw [View.read_writes_junk_eq_canon]
  unfold kernelRun0_B
  dsimp only
  sl_unfold_words
  rw [View.canon_unit_zero off2]
  simp only [View.readAt_eq_ld, h1.read_unread, h2.read_unread, h3.read_unread, h4.read_unread, h13.read_unread,
    View.ld_unit_zero (S := S512x1024) off2, View.ld_unit_zero (S := S1x1024) off2, View.ld_unit_zero (S := S1x1x1024) off3]
  try rfl

/-- Result 6 at the first point: the same by the rearranged matrix. -/
theorem out11_A (hc : cond0_0 i) : out0_A_11 c i a1 h1 a2 h2 a3 h3 a4 h4 a5 h5 a6 h6 a7 h7 a8 h8 a9 h9 a10 h10 a11 h11 a12 h12 a13 h13 hc x0 x1 x2 x3 x4
    = k0_pay6 (rows x0 x1 x2 x3) (View.ld (arranged x4) (Rect.unit (s := S1024x5760) ![0, 5632] S1024x128.size inb_S1024x5760_S1024x128_0_5632)) := by
  unfold out0_A_11
  rw [View.read_writes_junk_eq_canon]
  refine Eq.trans ?_ (congrArg (fun W => k0_pay6 (rows x0 x1 x2 x3) (View.ld W (Rect.unit (s := S1024x5760) ![0, 5632] S1024x128.size inb_S1024x5760_S1024x128_0_5632))) (canon_fills x4))
  dsimp only
  unfold kernelRun0_A
  dsimp only
  sl_unfold_words
  rw [View.canon_unit_zero off2]
  simp only [View.readCov_eq_canon', View.readAt_eq_ld, h1.read_unread, h2.read_unread, h3.read_unread, h4.read_unread,
    h5.read_unread, View.ld_unit_zero (S := S512x1024) off2, View.ld_unit_zero (S := S1x1024) off2,
    View.ld_unit_zero (S := S1x1x1024) off3, k0_pay7, k0_pay8, k0_pay9, k0_pay10, k0_pay11, k0_pay12, k0_pay13,
    k0_pay14, shapeCast_self]
  rfl

end Cert.Kernel2Ideal.Hand

end
-- ==== Proof.ProjFold.lean ====
/-
  The input projection: what the seven results' blocks and the scratch hold after each of the call's points.
-/
module

public import proofs.«01_k».proof.Proof.ProjBlocks
public import proofs.«01_k».proof.Proof.Gen.Kernel2Ideal.Value

@[expose] public section

set_option maxHeartbeats 1000000

noncomputable section

namespace Cert.Kernel2Ideal.Hand

open Idealize Idealize.ShloMosaic Idealize.ShloMosaic.TcCoe
open Idealize.SL.Sem
open Cert.Kernel2Ideal Cert.Kernel2Ideal.Gen Cert.Kernel2Ideal.Value

variable {F : FTy → Type} [FloatOps F]

/-- What a point leaves: its seven blocks, each the point's rows by a stretch of the scratch's columns, and the scratch. -/
def left (x0 : Vec F S512x1024 .f32) (x1 x2 : Vec F S1x1x1024 .f32) (x3 : Vec F S1x1024 .f32) (xs : Vec F S1024x5760 .bf16) :
    Vec F S512x1024 .bf16 × Vec F S512x1536 .bf16 × Vec F S512x512 .bf16 × Vec F S512x512 .bf16 × Vec F S512x1024 .bf16 × Vec F S512x1024 .bf16 × Vec F S512x128 .f32 × Vec F S1024x5760 .bf16 :=
  (k0_pay17 x0 x3 x1 x2 (View.ld xs (Rect.unit (s := S1024x5760) ![0, 0] S1024x1024.size inb_S1024x5760_S1024x1024_0_0)),
    k0_pay1 (rows x0 x1 x2 x3) (View.ld xs (Rect.unit (s := S1024x5760) ![0, 1024] S1024x1536.size inb_S1024x5760_S1024x1536_0_1024)),
    k0_pay2 (rows x0 x1 x2 x3) (View.ld xs (Rect.unit (s := S1024x5760) ![0, 2560] S1024x512.size inb_S1024x5760_S1024x512_0_2560)),
    k0_pay3 (rows x0 x1 x2 x3) (View.ld xs (Rect.unit (s := S1024x5760) ![0, 3072] S1024x512.size inb_S1024x5760_S1024x512_0_3072)),
    k0_pay4 (rows x0 x1 x2 x3) (View.ld xs (Rect.unit (s := S1024x5760) ![0, 3584] S1024x1024.size inb_S1024x5760_S1024x1024_0_3584)),
    k0_pay5 (rows x0 x1 x2 x3) (View.ld xs (Rect.unit (s := S1024x5760) ![0, 4608] S1024x1024.size inb_S1024x5760_S1024x1024_0_4608)),
    k0_pay6 (rows x0 x1 x2 x3) (View.ld xs (Rect.unit (s := S1024x5760) ![0, 5632] S1024x128.size inb_S1024x5760_S1024x128_0_5632)),
    xs)

variable (m : (ℓ : Loc nD τ sig) → Buf (Elt F) ℓ) (c : Dev nD)

theorem still4 : ∀ t : Fin cfg0.N, win0_4.index t = ![0, 0] := (by decide +kernel : ∀ t : Fin grid0.N, _)

/-- The matrix's window holds the whole matrix at every point. -/
theorem whole4 (t : Fin cfg0.N) : iblk m c 4 t = V m c main_v4 := by
  funext y
  refine congrArg (V m c main_v4) (funext fun a => Fin.ext ?_)
  have b0 : (((cfg0.win 4).blk t).view.emb y 0).val = win0_4.index t (0 : Fin 2) * 1024 + 1 * (y 0).val := rfl
  have b1 : (((cfg0.win 4).blk t).view.emb y 1).val = win0_4.index t (1 : Fin 2) * 5664 + 1 * (y 1).val := rfl
  have e0 : win0_4.index t (0 : Fin 2) = 0 := congrFun (still4 t) 0
  have e1 : win0_4.index t (1 : Fin 2) = 0 := congrFun (still4 t) 1
  match a with
  | ⟨0, _⟩ => exact b0.trans (by rw [e0, Nat.zero_mul, Nat.zero_add, Nat.one_mul]; rfl)
  | ⟨1, _⟩ => exact b1.trans (by rw [e1, Nat.zero_mul, Nat.zero_add, Nat.one_mul]; rfl)

/-- After each point: the point's blocks by the rearranged matrix, which the scratch keeps. -/
theorem left_eq : ∀ (n : ℕ) (hn : n < cfg0.N), outsAt0 m c n hn
    = left (iblk m c 0 ⟨n, hn⟩) (iblk m c 1 ⟨n, hn⟩) (iblk m c 2 ⟨n, hn⟩) (iblk m c 3 ⟨n, hn⟩) (arranged (V m c main_v4))
  | 0, hn => by
    refine (outsAt0_A m c ⟨0, hn⟩ (Nat.zero_mod _)).trans ?_
    rw [out5_A, out6_A, out7_A, out8_A, out9_A, out10_A, out11_A, stored_A, whole4]
    rfl
  | n + 1, hn => by
    have hN := lt_of_lt_of_eq hn (show cfg0.N = 32 from N_0)
    have ih := left_eq n (Nat.lt_of_succ_lt hn)
    refine (outsAt0_B m c ⟨n + 1, hn⟩ (by show ¬(n + 1) % 32 = 0; omega)).trans ?_
    rw [out5_B, out6_B, out7_B, out8_B, out9_B, out10_B, out11_B]
    unfold sout0_B_0
    have e : (outsAt0 m c ((⟨n + 1, hn⟩ : Fin cfg0.N).val - 1) (Nat.lt_of_le_of_lt (Nat.sub_le _ _) (⟨n + 1, hn⟩ : Fin cfg0.N).isLt)).2.2.2.2.2.2.2
        = arranged (V m c main_v4) := congrArg (fun p => p.2.2.2.2.2.2.2) ih
    rw [e]
    rfl

/-- Result 0 at an index: its block's entry at the point that writes it. -/
theorem ends5 (i : S16384x1024.Idx) (hn : (i 0).val / 512 < cfg0.N) : G5 m c i
    = k0_pay17 (iblk m c 0 ⟨(i 0).val / 512, hn⟩) (iblk m c 3 ⟨(i 0).val / 512, hn⟩) (iblk m c 1 ⟨(i 0).val / 512, hn⟩) (iblk m c 2 ⟨(i 0).val / 512, hn⟩)
        (View.ld (arranged (V m c main_v4)) (Rect.unit (s := S1024x5760) ![0, 0] S1024x1024.size inb_S1024x5760_S1024x1024_0_0)) (loc5Of i) := by
  have h1 : (i 1).val < 1024 := (i 1).isLt
  have hp : pt5Of i = (i 0).val / 512 := by
    show 1 * ((i 0).val / 512 - 0) + 1 * ((i 1).val / 1024 - 0) = _
    rw [Nat.div_eq_of_lt h1]; omega
  unfold G5
  rw [dif_pos (by rw [hp]; exact hn), ← outsAt0_sweep m c _ (by rw [hp]; exact hn)]
  have e : ∀ (n : ℕ) (h : n < cfg0.N), n = (i 0).val / 512 → outsAt0 m c n h = outsAt0 m c ((i 0).val / 512) hn := fun n h q => by subst q; rfl
  rw [e _ _ hp, left_eq]
  rfl

/-- Result 1 at an index: its block's entry at the point that writes it. -/
theorem ends6 (i : S16384x1536.Idx) (hn : (i 0).val / 512 < cfg0.N) : G6 m c i
    = k0_pay1 (rows (iblk m c 0 ⟨(i 0).val / 512, hn⟩) (iblk m c 1 ⟨(i 0).val / 512, hn⟩) (iblk m c 2 ⟨(i 0).val / 512, hn⟩) (iblk m c 3 ⟨(i 0).val / 512, hn⟩))
        (View.ld (arranged (V m c main_v4)) (Rect.unit (s := S1024x5760) ![0, 1024] S1024x1536.size inb_S1024x5760_S1024x1536_0_1024)) (loc6Of i) := by
  have h1 : (i 1).val < 1536 := (i 1).isLt
  have hp : pt6Of i = (i 0).val / 512 := by
    show 1 * ((i 0).val / 512 - 0) + 1 * ((i 1).val / 1536 - 0) = _
    rw [Nat.div_eq_of_lt h1]; omega
  unfold G6
  rw [dif_pos (by rw [hp]; exact hn), ← outsAt0_sweep m c _ (by rw [hp]; exact hn)]
  have e : ∀ (n : ℕ) (h : n < cfg0.N), n = (i 0).val / 512 → outsAt0 m c n h = outsAt0 m c ((i 0).val / 512) hn := fun n h q => by subst q; rfl
  rw [e _ _ hp, left_eq]
  rfl

/-- Result 2 at an index: its block's entry at the point that writes it. -/
theorem ends7 (i : S16384x512.Idx) (hn : (i 0).val / 512 < cfg0.N) : G7 m c i
    = k0_pay2 (rows (iblk m c 0 ⟨(i 0).val / 512, hn⟩) (iblk m c 1 ⟨(i 0).val / 512, hn⟩) (iblk m c 2 ⟨(i 0).val / 512, hn⟩) (iblk m c 3 ⟨(i 0).val / 512, hn⟩))
        (View.ld (arranged (V m c main_v4)) (Rect.unit (s := S1024x5760) ![0, 2560] S1024x512.size inb_S1024x5760_S1024x512_0_2560)) (loc7Of i) := by
  have h1 : (i 1).val < 512 := (i 1).isLt
  have hp : pt7Of i = (i 0).val / 512 := by
    show 1 * ((i 0).val / 512 - 0) + 1 * ((i 1).val / 512 - 0) = _
    rw [Nat.div_eq_of_lt h1]; omega
  unfold G7
  rw [dif_pos (by rw [hp]; exact hn), ← outsAt0_sweep m c _ (by rw [hp]; exact hn)]
  have e : ∀ (n : ℕ) (h : n < cfg0.N), n = (i 0).val / 512 → outsAt0 m c n h = outsAt0 m c ((i 0).val / 512) hn := fun n h q => by subst q; rfl
  rw [e _ _ hp, left_eq]
  rfl

/-- Result 3 at an index: its block's entry at the point that writes it. -/
theorem ends8 (i : S16384x512.Idx) (hn : (i 0).val / 512 < cfg0.N) : G8 m c i
    = k0_pay3 (rows (iblk m c 0 ⟨(i 0).val / 512, hn⟩) (iblk m c 1 ⟨(i 0).val / 512, hn⟩) (iblk m c 2 ⟨(i 0).val / 512, hn⟩) (iblk m c 3 ⟨(i 0).val / 512, hn⟩))
        (View.ld (arranged (V m c main_v4)) (Rect.unit (s := S1024x5760) ![0, 3072] S1024x512.size inb_S1024x5760_S1024x512_0_3072)) (loc8Of i) := by
  have h1 : (i 1).val < 512 := (i 1).isLt
  have hp : pt8Of i = (i 0).val / 512 := by
    show 1 * ((i 0).val / 512 - 0) + 1 * ((i 1).val / 512 - 0) = _
    rw [Nat.div_eq_of_lt h1]; omega
  unfold G8
  rw [dif_pos (by rw [hp]; exact hn), ← outsAt0_sweep m c _ (by rw [hp]; exact hn)]
  have e : ∀ (n : ℕ) (h : n < cfg0.N), n = (i 0).val / 512 → outsAt0 m c n h = outsAt0 m c ((i 0).val / 512) hn := fun n h q => by subst q; rfl
  rw [e _ _ hp, left_eq]
  rfl

/-- Result 4 at an index: its block's entry at the point that writes it. -/
theorem ends9 (i : S16384x1024.Idx) (hn : (i 0).val / 512 < cfg0.N) : G9 m c i
    = k0_pay4 (rows (iblk m c 0 ⟨(i 0).val / 512, hn⟩) (iblk m c 1 ⟨(i 0).val / 512, hn⟩) (iblk m c 2 ⟨(i 0).val / 512, hn⟩) (iblk m c 3 ⟨(i 0).val / 512, hn⟩))
        (View.ld (arranged (V m c main_v4)) (Rect.unit (s := S1024x5760) ![0, 3584] S1024x1024.size inb_S1024x5760_S1024x1024_0_3584)) (loc9Of i) := by
  have h1 : (i 1).val < 1024 := (i 1).isLt
  have hp : pt9Of i = (i 0).val / 512 := by
    show 1 * ((i 0).val / 512 - 0) + 1 * ((i 1).val / 1024 - 0) = _
    rw [Nat.div_eq_of_lt h1]; omega
  unfold G9
  rw [dif_pos (by rw [hp]; exact hn), ← outsAt0_sweep m c _ (by rw [hp]; exact hn)]
  have e : ∀ (n : ℕ) (h : n < cfg0.N), n = (i 0).val / 512 → outsAt0 m c n h = outsAt0 m c ((i 0).val / 512) hn := fun n h q => by subst q; rfl
  rw [e _ _ hp, left_eq]
  rfl

/-- Result 5 at an index: its block's entry at the point that writes it. -/
theorem ends10 (i : S16384x1024.Idx) (hn : (i 0).val / 512 < cfg0.N) : G10 m c i
    = k0_pay5 (rows (iblk m c 0 ⟨(i 0).val / 512, hn⟩) (iblk m c 1 ⟨(i 0).val / 512, hn⟩) (iblk m c 2 ⟨(i 0).val / 512, hn⟩) (iblk m c 3 ⟨(i 0).val / 512, hn⟩))
        (View.ld (arranged (V m c main_v4)) (Rect.unit (s := S1024x5760) ![0, 4608] S1024x1024.size inb_S1024x5760_S1024x1024_0_4608)) (loc10Of i) := by
  have h1 : (i 1).val < 1024 := (i 1).isLt
  have hp : pt10Of i = (i 0).val / 512 := by
    show 1 * ((i 0).val / 512 - 0) + 1 * ((i 1).val / 1024 - 0) = _
    rw [Nat.div_eq_of_lt h1]; omega
  unfold G10
  rw [dif_pos (by rw [hp]; exact hn), ← outsAt0_sweep m c _ (by rw [hp]; exact hn)]
  have e : ∀ (n : ℕ) (h : n < cfg0.N), n = (i 0).val / 512 → outsAt0 m c n h = outsAt0 m c ((i 0).val / 512) hn := fun n h q => by subst q; rfl
  rw [e _ _ hp, left_eq]
  rfl

/-- Result 6 at an index: its block's entry at the point that writes it. -/
theorem ends11 (i : S16384x128.Idx) (hn : (i 0).val / 512 < cfg0.N) : G11 m c i
    = k0_pay6 (rows (iblk m c 0 ⟨(i 0).val / 512, hn⟩) (iblk m c 1 ⟨(i 0).val / 512, hn⟩) (iblk m c 2 ⟨(i 0).val / 512, hn⟩) (iblk m c 3 ⟨(i 0).val / 512, hn⟩))
        (View.ld (arranged (V m c main_v4)) (Rect.unit (s := S1024x5760) ![0, 5632] S1024x128.size inb_S1024x5760_S1024x128_0_5632)) (loc11Of i) := by
  have h1 : (i 1).val < 128 := (i 1).isLt
  have hp : pt11Of i = (i 0).val / 512 := by
    show 1 * ((i 0).val / 512 - 0) + 1 * ((i 1).val / 128 - 0) = _
    rw [Nat.div_eq_of_lt h1]; omega
  unfold G11
  rw [dif_pos (by rw [hp]; exact hn), ← outsAt0_sweep m c _ (by rw [hp]; exact hn)]
  have e : ∀ (n : ℕ) (h : n < cfg0.N), n = (i 0).val / 512 → outsAt0 m c n h = outsAt0 m c ((i 0).val / 512) hn := fun n h q => by subst q; rfl
  rw [e _ _ hp, left_eq]
  rfl

end Cert.Kernel2Ideal.Hand

end
-- ==== Proof.ProjRows.lean ====
/-
  The input projection at the ideal numbers: the mathematics of one entry, and the kernel's rows and products read at
  an index.
-/
module

public import proofs.«01_k».proof.Proof.ProjFold
public import Idealize.ShloMosaic.Lib.StackMember

@[expose] public section

set_option maxHeartbeats 1000000

noncomputable section

namespace Cert.Kernel2Ideal.Hand

open Idealize.ShloMosaic Idealize.ShloMosaic.TcCoe Idealize.ShloMosaic.ValueIdx
open Idealize.SL.Sem
open Cert.Kernel2Ideal Cert.Kernel2Ideal.Gen Cert.Kernel2Ideal.Value
open scoped BigOperators

/-- One entry of the rows: normed by the root of their mean square, times the gain, modulated by scale and shift. -/
def normed (X : FVec Ideal S4x4096x1024 .f32) (SH SC : FVec Ideal S4x1024 .f32) (G : FVec Ideal S1024 .f32)
    (b : Fin 4) (s : Fin 4096) (k : Fin 1024) : EReal :=
  X (ix3 b s k) * Ideal.rsqrt (Ideal.div (∑ j : Fin 1024, X (ix3 b s j) * X (ix3 b s j)) (Ideal.ofBits .f32 0x44800000#32)
      + Ideal.ofBits .f32 0x358637BD#32) * G (ix1 k) * (Ideal.ofBits .f32 0x3F800000#32 + SC (ix2 b k)) + SH (ix2 b k)

/-- One entry of the product: row `r` of the rows by column `n` of the matrix. -/
def entry (X : FVec Ideal S4x4096x1024 .f32) (SH SC : FVec Ideal S4x1024 .f32) (G : FVec Ideal S1024 .f32)
    (W : FVec Ideal S1024x5664 .f32) (r : ℕ) (hr : r < 16384) (n : ℕ) (hn : n < 5664) : EReal :=
  ∑ k : Fin 1024, normed X SH SC G ⟨r / 4096, by omega⟩ ⟨r % 4096, Nat.mod_lt _ (by decide)⟩ k * W (ix2 k ⟨n, hn⟩)

/-- A point's rows at an index. -/
theorem rows_apply (x0 : Vec Ideal S512x1024 .f32) (x1 x2 : Vec Ideal S1x1x1024 .f32) (x3 : Vec Ideal S1x1024 .f32)
    (r : Fin 512) (k : Fin 1024) : rows x0 x1 x2 x3 (ix2 r k)
      = x0 (ix2 r k) * Ideal.rsqrt (Ideal.div (∑ j : Fin 1024, x0 (ix2 r j) * x0 (ix2 r j)) (Ideal.ofBits .f32 0x44800000#32)
          + Ideal.ofBits .f32 0x358637BD#32) * x3 (ix2 0 k) * (Ideal.ofBits .f32 0x3F800000#32 + x1 (ix3 0 0 k)) + x2 (ix3 0 0 k) := by
  have c1 : shapeCast S1x1024 x1 shapeCasts_S1x1x1024_S1x1024 (ix2 0 k) = x1 (ix3 0 0 k) :=
    (shapeCast_dropUnit_apply ![1, 1024] x1 shapeCasts_S1x1x1024_S1x1024 (ix2 0 k)).trans
      (congrArg x1 (funext fun a => match a with | ⟨0, _⟩ => rfl | ⟨1, _⟩ => rfl | ⟨2, _⟩ => rfl))
  have c2 : shapeCast S1x1024 x2 shapeCasts_S1x1x1024_S1x1024 (ix2 0 k) = x2 (ix3 0 0 k) :=
    (shapeCast_dropUnit_apply ![1, 1024] x2 shapeCasts_S1x1x1024_S1x1024 (ix2 0 k)).trans
      (congrArg x2 (funext fun a => match a with | ⟨0, _⟩ => rfl | ⟨1, _⟩ => rfl | ⟨2, _⟩ => rfl))
  have bc : ∀ y : FVec Ideal S1x1024 .f32, broadcastTo S512x1024 y broadcasts_S1x1024_S512x1024 (ix2 r k) = y (ix2 0 k) := fun y =>
    broadcastTo_apply y _ _ _ fun a => match a with | ⟨0, _⟩ => rfl | ⟨1, _⟩ => rfl
  have br : ∀ y : FVec Ideal S512x1 .f32, broadcastTo S512x1024 y broadcasts_S512x1_S512x1024 (ix2 r k) = y (ix2 r 0) := fun y =>
    broadcastTo_apply y _ _ _ fun a => match a with | ⟨0, _⟩ => rfl | ⟨1, _⟩ => rfl
  have su : shapeCast S512x1 (multiReduction (F := Ideal) (φ := .f32) .add [1] S512 (mulf x0 x0 : FVec Ideal S512x1024 .f32) 0x00000000#32 reduces_S512x1024_S512 (.inl rfl) rfl)
      shapeCasts_S512_S512x1 (ix2 r 0) = ∑ j : Fin 1024, x0 (ix2 r j) * x0 (ix2 r j) := by
    refine (shapeCast_apply _ shapeCasts_S512_S512x1 (ix2 r 0) (ix1 r) ?_).trans ?_
    · rw [Shape.rowMajor_val_one, Shape.rowMajor_val_two]
      show r.val = r.val * 1 + 0
      omega
    · refine (Ideal.multiReduction_add_single _ _ _ _ _ _).trans (Finset.sum_congr rfl fun j _ => ?_)
      have e : reduces_S512x1024_S512.lift (ix1 r) j = ix2 r j :=
        funext fun a => match a with | ⟨0, _⟩ => Fin.ext rfl | ⟨1, _⟩ => Fin.ext rfl
      rw [e]
      rfl
  unfold rows k0_pay16
  simp only [shapeCast_self]
  rw [truncf_apply, addf_apply, mulf_apply, mulf_apply, mulf_apply, bc, bc, bc, br, c2, addf_apply, c1]
  show x0 (ix2 r k) * Ideal.rsqrt (Ideal.div (shapeCast S512x1 (multiReduction (F := Ideal) (φ := .f32) .add [1] S512 (mulf x0 x0 : FVec Ideal S512x1024 .f32) 0x00000000#32 reduces_S512x1024_S512 (.inl rfl) rfl)
      shapeCasts_S512_S512x1 (ix2 r 0)) (Ideal.ofBits .f32 0x44800000#32) + Ideal.ofBits .f32 0x358637BD#32) * x3 (ix2 0 k)
      * (Ideal.ofBits .f32 0x3F800000#32 + x1 (ix3 0 0 k)) + x2 (ix3 0 0 k) = _
  rw [su]

end Cert.Kernel2Ideal.Hand

end
-- ==== Proof.ProjRef.lean ====
/-
  The input projection's reference at the ideal numbers: its seven results, entry by entry.
-/
module

public import proofs.«01_k».proof.Proof.ProjRows
public import proofs.«01_k».proof.Proof.Gen.Reference2Ideal
public import Idealize.ShloMosaic.Lib.Claim

@[expose] public section

set_option maxRecDepth 16384
set_option maxHeartbeats 1000000

noncomputable section

namespace Cert.ProjRef

open Cert.Reference2Ideal Cert.Reference2Ideal.Facts Cert.Reference2Ideal.Facts₀
open Idealize.ShloMosaic Idealize.ShloMosaic.TcCoe Idealize.ShloMosaic.ValueIdx Idealize.SL.Sem
open Cert.Kernel2Ideal.Hand (normed entry)
open scoped BigOperators

variable (X : FVec Ideal S4x4096x1024 .f32) (SH SC : FVec Ideal S4x1024 .f32) (G : FVec Ideal S1024 .f32) (W : FVec Ideal S1024x5664 .f32)

/-- Each row's root of its mean square, inverted. -/
def inverse : FVec Ideal S4x4096x1 .f32 :=
  Host.rsqrt (addf (Host.divf (broadcastInDim S4x4096x1 ![0, 1] bcast_S4x4096_S4x4096x1_0_1
      (Host.reduceAdd (mulf X X) (constant S_ .f32 0x00000000#32) reducesTo_S4x4096x1024_S4x4096_d2 h_S_))
    (broadcastInDim S4x4096x1 ![] bcast_S_S4x4096x1 (constant S_ .f32 0x44800000#32)))
    (broadcastInDim S4x4096x1 ![] bcast_S_S4x4096x1 (constant S_ .f32 0x358637BD#32)))

/-- The modulated rows. -/
def modulated : FVec Ideal S4x4096x1024 .f32 :=
  addf (mulf (mulf (mulf X (broadcastInDim S4x4096x1024 ![0, 1, 2] bcast_S4x4096x1_S4x4096x1024_0_1_2 (inverse X)))
      (broadcastInDim S4x4096x1024 ![0, 1, 2] bcast_S1x1x1024_S4x4096x1024_0_1_2 (broadcastInDim S1x1x1024 ![2] bcast_S1024_S1x1x1024_2 G)))
    (broadcastInDim S4x4096x1024 ![0, 1, 2] bcast_S4x1x1024_S4x4096x1024_0_1_2
      (addf (broadcastInDim S4x1x1024 ![] bcast_S_S4x1x1024 (constant S_ .f32 0x3F800000#32))
        (broadcastInDim S4x1x1024 ![0, 2] bcast_S4x1024_S4x1x1024_0_2 SC))))
    (broadcastInDim S4x4096x1024 ![0, 1, 2] bcast_S4x1x1024_S4x4096x1024_0_1_2
      (broadcastInDim S4x1x1024 ![0, 2] bcast_S4x1024_S4x1x1024_0_2 SH))

/-- The product. -/
def product : FVec Ideal S16384x5664 .f32 :=
  Host.dotGeneral dot_S16384x1024_S1024x5664_S16384x5664_1_0_0_1_n_n none
    (shapeCast S16384x1024 (modulated X SH SC G) shapeCasts_S4x4096x1024_S16384x1024) W

/-- The narrow result. -/
def small : FVec Ideal S16384x128 .f32 :=
  concatenate S16384x128 1 [⟨S16384x16, extractStridedSlice S16384x16 ![0, 2560] (product X SH SC G W) slices_S16384x5664_S16384x16_0_2560⟩,
    ⟨S16384x16, extractStridedSlice S16384x16 ![0, 4624] (product X SH SC G W) slices_S16384x5664_S16384x16_0_4624⟩,
    ⟨S16384x96, broadcastInDim S16384x96 ![] bcast_S_S16384x96 (constant S_ .f32 0x00000000#32)⟩]
    concatenates_S16384x16_S16384x16_S16384x96_S16384x128_d1

theorem inverse_apply (b : Fin 4) (s : Fin 4096) : inverse X (ix3 b s 0)
    = Ideal.rsqrt (Ideal.div (∑ j : Fin 1024, X (ix3 b s j) * X (ix3 b s j)) (Ideal.ofBits .f32 0x44800000#32) + Ideal.ofBits .f32 0x358637BD#32) := by
  have hred : Shape.Reduces S4x4096x1024 [2] S4x4096 := by decide
  have su : Host.reduceAdd (mulf X X) (constant S_ .f32 0x00000000#32) reducesTo_S4x4096x1024_S4x4096_d2 h_S_ (ix2 b s)
      = ∑ j : Fin 1024, X (ix3 b s j) * X (ix3 b s j) := by
    refine (Ideal.hostReduceAdd_single reducesTo_S4x4096x1024_S4x4096_d2 hred (mulf X X) (Ideal.ofBits .f32 0x00000000#32) (ix2 b s)).trans ?_
    rw [Ideal.ofBits_zero_f32, zero_add]
    refine Finset.sum_congr rfl fun j _ => ?_
    rw [show hred.lift (ix2 b s) j = ix3 b s j from
      funext fun a => match a with | ⟨0, _⟩ => Fin.ext rfl | ⟨1, _⟩ => Fin.ext rfl | ⟨2, _⟩ => Fin.ext rfl]
    rfl
  have e : broadcastInDim S4x4096x1 ![0, 1] bcast_S4x4096_S4x4096x1_0_1
      (Host.reduceAdd (mulf X X) (constant S_ .f32 0x00000000#32) reducesTo_S4x4096x1024_S4x4096_d2 h_S_) (ix3 b s 0)
      = Host.reduceAdd (mulf X X) (constant S_ .f32 0x00000000#32) reducesTo_S4x4096x1024_S4x4096_d2 h_S_ (ix2 b s) :=
    broadcastInDim_apply _ _ _ _ _ fun a => match a with | ⟨0, _⟩ => rfl | ⟨1, _⟩ => rfl
  refine Eq.trans ?_ (congrArg (fun t => Ideal.rsqrt (Ideal.div t (Ideal.ofBits .f32 0x44800000#32) + Ideal.ofBits .f32 0x358637BD#32)) (e.trans su))
  rfl

theorem modulated_apply (b : Fin 4) (s : Fin 4096) (k : Fin 1024) : modulated X SH SC G (ix3 b s k) = normed X SH SC G b s k := by
  have e1 : broadcastInDim S4x4096x1024 ![0, 1, 2] bcast_S4x4096x1_S4x4096x1024_0_1_2 (inverse X) (ix3 b s k) = inverse X (ix3 b s 0) :=
    broadcastInDim_apply _ _ _ _ _ fun a => match a with | ⟨0, _⟩ => rfl | ⟨1, _⟩ => rfl | ⟨2, _⟩ => rfl
  have e2 : broadcastInDim S4x4096x1024 ![0, 1, 2] bcast_S1x1x1024_S4x4096x1024_0_1_2 (broadcastInDim S1x1x1024 ![2] bcast_S1024_S1x1x1024_2 G) (ix3 b s k)
      = G (ix1 k) :=
    (broadcastInDim_apply _ _ _ _ (ix3 0 0 k) fun a => match a with | ⟨0, _⟩ => rfl | ⟨1, _⟩ => rfl | ⟨2, _⟩ => rfl).trans
      (broadcastInDim_apply _ _ _ _ _ fun a => match a with | ⟨0, _⟩ => rfl)
  have e3 : ∀ y : FVec Ideal S4x1x1024 .f32, broadcastInDim S4x4096x1024 ![0, 1, 2] bcast_S4x1x1024_S4x4096x1024_0_1_2 y (ix3 b s k) = y (ix3 b 0 k) := fun y =>
    broadcastInDim_apply _ _ _ _ _ fun a => match a with | ⟨0, _⟩ => rfl | ⟨1, _⟩ => rfl | ⟨2, _⟩ => rfl
  have e4 : ∀ y : FVec Ideal S4x1024 .f32, broadcastInDim S4x1x1024 ![0, 2] bcast_S4x1024_S4x1x1024_0_2 y (ix3 b 0 k) = y (ix2 b k) := fun y =>
    broadcastInDim_apply _ _ _ _ _ fun a => match a with | ⟨0, _⟩ => rfl | ⟨1, _⟩ => rfl
  unfold modulated normed
  rw [addf_apply, mulf_apply, mulf_apply, mulf_apply, e1, e2, e3, e3, addf_apply, e4, e4, inverse_apply]
  rfl

theorem product_apply (r : ℕ) (hr : r < 16384) (n : ℕ) (hn : n < 5664) : product X SH SC G W (ix2 ⟨r, hr⟩ ⟨n, hn⟩) = entry X SH SC G W r hr n hn := by
  refine (StackMember.dotGeneral_plain_apply (φ₁ := .f32) (φ₂ := .f32) none
    (shapeCast S16384x1024 (modulated X SH SC G) shapeCasts_S4x4096x1024_S16384x1024) W ⟨r, hr⟩ ⟨n, hn⟩).trans ?_
  refine Finset.sum_congr rfl fun k _ => ?_
  rw [← modulated_apply]
  refine congrArg (fun t => t * W (ix2 k ⟨n, hn⟩)) (shapeCast_apply _ _ _ _ ?_)
  rw [Shape.rowMajor_val_three, Shape.rowMajor_val_two]
  show (r / 4096 * 4096 + r % 4096) * 1024 + k.val = r * 1024 + k.val
  omega

theorem small_apply (i : S16384x128.Idx) : small X SH SC G W i
    = if h : (i 1).val < 16 then entry X SH SC G W (i 0).val (i 0).isLt (2560 + (i 1).val) (by omega)
      else if h : (i 1).val < 32 then entry X SH SC G W (i 0).val (i 0).isLt (4608 + (i 1).val) (by omega)
      else 0 := by
  have h0 : (i 0).val < 16384 := (i 0).isLt
  have h1 : (i 1).val < 128 := (i 1).isLt
  by_cases ha : (i 1).val < 16
  · rw [dif_pos ha]
    refine Eq.trans ?_ (product_apply X SH SC G W _ h0 _ _)
    refine (concatenate_apply_piece _ _ _ i 0 (by show 0 < 3; decide) S16384x16 _ rfl rfl 0 rfl (ix2 ⟨(i 0).val, h0⟩ ⟨(i 1).val, ha⟩)
      (fun b hb => match b, hb with | ⟨0, _⟩, _ => rfl | ⟨1, _⟩, hb => absurd rfl hb) (by show 0 + (i 1).val = (i 1).val; omega)).trans ?_
    exact congrArg (product X SH SC G W) (funext fun a => match a with
      | ⟨0, _⟩ => Fin.ext (by show 0 + (i 0).val = (i 0).val; omega)
      | ⟨1, _⟩ => rfl)
  · rw [dif_neg ha]
    by_cases hb : (i 1).val < 32
    · rw [dif_pos hb]
      refine Eq.trans ?_ (product_apply X SH SC G W _ h0 _ _)
      refine (concatenate_apply_piece _ _ _ i 1 (by show 1 < 3; decide) S16384x16 _ rfl rfl 16 rfl (ix2 ⟨(i 0).val, h0⟩ ⟨(i 1).val - 16, by omega⟩)
        (fun b hb => match b, hb with | ⟨0, _⟩, _ => rfl | ⟨1, _⟩, hb => absurd rfl hb) (by show 16 + ((i 1).val - 16) = (i 1).val; omega)).trans ?_
      exact congrArg (product X SH SC G W) (funext fun a => match a with
        | ⟨0, _⟩ => Fin.ext (by show 0 + (i 0).val = (i 0).val; omega)
        | ⟨1, _⟩ => Fin.ext (by show 4624 + ((i 1).val - 16) = 4608 + (i 1).val; omega))
    · rw [dif_neg hb]
      refine (concatenate_apply_piece _ _ _ i 2 (by show 2 < 3; decide) S16384x96 _ rfl rfl 32 rfl (ix2 ⟨(i 0).val, h0⟩ ⟨(i 1).val - 32, by omega⟩)
        (fun b hb => match b, hb with | ⟨0, _⟩, _ => rfl | ⟨1, _⟩, hb => absurd rfl hb) (by show 32 + ((i 1).val - 32) = (i 1).val; omega)).trans ?_
      exact Ideal.ofBits_zero_f32

end Cert.ProjRef

end
-- ==== Proof.ProjValue.lean ====
/-
  The input projection at the ideal numbers: what the kernel's seven results end holding, entry by entry.
-/
module

public import proofs.«01_k».proof.Proof.ProjRows

@[expose] public section

set_option maxHeartbeats 1000000

noncomputable section

namespace Cert.Kernel2Ideal.Hand

open Idealize.ShloMosaic Idealize.ShloMosaic.TcCoe Idealize.ShloMosaic.ValueIdx
open Idealize.SL.Sem
open Cert.Kernel2Ideal Cert.Kernel2Ideal.Gen Cert.Kernel2Ideal.Value
open scoped BigOperators

/-- The product behind result 0, at an index: a row by a column. -/
theorem product5 (x0 : Vec Ideal S512x1024 .f32) (x1 x2 : Vec Ideal S1x1x1024 .f32) (x3 : Vec Ideal S1x1024 .f32)
    (B : FVec Ideal S1024x1024 .bf16) (r : Fin 512) (n : Fin 1024) :
    k0_pay17 x0 x3 x1 x2 B (ix2 r n) = ∑ j : Fin 1024, rows x0 x1 x2 x3 (ix2 r j) * B (ix2 j n) := by
  refine Eq.trans ?_ (StackMember.dotGeneral_plain_apply (φ₁ := .bf16) (φ₂ := .bf16) none (rows x0 x1 x2 x3) B r n)
  unfold k0_pay17
  refine congrFun (matmul_zero_eq_dotGeneral (φ₁ := .bf16) (φ₂ := .bf16) dot_S512x1024_S1024x1024_S512x1024_1_0_0_1_n_n none (rows x0 x1 x2 x3) B) (ix2 r n)

/-- The product behind result 1, at an index: a row by a column. -/
theorem product6 (x0 : Vec Ideal S512x1024 .f32) (x1 x2 : Vec Ideal S1x1x1024 .f32) (x3 : Vec Ideal S1x1024 .f32)
    (B : FVec Ideal S1024x1536 .bf16) (r : Fin 512) (n : Fin 1536) :
    k0_pay1 (rows x0 x1 x2 x3) B (ix2 r n) = ∑ j : Fin 1024, rows x0 x1 x2 x3 (ix2 r j) * B (ix2 j n) := by
  refine Eq.trans ?_ (StackMember.dotGeneral_plain_apply (φ₁ := .bf16) (φ₂ := .bf16) none (rows x0 x1 x2 x3) B r n)
  unfold k0_pay1
  refine congrFun (matmul_zero_eq_dotGeneral (φ₁ := .bf16) (φ₂ := .bf16) dot_S512x1024_S1024x1536_S512x1536_1_0_0_1_n_n none (rows x0 x1 x2 x3) B) (ix2 r n)

/-- The product behind result 2, at an index: a row by a column. -/
theorem product7 (x0 : Vec Ideal S512x1024 .f32) (x1 x2 : Vec Ideal S1x1x1024 .f32) (x3 : Vec Ideal S1x1024 .f32)
    (B : FVec Ideal S1024x512 .bf16) (r : Fin 512) (n : Fin 512) :
    k0_pay2 (rows x0 x1 x2 x3) B (ix2 r n) = ∑ j : Fin 1024, rows x0 x1 x2 x3 (ix2 r j) * B (ix2 j n) := by
  refine Eq.trans ?_ (StackMember.dotGeneral_plain_apply (φ₁ := .bf16) (φ₂ := .bf16) none (rows x0 x1 x2 x3) B r n)
  unfold k0_pay2
  refine congrFun (matmul_zero_eq_dotGeneral (φ₁ := .bf16) (φ₂ := .bf16) dot_S512x1024_S1024x512_S512x512_1_0_0_1_n_n none (rows x0 x1 x2 x3) B) (ix2 r n)

/-- The product behind result 3, at an index: a row by a column. -/
theorem product8 (x0 : Vec Ideal S512x1024 .f32) (x1 x2 : Vec Ideal S1x1x1024 .f32) (x3 : Vec Ideal S1x1024 .f32)
    (B : FVec Ideal S1024x512 .bf16) (r : Fin 512) (n : Fin 512) :
    k0_pay3 (rows x0 x1 x2 x3) B (ix2 r n) = ∑ j : Fin 1024, rows x0 x1 x2 x3 (ix2 r j) * B (ix2 j n) := by
  refine Eq.trans ?_ (StackMember.dotGeneral_plain_apply (φ₁ := .bf16) (φ₂ := .bf16) none (rows x0 x1 x2 x3) B r n)
  unfold k0_pay3
  refine congrFun (matmul_zero_eq_dotGeneral (φ₁ := .bf16) (φ₂ := .bf16) dot_S512x1024_S1024x512_S512x512_1_0_0_1_n_n none (rows x0 x1 x2 x3) B) (ix2 r n)

/-- The product behind result 4, at an index: a row by a column. -/
theorem product9 (x0 : Vec Ideal S512x1024 .f32) (x1 x2 : Vec Ideal S1x1x1024 .f32) (x3 : Vec Ideal S1x1024 .f32)
    (B : FVec Ideal S1024x1024 .bf16) (r : Fin 512) (n : Fin 1024) :
    k0_pay4 (rows x0 x1 x2 x3) B (ix2 r n) = ∑ j : Fin 1024, rows x0 x1 x2 x3 (ix2 r j) * B (ix2 j n) := by
  refine Eq.trans ?_ (StackMember.dotGeneral_plain_apply (φ₁ := .bf16) (φ₂ := .bf16) none (rows x0 x1 x2 x3) B r n)
  unfold k0_pay4
  refine congrFun (matmul_zero_eq_dotGeneral (φ₁ := .bf16) (φ₂ := .bf16) dot_S512x1024_S1024x1024_S512x1024_1_0_0_1_n_n none (rows x0 x1 x2 x3) B) (ix2 r n)

/-- The product behind result 5, at an index: a row by a column. -/
theorem product10 (x0 : Vec Ideal S512x1024 .f32) (x1 x2 : Vec Ideal S1x1x1024 .f32) (x3 : Vec Ideal S1x1024 .f32)
    (B : FVec Ideal S1024x1024 .bf16) (r : Fin 512) (n : Fin 1024) :
    k0_pay5 (rows x0 x1 x2 x3) B (ix2 r n) = ∑ j : Fin 1024, rows x0 x1 x2 x3 (ix2 r j) * B (ix2 j n) := by
  refine Eq.trans ?_ (StackMember.dotGeneral_plain_apply (φ₁ := .bf16) (φ₂ := .bf16) none (rows x0 x1 x2 x3) B r n)
  unfold k0_pay5
  refine congrFun (matmul_zero_eq_dotGeneral (φ₁ := .bf16) (φ₂ := .bf16) dot_S512x1024_S1024x1024_S512x1024_1_0_0_1_n_n none (rows x0 x1 x2 x3) B) (ix2 r n)

/-- The product behind result 6, at an index: a row by a column. -/
theorem product11 (x0 : Vec Ideal S512x1024 .f32) (x1 x2 : Vec Ideal S1x1x1024 .f32) (x3 : Vec Ideal S1x1024 .f32)
    (B : FVec Ideal S1024x128 .bf16) (r : Fin 512) (n : Fin 128) :
    k0_pay6 (rows x0 x1 x2 x3) B (ix2 r n) = ∑ j : Fin 1024, rows x0 x1 x2 x3 (ix2 r j) * B (ix2 j n) := by
  refine Eq.trans ?_ (StackMember.dotGeneral_plain_apply (φ₁ := .bf16) (φ₂ := .bf16) none (rows x0 x1 x2 x3) B r n)
  unfold k0_pay6
  refine congrFun (matmul_zero_eq_dotGeneral (φ₁ := .bf16) (φ₂ := .bf16) dot_S512x1024_S1024x128_S512x128_1_0_0_1_n_n none (rows x0 x1 x2 x3) B) (ix2 r n)

variable (m : (ℓ : Loc nD τ sig) → Buf (Elt Ideal) ℓ) (c : Dev nD)

/-- The sixteen-bit zero is zero. -/
theorem zero_half : Ideal.ofBits .bf16 0x0000#16 = 0 := by simp [Ideal.ofBits, Ideal.ieee]

/-- The call's arguments. -/
abbrev argX : FVec Ideal S4x4096x1024 .f32 := m ((c.tc : Thread nD τ).loc main_arg0)
abbrev argSh : FVec Ideal S4x1024 .f32 := m ((c.tc : Thread nD τ).loc main_arg1)
abbrev argSc : FVec Ideal S4x1024 .f32 := m ((c.tc : Thread nD τ).loc main_arg2)
abbrev argG : FVec Ideal S1024 .f32 := m ((c.tc : Thread nD τ).loc main_arg3)
abbrev argW : FVec Ideal S1024x5664 .f32 := m ((c.tc : Thread nD τ).loc main_arg4)

theorem host0 : V m c main_v0 = shapeCast S16384x1024 (argX m c) shapeCasts_S4x4096x1024_S16384x1024 := rfl
theorem host1 : V m c main_v1 = shapeCast S4x1x1024 (argSc m c) shapeCasts_S4x1024_S4x1x1024 := rfl
theorem host2 : V m c main_v2 = shapeCast S4x1x1024 (argSh m c) shapeCasts_S4x1024_S4x1x1024 := rfl
theorem host3 : V m c main_v3 = shapeCast S1x1024 (argG m c) shapeCasts_S1024_S1x1024 := rfl
theorem host4 : V m c main_v4 = (truncf .bf16 (argW m c) bitsLt_bf16_f32 : FVec Ideal S1024x5664 .bf16) := rfl

theorem moves0 : ∀ t : Fin cfg0.N, win0_0.index t (0 : Fin 2) = t.val ∧ win0_0.index t (1 : Fin 2) = 0 :=
  (by decide +kernel : ∀ t : Fin grid0.N, _)
theorem moves1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem moves2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem moves3 : ∀ t : Fin cfg0.N, win0_3.index t (0 : Fin 2) = 0 ∧ win0_3.index t (1 : Fin 2) = 0 :=
  (by decide +kernel : ∀ t : Fin grid0.N, _)

/-- A point's rows of `x`, of row `r = 512 t + a`. -/
theorem block0 (t : Fin cfg0.N) (a : Fin 512) (k : Fin 1024) (r : ℕ) (hr : r < 16384) (e : 512 * t.val + a.val = r) :
    iblk m c 0 t (ix2 a k) = argX m c (ix3 ⟨r / 4096, by omega⟩ ⟨r % 4096, Nat.mod_lt _ (by decide)⟩ k) := by
  have hv : iblk m c 0 t (ix2 a k) = V m c main_v0 (ix2 ⟨r, hr⟩ k) :=
    congrArg (V m c main_v0) (funext fun d => Fin.ext (match d with
      | ⟨0, _⟩ => by show win0_0.index t (0 : Fin 2) * 512 + 1 * a.val = r; rw [(moves0 t).1]; omega
      | ⟨1, _⟩ => by show win0_0.index t (1 : Fin 2) * 1024 + 1 * k.val = k.val; rw [(moves0 t).2]; omega))
  rw [hv, host0]
  refine shapeCast_apply _ _ _ _ ?_
  rw [Shape.rowMajor_val_three, Shape.rowMajor_val_two]
  show (r / 4096 * 4096 + r % 4096) * 1024 + k.val = r * 1024 + k.val
  omega

/-- Its row of the scale. -/
theorem block1 (t : Fin cfg0.N) (k : Fin 1024) (b : Fin 4) (e : t.val / 8 = b.val) :
    iblk m c 1 t (ix3 0 0 k) = argSc m c (ix2 b k) := by
  have hv : iblk m c 1 t (ix3 0 0 k) = V m c main_v1 (ix3 b 0 k) :=
    congrArg (V m c main_v1) (funext fun d => Fin.ext (match d with
      | ⟨0, _⟩ => by show win0_1.index t (0 : Fin 3) * 1 + 1 * 0 = b.val; rw [(moves1 t).1]; omega
      | ⟨1, _⟩ => by show win0_1.index t (1 : Fin 3) * 1 + 1 * 0 = 0; rw [(moves1 t).2.1]
      | ⟨2, _⟩ => by show win0_1.index t (2 : Fin 3) * 1024 + 1 * k.val = k.val; rw [(moves1 t).2.2]; omega))
  rw [hv, host1]
  refine shapeCast_apply _ _ _ _ ?_
  rw [Shape.rowMajor_val_three, Shape.rowMajor_val_two]
  show b.val * 1024 + k.val = (b.val * 1 + 0) * 1024 + k.val
  omega

/-- Its row of the shift. -/
theorem block2 (t : Fin cfg0.N) (k : Fin 1024) (b : Fin 4) (e : t.val / 8 = b.val) :
    iblk m c 2 t (ix3 0 0 k) = argSh m c (ix2 b k) := by
  have hv : iblk m c 2 t (ix3 0 0 k) = V m c main_v2 (ix3 b 0 k) :=
    congrArg (V m c main_v2) (funext fun d => Fin.ext (match d with
      | ⟨0, _⟩ => by show win0_2.index t (0 : Fin 3) * 1 + 1 * 0 = b.val; rw [(moves2 t).1]; omega
      | ⟨1, _⟩ => by show win0_2.index t (1 : Fin 3) * 1 + 1 * 0 = 0; rw [(moves2 t).2.1]
      | ⟨2, _⟩ => by show win0_2.index t (2 : Fin 3) * 1024 + 1 * k.val = k.val; rw [(moves2 t).2.2]; omega))
  rw [hv, host2]
  refine shapeCast_apply _ _ _ _ ?_
  rw [Shape.rowMajor_val_three, Shape.rowMajor_val_two]
  show b.val * 1024 + k.val = (b.val * 1 + 0) * 1024 + k.val
  omega

/-- The gain. -/
theorem block3 (t : Fin cfg0.N) (k : Fin 1024) : iblk m c 3 t (ix2 0 k) = argG m c (ix1 k) := by
  have hv : iblk m c 3 t (ix2 0 k) = V m c main_v3 (ix2 0 k) :=
    congrArg (V m c main_v3) (funext fun d => Fin.ext (match d with
      | ⟨0, _⟩ => by show win0_3.index t (0 : Fin 2) * 1 + 1 * 0 = 0; rw [(moves3 t).1]
      | ⟨1, _⟩ => by show win0_3.index t (1 : Fin 2) * 1024 + 1 * k.val = k.val; rw [(moves3 t).2]; omega))
  rw [hv, host3]
  refine shapeCast_apply _ _ _ _ ?_
  rw [Shape.rowMajor_val_one, Shape.rowMajor_val_two]
  show k.val = 0 * 1024 + k.val
  omega

/-- The point's rows are the rows of the mathematics. -/
theorem rows_normed (r : ℕ) (hr : r < 16384) (hn : r / 512 < cfg0.N) (k : Fin 1024) :
    rows (iblk m c 0 ⟨r / 512, hn⟩) (iblk m c 1 ⟨r / 512, hn⟩) (iblk m c 2 ⟨r / 512, hn⟩) (iblk m c 3 ⟨r / 512, hn⟩)
        (ix2 ⟨r % 512, Nat.mod_lt _ (by decide)⟩ k)
      = normed (argX m c) (argSh m c) (argSc m c) (argG m c) ⟨r / 4096, by omega⟩ ⟨r % 4096, Nat.mod_lt _ (by decide)⟩ k := by
  have hb : ∀ j : Fin 1024, iblk m c 0 ⟨r / 512, hn⟩ (ix2 ⟨r % 512, Nat.mod_lt _ (by decide)⟩ j)
      = argX m c (ix3 ⟨r / 4096, by omega⟩ ⟨r % 4096, Nat.mod_lt _ (by decide)⟩ j) := fun j =>
    block0 m c ⟨r / 512, hn⟩ ⟨r % 512, Nat.mod_lt _ (by decide)⟩ j r hr (by show 512 * (r / 512) + r % 512 = r; omega)
  have h1 := block1 m c ⟨r / 512, hn⟩ k ⟨r / 4096, by omega⟩ (by show r / 512 / 8 = r / 4096; omega)
  have h2 := block2 m c ⟨r / 512, hn⟩ k ⟨r / 4096, by omega⟩ (by show r / 512 / 8 = r / 4096; omega)
  have h3 := block3 m c ⟨r / 512, hn⟩ k
  refine (rows_apply _ _ _ _ _ k).trans ?_
  unfold normed
  rw [h1, h2, h3, hb k]
  have hs : ∀ f g : Fin 1024 → EReal, (∀ j, f j = g j) → (∑ j : Fin 1024, f j * f j) = ∑ j : Fin 1024, g j * g j := fun f g e =>
    Finset.sum_congr rfl fun j _ => by rw [e j]
  rw [hs _ _ hb]

/-- A column of the matrix the host hands the call is the argument's. -/
theorem column (j : Fin 1024) (n : ℕ) (h : n < 5664) : wcol (V m c main_v4) j n h = argW m c (ix2 j ⟨n, h⟩) :=
  congrArg (argW m c) (funext fun d => match d with | ⟨0, _⟩ => rfl | ⟨1, _⟩ => rfl)

/-- Result 0 in full: the columns from 0 of the mathematics. -/
theorem result5 (i : S16384x1024.Idx) : G5 m c i
    = entry (argX m c) (argSh m c) (argSc m c) (argG m c) (argW m c) (i 0).val (i 0).isLt (0 + (i 1).val)
        (by have h1 : (i 1).val < 1024 := (i 1).isLt; omega) := by
  have h0 : (i 0).val < 16384 := (i 0).isLt
  have h1 : (i 1).val < 1024 := (i 1).isLt
  have hn : (i 0).val / 512 < cfg0.N := lt_of_lt_of_eq (by omega) (show cfg0.N = 32 from N_0).symm
  refine (ends5 m c i hn).trans ?_
  rw [show loc5Of i = ix2 ⟨(i 0).val % 512, Nat.mod_lt _ (by decide)⟩ ⟨(i 1).val, h1⟩ from funext fun d => match d with
    | ⟨0, _⟩ => rfl
    | ⟨1, _⟩ => Fin.ext (Nat.mod_eq_of_lt h1)]
  refine (product5 _ _ _ _ _ _ _).trans (Finset.sum_congr rfl fun j _ => ?_)
  rw [rows_normed m c (i 0).val h0 hn j]
  refine congrArg _ ?_
  refine Eq.trans ?_ (column m c j _ _)
  refine (arranged_low (V m c main_v4) _ (by show 0 ≤ 0 + 1 * (i 1).val ∧ 0 + 1 * (i 1).val < 2560; omega)).trans ?_
  exact congrArg (V m c main_v4) (funext fun d => match d with
    | ⟨0, _⟩ => Fin.ext (by show 0 + 1 * j.val = j.val; omega)
    | ⟨1, _⟩ => Fin.ext (by show 0 + 1 * (i 1).val = 0 + (i 1).val; omega))

/-- Result 1 in full: the columns from 1024 of the mathematics. -/
theorem result6 (i : S16384x1536.Idx) : G6 m c i
    = entry (argX m c) (argSh m c) (argSc m c) (argG m c) (argW m c) (i 0).val (i 0).isLt (1024 + (i 1).val)
        (by have h1 : (i 1).val < 1536 := (i 1).isLt; omega) := by
  have h0 : (i 0).val < 16384 := (i 0).isLt
  have h1 : (i 1).val < 1536 := (i 1).isLt
  have hn : (i 0).val / 512 < cfg0.N := lt_of_lt_of_eq (by omega) (show cfg0.N = 32 from N_0).symm
  refine (ends6 m c i hn).trans ?_
  rw [show loc6Of i = ix2 ⟨(i 0).val % 512, Nat.mod_lt _ (by decide)⟩ ⟨(i 1).val, h1⟩ from funext fun d => match d with
    | ⟨0, _⟩ => rfl
    | ⟨1, _⟩ => Fin.ext (Nat.mod_eq_of_lt h1)]
  refine (product6 _ _ _ _ _ _ _).trans (Finset.sum_congr rfl fun j _ => ?_)
  rw [rows_normed m c (i 0).val h0 hn j]
  refine congrArg _ ?_
  refine Eq.trans ?_ (column m c j _ _)
  refine (arranged_low (V m c main_v4) _ (by show 0 ≤ 1024 + 1 * (i 1).val ∧ 1024 + 1 * (i 1).val < 2560; omega)).trans ?_
  exact congrArg (V m c main_v4) (funext fun d => match d with
    | ⟨0, _⟩ => Fin.ext (by show 0 + 1 * j.val = j.val; omega)
    | ⟨1, _⟩ => Fin.ext (by show 1024 + 1 * (i 1).val = 1024 + (i 1).val; omega))

/-- Result 2 in full: the columns from 2576 of the mathematics. -/
theorem result7 (i : S16384x512.Idx) : G7 m c i
    = entry (argX m c) (argSh m c) (argSc m c) (argG m c) (argW m c) (i 0).val (i 0).isLt (2576 + (i 1).val)
        (by have h1 : (i 1).val < 512 := (i 1).isLt; omega) := by
  have h0 : (i 0).val < 16384 := (i 0).isLt
  have h1 : (i 1).val < 512 := (i 1).isLt
  have hn : (i 0).val / 512 < cfg0.N := lt_of_lt_of_eq (by omega) (show cfg0.N = 32 from N_0).symm
  refine (ends7 m c i hn).trans ?_
  rw [show loc7Of i = ix2 ⟨(i 0).val % 512, Nat.mod_lt _ (by decide)⟩ ⟨(i 1).val, h1⟩ from funext fun d => match d with
    | ⟨0, _⟩ => rfl
    | ⟨1, _⟩ => Fin.ext (Nat.mod_eq_of_lt h1)]
  refine (product7 _ _ _ _ _ _ _).trans (Finset.sum_congr rfl fun j _ => ?_)
  rw [rows_normed m c (i 0).val h0 hn j]
  refine congrArg _ ?_
  refine Eq.trans ?_ (column m c j _ _)
  refine (arranged_mid (V m c main_v4) _ (by show 2560 ≤ 2560 + 1 * (i 1).val ∧ 2560 + 1 * (i 1).val < 4608; omega)).trans ?_
  exact congrArg (V m c main_v4) (funext fun d => match d with
    | ⟨0, _⟩ => Fin.ext (by show 0 + 1 * j.val = j.val; omega)
    | ⟨1, _⟩ => Fin.ext (by show 2560 + 1 * (i 1).val + 16 = 2576 + (i 1).val; omega))

/-- Result 3 in full: the columns from 3088 of the mathematics. -/
theorem result8 (i : S16384x512.Idx) : G8 m c i
    = entry (argX m c) (argSh m c) (argSc m c) (argG m c) (argW m c) (i 0).val (i 0).isLt (3088 + (i 1).val)
        (by have h1 : (i 1).val < 512 := (i 1).isLt; omega) := by
  have h0 : (i 0).val < 16384 := (i 0).isLt
  have h1 : (i 1).val < 512 := (i 1).isLt
  have hn : (i 0).val / 512 < cfg0.N := lt_of_lt_of_eq (by omega) (show cfg0.N = 32 from N_0).symm
  refine (ends8 m c i hn).trans ?_
  rw [show loc8Of i = ix2 ⟨(i 0).val % 512, Nat.mod_lt _ (by decide)⟩ ⟨(i 1).val, h1⟩ from funext fun d => match d with
    | ⟨0, _⟩ => rfl
    | ⟨1, _⟩ => Fin.ext (Nat.mod_eq_of_lt h1)]
  refine (product8 _ _ _ _ _ _ _).trans (Finset.sum_congr rfl fun j _ => ?_)
  rw [rows_normed m c (i 0).val h0 hn j]
  refine congrArg _ ?_
  refine Eq.trans ?_ (column m c j _ _)
  refine (arranged_mid (V m c main_v4) _ (by show 2560 ≤ 3072 + 1 * (i 1).val ∧ 3072 + 1 * (i 1).val < 4608; omega)).trans ?_
  exact congrArg (V m c main_v4) (funext fun d => match d with
    | ⟨0, _⟩ => Fin.ext (by show 0 + 1 * j.val = j.val; omega)
    | ⟨1, _⟩ => Fin.ext (by show 3072 + 1 * (i 1).val + 16 = 3088 + (i 1).val; omega))

/-- Result 4 in full: the columns from 3600 of the mathematics. -/
theorem result9 (i : S16384x1024.Idx) : G9 m c i
    = entry (argX m c) (argSh m c) (argSc m c) (argG m c) (argW m c) (i 0).val (i 0).isLt (3600 + (i 1).val)
        (by have h1 : (i 1).val < 1024 := (i 1).isLt; omega) := by
  have h0 : (i 0).val < 16384 := (i 0).isLt
  have h1 : (i 1).val < 1024 := (i 1).isLt
  have hn : (i 0).val / 512 < cfg0.N := lt_of_lt_of_eq (by omega) (show cfg0.N = 32 from N_0).symm
  refine (ends9 m c i hn).trans ?_
  rw [show loc9Of i = ix2 ⟨(i 0).val % 512, Nat.mod_lt _ (by decide)⟩ ⟨(i 1).val, h1⟩ from funext fun d => match d with
    | ⟨0, _⟩ => rfl
    | ⟨1, _⟩ => Fin.ext (Nat.mod_eq_of_lt h1)]
  refine (product9 _ _ _ _ _ _ _).trans (Finset.sum_congr rfl fun j _ => ?_)
  rw [rows_normed m c (i 0).val h0 hn j]
  refine congrArg _ ?_
  refine Eq.trans ?_ (column m c j _ _)
  refine (arranged_mid (V m c main_v4) _ (by show 2560 ≤ 3584 + 1 * (i 1).val ∧ 3584 + 1 * (i 1).val < 4608; omega)).trans ?_
  exact congrArg (V m c main_v4) (funext fun d => match d with
    | ⟨0, _⟩ => Fin.ext (by show 0 + 1 * j.val = j.val; omega)
    | ⟨1, _⟩ => Fin.ext (by show 3584 + 1 * (i 1).val + 16 = 3600 + (i 1).val; omega))

/-- Result 5 in full: the columns from 4640 of the mathematics. -/
theorem result10 (i : S16384x1024.Idx) : G10 m c i
    = entry (argX m c) (argSh m c) (argSc m c) (argG m c) (argW m c) (i 0).val (i 0).isLt (4640 + (i 1).val)
        (by have h1 : (i 1).val < 1024 := (i 1).isLt; omega) := by
  have h0 : (i 0).val < 16384 := (i 0).isLt
  have h1 : (i 1).val < 1024 := (i 1).isLt
  have hn : (i 0).val / 512 < cfg0.N := lt_of_lt_of_eq (by omega) (show cfg0.N = 32 from N_0).symm
  refine (ends10 m c i hn).trans ?_
  rw [show loc10Of i = ix2 ⟨(i 0).val % 512, Nat.mod_lt _ (by decide)⟩ ⟨(i 1).val, h1⟩ from funext fun d => match d with
    | ⟨0, _⟩ => rfl
    | ⟨1, _⟩ => Fin.ext (Nat.mod_eq_of_lt h1)]
  refine (product10 _ _ _ _ _ _ _).trans (Finset.sum_congr rfl fun j _ => ?_)
  rw [rows_normed m c (i 0).val h0 hn j]
  refine congrArg _ ?_
  refine Eq.trans ?_ (column m c j _ _)
  refine (arranged_high (V m c main_v4) _ (by show 4608 ≤ 4608 + 1 * (i 1).val ∧ 4608 + 1 * (i 1).val < 5632; omega)).trans ?_
  exact congrArg (V m c main_v4) (funext fun d => match d with
    | ⟨0, _⟩ => Fin.ext (by show 0 + 1 * j.val = j.val; omega)
    | ⟨1, _⟩ => Fin.ext (by show 4608 + 1 * (i 1).val + 32 = 4640 + (i 1).val; omega))

/-- The narrow result in full: the two narrow groups of columns, then zeros. -/
theorem result11 (i : S16384x128.Idx) : G11 m c i
    = if h : (i 1).val < 16 then entry (argX m c) (argSh m c) (argSc m c) (argG m c) (argW m c) (i 0).val (i 0).isLt (2560 + (i 1).val) (by omega)
      else if h : (i 1).val < 32 then entry (argX m c) (argSh m c) (argSc m c) (argG m c) (argW m c) (i 0).val (i 0).isLt (4608 + (i 1).val) (by omega)
      else 0 := by
  have h0 : (i 0).val < 16384 := (i 0).isLt
  have h1 : (i 1).val < 128 := (i 1).isLt
  have hn : (i 0).val / 512 < cfg0.N := lt_of_lt_of_eq (by omega) (show cfg0.N = 32 from N_0).symm
  refine (ends11 m c i hn).trans ?_
  rw [show loc11Of i = ix2 ⟨(i 0).val % 512, Nat.mod_lt _ (by decide)⟩ ⟨(i 1).val, h1⟩ from funext fun d => match d with
    | ⟨0, _⟩ => rfl
    | ⟨1, _⟩ => Fin.ext (Nat.mod_eq_of_lt h1)]
  refine (product11 _ _ _ _ _ _ _).trans ?_
  by_cases ha : (i 1).val < 16
  · rw [dif_pos ha]
    refine Finset.sum_congr rfl fun j _ => ?_
    rw [rows_normed m c (i 0).val h0 hn j]
    refine congrArg _ ?_
    refine Eq.trans ?_ (column m c j _ _)
    refine (arranged_dt (V m c main_v4) _ (by show 5632 ≤ 5632 + 1 * (i 1).val ∧ 5632 + 1 * (i 1).val < 5648; omega)).trans ?_
    exact congrArg (V m c main_v4) (funext fun d => match d with
      | ⟨0, _⟩ => Fin.ext (by show 0 + 1 * j.val = j.val; omega)
      | ⟨1, _⟩ => Fin.ext (by show 5632 + 1 * (i 1).val - 3072 = 2560 + (i 1).val; omega))
  · rw [dif_neg ha]
    by_cases hb : (i 1).val < 32
    · rw [dif_pos hb]
      refine Finset.sum_congr rfl fun j _ => ?_
      rw [rows_normed m c (i 0).val h0 hn j]
      refine congrArg _ ?_
      refine Eq.trans ?_ (column m c j _ _)
      refine (arranged_gate (V m c main_v4) _ (by show 5648 ≤ 5632 + 1 * (i 1).val ∧ 5632 + 1 * (i 1).val < 5664; omega)).trans ?_
      exact congrArg (V m c main_v4) (funext fun d => match d with
        | ⟨0, _⟩ => Fin.ext (by show 0 + 1 * j.val = j.val; omega)
        | ⟨1, _⟩ => Fin.ext (by show 5632 + 1 * (i 1).val - 1024 = 4608 + (i 1).val; omega))
    · rw [dif_neg hb]
      refine Finset.sum_eq_zero fun j _ => ?_
      refine Eq.trans (congrArg _ (arranged_pad (V m c main_v4) _ (by show 5664 ≤ 5632 + 1 * (i 1).val; omega))) ?_
      refine Eq.trans (congrArg _ (show (Scalar.ofBits .bf16 0x0000#16 : Ideal .bf16) = (0 : EReal) from zero_half)) ?_
      exact mul_zero _

end Cert.Kernel2Ideal.Hand

end
-- ==== Proof.ProjFinal.lean ====
/-
  The input projection: the reference's run, and its results against the kernel's.
-/
module

public import proofs.«01_k».proof.Proof.ProjRef
public import proofs.«01_k».proof.Proof.ProjValue
public import proofs.«01_k».proof.Proof.Gen.Kernel2
public import proofs.«01_k».proof.Defs
public import Idealize.ShloMosaic.Lib.StableHlo.RunRead

@[expose] public section

set_option maxRecDepth 200000
set_option maxHeartbeats 1000000

noncomputable section

namespace Cert.ProjRef

open Cert.Reference2Ideal Cert.Reference2Ideal.Facts Cert.Reference2Ideal.Facts₀
open Idealize.ShloMosaic Idealize.ShloMosaic.TcCoe Idealize.ShloMosaic.ValueIdx Idealize.SL.Sem
open Cert.Kernel2Ideal.Hand (normed entry)

variable (X : FVec Ideal S4x4096x1024 .f32) (SH SC : FVec Ideal S4x1024 .f32) (G : FVec Ideal S1024 .f32) (W : FVec Ideal S1024x5664 .f32)

/-- Result 0: the product's columns from 0. -/
def wide0 : FVec Ideal S16384x1024 .bf16 :=
  truncf .bf16 (extractStridedSlice S16384x1024 ![0, 0] (product X SH SC G W) slices_S16384x5664_S16384x1024_0_0) bitsLt_bf16_f32

theorem wide0_apply (i : S16384x1024.Idx) : wide0 X SH SC G W i
    = entry X SH SC G W (i 0).val (i 0).isLt (0 + (i 1).val) (by have h1 : (i 1).val < 1024 := (i 1).isLt; omega) := by
  have h0 : (i 0).val < 16384 := (i 0).isLt
  have h1 : (i 1).val < 1024 := (i 1).isLt
  refine Eq.trans ?_ (product_apply X SH SC G W _ h0 _ _)
  exact congrArg (product X SH SC G W) (funext fun a => match a with
    | ⟨0, _⟩ => Fin.ext (by show 0 + (i 0).val = (i 0).val; omega)
    | ⟨1, _⟩ => rfl)

/-- Result 1: the product's columns from 1024. -/
def wide1 : FVec Ideal S16384x1536 .bf16 :=
  truncf .bf16 (extractStridedSlice S16384x1536 ![0, 1024] (product X SH SC G W) slices_S16384x5664_S16384x1536_0_1024) bitsLt_bf16_f32

theorem wide1_apply (i : S16384x1536.Idx) : wide1 X SH SC G W i
    = entry X SH SC G W (i 0).val (i 0).isLt (1024 + (i 1).val) (by have h1 : (i 1).val < 1536 := (i 1).isLt; omega) := by
  have h0 : (i 0).val < 16384 := (i 0).isLt
  have h1 : (i 1).val < 1536 := (i 1).isLt
  refine Eq.trans ?_ (product_apply X SH SC G W _ h0 _ _)
  exact congrArg (product X SH SC G W) (funext fun a => match a with
    | ⟨0, _⟩ => Fin.ext (by show 0 + (i 0).val = (i 0).val; omega)
    | ⟨1, _⟩ => rfl)

/-- Result 2: the product's columns from 2576. -/
def wide2 : FVec Ideal S16384x512 .bf16 :=
  truncf .bf16 (extractStridedSlice S16384x512 ![0, 2576] (product X SH SC G W) slices_S16384x5664_S16384x512_0_2576) bitsLt_bf16_f32

theorem wide2_apply (i : S16384x512.Idx) : wide2 X SH SC G W i
    = entry X SH SC G W (i 0).val (i 0).isLt (2576 + (i 1).val) (by have h1 : (i 1).val < 512 := (i 1).isLt; omega) := by
  have h0 : (i 0).val < 16384 := (i 0).isLt
  have h1 : (i 1).val < 512 := (i 1).isLt
  refine Eq.trans ?_ (product_apply X SH SC G W _ h0 _ _)
  exact congrArg (product X SH SC G W) (funext fun a => match a with
    | ⟨0, _⟩ => Fin.ext (by show 0 + (i 0).val = (i 0).val; omega)
    | ⟨1, _⟩ => rfl)

/-- Result 3: the product's columns from 3088. -/
def wide3 : FVec Ideal S16384x512 .bf16 :=
  truncf .bf16 (extractStridedSlice S16384x512 ![0, 3088] (product X SH SC G W) slices_S16384x5664_S16384x512_0_3088) bitsLt_bf16_f32

theorem wide3_apply (i : S16384x512.Idx) : wide3 X SH SC G W i
    = entry X SH SC G W (i 0).val (i 0).isLt (3088 + (i 1).val) (by have h1 : (i 1).val < 512 := (i 1).isLt; omega) := by
  have h0 : (i 0).val < 16384 := (i 0).isLt
  have h1 : (i 1).val < 512 := (i 1).isLt
  refine Eq.trans ?_ (product_apply X SH SC G W _ h0 _ _)
  exact congrArg (product X SH SC G W) (funext fun a => match a with
    | ⟨0, _⟩ => Fin.ext (by show 0 + (i 0).val = (i 0).val; omega)
    | ⟨1, _⟩ => rfl)

/-- Result 4: the product's columns from 3600. -/
def wide4 : FVec Ideal S16384x1024 .bf16 :=
  truncf .bf16 (extractStridedSlice S16384x1024 ![0, 3600] (product X SH SC G W) slices_S16384x5664_S16384x1024_0_3600) bitsLt_bf16_f32

theorem wide4_apply (i : S16384x1024.Idx) : wide4 X SH SC G W i
    = entry X SH SC G W (i 0).val (i 0).isLt (3600 + (i 1).val) (by have h1 : (i 1).val < 1024 := (i 1).isLt; omega) := by
  have h0 : (i 0).val < 16384 := (i 0).isLt
  have h1 : (i 1).val < 1024 := (i 1).isLt
  refine Eq.trans ?_ (product_apply X SH SC G W _ h0 _ _)
  exact congrArg (product X SH SC G W) (funext fun a => match a with
    | ⟨0, _⟩ => Fin.ext (by show 0 + (i 0).val = (i 0).val; omega)
    | ⟨1, _⟩ => rfl)

/-- Result 5: the product's columns from 4640. -/
def wide5 : FVec Ideal S16384x1024 .bf16 :=
  truncf .bf16 (extractStridedSlice S16384x1024 ![0, 4640] (product X SH SC G W) slices_S16384x5664_S16384x1024_0_4640) bitsLt_bf16_f32

theorem wide5_apply (i : S16384x1024.Idx) : wide5 X SH SC G W i
    = entry X SH SC G W (i 0).val (i 0).isLt (4640 + (i 1).val) (by have h1 : (i 1).val < 1024 := (i 1).isLt; omega) := by
  have h0 : (i 0).val < 16384 := (i 0).isLt
  have h1 : (i 1).val < 1024 := (i 1).isLt
  refine Eq.trans ?_ (product_apply X SH SC G W _ h0 _ _)
  exact congrArg (product X SH SC G W) (funext fun a => match a with
    | ⟨0, _⟩ => Fin.ext (by show 0 + (i 0).val = (i 0).val; omega)
    | ⟨1, _⟩ => rfl)

/-- The reference's run: its seven results, and its arguments as before. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v33) = wide0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = wide1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = wide2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = wide3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v37) = wide4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v38) = wide5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v32) = small (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r hr c => ?_) (StableHlo.run_hlo _ _ (by hlo_seq) (by decide) (by decide) (by simp)
    (by intro _ h; (repeat (cases h with | head => rfl | tail _ h => ?_)); exact nomatch h) m g)
  refine ⟨(hr c main_v33).trans ?_, (hr c main_v34).trans ?_, (hr c main_v35).trans ?_, (hr c main_v36).trans ?_, (hr c main_v37).trans ?_, (hr c main_v38).trans ?_, (hr c main_v32).trans ?_, (hr c main_arg0).trans ?_, (hr c main_arg1).trans ?_, (hr c main_arg2).trans ?_, (hr c main_arg3).trans ?_, (hr c main_arg4).trans ?_⟩
  all_goals after_reads_simp
  all_goals rfl

end Cert.ProjRef

end
-- ==== Proof.ProjClaims.lean ====
/-
  The input projection's claims: the two printings of the kernel are one program, and its results are the reference's.
-/
module

public import proofs.«01_k».proof.Proof.ProjFinal

@[expose] public section

set_option maxRecDepth 16384
set_option maxHeartbeats 1000000

noncomputable section

namespace Cert.ProjClaims

open Idealize.ShloMosaic Idealize.ShloMosaic.TcCoe Idealize.SL.Sem
open Cert.Kernel2Ideal.Hand

theorem bodies_eq : Cert.Kernel2.defs₀ (F := Bits) = Cert.Kernel2Ideal.defs₀ := by
  unfold Cert.Kernel2.defs₀ Cert.Kernel2Ideal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem defs_eq : Cert.Kernel2.defs (F := Bits) = Cert.Kernel2Ideal.defs := by
  unfold Cert.Kernel2.defs Cert.Kernel2Ideal.defs
  rw [bodies_eq]
  rfl

theorem main_eq : Cert.Kernel2.main (F := Bits) = Cert.Kernel2Ideal.main := rfl

theorem frame_kernel : Cert.quiescent_Kernel2 := fun m g _ => by
  rw [defs_eq, main_eq]
  exact Cert.Kernel2Ideal.Gen.frame (F := Bits) m g

theorem frame_kernelIdeal : Cert.quiescent_Kernel2Ideal := fun m g _ => Cert.Kernel2Ideal.Gen.frame (F := Ideal) m g

theorem frame_referenceIdeal : Cert.quiescent_Reference2Ideal := fun m g _ =>
  (θ_run Cert.Reference2Ideal.defs _ _).mono
    (fun r h => ⟨fun c => (h c).2.2.2.2.2.2.2, sem_eq_zero_of_no_sems (by decide) r.2⟩) (Cert.ProjRef.run m g)

theorem algebraic : Cert.algebraic_Kernel2Ideal_Reference2Ideal := fun m g m' g' _ hagree => by
  refine ⟨fun c => Cert.Kernel2Ideal.Value.G5 m c, fun c => Cert.Kernel2Ideal.Value.G6 m c, fun c => Cert.Kernel2Ideal.Value.G7 m c,
    fun c => Cert.Kernel2Ideal.Value.G8 m c, fun c => Cert.Kernel2Ideal.Value.G9 m c, fun c => Cert.Kernel2Ideal.Value.G10 m c,
    fun c => Cert.Kernel2Ideal.Value.G11 m c, Cert.Kernel2Ideal.Value.run (F := Ideal) m g,
    (θ_run Cert.Reference2Ideal.defs _ _).mono (fun r h c => ?_) (Cert.ProjRef.run m' g')⟩
  obtain ⟨e0, e1, e2, e3, e4, e5, e6, ha⟩ := h c
  obtain ⟨a0, a1, a2, a3, a4⟩ := hagree c
  rw [a0, a1, a2, a3, a4] at e0 e1 e2 e3 e4 e5 e6
  exact ⟨e0.trans (funext fun i => (Cert.ProjRef.wide0_apply _ _ _ _ _ i).trans (result5 m c i).symm),
    e1.trans (funext fun i => (Cert.ProjRef.wide1_apply _ _ _ _ _ i).trans (result6 m c i).symm),
    e2.trans (funext fun i => (Cert.ProjRef.wide2_apply _ _ _ _ _ i).trans (result7 m c i).symm),
    e3.trans (funext fun i => (Cert.ProjRef.wide3_apply _ _ _ _ _ i).trans (result8 m c i).symm),
    e4.trans (funext fun i => (Cert.ProjRef.wide4_apply _ _ _ _ _ i).trans (result9 m c i).symm),
    e5.trans (funext fun i => (Cert.ProjRef.wide5_apply _ _ _ _ _ i).trans (result10 m c i).symm),
    e6.trans (funext fun i => (Cert.ProjRef.small_apply _ _ _ _ _ i).trans (result11 m c i).symm), ha⟩

end Cert.ProjClaims

end
-- ==== Proof.ExpCopy.lean ====
/-
  The experts' weights on their way: the three copies of one expert's matrices into a place of the three double buffers, all
  three on the place's semaphore, started together and waited for together.
-/
module

public import proofs.«01_k».proof.Proof.Gen.Kernel3Ideal.Skeleton
public import proofs.«01_k».proof.Proof.Gen.Kernel3Ideal.Launch
public import proofs.«01_k».proof.Proof.Lend
public import Idealize.ShloMosaic.Lib.Pipeline.FrameBody
public import Idealize.ShloMosaic.Lib.ValueIdx

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The buffers -/

abbrev bWg : Memref sig .tc .hbm S32x1024x1024 .f32 := Memref.whole main_arg4
abbrev bWu : Memref sig .tc .hbm S32x1024x1024 .f32 := Memref.whole main_arg6
abbrev bWd : Memref sig .tc .hbm S32x1024x1024 .f32 := Memref.whole main_arg8
abbrev bFg : Memref sig .tc .vmem S2x1024x1024 .f32 := Memref.whole cc0_scratch0
abbrev bFu : Memref sig .tc .vmem S2x1024x1024 .f32 := Memref.whole cc0_scratch1
abbrev bFd : Memref sig .tc .vmem S2x1024x1024 .f32 := Memref.whole cc0_scratch2

abbrev Prg (F : FTy → Type) [FloatOps F] (α : Type) := Prog (TpuEff nD τ sig (Elt F) Λ₀ .tc) α

abbrev runs (c : Dev nD) {α : Type} (p : Prg F α) (Q : α → sProp 𝕄) : sProp 𝕄 :=
  wp frame (wpE (defs₀ (F := F)) Variants.none (c : Thread nD τ) none) Set.univ p Q

/-- One expert's matrices, all experts stacked. -/
abbrev Stack (F : FTy → Type) := S32x1024x1024.Idx → Elt F .f32

/-- Expert `e`'s matrix in the stack, and place `s` of a double buffer. -/
def slab (e : ℕ) : Finset S32x1024x1024.Idx := Finset.univ.filter fun x => (x 0).val = e
def place (s : ℕ) : Finset S2x1024x1024.Idx := Finset.univ.filter fun x => (x 0).val = s

/-- A double buffer filled with expert `e`'s matrix in both places. -/
def staged (W : Stack F) (e : ℕ) : S2x1024x1024.Idx → Elt F .f32 := fun x => W (ValueIdx.ix3 ⟨e % 32, Nat.mod_lt _ (by decide)⟩ (x 1) (x 2))

theorem slab_set {e : ℕ} {off : Fin 3 → ℕ} {inb} (h0 : off 0 = e) (h1 : off 1 = 0) (h2 : off 2 = 0) :
    (Rect.unit (s := S32x1024x1024) off S1x1024x1024.size inb).set = slab e := by
  ext x
  rw [Rect.mem_set_unit, slab, Finset.mem_filter]
  have b1 : (x 1).val < 1024 := (x 1).isLt
  have b2 : (x 2).val < 1024 := (x 2).isLt
  constructor
  · intro h
    have := h 0
    rw [h0, show S1x1024x1024.size 0 = 1 from rfl] at this
    exact ⟨Finset.mem_univ _, by omega⟩
  · rintro ⟨-, h⟩ a
    match a with
    | ⟨0, _⟩ => show off 0 ≤ (x 0).val ∧ (x 0).val < off 0 + 1; omega
    | ⟨1, _⟩ => show off 1 ≤ (x 1).val ∧ (x 1).val < off 1 + 1024; omega
    | ⟨2, _⟩ => show off 2 ≤ (x 2).val ∧ (x 2).val < off 2 + 1024; omega

theorem place_set {s : ℕ} {off : Fin 3 → ℕ} {inb} (h0 : off 0 = s) (h1 : off 1 = 0) (h2 : off 2 = 0) :
    (Rect.unit (s := S2x1024x1024) off S1x1024x1024.size inb).set = place s := by
  ext x
  rw [Rect.mem_set_unit, place, Finset.mem_filter]
  have b1 : (x 1).val < 1024 := (x 1).isLt
  have b2 : (x 2).val < 1024 := (x 2).isLt
  constructor
  · intro h
    have := h 0
    rw [h0, show S1x1024x1024.size 0 = 1 from rfl] at this
    exact ⟨Finset.mem_univ _, by omega⟩
  · rintro ⟨-, h⟩ a
    match a with
    | ⟨0, _⟩ => show off 0 ≤ (x 0).val ∧ (x 0).val < off 0 + 1; omega
    | ⟨1, _⟩ => show off 1 ≤ (x 1).val ∧ (x 1).val < off 1 + 1024; omega
    | ⟨2, _⟩ => show off 2 ≤ (x 2).val ∧ (x 2).val < off 2 + 1024; omega

/-! ## One array's copy: a stack `w` of matrices and a double buffer `b` -/

section One

variable (c : Dev nD)

/-- The matrix of a stack at a place of its double buffer, as the copies' memrefs name them. -/
abbrev srcOf (w : Memref sig .tc .hbm S32x1024x1024 .f32) (off : Fin 3 → ℕ) (inb : ∀ a, off a + S1x1024x1024.size a ≤ S32x1024x1024.size a) : Memref sig .tc .hbm S1024x1024 .f32 :=
  (w.slice (Rect.unit (s := S32x1024x1024) off S1x1024x1024.size inb) (fun _ => rfl)).squeeze S1024x1024 squeezes_S1x1024x1024_S1024x1024
abbrev dstOf (b : Memref sig .tc .vmem S2x1024x1024 .f32) (off : Fin 3 → ℕ) (inb : ∀ a, off a + S1x1024x1024.size a ≤ S2x1024x1024.size a) : Memref sig .tc .vmem S1024x1024 .f32 :=
  (b.slice (Rect.unit (s := S2x1024x1024) off S1x1024x1024.size inb) (fun _ => rfl)).squeeze S1024x1024 squeezes_S1x1024x1024_S1024x1024

/-- The index of the matrix `e` at the row and column of an index of the place. -/
theorem emb_match {e : ℕ} (he : e < 32) {offS offD : Fin 3 → ℕ} {inbS inbD} (hS0 : offS 0 = e) (hS1 : offS 1 = 0) (hS2 : offS 2 = 0)
    (hD1 : offD 1 = 0) (hD2 : offD 2 = 0) (z : S1x1024x1024.Idx) :
    (Rect.unit (s := S32x1024x1024) offS S1x1024x1024.size inbS).emb z
      = ValueIdx.ix3 ⟨e % 32, Nat.mod_lt _ (by decide)⟩ ((Rect.unit (s := S2x1024x1024) offD S1x1024x1024.size inbD).emb z 1)
        ((Rect.unit (s := S2x1024x1024) offD S1x1024x1024.size inbD).emb z 2) := by
  have z0 : (z 0).val < 1 := (z 0).isLt
  funext a
  match a with
  | ⟨0, _⟩ => refine Fin.ext ?_; show offS 0 + 1 * (z 0).val = e % 32; omega
  | ⟨1, _⟩ => refine Fin.ext ?_; show offS 1 + 1 * (z 1).val = offD 1 + 1 * (z 1).val; omega
  | ⟨2, _⟩ => refine Fin.ext ?_; show offS 2 + 1 * (z 2).val = offD 2 + 1 * (z 2).val; omega

end One

theorem written_at {sp : Space} {s : Shape} {e : EltTy} (v : View sig .tc sp s e) (f : v.ty.Contents (Elt F)) (w : s.Idx → Elt F e)
    {x : v.ty.Idx} (hx : x ∈ v.set) : ∃ y, v.emb y = x ∧ v.write (Elt F) f w Finset.univ x = _root_.cast (congrArg (Elt F) v.elt_eq.symm) (w y) := by
  unfold View.set at hx
  obtain ⟨y, -, rfl⟩ := Finset.mem_map.mp hx
  exact ⟨y, rfl, v.write_emb_of_mem f w (Finset.mem_univ y)⟩

theorem src_set_g {e : ℕ} {off : Fin 3 → ℕ} {inb} (h0 : off 0 = e) (h1 : off 1 = 0) (h2 : off 2 = 0) : (srcOf bWg off inb).view.set = slab e :=
  ((View.set_reshape _ _).trans (View.set_slice_whole _ _)).trans (slab_set h0 h1 h2)
theorem src_set_u {e : ℕ} {off : Fin 3 → ℕ} {inb} (h0 : off 0 = e) (h1 : off 1 = 0) (h2 : off 2 = 0) : (srcOf bWu off inb).view.set = slab e :=
  ((View.set_reshape _ _).trans (View.set_slice_whole _ _)).trans (slab_set h0 h1 h2)
theorem src_set_d {e : ℕ} {off : Fin 3 → ℕ} {inb} (h0 : off 0 = e) (h1 : off 1 = 0) (h2 : off 2 = 0) : (srcOf bWd off inb).view.set = slab e :=
  ((View.set_reshape _ _).trans (View.set_slice_whole _ _)).trans (slab_set h0 h1 h2)
theorem dst_set_g {s : ℕ} {off : Fin 3 → ℕ} {inb} (h0 : off 0 = s) (h1 : off 1 = 0) (h2 : off 2 = 0) : (dstOf bFg off inb).view.set = place s :=
  ((View.set_reshape _ _).trans (View.set_slice_whole _ _)).trans (place_set h0 h1 h2)
theorem dst_set_u {s : ℕ} {off : Fin 3 → ℕ} {inb} (h0 : off 0 = s) (h1 : off 1 = 0) (h2 : off 2 = 0) : (dstOf bFu off inb).view.set = place s :=
  ((View.set_reshape _ _).trans (View.set_slice_whole _ _)).trans (place_set h0 h1 h2)
theorem dst_set_d {s : ℕ} {off : Fin 3 → ℕ} {inb} (h0 : off 0 = s) (h1 : off 1 = 0) (h2 : off 2 = 0) : (dstOf bFd off inb).view.set = place s :=
  ((View.set_reshape _ _).trans (View.set_slice_whole _ _)).trans (place_set h0 h1 h2)

section Written

variable {e s : ℕ} (he : e < 32) {offS offD : Fin 3 → ℕ} {inbS inbD} (hS0 : offS 0 = e) (hS1 : offS 1 = 0) (hS2 : offS 2 = 0)
  (hD0 : offD 0 = s) (hD1 : offD 1 = 0) (hD2 : offD 2 = 0) (W : Stack F) (g : S2x1024x1024.Idx → Elt F .f32)
include he hS0 hS1 hS2 hD0 hD1 hD2

theorem written_g : ∀ x ∈ place s, (dstOf bFg offD inbD).view.write (Elt F) g
    (ReadAs.same.apply ((srcOf bWg offS inbS).view.read (Elt F) W)) Finset.univ x = staged W e x := by
  intro x hx
  rw [← dst_set_g (inb := inbD) hD0 hD1 hD2] at hx
  obtain ⟨y, hy, hw⟩ := written_at _ g (ReadAs.same.apply ((srcOf bWg offS inbS).view.read (Elt F) W)) hx
  rw [hw, ← hy]
  exact congrArg W (emb_match he hS0 hS1 hS2 hD1 hD2 _)
theorem written_u : ∀ x ∈ place s, (dstOf bFu offD inbD).view.write (Elt F) g
    (ReadAs.same.apply ((srcOf bWu offS inbS).view.read (Elt F) W)) Finset.univ x = staged W e x := by
  intro x hx
  rw [← dst_set_u (inb := inbD) hD0 hD1 hD2] at hx
  obtain ⟨y, hy, hw⟩ := written_at _ g (ReadAs.same.apply ((srcOf bWu offS inbS).view.read (Elt F) W)) hx
  rw [hw, ← hy]
  exact congrArg W (emb_match he hS0 hS1 hS2 hD1 hD2 _)
theorem written_d : ∀ x ∈ place s, (dstOf bFd offD inbD).view.write (Elt F) g
    (ReadAs.same.apply ((srcOf bWd offS inbS).view.read (Elt F) W)) Finset.univ x = staged W e x := by
  intro x hx
  rw [← dst_set_d (inb := inbD) hD0 hD1 hD2] at hx
  obtain ⟨y, hy, hw⟩ := written_at _ g (ReadAs.same.apply ((srcOf bWd offS inbS).view.read (Elt F) W)) hx
  rw [hw, ← hy]
  exact congrArg W (emb_match he hS0 hS1 hS2 hD1 hD2 _)

end Written

/-! ## The three copies -/

/-- The three stacks of matrices. -/
structure Mats (F : FTy → Type) where
  g : Stack F
  u : Stack F
  d : Stack F

/-- The places' semaphores. -/
abbrev sem0 : DmaSem sig := ((cc0_scratch7.slice (Rect.unit (s := S2) ![0] S1.size inb_S2_S1_0)).squeeze S_ squeezes_S1_S_).sem
abbrev sem1 : DmaSem sig := ((cc0_scratch7.slice (Rect.unit (s := S2) ![1] S1.size (by decide))).squeeze S_ squeezes_S1_S_).sem
def semOf : ℕ → DmaSem sig
  | 0 => sem0
  | _ => sem1

abbrev matUnits : ℕ := (dstOf bFg ![0, 0, 0] inb_S2x1024x1024_S1x1024x1024_0_0_0).view.dmaCredit

/-- What a copy leaves: the place at the expert's matrix, and the matrix it read. -/
def matOut (c : Dev nD) (W : Mats F) (s e : ℕ) (j : Fin 3) : sProp 𝕄 :=
  match j with
  | ⟨0, _⟩ => iprop((bFg.view.loc (c : Thread nD τ) ↦[place s]{fullShare} staged W.g e) ∗ (bWg.view.loc (c : Thread nD τ) ↦[slab e]{fullShare} W.g))
  | ⟨1, _⟩ => iprop((bFu.view.loc (c : Thread nD τ) ↦[place s]{fullShare} staged W.u e) ∗ (bWu.view.loc (c : Thread nD τ) ↦[slab e]{fullShare} W.u))
  | ⟨_, _⟩ => iprop((bFd.view.loc (c : Thread nD τ) ↦[place s]{fullShare} staged W.d e) ∗ (bWd.view.loc (c : Thread nD τ) ↦[slab e]{fullShare} W.d))

instance matOut_storable (c : Dev nD) (W : Mats F) (s e : ℕ) (j : Fin 3) : Storable (upEmb : UEmb _ 𝕄) (matOut c W s e j) := by
  unfold matOut; split <;> infer_instance

/-- The matrices in full. -/
def Whole (c : Dev nD) (W : Mats F) : sProp 𝕄 :=
  iprop((bWg.view.loc (c : Thread nD τ) ↦{fullShare} W.g) ∗ (bWu.view.loc (c : Thread nD τ) ↦{fullShare} W.u) ∗ (bWd.view.loc (c : Thread nD τ) ↦{fullShare} W.d))

/-- The matrices without expert `e`'s. -/
def Without (c : Dev nD) (W : Mats F) (e : ℕ) : sProp 𝕄 :=
  iprop((bWg.view.loc (c : Thread nD τ) ↦[Finset.univ \ slab e]{fullShare} W.g) ∗ (bWu.view.loc (c : Thread nD τ) ↦[Finset.univ \ slab e]{fullShare} W.u)
    ∗ (bWd.view.loc (c : Thread nD τ) ↦[Finset.univ \ slab e]{fullShare} W.d))

/-- Place `s` of the three double buffers, at anything. -/
def Place (c : Dev nD) (s : ℕ) : sProp 𝕄 :=
  iprop((∃ g : S2x1024x1024.Idx → Elt F .f32, bFg.view.loc (c : Thread nD τ) ↦[place s]{fullShare} g)
    ∗ (∃ g : S2x1024x1024.Idx → Elt F .f32, bFu.view.loc (c : Thread nD τ) ↦[place s]{fullShare} g)
    ∗ (∃ g : S2x1024x1024.Idx → Elt F .f32, bFd.view.loc (c : Thread nD τ) ↦[place s]{fullShare} g))

/-- Place `s` at expert `e`'s matrices. -/
def Filled (c : Dev nD) (W : Mats F) (s e : ℕ) : sProp 𝕄 :=
  iprop((bFg.view.loc (c : Thread nD τ) ↦[place s]{fullShare} staged W.g e) ∗ (bFu.view.loc (c : Thread nD τ) ↦[place s]{fullShare} staged W.u e)
    ∗ (bFd.view.loc (c : Thread nD τ) ↦[place s]{fullShare} staged W.d e))

def Quiet (c : Dev nD) (s : ℕ) : sProp 𝕄 := iprop(Place (F := F) c s ∗ semVal ((c : Thread nD τ), SemLoc.dma (semOf s)) 0)

abbrev matBatch (c : Dev nD) (W : Mats F) (s e j u : ℕ) : sProp 𝕄 :=
  Batch (countersEmb (U := Pipeline.UD sig nD τ)) (c : Thread nD τ) (.dma (semOf s)) () matUnits (matOut c W s e) j u

/-- The three copies of expert `e`'s matrices into place `s` are under way. -/
def Coming (c : Dev nD) (W : Mats F) (s e : ℕ) : sProp 𝕄 := iprop(matBatch c W s e 3 0 ∗ Without c W e)

variable {c : Dev nD} {W : Mats F}

/-- Starting the three copies. -/
theorem start_mats {R : sProp 𝕄} {α : Type} {s e : ℕ} (he : e < 32) (sm1 sm2 sm3 : DmaSem sig) (h1 : sm1 = semOf s) (h2 : sm2 = semOf s) (h3 : sm3 = semOf s)
    {o1 o2 o3 p1 p2 p3 : Fin 3 → ℕ} {i1 i2 i3 j1 j2 j3}
    (ho1 : o1 = ![e, 0, 0]) (ho2 : o2 = ![e, 0, 0]) (ho3 : o3 = ![e, 0, 0]) (hp1 : p1 = ![s, 0, 0]) (hp2 : p2 = ![s, 0, 0]) (hp3 : p3 = ![s, 0, 0])
    {x1 x2 x3 y1 y2 y3 z1 z2 z3} {J : Prg F α} {Q : α → sProp 𝕄} (hk : iprop(Coming c W s e ∗ R) ⊢ runs c J Q) :
    iprop(Whole c W ∗ Quiet c s ∗ R) ⊢ runs c (do
      Prog.lift (.enqueueDma (srcOf bWg o1 i1) (.here (dstOf bFg p1 j1)) (.dma sm1) x1 y1 z1)
      Prog.lift (.enqueueDma (srcOf bWu o2 i2) (.here (dstOf bFu p2 j2)) (.dma sm2) x2 y2 z2)
      Prog.lift (.enqueueDma (srcOf bWd o3 i3) (.here (dstOf bFd p3 j3)) (.dma sm3) x3 y3 z3)
      J) Q := by
  subst h1 h2 h3 ho1 ho2 ho3 hp1 hp2 hp3
  unfold Coming Without at hk
  unfold Whole Quiet Place
  iintro ⟨⟨Wg, Wu, Wd⟩, ⟨⟨⟨%gg, Fg⟩, ⟨%gu, Fu⟩, ⟨%gd, Fd⟩⟩, Hs⟩, HR⟩
  imod (Transfers.batch_alloc' (Lvl := ℕ) (countersEmb (U := Pipeline.UD sig nD τ)) (c : Thread nD τ) () matUnits (matOut c W s e)
    (sm := .dma (semOf s)) (E := Set.univ)) $$ Hs with HB
  icases ((pointsTo_split_subset (I := slab e) (Finset.subset_univ _)).1) $$ Wg with ⟨Wg, Wg'⟩
  icases ((pointsTo_split_subset (I := slab e) (Finset.subset_univ _)).1) $$ Wu with ⟨Wu, Wu'⟩
  icases ((pointsTo_split_subset (I := slab e) (Finset.subset_univ _)).1) $$ Wd with ⟨Wd, Wd'⟩
  have b1 : iprop((bFg.view.loc (c : Thread nD τ) ↦[place s]{fullShare} ((dstOf bFg ![s, 0, 0] j1).view.write (Elt F) gg
      (ReadAs.same.apply ((srcOf bWg ![e, 0, 0] i1).view.read (Elt F) W.g)) Finset.univ))
      ∗ (bWg.view.loc (c : Thread nD τ) ↦[(srcOf bWg ![e, 0, 0] i1).view.set]{fullShare} W.g)) ⊢ matOut c W s e ⟨0, by decide⟩ := by
    rw [src_set_g rfl rfl rfl]
    exact sep_mono_left (Entails.of_eq (pointsTo_congr (written_g (s := s) (offS := ![e, 0, 0]) (offD := ![s, 0, 0]) he rfl rfl rfl rfl rfl rfl W.g gg)))
  have b2 : iprop((bFu.view.loc (c : Thread nD τ) ↦[place s]{fullShare} ((dstOf bFu ![s, 0, 0] j2).view.write (Elt F) gu
      (ReadAs.same.apply ((srcOf bWu ![e, 0, 0] i2).view.read (Elt F) W.u)) Finset.univ))
      ∗ (bWu.view.loc (c : Thread nD τ) ↦[(srcOf bWu ![e, 0, 0] i2).view.set]{fullShare} W.u)) ⊢ matOut c W s e ⟨1, by decide⟩ := by
    rw [src_set_u rfl rfl rfl]
    exact sep_mono_left (Entails.of_eq (pointsTo_congr (written_u (s := s) (offS := ![e, 0, 0]) (offD := ![s, 0, 0]) he rfl rfl rfl rfl rfl rfl W.u gu)))
  have b3 : iprop((bFd.view.loc (c : Thread nD τ) ↦[place s]{fullShare} ((dstOf bFd ![s, 0, 0] j3).view.write (Elt F) gd
      (ReadAs.same.apply ((srcOf bWd ![e, 0, 0] i3).view.read (Elt F) W.d)) Finset.univ))
      ∗ (bWd.view.loc (c : Thread nD τ) ↦[(srcOf bWd ![e, 0, 0] i3).view.set]{fullShare} W.d)) ⊢ matOut c W s e ⟨2, by decide⟩ := by
    rw [src_set_d rfl rfl rfl]
    exact sep_mono_left (Entails.of_eq (pointsTo_congr (written_d (s := s) (offS := ![e, 0, 0]) (offD := ![s, 0, 0]) he rfl rfl rfl rfl rfl rfl W.d gd)))
  iapply (wp_dmaBatch (countersEmb (U := Pipeline.UD sig nD τ)) Variants.none (c : Thread nD τ) none
    (src := srcOf bWg ![e, 0, 0] i1) (dst := dstOf bFg ![s, 0, 0] j1) () matUnits rfl (dst_set_g rfl rfl rfl).subset
    (D := matOut c W s e) (j := 0) (u := 0) (by decide) (Nat.zero_le _) b1) $$ [Wg Fg HB]
  · isplitl [Wg]; · rw [src_set_g rfl rfl rfl]; iexact Wg
    isplitl [Fg]; · iexact Fg
    iexact HB
  iintro HB
  iapply (wp_dmaBatch (countersEmb (U := Pipeline.UD sig nD τ)) Variants.none (c : Thread nD τ) none
    (src := srcOf bWu ![e, 0, 0] i2) (dst := dstOf bFu ![s, 0, 0] j2) () matUnits rfl (dst_set_u rfl rfl rfl).subset
    (D := matOut c W s e) (j := 1) (u := 0) (by decide) (Nat.zero_le _) b2) $$ [Wu Fu HB]
  · isplitl [Wu]; · rw [src_set_u rfl rfl rfl]; iexact Wu
    isplitl [Fu]; · iexact Fu
    iexact HB
  iintro HB
  iapply (wp_dmaBatch (countersEmb (U := Pipeline.UD sig nD τ)) Variants.none (c : Thread nD τ) none
    (src := srcOf bWd ![e, 0, 0] i3) (dst := dstOf bFd ![s, 0, 0] j3) () matUnits rfl (dst_set_d rfl rfl rfl).subset
    (D := matOut c W s e) (j := 2) (u := 0) (by decide) (Nat.zero_le _) b3) $$ [Wd Fd HB]
  · isplitl [Wd]; · rw [src_set_d rfl rfl rfl]; iexact Wd
    isplitl [Fd]; · iexact Fd
    iexact HB
  iintro HB
  iapply hk
  isplitr [HR]
  · isplitl [HB]; · iexact HB
    isplitl [Wg']; · iexact Wg'
    isplitl [Wu']; · iexact Wu'
    iexact Wd'
  iexact HR

theorem matUnits_pos : 0 < matUnits := by decide

/-- Waiting for the three copies. -/
theorem await_mats {R : sProp 𝕄} {α : Type} {s e : ℕ} (sm1 sm2 sm3 : DmaSem sig) (h1 : sm1 = semOf s) (h2 : sm2 = semOf s) (h3 : sm3 = semOf s)
    {o1 o2 o3 p1 p2 p3 : Fin 3 → ℕ} {i1 i2 i3 j1 j2 j3}
    {x1 x2 x3 y1 y2 y3} {J : Prg F α} {Q : α → sProp 𝕄}
    (hk : iprop(Whole c W ∗ Filled c W s e ∗ semVal ((c : Thread nD τ), SemLoc.dma (semOf s)) 0 ∗ (∃ O, owes (c : Thread nD τ) 0 O) ∗ R) ⊢ runs c J Q) :
    iprop(Coming c W s e ∗ (∃ O, owes (c : Thread nD τ) 0 O) ∗ R) ⊢ runs c (do
      Prog.lift (.waitDma2 sm1 (srcOf bWg o1 i1) (dstOf bFg p1 j1) x1 y1)
      Prog.lift (.waitDma2 sm2 (srcOf bWu o2 i2) (dstOf bFu p2 j2) x2 y2)
      Prog.lift (.waitDma2 sm3 (srcOf bWd o3 i3) (dstOf bFd p3 j3) x3 y3)
      J) Q := by
  subst h1 h2 h3
  have hpos := matUnits_pos
  unfold Coming Without
  iintro ⟨⟨HB, Wg', Wu', Wd'⟩, ⟨%O, HO⟩, HR⟩
  iapply (wp_waitBatch (countersEmb (U := Pipeline.UD sig nD τ)) Variants.none (c : Thread nD τ) none
    (srcw := srcOf bWg o1 i1) (dstw := dstOf bFg p1 j1) (N := matUnits) () rfl (D := matOut c W s e) (u := 0) (by omega)) $$ [HB HO]
  · isplitl [HB]; · iexact HB
    iexact HO
  iintro ⟨HB, HO⟩
  iapply (wp_waitBatch (countersEmb (U := Pipeline.UD sig nD τ)) Variants.none (c : Thread nD τ) none
    (srcw := srcOf bWu o2 i2) (dstw := dstOf bFu p2 j2) (N := matUnits) () rfl (D := matOut c W s e) (u := 0 + matUnits) (by omega)) $$ [HB HO]
  · isplitl [HB]; · iexact HB
    iexact HO
  iintro ⟨HB, HO⟩
  iapply (wp_waitBatchAll (countersEmb (U := Pipeline.UD sig nD τ)) Variants.none (c : Thread nD τ) none
    (srcw := srcOf bWd o3 i3) (dstw := dstOf bFd p3 j3) (N := matUnits) (J := matUnits) () rfl hpos
    (D := matOut c W s e) (u := 0 + matUnits + matUnits) (by omega)) $$ [HB HO]
  · isplitl [HB]; · iexact HB
    iexact HO
  iintro ⟨Hp, Hs, HO⟩
  ihave Hp' := (Entails.of_eq (show bigSep Finset.univ (matOut c W s e)
    = iprop(((bFg.view.loc (c : Thread nD τ) ↦[place s]{fullShare} staged W.g e) ∗ (bWg.view.loc (c : Thread nD τ) ↦[slab e]{fullShare} W.g))
      ∗ ((bFu.view.loc (c : Thread nD τ) ↦[place s]{fullShare} staged W.u e) ∗ (bWu.view.loc (c : Thread nD τ) ↦[slab e]{fullShare} W.u))
      ∗ ((bFd.view.loc (c : Thread nD τ) ↦[place s]{fullShare} staged W.d e) ∗ (bWd.view.loc (c : Thread nD τ) ↦[slab e]{fullShare} W.d))) from
    bigSep_univ_eq_bigSepL [(0 : Fin 3), 1, 2] (by decide) (by decide) _)) $$ Hp
  icases Hp' with ⟨⟨Fg, Wg⟩, ⟨Fu, Wu⟩, Fd, Wd⟩
  iapply hk
  unfold Whole Filled
  isplitl [Wg Wg' Wu Wu' Wd Wd']
  · isplitl [Wg Wg']
    · iapply (pointsTo_split_subset (I := slab e) (Finset.subset_univ _)).2
      isplitl [Wg]; · iexact Wg
      iexact Wg'
    isplitl [Wu Wu']
    · iapply (pointsTo_split_subset (I := slab e) (Finset.subset_univ _)).2
      isplitl [Wu]; · iexact Wu
      iexact Wu'
    iapply (pointsTo_split_subset (I := slab e) (Finset.subset_univ _)).2
    isplitl [Wd]; · iexact Wd
    iexact Wd'
  isplitl [Fg Fu Fd]
  · isplitl [Fg]; · iexact Fg
    isplitl [Fu]; · iexact Fu
    iexact Fd
  isplitl [Hs]; · iexact Hs
  isplitl [HO]; · iexists _; iexact HO
  iexact HR

end Cert.Kernel3Ideal.Hand

end
-- ==== Proof.ExpRound.lean ====
/-
  The words the experts' call reads from its tables, and the rounding of one expert's matrices into the buffers the products read.
-/
module

public import proofs.«01_k».proof.Proof.ExpCopy

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The tables -/

abbrev bBe : Memref sig .tc .smem S160 .i32 := Memref.whole main_v13
abbrev bNu : Memref sig .tc .smem S1 .i32 := Memref.whole main_arg1
abbrev bEn : Memref sig .tc .smem S64 .i32 := Memref.whole main_arg2
abbrev bSlot : Memref sig .tc .smem S1 .i32 := Memref.whole cc0_scratch6
abbrev bBg : Memref sig .tc .vmem S1024x1024 .bf16 := Memref.whole cc0_scratch3
abbrev bBu : Memref sig .tc .vmem S1024x1024 .bf16 := Memref.whole cc0_scratch4
abbrev bBd : Memref sig .tc .vmem S1024x1024 .bf16 := Memref.whole cc0_scratch5

variable {c : Dev nD}

/-- The word at position `n` of a table. -/
def wordAt {d : ℕ} (f : (⟨1, ![d]⟩ : Shape).Idx → BitVec 32) (n : ℕ) : BitVec 32 := if h : n < d then f (fun _ => ⟨n, by simpa using h⟩) else 0

theorem read_be {f : S160.Idx → BitVec 32} {n : ℕ} (hn : n < 160) {off : Fin 1 → ℕ} (ho : off 0 = n) {inb h1} :
    (bBe.access (Rect.unit (s := S160) off S1.size inb)).read (Elt F) f (Shape.Idx.first h1) = wordAt f n := by
  unfold wordAt
  rw [dif_pos hn]
  refine congrArg f (funext fun a => Fin.ext ?_)
  fin_cases a
  have h0 : ((Shape.Idx.first (s := S1) h1) 0).val = 0 := Nat.lt_one_iff.mp (Fin.isLt _)
  show off 0 + 1 * ((Shape.Idx.first (s := S1) h1) 0).val = n
  rw [h0, ho]; rfl

theorem read_en {f : S64.Idx → BitVec 32} {n : ℕ} (hn : n < 64) {off : Fin 1 → ℕ} (ho : off 0 = n) {inb h1} :
    (bEn.access (Rect.unit (s := S64) off S1.size inb)).read (Elt F) f (Shape.Idx.first h1) = wordAt f n := by
  unfold wordAt
  rw [dif_pos hn]
  refine congrArg f (funext fun a => Fin.ext ?_)
  fin_cases a
  have h0 : ((Shape.Idx.first (s := S1) h1) 0).val = 0 := Nat.lt_one_iff.mp (Fin.isLt _)
  show off 0 + 1 * ((Shape.Idx.first (s := S1) h1) 0).val = n
  rw [h0, ho]; rfl

theorem read_nu {f : S1.Idx → BitVec 32} {inb h1} :
    (bNu.access (Rect.unit (s := S1) ![0] S1.size inb)).read (Elt F) f (Shape.Idx.first h1) = wordAt f 0 := by
  unfold wordAt
  rw [dif_pos (by decide)]
  refine congrArg f (funext fun a => Fin.ext ?_)
  fin_cases a
  have h0 : ((Shape.Idx.first (s := S1) h1) 0).val = 0 := Nat.lt_one_iff.mp (Fin.isLt _)
  show 0 + 1 * ((Shape.Idx.first (s := S1) h1) 0).val = 0
  rw [h0]

theorem read_slot {f : S1.Idx → BitVec 32} {inb h1} :
    (bSlot.access (Rect.unit (s := S1) ![0] S1.size inb)).read (Elt F) f (Shape.Idx.first h1) = wordAt f 0 := by
  unfold wordAt
  rw [dif_pos (by decide)]
  refine congrArg f (funext fun a => Fin.ext ?_)
  fin_cases a
  have h0 : ((Shape.Idx.first (s := S1) h1) 0).val = 0 := Nat.lt_one_iff.mp (Fin.isLt _)
  show 0 + 1 * ((Shape.Idx.first (s := S1) h1) 0).val = 0
  rw [h0]

/-- Reading one word of a buffer of words. -/
theorem read_word {s : Shape} (b : Memref sig .tc .smem s .i32) {r : Rect s} {h1 : r.shape.numel = 1} {q : PosShare TreeShare}
    {f : Buf (Elt F) ((b.access r).loc (c : Thread nD τ))} {v : BitVec 32}
    (hv : (b.access r).read (Elt F) f (Shape.Idx.first (h1.symm ▸ Nat.one_pos)) = v) {R : sProp 𝕄} {α : Type} {k : BitVec 32 → Prg F α} {Q : α → sProp 𝕄}
    (hk : iprop(((b.access r).loc (c : Thread nD τ) ↦{q} f) ∗ R) ⊢ runs c (k v) Q) :
    iprop(((b.access r).loc (c : Thread nD τ) ↦{q} f) ∗ R) ⊢ runs c (smemLoad b r h1 rfl >>= k) Q := by
  have step := wp_smemLoadElt (defs := defs₀ (F := F)) (Γ := []) Variants.none (c : Thread nD τ) none Set.univ (m := b)
    (r := r) (hw := View.loads_smem_one rfl h1) (x := Shape.Idx.first (h1.symm ▸ Nat.one_pos)) (k := k) (Q := Q) (q := q) (f := f) (Finset.subset_univ _)
  rw [hv] at step
  show _ ⊢ runs c (smemLoadElt b r (View.loads_smem_one rfl h1) (Shape.Idx.first (h1.symm ▸ Nat.one_pos)) k) Q
  iintro ⟨He, HR⟩
  iapply step $$ He
  iintro He
  iapply hk
  isplitl [He]; · iexact He
  iexact HR

/-- Writing the slot. -/
theorem write_slot {f : S1.Idx → BitVec 32} {v : BitVec 32} {inb x1 x2} {R : sProp 𝕄} {α : Type} {k : PUnit → Prg F α} {Q : α → sProp 𝕄}
    (hk : iprop((bSlot.view.loc (c : Thread nD τ) ↦{fullShare} fun _ => v) ∗ R) ⊢ runs c (k ⟨⟩) Q) :
    iprop((bSlot.view.loc (c : Thread nD τ) ↦{fullShare} f) ∗ R)
      ⊢ runs c (.op (.store bSlot (Rect.unit (s := S1) ![0] S1.size inb) (fun _ => v) Finset.univ x1 x2) k) Q := by
  have hw : (bSlot.access (Rect.unit (s := S1) ![0] S1.size inb)).write (Elt F) f (fun _ => v) Finset.univ = fun _ => v := by
    funext x
    have hx : x ∈ (bSlot.access (Rect.unit (s := S1) ![0] S1.size inb)).set := by
      rw [show (bSlot.access (Rect.unit (s := S1) ![0] S1.size inb)).set = (Rect.unit (s := S1) ![0] S1.size inb).set from View.set_slice_whole _ _]
      rw [Rect.mem_set_unit]
      intro a; fin_cases a
      have : (x 0).val < 1 := (x 0).isLt
      show 0 ≤ (x 0).val ∧ (x 0).val < 0 + 1
      omega
    obtain ⟨y, -, h⟩ := written_at (F := F) _ f (fun _ => v) hx
    exact h
  have step := wp_store (defs := defs₀ (F := F)) (Γ := []) Variants.none (c : Thread nD τ) none Set.univ (m := bSlot) (r := Rect.unit (s := S1) ![0] S1.size inb)
    (w := fun _ => v) (Mk := Finset.univ) (hx := x1) (hm := x2) (k := k) (Q := Q) (f := f) (S := Finset.univ) (Finset.subset_univ _)
  rw [hw] at step
  iintro ⟨He, HR⟩
  iapply step $$ He
  iintro He
  iapply hk
  isplitl [He]; · iexact He
  iexact HR

/-! ## The rounding -/

/-- Expert `e`'s matrix as the products read it. -/
def slabOf (W : Stack F) (e : ℕ) : S1x1024x1024.Idx → Elt F .f32 := fun y => W (ValueIdx.ix3 ⟨e % 32, Nat.mod_lt _ (by decide)⟩ (y 1) (y 2))
def rounded (W : Stack F) (e : ℕ) : S1024x1024.Idx → Elt F .bf16 := k0_pay7 (slabOf W e)

theorem load_slab {W : Stack F} {e : ℕ} {off : Fin 3 → ℕ} (inb : ∀ a, off a + S1x1024x1024.size a ≤ S2x1024x1024.size a) (h1 : off 1 = 0) (h2 : off 2 = 0) (y : S1x1024x1024.Idx) :
    staged W e ((Rect.unit (s := S2x1024x1024) off S1x1024x1024.size inb).emb y) = slabOf W e y := by
  refine congrArg W (funext fun a => ?_)
  match a with
  | ⟨0, _⟩ => rfl
  | ⟨1, _⟩ => refine Fin.ext ?_; show off 1 + 1 * (y 1).val = (y 1).val; omega
  | ⟨2, _⟩ => refine Fin.ext ?_; show off 2 + 1 * (y 2).val = (y 2).val; omega

theorem whole_emb {inb : ∀ a, (![0, 0] : Fin 2 → ℕ) a + S1024x1024.size a ≤ S1024x1024.size a} (y : S1024x1024.Idx) :
    (Rect.unit (s := S1024x1024) ![0, 0] S1024x1024.size inb).emb y = y := by
  funext a
  match a with
  | ⟨0, _⟩ => refine Fin.ext ?_; show 0 + 1 * (y 0).val = (y 0).val; omega
  | ⟨1, _⟩ => refine Fin.ext ?_; show 0 + 1 * (y 1).val = (y 1).val; omega

theorem whole_set {inb : ∀ a, (![0, 0] : Fin 2 → ℕ) a + S1024x1024.size a ≤ S1024x1024.size a} :
    (Rect.unit (s := S1024x1024) ![0, 0] S1024x1024.size inb).set = Finset.univ := by
  refine Finset.eq_univ_iff_forall.mpr fun x => ?_
  rw [Rect.mem_set_unit]
  intro a
  match a with
  | ⟨0, _⟩ => have : (x 0).val < 1024 := (x 0).isLt; show 0 ≤ (x 0).val ∧ (x 0).val < 0 + 1024; omega
  | ⟨1, _⟩ => have : (x 1).val < 1024 := (x 1).isLt; show 0 ≤ (x 1).val ∧ (x 1).val < 0 + 1024; omega

section Round

variable {W : Stack F} {s e : ℕ} {off : Fin 3 → ℕ} {inb : ∀ a, off a + S1x1024x1024.size a ≤ S2x1024x1024.size a} (ho : off = ![s, 0, 0])
  {inw : ∀ a, (![0, 0] : Fin 2 → ℕ) a + S1024x1024.size a ≤ S1024x1024.size a}
include ho

theorem round_g {R : sProp 𝕄} {α : Type} {J : Prg F α} {Q : α → sProp 𝕄}
    {P : (S1x1024x1024.Idx → Elt F .f32) → S1024x1024.Idx → Elt F .bf16} (hP : P = k0_pay7) {x1 x2 x3 x4} (hk : iprop((bFg.view.loc (c : Thread nD τ) ↦[place s]{fullShare} staged W e) ∗ (bBg.view.loc (c : Thread nD τ) ↦{fullShare} rounded W e) ∗ R) ⊢ runs c J Q) :
    iprop((bFg.view.loc (c : Thread nD τ) ↦[place s]{fullShare} staged W e) ∗ (∃ z : S1024x1024.Idx → Elt F .bf16, bBg.view.loc (c : Thread nD τ) ↦{fullShare} z) ∗ R) ⊢ runs c (do
      let v : Vec F S1x1024x1024 .f32 ← Prog.lift (.load bFg (Rect.unit (s := S2x1024x1024) off S1x1024x1024.size inb).toLoadRect x1)
      let _v : Vec F S1024x1024 .bf16 ← Prog.lift (.load bBg (Rect.unit (s := S1024x1024) ![0, 0] S1024x1024.size inw).toLoadRect x2)
      Prog.lift (.store bBg (Rect.unit (s := S1024x1024) ![0, 0] S1024x1024.size inw) (P v) Finset.univ x3 x4)
      J) Q := by
  subst hP ho
  iintro ⟨HF, ⟨%z, HB⟩, HR⟩
  iapply (wp_load_rect Variants.none (c : Thread nD τ) none Set.univ (m := bFg) (r := Rect.unit (s := S2x1024x1024) ![s, 0, 0] S1x1024x1024.size inb) (S := place s)
    (((View.set_slice_whole _ _).trans (place_set (s := s) (off := ![s, 0, 0]) (inb := inb) rfl rfl rfl)).subset)) $$ HF
  iintro HF
  rw [show (bFg.access (Rect.unit (s := S2x1024x1024) ![s, 0, 0] S1x1024x1024.size inb)).read (Elt F) (staged W e) = slabOf W e from
    funext fun y => load_slab inb rfl rfl y]
  iapply (wp_load_rect Variants.none (c : Thread nD τ) none Set.univ (m := bBg) (r := Rect.unit (s := S1024x1024) ![0, 0] S1024x1024.size inw) (S := Finset.univ)
    (Finset.subset_univ _)) $$ HB
  iintro HB
  have hw : (bBg.access (Rect.unit (s := S1024x1024) ![0, 0] S1024x1024.size inw)).write (Elt F) z (k0_pay7 (slabOf W e)) Finset.univ = rounded W e := by
    funext x
    have hset : (bBg.access (Rect.unit (s := S1024x1024) ![0, 0] S1024x1024.size inw)).set = Finset.univ :=
      Eq.trans (b := (Rect.unit (s := S1024x1024) ![0, 0] S1024x1024.size inw).set) (View.set_slice_whole _ _) whole_set
    obtain ⟨y, hy, h⟩ := written_at (bBg.access (Rect.unit (s := S1024x1024) ![0, 0] S1024x1024.size inw)) z (k0_pay7 (slabOf W e)) (x := x)
      (by rw [hset]; exact Finset.mem_univ x)
    rw [h, ← (whole_emb (inb := inw) y).symm.trans hy]; rfl
  iapply (wp_store Variants.none (c : Thread nD τ) none Set.univ (m := bBg) (r := Rect.unit (s := S1024x1024) ![0, 0] S1024x1024.size inw)
    (S := Finset.univ) (Finset.subset_univ _)) $$ HB
  iintro HB
  iapply hk
  isplitl [HF]; · iexact HF
  isplitl [HB]; · rw [← hw]; iexact HB
  iexact HR

theorem round_u {R : sProp 𝕄} {α : Type} {J : Prg F α} {Q : α → sProp 𝕄}
    {P : (S1x1024x1024.Idx → Elt F .f32) → S1024x1024.Idx → Elt F .bf16} (hP : P = k0_pay7) {x1 x2 x3 x4} (hk : iprop((bFu.view.loc (c : Thread nD τ) ↦[place s]{fullShare} staged W e) ∗ (bBu.view.loc (c : Thread nD τ) ↦{fullShare} rounded W e) ∗ R) ⊢ runs c J Q) :
    iprop((bFu.view.loc (c : Thread nD τ) ↦[place s]{fullShare} staged W e) ∗ (∃ z : S1024x1024.Idx → Elt F .bf16, bBu.view.loc (c : Thread nD τ) ↦{fullShare} z) ∗ R) ⊢ runs c (do
      let v : Vec F S1x1024x1024 .f32 ← Prog.lift (.load bFu (Rect.unit (s := S2x1024x1024) off S1x1024x1024.size inb).toLoadRect x1)
      let _v : Vec F S1024x1024 .bf16 ← Prog.lift (.load bBu (Rect.unit (s := S1024x1024) ![0, 0] S1024x1024.size inw).toLoadRect x2)
      Prog.lift (.store bBu (Rect.unit (s := S1024x1024) ![0, 0] S1024x1024.size inw) (P v) Finset.univ x3 x4)
      J) Q := by
  subst hP ho
  iintro ⟨HF, ⟨%z, HB⟩, HR⟩
  iapply (wp_load_rect Variants.none (c : Thread nD τ) none Set.univ (m := bFu) (r := Rect.unit (s := S2x1024x1024) ![s, 0, 0] S1x1024x1024.size inb) (S := place s)
    (((View.set_slice_whole _ _).trans (place_set (s := s) (off := ![s, 0, 0]) (inb := inb) rfl rfl rfl)).subset)) $$ HF
  iintro HF
  rw [show (bFu.access (Rect.unit (s := S2x1024x1024) ![s, 0, 0] S1x1024x1024.size inb)).read (Elt F) (staged W e) = slabOf W e from
    funext fun y => load_slab inb rfl rfl y]
  iapply (wp_load_rect Variants.none (c : Thread nD τ) none Set.univ (m := bBu) (r := Rect.unit (s := S1024x1024) ![0, 0] S1024x1024.size inw) (S := Finset.univ)
    (Finset.subset_univ _)) $$ HB
  iintro HB
  have hw : (bBu.access (Rect.unit (s := S1024x1024) ![0, 0] S1024x1024.size inw)).write (Elt F) z (k0_pay7 (slabOf W e)) Finset.univ = rounded W e := by
    funext x
    have hset : (bBu.access (Rect.unit (s := S1024x1024) ![0, 0] S1024x1024.size inw)).set = Finset.univ :=
      Eq.trans (b := (Rect.unit (s := S1024x1024) ![0, 0] S1024x1024.size inw).set) (View.set_slice_whole _ _) whole_set
    obtain ⟨y, hy, h⟩ := written_at (bBu.access (Rect.unit (s := S1024x1024) ![0, 0] S1024x1024.size inw)) z (k0_pay7 (slabOf W e)) (x := x)
      (by rw [hset]; exact Finset.mem_univ x)
    rw [h, ← (whole_emb (inb := inw) y).symm.trans hy]; rfl
  iapply (wp_store Variants.none (c : Thread nD τ) none Set.univ (m := bBu) (r := Rect.unit (s := S1024x1024) ![0, 0] S1024x1024.size inw)
    (S := Finset.univ) (Finset.subset_univ _)) $$ HB
  iintro HB
  iapply hk
  isplitl [HF]; · iexact HF
  isplitl [HB]; · rw [← hw]; iexact HB
  iexact HR

theorem round_d {R : sProp 𝕄} {α : Type} {J : Prg F α} {Q : α → sProp 𝕄}
    {P : (S1x1024x1024.Idx → Elt F .f32) → S1024x1024.Idx → Elt F .bf16} (hP : P = k0_pay7) {x1 x2 x3 x4} (hk : iprop((bFd.view.loc (c : Thread nD τ) ↦[place s]{fullShare} staged W e) ∗ (bBd.view.loc (c : Thread nD τ) ↦{fullShare} rounded W e) ∗ R) ⊢ runs c J Q) :
    iprop((bFd.view.loc (c : Thread nD τ) ↦[place s]{fullShare} staged W e) ∗ (∃ z : S1024x1024.Idx → Elt F .bf16, bBd.view.loc (c : Thread nD τ) ↦{fullShare} z) ∗ R) ⊢ runs c (do
      let v : Vec F S1x1024x1024 .f32 ← Prog.lift (.load bFd (Rect.unit (s := S2x1024x1024) off S1x1024x1024.size inb).toLoadRect x1)
      let _v : Vec F S1024x1024 .bf16 ← Prog.lift (.load bBd (Rect.unit (s := S1024x1024) ![0, 0] S1024x1024.size inw).toLoadRect x2)
      Prog.lift (.store bBd (Rect.unit (s := S1024x1024) ![0, 0] S1024x1024.size inw) (P v) Finset.univ x3 x4)
      J) Q := by
  subst hP ho
  iintro ⟨HF, ⟨%z, HB⟩, HR⟩
  iapply (wp_load_rect Variants.none (c : Thread nD τ) none Set.univ (m := bFd) (r := Rect.unit (s := S2x1024x1024) ![s, 0, 0] S1x1024x1024.size inb) (S := place s)
    (((View.set_slice_whole _ _).trans (place_set (s := s) (off := ![s, 0, 0]) (inb := inb) rfl rfl rfl)).subset)) $$ HF
  iintro HF
  rw [show (bFd.access (Rect.unit (s := S2x1024x1024) ![s, 0, 0] S1x1024x1024.size inb)).read (Elt F) (staged W e) = slabOf W e from
    funext fun y => load_slab inb rfl rfl y]
  iapply (wp_load_rect Variants.none (c : Thread nD τ) none Set.univ (m := bBd) (r := Rect.unit (s := S1024x1024) ![0, 0] S1024x1024.size inw) (S := Finset.univ)
    (Finset.subset_univ _)) $$ HB
  iintro HB
  have hw : (bBd.access (Rect.unit (s := S1024x1024) ![0, 0] S1024x1024.size inw)).write (Elt F) z (k0_pay7 (slabOf W e)) Finset.univ = rounded W e := by
    funext x
    have hset : (bBd.access (Rect.unit (s := S1024x1024) ![0, 0] S1024x1024.size inw)).set = Finset.univ :=
      Eq.trans (b := (Rect.unit (s := S1024x1024) ![0, 0] S1024x1024.size inw).set) (View.set_slice_whole _ _) whole_set
    obtain ⟨y, hy, h⟩ := written_at (bBd.access (Rect.unit (s := S1024x1024) ![0, 0] S1024x1024.size inw)) z (k0_pay7 (slabOf W e)) (x := x)
      (by rw [hset]; exact Finset.mem_univ x)
    rw [h, ← (whole_emb (inb := inw) y).symm.trans hy]; rfl
  iapply (wp_store Variants.none (c : Thread nD τ) none Set.univ (m := bBd) (r := Rect.unit (s := S1024x1024) ![0, 0] S1024x1024.size inw)
    (S := Finset.univ) (Finset.subset_univ _)) $$ HB
  iintro HB
  iapply hk
  isplitl [HF]; · iexact HF
  isplitl [HB]; · rw [← hw]; iexact HB
  iexact HR

end Round

end Cert.Kernel3Ideal.Hand

end
-- ==== Proof.ExpWords.lean ====
/-
  The experts' call: what the words it reads decide.
-/
module

public import proofs.«01_k».proof.Proof.ExpRound

@[expose] public section

set_option maxRecDepth 16384

namespace Cert.Kernel3Ideal.Hand

open Cert.Kernel3Ideal Cert.Kernel3Ideal.Gen
open Idealize.ShloMosaic

theorem widened (b : BitVec 1) : (Scalar.cmpi .ne (Scalar.extui b) 0#32 = 1#1) ↔ b = 1#1 := by
  revert b; decide
theorem ofBool_one (b : Bool) : BitVec.ofBool b = 1#1 ↔ b = true := by cases b <;> decide
theorem and_one (a b : BitVec 1) : Scalar.andi a b = 1#1 ↔ a = 1#1 ∧ b = 1#1 := by revert a b; decide
theorem or_one (a b : BitVec 1) : Scalar.ori a b = 1#1 ↔ a = 1#1 ∨ b = 1#1 := by revert a b; decide

theorem slt_nat {v w : BitVec 32} (h : v.toNat < 2 ^ 31) (h' : w.toNat < 2 ^ 31) : Scalar.cmpi .slt v w = 1#1 ↔ v.toNat < w.toNat := by
  refine (ofBool_one _).trans ?_
  rw [BitVec.slt_iff_toInt_lt, BitVec.toInt_eq_toNat_of_lt (by omega), BitVec.toInt_eq_toNat_of_lt (by omega)]; omega

theorem point_nat (i : grid0.Coords) : (BitVec.ofNat 32 (i 0).val).toNat = (i 0).val := by
  have : (i 0).val < 160 := (i 0).isLt
  rw [BitVec.toNat_ofNat]; exact Nat.mod_eq_of_lt (by omega)

theorem cond1_iff (i : grid0.Coords) : k0_cond1 i = 1#1 ↔ (i 0).val = 0 := by
  refine (widened _).trans ((ofBool_one _).trans ?_)
  rw [beq_iff_eq]
  constructor
  · intro h; rw [← point_nat i, h]; rfl
  · intro h; rw [h]

/-- The table row before the point's (the first point's own). -/
theorem off3_zero (i : grid0.Coords) : k0_off3 i 0 = (i 0).val - 1 := by
  revert i; decide

theorem cond2_iff (i : grid0.Coords) {v0 v3 v11 : BitVec 32} (h : v0.toNat < 2 ^ 31) :
    k0_cond2 i v0 v3 v11 = 1#1 ↔ (i 0).val < v0.toNat ∧ ((i 0).val = 0 ∨ v3 ≠ v11) := by
  have hi : (i 0).val < 160 := (i 0).isLt
  refine (widened _).trans ((and_one _ _).trans (and_congr ?_ ((or_one _ _).trans (or_congr ?_ ?_))))
  · rw [slt_nat (by rw [point_nat]; omega) h, point_nat]
  · refine (ofBool_one _).trans ?_
    rw [beq_iff_eq]
    constructor
    · intro h; rw [← point_nat i, h]; rfl
    · intro h; rw [h]
  · refine (ofBool_one _).trans ?_
    exact bne_iff_ne

theorem div512 {v : BitVec 32} (h : v.toNat < 2 ^ 31) : (Scalar.divsi v 512#32).toNat = v.toNat / 512 := by
  have hm : v.msb = false := by rw [BitVec.msb_eq_decide]; simpa using h
  have hc : ¬ ((512#32 : BitVec 32) = 0#32 ∨ v = BitVec.intMin 32 ∧ (512#32 : BitVec 32) = BitVec.allOnes 32) := by
    rintro (h | ⟨-, h⟩) <;> revert h <;> decide
  rw [Scalar.divsi, IntOp.divsi, if_neg (by first | exact hc | (simp)), BitVec.sdiv_eq, hm]
  show (v / 512#32).toNat = _
  rw [BitVec.toNat_udiv]; rfl

theorem cond3_iff {v88 v90 : BitVec 32} (h : v88.toNat < 2 ^ 31) (h' : v90.toNat < 2 ^ 31) : k0_cond3 v88 v90 = 1#1 ↔ v88.toNat / 512 < v90.toNat := by
  refine (widened _).trans ?_
  rw [slt_nat (by rw [div512 h]; omega) h', div512 h]
theorem off9_zero {v88 : BitVec 32} (h : v88.toNat < 2 ^ 31) : k0_off9 v88 0 = v88.toNat / 512 := div512 h

theorem off15_zero {v3 : BitVec 32} (h : v3.toNat < 32) : k0_off15 v3 0 = 32 + v3.toNat := by
  show (32#32 + v3).toNat = _
  rw [BitVec.toNat_add]
  show (32 + v3.toNat) % 2 ^ 32 = _
  omega

theorem flip_nat {s : ℕ} (h : s < 2) : Scalar.subi 1#32 (BitVec.ofNat 32 s) = BitVec.ofNat 32 (1 - s) := by
  interval_cases s <;> rfl
theorem slot_nat {s : ℕ} (h : s < 2) : (BitVec.ofNat 32 s).toNat = s := by interval_cases s <;> rfl

theorem chk1_of (i : grid0.Coords) {v3 : BitVec 32} (h : v3.toNat < 32) : k0_chk1 i v3 := by
  refine ⟨fun _ a => ?_, fun a => ?_⟩
  · match a with
    | ⟨0, _⟩ => show v3.toNat + 1 ≤ 32; omega
    | ⟨1, _⟩ => exact Nat.le_refl 1024
    | ⟨2, _⟩ => exact Nat.le_refl 1024
  · rw [Subsingleton.elim a 0, off15_zero h]
    show 32 + v3.toNat + 1 ≤ 64; omega

theorem chk3_of (i : grid0.Coords) {v0 v3 v11 : BitVec 32} (h : v3.toNat < 32) : k0_chk3 i v0 v3 v11 := by
  refine ⟨fun _ a => ?_, fun _ a => ?_⟩
  · match a with
    | ⟨0, _⟩ => show v3.toNat + 1 ≤ 32; omega
    | ⟨1, _⟩ => exact Nat.le_refl 1024
    | ⟨2, _⟩ => exact Nat.le_refl 1024
  · rw [Subsingleton.elim a 0]
    show v3.toNat + 1 ≤ 64; omega

theorem place_fits {n : ℕ} (h : n < 2) (a : Fin 3) : (![n, 0, 0] : Fin 3 → ℕ) a + S1x1024x1024.size a ≤ S2x1024x1024.size a := by
  match a with
  | ⟨0, _⟩ => show n + 1 ≤ 2; omega
  | ⟨1, _⟩ => exact Nat.le_refl 1024
  | ⟨2, _⟩ => exact Nat.le_refl 1024
theorem sem_fits {n : ℕ} (h : n < 2) (a : Fin 1) : (![n] : Fin 1 → ℕ) a + S1.size a ≤ S2.size a := by
  rw [Subsingleton.elim a 0]; show n + 1 ≤ 2; omega

theorem chk2_of (i : grid0.Coords) {v0 v3 v11 v47 : BitVec 32} (h : v47.toNat < 2) : k0_chk2 i v0 v3 v11 v47 :=
  ⟨fun _ a => sem_fits h a, fun _ a => place_fits h a, fun _ a => place_fits h a⟩

theorem chk4_of (i : grid0.Coords) {v0 v3 v11 v88 v90 : BitVec 32} {s : ℕ} (hs : s < 2) (h : v88.toNat < 2 ^ 31) (h' : v90.toNat ≤ 160) :
    k0_chk4 i v0 v3 v11 (BitVec.ofNat 32 s) v88 v90 := by
  have hf : (Scalar.subi 1#32 (BitVec.ofNat 32 s)).toNat < 2 := by rw [flip_nat hs, slot_nat (by omega)]; omega
  refine ⟨fun _ h3 a => ?_, fun _ _ a => sem_fits hf a, fun _ _ a => place_fits hf a, fun _ _ a => sem_fits hf a, fun _ _ a => place_fits hf a⟩
  have := (cond3_iff h (by omega)).mp h3
  rw [Subsingleton.elim a 0, off9_zero h]
  show v88.toNat / 512 + 1 ≤ 160; omega

theorem chk5_of (i : grid0.Coords) {v0 v3 v11 v88 v90 v97 : BitVec 32} (h : v97.toNat < 32) : k0_chk5 i v0 v3 v11 v88 v90 v97 := by
  intro _ _ a
  match a with
  | ⟨0, _⟩ => show v97.toNat + 1 ≤ 32; omega
  | ⟨1, _⟩ => exact Nat.le_refl 1024
  | ⟨2, _⟩ => exact Nat.le_refl 1024

/-! ## What is asked of the tables -/

/-- The rows in use, a row's expert, and where an expert's rows end. -/
def usedOf (N : S1.Idx → BitVec 32) : ℕ := (wordAt N 0).toNat
def exOf (B : S160.Idx → BitVec 32) (t : ℕ) : ℕ := (wordAt B t).toNat
def endOf (E : S64.Idx → BitVec 32) (e : ℕ) : ℕ := (wordAt E e).toNat

structure Tables (B : S160.Idx → BitVec 32) (N : S1.Idx → BitVec 32) (E : S64.Idx → BitVec 32) : Prop where
  pos : 1 ≤ usedOf N
  le : usedOf N ≤ 160
  lt : ∀ t < 160, exOf B t < 32
  fits : ∀ t < usedOf N, 512 * t + 512 ≤ endOf E (exOf B t)
  small : ∀ t < usedOf N, endOf E (exOf B t) < 2 ^ 31
  same : ∀ t, t + 1 < usedOf N → (exOf B (t + 1) = exOf B t ↔ 512 * t + 1024 ≤ endOf E (exOf B t))

/-- The last row in use up to `t`, and the row where the next expert starts. -/
def lastOf (N : S1.Idx → BitVec 32) (t : ℕ) : ℕ := min t (usedOf N - 1)
def nextOf (B : S160.Idx → BitVec 32) (N : S1.Idx → BitVec 32) (E : S64.Idx → BitVec 32) (t : ℕ) : ℕ := endOf E (exOf B (lastOf N t)) / 512

end Cert.Kernel3Ideal.Hand
-- ==== Proof.ExpHead.lean ====
/-
  The experts' call: the part of a point that keeps the matrices in place, before any product.
-/
module

public import proofs.«01_k».proof.Proof.ExpWords

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {c : Dev nD} {W : Mats F} {q : PosShare TreeShare} {B : S160.Idx → BitVec 32} {N : S1.Idx → BitVec 32} {E : S64.Idx → BitVec 32}

/-! ## What a point holds -/

/-- The three tables, at a share. -/
def Tabs (c : Dev nD) (q : PosShare TreeShare) (B : S160.Idx → BitVec 32) (N : S1.Idx → BitVec 32) (E : S64.Idx → BitVec 32) : sProp 𝕄 :=
  iprop((bBe.view.loc (c : Thread nD τ) ↦{q} B) ∗ (bNu.view.loc (c : Thread nD τ) ↦{q} N) ∗ (bEn.view.loc (c : Thread nD τ) ↦{q} E))

/-- The slot's word. -/
def Slot (c : Dev nD) (s : ℕ) : sProp 𝕄 := iprop(bSlot.view.loc (c : Thread nD τ) ↦{fullShare} fun _ => BitVec.ofNat 32 s)

/-- The rounded matrices at anything, and at an expert's. -/
def Loose (c : Dev nD) : sProp 𝕄 :=
  iprop((∃ z : S1024x1024.Idx → Elt F .bf16, bBg.view.loc (c : Thread nD τ) ↦{fullShare} z)
    ∗ (∃ z : S1024x1024.Idx → Elt F .bf16, bBu.view.loc (c : Thread nD τ) ↦{fullShare} z)
    ∗ (∃ z : S1024x1024.Idx → Elt F .bf16, bBd.view.loc (c : Thread nD τ) ↦{fullShare} z))
def Held (c : Dev nD) (W : Mats F) (e : ℕ) : sProp 𝕄 :=
  iprop((bBg.view.loc (c : Thread nD τ) ↦{fullShare} rounded W.g e) ∗ (bBu.view.loc (c : Thread nD τ) ↦{fullShare} rounded W.u e)
    ∗ (bBd.view.loc (c : Thread nD τ) ↦{fullShare} rounded W.d e))

theorem held_loose {e : ℕ} : Held c W e ⊢ Loose (F := F) c := by
  unfold Held Loose
  iintro ⟨H1, H2, H3⟩
  isplitl [H1]; · iexists _; iexact H1
  isplitl [H2]; · iexists _; iexact H2
  iexists _; iexact H3

/-- The next expert's matrices, coming into place `s` if there is a next expert. -/
def Flight (c : Dev nD) (W : Mats F) (B : S160.Idx → BitVec 32) (N : S1.Idx → BitVec 32) (s n : ℕ) : sProp 𝕄 :=
  if n < usedOf N then iprop(Coming c W s (exOf B n) ∗ Quiet (F := F) c (1 - s)) else iprop(Whole c W ∗ Quiet (F := F) c s ∗ Quiet (F := F) c (1 - s))

/-- After point `t`. -/
def After (c : Dev nD) (W : Mats F) (B : S160.Idx → BitVec 32) (N : S1.Idx → BitVec 32) (E : S64.Idx → BitVec 32) (t : ℕ) : sProp 𝕄 :=
  iprop(∃ s, ⌜s < 2⌝ ∗ Slot c s ∗ Held c W (exOf B (lastOf N t)) ∗ Flight c W B N s (nextOf B N E t))

/-- Before the first point. -/
def First (c : Dev nD) (W : Mats F) : sProp 𝕄 :=
  iprop((∃ z : S1.Idx → BitVec 32, bSlot.view.loc (c : Thread nD τ) ↦{fullShare} z) ∗ Loose (F := F) c ∗ Whole c W ∗ Quiet (F := F) c 0 ∗ Quiet (F := F) c 1)

def Before (c : Dev nD) (W : Mats F) (B : S160.Idx → BitVec 32) (N : S1.Idx → BitVec 32) (E : S64.Idx → BitVec 32) : ℕ → sProp 𝕄
  | 0 => First c W
  | t + 1 => After c W B N E t

abbrev Owed (c : Dev nD) : sProp 𝕄 := iprop(∃ O, owes (c : Thread nD τ) 0 O)

/-! ## Reading the tables -/

theorem tab_be {R : sProp 𝕄} {α : Type} {k : BitVec 32 → Prg F α} {Q : α → sProp 𝕄} {n : ℕ} (hn : n < 160) {off : Fin 1 → ℕ} (ho : off 0 = n) {inb} (hk : iprop(Tabs c q B N E ∗ R) ⊢ runs c (k (wordAt B n)) Q) :
    iprop(Tabs c q B N E ∗ R) ⊢ runs c (smemLoad bBe (Rect.unit (s := S160) off S1.size inb) numel1_S1 rfl >>= k) Q := by
  refine BIBase.Entails.trans ?_ (read_word bBe (r := Rect.unit (s := S160) off S1.size inb) (q := q) (f := B) (read_be hn ho)
    (R := iprop((bNu.view.loc (c : Thread nD τ) ↦{q} N) ∗ (bEn.view.loc (c : Thread nD τ) ↦{q} E) ∗ R)) (BIBase.Entails.trans ?_ hk))
  · unfold Tabs; iintro ⟨⟨H1, H2, H3⟩, HR⟩
    isplitl [H1]; · iexact H1
    isplitl [H2]; · iexact H2
    isplitl [H3]; · iexact H3
    iexact HR
  · unfold Tabs; iintro ⟨H1, H2, H3, HR⟩
    isplitr [HR]
    · isplitl [H1]; · iexact H1
      isplitl [H2]; · iexact H2
      iexact H3
    iexact HR

theorem tab_nu {R : sProp 𝕄} {α : Type} {k : BitVec 32 → Prg F α} {Q : α → sProp 𝕄} {inb} (hk : iprop(Tabs c q B N E ∗ R) ⊢ runs c (k (wordAt N 0)) Q) :
    iprop(Tabs c q B N E ∗ R) ⊢ runs c (smemLoad bNu (Rect.unit (s := S1) ![0] S1.size inb) numel1_S1 rfl >>= k) Q := by
  refine BIBase.Entails.trans ?_ (read_word bNu (r := Rect.unit (s := S1) ![0] S1.size inb) (q := q) (f := N) read_nu
    (R := iprop((bBe.view.loc (c : Thread nD τ) ↦{q} B) ∗ (bEn.view.loc (c : Thread nD τ) ↦{q} E) ∗ R)) (BIBase.Entails.trans ?_ hk))
  · unfold Tabs; iintro ⟨⟨H1, H2, H3⟩, HR⟩
    isplitl [H2]; · iexact H2
    isplitl [H1]; · iexact H1
    isplitl [H3]; · iexact H3
    iexact HR
  · unfold Tabs; iintro ⟨H2, H1, H3, HR⟩
    isplitr [HR]
    · isplitl [H1]; · iexact H1
      isplitl [H2]; · iexact H2
      iexact H3
    iexact HR

theorem tab_en {R : sProp 𝕄} {α : Type} {k : BitVec 32 → Prg F α} {Q : α → sProp 𝕄} {n : ℕ} (hn : n < 64) {off : Fin 1 → ℕ} (ho : off 0 = n) {inb} (hk : iprop(Tabs c q B N E ∗ R) ⊢ runs c (k (wordAt E n)) Q) :
    iprop(Tabs c q B N E ∗ R) ⊢ runs c (smemLoad bEn (Rect.unit (s := S64) off S1.size inb) numel1_S1 rfl >>= k) Q := by
  refine BIBase.Entails.trans ?_ (read_word bEn (r := Rect.unit (s := S64) off S1.size inb) (q := q) (f := E) (read_en hn ho)
    (R := iprop((bBe.view.loc (c : Thread nD τ) ↦{q} B) ∗ (bNu.view.loc (c : Thread nD τ) ↦{q} N) ∗ R)) (BIBase.Entails.trans ?_ hk))
  · unfold Tabs; iintro ⟨⟨H1, H2, H3⟩, HR⟩
    isplitl [H3]; · iexact H3
    isplitl [H1]; · iexact H1
    isplitl [H2]; · iexact H2
    iexact HR
  · unfold Tabs; iintro ⟨H3, H1, H2, HR⟩
    isplitr [HR]
    · isplitl [H1]; · iexact H1
      isplitl [H2]; · iexact H2
      iexact H3
    iexact HR

theorem runs_ret {α : Type} {X : sProp 𝕄} {a : α} {Q : α → sProp 𝕄} (h : X ⊢ Q a) : X ⊢ runs c (pure a) Q := by
  unfold runs; rw [wp_pure]; exact h.trans fupd_intro
theorem runs_bind {α β : Type} {X : sProp 𝕄} {p : Prg F α} {k : α → Prg F β} {Q : β → sProp 𝕄}
    (h : X ⊢ runs c p fun a => runs c (k a) Q) : X ⊢ runs c (p >>= k) Q := by
  unfold runs at h ⊢; rw [wp_bind]; exact h
theorem runs_assume {α : Type} {X : sProp 𝕄} {w : Prop} {d : Decidable w} {k : PLift w → Prg F α} {Q : α → sProp 𝕄} (hw : w)
    (h : X ⊢ runs c (k ⟨hw⟩) Q) : X ⊢ runs c (Prog.lift (TpuEff.assume w d) >>= k) Q :=
  h.trans (wp_assume Variants.none (c : Thread nD τ) none Set.univ hw)

theorem sem_at {s n : ℕ} (hs : s < 2) {off : Fin 1 → ℕ} {inb : ∀ a, off a + S1.size a ≤ S2.size a} (ho : off 0 = s) :
    ((cc0_scratch7.slice (Rect.unit (s := S2) off S1.size inb)).squeeze S_ squeezes_S1_S_).sem = semOf s := by
  have : off = ![s] := funext fun a => by rw [Subsingleton.elim a 0]; exact ho
  subst this
  interval_cases s <;> rfl

section Turn
variable (arg4 : Memref sig .tc .vmem S4096x128 .f32) (harg4 : arg4.IsWhole) (arg6 : Memref sig .tc .vmem S1x1x1024 .f32) (harg6 : arg6.IsWhole)
  (arg8 : Memref sig .tc .vmem S1x1x1024 .f32) (harg8 : arg8.IsWhole) (arg10 : Memref sig .tc .vmem S1x1x1024 .f32) (harg10 : arg10.IsWhole)
  (arg11 : Memref sig .tc .vmem S4096x128 .f32) (harg11 : arg11.IsWhole) (i : grid0.Coords)

/-- A new expert's matrices: waited for, rounded, and the next ones started. -/
theorem fresh_runs (hT : Tables B N E) {t s : ℕ} (ht : t < usedOf N) (hs : s < 2) {v0 v11 : BitVec 32}
    (k0_hw3 : k0_chk3 i v0 (wordAt B t) v11) (k0_h2 : k0_cond2 i v0 (wordAt B t) v11 = 1#1)
    {R : sProp 𝕄} {α : Type} {J : Prg F α} {Q : α → sProp 𝕄} (hk : iprop(Tabs c q B N E ∗ After c W B N E t ∗ Owed (F := F) c ∗ R) ⊢ runs c J Q) :
    iprop(Tabs (F := F) c q B N E ∗ Slot (F := F) c s ∗ Loose (F := F) c ∗ Coming c W s (exOf B t) ∗ Quiet (F := F) c (1 - s) ∗ Owed (F := F) c ∗ R) ⊢ runs c (do
      let ⟨v47, k0_hw2⟩ : Σ' (v47 : Elt F .i32), k0_chk2 i v0 (wordAt B t) v11 v47 ← k0_part1 i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7 v0 (wordAt B t) v11 k0_hw3 k0_h2
      let v81 : Vec F S1x1024x1024 .f32 ← Prog.lift (.load bFd (Rect.unit (s := S2x1024x1024) (k0_off7 v47) S1x1024x1024.size (k0_off7_inb i v0 (wordAt B t) v11 v47 k0_hw2 k0_h2)).toLoadRect (View.loadsAt_vmem h_S1x1024x1024))
      let v84 : Vec F S1024x1024 .bf16 ← Prog.lift (.load bBd (Rect.unit (s := S1024x1024) ![0, 0] S1024x1024.size inb_S1024x1024_S1024x1024_0_0).toLoadRect (View.loadsAt_vmem h_S1024x1024))
      Prog.lift (.store bBd (Rect.unit (s := S1024x1024) ![0, 0] S1024x1024.size inb_S1024x1024_S1024x1024_0_0) (k0_pay49 v81) Finset.univ (View.stores_vmem h_S1024x1024 ((Memref.isWhole_whole _).storeExact_slice rfl _ packedbf16_S1024x1024_S1024x1024_0_0) (fun _ => rfl)) (.inl rfl))
      let v88 : Elt F .i32 ← smemLoad bEn (Rect.unit (s := S64) (k0_off8 (wordAt B t)) S1.size (k0_off8_inb i v0 (wordAt B t) v11 k0_hw3 k0_h2)) numel1_S1 rfl
      let v90 : Elt F .i32 ← smemLoad bNu (Rect.unit (s := S1) ![0] S1.size inb_S1_S1_0) numel1_S1 rfl
      have k0_hw4 : k0_chk4 i v0 (wordAt B t) v11 v47 v88 v90 := (← Prog.lift (TpuEff.assume (k0_chk4 i v0 (wordAt B t) v11 v47 v88 v90) (k0_chk4.dec i v0 (wordAt B t) v11 v47 v88 v90))).down
      if k0_h3 : k0_cond3 v88 v90 = 1#1 then do
        let v97 : Elt F .i32 ← smemLoad bBe (Rect.unit (s := S160) (k0_off9 v88) S1.size (k0_off9_inb i v0 (wordAt B t) v11 v47 v88 v90 k0_hw4 k0_h2 k0_h3)) numel1_S1 rfl
        have k0_hw5 : k0_chk5 i v0 (wordAt B t) v11 v88 v90 v97 := (← Prog.lift (TpuEff.assume (k0_chk5 i v0 (wordAt B t) v11 v88 v90 v97) (k0_chk5.dec i v0 (wordAt B t) v11 v88 v90 v97))).down
        let v99 : DmaSems sig S1 := cc0_scratch7.slice (Rect.unit (s := S2) (k0_off10 v47) S1.size (k0_off10_inb i v0 (wordAt B t) v11 v47 v88 v90 k0_hw4 k0_h2 k0_h3))
        let v100 : DmaSems sig S_ := v99.squeeze S_ squeezes_S1_S_
        let v101 : Memref sig .tc .vmem S1x1024x1024 .f32 := bFg.slice (Rect.unit (s := S2x1024x1024) (k0_off11 v47) S1x1024x1024.size (k0_off11_inb i v0 (wordAt B t) v11 v47 v88 v90 k0_hw4 k0_h2 k0_h3)) (fun _ => rfl)
        let v102 : Memref sig .tc .vmem S1024x1024 .f32 := v101.squeeze S1024x1024 squeezes_S1x1024x1024_S1024x1024
        let v103 : Memref sig .tc .hbm S1x1024x1024 .f32 := bWg.slice (Rect.unit (s := S32x1024x1024) (k0_off12 v97) S1x1024x1024.size (k0_off12_inb i v0 (wordAt B t) v11 v88 v90 v97 k0_hw5 k0_h2 k0_h3)) (fun _ => rfl)
        let v104 : Memref sig .tc .hbm S1024x1024 .f32 := v103.squeeze S1024x1024 squeezes_S1x1024x1024_S1024x1024
        Prog.lift (.enqueueDma v104 (.here v102) (.dma v100.sem) ((View.wordExact_bits rfl).reshape _ _) ((View.wordExact_bits rfl).reshape _ _) ⟨Or.inl rfl, trivial⟩)
        let v105 : DmaSems sig S1 := cc0_scratch7.slice (Rect.unit (s := S2) (k0_off13 v47) S1.size (k0_off13_inb i v0 (wordAt B t) v11 v47 v88 v90 k0_hw4 k0_h2 k0_h3))
        let v106 : DmaSems sig S_ := v105.squeeze S_ squeezes_S1_S_
        let v107 : Memref sig .tc .vmem S1x1024x1024 .f32 := bFu.slice (Rect.unit (s := S2x1024x1024) (k0_off14 v47) S1x1024x1024.size (k0_off14_inb i v0 (wordAt B t) v11 v47 v88 v90 k0_hw4 k0_h2 k0_h3)) (fun _ => rfl)
        let v108 : Memref sig .tc .vmem S1024x1024 .f32 := v107.squeeze S1024x1024 squeezes_S1x1024x1024_S1024x1024
        let v109 : Memref sig .tc .hbm S1x1024x1024 .f32 := bWu.slice (Rect.unit (s := S32x1024x1024) (k0_off12 v97) S1x1024x1024.size (k0_off12_inb i v0 (wordAt B t) v11 v88 v90 v97 k0_hw5 k0_h2 k0_h3)) (fun _ => rfl)
        let v110 : Memref sig .tc .hbm S1024x1024 .f32 := v109.squeeze S1024x1024 squeezes_S1x1024x1024_S1024x1024
        Prog.lift (.enqueueDma v110 (.here v108) (.dma v106.sem) ((View.wordExact_bits rfl).reshape _ _) ((View.wordExact_bits rfl).reshape _ _) ⟨Or.inl rfl, trivial⟩)
        let v111 : DmaSems sig S1 := cc0_scratch7.slice (Rect.unit (s := S2) (k0_off13 v47) S1.size (k0_off13_inb i v0 (wordAt B t) v11 v47 v88 v90 k0_hw4 k0_h2 k0_h3))
        let v112 : DmaSems sig S_ := v111.squeeze S_ squeezes_S1_S_
        let v113 : Memref sig .tc .vmem S1x1024x1024 .f32 := bFd.slice (Rect.unit (s := S2x1024x1024) (k0_off14 v47) S1x1024x1024.size (k0_off14_inb i v0 (wordAt B t) v11 v47 v88 v90 k0_hw4 k0_h2 k0_h3)) (fun _ => rfl)
        let v114 : Memref sig .tc .vmem S1024x1024 .f32 := v113.squeeze S1024x1024 squeezes_S1x1024x1024_S1024x1024
        let v115 : Memref sig .tc .hbm S1x1024x1024 .f32 := bWd.slice (Rect.unit (s := S32x1024x1024) (k0_off12 v97) S1x1024x1024.size (k0_off12_inb i v0 (wordAt B t) v11 v88 v90 v97 k0_hw5 k0_h2 k0_h3)) (fun _ => rfl)
        let v116 : Memref sig .tc .hbm S1024x1024 .f32 := v115.squeeze S1024x1024 squeezes_S1x1024x1024_S1024x1024
        Prog.lift (.enqueueDma v116 (.here v114) (.dma v112.sem) ((View.wordExact_bits rfl).reshape _ _) ((View.wordExact_bits rfl).reshape _ _) ⟨Or.inl rfl, trivial⟩)
        pure ⟨⟩
      else do
        pure ⟨⟩
      let v94 : BitVec 32 := Scalar.subi 1#32 v47
      let v95 : Elt F .i32 ← smemLoad bSlot (Rect.unit (s := S1) ![0] S1.size inb_S1_S1_0) numel1_S1 rfl
      Prog.lift (.store bSlot (Rect.unit (s := S1) ![0] S1.size inb_S1_S1_0) (fun _ => v94) Finset.univ (View.stores_smem_one rfl numel1_S1) (.inl rfl))
      J) Q := by
  have h160 : t < 160 := lt_of_lt_of_le ht hT.le
  have hlast : lastOf N t = t := Nat.min_eq_left (by have := hT.pos; omega)
  have hex := hT.lt t h160
  refine runs_bind ?_
  rw [k0_part1_eq_skeleton]; unfold k0_part1_skel
  unfold Slot
  refine BIBase.Entails.trans ?_ (read_word bSlot (q := fullShare) (f := fun _ => BitVec.ofNat 32 s) (v := BitVec.ofNat 32 s) rfl
    (R := iprop(Tabs c q B N E ∗ Loose (F := F) c ∗ Coming c W s (exOf B t) ∗ Quiet (F := F) c (1 - s) ∗ Owed (F := F) c ∗ R)) ?_)
  · iintro ⟨HT, HS, HX⟩
    isplitl [HS]; · iexact HS
    isplitl [HT]; · iexact HT
    iexact HX
  refine runs_assume (chk2_of i (by rw [slot_nat hs]; exact hs)) ?_
  have hsm : ∀ inb, ((cc0_scratch7.slice (Rect.unit (s := S2) (k0_off4 (BitVec.ofNat 32 s)) S1.size inb)).squeeze S_ squeezes_S1_S_).sem = semOf s :=
    fun inb => sem_at (n := 0) hs (slot_nat hs)
  refine BIBase.Entails.trans ?_ (await_mats (W := W) (s := s) (e := exOf B t)
    (R := iprop((bSlot.view.loc (c : Thread nD τ) ↦{fullShare} fun _ => BitVec.ofNat 32 s) ∗ Tabs c q B N E ∗ Loose (F := F) c ∗ Quiet (F := F) c (1 - s) ∗ R)) _ _ _ (hsm _) (hsm _) (hsm _) ?_)
  · iintro ⟨HS, HT, HL, HC, HQ, HO, HR⟩
    isplitl [HC]; · iexact HC
    isplitl [HO]; · iexact HO
    isplitl [HS]; · iexact HS
    isplitl [HT]; · iexact HT
    isplitl [HL]; · iexact HL
    isplitl [HQ]; · iexact HQ
    iexact HR
  have hp : k0_off7 (BitVec.ofNat 32 s) = ![s, 0, 0] := congrArg (fun n : ℕ => (![n, 0, 0] : Fin 3 → ℕ)) (slot_nat hs)
  unfold Filled Loose
  refine BIBase.Entails.trans ?_ (round_g (W := W.g) (s := s) (e := exOf B t) (P := k0_pay7) hp rfl
    (R := iprop((bFu.view.loc (c : Thread nD τ) ↦[place s]{fullShare} staged W.u (exOf B t)) ∗ (∃ z : S1024x1024.Idx → Elt F .bf16, bBu.view.loc (c : Thread nD τ) ↦{fullShare} z)
      ∗ (bFd.view.loc (c : Thread nD τ) ↦[place s]{fullShare} staged W.d (exOf B t)) ∗ (∃ z : S1024x1024.Idx → Elt F .bf16, bBd.view.loc (c : Thread nD τ) ↦{fullShare} z)
      ∗ Whole c W ∗ semVal ((c : Thread nD τ), SemLoc.dma (semOf s)) 0 ∗ Owed (F := F) c
      ∗ (bSlot.view.loc (c : Thread nD τ) ↦{fullShare} fun _ => BitVec.ofNat 32 s) ∗ Tabs c q B N E ∗ Quiet (F := F) c (1 - s) ∗ R)) ?_)
  · iintro ⟨HW, ⟨F1, F2, F3⟩, Hs, HO, HS, HT, ⟨L1, L2, L3⟩, HQ, HR⟩
    isplitl [F1]; · iexact F1
    isplitl [L1]; · iexact L1
    isplitl [F2]; · iexact F2
    isplitl [L2]; · iexact L2
    isplitl [F3]; · iexact F3
    isplitl [L3]; · iexact L3
    isplitl [HW]; · iexact HW
    isplitl [Hs]; · iexact Hs
    isplitl [HO]; · iexact HO
    isplitl [HS]; · iexact HS
    isplitl [HT]; · iexact HT
    isplitl [HQ]; · iexact HQ
    iexact HR
  refine BIBase.Entails.trans ?_ (round_u (W := W.u) (s := s) (e := exOf B t) (P := k0_pay8) hp rfl
    (R := iprop((bFg.view.loc (c : Thread nD τ) ↦[place s]{fullShare} staged W.g (exOf B t)) ∗ (bBg.view.loc (c : Thread nD τ) ↦{fullShare} rounded W.g (exOf B t))
      ∗ (bFd.view.loc (c : Thread nD τ) ↦[place s]{fullShare} staged W.d (exOf B t)) ∗ (∃ z : S1024x1024.Idx → Elt F .bf16, bBd.view.loc (c : Thread nD τ) ↦{fullShare} z)
      ∗ Whole c W ∗ semVal ((c : Thread nD τ), SemLoc.dma (semOf s)) 0 ∗ Owed (F := F) c
      ∗ (bSlot.view.loc (c : Thread nD τ) ↦{fullShare} fun _ => BitVec.ofNat 32 s) ∗ Tabs c q B N E ∗ Quiet (F := F) c (1 - s) ∗ R)) ?_)
  · iintro ⟨F1, L1, F2, L2, HX⟩
    isplitl [F2]; · iexact F2
    isplitl [L2]; · iexact L2
    isplitl [F1]; · iexact F1
    isplitl [L1]; · iexact L1
    iexact HX
  refine runs_ret ?_
  refine BIBase.Entails.trans ?_ (round_d (W := W.d) (s := s) (e := exOf B t) (P := k0_pay49) hp rfl
    (R := iprop((bFu.view.loc (c : Thread nD τ) ↦[place s]{fullShare} staged W.u (exOf B t)) ∗ (bBu.view.loc (c : Thread nD τ) ↦{fullShare} rounded W.u (exOf B t))
      ∗ (bFg.view.loc (c : Thread nD τ) ↦[place s]{fullShare} staged W.g (exOf B t)) ∗ (bBg.view.loc (c : Thread nD τ) ↦{fullShare} rounded W.g (exOf B t))
      ∗ Whole c W ∗ semVal ((c : Thread nD τ), SemLoc.dma (semOf s)) 0 ∗ Owed (F := F) c
      ∗ (bSlot.view.loc (c : Thread nD τ) ↦{fullShare} fun _ => BitVec.ofNat 32 s) ∗ Tabs c q B N E ∗ Quiet (F := F) c (1 - s) ∗ R)) ?_)
  · iintro ⟨F2, L2, F1, L1, F3, L3, HX⟩
    isplitl [F3]; · iexact F3
    isplitl [L3]; · iexact L3
    isplitl [F2]; · iexact F2
    isplitl [L2]; · iexact L2
    isplitl [F1]; · iexact F1
    isplitl [L1]; · iexact L1
    iexact HX
  refine BIBase.Entails.trans (Q := iprop(Tabs c q B N E ∗ Held c W (exOf B t) ∗ Quiet (F := F) c s ∗ Whole c W ∗ Owed (F := F) c
      ∗ (bSlot.view.loc (c : Thread nD τ) ↦{fullShare} fun _ => BitVec.ofNat 32 s) ∗ Quiet (F := F) c (1 - s) ∗ R)) ?_ ?_
  · unfold Held Quiet Place
    iintro ⟨F3, L3, F2, L2, F1, L1, HW, Hs, HO, HS, HT, HQ, HR⟩
    isplitl [HT]; · iexact HT
    isplitl [L1 L2 L3]
    · isplitl [L1]; · iexact L1
      isplitl [L2]; · iexact L2
      iexact L3
    isplitl [F1 F2 F3 Hs]
    · isplitr [Hs]
      · isplitl [F1]; · iexists _; iexact F1
        isplitl [F2]; · iexists _; iexact F2
        iexists _; iexact F3
      iexact Hs
    isplitl [HW]; · iexact HW
    isplitl [HO]; · iexact HO
    isplitl [HS]; · iexact HS
    isplitl [HQ]; · iexact HQ
    iexact HR
  have h31 := hT.small t ht
  have hend : (wordAt E (exOf B t)).toNat < 2 ^ 31 := h31
  have hu := hT.le
  refine tab_en (n := exOf B t) (by omega) rfl ?_
  refine tab_nu ?_
  refine runs_assume (chk4_of i hs hend hu) ?_
  have hflip : Scalar.subi 1#32 (BitVec.ofNat 32 s) = BitVec.ofNat 32 (1 - s) := flip_nat hs
  have hss : 1 - (1 - s) = s := by omega
  by_cases h3 : k0_cond3 (wordAt E (exOf B t)) (wordAt N 0) = 1#1
  · simp only [dif_pos h3]
    have hn : endOf E (exOf B t) / 512 < usedOf N := (cond3_iff hend (by show usedOf N < _; omega)).mp h3
    have hex' := hT.lt (endOf E (exOf B t) / 512) (by omega)
    refine tab_be (n := endOf E (exOf B t) / 512) (by omega) (off9_zero hend) ?_
    refine runs_assume (chk5_of i hex') ?_
    have hsm' : ∀ inb, ((cc0_scratch7.slice (Rect.unit (s := S2) (k0_off10 (BitVec.ofNat 32 s)) S1.size inb)).squeeze S_ squeezes_S1_S_).sem = semOf (1 - s) :=
      fun inb => sem_at (n := 0) (by omega) (by show (Scalar.subi 1#32 (BitVec.ofNat 32 s)).toNat = _; rw [hflip, slot_nat (by omega)])
    have hp' : k0_off11 (BitVec.ofNat 32 s) = ![1 - s, 0, 0] := congrArg (fun n : ℕ => (![n, 0, 0] : Fin 3 → ℕ)) (by rw [hflip, slot_nat (by omega)])
    refine BIBase.Entails.trans ?_ (start_mats (W := W) (s := 1 - s) (e := exOf B (endOf E (exOf B t) / 512))
      (R := iprop((bSlot.view.loc (c : Thread nD τ) ↦{fullShare} fun _ => BitVec.ofNat 32 s) ∗ Tabs c q B N E ∗ Held c W (exOf B t) ∗ Quiet (F := F) c s ∗ Owed (F := F) c ∗ R))
      hex' _ _ _ (hsm' _) (hsm' _) (hsm' _) rfl rfl rfl hp' hp' hp' ?_)
    · iintro ⟨HT, HH, Qs, HW, HO, HS, HQ, HR⟩
      isplitl [HW]; · iexact HW
      isplitl [HQ]; · iexact HQ
      isplitl [HS]; · iexact HS
      isplitl [HT]; · iexact HT
      isplitl [HH]; · iexact HH
      isplitl [Qs]; · iexact Qs
      isplitl [HO]; · iexact HO
      iexact HR
    refine BIBase.Entails.trans ?_ (read_word bSlot (q := fullShare) (f := fun _ => BitVec.ofNat 32 s) (v := BitVec.ofNat 32 s) rfl
      (R := iprop(Coming c W (1 - s) (exOf B (endOf E (exOf B t) / 512)) ∗ Tabs c q B N E ∗ Held c W (exOf B t) ∗ Quiet (F := F) c s ∗ Owed (F := F) c ∗ R)) (write_slot ?_))
    · iintro ⟨HC, HS, HX⟩
      isplitl [HS]; · iexact HS
      isplitl [HC]; · iexact HC
      iexact HX
    refine .trans ?_ hk
    unfold After Flight nextOf Slot
    simp only [hlast, if_pos hn, hflip]
    iintro ⟨HS, HC, HT, HH, Qs, HO, HR⟩
    isplitl [HT]; · iexact HT
    isplitl [HS HC HH Qs]
    · iexists 1 - s
      rw [hss]
      isplitr; · ipureintro; omega
      isplitl [HS]; · iexact HS
      isplitl [HH]; · iexact HH
      isplitl [HC]; · iexact HC
      iexact Qs
    isplitl [HO]; · iexact HO
    iexact HR
  · simp only [dif_neg h3]
    have hn : ¬ endOf E (exOf B t) / 512 < usedOf N := fun h => h3 ((cond3_iff hend (by show usedOf N < _; omega)).mpr h)
    refine BIBase.Entails.trans ?_ (read_word bSlot (q := fullShare) (f := fun _ => BitVec.ofNat 32 s) (v := BitVec.ofNat 32 s) rfl
      (R := iprop(Tabs c q B N E ∗ Held c W (exOf B t) ∗ Quiet (F := F) c s ∗ Whole c W ∗ Owed (F := F) c ∗ Quiet (F := F) c (1 - s) ∗ R)) (write_slot ?_))
    · iintro ⟨HT, HH, Qs, HW, HO, HS, HX⟩
      isplitl [HS]; · iexact HS
      isplitl [HT]; · iexact HT
      isplitl [HH]; · iexact HH
      isplitl [Qs]; · iexact Qs
      isplitl [HW]; · iexact HW
      isplitl [HO]; · iexact HO
      iexact HX
    refine .trans ?_ hk
    unfold After Flight nextOf Slot
    simp only [hlast, if_neg hn, hflip]
    iintro ⟨HS, HT, HH, Qs, HW, HO, HQ, HR⟩
    isplitl [HT]; · iexact HT
    isplitl [HS HW HH HQ Qs]
    · iexists 1 - s
      rw [hss]
      isplitr; · ipureintro; omega
      isplitl [HS]; · iexact HS
      isplitl [HH]; · iexact HH
      isplitl [HW]; · iexact HW
      isplitl [HQ]; · iexact HQ
      iexact Qs
    isplitl [HO]; · iexact HO
    iexact HR

/-- Between two rows of one expert, and past the rows in use, nothing changes. -/
theorem after_same (hT : Tables B N E) {t : ℕ} (h : usedOf N ≤ t + 1 ∨ exOf B (t + 1) = exOf B t) : After c W B N E t ⊢ After c W B N E (t + 1) := by
  have hpos := hT.pos
  have he : exOf B (lastOf N (t + 1)) = exOf B (lastOf N t) := by
    unfold lastOf
    rcases Nat.lt_or_ge (t + 1) (usedOf N) with hl | hl
    · rw [Nat.min_eq_left (by omega), Nat.min_eq_left (by omega)]
      rcases h with h | h
      · omega
      · exact h
    · rw [Nat.min_eq_right (by omega), Nat.min_eq_right (by omega)]
  unfold After nextOf
  rw [he]

/-- At a new expert's first row its matrices are on their way. -/
theorem after_new (hT : Tables B N E) {t : ℕ} (ht : t + 1 < usedOf N) (h : exOf B (t + 1) ≠ exOf B t) :
    After c W B N E t ⊢ iprop(∃ s, ⌜s < 2⌝ ∗ Slot (F := F) c s ∗ Loose (F := F) c ∗ Coming c W s (exOf B (t + 1)) ∗ Quiet (F := F) c (1 - s)) := by
  have hl : lastOf N t = t := Nat.min_eq_left (by omega)
  have h1 := hT.fits t (by omega)
  have h2 : ¬ 512 * t + 1024 ≤ endOf E (exOf B t) := fun hh => h ((hT.same t ht).mpr hh)
  have hn : nextOf B N E t = t + 1 := by unfold nextOf; rw [hl]; omega
  unfold After Flight
  simp only [hn, if_pos ht]
  iintro ⟨%s, %hs, HS, HH, HC, HQ⟩
  iexists s
  isplitr; · ipureintro; exact hs
  isplitl [HS]; · iexact HS
  isplitl [HH]; · iapply held_loose; iexact HH
  isplitl [HC]; · iexact HC
  iexact HQ

set_option maxHeartbeats 600000 in
/-- The part of a point before its product. -/
theorem head_runs (hT : Tables B N E) {R : sProp 𝕄} {α : Type} {J : BitVec 32 → BitVec 32 → Prg F α} {Q : α → sProp 𝕄}
    (hk : iprop(Tabs c q B N E ∗ After c W B N E (i 0).val ∗ Owed (F := F) c ∗ R) ⊢ runs c (J (wordAt N 0) (wordAt E (32 + exOf B (i 0).val))) Q) :
    iprop(Tabs c q B N E ∗ Before c W B N E (i 0).val ∗ Owed (F := F) c ∗ R) ⊢ runs c (do
      let arg0 : BitVec 32 := BitVec.ofNat 32 (i 0).val
      let v0 : Elt F .i32 ← smemLoad bNu (Rect.unit (s := S1) ![0] S1.size inb_S1_S1_0) numel1_S1 rfl
      let v1 : BitVec 1 := Scalar.cmpi .slt arg0 v0
      let v3 : Elt F .i32 ← smemLoad bBe (Rect.unit (s := S160) (k0_off1 i) S1.size (k0_off1_inb i)) numel1_S1 rfl
      have k0_hw1 : k0_chk1 i v3 := (← Prog.lift (TpuEff.assume (k0_chk1 i v3) (k0_chk1.dec i v3))).down
      if k0_h1 : k0_cond1 i = 1#1 then do
        let v47 : Elt F .i32 ← smemLoad bSlot (Rect.unit (s := S1) ![0] S1.size inb_S1_S1_0) numel1_S1 rfl
        Prog.lift (.store bSlot (Rect.unit (s := S1) ![0] S1.size inb_S1_S1_0) (fun _ => 0#32) Finset.univ (View.stores_smem_one rfl numel1_S1) (.inl rfl))
        let v48 : DmaSems sig S1 := cc0_scratch7.slice (Rect.unit (s := S2) ![0] S1.size inb_S2_S1_0)
        let v49 : DmaSems sig S_ := v48.squeeze S_ squeezes_S1_S_
        let v50 : Memref sig .tc .vmem S1x1024x1024 .f32 := bFg.slice (Rect.unit (s := S2x1024x1024) ![0, 0, 0] S1x1024x1024.size inb_S2x1024x1024_S1x1024x1024_0_0_0) (fun _ => rfl)
        let v51 : Memref sig .tc .vmem S1024x1024 .f32 := v50.squeeze S1024x1024 squeezes_S1x1024x1024_S1024x1024
        let v52 : Memref sig .tc .hbm S1x1024x1024 .f32 := bWg.slice (Rect.unit (s := S32x1024x1024) (k0_off2 v3) S1x1024x1024.size (k0_off2_inb i v3 k0_hw1 k0_h1)) (fun _ => rfl)
        let v53 : Memref sig .tc .hbm S1024x1024 .f32 := v52.squeeze S1024x1024 squeezes_S1x1024x1024_S1024x1024
        Prog.lift (.enqueueDma v53 (.here v51) (.dma v49.sem) ((View.wordExact_bits rfl).reshape _ _) ((View.wordExact_bits rfl).reshape _ _) ⟨Or.inl rfl, trivial⟩)
        let v54 : DmaSems sig S1 := cc0_scratch7.slice (Rect.unit (s := S2) ![0] S1.size inb_S2_S1_0)
        let v55 : DmaSems sig S_ := v54.squeeze S_ squeezes_S1_S_
        let v56 : Memref sig .tc .vmem S1x1024x1024 .f32 := bFu.slice (Rect.unit (s := S2x1024x1024) ![0, 0, 0] S1x1024x1024.size inb_S2x1024x1024_S1x1024x1024_0_0_0) (fun _ => rfl)
        let v57 : Memref sig .tc .vmem S1024x1024 .f32 := v56.squeeze S1024x1024 squeezes_S1x1024x1024_S1024x1024
        let v58 : Memref sig .tc .hbm S1x1024x1024 .f32 := bWu.slice (Rect.unit (s := S32x1024x1024) (k0_off2 v3) S1x1024x1024.size (k0_off2_inb i v3 k0_hw1 k0_h1)) (fun _ => rfl)
        let v59 : Memref sig .tc .hbm S1024x1024 .f32 := v58.squeeze S1024x1024 squeezes_S1x1024x1024_S1024x1024
        Prog.lift (.enqueueDma v59 (.here v57) (.dma v55.sem) ((View.wordExact_bits rfl).reshape _ _) ((View.wordExact_bits rfl).reshape _ _) ⟨Or.inl rfl, trivial⟩)
        let v60 : DmaSems sig S1 := cc0_scratch7.slice (Rect.unit (s := S2) ![0] S1.size inb_S2_S1_0)
        let v61 : DmaSems sig S_ := v60.squeeze S_ squeezes_S1_S_
        let v62 : Memref sig .tc .vmem S1x1024x1024 .f32 := bFd.slice (Rect.unit (s := S2x1024x1024) ![0, 0, 0] S1x1024x1024.size inb_S2x1024x1024_S1x1024x1024_0_0_0) (fun _ => rfl)
        let v63 : Memref sig .tc .vmem S1024x1024 .f32 := v62.squeeze S1024x1024 squeezes_S1x1024x1024_S1024x1024
        let v64 : Memref sig .tc .hbm S1x1024x1024 .f32 := bWd.slice (Rect.unit (s := S32x1024x1024) (k0_off2 v3) S1x1024x1024.size (k0_off2_inb i v3 k0_hw1 k0_h1)) (fun _ => rfl)
        let v65 : Memref sig .tc .hbm S1024x1024 .f32 := v64.squeeze S1024x1024 squeezes_S1x1024x1024_S1024x1024
        Prog.lift (.enqueueDma v65 (.here v63) (.dma v61.sem) ((View.wordExact_bits rfl).reshape _ _) ((View.wordExact_bits rfl).reshape _ _) ⟨Or.inl rfl, trivial⟩)
        pure ⟨⟩
      else do
        pure ⟨⟩
      let v11 : Elt F .i32 ← smemLoad bBe (Rect.unit (s := S160) (k0_off3 i) S1.size (k0_off3_inb i)) numel1_S1 rfl
      have k0_hw3 : k0_chk3 i v0 v3 v11 := (← Prog.lift (TpuEff.assume (k0_chk3 i v0 v3 v11) (k0_chk3.dec i v0 v3 v11))).down
      if k0_h2 : k0_cond2 i v0 v3 v11 = 1#1 then do
        let ⟨v47, k0_hw2⟩ : Σ' (v47 : Elt F .i32), k0_chk2 i v0 v3 v11 v47 ← k0_part1 i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7 v0 v3 v11 k0_hw3 k0_h2
        let v81 : Vec F S1x1024x1024 .f32 ← Prog.lift (.load bFd (Rect.unit (s := S2x1024x1024) (k0_off7 v47) S1x1024x1024.size (k0_off7_inb i v0 v3 v11 v47 k0_hw2 k0_h2)).toLoadRect (View.loadsAt_vmem h_S1x1024x1024))
        let v84 : Vec F S1024x1024 .bf16 ← Prog.lift (.load bBd (Rect.unit (s := S1024x1024) ![0, 0] S1024x1024.size inb_S1024x1024_S1024x1024_0_0).toLoadRect (View.loadsAt_vmem h_S1024x1024))
        Prog.lift (.store bBd (Rect.unit (s := S1024x1024) ![0, 0] S1024x1024.size inb_S1024x1024_S1024x1024_0_0) (k0_pay49 v81) Finset.univ (View.stores_vmem h_S1024x1024 ((Memref.isWhole_whole _).storeExact_slice rfl _ packedbf16_S1024x1024_S1024x1024_0_0) (fun _ => rfl)) (.inl rfl))
        let v88 : Elt F .i32 ← smemLoad bEn (Rect.unit (s := S64) (k0_off8 v3) S1.size (k0_off8_inb i v0 v3 v11 k0_hw3 k0_h2)) numel1_S1 rfl
        let v90 : Elt F .i32 ← smemLoad bNu (Rect.unit (s := S1) ![0] S1.size inb_S1_S1_0) numel1_S1 rfl
        have k0_hw4 : k0_chk4 i v0 v3 v11 v47 v88 v90 := (← Prog.lift (TpuEff.assume (k0_chk4 i v0 v3 v11 v47 v88 v90) (k0_chk4.dec i v0 v3 v11 v47 v88 v90))).down
        if k0_h3 : k0_cond3 v88 v90 = 1#1 then do
          let v97 : Elt F .i32 ← smemLoad bBe (Rect.unit (s := S160) (k0_off9 v88) S1.size (k0_off9_inb i v0 v3 v11 v47 v88 v90 k0_hw4 k0_h2 k0_h3)) numel1_S1 rfl
          have k0_hw5 : k0_chk5 i v0 v3 v11 v88 v90 v97 := (← Prog.lift (TpuEff.assume (k0_chk5 i v0 v3 v11 v88 v90 v97) (k0_chk5.dec i v0 v3 v11 v88 v90 v97))).down
          let v99 : DmaSems sig S1 := cc0_scratch7.slice (Rect.unit (s := S2) (k0_off10 v47) S1.size (k0_off10_inb i v0 v3 v11 v47 v88 v90 k0_hw4 k0_h2 k0_h3))
          let v100 : DmaSems sig S_ := v99.squeeze S_ squeezes_S1_S_
          let v101 : Memref sig .tc .vmem S1x1024x1024 .f32 := bFg.slice (Rect.unit (s := S2x1024x1024) (k0_off11 v47) S1x1024x1024.size (k0_off11_inb i v0 v3 v11 v47 v88 v90 k0_hw4 k0_h2 k0_h3)) (fun _ => rfl)
          let v102 : Memref sig .tc .vmem S1024x1024 .f32 := v101.squeeze S1024x1024 squeezes_S1x1024x1024_S1024x1024
          let v103 : Memref sig .tc .hbm S1x1024x1024 .f32 := bWg.slice (Rect.unit (s := S32x1024x1024) (k0_off12 v97) S1x1024x1024.size (k0_off12_inb i v0 v3 v11 v88 v90 v97 k0_hw5 k0_h2 k0_h3)) (fun _ => rfl)
          let v104 : Memref sig .tc .hbm S1024x1024 .f32 := v103.squeeze S1024x1024 squeezes_S1x1024x1024_S1024x1024
          Prog.lift (.enqueueDma v104 (.here v102) (.dma v100.sem) ((View.wordExact_bits rfl).reshape _ _) ((View.wordExact_bits rfl).reshape _ _) ⟨Or.inl rfl, trivial⟩)
          let v105 : DmaSems sig S1 := cc0_scratch7.slice (Rect.unit (s := S2) (k0_off13 v47) S1.size (k0_off13_inb i v0 v3 v11 v47 v88 v90 k0_hw4 k0_h2 k0_h3))
          let v106 : DmaSems sig S_ := v105.squeeze S_ squeezes_S1_S_
          let v107 : Memref sig .tc .vmem S1x1024x1024 .f32 := bFu.slice (Rect.unit (s := S2x1024x1024) (k0_off14 v47) S1x1024x1024.size (k0_off14_inb i v0 v3 v11 v47 v88 v90 k0_hw4 k0_h2 k0_h3)) (fun _ => rfl)
          let v108 : Memref sig .tc .vmem S1024x1024 .f32 := v107.squeeze S1024x1024 squeezes_S1x1024x1024_S1024x1024
          let v109 : Memref sig .tc .hbm S1x1024x1024 .f32 := bWu.slice (Rect.unit (s := S32x1024x1024) (k0_off12 v97) S1x1024x1024.size (k0_off12_inb i v0 v3 v11 v88 v90 v97 k0_hw5 k0_h2 k0_h3)) (fun _ => rfl)
          let v110 : Memref sig .tc .hbm S1024x1024 .f32 := v109.squeeze S1024x1024 squeezes_S1x1024x1024_S1024x1024
          Prog.lift (.enqueueDma v110 (.here v108) (.dma v106.sem) ((View.wordExact_bits rfl).reshape _ _) ((View.wordExact_bits rfl).reshape _ _) ⟨Or.inl rfl, trivial⟩)
          let v111 : DmaSems sig S1 := cc0_scratch7.slice (Rect.unit (s := S2) (k0_off13 v47) S1.size (k0_off13_inb i v0 v3 v11 v47 v88 v90 k0_hw4 k0_h2 k0_h3))
          let v112 : DmaSems sig S_ := v111.squeeze S_ squeezes_S1_S_
          let v113 : Memref sig .tc .vmem S1x1024x1024 .f32 := bFd.slice (Rect.unit (s := S2x1024x1024) (k0_off14 v47) S1x1024x1024.size (k0_off14_inb i v0 v3 v11 v47 v88 v90 k0_hw4 k0_h2 k0_h3)) (fun _ => rfl)
          let v114 : Memref sig .tc .vmem S1024x1024 .f32 := v113.squeeze S1024x1024 squeezes_S1x1024x1024_S1024x1024
          let v115 : Memref sig .tc .hbm S1x1024x1024 .f32 := bWd.slice (Rect.unit (s := S32x1024x1024) (k0_off12 v97) S1x1024x1024.size (k0_off12_inb i v0 v3 v11 v88 v90 v97 k0_hw5 k0_h2 k0_h3)) (fun _ => rfl)
          let v116 : Memref sig .tc .hbm S1024x1024 .f32 := v115.squeeze S1024x1024 squeezes_S1x1024x1024_S1024x1024
          Prog.lift (.enqueueDma v116 (.here v114) (.dma v112.sem) ((View.wordExact_bits rfl).reshape _ _) ((View.wordExact_bits rfl).reshape _ _) ⟨Or.inl rfl, trivial⟩)
          pure ⟨⟩
        else do
          pure ⟨⟩
        let v94 : BitVec 32 := Scalar.subi 1#32 v47
        let v95 : Elt F .i32 ← smemLoad bSlot (Rect.unit (s := S1) ![0] S1.size inb_S1_S1_0) numel1_S1 rfl
        Prog.lift (.store bSlot (Rect.unit (s := S1) ![0] S1.size inb_S1_S1_0) (fun _ => v94) Finset.univ (View.stores_smem_one rfl numel1_S1) (.inl rfl))
        pure ⟨⟩
      else do
        pure ⟨⟩
      let v19 : Elt F .i32 ← smemLoad bEn (Rect.unit (s := S64) (k0_off15 v3) S1.size (k0_off15_inb i v3 k0_hw1)) numel1_S1 rfl
      J v0 v19) Q := by
  have hi : (i 0).val < 160 := (i 0).isLt
  have hex := hT.lt _ hi
  have hu := hT.le
  have hN : (wordAt N 0).toNat < 2 ^ 31 := by show usedOf N < _; omega
  refine tab_nu ?_
  refine tab_be (n := (i 0).val) hi (point_nat i) ?_
  refine runs_assume (chk1_of i hex) ?_
  by_cases h1 : k0_cond1 i = 1#1
  · have h0 := (cond1_iff i).mp h1
    simp only [dif_pos h1]
    refine BIBase.Entails.trans (Q := iprop((∃ z : S1.Idx → BitVec 32, bSlot.view.loc (c : Thread nD τ) ↦{fullShare} z)
      ∗ Loose (F := F) c ∗ Whole c W ∗ Quiet (F := F) c 0 ∗ Quiet (F := F) c 1 ∗ Tabs c q B N E ∗ Owed (F := F) c ∗ R)) ?_ ?_
    · rw [h0]
      unfold Before First
      iintro ⟨HT, ⟨HS, HL, HW, Q0, Q1⟩, HO, HR⟩
      isplitl [HS]; · iexact HS
      isplitl [HL]; · iexact HL
      isplitl [HW]; · iexact HW
      isplitl [Q0]; · iexact Q0
      isplitl [Q1]; · iexact Q1
      isplitl [HT]; · iexact HT
      isplitl [HO]; · iexact HO
      iexact HR
    refine BIBase.Entails.trans sep_exists_right.1 (exists_elim fun z => ?_)
    refine read_word bSlot (r := Rect.unit (s := S1) ![0] S1.size inb_S1_S1_0) (h1 := numel1_S1) (q := fullShare) (f := z) (v := wordAt z 0) (read_slot (F := F))
      (R := iprop(Loose (F := F) c ∗ Whole c W ∗ Quiet (F := F) c 0 ∗ Quiet (F := F) c 1 ∗ Tabs c q B N E ∗ Owed (F := F) c ∗ R)) ?_
    refine write_slot (f := z) (v := 0#32) (inb := inb_S1_S1_0)
      (R := iprop(Loose (F := F) c ∗ Whole c W ∗ Quiet (F := F) c 0 ∗ Quiet (F := F) c 1 ∗ Tabs c q B N E ∗ Owed (F := F) c ∗ R)) ?_
    have hsm : ∀ inb, ((cc0_scratch7.slice (Rect.unit (s := S2) ![0] S1.size inb)).squeeze S_ squeezes_S1_S_).sem = semOf 0 := fun inb => rfl
    refine BIBase.Entails.trans ?_ (start_mats (W := W) (s := 0) (e := exOf B (i 0).val)
      (R := iprop(Tabs c q B N E ∗ Slot (F := F) c 0 ∗ Loose (F := F) c ∗ Quiet (F := F) c (1 - 0) ∗ Owed (F := F) c ∗ R))
      hex _ _ _ (hsm _) (hsm _) (hsm _) rfl rfl rfl rfl rfl rfl ?_)
    · unfold Slot
      iintro ⟨HS, HL, HW, Q0, Q1, HT, HO, HR⟩
      isplitl [HW]; · iexact HW
      isplitl [Q0]; · iexact Q0
      isplitl [HT]; · iexact HT
      isplitl [HS]; · iexact HS
      isplitl [HL]; · iexact HL
      isplitl [Q1]; · iexact Q1
      isplitl [HO]; · iexact HO
      iexact HR
    refine BIBase.Entails.trans (Q := iprop(Tabs c q B N E ∗ Slot (F := F) c 0 ∗ Loose (F := F) c ∗ Coming c W 0 (exOf B (i 0).val)
      ∗ Quiet (F := F) c (1 - 0) ∗ Owed (F := F) c ∗ R)) ?_ ?_
    · iintro ⟨HC, HT, HS, HL, HX⟩
      isplitl [HT]; · iexact HT
      isplitl [HS]; · iexact HS
      isplitl [HL]; · iexact HL
      isplitl [HC]; · iexact HC
      iexact HX
    refine tab_be (n := (i 0).val - 1) (by omega) (off3_zero i) ?_
    refine runs_assume (chk3_of i hex) ?_
    have hlt : (i 0).val < usedOf N := by rw [h0]; exact hT.pos
    have h2 : k0_cond2 i (wordAt N 0) (wordAt B (i 0).val) (wordAt B ((i 0).val - 1)) = 1#1 := (cond2_iff i hN).mpr ⟨hlt, .inl h0⟩
    simp only [dif_pos h2]
    exact fresh_runs arg4 harg4 arg6 harg6 arg8 harg8 arg10 harg10 arg11 harg11 i hT hlt (by omega) (chk3_of i hex) h2
      (tab_en (n := 32 + exOf B (i 0).val) (by omega) (off15_zero hex) hk)
  · simp only [dif_neg h1]
    obtain ⟨u, hu'⟩ : ∃ u, (i 0).val = u + 1 := Nat.exists_eq_succ_of_ne_zero fun h => h1 ((cond1_iff i).mpr h)
    refine tab_be (n := (i 0).val - 1) (by omega) (off3_zero i) ?_
    refine runs_assume (chk3_of i hex) ?_
    by_cases h2 : k0_cond2 i (wordAt N 0) (wordAt B (i 0).val) (wordAt B ((i 0).val - 1)) = 1#1
    · simp only [dif_pos h2]
      obtain ⟨hlt, hne⟩ := (cond2_iff i hN).mp h2
      have hne' : exOf B (u + 1) ≠ exOf B u := by
        rcases hne with h | h
        · omega
        · intro hh; refine h (BitVec.eq_of_toNat_eq ?_)
          rw [hu']; exact hh
      refine BIBase.Entails.trans (Q := iprop((∃ s, ⌜s < 2⌝ ∗ Slot (F := F) c s ∗ Loose (F := F) c ∗ Coming c W s (exOf B (i 0).val) ∗ Quiet (F := F) c (1 - s))
        ∗ Tabs c q B N E ∗ Owed (F := F) c ∗ R)) ?_ ?_
      · rw [hu'] at hlt ⊢
        rw [show Before c W B N E (u + 1) = After c W B N E u from rfl]
        iintro ⟨HT, HB, HX⟩
        isplitl [HB]; · iapply (after_new hT hlt hne'); iexact HB
        isplitl [HT]; · iexact HT
        iexact HX
      refine BIBase.Entails.trans sep_exists_right.1 (exists_elim fun s => ?_)
      by_cases hs : s < 2
      · refine BIBase.Entails.trans ?_ (fresh_runs arg4 harg4 arg6 harg6 arg8 harg8 arg10 harg10 arg11 harg11 i hT hlt hs (chk3_of i hex) h2
          (tab_en (n := 32 + exOf B (i 0).val) (by omega) (off15_zero hex) hk))
        iintro ⟨⟨-, HS, HL, HC, HQ⟩, HT, HO, HR⟩
        isplitl [HT]; · iexact HT
        isplitl [HS]; · iexact HS
        isplitl [HL]; · iexact HL
        isplitl [HC]; · iexact HC
        isplitl [HQ]; · iexact HQ
        isplitl [HO]; · iexact HO
        iexact HR
      · iintro ⟨⟨%h, -⟩, -⟩
        exact absurd h hs
    · simp only [dif_neg h2]
      refine tab_en (n := 32 + exOf B (i 0).val) (by omega) (off15_zero hex) (BIBase.Entails.trans ?_ hk)
      have hh : usedOf N ≤ u + 1 ∨ exOf B (u + 1) = exOf B u := by
        by_contra hcon
        push Not at hcon
        refine h2 ((cond2_iff i hN).mpr ⟨by show _ < usedOf N; omega, .inr fun he => hcon.2 ?_⟩)
        rw [hu'] at he
        exact congrArg BitVec.toNat he
      rw [hu', show Before c W B N E (u + 1) = After c W B N E u from rfl]
      iintro ⟨HT, HB, HX⟩
      isplitl [HT]; · iexact HT
      isplitl [HB]; · iapply (after_same hT hh); iexact HB
      iexact HX

end Turn

end Cert.Kernel3Ideal.Hand

end
-- ==== Proof.ExpPointNone.lean ====
/-
  The experts' call: a whole point, by how many of its block's rows carry an assignment.
-/
module

public import proofs.«01_k».proof.Proof.ExpHead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

set_option maxHeartbeats 2000000 in
/-- A block past the rows in use: zeros. -/
noncomputable def pointNone (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole)
    (h4 : ¬ k0_cond4 i (wordAt N 0) (wordAt E (32 + exOf B (i 0).val)) = 1#1) (h5 : ¬ k0_cond5 i (wordAt N 0) (wordAt E (32 + exOf B (i 0).val)) = 1#1) (h6 : ¬ k0_cond6 i (wordAt N 0) (wordAt E (32 + exOf B (i 0).val)) = 1#1) (h7 : ¬ k0_cond7 i (wordAt N 0) (wordAt E (32 + exOf B (i 0).val)) = 1#1) (h8 : k0_cond8 i (wordAt N 0) = 1#1)
    (x4 : Vec F S4096x128 .f32) (x6 x8 x10 : Vec F S1x1x1024 .f32) :
    { L : List (View.Piece (Elt F) S4096x128 .f32) // Tables B N E →
      (iprop(Tabs c q B N E ∗ Before c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ d, owns (c : Thread nD τ) arg11 fullShare d))
        ⊢ runs c (cc0_experts i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7)
          (fun _ => iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ f, arg11.view.loc (c : Thread nD τ) ↦[arg11.view.set]{fullShare} arg11.view.writes (Elt F) f L)))) } := by
  refine ⟨?_, fun hT => ?run⟩
  case run =>
    rw [cc0_experts_eq_skeleton]; unfold cc0_experts_skel
    refine runs_bind ?_
    rw [k0_part10_eq_skeleton]; unfold k0_part10_skel
    refine head_runs arg4 harg4 arg6 harg6 arg8 harg8 arg10 harg10 arg11 harg11 i hT ?_
    simp only [dif_neg h4, dif_neg h5]
    refine runs_ret ?_
    simp only [dif_neg h6, dif_neg h7, dif_pos h8]
    unfold runs After Held owns
    iintro ⟨HT, ⟨%s, %hs, HS, ⟨HG, HU, HD⟩, HF⟩, HO, ⟨%f4, %hf4, H4⟩, ⟨%f6, %hf6, H6⟩, ⟨%f8, %hf8, H8⟩, ⟨%f10, %hf10, H10⟩, ⟨%d11, %f11, -, H11⟩⟩
    obtain rfl := harg4.eq_unread hf4; obtain rfl := harg6.eq_unread hf6; obtain rfl := harg8.eq_unread hf8; obtain rfl := harg10.eq_unread hf10
    sl_exec
    sl_step
    isplitl [HT]; · iexact HT
    isplitl [HS HG HU HD HF]
    · iexists s
      isplitr; · ipureintro; exact hs
      isplitl [HS]; · iexact HS
      isplitr [HF]
      · isplitl [HG]; · iexact HG
        isplitl [HU]; · iexact HU
        iexact HD
      iexact HF
    isplitl [HO]; · iexact HO
    isplitl [H4]
    · iexists _; isplitr; · ipureintro; exact harg4.read_unread _
      iexact H4
    isplitl [H6]
    · iexists _; isplitr; · ipureintro; exact harg6.read_unread _
      iexact H6
    isplitl [H8]
    · iexists _; isplitr; · ipureintro; exact harg8.read_unread _
      iexact H8
    isplitl [H10]
    · iexists _; isplitr; · ipureintro; exact harg10.read_unread _
      iexact H10
    iexists _; iexact H11

end Cert.Kernel3Ideal.Hand

end
-- ==== Proof.ExpPointAll.lean ====
/-
  The experts' call: a whole point, by how many of its block's rows carry an assignment.
-/
module

public import proofs.«01_k».proof.Proof.ExpHead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

set_option maxHeartbeats 2000000 in
/-- All 512 rows. -/
noncomputable def pointAll (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole)
    (h4 : ¬ k0_cond4 i (wordAt N 0) (wordAt E (32 + exOf B (i 0).val)) = 1#1) (h5 : ¬ k0_cond5 i (wordAt N 0) (wordAt E (32 + exOf B (i 0).val)) = 1#1) (h6 : ¬ k0_cond6 i (wordAt N 0) (wordAt E (32 + exOf B (i 0).val)) = 1#1) (h7 : k0_cond7 i (wordAt N 0) (wordAt E (32 + exOf B (i 0).val)) = 1#1) (h8 : ¬ k0_cond8 i (wordAt N 0) = 1#1)
    (x4 : Vec F S4096x128 .f32) (x6 x8 x10 : Vec F S1x1x1024 .f32) :
    { L : List (View.Piece (Elt F) S4096x128 .f32) // Tables B N E →
      (iprop(Tabs c q B N E ∗ Before c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ d, owns (c : Thread nD τ) arg11 fullShare d))
        ⊢ runs c (cc0_experts i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7)
          (fun _ => iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ f, arg11.view.loc (c : Thread nD τ) ↦[arg11.view.set]{fullShare} arg11.view.writes (Elt F) f L)))) } := by
  refine ⟨?_, fun hT => ?run⟩
  case run =>
    rw [cc0_experts_eq_skeleton]; unfold cc0_experts_skel
    refine runs_bind ?_
    rw [k0_part10_eq_skeleton]; unfold k0_part10_skel
    refine head_runs arg4 harg4 arg6 harg6 arg8 harg8 arg10 harg10 arg11 harg11 i hT ?_
    simp only [dif_neg h4, dif_neg h5]
    refine runs_ret ?_
    simp only [dif_neg h6, dif_pos h7, dif_neg h8]
    simp only [k0_part8_eq_skeleton, k0_part9_eq_skeleton]
    unfold runs After Held owns
    iintro ⟨HT, ⟨%s, %hs, HS, ⟨HG, HU, HD⟩, HF⟩, HO, ⟨%f4, %hf4, H4⟩, ⟨%f6, %hf6, H6⟩, ⟨%f8, %hf8, H8⟩, ⟨%f10, %hf10, H10⟩, ⟨%d11, %f11, -, H11⟩⟩
    obtain rfl := harg4.eq_unread hf4; obtain rfl := harg6.eq_unread hf6; obtain rfl := harg8.eq_unread hf8; obtain rfl := harg10.eq_unread hf10
    sl_exec
    sl_step
    isplitl [HT]; · iexact HT
    isplitl [HS HG HU HD HF]
    · iexists s
      isplitr; · ipureintro; exact hs
      isplitl [HS]; · iexact HS
      isplitr [HF]
      · isplitl [HG]; · iexact HG
        isplitl [HU]; · iexact HU
        iexact HD
      iexact HF
    isplitl [HO]; · iexact HO
    isplitl [H4]
    · iexists _; isplitr; · ipureintro; exact harg4.read_unread _
      iexact H4
    isplitl [H6]
    · iexists _; isplitr; · ipureintro; exact harg6.read_unread _
      iexact H6
    isplitl [H8]
    · iexists _; isplitr; · ipureintro; exact harg8.read_unread _
      iexact H8
    isplitl [H10]
    · iexists _; isplitr; · ipureintro; exact harg10.read_unread _
      iexact H10
    iexists _; iexact H11

end Cert.Kernel3Ideal.Hand

end
-- ==== Proof.ExpPoint384.lean ====
/-
  The experts' call: a whole point, by how many of its block's rows carry an assignment.
-/
module

public import proofs.«01_k».proof.Proof.ExpHead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

set_option maxHeartbeats 2000000 in
/-- At most 384 rows. -/
noncomputable def point384 (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole)
    (h4 : ¬ k0_cond4 i (wordAt N 0) (wordAt E (32 + exOf B (i 0).val)) = 1#1) (h5 : ¬ k0_cond5 i (wordAt N 0) (wordAt E (32 + exOf B (i 0).val)) = 1#1) (h6 : k0_cond6 i (wordAt N 0) (wordAt E (32 + exOf B (i 0).val)) = 1#1) (h7 : ¬ k0_cond7 i (wordAt N 0) (wordAt E (32 + exOf B (i 0).val)) = 1#1) (h8 : ¬ k0_cond8 i (wordAt N 0) = 1#1)
    (x4 : Vec F S4096x128 .f32) (x6 x8 x10 : Vec F S1x1x1024 .f32) :
    { L : List (View.Piece (Elt F) S4096x128 .f32) // Tables B N E →
      (iprop(Tabs c q B N E ∗ Before c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ d, owns (c : Thread nD τ) arg11 fullShare d))
        ⊢ runs c (cc0_experts i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7)
          (fun _ => iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ f, arg11.view.loc (c : Thread nD τ) ↦[arg11.view.set]{fullShare} arg11.view.writes (Elt F) f L)))) } := by
  refine ⟨?_, fun hT => ?run⟩
  case run =>
    rw [cc0_experts_eq_skeleton]; unfold cc0_experts_skel
    refine runs_bind ?_
    rw [k0_part10_eq_skeleton]; unfold k0_part10_skel
    refine head_runs arg4 harg4 arg6 harg6 arg8 harg8 arg10 harg10 arg11 harg11 i hT ?_
    simp only [dif_neg h4, dif_neg h5]
    refine runs_ret ?_
    simp only [dif_pos h6, dif_neg h7, dif_neg h8]
    simp only [k0_part6_eq_skeleton, k0_part7_eq_skeleton]
    unfold runs After Held owns
    iintro ⟨HT, ⟨%s, %hs, HS, ⟨HG, HU, HD⟩, HF⟩, HO, ⟨%f4, %hf4, H4⟩, ⟨%f6, %hf6, H6⟩, ⟨%f8, %hf8, H8⟩, ⟨%f10, %hf10, H10⟩, ⟨%d11, %f11, -, H11⟩⟩
    obtain rfl := harg4.eq_unread hf4; obtain rfl := harg6.eq_unread hf6; obtain rfl := harg8.eq_unread hf8; obtain rfl := harg10.eq_unread hf10
    sl_exec
    sl_step
    isplitl [HT]; · iexact HT
    isplitl [HS HG HU HD HF]
    · iexists s
      isplitr; · ipureintro; exact hs
      isplitl [HS]; · iexact HS
      isplitr [HF]
      · isplitl [HG]; · iexact HG
        isplitl [HU]; · iexact HU
        iexact HD
      iexact HF
    isplitl [HO]; · iexact HO
    isplitl [H4]
    · iexists _; isplitr; · ipureintro; exact harg4.read_unread _
      iexact H4
    isplitl [H6]
    · iexists _; isplitr; · ipureintro; exact harg6.read_unread _
      iexact H6
    isplitl [H8]
    · iexists _; isplitr; · ipureintro; exact harg8.read_unread _
      iexact H8
    isplitl [H10]
    · iexists _; isplitr; · ipureintro; exact harg10.read_unread _
      iexact H10
    iexists _; iexact H11

end Cert.Kernel3Ideal.Hand

end
-- ==== Proof.ExpPoint256.lean ====
/-
  The experts' call: a whole point, by how many of its block's rows carry an assignment.
-/
module

public import proofs.«01_k».proof.Proof.ExpHead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

set_option maxHeartbeats 2000000 in
/-- At most 256 rows. -/
noncomputable def point256 (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole)
    (h4 : ¬ k0_cond4 i (wordAt N 0) (wordAt E (32 + exOf B (i 0).val)) = 1#1) (h5 : k0_cond5 i (wordAt N 0) (wordAt E (32 + exOf B (i 0).val)) = 1#1) (h6 : ¬ k0_cond6 i (wordAt N 0) (wordAt E (32 + exOf B (i 0).val)) = 1#1) (h7 : ¬ k0_cond7 i (wordAt N 0) (wordAt E (32 + exOf B (i 0).val)) = 1#1) (h8 : ¬ k0_cond8 i (wordAt N 0) = 1#1)
    (x4 : Vec F S4096x128 .f32) (x6 x8 x10 : Vec F S1x1x1024 .f32) :
    { L : List (View.Piece (Elt F) S4096x128 .f32) // Tables B N E →
      (iprop(Tabs c q B N E ∗ Before c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ d, owns (c : Thread nD τ) arg11 fullShare d))
        ⊢ runs c (cc0_experts i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7)
          (fun _ => iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ f, arg11.view.loc (c : Thread nD τ) ↦[arg11.view.set]{fullShare} arg11.view.writes (Elt F) f L)))) } := by
  refine ⟨?_, fun hT => ?run⟩
  case run =>
    rw [cc0_experts_eq_skeleton]; unfold cc0_experts_skel
    refine runs_bind ?_
    rw [k0_part10_eq_skeleton]; unfold k0_part10_skel
    refine head_runs arg4 harg4 arg6 harg6 arg8 harg8 arg10 harg10 arg11 harg11 i hT ?_
    simp only [dif_neg h4, dif_pos h5]
    simp only [k0_part4_eq_skeleton, k0_part5_eq_skeleton]
    unfold runs After Held owns
    iintro ⟨HT, ⟨%s, %hs, HS, ⟨HG, HU, HD⟩, HF⟩, HO, ⟨%f4, %hf4, H4⟩, ⟨%f6, %hf6, H6⟩, ⟨%f8, %hf8, H8⟩, ⟨%f10, %hf10, H10⟩, ⟨%d11, %f11, -, H11⟩⟩
    obtain rfl := harg4.eq_unread hf4; obtain rfl := harg6.eq_unread hf6; obtain rfl := harg8.eq_unread hf8; obtain rfl := harg10.eq_unread hf10
    sl_exec
    sl_step
    simp only [dif_neg h6, dif_neg h7, dif_neg h8]
    isplitl [HT]; · iexact HT
    isplitl [HS HG HU HD HF]
    · iexists s
      isplitr; · ipureintro; exact hs
      isplitl [HS]; · iexact HS
      isplitr [HF]
      · isplitl [HG]; · iexact HG
        isplitl [HU]; · iexact HU
        iexact HD
      iexact HF
    isplitl [HO]; · iexact HO
    isplitl [H4]
    · iexists _; isplitr; · ipureintro; exact harg4.read_unread _
      iexact H4
    isplitl [H6]
    · iexists _; isplitr; · ipureintro; exact harg6.read_unread _
      iexact H6
    isplitl [H8]
    · iexists _; isplitr; · ipureintro; exact harg8.read_unread _
      iexact H8
    isplitl [H10]
    · iexists _; isplitr; · ipureintro; exact harg10.read_unread _
      iexact H10
    iexists _; iexact H11

end Cert.Kernel3Ideal.Hand

end
-- ==== Proof.ExpPoint128.lean ====
/-
  The experts' call: a whole point, by how many of its block's rows carry an assignment.
-/
module

public import proofs.«01_k».proof.Proof.ExpHead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

set_option maxHeartbeats 2000000 in
/-- At most 128 rows. -/
noncomputable def point128 (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole)
    (h4 : k0_cond4 i (wordAt N 0) (wordAt E (32 + exOf B (i 0).val)) = 1#1) (h5 : ¬ k0_cond5 i (wordAt N 0) (wordAt E (32 + exOf B (i 0).val)) = 1#1) (h6 : ¬ k0_cond6 i (wordAt N 0) (wordAt E (32 + exOf B (i 0).val)) = 1#1) (h7 : ¬ k0_cond7 i (wordAt N 0) (wordAt E (32 + exOf B (i 0).val)) = 1#1) (h8 : ¬ k0_cond8 i (wordAt N 0) = 1#1)
    (x4 : Vec F S4096x128 .f32) (x6 x8 x10 : Vec F S1x1x1024 .f32) :
    { L : List (View.Piece (Elt F) S4096x128 .f32) // Tables B N E →
      (iprop(Tabs c q B N E ∗ Before c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ d, owns (c : Thread nD τ) arg11 fullShare d))
        ⊢ runs c (cc0_experts i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7)
          (fun _ => iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ f, arg11.view.loc (c : Thread nD τ) ↦[arg11.view.set]{fullShare} arg11.view.writes (Elt F) f L)))) } := by
  refine ⟨?_, fun hT => ?run⟩
  case run =>
    rw [cc0_experts_eq_skeleton]; unfold cc0_experts_skel
    refine runs_bind ?_
    rw [k0_part10_eq_skeleton]; unfold k0_part10_skel
    refine head_runs arg4 harg4 arg6 harg6 arg8 harg8 arg10 harg10 arg11 harg11 i hT ?_
    simp only [dif_pos h4, dif_neg h5]
    simp only [k0_part2_eq_skeleton, k0_part3_eq_skeleton]
    unfold runs After Held owns
    iintro ⟨HT, ⟨%s, %hs, HS, ⟨HG, HU, HD⟩, HF⟩, HO, ⟨%f4, %hf4, H4⟩, ⟨%f6, %hf6, H6⟩, ⟨%f8, %hf8, H8⟩, ⟨%f10, %hf10, H10⟩, ⟨%d11, %f11, -, H11⟩⟩
    obtain rfl := harg4.eq_unread hf4; obtain rfl := harg6.eq_unread hf6; obtain rfl := harg8.eq_unread hf8; obtain rfl := harg10.eq_unread hf10
    sl_exec
    sl_step
    simp only [dif_neg h6, dif_neg h7, dif_neg h8]
    isplitl [HT]; · iexact HT
    isplitl [HS HG HU HD HF]
    · iexists s
      isplitr; · ipureintro; exact hs
      isplitl [HS]; · iexact HS
      isplitr [HF]
      · isplitl [HG]; · iexact HG
        isplitl [HU]; · iexact HU
        iexact HD
      iexact HF
    isplitl [HO]; · iexact HO
    isplitl [H4]
    · iexists _; isplitr; · ipureintro; exact harg4.read_unread _
      iexact H4
    isplitl [H6]
    · iexists _; isplitr; · ipureintro; exact harg6.read_unread _
      iexact H6
    isplitl [H8]
    · iexists _; isplitr; · ipureintro; exact harg8.read_unread _
      iexact H8
    isplitl [H10]
    · iexists _; isplitr; · ipureintro; exact harg10.read_unread _
      iexact H10
    iexists _; iexact H11

end Cert.Kernel3Ideal.Hand

end
-- ==== Proof.ExpOut.lean ====
/-
  The experts' call: what the body leaves of a block, by how many of the block's rows carry an assignment.
-/
module

public import proofs.«01_k».proof.Proof.ExpPointNone
public import proofs.«01_k».proof.Proof.ExpPointAll
public import proofs.«01_k».proof.Proof.ExpPoint384
public import proofs.«01_k».proof.Proof.ExpPoint256
public import proofs.«01_k».proof.Proof.ExpPoint128
public import Idealize.ShloMosaic.Lib.WholeRead
public import Idealize.ShloMosaic.Lib.Pipeline.Value

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## Rows of a block and their eight strips -/

/-- A block's rows of 1024 numbers, each in eight strips of 128, and `z` from row `M` on. -/
def packed {α : Type} {M : ℕ} (V : (⟨2, ![M, 1024]⟩ : Shape).Idx → α) (z : α) : S4096x128.Idx → α := fun y =>
  if h : (y 0).val / 8 < M then V (ValueIdx.ix2 ⟨(y 0).val / 8, h⟩ ⟨128 * ((y 0).val % 8) + (y 1).val, by have h1 : (y 1).val < 128 := (y 1).isLt; omega⟩) else z

/-- Strip `s` of the block's first `M` rows. -/
def strip {α : Type} (M s : ℕ) (X : S4096x128.Idx → α) : (⟨2, ![M, 128]⟩ : Shape).Idx → α := fun z =>
  X (ValueIdx.ix2 ⟨(s + 8 * (z 0).val) % 4096, Nat.mod_lt _ (by decide)⟩ (z 1))

theorem slice_piece {α : Type} {M o s : ℕ} {V : (⟨2, ![M, 1024]⟩ : Shape).Idx → α} {z : α} {h : (⟨2, ![M, 1024]⟩ : Shape).Slices ![0, o] ⟨2, ![M, 128]⟩}
    (x : (⟨2, ![M, 128]⟩ : Shape).Idx) {y : S4096x128.Idx} (hs : s < 8) (ho : o = 128 * s) (h0 : (y 0).val = s + 8 * (x 0).val) (h1 : (y 1).val = 0 + 1 * (x 1).val) :
    extractStridedSlice ⟨2, ![M, 128]⟩ ![0, o] V h x = packed V z y := by
  have hx0 : (x 0).val < M := (x 0).isLt
  have hx1 : (x 1).val < 128 := (x 1).isLt
  unfold packed
  rw [dif_pos (by omega)]
  refine extractStridedSlice_apply _ _ _ _ _ fun a => ?_
  match a with
  | ⟨0, _⟩ => show (y 0).val / 8 = 0 + (x 0).val; omega
  | ⟨1, _⟩ => show 128 * ((y 0).val % 8) + (y 1).val = o + (x 1).val; omega

theorem packed_rest {α : Type} {M : ℕ} {V : (⟨2, ![M, 1024]⟩ : Shape).Idx → α} {z : α} {y : S4096x128.Idx} (h : 8 * M ≤ (y 0).val) : packed V z y = z := by
  unfold packed; rw [dif_neg (by omega)]

theorem strip_mem {M s : ℕ} {inb spos} {y : S4096x128.Idx} (h : (y 0).val < 8 * M) (hs : (y 0).val % 8 = s) :
    y ∈ (⟨(⟨![s, 0], (⟨2, ![M, 128]⟩ : Shape).size, ![8, 1], inb⟩ : LoadRect S4096x128), spos⟩ : Rect S4096x128).set := by
  have h1 : (y 1).val < 128 := (y 1).isLt
  refine (LoadRect.mem_set _).2 fun a => ?_
  match a with
  | ⟨0, _⟩ => exact ⟨(y 0).val / 8, (by omega : (y 0).val / 8 < M), (by omega : (y 0).val = s + 8 * ((y 0).val / 8))⟩
  | ⟨1, _⟩ => exact ⟨(y 1).val, h1, (by omega : (y 1).val = 0 + 1 * (y 1).val)⟩

theorem rest_mem {o n : ℕ} {inb} {y : S4096x128.Idx} (h : o ≤ (y 0).val) (hn : (y 0).val < o + n) :
    y ∈ (Rect.unit (s := S4096x128) ![o, 0] (⟨2, ![n, 128]⟩ : Shape).size inb).set := by
  have h1 : (y 1).val < 128 := (y 1).isLt
  refine (LoadRect.mem_set _).2 fun a => ?_
  match a with
  | ⟨0, _⟩ => exact ⟨(y 0).val - o, (by omega : (y 0).val - o < n), (by omega : (y 0).val = o + 1 * ((y 0).val - o))⟩
  | ⟨1, _⟩ => exact ⟨(y 1).val, h1, (by omega : (y 1).val = 0 + 1 * (y 1).val)⟩

theorem load_strip {M s : ℕ} (hM : M ≤ 512) (hs : s < 8) {a4 : Memref sig .tc .vmem S4096x128 .f32} (h4 : a4.IsWhole) (x4 : Vec F S4096x128 .f32) {inb} :
    View.readAt (Elt F) a4.view (⟨![s, 0], (⟨2, ![M, 128]⟩ : Shape).size, ![8, 1], inb⟩ : LoadRect S4096x128) (h4.unread x4) = strip M s x4 := by
  funext z
  have hz0 : (z 0).val < M := (z 0).isLt
  refine (h4.readAt_unread x4 _ z).trans (congrArg x4 (funext fun a => Fin.ext ?_))
  match a with
  | ⟨0, _⟩ => show s + 8 * (z 0).val = (s + 8 * (z 0).val) % 4096; omega
  | ⟨1, _⟩ => show 0 + 1 * (z 1).val = (z 1).val; omega

theorem load_bias {a6 : Memref sig .tc .vmem S1x1x1024 .f32} (h6 : a6.IsWhole) (x6 : Vec F S1x1x1024 .f32) {inb} :
    View.readAt (Elt F) a6.view (Rect.unit (s := S1x1x1024) ![0, 0, 0] S1x1x1024.size inb).toLoadRect (h6.unread x6) = x6 := by
  funext z
  refine (h6.readAt_unread x6 _ z).trans (congrArg x6 (funext fun a => Fin.ext ?_))
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

theorem load_g (Y : Vec F S1024x1024 .bf16) {inb} :
    View.readAt (Elt F) (View.whole cc0_scratch3) (Rect.unit (s := S1024x1024) ![0, 0] S1024x1024.size inb).toLoadRect Y = Y :=
  Memref.readAt_unit_zero (Elt F) cc0_scratch3 (funext fun a => by match a with | ⟨0, _⟩ => rfl | ⟨1, _⟩ => rfl) _ Y

theorem load_u (Y : Vec F S1024x1024 .bf16) {inb} :
    View.readAt (Elt F) (View.whole cc0_scratch4) (Rect.unit (s := S1024x1024) ![0, 0] S1024x1024.size inb).toLoadRect Y = Y :=
  Memref.readAt_unit_zero (Elt F) cc0_scratch4 (funext fun a => by match a with | ⟨0, _⟩ => rfl | ⟨1, _⟩ => rfl) _ Y

theorem load_d (Y : Vec F S1024x1024 .bf16) {inb} :
    View.readAt (Elt F) (View.whole cc0_scratch5) (Rect.unit (s := S1024x1024) ![0, 0] S1024x1024.size inb).toLoadRect Y = Y :=
  Memref.readAt_unit_zero (Elt F) cc0_scratch5 (funext fun a => by match a with | ⟨0, _⟩ => rfl | ⟨1, _⟩ => rfl) _ Y

/-- The 512 rows of a block, put through an expert. -/
def rows512 (X : Vec F S4096x128 .f32) (g u d : Vec F S1024x1024 .bf16) (x6 x8 x10 : Vec F S1x1x1024 .f32) : FVec F S512x1024 .f32 :=
  k0_pay42 (k0_pay40 (strip 512 0 X) (strip 512 1 X) (strip 512 2 X) (strip 512 3 X) (strip 512 4 X) (strip 512 5 X) (strip 512 6 X) (strip 512 7 X) g x6) (k0_pay41 (strip 512 0 X) (strip 512 1 X) (strip 512 2 X) (strip 512 3 X) (strip 512 4 X) (strip 512 5 X) (strip 512 6 X) (strip 512 7 X) u x8) (Scalar.ofBits .f32 0x3FD9DB23#32) d x10

set_option maxHeartbeats 1000000 in
theorem pointAll_reads (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole) (h4 h5 h6 h7 h8)
    (x4 : Vec F S4096x128 .f32) (x6 x8 x10 : Vec F S1x1x1024 .f32) (f : arg11.view.ty.Contents (Elt F)) :
    arg11.view.read (Elt F) (arg11.view.writes (Elt F) f (pointAll c W q B N E i arg4 harg4 arg6 harg6 arg8 harg8 arg10 harg10 arg11 harg11 h4 h5 h6 h7 h8 x4 x6 x8 x10).1)
      = packed (rows512 x4 (rounded W.g (exOf B (lastOf N (i 0).val))) (rounded W.u (exOf B (lastOf N (i 0).val))) (rounded W.d (exOf B (lastOf N (i 0).val))) x6 x8 x10) (Scalar.ofBits .f32 0x00000000#32 : F .f32) := by
  have hV : pointAll.sl.r_2 c W B N i arg4 harg4 arg6 harg6 arg8 harg8 arg10 harg10 x4 x6 x8 x10 = (rows512 x4 (rounded W.g (exOf B (lastOf N (i 0).val))) (rounded W.u (exOf B (lastOf N (i 0).val))) (rounded W.d (exOf B (lastOf N (i 0).val))) x6 x8 x10) := by
    unfold pointAll.sl.r_2 pointAll.sl.r pointAll.sl.r_1 pointAll.sl.cst_37 rows512
    rw [load_bias harg6 x6, load_bias harg8 x8, load_bias harg10 x10, load_g, load_u, load_d]
    rw [load_strip (M := 512) (s := 0) (by decide) (by decide) harg4 x4, load_strip (M := 512) (s := 1) (by decide) (by decide) harg4 x4, load_strip (M := 512) (s := 2) (by decide) (by decide) harg4 x4, load_strip (M := 512) (s := 3) (by decide) (by decide) harg4 x4, load_strip (M := 512) (s := 4) (by decide) (by decide) harg4 x4, load_strip (M := 512) (s := 5) (by decide) (by decide) harg4 x4, load_strip (M := 512) (s := 6) (by decide) (by decide) harg4 x4, load_strip (M := 512) (s := 7) (by decide) (by decide) harg4 x4]
  rw [← hV]
  funext y
  have hy : (y 0).val < 4096 := (y 0).isLt
  refine View.read_writes_apply_of_pieces _ _ _ _ ?_ _ ?_
  · unfold pointAll
    dsimp only
    simp only [List.forall_mem_cons]
    refine ⟨fun x => ?_, fun x => ?_, fun x => ?_, fun x => ?_, fun x => ?_, fun x => ?_, fun x => ?_, fun x => ?_, fun _ h => absurd h List.not_mem_nil⟩
    · unfold k0_pay5; refine slice_piece (s := 7) (o := 896) x (by decide) (by decide) ?_ ?_ <;> rfl
    · unfold k0_pay4; refine slice_piece (s := 6) (o := 768) x (by decide) (by decide) ?_ ?_ <;> rfl
    · unfold k0_pay48; refine slice_piece (s := 5) (o := 640) x (by decide) (by decide) ?_ ?_ <;> rfl
    · unfold k0_pay47; refine slice_piece (s := 4) (o := 512) x (by decide) (by decide) ?_ ?_ <;> rfl
    · unfold k0_pay46; refine slice_piece (s := 3) (o := 384) x (by decide) (by decide) ?_ ?_ <;> rfl
    · unfold k0_pay45; refine slice_piece (s := 2) (o := 256) x (by decide) (by decide) ?_ ?_ <;> rfl
    · unfold k0_pay44; refine slice_piece (s := 1) (o := 128) x (by decide) (by decide) ?_ ?_ <;> rfl
    · unfold k0_pay43; refine slice_piece (s := 0) (o := 0) x (by decide) (by decide) ?_ ?_ <;> rfl
  · unfold pointAll
    dsimp only
    have hM : (y 0).val < 8 * 512 := hy
    have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases h8 with hs | hs | hs | hs | hs | hs | hs | hs
    · exact ⟨_, (.tail _ (.tail _ (.tail _ (.tail _ (.tail _ (.tail _ (.tail _ (.head _)))))))), strip_mem (M := 512) (s := 0) hM hs⟩
    · exact ⟨_, (.tail _ (.tail _ (.tail _ (.tail _ (.tail _ (.tail _ (.head _))))))), strip_mem (M := 512) (s := 1) hM hs⟩
    · exact ⟨_, (.tail _ (.tail _ (.tail _ (.tail _ (.tail _ (.head _)))))), strip_mem (M := 512) (s := 2) hM hs⟩
    · exact ⟨_, (.tail _ (.tail _ (.tail _ (.tail _ (.head _))))), strip_mem (M := 512) (s := 3) hM hs⟩
    · exact ⟨_, (.tail _ (.tail _ (.tail _ (.head _)))), strip_mem (M := 512) (s := 4) hM hs⟩
    · exact ⟨_, (.tail _ (.tail _ (.head _))), strip_mem (M := 512) (s := 5) hM hs⟩
    · exact ⟨_, (.tail _ (.head _)), strip_mem (M := 512) (s := 6) hM hs⟩
    · exact ⟨_, (.head _), strip_mem (M := 512) (s := 7) hM hs⟩

/-- The 384 rows of a block, put through an expert. -/
def rows384 (X : Vec F S4096x128 .f32) (g u d : Vec F S1024x1024 .bf16) (x6 x8 x10 : Vec F S1x1x1024 .f32) : FVec F S384x1024 .f32 :=
  k0_pay32 (k0_pay30 (strip 384 0 X) (strip 384 1 X) (strip 384 2 X) (strip 384 3 X) (strip 384 4 X) (strip 384 5 X) (strip 384 6 X) (strip 384 7 X) g x6) (k0_pay31 (strip 384 0 X) (strip 384 1 X) (strip 384 2 X) (strip 384 3 X) (strip 384 4 X) (strip 384 5 X) (strip 384 6 X) (strip 384 7 X) u x8) (Scalar.ofBits .f32 0x3FD9DB23#32) d x10

set_option maxHeartbeats 1000000 in
theorem point384_reads (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole) (h4 h5 h6 h7 h8)
    (x4 : Vec F S4096x128 .f32) (x6 x8 x10 : Vec F S1x1x1024 .f32) (f : arg11.view.ty.Contents (Elt F)) :
    arg11.view.read (Elt F) (arg11.view.writes (Elt F) f (point384 c W q B N E i arg4 harg4 arg6 harg6 arg8 harg8 arg10 harg10 arg11 harg11 h4 h5 h6 h7 h8 x4 x6 x8 x10).1)
      = packed (rows384 x4 (rounded W.g (exOf B (lastOf N (i 0).val))) (rounded W.u (exOf B (lastOf N (i 0).val))) (rounded W.d (exOf B (lastOf N (i 0).val))) x6 x8 x10) (Scalar.ofBits .f32 0x00000000#32 : F .f32) := by
  have hV : point384.sl.r_2 c W B N i arg4 harg4 arg6 harg6 arg8 harg8 arg10 harg10 x4 x6 x8 x10 = (rows384 x4 (rounded W.g (exOf B (lastOf N (i 0).val))) (rounded W.u (exOf B (lastOf N (i 0).val))) (rounded W.d (exOf B (lastOf N (i 0).val))) x6 x8 x10) := by
    unfold point384.sl.r_2 point384.sl.r point384.sl.r_1 point384.sl.cst_37 rows384
    rw [load_bias harg6 x6, load_bias harg8 x8, load_bias harg10 x10, load_g, load_u, load_d]
    rw [load_strip (M := 384) (s := 0) (by decide) (by decide) harg4 x4, load_strip (M := 384) (s := 1) (by decide) (by decide) harg4 x4, load_strip (M := 384) (s := 2) (by decide) (by decide) harg4 x4, load_strip (M := 384) (s := 3) (by decide) (by decide) harg4 x4, load_strip (M := 384) (s := 4) (by decide) (by decide) harg4 x4, load_strip (M := 384) (s := 5) (by decide) (by decide) harg4 x4, load_strip (M := 384) (s := 6) (by decide) (by decide) harg4 x4, load_strip (M := 384) (s := 7) (by decide) (by decide) harg4 x4]
  rw [← hV]
  funext y
  have hy : (y 0).val < 4096 := (y 0).isLt
  refine View.read_writes_apply_of_pieces _ _ _ _ ?_ _ ?_
  · unfold point384
    dsimp only
    simp only [List.forall_mem_cons]
    refine ⟨fun x => ?_, fun x => ?_, fun x => ?_, fun x => ?_, fun x => ?_, fun x => ?_, fun x => ?_, fun x => ?_, fun x => ?_, fun _ h => absurd h List.not_mem_nil⟩
    · exact (packed_rest (show 8 * 384 ≤ 3072 + 1 * (x 0).val from by omega)).symm
    · unfold k0_pay2; refine slice_piece (s := 7) (o := 896) x (by decide) (by decide) ?_ ?_ <;> rfl
    · unfold k0_pay1; refine slice_piece (s := 6) (o := 768) x (by decide) (by decide) ?_ ?_ <;> rfl
    · unfold k0_pay38; refine slice_piece (s := 5) (o := 640) x (by decide) (by decide) ?_ ?_ <;> rfl
    · unfold k0_pay37; refine slice_piece (s := 4) (o := 512) x (by decide) (by decide) ?_ ?_ <;> rfl
    · unfold k0_pay36; refine slice_piece (s := 3) (o := 384) x (by decide) (by decide) ?_ ?_ <;> rfl
    · unfold k0_pay35; refine slice_piece (s := 2) (o := 256) x (by decide) (by decide) ?_ ?_ <;> rfl
    · unfold k0_pay34; refine slice_piece (s := 1) (o := 128) x (by decide) (by decide) ?_ ?_ <;> rfl
    · unfold k0_pay33; refine slice_piece (s := 0) (o := 0) x (by decide) (by decide) ?_ ?_ <;> rfl
  · unfold point384
    dsimp only
    by_cases hM : (y 0).val < 8 * 384
    swap
    · exact ⟨_, (.head _), rest_mem (o := 3072) (n := 1024) (inb := inb_S4096x128_S1024x128_3072_0) (by omega) (by omega)⟩
    have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases h8 with hs | hs | hs | hs | hs | hs | hs | hs
    · exact ⟨_, (.tail _ (.tail _ (.tail _ (.tail _ (.tail _ (.tail _ (.tail _ (.tail _ (.head _))))))))), strip_mem (M := 384) (s := 0) hM hs⟩
    · exact ⟨_, (.tail _ (.tail _ (.tail _ (.tail _ (.tail _ (.tail _ (.tail _ (.head _)))))))), strip_mem (M := 384) (s := 1) hM hs⟩
    · exact ⟨_, (.tail _ (.tail _ (.tail _ (.tail _ (.tail _ (.tail _ (.head _))))))), strip_mem (M := 384) (s := 2) hM hs⟩
    · exact ⟨_, (.tail _ (.tail _ (.tail _ (.tail _ (.tail _ (.head _)))))), strip_mem (M := 384) (s := 3) hM hs⟩
    · exact ⟨_, (.tail _ (.tail _ (.tail _ (.tail _ (.head _))))), strip_mem (M := 384) (s := 4) hM hs⟩
    · exact ⟨_, (.tail _ (.tail _ (.tail _ (.head _)))), strip_mem (M := 384) (s := 5) hM hs⟩
    · exact ⟨_, (.tail _ (.tail _ (.head _))), strip_mem (M := 384) (s := 6) hM hs⟩
    · exact ⟨_, (.tail _ (.head _)), strip_mem (M := 384) (s := 7) hM hs⟩

/-- The 256 rows of a block, put through an expert. -/
def rows256 (X : Vec F S4096x128 .f32) (g u d : Vec F S1024x1024 .bf16) (x6 x8 x10 : Vec F S1x1x1024 .f32) : FVec F S256x1024 .f32 :=
  k0_pay22 (k0_pay20 (strip 256 0 X) (strip 256 1 X) (strip 256 2 X) (strip 256 3 X) (strip 256 4 X) (strip 256 5 X) (strip 256 6 X) (strip 256 7 X) g x6) (k0_pay21 (strip 256 0 X) (strip 256 1 X) (strip 256 2 X) (strip 256 3 X) (strip 256 4 X) (strip 256 5 X) (strip 256 6 X) (strip 256 7 X) u x8) (Scalar.ofBits .f32 0x3FD9DB23#32) d x10

set_option maxHeartbeats 1000000 in
theorem point256_reads (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole) (h4 h5 h6 h7 h8)
    (x4 : Vec F S4096x128 .f32) (x6 x8 x10 : Vec F S1x1x1024 .f32) (f : arg11.view.ty.Contents (Elt F)) :
    arg11.view.read (Elt F) (arg11.view.writes (Elt F) f (point256 c W q B N E i arg4 harg4 arg6 harg6 arg8 harg8 arg10 harg10 arg11 harg11 h4 h5 h6 h7 h8 x4 x6 x8 x10).1)
      = packed (rows256 x4 (rounded W.g (exOf B (lastOf N (i 0).val))) (rounded W.u (exOf B (lastOf N (i 0).val))) (rounded W.d (exOf B (lastOf N (i 0).val))) x6 x8 x10) (Scalar.ofBits .f32 0x00000000#32 : F .f32) := by
  have hV : point256.sl.r_2 c W B N i arg4 harg4 arg6 harg6 arg8 harg8 arg10 harg10 x4 x6 x8 x10 = (rows256 x4 (rounded W.g (exOf B (lastOf N (i 0).val))) (rounded W.u (exOf B (lastOf N (i 0).val))) (rounded W.d (exOf B (lastOf N (i 0).val))) x6 x8 x10) := by
    unfold point256.sl.r_2 point256.sl.r point256.sl.r_1 point256.sl.cst_37 rows256
    rw [load_bias harg6 x6, load_bias harg8 x8, load_bias harg10 x10, load_g, load_u, load_d]
    rw [load_strip (M := 256) (s := 0) (by decide) (by decide) harg4 x4, load_strip (M := 256) (s := 1) (by decide) (by decide) harg4 x4, load_strip (M := 256) (s := 2) (by decide) (by decide) harg4 x4, load_strip (M := 256) (s := 3) (by decide) (by decide) harg4 x4, load_strip (M := 256) (s := 4) (by decide) (by decide) harg4 x4, load_strip (M := 256) (s := 5) (by decide) (by decide) harg4 x4, load_strip (M := 256) (s := 6) (by decide) (by decide) harg4 x4, load_strip (M := 256) (s := 7) (by decide) (by decide) harg4 x4]
  rw [← hV]
  funext y
  have hy : (y 0).val < 4096 := (y 0).isLt
  refine View.read_writes_apply_of_pieces _ _ _ _ ?_ _ ?_
  · unfold point256
    dsimp only
    simp only [List.forall_mem_cons]
    refine ⟨fun x => ?_, fun x => ?_, fun x => ?_, fun x => ?_, fun x => ?_, fun x => ?_, fun x => ?_, fun x => ?_, fun x => ?_, fun _ h => absurd h List.not_mem_nil⟩
    · exact (packed_rest (show 8 * 256 ≤ 2048 + 1 * (x 0).val from by omega)).symm
    · unfold k0_pay54; refine slice_piece (s := 7) (o := 896) x (by decide) (by decide) ?_ ?_ <;> rfl
    · unfold k0_pay53; refine slice_piece (s := 6) (o := 768) x (by decide) (by decide) ?_ ?_ <;> rfl
    · unfold k0_pay28; refine slice_piece (s := 5) (o := 640) x (by decide) (by decide) ?_ ?_ <;> rfl
    · unfold k0_pay27; refine slice_piece (s := 4) (o := 512) x (by decide) (by decide) ?_ ?_ <;> rfl
    · unfold k0_pay26; refine slice_piece (s := 3) (o := 384) x (by decide) (by decide) ?_ ?_ <;> rfl
    · unfold k0_pay25; refine slice_piece (s := 2) (o := 256) x (by decide) (by decide) ?_ ?_ <;> rfl
    · unfold k0_pay24; refine slice_piece (s := 1) (o := 128) x (by decide) (by decide) ?_ ?_ <;> rfl
    · unfold k0_pay23; refine slice_piece (s := 0) (o := 0) x (by decide) (by decide) ?_ ?_ <;> rfl
  · unfold point256
    dsimp only
    by_cases hM : (y 0).val < 8 * 256
    swap
    · exact ⟨_, (.head _), rest_mem (o := 2048) (n := 2048) (inb := inb_S4096x128_S2048x128_2048_0) (by omega) (by omega)⟩
    have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases h8 with hs | hs | hs | hs | hs | hs | hs | hs
    · exact ⟨_, (.tail _ (.tail _ (.tail _ (.tail _ (.tail _ (.tail _ (.tail _ (.tail _ (.head _))))))))), strip_mem (M := 256) (s := 0) hM hs⟩
    · exact ⟨_, (.tail _ (.tail _ (.tail _ (.tail _ (.tail _ (.tail _ (.tail _ (.head _)))))))), strip_mem (M := 256) (s := 1) hM hs⟩
    · exact ⟨_, (.tail _ (.tail _ (.tail _ (.tail _ (.tail _ (.tail _ (.head _))))))), strip_mem (M := 256) (s := 2) hM hs⟩
    · exact ⟨_, (.tail _ (.tail _ (.tail _ (.tail _ (.tail _ (.head _)))))), strip_mem (M := 256) (s := 3) hM hs⟩
    · exact ⟨_, (.tail _ (.tail _ (.tail _ (.tail _ (.head _))))), strip_mem (M := 256) (s := 4) hM hs⟩
    · exact ⟨_, (.tail _ (.tail _ (.tail _ (.head _)))), strip_mem (M := 256) (s := 5) hM hs⟩
    · exact ⟨_, (.tail _ (.tail _ (.head _))), strip_mem (M := 256) (s := 6) hM hs⟩
    · exact ⟨_, (.tail _ (.head _)), strip_mem (M := 256) (s := 7) hM hs⟩

/-- The 128 rows of a block, put through an expert. -/
def rows128 (X : Vec F S4096x128 .f32) (g u d : Vec F S1024x1024 .bf16) (x6 x8 x10 : Vec F S1x1x1024 .f32) : FVec F S128x1024 .f32 :=
  k0_pay12 (k0_pay10 (strip 128 0 X) (strip 128 1 X) (strip 128 2 X) (strip 128 3 X) (strip 128 4 X) (strip 128 5 X) (strip 128 6 X) (strip 128 7 X) g x6) (k0_pay11 (strip 128 0 X) (strip 128 1 X) (strip 128 2 X) (strip 128 3 X) (strip 128 4 X) (strip 128 5 X) (strip 128 6 X) (strip 128 7 X) u x8) (Scalar.ofBits .f32 0x3FD9DB23#32) d x10

set_option maxHeartbeats 1000000 in
theorem point128_reads (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole) (h4 h5 h6 h7 h8)
    (x4 : Vec F S4096x128 .f32) (x6 x8 x10 : Vec F S1x1x1024 .f32) (f : arg11.view.ty.Contents (Elt F)) :
    arg11.view.read (Elt F) (arg11.view.writes (Elt F) f (point128 c W q B N E i arg4 harg4 arg6 harg6 arg8 harg8 arg10 harg10 arg11 harg11 h4 h5 h6 h7 h8 x4 x6 x8 x10).1)
      = packed (rows128 x4 (rounded W.g (exOf B (lastOf N (i 0).val))) (rounded W.u (exOf B (lastOf N (i 0).val))) (rounded W.d (exOf B (lastOf N (i 0).val))) x6 x8 x10) (Scalar.ofBits .f32 0x00000000#32 : F .f32) := by
  have hV : point128.sl.r_2 c W B N i arg4 harg4 arg6 harg6 arg8 harg8 arg10 harg10 x4 x6 x8 x10 = (rows128 x4 (rounded W.g (exOf B (lastOf N (i 0).val))) (rounded W.u (exOf B (lastOf N (i 0).val))) (rounded W.d (exOf B (lastOf N (i 0).val))) x6 x8 x10) := by
    unfold point128.sl.r_2 point128.sl.r point128.sl.r_1 point128.sl.cst_37 rows128
    rw [load_bias harg6 x6, load_bias harg8 x8, load_bias harg10 x10, load_g, load_u, load_d]
    rw [load_strip (M := 128) (s := 0) (by decide) (by decide) harg4 x4, load_strip (M := 128) (s := 1) (by decide) (by decide) harg4 x4, load_strip (M := 128) (s := 2) (by decide) (by decide) harg4 x4, load_strip (M := 128) (s := 3) (by decide) (by decide) harg4 x4, load_strip (M := 128) (s := 4) (by decide) (by decide) harg4 x4, load_strip (M := 128) (s := 5) (by decide) (by decide) harg4 x4, load_strip (M := 128) (s := 6) (by decide) (by decide) harg4 x4, load_strip (M := 128) (s := 7) (by decide) (by decide) harg4 x4]
  rw [← hV]
  funext y
  have hy : (y 0).val < 4096 := (y 0).isLt
  refine View.read_writes_apply_of_pieces _ _ _ _ ?_ _ ?_
  · unfold point128
    dsimp only
    simp only [List.forall_mem_cons]
    refine ⟨fun x => ?_, fun x => ?_, fun x => ?_, fun x => ?_, fun x => ?_, fun x => ?_, fun x => ?_, fun x => ?_, fun x => ?_, fun _ h => absurd h List.not_mem_nil⟩
    · exact (packed_rest (show 8 * 128 ≤ 1024 + 1 * (x 0).val from by omega)).symm
    · unfold k0_pay51; refine slice_piece (s := 7) (o := 896) x (by decide) (by decide) ?_ ?_ <;> rfl
    · unfold k0_pay50; refine slice_piece (s := 6) (o := 768) x (by decide) (by decide) ?_ ?_ <;> rfl
    · unfold k0_pay18; refine slice_piece (s := 5) (o := 640) x (by decide) (by decide) ?_ ?_ <;> rfl
    · unfold k0_pay17; refine slice_piece (s := 4) (o := 512) x (by decide) (by decide) ?_ ?_ <;> rfl
    · unfold k0_pay16; refine slice_piece (s := 3) (o := 384) x (by decide) (by decide) ?_ ?_ <;> rfl
    · unfold k0_pay15; refine slice_piece (s := 2) (o := 256) x (by decide) (by decide) ?_ ?_ <;> rfl
    · unfold k0_pay14; refine slice_piece (s := 1) (o := 128) x (by decide) (by decide) ?_ ?_ <;> rfl
    · unfold k0_pay13; refine slice_piece (s := 0) (o := 0) x (by decide) (by decide) ?_ ?_ <;> rfl
  · unfold point128
    dsimp only
    by_cases hM : (y 0).val < 8 * 128
    swap
    · exact ⟨_, (.head _), rest_mem (o := 1024) (n := 3072) (inb := inb_S4096x128_S3072x128_1024_0) (by omega) (by omega)⟩
    have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases h8 with hs | hs | hs | hs | hs | hs | hs | hs
    · exact ⟨_, (.tail _ (.tail _ (.tail _ (.tail _ (.tail _ (.tail _ (.tail _ (.tail _ (.head _))))))))), strip_mem (M := 128) (s := 0) hM hs⟩
    · exact ⟨_, (.tail _ (.tail _ (.tail _ (.tail _ (.tail _ (.tail _ (.tail _ (.head _)))))))), strip_mem (M := 128) (s := 1) hM hs⟩
    · exact ⟨_, (.tail _ (.tail _ (.tail _ (.tail _ (.tail _ (.tail _ (.head _))))))), strip_mem (M := 128) (s := 2) hM hs⟩
    · exact ⟨_, (.tail _ (.tail _ (.tail _ (.tail _ (.tail _ (.head _)))))), strip_mem (M := 128) (s := 3) hM hs⟩
    · exact ⟨_, (.tail _ (.tail _ (.tail _ (.tail _ (.head _))))), strip_mem (M := 128) (s := 4) hM hs⟩
    · exact ⟨_, (.tail _ (.tail _ (.tail _ (.head _)))), strip_mem (M := 128) (s := 5) hM hs⟩
    · exact ⟨_, (.tail _ (.tail _ (.head _))), strip_mem (M := 128) (s := 6) hM hs⟩
    · exact ⟨_, (.tail _ (.head _)), strip_mem (M := 128) (s := 7) hM hs⟩

theorem pointNone_reads (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole) (h4 h5 h6 h7 h8)
    (x4 : Vec F S4096x128 .f32) (x6 x8 x10 : Vec F S1x1x1024 .f32) (f : arg11.view.ty.Contents (Elt F)) :
    arg11.view.read (Elt F) (arg11.view.writes (Elt F) f (pointNone c W q B N E i arg4 harg4 arg6 harg6 arg8 harg8 arg10 harg10 arg11 harg11 h4 h5 h6 h7 h8 x4 x6 x8 x10).1)
      = fun _ => (Scalar.ofBits .f32 0x00000000#32 : F .f32) := by
  funext y
  have hy : (y 0).val < 4096 := (y 0).isLt
  refine View.read_writes_apply_of_pieces (s := S4096x128) (e := .f32) (Val := Elt F) _ _ (fun _ => (Scalar.ofBits .f32 0x00000000#32 : F .f32)) _ ?_ _ ?_
  · unfold pointNone
    dsimp only
    simp only [List.forall_mem_cons]
    exact ⟨fun x => rfl, fun _ h => absurd h List.not_mem_nil⟩
  · unfold pointNone
    exact ⟨_, (.head _), rest_mem (o := 0) (n := 4096) (inb := inb_S4096x128_S4096x128_0_0) (by omega) (by omega)⟩

end Cert.Kernel3Ideal.Hand

end
-- ==== Proof.ExpPoint.lean ====
/-
  The experts' call: a whole point, whatever its number of rows.
-/
module

public import proofs.«01_k».proof.Proof.ExpOut

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## How many rows -/

/-- The rows from the block's first one to the expert's last, as the point's words have it. -/
def left (i : grid0.Coords) (v : BitVec 32) : ℤ := (Scalar.subi v (Scalar.muli (BitVec.ofNat 32 (i 0).val) 512#32)).toInt

theorem sle_words (v w : BitVec 32) : Scalar.cmpi .sle v w = 1#1 ↔ v.toInt ≤ w.toInt := by
  rw [← BitVec.sle_iff_toInt_le]; exact ofBool_one _
theorem sgt_words (v w : BitVec 32) : Scalar.cmpi .sgt v w = 1#1 ↔ w.toInt < v.toInt := by
  rw [← BitVec.slt_iff_toInt_lt]; exact ofBool_one _

theorem cond4_iff (i : grid0.Coords) (n v : BitVec 32) : k0_cond4 i n v = 1#1 ↔ Scalar.cmpi .slt (BitVec.ofNat 32 (i 0).val) n = 1#1 ∧ left i v ≤ 128 :=
  (widened _).trans ((and_one _ _).trans (and_congr Iff.rfl ((and_one _ _).trans ((and_iff_left rfl).trans (sle_words _ _)))))
theorem cond5_iff (i : grid0.Coords) (n v : BitVec 32) : k0_cond5 i n v = 1#1 ↔ Scalar.cmpi .slt (BitVec.ofNat 32 (i 0).val) n = 1#1 ∧ left i v ≤ 256 ∧ 128 < left i v :=
  (widened _).trans ((and_one _ _).trans (and_congr Iff.rfl ((and_one _ _).trans (and_congr (sle_words _ _) (sgt_words _ _)))))
theorem cond6_iff (i : grid0.Coords) (n v : BitVec 32) : k0_cond6 i n v = 1#1 ↔ Scalar.cmpi .slt (BitVec.ofNat 32 (i 0).val) n = 1#1 ∧ left i v ≤ 384 ∧ 256 < left i v :=
  (widened _).trans ((and_one _ _).trans (and_congr Iff.rfl ((and_one _ _).trans (and_congr (sle_words _ _) (sgt_words _ _)))))
theorem cond7_iff (i : grid0.Coords) (n v : BitVec 32) : k0_cond7 i n v = 1#1 ↔ Scalar.cmpi .slt (BitVec.ofNat 32 (i 0).val) n = 1#1 ∧ 384 < left i v :=
  (widened _).trans ((and_one _ _).trans (and_congr Iff.rfl ((and_one _ _).trans ((and_iff_right rfl).trans (sgt_words _ _)))))
theorem xor_one (b : BitVec 1) : IntOp.xori b 1#1 = 1#1 ↔ ¬ b = 1#1 := by revert b; decide
theorem cond8_iff (i : grid0.Coords) (n : BitVec 32) : k0_cond8 i n = 1#1 ↔ ¬ Scalar.cmpi .slt (BitVec.ofNat 32 (i 0).val) n = 1#1 :=
  (widened _).trans (xor_one _)

/-- What the body leaves of a block `X` at point `i`, the expert being `e`. -/
def outBlock (W : Mats F) (e : ℕ) (i : grid0.Coords) (n v : BitVec 32) (X : Vec F S4096x128 .f32) (x6 x8 x10 : Vec F S1x1x1024 .f32) : Vec F S4096x128 .f32 :=
  if k0_cond8 i n = 1#1 then fun _ => (Scalar.ofBits .f32 0x00000000#32 : F .f32)
  else if left i v ≤ 128 then packed (rows128 X (rounded W.g e) (rounded W.u e) (rounded W.d e) x6 x8 x10) (Scalar.ofBits .f32 0x00000000#32 : F .f32)
  else if left i v ≤ 256 then packed (rows256 X (rounded W.g e) (rounded W.u e) (rounded W.d e) x6 x8 x10) (Scalar.ofBits .f32 0x00000000#32 : F .f32)
  else if left i v ≤ 384 then packed (rows384 X (rounded W.g e) (rounded W.u e) (rounded W.d e) x6 x8 x10) (Scalar.ofBits .f32 0x00000000#32 : F .f32)
  else packed (rows512 X (rounded W.g e) (rounded W.u e) (rounded W.d e) x6 x8 x10) (Scalar.ofBits .f32 0x00000000#32 : F .f32)

theorem runs_mono {α : Type} {c : Dev nD} {X : sProp 𝕄} {p : Prg F α} {Q Q' : α → sProp 𝕄} (hQ : ∀ a, Q a ⊢ Q' a) (h : X ⊢ runs c p Q) : X ⊢ runs c p Q' :=
  h.trans (wp_mono _ _ _ hQ)

theorem close_point (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole)
    (x4 : Vec F S4096x128 .f32) (x6 x8 x10 : Vec F S1x1x1024 .f32) (L : List (View.Piece (Elt F) S4096x128 .f32)) (Y : Vec F S4096x128 .f32)
    (hY : ∀ f, arg11.view.read (Elt F) (arg11.view.writes (Elt F) f L) = Y) :
    iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ f, arg11.view.loc (c : Thread nD τ) ↦[arg11.view.set]{fullShare} arg11.view.writes (Elt F) f L))
      ⊢ (iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ owns (c : Thread nD τ) arg11 fullShare Y) : sProp 𝕄) := by
  iintro ⟨H1, H2, H3, H4, H5, H6, H7, ⟨%f, H8⟩⟩
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns
  iexists _
  isplitr; · ipureintro; exact hY f
  iexact H8

/-- The body runs at a point, and leaves `outBlock` of the point's block. -/
theorem point_runs (c : Dev nD) (W : Mats F) (q : PosShare TreeShare) (B : S160.Idx → BitVec 32) (N : S1.Idx → BitVec 32) (E : S64.Idx → BitVec 32) (i : grid0.Coords)
    (arg4 : Memref sig .tc .vmem S4096x128 .f32) (harg4 : arg4.IsWhole) (arg6 : Memref sig .tc .vmem S1x1x1024 .f32) (harg6 : arg6.IsWhole)
    (arg8 : Memref sig .tc .vmem S1x1x1024 .f32) (harg8 : arg8.IsWhole) (arg10 : Memref sig .tc .vmem S1x1x1024 .f32) (harg10 : arg10.IsWhole)
    (arg11 : Memref sig .tc .vmem S4096x128 .f32) (harg11 : arg11.IsWhole)
    (x4 : Vec F S4096x128 .f32) (x6 x8 x10 : Vec F S1x1x1024 .f32) (hT : Tables B N E) :
    iprop(Tabs c q B N E ∗ Before c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ (∃ d, owns (c : Thread nD τ) arg11 fullShare d))
      ⊢ runs c (cc0_experts i bBe (Memref.isWhole_whole _) bNu (Memref.isWhole_whole _) bEn (Memref.isWhole_whole _) arg4 harg4 bWg (Memref.isWhole_whole _) arg6 harg6 bWu (Memref.isWhole_whole _) arg8 harg8 bWd (Memref.isWhole_whole _) arg10 harg10 arg11 harg11 bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7)
        (fun _ => iprop(Tabs c q B N E ∗ After c W B N E (i 0).val ∗ Owed (F := F) c ∗ owns (c : Thread nD τ) arg4 fullShare x4 ∗ owns (c : Thread nD τ) arg6 fullShare x6
          ∗ owns (c : Thread nD τ) arg8 fullShare x8 ∗ owns (c : Thread nD τ) arg10 fullShare x10 ∗ owns (c : Thread nD τ) arg11 fullShare (outBlock W (exOf B (lastOf N (i 0).val)) i (wordAt N 0) (wordAt E (32 + exOf B (i 0).val)) x4 x6 x8 x10))) := by
  have k4 := cond4_iff i (wordAt N 0) (wordAt E (32 + exOf B (i 0).val))
  have k5 := cond5_iff i (wordAt N 0) (wordAt E (32 + exOf B (i 0).val))
  have k6 := cond6_iff i (wordAt N 0) (wordAt E (32 + exOf B (i 0).val))
  have k7 := cond7_iff i (wordAt N 0) (wordAt E (32 + exOf B (i 0).val))
  have k8 := cond8_iff i (wordAt N 0)
  by_cases hu : Scalar.cmpi .slt (BitVec.ofNat 32 (i 0).val) (wordAt N 0) = 1#1
  swap
  · have h4 := fun h => hu (k4.1 h).1
    have h5 := fun h => hu (k5.1 h).1
    have h6 := fun h => hu (k6.1 h).1
    have h7 := fun h => hu (k7.1 h).1
    have h8 := k8.2 hu
    refine runs_mono (fun _ => close_point c W q B N E i arg4 harg4 arg6 harg6 arg8 harg8 arg10 harg10 arg11 harg11 x4 x6 x8 x10 _ _ fun f => ?_) ((pointNone c W q B N E i arg4 harg4 arg6 harg6 arg8 harg8 arg10 harg10 arg11 harg11 h4 h5 h6 h7 h8 x4 x6 x8 x10).2 hT)
    refine (pointNone_reads c W q B N E i arg4 harg4 arg6 harg6 arg8 harg8 arg10 harg10 arg11 harg11 h4 h5 h6 h7 h8 x4 x6 x8 x10 f).trans ?_
    unfold outBlock; rw [if_pos h8]
  have h8 : ¬ k0_cond8 i (wordAt N 0) = 1#1 := fun h => k8.1 h hu
  by_cases hl : left i (wordAt E (32 + exOf B (i 0).val)) ≤ 128
  · have h4 : k0_cond4 i (wordAt N 0) (wordAt E (32 + exOf B (i 0).val)) = 1#1 := k4.2 ⟨hu, hl⟩
    have h5 : ¬ k0_cond5 i (wordAt N 0) (wordAt E (32 + exOf B (i 0).val)) = 1#1 := fun h => by have := k5.1 h; omega
    have h6 : ¬ k0_cond6 i (wordAt N 0) (wordAt E (32 + exOf B (i 0).val)) = 1#1 := fun h => by have := k6.1 h; omega
    have h7 : ¬ k0_cond7 i (wordAt N 0) (wordAt E (32 + exOf B (i 0).val)) = 1#1 := fun h => by have := k7.1 h; omega
    refine runs_mono (fun _ => close_point c W q B N E i arg4 harg4 arg6 harg6 arg8 harg8 arg10 harg10 arg11 harg11 x4 x6 x8 x10 _ _ fun f => ?_) ((point128 c W q B N E i arg4 harg4 arg6 harg6 arg8 harg8 arg10 harg10 arg11 harg11 h4 h5 h6 h7 h8 x4 x6 x8 x10).2 hT)
    refine (point128_reads c W q B N E i arg4 harg4 arg6 harg6 arg8 harg8 arg10 harg10 arg11 harg11 h4 h5 h6 h7 h8 x4 x6 x8 x10 f).trans ?_
    unfold outBlock; rw [if_neg h8, if_pos hl]
  by_cases hl2 : left i (wordAt E (32 + exOf B (i 0).val)) ≤ 256
  · have h4 : ¬ k0_cond4 i (wordAt N 0) (wordAt E (32 + exOf B (i 0).val)) = 1#1 := fun h => by have := k4.1 h; omega
    have h5 : k0_cond5 i (wordAt N 0) (wordAt E (32 + exOf B (i 0).val)) = 1#1 := k5.2 ⟨hu, hl2, not_le.1 hl⟩
    have h6 : ¬ k0_cond6 i (wordAt N 0) (wordAt E (32 + exOf B (i 0).val)) = 1#1 := fun h => by have := k6.1 h; omega
    have h7 : ¬ k0_cond7 i (wordAt N 0) (wordAt E (32 + exOf B (i 0).val)) = 1#1 := fun h => by have := k7.1 h; omega
    refine runs_mono (fun _ => close_point c W q B N E i arg4 harg4 arg6 harg6 arg8 harg8 arg10 harg10 arg11 harg11 x4 x6 x8 x10 _ _ fun f => ?_) ((point256 c W q B N E i arg4 harg4 arg6 harg6 arg8 harg8 arg10 harg10 arg11 harg11 h4 h5 h6 h7 h8 x4 x6 x8 x10).2 hT)
    refine (point256_reads c W q B N E i arg4 harg4 arg6 harg6 arg8 harg8 arg10 harg10 arg11 harg11 h4 h5 h6 h7 h8 x4 x6 x8 x10 f).trans ?_
    unfold outBlock; rw [if_neg h8, if_neg hl, if_pos hl2]
  by_cases hl3 : left i (wordAt E (32 + exOf B (i 0).val)) ≤ 384
  · have h4 : ¬ k0_cond4 i (wordAt N 0) (wordAt E (32 + exOf B (i 0).val)) = 1#1 := fun h => by have := k4.1 h; omega
    have h5 : ¬ k0_cond5 i (wordAt N 0) (wordAt E (32 + exOf B (i 0).val)) = 1#1 := fun h => by have := k5.1 h; omega
    have h6 : k0_cond6 i (wordAt N 0) (wordAt E (32 + exOf B (i 0).val)) = 1#1 := k6.2 ⟨hu, hl3, not_le.1 hl2⟩
    have h7 : ¬ k0_cond7 i (wordAt N 0) (wordAt E (32 + exOf B (i 0).val)) = 1#1 := fun h => by have := k7.1 h; omega
    refine runs_mono (fun _ => close_point c W q B N E i arg4 harg4 arg6 harg6 arg8 harg8 arg10 harg10 arg11 harg11 x4 x6 x8 x10 _ _ fun f => ?_) ((point384 c W q B N E i arg4 harg4 arg6 harg6 arg8 harg8 arg10 harg10 arg11 harg11 h4 h5 h6 h7 h8 x4 x6 x8 x10).2 hT)
    refine (point384_reads c W q B N E i arg4 harg4 arg6 harg6 arg8 harg8 arg10 harg10 arg11 harg11 h4 h5 h6 h7 h8 x4 x6 x8 x10 f).trans ?_
    unfold outBlock; rw [if_neg h8, if_neg hl, if_neg hl2, if_pos hl3]
  have h4 : ¬ k0_cond4 i (wordAt N 0) (wordAt E (32 + exOf B (i 0).val)) = 1#1 := fun h => by have := k4.1 h; omega
  have h5 : ¬ k0_cond5 i (wordAt N 0) (wordAt E (32 + exOf B (i 0).val)) = 1#1 := fun h => by have := k5.1 h; omega
  have h6 : ¬ k0_cond6 i (wordAt N 0) (wordAt E (32 + exOf B (i 0).val)) = 1#1 := fun h => by have := k6.1 h; omega
  have h7 : k0_cond7 i (wordAt N 0) (wordAt E (32 + exOf B (i 0).val)) = 1#1 := k7.2 ⟨hu, not_le.1 hl3⟩
  refine runs_mono (fun _ => close_point c W q B N E i arg4 harg4 arg6 harg6 arg8 harg8 arg10 harg10 arg11 harg11 x4 x6 x8 x10 _ _ fun f => ?_) ((pointAll c W q B N E i arg4 harg4 arg6 harg6 arg8 harg8 arg10 harg10 arg11 harg11 h4 h5 h6 h7 h8 x4 x6 x8 x10).2 hT)
  refine (pointAll_reads c W q B N E i arg4 harg4 arg6 harg6 arg8 harg8 arg10 harg10 arg11 harg11 h4 h5 h6 h7 h8 x4 x6 x8 x10 f).trans ?_
  unfold outBlock; rw [if_neg h8, if_neg hl, if_neg hl2, if_neg hl3]

end Cert.Kernel3Ideal.Hand

end
-- ==== Proof.ExpLaunch.lean ====
/-
  The experts' call: the launch around the grid points — what each buffer holds when the region starts, the tables' side
  condition, and the buffers the body copies by itself.
-/
module

public import proofs.«01_k».proof.Proof.ExpPoint
public import proofs.«01_k».proof.Proof.Gen.Kernel3Ideal.Launch

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a buffer holds when the region starts: after the host operations. -/
abbrev V (c : Dev nD) (b : Ref sig .tc) : Buf (Elt F) ((c : Thread nD τ).loc b) :=
  StableHlo.after hostOps0 (fun b => m (c, b)) b

theorem hostOps0_fresh : (hostOps0 (F := F)).Forall fun op => op.fresh = ∅ :=
  ⟨rfl, rfl, rfl, rfl, rfl, rfl, rfl, rfl, rfl, rfl, rfl, rfl, rfl, rfl, rfl, rfl, rfl, rfl, rfl, rfl, rfl⟩

theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The buffers the host operations write. -/
def hostW : List (Ref sig .tc) :=
  [main_v0, main_v1, main_c, main_v2, main_v3, main_v4, main_c_0, main_v5, main_v6, main_c_1, main_v7, main_v8, main_c_2, main_v9, main_v10, main_v11,
    main_v12, main_v13, main_v14, main_v15, main_v16]

theorem hostOps0_writes : (hostOps0 (F := F)).Forall fun op => op.writes ⊆ (hostW.map Proc.tc.devRef).toFinset := by
  have one : ∀ r ∈ hostW, ({Proc.tc.devRef r} : Finset (DevRef τ sig)) ⊆ (hostW.map Proc.tc.devRef).toFinset := by
    intro r hr x hx
    rw [Finset.mem_singleton] at hx
    subst hx
    exact List.mem_toFinset.2 (List.mem_map_of_mem hr)
  exact ⟨one main_v0 (by decide), one main_v1 (by decide), one main_c (by decide), one main_v2 (by decide), one main_v3 (by decide), one main_v4 (by decide),
    one main_c_0 (by decide), one main_v5 (by decide), one main_v6 (by decide), one main_c_1 (by decide), one main_v7 (by decide), one main_v8 (by decide),
    one main_c_2 (by decide), one main_v9 (by decide), one main_v10 (by decide), one main_v11 (by decide), one main_v12 (by decide), one main_v13 (by decide),
    one main_v14 (by decide), one main_v15 (by decide), one main_v16 (by decide)⟩

/-- A buffer they do not write is as before. -/
theorem V_same (c : Dev nD) (b : Ref sig .tc) (hb : b ∉ hostW) : V m c b = m ((c : Thread nD τ).loc b) :=
  StableHlo.after_of_writes_sub (W := hostW) hostOps0 _ hostOps0_writes hb

/-- The three tables and the matrices. -/
abbrev tB (c : Dev nD) : S160.Idx → BitVec 32 := V m c main_v13
abbrev tN (c : Dev nD) : S1.Idx → BitVec 32 := V m c main_arg1
abbrev tE (c : Dev nD) : S64.Idx → BitVec 32 := V m c main_arg2
def mats (c : Dev nD) : Mats F := ⟨V m c main_arg4, V m c main_arg6, V m c main_arg8⟩

/-- The row the tokens' window asks for. -/
theorem row_word {n v : BitVec 32} (hp : 1 ≤ n.toNat) (hn : n.toNat ≤ 160) (hv : v.toNat < 160) :
    (Scalar.maxsi (Scalar.minsi v (Scalar.subi n 1#32)) 0#32).toNat = min v.toNat (n.toNat - 1) := by
  have hs : (Scalar.subi n 1#32 : BitVec 32).toNat = n.toNat - 1 := by
    show (n - 1#32).toNat = _
    rw [BitVec.toNat_sub]
    show (2 ^ 32 - 1 + n.toNat) % 2 ^ 32 = _
    omega
  generalize hw : (Scalar.subi n 1#32 : BitVec 32) = w at hs
  have hmin : (Scalar.minsi v w).toNat = min v.toNat w.toNat := by
    show (if v.slt w then v else w).toNat = _
    rw [show (v.slt w) = decide (v.toNat < w.toNat) by
      rw [Bool.eq_iff_iff, BitVec.slt_iff_toInt_lt, decide_eq_true_iff, BitVec.toInt_eq_toNat_of_lt (by omega), BitVec.toInt_eq_toNat_of_lt (by omega)]; omega]
    by_cases h : v.toNat < w.toNat
    · rw [decide_eq_true h, if_pos rfl]; omega
    · rw [decide_eq_false h, if_neg (by decide)]; omega
  generalize hx : Scalar.minsi v w = x at hmin
  have hmax : (Scalar.maxsi x 0#32).toNat = x.toNat := by
    show (if (0#32).slt x then x else 0#32).toNat = _
    by_cases h : x.toNat = 0
    · rw [BitVec.eq_of_toNat_eq (y := 0#32) h]; rfl
    · rw [show ((0#32).slt x) = true by
        rw [BitVec.slt_iff_toInt_lt, BitVec.toInt_eq_toNat_of_lt (x := x) (by omega)]; simp; omega]
      rfl
  rw [hmax, hmin, hs]

theorem at_be (f : S160.Idx → BitVec 32) (i : grid0.Coords) (h1) :
    f ((Rect.unit (s := S160) (k0_off1 i) S1.size (k0_off1_inb i)).emb (Shape.Idx.first h1)) = wordAt f (i 0).val :=
  (read_be (F := Ideal) (i 0).isLt (inb := k0_off1_inb i) (h1 := h1) (show k0_off1 i 0 = (i 0).val from point_nat i))
theorem at_nu (f : S1.Idx → BitVec 32) (h1) :
    f ((Rect.unit (s := S1) ![0] S1.size inb_S1_S1_0).emb (Shape.Idx.first h1)) = wordAt f 0 :=
  read_nu (F := Ideal) (f := f) (inb := inb_S1_S1_0) (h1 := h1)

theorem bias_block (n : ℕ) (h : n < 32) (a : Fin 3) : ((![n, 0, 0] : Fin 3 → ℕ) a + 1) * S1x1x1024.size a ≤ S32x1x1024.size a := by
  match a with
  | ⟨0, _⟩ => show (n + 1) * 1 ≤ 32; omega
  | ⟨1, _⟩ => exact Nat.le_refl 1
  | ⟨2, _⟩ => exact Nat.le_refl 1024

/-- The index maps of the tokens and of the biases, read off the tables. -/
theorem map_x {pf : pre0.Contents (Elt F)} (hT : Tables (pf 0) (pf 1) (pf 2)) (i : grid0.Coords) :
    cc0_transform_0 inb_S1_S1_0 numel1_S1 pf i = ![lastOf (pf 1) (i 0).val, 0] := by
  unfold cc0_transform_0
  have e : (pf.at 1 (Rect.unit (s := S1) ![0] S1.size inb_S1_S1_0) numel1_S1 : BitVec 32) = wordAt (pf 1) 0 := at_nu (pf 1) _
  refine congrArg (fun n : ℕ => ![n, 0]) ?_
  refine (congrArg (fun w : BitVec 32 => (Scalar.maxsi (Scalar.minsi (BitVec.ofNat 32 (i 0).val) (Scalar.subi w 1#32)) 0#32).toNat) e).trans ?_
  refine (row_word hT.pos hT.le ?_).trans ?_
  · rw [point_nat]; exact (i 0).isLt
  · rw [point_nat]; rfl
theorem map_g {pf : pre0.Contents (Elt F)} (i : grid0.Coords) : cc0_transform_2 k0_off1_inb numel1_S1 pf i = ![exOf (pf 0) (i 0).val, 0, 0] := by
  unfold cc0_transform_2
  exact congrArg (fun w : BitVec 32 => ![w.toNat, 0, 0]) (at_be (pf 0) i _)
theorem map_u {pf : pre0.Contents (Elt F)} (i : grid0.Coords) : cc0_transform_4 k0_off1_inb numel1_S1 pf i = ![exOf (pf 0) (i 0).val, 0, 0] := by
  unfold cc0_transform_4
  exact congrArg (fun w : BitVec 32 => ![w.toNat, 0, 0]) (at_be (pf 0) i _)
theorem map_d {pf : pre0.Contents (Elt F)} (i : grid0.Coords) : cc0_transform_6 k0_off1_inb numel1_S1 pf i = ![exOf (pf 0) (i 0).val, 0, 0] := by
  unfold cc0_transform_6
  exact congrArg (fun w : BitVec 32 => ![w.toNat, 0, 0]) (at_be (pf 0) i _)

/-- The tables' side condition. -/
theorem tables_ok {pf : pre0.Contents (Elt F)} (hT : Tables (pf 0) (pf 1) (pf 2)) : ok0 pf := by
  have hl : ∀ i : grid0.Coords, lastOf (pf 1) (i 0).val < 160 := fun i => by
    have : (i 0).val < 160 := (i 0).isLt
    unfold lastOf; omega
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [map_x hT i]
    have := hl i
    match a with
    | ⟨0, _⟩ => show (lastOf (pf 1) (i 0).val + 1) * 4096 ≤ 655360; omega
    | ⟨1, _⟩ => exact Nat.le_refl 128
  · rw [map_g i]; exact bias_block _ (hT.lt _ (i 0).isLt) a
  · rw [map_u i]; exact bias_block _ (hT.lt _ (i 0).isLt) a
  · rw [map_d i]; exact bias_block _ (hT.lt _ (i 0).isLt) a

/-- The tables as the region reads them. -/
abbrev adm (hT : Tables (tB m 0) (tN m 0) (tE m 0)) : (p : Fin 1) → (pcfgs (F := F) p).Adm := fun _ => ⟨fun k => V m 0 (pre0.ref k), tables_ok hT⟩

/-! ## Buffers and semaphores of the body's own copies -/

abbrev osem0 : Fin 2 → SemLoc sig := fun j => (![SemLoc.dma 10, SemLoc.dma 11] : Fin 2 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semOf 0)) 0 ∗ semVal ((c : Thread nD τ), SemLoc.dma (semOf 1)) 0) := by
  rw [Pipeline.ownSems0_eq_of_list c osem0 [0, 1] (by decide) (by decide)]; rfl

/-- The copies read the matrices. -/
def H0 : Finset (Ref sig .tc) := {main_arg4, main_arg6, main_arg8}
def R0 : Finset (Ref sig .tc) := ∅
theorem H0_sub : H0 ⊆ Pipeline.restRefsP sig pre0 spec0 := by decide
theorem R0_sub : R0 ⊆ Pipeline.restRefsP sig pre0 spec0 \ H0 := by decide

theorem held_eq (c : Dev nD) :
    (bigSep H0 fun b => ((c : Thread nD τ).loc b ↦{fullShare} V m c b : sProp 𝕄)) = Whole c (mats m c) := by
  unfold H0
  rw [Idealize.SL.BI.bigSep_eq_bigSepL_of_eq [main_arg4, main_arg6, main_arg8] (by decide) (by decide)]
  rfl
theorem tables_eq (c : Dev nD) (hT : Tables (tB m 0) (tN m 0) (tE m 0)) :
    (Pipeline.ΦT pre0 (adm m hT 0).1 c : sProp 𝕄) = Tabs c fullShare.right (tB m 0) (tN m 0) (tE m 0) := by
  unfold Pipeline.ΦT Pipeline.prefHeld Tabs
  exact bigSep_univ_eq_bigSepL [(0 : Fin 3), 1, 2] (by decide) (by decide) _

end Cert.Kernel3Ideal.Hand
end
-- ==== Proof.ExpRun.lean ====
/-
  The experts' call: the run of the whole call — the proof data of its one pipeline, the body at every grid point, the
  region's entry and exit.
-/
module

public import proofs.«01_k».proof.Proof.ExpLaunch
public import Idealize.ShloMosaic.Lib.Pipeline.FrameBody
public import Idealize.ShloMosaic.Lib.Pipeline.FrameValue

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat)

variable (m : (ℓ : Loc nD τ sig) → Buf (Elt F) ℓ) (ρ : Dev nD → PrngReg) (hT : Tables (tB m 0) (tN m 0) (tE m 0))

/-- The call's pipeline at the tables the region reads. -/
abbrev cfgA : Pipeline.Cfg sig Λ₀ := Pipeline.pin pcfgs (adm m hT) 0

/-- The one grid coordinate is the point's number. -/
theorem coords_val : ∀ t : Fin grid0.N, (grid0.coords t 0).val = t.val := by decide +kernel

/-- What the core holds before point `t`. -/
def Between (c : Dev nD) (t : ℕ) : sProp 𝕄 :=
  iprop(Tabs c fullShare.right (tB m 0) (tN m 0) (tE m 0) ∗ Before c (mats m c) (tB m 0) (tN m 0) (tE m 0) t ∗ (∃ r, prngReg c r))

/-- The block of a window staged at point `t`. -/
def stagedIn (c : Dev nD) (w : Fin (cfgA m hT).W) (t : Fin (cfgA m hT).N) : ((cfgA m hT).win w).block.Idx → Elt F ((cfgA m hT).win w).elt :=
  (((cfgA m hT).win w).blk t).view.read (Elt F) (V m c (Pipeline.arrRef spec0 w))

/-- What the body leaves in the result's block at point `t`. -/
def stagedOut (c : Dev nD) (t : Fin (cfgA m hT).N) : Vec F S4096x128 .f32 :=
  outBlock (mats m c) (exOf (tB m 0) (lastOf (tN m 0) (grid0.coords t 0).val)) (grid0.coords t) (wordAt (tN m 0) 0)
    (wordAt (tE m 0) (32 + exOf (tB m 0) (grid0.coords t 0).val)) (stagedIn m hT c 0 t) (stagedIn m hT c 1 t) (stagedIn m hT c 2 t) (stagedIn m hT c 3 t)

/-- The proof data of the one pipeline. -/
def dats (_ : Fin 1) (c : Dev nD) : Dat τ (Elt F) Unit ℕ (Pipeline.UD sig nD τ) ℕ (cfgA m hT) c where
  A w := V m c (Pipeline.arrRef spec0 w)
  after := fun
    | 0 => fun t => stagedIn m hT c 0 t
    | 1 => fun t => stagedIn m hT c 1 t
    | 2 => fun t => stagedIn m hT c 2 t
    | 3 => fun t => stagedIn m hT c 3 t
    | 4 => fun t => stagedOut m hT c t
    | ⟨_ + 5, h⟩ => absurd h (Nat.not_lt.2 (Nat.le_add_left _ _))
  Φ t := Between m c t.val
  q _ := fullShare
  owed _ := 0

theorem A_eq (c : Dev nD) (w : Fin (cfgA m hT).W) : (dats m hT 0 c).A w = V m c (Pipeline.arrRef spec0 w) := by
  dsimp only [dats]
theorem after_eq0 (c : Dev nD) (t : Fin (cfgA m hT).N) : (dats m hT 0 c).after 0 t = stagedIn m hT c 0 t := by dsimp only [dats]; rfl
theorem before_eq0 (c : Dev nD) (t : Fin (cfgA m hT).N) (d) : (dats m hT 0 c).before 0 t d = stagedIn m hT c 0 t :=
  ((dats m hT 0 c).before_in_eq_fetched 0 rfl (fun _ => rfl) (fun _ _ _ => rfl) (fun _ => rfl) t d).trans rfl
theorem after_eq1 (c : Dev nD) (t : Fin (cfgA m hT).N) : (dats m hT 0 c).after 1 t = stagedIn m hT c 1 t := by dsimp only [dats]; rfl
theorem before_eq1 (c : Dev nD) (t : Fin (cfgA m hT).N) (d) : (dats m hT 0 c).before 1 t d = stagedIn m hT c 1 t :=
  ((dats m hT 0 c).before_in_eq_fetched 1 rfl (fun _ => rfl) (fun _ _ _ => rfl) (fun _ => rfl) t d).trans rfl
theorem after_eq2 (c : Dev nD) (t : Fin (cfgA m hT).N) : (dats m hT 0 c).after 2 t = stagedIn m hT c 2 t := by dsimp only [dats]; rfl
theorem before_eq2 (c : Dev nD) (t : Fin (cfgA m hT).N) (d) : (dats m hT 0 c).before 2 t d = stagedIn m hT c 2 t :=
  ((dats m hT 0 c).before_in_eq_fetched 2 rfl (fun _ => rfl) (fun _ _ _ => rfl) (fun _ => rfl) t d).trans rfl
theorem after_eq3 (c : Dev nD) (t : Fin (cfgA m hT).N) : (dats m hT 0 c).after 3 t = stagedIn m hT c 3 t := by dsimp only [dats]; rfl
theorem before_eq3 (c : Dev nD) (t : Fin (cfgA m hT).N) (d) : (dats m hT 0 c).before 3 t d = stagedIn m hT c 3 t :=
  ((dats m hT 0 c).before_in_eq_fetched 3 rfl (fun _ => rfl) (fun _ _ _ => rfl) (fun _ => rfl) t d).trans rfl
theorem after_eq4 (c : Dev nD) (t : Fin (cfgA m hT).N) : (dats m hT 0 c).after 4 t = stagedOut m hT c t := by dsimp only [dats]; rfl

theorem out_index (t : Fin grid0.N) : ((cfgA m hT).win 4).index t = ![t.val, 0] := by
  show cc0_transform_7 (grid0.coords t) = _
  unfold cc0_transform_7
  have h := point_nat (grid0.coords t)
  rw [coords_val] at h
  exact congrArg (fun n : ℕ => ![n, 0]) ((congrArg (fun n => (BitVec.ofNat 32 n).toNat) (coords_val t)).trans h)

/-- Every point writes its block of the result back. -/
theorem out_flush (t : Fin grid0.N) : ((cfgA m hT).win 4).flush t = true := by
  refine (((cfgA m hT).win 4).flush_out rfl t).2 ?_
  by_cases h : t.val + 1 = grid0.N
  · exact Or.inl h
  · refine Or.inr ⟨lt_of_le_of_ne t.isLt h, fun e => ?_⟩
    rw [out_index, out_index] at e
    have := congrFun e 0
    have : t.val + 1 = t.val := this
    omega

abbrev stage0At (t : Fin (cfgA m hT).N) : Memref sig .tc .vmem S4096x128 .f32 := spec0_0.stage ((cfgA m hT).slots t 0)
abbrev stage1At (t : Fin (cfgA m hT).N) : Memref sig .tc .vmem S1x1x1024 .f32 := spec0_1.stage ((cfgA m hT).slots t 1)
abbrev stage2At (t : Fin (cfgA m hT).N) : Memref sig .tc .vmem S1x1x1024 .f32 := spec0_2.stage ((cfgA m hT).slots t 2)
abbrev stage3At (t : Fin (cfgA m hT).N) : Memref sig .tc .vmem S1x1x1024 .f32 := spec0_3.stage ((cfgA m hT).slots t 3)
abbrev stage4At (t : Fin (cfgA m hT).N) : Memref sig .tc .vmem S4096x128 .f32 := spec0_4.stage ((cfgA m hT).slots t 4)
/-- The body at point `t`, on the buffers the pipeline calls it with. -/
abbrev bodyAt (t : Fin (cfgA m hT).N) : Prog (TpuEff nD τ sig (Elt F) Λ₀ .tc) PUnit :=
  cc0_experts (grid0.coords t) bBe (Memref.isWhole_whole _) bNu (Memref.isWhole_whole _) bEn (Memref.isWhole_whole _) (stage0At m hT t) (hstage0_0 (((cfgA m hT).slots t 0).cast nbuf0_0)) bWg (Memref.isWhole_whole _) (stage1At m hT t) (hstage0_1 (((cfgA m hT).slots t 1).cast nbuf0_1)) bWu (Memref.isWhole_whole _) (stage2At m hT t) (hstage0_2 (((cfgA m hT).slots t 2).cast nbuf0_2)) bWd (Memref.isWhole_whole _) (stage3At m hT t) (hstage0_3 (((cfgA m hT).slots t 3).cast nbuf0_3)) (stage4At m hT t) (hstage0_4 (((cfgA m hT).slots t 4).cast nbuf0_4))
    bFg (Memref.isWhole_whole _) bFu (Memref.isWhole_whole _) bFd (Memref.isWhole_whole _) bBg (Memref.isWhole_whole _) bBu (Memref.isWhole_whole _) bBd (Memref.isWhole_whole _) bSlot (Memref.isWhole_whole _) cc0_scratch7

def bodyPre (c : Dev nD) (t : Fin (cfgA m hT).N) : sProp 𝕄 :=
  iprop((dats m hT 0 c).Φ t.castSucc ∗ (dats m hT 0 c).owesAt () t.castSucc
    ∗ (∃ d, owns (c : Thread nD τ) (stage0At m hT t) fullShare ((dats m hT 0 c).before 0 t d)) ∗ (∃ d, owns (c : Thread nD τ) (stage1At m hT t) fullShare ((dats m hT 0 c).before 1 t d)) ∗ (∃ d, owns (c : Thread nD τ) (stage2At m hT t) fullShare ((dats m hT 0 c).before 2 t d)) ∗ (∃ d, owns (c : Thread nD τ) (stage3At m hT t) fullShare ((dats m hT 0 c).before 3 t d)) ∗ (∃ d, owns (c : Thread nD τ) (stage4At m hT t) fullShare ((dats m hT 0 c).before 4 t d)))
def bodyPost (c : Dev nD) (t : Fin (cfgA m hT).N) : sProp 𝕄 :=
  iprop((dats m hT 0 c).Φ t.succ ∗ (dats m hT 0 c).owesAt () t.succ
    ∗ owns (c : Thread nD τ) (stage0At m hT t) fullShare ((dats m hT 0 c).after 0 t) ∗ owns (c : Thread nD τ) (stage1At m hT t) fullShare ((dats m hT 0 c).after 1 t) ∗ owns (c : Thread nD τ) (stage2At m hT t) fullShare ((dats m hT 0 c).after 2 t) ∗ owns (c : Thread nD τ) (stage3At m hT t) fullShare ((dats m hT 0 c).after 3 t) ∗ owns (c : Thread nD τ) (stage4At m hT t) fullShare ((dats m hT 0 c).after 4 t))

/-- The body runs at every point. -/
theorem sound_body (c : Dev nD) (t : Fin (cfgA m hT).N) :
    bodyPre m hT c t ⊢ wp frame (wpE (defs₀ (F := F)) Variants.none c none) Set.univ (bodyAt m hT t) (fun _ => bodyPost m hT c t) := by
  unfold bodyPre bodyPost bodyAt
  rw [show (dats m hT 0 c).Φ t.castSucc = Between m c t.val from rfl, show (dats m hT 0 c).Φ t.succ = Between m c (t.val + 1) from rfl,
    after_eq0, after_eq1, after_eq2, after_eq3, after_eq4]
  unfold Dat.owesAt Pipeline.owesWithin Between
  rw [show (dats m hT 0 c).owed t.castSucc = 0 from rfl, show (dats m hT 0 c).owed t.succ = 0 from rfl]
  simp only [before_eq0, before_eq1, before_eq2, before_eq3]
  iintro ⟨⟨HT, HB, Hg⟩, ⟨%W, -, HW⟩, ⟨%d0, H0⟩, ⟨%d1, H1⟩, ⟨%d2, H2⟩, ⟨%d3, H3⟩, ⟨%d4, H4⟩⟩
  have run := point_runs c (mats m c) fullShare.right (tB m 0) (tN m 0) (tE m 0) (grid0.coords t)
    (stage0At m hT t) (hstage0_0 (((cfgA m hT).slots t 0).cast nbuf0_0)) (stage1At m hT t) (hstage0_1 (((cfgA m hT).slots t 1).cast nbuf0_1)) (stage2At m hT t) (hstage0_2 (((cfgA m hT).slots t 2).cast nbuf0_2)) (stage3At m hT t) (hstage0_3 (((cfgA m hT).slots t 3).cast nbuf0_3)) (stage4At m hT t) (hstage0_4 (((cfgA m hT).slots t 4).cast nbuf0_4))
    (stagedIn m hT c 0 t) (stagedIn m hT c 1 t) (stagedIn m hT c 2 t) (stagedIn m hT c 3 t) hT
  rw [show Before c (mats m c) (tB m 0) (tN m 0) (tE m 0) (grid0.coords t 0).val = Before c (mats m c) (tB m 0) (tN m 0) (tE m 0) t.val from congrArg _ (coords_val t)] at run
  iapply (wp_wand_r frame (wpE (defs₀ (F := F)) Variants.none c none) Set.univ)
  isplitr [Hg]
  · iapply run
    isplitl [HT]; · iexact HT
    isplitl [HB]; · iexact HB
    isplitl [HW]; · iexists W; iexact HW
    isplitl [H0]; · iexact H0
    isplitl [H1]; · iexact H1
    isplitl [H2]; · iexact H2
    isplitl [H3]; · iexact H3
    iexists _; iexact H4
  rw [show After c (mats m c) (tB m 0) (tN m 0) (tE m 0) (grid0.coords t 0).val = Before c (mats m c) (tB m 0) (tN m 0) (tE m 0) (t.val + 1) from congrArg _ (coords_val t)]
  iintro %a ⟨HT, HB, ⟨%W', HW⟩, H0, H1, H2, H3, H4⟩
  isplitl [HT HB Hg]
  · isplitl [HT]; · iexact HT
    isplitl [HB]; · iexact HB
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin (cfgA m hT).N) :
    defs₀ (F := F) .tc (cfgA m hT).body ((cfgA m hT).bodyArgs t ((cfgA m hT).slots t)) = bodyAt m hT t := by
  unfold defs₀; rw [Defs.onTc_tc]

theorem leaves_out (c : Dev nD) (t : Fin (cfgA m hT).N) (Y : sProp 𝕄) :
    Y ⊢ (match (cfgA m hT).idle 4 ((cfgA m hT).grid.coords t) with
      | true => match ((cfgA m hT).win 4).flush t with
        | false => iprop(∃ d, owns (c : Thread nD τ) (((cfgA m hT).win 4).stage ((cfgA m hT).slots t 4)) fullShare ((dats m hT 0 c).before 4 t d))
        | true => Y
      | false => Y : sProp 𝕄) := by
  rw [out_flush m hT t]
  cases (cfgA m hT).idle 4 ((cfgA m hT).grid.coords t) <;> exact .rfl

theorem body_obligation (c : Dev nD) :
    Pipeline.BodyObligation (dats m hT 0 c) (defs₀ (F := F)) Variants.none () Set.univ := fun t => by
  rw [bigSep_W0, bigSep_W0, defs₀_row]
  refine triple_restated (sound_body m hT c t) rfl .rfl fun _ => ?_
  unfold bodyPost
  exact sep_mono .rfl (sep_mono .rfl (sep_mono .rfl (sep_mono .rfl (sep_mono .rfl (sep_mono .rfl (leaves_out m hT c t _))))))

/-! ## Entry and exit of the region -/

theorem places_compl : place 1 = Finset.univ \ place 0 := by
  ext x
  have hx : (x 0).val < 2 := (x 0).isLt
  simp only [place, Finset.mem_filter, Finset.mem_univ, true_and, Finset.mem_sdiff]
  omega

theorem split_g (c : Dev nD) (g : Buf (Elt F) (bFg.view.loc (c : Thread nD τ))) :
    (bFg.view.loc (c : Thread nD τ) ↦{fullShare} g : sProp 𝕄)
      ⊢ iprop((bFg.view.loc (c : Thread nD τ) ↦[place 0]{fullShare} g) ∗ (bFg.view.loc (c : Thread nD τ) ↦[place 1]{fullShare} g)) := by
  rw [places_compl]
  exact (pointsTo_split_subset (Finset.subset_univ _)).1
theorem join_g (c : Dev nD) (g h : Buf (Elt F) (bFg.view.loc (c : Thread nD τ))) :
    iprop((bFg.view.loc (c : Thread nD τ) ↦[place 0]{fullShare} g) ∗ (bFg.view.loc (c : Thread nD τ) ↦[place 1]{fullShare} h))
      ⊢ (iprop(∃ k, bFg.view.loc (c : Thread nD τ) ↦{fullShare} k) : sProp 𝕄) := by
  rw [places_compl]
  exact (pointsTo_join_subset (Finset.subset_univ _)).trans (exists_intro _)
theorem split_u (c : Dev nD) (g : Buf (Elt F) (bFu.view.loc (c : Thread nD τ))) :
    (bFu.view.loc (c : Thread nD τ) ↦{fullShare} g : sProp 𝕄)
      ⊢ iprop((bFu.view.loc (c : Thread nD τ) ↦[place 0]{fullShare} g) ∗ (bFu.view.loc (c : Thread nD τ) ↦[place 1]{fullShare} g)) := by
  rw [places_compl]
  exact (pointsTo_split_subset (Finset.subset_univ _)).1
theorem join_u (c : Dev nD) (g h : Buf (Elt F) (bFu.view.loc (c : Thread nD τ))) :
    iprop((bFu.view.loc (c : Thread nD τ) ↦[place 0]{fullShare} g) ∗ (bFu.view.loc (c : Thread nD τ) ↦[place 1]{fullShare} h))
      ⊢ (iprop(∃ k, bFu.view.loc (c : Thread nD τ) ↦{fullShare} k) : sProp 𝕄) := by
  rw [places_compl]
  exact (pointsTo_join_subset (Finset.subset_univ _)).trans (exists_intro _)
theorem split_d (c : Dev nD) (g : Buf (Elt F) (bFd.view.loc (c : Thread nD τ))) :
    (bFd.view.loc (c : Thread nD τ) ↦{fullShare} g : sProp 𝕄)
      ⊢ iprop((bFd.view.loc (c : Thread nD τ) ↦[place 0]{fullShare} g) ∗ (bFd.view.loc (c : Thread nD τ) ↦[place 1]{fullShare} g)) := by
  rw [places_compl]
  exact (pointsTo_split_subset (Finset.subset_univ _)).1
theorem join_d (c : Dev nD) (g h : Buf (Elt F) (bFd.view.loc (c : Thread nD τ))) :
    iprop((bFd.view.loc (c : Thread nD τ) ↦[place 0]{fullShare} g) ∗ (bFd.view.loc (c : Thread nD τ) ↦[place 1]{fullShare} h))
      ⊢ (iprop(∃ k, bFd.view.loc (c : Thread nD τ) ↦{fullShare} k) : sProp 𝕄) := by
  rw [places_compl]
  exact (pointsTo_join_subset (Finset.subset_univ _)).trans (exists_intro _)

theorem routed_eq (c : Dev nD) (X : (b : Ref sig .tc) → Buf (Elt F) ((c : Thread nD τ).loc b)) :
    (Pipeline.routed R0 c X : sProp 𝕄) = iprop(emp) := by
  unfold Pipeline.routed R0; rfl

theorem entry_ok (c : Dev nD) :
    iprop(Pipeline.ΦDRG osem0 spec0 H0 R0 (V m) (V m) c ∗ Pipeline.ΦT pre0 (adm m hT 0).1 c) ⊢ (dats m hT 0 c).Φ 0 := by
  rw [show (dats m hT 0 c).Φ 0 = Between m c 0 from rfl, Pipeline.ΦDRG_eq, scopedRest0_eq, ownSems0_eq, held_eq, routed_eq, tables_eq]
  unfold Between
  rw [show Before c (mats m c) (tB m 0) (tN m 0) (tE m 0) 0 = First c (mats m c) from rfl]
  unfold First Quiet Place Loose
  iintro ⟨⟨⟨⟨%g0, G0⟩, ⟨%g1, G1⟩, ⟨%g2, G2⟩, ⟨%g3, G3⟩, ⟨%g4, G4⟩, ⟨%g5, G5⟩, ⟨%g6, G6⟩⟩, Hg, ⟨S0, S1⟩, HW, -⟩, HT⟩
  icases (split_g c g0) $$ G0 with ⟨A0, A1⟩
  icases (split_u c g1) $$ G1 with ⟨B0, B1⟩
  icases (split_d c g2) $$ G2 with ⟨C0, C1⟩
  isplitl [HT]; · iexact HT
  isplitr [Hg]
  swap; · iexact Hg
  isplitl [G6]; · iexists g6; iexact G6
  isplitl [G3 G4 G5]
  · isplitl [G3]; · iexists g3; iexact G3
    isplitl [G4]; · iexists g4; iexact G4
    iexists g5; iexact G5
  isplitl [HW]; · iexact HW
  isplitl [A0 B0 C0 S0]
  · isplitr [S0]
    · isplitl [A0]; · iexists g0; iexact A0
      isplitl [B0]; · iexists g1; iexact B0
      iexists g2; iexact C0
    iexact S0
  isplitr [S1]
  · isplitl [A1]; · iexists g0; iexact A1
    isplitl [B1]; · iexists g1; iexact B1
    iexists g2; iexact C1
  iexact S1

/-- After the last point nothing is under way. -/
theorem flight_last (hU : Tables (tB m 0) (tN m 0) (tE m 0)) (c : Dev nD) (s : ℕ) (hs : s < 2) :
    Flight c (mats m c) (tB m 0) (tN m 0) s (nextOf (tB m 0) (tN m 0) (tE m 0) 159) ⊢ (iprop(Whole c (mats m c) ∗ Quiet (F := F) c 0 ∗ Quiet (F := F) c 1) : sProp 𝕄) := by
  have hp := hU.pos
  have hl := hU.le
  have hf := hU.fits (lastOf (tN m 0) 159) (by unfold lastOf; omega)
  have hn : ¬ nextOf (tB m 0) (tN m 0) (tE m 0) 159 < usedOf (tN m 0) := by
    unfold nextOf
    have : lastOf (tN m 0) 159 = usedOf (tN m 0) - 1 := by unfold lastOf; omega
    rw [this] at hf ⊢
    omega
  unfold Flight
  rw [if_neg hn]
  interval_cases s
  · exact .rfl
  · iintro ⟨HW, H1, H0⟩
    isplitl [HW]; · iexact HW
    isplitl [H0]; · iexact H0
    iexact H1

theorem exit_ok (c : Dev nD) :
    (dats m hT 0 c).Φ (Fin.last (cfgA m hT).N) ⊢ Pipeline.ΦDRG osem0 spec0 H0 R0 (V m) (V m) c := by
  rw [show (dats m hT 0 c).Φ (Fin.last (cfgA m hT).N) = Between m c 160 from rfl, Pipeline.ΦDRG_eq, scopedRest0_eq, ownSems0_eq, held_eq, routed_eq]
  unfold Between
  rw [show Before c (mats m c) (tB m 0) (tN m 0) (tE m 0) 160 = After c (mats m c) (tB m 0) (tN m 0) (tE m 0) 159 from rfl]
  unfold After Held Slot
  iintro ⟨-, ⟨%s, %hs, G6, ⟨G3, G4, G5⟩, HF⟩, Hg⟩
  icases (flight_last m hT c s hs) $$ HF with ⟨HW, HQ0, HQ1⟩
  unfold Quiet Place
  icases HQ0 with ⟨⟨⟨%a0, A0⟩, ⟨%b0, B0⟩, ⟨%c0, C0⟩⟩, S0⟩
  icases HQ1 with ⟨⟨⟨%a1, A1⟩, ⟨%b1, B1⟩, ⟨%c1, C1⟩⟩, S1⟩
  isplitl [A0 A1 B0 B1 C0 C1 G3 G4 G5 G6]
  · isplitl [A0 A1]
    · iapply (join_g c a0 a1)
      isplitl [A0]; · iexact A0
      iexact A1
    isplitl [B0 B1]
    · iapply (join_u c b0 b1)
      isplitl [B0]; · iexact B0
      iexact B1
    isplitl [C0 C1]
    · iapply (join_d c c0 c1)
      isplitl [C0]; · iexact C0
      iexact C1
    isplitl [G3]; · iexists _; iexact G3
    isplitl [G4]; · iexists _; iexact G4
    isplitl [G5]; · iexists _; iexact G5
    iexists _; iexact G6
  isplitl [Hg]; · iexact Hg
  isplitl [S0 S1]
  · isplitl [S0]; · iexact S0
    iexact S1
  isplitl [HW]; · iexact HW
  iempintro

/-! ## The run -/

set_option backward.isDefEq.respectTransparency.types false in
/-- Every run of the call ends with each block of the result at `stagedOut` and the arguments as they were. -/
theorem run_main : θ_run defs (onTc (τ := τ) (main (F := F))) (s₀ m ρ)
    (fun r => Pipeline.FramePostRG (Pipeline.pin pcfgs (adm m hT)) (dats m hT) 0 R0 (V m) (V m) r ∧ r.2.sem = fun _ => 0) :=
  Pipeline.θ_run_frameP_dmaRG (Q' := _) pcfgs (adm m hT) (dats m hT) (0 : Fin 1) launch0 osem0 defs₀ Variants.none ownSemFacts0 H0 R0 H0_sub R0_sub
    m ρ main (hbody := fun c => (body_obligation m hT c).loose) (hshare := fun c => (dats m hT 0 c).share_full fun _ => rfl)
    (howed := fun _ _ => rfl) (V := V m) (hmain := hmain m Variants.none) (hA := A_eq m hT)
    (hpf := fun c k => by rw [Subsingleton.elim c 0]) (G := V m) (hin := entry_ok m hT) (hout := exit_ok m hT)

end Cert.Kernel3Ideal.Hand
end
-- ==== Proof.ExpPre.lean ====
/-
  The experts' call: the precondition's word decoded, as plain numbers of the tables.
-/
module

public import proofs.«01_k».proof.Proof.Gen.Pre_experts_tables
public import proofs.«01_k».proof.Proof.ExpRun
public import proofs.«01_k».proof.Proof.Decode

@[expose] public section

set_option maxRecDepth 16384

noncomputable section

namespace Cert.Kernel3Ideal.Hand

open Cert.Pre_experts_tables Cert.Pre_experts_tables.Facts
open Idealize.ShloMosaic Idealize.ShloMosaic.StableHlo.Predicate
open Cert.Decode (sle_int slt_int sge_int)

/-! ## The predicate's terms -/

section Terms

variable [Cert.Pre_experts_tables.Facts] (B : IVec S160 32) (N : IVec S1 32) (E : IVec S64 32)

/-- The one index of a table of one word. -/
def one0 : S1.Idx := fun _ => ⟨0, by simp⟩

/-- A table of experts as the predicate indexes with it: a negative one moved up. -/
def wrapE (I : IVec S160 32) : IVec S160 32 := fun j => Scalar.select (IntOp.cmpi .slt (I j) 0#32) (IntOp.addi (I j) 64#32) (I j)
def seek (I : IVec S160 32) : IVec S160 32 :=
  Host.gather gather_S64_S160x1_S160_n_0_n_n_0_1_1 E (broadcastInDim S160x1 ![0] bcast_S160_S160x1_0 (wrapE I))
def rowWord : IVec S160 32 := fun j => IntOp.muli (BitVec.ofNat 32 (j 0).val) 512#32
def inUse : IVec S160 1 := fun j => IntOp.cmpi .slt (BitVec.ofNat 32 (j 0).val) (N one0)
def okRange : IVec S160 1 := fun j => IntOp.andi (IntOp.cmpi .sge (B j) 0#32) (IntOp.cmpi .slt (B j) 32#32)
def realEnd : IVec S160 32 := seek E (fun j => IntOp.addi 32#32 (B j))
def okReal : IVec S160 1 := fun j => Scalar.select (inUse N j) (IntOp.cmpi .slt (rowWord j) (realEnd B E j)) (IntOp.cmpi .sle (realEnd B E j) (rowWord j))
def okFits : IVec S160 1 := fun j => Scalar.select (inUse N j) (IntOp.cmpi .sle (IntOp.addi (rowWord j) 512#32) (seek E B j)) 1#1
def okMore : IVec S160 1 := fun j => IntOp.cmpi .sle (IntOp.addi (rowWord j) 1024#32) (seek E B j)
def up1 (j : S159.Idx) : S160.Idx := fun a => ⟨(![1] : Fin 1 → ℕ) a + (j (a.cast slices_S160_S159_1.1.symm)).val, Nat.lt_of_lt_of_le (Nat.add_lt_add_left (j _).isLt _) (slices_S160_S159_1.2 a)⟩
def up0 (j : S159.Idx) : S160.Idx := fun a => ⟨(![0] : Fin 1 → ℕ) a + (j (a.cast slices_S160_S159_0.1.symm)).val, Nat.lt_of_lt_of_le (Nat.add_lt_add_left (j _).isLt _) (slices_S160_S159_0.2 a)⟩
def okSame : IVec S159 1 := fun j => Scalar.select (inUse N (up1 j))
  (Scalar.select (IntOp.cmpi .eq (B (up1 j)) (B (up0 j))) (okMore B E (up0 j)) (~~~ (okMore B E (up0 j)))) 1#1

abbrev allOf160 (x : IVec S160 1) : IVec S_ 1 := Host.reduce IntOp.andi x (constantI S_ 1 1#1) reducesTo_S160_S_d0 h_S_
abbrev allOf159 (x : IVec S159 1) : IVec S_ 1 := Host.reduce IntOp.andi x (constantI S_ 1 1#1) reducesTo_S159_S_d0 h_S_

theorem foldl_and {α : Type} (f : α → BitVec 1) (l : List α) (b : BitVec 1) (h : l.foldl (fun r n => IntOp.andi r (f n)) b = 1#1) :
    b = 1#1 ∧ ∀ n ∈ l, f n = 1#1 := by
  induction l generalizing b with
  | nil => exact ⟨h, fun n hn => absurd hn List.not_mem_nil⟩
  | cons n l ih =>
    obtain ⟨h1, h2⟩ := ih _ h
    obtain ⟨h3, h4⟩ := (Cert.Decode.and_one _ _).mp h1
    exact ⟨h3, fun k hk => (List.mem_cons.mp hk).elim (fun e => e ▸ h4) (h2 k)⟩

theorem allOf160_one {x : IVec S160 1} {o : S_.Idx} (h : allOf160 x o = 1#1) (j : S160.Idx) : x j = 1#1 := by
  have h1 := (foldl_and (fun n => x (S160.rowMajor.symm n)) _ _ h).2 (S160.rowMajor j)
    (List.mem_filter.mpr ⟨List.mem_finRange _, decide_eq_true (funext fun a => Fin.elim0 a)⟩)
  simpa using h1
theorem allOf159_one {x : IVec S159 1} {o : S_.Idx} (h : allOf159 x o = 1#1) (j : S159.Idx) : x j = 1#1 := by
  have h1 := (foldl_and (fun n => x (S159.rowMajor.symm n)) _ _ h).2 (S159.rowMajor j)
    (List.mem_filter.mpr ⟨List.mem_finRange _, decide_eq_true (funext fun a => Fin.elim0 a)⟩)
  simpa using h1

/-- The one index of the number of rows in use. -/
theorem used_word (o : S_.Idx) : shapeCast S_ N shapeCasts_S1_S_ o = N one0 :=
  congrArg N (funext fun a => match a with | ⟨0, _⟩ => Subsingleton.elim (α := Fin 1) _ _)

variable {F : FTy → Type} [FloatOps F] (X3 : FVec F S655360x128 .f32) (X4 : FVec F S32x1024x1024 .f32) (X5 : FVec F S32x1024 .f32)
  (X6 : FVec F S32x1024x1024 .f32) (X7 : FVec F S32x1024 .f32) (X8 : FVec F S32x1024x1024 .f32) (X9 : FVec F S32x1024 .f32)

theorem inUse_eq : cmpi .slt (iotaInDim S160 32 0) (broadcastInDim S160 ![] bcast_S_S160 (shapeCast S_ N shapeCasts_S1_S_)) = inUse N :=
  funext fun j => congrArg (IntOp.cmpi .slt (BitVec.ofNat 32 (j 0).val)) (used_word N _)

theorem pre_apply (o : S_.Idx) : fn (F := F) B N E X3 X4 X5 X6 X7 X8 X9 o
    = IntOp.andi (IntOp.andi (IntOp.andi (IntOp.andi (IntOp.andi (IntOp.cmpi .sge (N one0) 1#32) (IntOp.cmpi .sle (N one0) 160#32))
        (allOf160 (okRange B) o)) (allOf160 (okReal B N E) o)) (allOf160 (okFits B N E) o)) (allOf159 (okSame B N E) o) := by
  unfold fn fn_part1 fn_part2 fn_part3 fn_where fn_where_0 fn_where_1 fn_where_2
  dsimp only
  rw [inUse_eq]
  refine congrArg₂ IntOp.andi (congrArg₂ IntOp.andi (congrArg₂ IntOp.andi (congrArg₂ IntOp.andi (congrArg₂ IntOp.andi ?_ ?_) ?_) ?_) ?_) ?_
  · exact congrArg (fun w => IntOp.cmpi .sge w 1#32) (used_word N o)
  · exact congrArg (fun w => IntOp.cmpi .sle w 160#32) (used_word N o)
  · exact congrArg (fun x => allOf160 x o) (funext fun j => rfl)
  · exact congrArg (fun x => allOf160 x o) (funext fun j => rfl)
  · exact congrArg (fun x => allOf160 x o) (funext fun j => rfl)
  · exact congrArg (fun x => allOf159 x o) (funext fun j => rfl)

/-! ## Their values -/

variable {B N E}

theorem toInt_nat {b : BitVec 32} (h : b.toNat < 2 ^ 31) : b.toInt = b.toNat := toInt_eq_toNat_of_lt h

theorem seek_val {I : IVec S160 32} {j : S160.Idx} (h : (I j).toNat < 64) : seek E I j = wordAt E (I j).toNat := by
  have hb : (0 : Fin 1) ∉ gather_S64_S160x1_S160_n_0_n_n_0_1_1.operandBatchingDims := List.not_mem_nil
  have hk : (0 : Fin 1) ∉ gather_S64_S160x1_S160_n_0_n_n_0_1_1.sKept := by
    rw [GatherDims.mem_sKept]; exact fun h => h.1 (List.mem_singleton.mpr rfl)
  have hm : (0 : Fin 1) ∈ gather_S64_S160x1_S160_n_0_n_n_0_1_1.startIndexMap := List.mem_singleton.mpr rfl
  have hw : wrapE I j = I j := by
    unfold wrapE
    have : ¬ IntOp.cmpi .slt (I j) 0#32 = 1#1 := fun e => by
      have := slt_int e
      rw [toInt_nat (by omega)] at this
      have h0 : (0#32 : BitVec 32).toInt = 0 := rfl
      omega
    exact if_neg this
  unfold wordAt
  rw [dif_pos h]
  refine congrArg E (funext fun a => ?_)
  obtain rfl : a = 0 := Subsingleton.elim _ _
  refine Fin.ext ?_
  simp only [GatherDims.operandIdx, GatherDims.batchCoord_eq_zero _ _ _ hb, GatherDims.offCoord_eq_zero _ _ _ hk,
    Nat.add_zero, GatherDims.start, dif_pos hm]
  show min (wrapE I _).toInt.toNat (64 - 1) = _
  refine Eq.trans (b := min (wrapE I j).toInt.toNat (64 - 1)) (congrArg (fun i => min (wrapE I i).toInt.toNat (64 - 1)) (funext fun a => ?_)) ?_
  · match a with
    | ⟨0, _⟩ => exact Fin.ext rfl
  · rw [hw, toInt_nat (by omega)]
    omega

/-- The precondition, in plain numbers. -/
structure Raw (B : IVec S160 32) (N : IVec S1 32) (E : IVec S64 32) : Prop where
  pos : 1 ≤ usedOf N
  le : usedOf N ≤ 160
  lt : ∀ t < 160, exOf B t < 32
  live : ∀ t < usedOf N, (512 * t : ℤ) < (wordAt E (32 + exOf B t)).toInt
  dead : ∀ t < 160, usedOf N ≤ t → (wordAt E (32 + exOf B t)).toInt ≤ 512 * t
  fits : ∀ t < usedOf N, (512 * t + 512 : ℤ) ≤ (wordAt E (exOf B t)).toInt
  same : ∀ t, t + 1 < usedOf N → (exOf B (t + 1) = exOf B t ↔ (512 * t + 1024 : ℤ) ≤ (wordAt E (exOf B t)).toInt)

/-- Position `t` of a table of 160. -/
def at160 (t : ℕ) (h : t < 160) : S160.Idx := fun a => match a with | ⟨0, _⟩ => ⟨t, h⟩
theorem word160 (f : IVec S160 32) (t : ℕ) (h : t < 160) : wordAt f t = f (at160 t h) := by
  unfold wordAt; rw [dif_pos h]; exact congrArg f (funext fun a => match a with | ⟨0, _⟩ => rfl)
theorem word1 (f : IVec S1 32) : wordAt f 0 = f one0 := by
  unfold wordAt; rw [dif_pos (by decide)]; exact congrArg f (funext fun a => match a with | ⟨0, _⟩ => rfl)

theorem rowWord_nat (t : ℕ) (h : t < 160) : (rowWord (at160 t h)).toNat = 512 * t := by
  show (BitVec.ofNat 32 t * 512#32).toNat = _
  rw [BitVec.toNat_mul, BitVec.toNat_ofNat]
  show t % 2 ^ 32 * 512 % 2 ^ 32 = _
  omega
theorem rowWord_add (t k : ℕ) (h : t < 160) (hk : k < 2 ^ 20) : (IntOp.addi (rowWord (at160 t h)) (BitVec.ofNat 32 k)).toInt = 512 * t + k := by
  have : (IntOp.addi (rowWord (at160 t h)) (BitVec.ofNat 32 k)).toNat = 512 * t + k := by
    show (rowWord (at160 t h) + BitVec.ofNat 32 k).toNat = _
    rw [BitVec.toNat_add, rowWord_nat, BitVec.toNat_ofNat]
    omega
  rw [toInt_nat (by omega), this]
  omega

theorem select_one {c a b : BitVec 1} (h : Scalar.select c a b = 1#1) : (c = 1#1 → a = 1#1) ∧ (¬ c = 1#1 → b = 1#1) := by
  revert c a b; decide
theorem not_one (a : BitVec 1) : ~~~ a = 1#1 ↔ ¬ a = 1#1 := by revert a; decide
theorem sle_iff_int (a b : BitVec 32) : IntOp.cmpi .sle a b = 1#1 ↔ a.toInt ≤ b.toInt := by
  rw [← BitVec.sle_iff_toInt_le]; exact ofBool_eq_one_iff _

theorem raw_of_pre {o : S_.Idx} (h : fn (F := F) B N E X3 X4 X5 X6 X7 X8 X9 o = 1#1) : Raw B N E := by
  rw [pre_apply] at h
  simp only [Cert.Decode.and_one] at h
  obtain ⟨⟨⟨⟨⟨h1, h2⟩, h3⟩, h4⟩, h5⟩, h6⟩ := h
  have a1 : (1 : ℤ) ≤ (N one0).toInt := sge_int h1
  have a2 : (N one0).toInt ≤ 160 := sle_int h2
  have hN : (usedOf N : ℤ) = (N one0).toInt := by
    unfold usedOf
    rw [word1]
    have := (N one0).isLt
    rw [BitVec.toInt_eq_toNat_cond] at a1 a2 ⊢
    split at a1 <;> split <;> omega
  have hB : ∀ t (ht : t < 160), (B (at160 t ht)).toNat < 32 := fun t ht => by
    have h7 := (Cert.Decode.and_one _ _).mp (allOf160_one h3 (at160 t ht))
    have b1 : (0 : ℤ) ≤ (B (at160 t ht)).toInt := sge_int h7.1
    have b2 : (B (at160 t ht)).toInt < 32 := slt_int h7.2
    have := (B (at160 t ht)).isLt
    rw [BitVec.toInt_eq_toNat_cond] at b1 b2
    split at b1 <;> omega
  have hu : ∀ t (ht : t < 160), inUse N (at160 t ht) = 1#1 ↔ t < usedOf N := fun t ht => by
    refine (slt_iff_toNat (a := BitVec.ofNat 32 t) (b := N one0) ?_ ?_).trans ?_
    · rw [BitVec.toNat_ofNat]; omega
    · have := (N one0).isLt
      rw [BitVec.toInt_eq_toNat_cond] at a1 a2
      split at a1 <;> omega
    · unfold usedOf; rw [word1, BitVec.toNat_ofNat, Nat.mod_eq_of_lt (by omega)]
  have hE : ∀ t (ht : t < 160), seek E B (at160 t ht) = wordAt E (exOf B t) := fun t ht => by
    rw [seek_val (by have := hB t ht; omega)]; unfold exOf; rw [word160 B t ht]
  have hR : ∀ t (ht : t < 160), realEnd B E (at160 t ht) = wordAt E (32 + exOf B t) := fun t ht => by
    have hb := hB t ht
    have e : (IntOp.addi 32#32 (B (at160 t ht))).toNat = 32 + (B (at160 t ht)).toNat := by
      show (32#32 + B (at160 t ht)).toNat = _
      rw [BitVec.toNat_add]
      show (32 + (B (at160 t ht)).toNat) % 2 ^ 32 = _
      omega
    unfold realEnd
    rw [seek_val (by show (IntOp.addi 32#32 (B (at160 t ht))).toNat < 64; omega)]
    unfold exOf
    rw [word160 B t ht]
    exact congrArg (wordAt E) e
  have hrow : ∀ t (ht : t < 160), (rowWord (at160 t ht)).toInt = 512 * t := fun t ht => by
    rw [toInt_nat (by rw [rowWord_nat]; omega), rowWord_nat]; omega
  refine ⟨by omega, by omega, fun t ht => by unfold exOf; rw [word160 B t ht]; exact hB t ht, fun t ht => ?_, fun t ht hd => ?_, fun t ht => ?_, fun t ht => ?_⟩
  · have h160 : t < 160 := by omega
    have := slt_int ((select_one (allOf160_one h4 (at160 t h160))).1 ((hu t h160).2 ht))
    rwa [hrow, hR] at this
  · have := sle_int ((select_one (allOf160_one h4 (at160 t ht))).2 (fun e => absurd ((hu t ht).1 e) (by omega)))
    rwa [hrow, hR] at this
  · have h160 : t < 160 := by omega
    have := sle_int ((select_one (allOf160_one h5 (at160 t h160))).1 ((hu t h160).2 ht))
    rwa [rowWord_add t 512 h160 (by decide), hE] at this
  · have h160 : t + 1 < 160 := by omega
    have h161 : t < 160 := by omega
    have h7 := allOf159_one h6 (fun a => match a with | ⟨0, _⟩ => ⟨t, by show t < 159; omega⟩)
    have e1 : up1 (fun a => match a with | ⟨0, _⟩ => ⟨t, by show t < 159; omega⟩) = at160 (t + 1) h160 := by
      funext a
      match a with
      | ⟨0, _⟩ => exact Fin.ext (Nat.add_comm 1 t)
    have e0 : up0 (fun a => match a with | ⟨0, _⟩ => ⟨t, by show t < 159; omega⟩) = at160 t h161 := by
      funext a
      match a with
      | ⟨0, _⟩ => exact Fin.ext (Nat.zero_add t)
    unfold okSame at h7
    rw [e1, e0] at h7
    have h8 := (select_one h7).1 ((hu (t + 1) h160).2 ht)
    have hm : okMore B E (at160 t h161) = 1#1 ↔ (512 * t + 1024 : ℤ) ≤ (wordAt E (exOf B t)).toInt := by
      unfold okMore
      rw [sle_iff_int, rowWord_add t 1024 h161 (by decide), hE]
      rfl
    rw [← hm]
    have hq : exOf B (t + 1) = exOf B t ↔ IntOp.cmpi .eq (B (at160 (t + 1) h160)) (B (at160 t h161)) = 1#1 := by
      rw [cmpi_eq_iff]
      unfold exOf
      rw [word160 B t h161, word160 B (t + 1) h160]
      exact ⟨fun e => BitVec.eq_of_toNat_eq e, fun e => congrArg _ e⟩
    rw [hq]
    refine ⟨(select_one h8).1, fun hy => ?_⟩
    by_contra hn
    exact (not_one _).1 ((select_one h8).2 hn) hy

end Terms

end Cert.Kernel3Ideal.Hand
end
-- ==== Proof.ExpFrame.lean ====
/-
  The experts' call: the table its launch reads, that the precondition gives what the run asks of the tables, and the
  run's end — the arguments as before and the result's array.
-/
module

public import proofs.«01_k».proof.Proof.ExpPre
public import Idealize.ShloMosaic.Lib.StableHlo.RunRead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.SL.Sem

variable {F : FTy → Type} [FloatOps F]

/-- The row a grid point looks up: its own, or the last in use. -/
def lastWord (N : IVec S1 32) : IVec S160 32 := fun j =>
  Scalar.maxsi (Scalar.minsi (BitVec.ofNat 32 (j 0).val) (Scalar.subi (N one0) 1#32)) 0#32
def wrapB (I : IVec S160 32) : IVec S160 32 := fun j => Scalar.select (IntOp.cmpi .slt (I j) 0#32) (IntOp.addi (I j) 160#32) (I j)
def seekB (B I : IVec S160 32) : IVec S160 32 :=
  Host.gather gather_S160_S160x1_S160_n_0_n_n_0_1_1 B (broadcastInDim S160x1 ![0] bcast_S160_S160x1_0 (wrapB I))

theorem seekB_val (B : IVec S160 32) {I : IVec S160 32} {j : S160.Idx} (h : (I j).toNat < 160) : seekB B I j = wordAt B (I j).toNat := by
  have hb : (0 : Fin 1) ∉ gather_S160_S160x1_S160_n_0_n_n_0_1_1.operandBatchingDims := List.not_mem_nil
  have hk : (0 : Fin 1) ∉ gather_S160_S160x1_S160_n_0_n_n_0_1_1.sKept := by
    rw [GatherDims.mem_sKept]; exact fun h => h.1 (List.mem_singleton.mpr rfl)
  have hm : (0 : Fin 1) ∈ gather_S160_S160x1_S160_n_0_n_n_0_1_1.startIndexMap := List.mem_singleton.mpr rfl
  have hw : wrapB I j = I j := by
    unfold wrapB
    have : ¬ IntOp.cmpi .slt (I j) 0#32 = 1#1 := fun e => by
      have := Cert.Decode.slt_int e
      rw [toInt_nat (by omega)] at this
      have h0 : (0#32 : BitVec 32).toInt = 0 := rfl
      omega
    exact if_neg this
  unfold wordAt
  rw [dif_pos h]
  refine congrArg B (funext fun a => ?_)
  obtain rfl : a = 0 := Subsingleton.elim _ _
  refine Fin.ext ?_
  simp only [GatherDims.operandIdx, GatherDims.batchCoord_eq_zero _ _ _ hb, GatherDims.offCoord_eq_zero _ _ _ hk,
    Nat.add_zero, GatherDims.start, dif_pos hm]
  show min (wrapB I _).toInt.toNat (160 - 1) = _
  refine Eq.trans (b := min (wrapB I j).toInt.toNat (160 - 1)) (congrArg (fun i => min (wrapB I i).toInt.toNat (160 - 1)) (funext fun a => ?_)) ?_
  · match a with
    | ⟨0, _⟩ => exact Fin.ext rfl
  · rw [hw, toInt_nat (by omega)]
    omega

variable (m : (ℓ : Loc nD τ sig) → Buf (Elt F) ℓ)

abbrev aB (c : Dev nD) : IVec S160 32 := m ((c : Thread nD τ).loc main_arg0)
abbrev aN (c : Dev nD) : IVec S1 32 := m ((c : Thread nD τ).loc main_arg1)
abbrev aE (c : Dev nD) : IVec S64 32 := m ((c : Thread nD τ).loc main_arg2)

theorem one0_eq (x : S1.Idx) : x = one0 := funext fun a => match a with
  | ⟨0, _⟩ => Fin.ext (Nat.lt_one_iff.mp (x 0).isLt)

theorem tB_eq (c : Dev nD) : tB m c = seekB (aB m c) (lastWord (aN m c)) := by
  show StableHlo.after hostOps0 _ main_v13 = _
  unfold hostOps0
  after_reads_simp
  refine congrArg (seekB (aB m c)) (funext fun j => ?_)
  unfold lastWord
  exact congrArg (fun w => Scalar.maxsi (Scalar.minsi (BitVec.ofNat 32 (j 0).val) (Scalar.subi w 1#32)) 0#32)
    (congrArg (aN m c) (one0_eq _))

theorem tN_eq (c : Dev nD) : tN m c = aN m c := V_same m c main_arg1 (by decide)
theorem tE_eq (c : Dev nD) : tE m c = aE m c := V_same m c main_arg2 (by decide)

section FromRaw
variable {m} {c : Dev nD} (h : Raw (aB m c) (aN m c) (aE m c))
include h

theorem exOf_tB (t : ℕ) (ht : t < 160) : exOf (tB m c) t = exOf (aB m c) (min t (usedOf (aN m c) - 1)) := by
  have hp := h.pos
  have hl := h.le
  unfold usedOf at hp hl ⊢
  rw [word1] at hp hl ⊢
  have hv : (BitVec.ofNat 32 t).toNat = t := by rw [BitVec.toNat_ofNat, Nat.mod_eq_of_lt (by omega)]
  have hr := row_word (n := aN m c one0) (v := BitVec.ofNat 32 t) hp hl (by omega)
  rw [hv] at hr
  have e : (lastWord (aN m c) (at160 t ht)).toNat = min t ((aN m c one0).toNat - 1) := hr
  unfold exOf
  rw [word160 (tB m c) t ht, tB_eq, seekB_val _ (by rw [e]; omega), e]

theorem exOf_used (t : ℕ) (ht : t < usedOf (aN m c)) : exOf (tB m c) t = exOf (aB m c) t := by
  have hl := h.le
  rw [exOf_tB h t (by omega), Nat.min_eq_left (by omega)]

theorem end_int (t : ℕ) (ht : t < usedOf (aN m c)) :
    (wordAt (aE m c) (exOf (aB m c) t)).toInt = endOf (aE m c) (exOf (aB m c) t) ∧ endOf (aE m c) (exOf (aB m c) t) < 2 ^ 31 := by
  have hf := h.fits t ht
  unfold endOf
  generalize wordAt (aE m c) (exOf (aB m c) t) = w at hf ⊢
  have hlt : w.toNat < 2 ^ 31 := by
    by_contra hn
    rw [BitVec.toInt_eq_toNat_cond, if_neg (by omega)] at hf
    have := w.isLt
    omega
  exact ⟨toInt_nat hlt, hlt⟩

theorem tables_of_raw : Tables (tB m c) (tN m c) (tE m c) := by
  rw [tN_eq, tE_eq]
  refine ⟨h.pos, h.le, fun t ht => ?_, fun t ht => ?_, fun t ht => ?_, fun t ht => ?_⟩
  · rw [exOf_tB h t ht]; exact h.lt _ (by omega)
  · rw [exOf_used h t ht]
    have := h.fits t ht
    rw [(end_int h t ht).1] at this
    omega
  · rw [exOf_used h t ht]; exact (end_int h t ht).2
  · rw [exOf_used h t (by omega), exOf_used h (t + 1) ht, h.same t ht, (end_int h t (by omega)).1]
    omega

end FromRaw

/-! ## The run's end -/

variable (ρ : Dev nD → PrngReg)

/-- From tables in order, every argument is as before and the result is the pipeline's last array. -/
theorem run_end (hT : Tables (tB m 0) (tN m 0) (tE m 0)) :
    θ_run defs (onTc (τ := τ) (main (F := F))) ⟨m, fun _ => 0, ρ⟩ (fun r => (∀ c : Dev nD,
      r.2.mem ((c.tc : Thread nD τ).loc main_v17) = (dats m hT 0 c).arrAt 4 (cfgA m hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r hr => ⟨fun c => ?_, hr.2⟩) (run_main m ρ hT)
  have hw := (hr.1.toR c).1
  have hrest := (hr.1.toR c).2
  refine ⟨hw 4, ?_, ?_, ?_, (hw 0).trans ((((dats m hT 0 c).arrAt_in 0 rfl _).trans (A_eq m hT c 0)).trans (V_same m c main_arg3 (by decide))), ?_, ?_, ?_, ?_, ?_, ?_⟩
  · exact (hrest main_arg0 (Finset.mem_sdiff.mpr ⟨Pipeline.mem_restRefs_of main_arg0 rfl (fun | ⟨0, _⟩ => show main_arg3 ≠ main_arg0 by decide | ⟨1, _⟩ => show main_v14 ≠ main_arg0 by decide | ⟨2, _⟩ => show main_v15 ≠ main_arg0 by decide | ⟨3, _⟩ => show main_v16 ≠ main_arg0 by decide | ⟨4, _⟩ => show main_v17 ≠ main_arg0 by decide), by decide⟩)).trans (V_same m c main_arg0 (by decide))
  · exact (hrest main_arg1 (Finset.mem_sdiff.mpr ⟨Pipeline.mem_restRefs_of main_arg1 rfl (fun | ⟨0, _⟩ => show main_arg3 ≠ main_arg1 by decide | ⟨1, _⟩ => show main_v14 ≠ main_arg1 by decide | ⟨2, _⟩ => show main_v15 ≠ main_arg1 by decide | ⟨3, _⟩ => show main_v16 ≠ main_arg1 by decide | ⟨4, _⟩ => show main_v17 ≠ main_arg1 by decide), by decide⟩)).trans (V_same m c main_arg1 (by decide))
  · exact (hrest main_arg2 (Finset.mem_sdiff.mpr ⟨Pipeline.mem_restRefs_of main_arg2 rfl (fun | ⟨0, _⟩ => show main_arg3 ≠ main_arg2 by decide | ⟨1, _⟩ => show main_v14 ≠ main_arg2 by decide | ⟨2, _⟩ => show main_v15 ≠ main_arg2 by decide | ⟨3, _⟩ => show main_v16 ≠ main_arg2 by decide | ⟨4, _⟩ => show main_v17 ≠ main_arg2 by decide), by decide⟩)).trans (V_same m c main_arg2 (by decide))
  · exact (hrest main_arg4 (Finset.mem_sdiff.mpr ⟨Pipeline.mem_restRefs_of main_arg4 rfl (fun | ⟨0, _⟩ => show main_arg3 ≠ main_arg4 by decide | ⟨1, _⟩ => show main_v14 ≠ main_arg4 by decide | ⟨2, _⟩ => show main_v15 ≠ main_arg4 by decide | ⟨3, _⟩ => show main_v16 ≠ main_arg4 by decide | ⟨4, _⟩ => show main_v17 ≠ main_arg4 by decide), by decide⟩)).trans (V_same m c main_arg4 (by decide))
  · exact (hrest main_arg5 (Finset.mem_sdiff.mpr ⟨Pipeline.mem_restRefs_of main_arg5 rfl (fun | ⟨0, _⟩ => show main_arg3 ≠ main_arg5 by decide | ⟨1, _⟩ => show main_v14 ≠ main_arg5 by decide | ⟨2, _⟩ => show main_v15 ≠ main_arg5 by decide | ⟨3, _⟩ => show main_v16 ≠ main_arg5 by decide | ⟨4, _⟩ => show main_v17 ≠ main_arg5 by decide), by decide⟩)).trans (V_same m c main_arg5 (by decide))
  · exact (hrest main_arg6 (Finset.mem_sdiff.mpr ⟨Pipeline.mem_restRefs_of main_arg6 rfl (fun | ⟨0, _⟩ => show main_arg3 ≠ main_arg6 by decide | ⟨1, _⟩ => show main_v14 ≠ main_arg6 by decide | ⟨2, _⟩ => show main_v15 ≠ main_arg6 by decide | ⟨3, _⟩ => show main_v16 ≠ main_arg6 by decide | ⟨4, _⟩ => show main_v17 ≠ main_arg6 by decide), by decide⟩)).trans (V_same m c main_arg6 (by decide))
  · exact (hrest main_arg7 (Finset.mem_sdiff.mpr ⟨Pipeline.mem_restRefs_of main_arg7 rfl (fun | ⟨0, _⟩ => show main_arg3 ≠ main_arg7 by decide | ⟨1, _⟩ => show main_v14 ≠ main_arg7 by decide | ⟨2, _⟩ => show main_v15 ≠ main_arg7 by decide | ⟨3, _⟩ => show main_v16 ≠ main_arg7 by decide | ⟨4, _⟩ => show main_v17 ≠ main_arg7 by decide), by decide⟩)).trans (V_same m c main_arg7 (by decide))
  · exact (hrest main_arg8 (Finset.mem_sdiff.mpr ⟨Pipeline.mem_restRefs_of main_arg8 rfl (fun | ⟨0, _⟩ => show main_arg3 ≠ main_arg8 by decide | ⟨1, _⟩ => show main_v14 ≠ main_arg8 by decide | ⟨2, _⟩ => show main_v15 ≠ main_arg8 by decide | ⟨3, _⟩ => show main_v16 ≠ main_arg8 by decide | ⟨4, _⟩ => show main_v17 ≠ main_arg8 by decide), by decide⟩)).trans (V_same m c main_arg8 (by decide))
  · exact (hrest main_arg9 (Finset.mem_sdiff.mpr ⟨Pipeline.mem_restRefs_of main_arg9 rfl (fun | ⟨0, _⟩ => show main_arg3 ≠ main_arg9 by decide | ⟨1, _⟩ => show main_v14 ≠ main_arg9 by decide | ⟨2, _⟩ => show main_v15 ≠ main_arg9 by decide | ⟨3, _⟩ => show main_v16 ≠ main_arg9 by decide | ⟨4, _⟩ => show main_v17 ≠ main_arg9 by decide), by decide⟩)).trans (V_same m c main_arg9 (by decide))

end Cert.Kernel3Ideal.Hand
end
-- ==== Proof.ExpFeed.lean ====
/-
  The experts' call: one row through one expert, as numbers, and what the body computes of a block's rows.
-/
module

public import proofs.«01_k».proof.Proof.ExpOut
public import Idealize.ShloMosaic.Lib.IdealHost
public import Idealize.ShloMosaic.Lib.MatmulPlain
public import Idealize.ShloMosaic.Lib.Pointwise.ElementwiseCore
public import Mathlib.Analysis.SpecialFunctions.Trigonometric.DerivHyp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.ValueIdx
open scoped BigOperators

/-! ## One row through one expert -/

abbrev one : EReal := Ideal.ofBits .f32 0x3F800000#32
abbrev half : EReal := Ideal.ofBits .f32 0x3F000000#32
abbrev seven : EReal := Ideal.ofBits .f32 0x40E00000#32
abbrev minusSeven : EReal := Ideal.ofBits .f32 0xC0E00000#32
abbrev alpha : EReal := Ideal.ofBits .f32 0x3FD9DB23#32

/-- The logistic function, as a quotient. -/
def sg (v : EReal) : EReal := Ideal.div one (one + Ideal.exp (-v))

theorem half_eq : half = ((1 / 2 : ℝ) : EReal) := by
  simp [half, Ideal.ofBits, Ideal.ieee, -EReal.coe_mul]; norm_num

theorem real_tanh (r : ℝ) : 1 / 2 * Real.tanh (1 / 2 * r) + 1 / 2 = 1 / (1 + Real.exp (-r)) := by
  rw [Real.tanh_eq_sinh_div_cosh, Real.sinh_eq, Real.cosh_eq]
  have hb : Real.exp (-r) = Real.exp (-(1 / 2 * r)) * Real.exp (-(1 / 2 * r)) := by rw [← Real.exp_add]; congr 1; ring
  have hab : Real.exp (1 / 2 * r) * Real.exp (-(1 / 2 * r)) = 1 := by rw [← Real.exp_add]; simp
  rw [hb]
  have ha := Real.exp_pos (1 / 2 * r)
  have hb' := Real.exp_pos (-(1 / 2 * r))
  generalize Real.exp (1 / 2 * r) = a at *
  generalize Real.exp (-(1 / 2 * r)) = b at *
  have h1 : a + b ≠ 0 := by positivity
  have h2 : 1 + b * b ≠ 0 := by positivity
  field_simp
  nlinarith [hab]

/-- The logistic function through the hyperbolic tangent of the half. -/
theorem sg_tanh (v : EReal) : half * Ideal.tanh (half * v) + half = sg v := by
  unfold sg one
  rw [half_eq, Ideal.ofBits_one_f32]
  show _ = Ideal.logistic v
  induction v with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, ← EReal.coe_mul, ← EReal.coe_add, Ideal.logistic_coe, real_tanh, one_div]

/-- A hidden unit: the two products clamped, the gated unit times the other plus one. -/
def gateE (p : EReal) : EReal := FloatOps.minimumf (F := Ideal) (φ := .f32) p seven
def upE (q : EReal) : EReal := FloatOps.minimumf (F := Ideal) (φ := .f32) seven (FloatOps.maximumf (F := Ideal) (φ := .f32) minusSeven q)
def hiddenE (g u : EReal) : EReal := (u + one) * (g * sg (alpha * g))

/-- One number of a row put through an expert. -/
def feedE (x : Fin 1024 → EReal) (G U D : Fin 1024 → Fin 1024 → EReal) (bg bu bd : Fin 1024 → EReal) (n : Fin 1024) : EReal :=
  (∑ f, hiddenE (gateE (∑ k, x k * G k f + bg f)) (upE (∑ k, x k * U k f + bu f)) * D f n) + bd n

/-- Entry `n` of row `r` of block `t`: its row through the block's expert, and zero past the expert's last live group of 128 rows. -/
def answer (B : IVec S160 32) (E : IVec S64 32) (X : FVec Ideal S655360x128 .f32) (Wg : FVec Ideal S32x1024x1024 .f32) (bg : FVec Ideal S32x1024 .f32)
    (Wu : FVec Ideal S32x1024x1024 .f32) (bu : FVec Ideal S32x1024 .f32) (Wd : FVec Ideal S32x1024x1024 .f32) (bd : FVec Ideal S32x1024 .f32)
    (t r : ℕ) (n : Fin 1024) : EReal :=
  if (128 * (4 * t + r / 128 : ℕ) : ℤ) < (wordAt E (32 + exOf B t)).toInt then
    feedE (fun k => X (ix2 ⟨(4096 * t + 8 * r + k.val / 128) % 655360, Nat.mod_lt _ (by decide)⟩ ⟨k.val % 128, Nat.mod_lt _ (by decide)⟩))
      (fun k f => Wg (ix3 ⟨exOf B t % 32, Nat.mod_lt _ (by decide)⟩ k f)) (fun k f => Wu (ix3 ⟨exOf B t % 32, Nat.mod_lt _ (by decide)⟩ k f))
      (fun k f => Wd (ix3 ⟨exOf B t % 32, Nat.mod_lt _ (by decide)⟩ k f)) (fun f => bg (ix2 ⟨exOf B t % 32, Nat.mod_lt _ (by decide)⟩ f))
      (fun f => bu (ix2 ⟨exOf B t % 32, Nat.mod_lt _ (by decide)⟩ f)) (fun f => bd (ix2 ⟨exOf B t % 32, Nat.mod_lt _ (by decide)⟩ f)) n
  else 0

/-! ## The body's rows -/

/-- Eight strips side by side. -/
theorem cat8 {M : ℕ} (V : Fin 8 → (⟨2, ![M, 128]⟩ : Shape).Idx → EReal) (h) (r : Fin M) (k : Fin 1024) :
    concatenate ⟨2, ![M, 1024]⟩ 1 [⟨⟨2, ![M, 128]⟩, V 0⟩, ⟨⟨2, ![M, 128]⟩, V 1⟩, ⟨⟨2, ![M, 128]⟩, V 2⟩, ⟨⟨2, ![M, 128]⟩, V 3⟩,
        ⟨⟨2, ![M, 128]⟩, V 4⟩, ⟨⟨2, ![M, 128]⟩, V 5⟩, ⟨⟨2, ![M, 128]⟩, V 6⟩, ⟨⟨2, ![M, 128]⟩, V 7⟩] h (ix2 r k)
      = V ⟨k.val / 128, by omega⟩ (ix2 r ⟨k.val % 128, Nat.mod_lt _ (by decide)⟩) :=
  concatenate_ofFn_apply (t := ⟨2, ![M, 1024]⟩) 1 V h rfl 128 rfl (ix2 r k) ⟨k.val / 128, by omega⟩ rfl _ rfl
    (fun b hb => match b with | ⟨0, _⟩ => rfl | ⟨1, _⟩ => absurd rfl hb)

/-- Row `r` of a block. -/
def rowE (X : Vec Ideal S4096x128 .f32) (r : ℕ) (k : Fin 1024) : EReal :=
  X (ix2 ⟨(k.val / 128 + 8 * r) % 4096, Nat.mod_lt _ (by decide)⟩ ⟨k.val % 128, Nat.mod_lt _ (by decide)⟩)

theorem bias_apply (x : Vec Ideal S1x1x1024 .f32) (k : Fin 1024) : shapeCast S1x1024 x shapeCasts_S1x1x1024_S1x1024 (ix2 0 k) = x (ix3 0 0 k) :=
  (shapeCast_dropUnit_apply ![1, 1024] x shapeCasts_S1x1x1024_S1x1024 (ix2 0 k)).trans
    (congrArg x (funext fun a => match a with | ⟨0, _⟩ => rfl | ⟨1, _⟩ => rfl | ⟨2, _⟩ => rfl))

variable (X : Vec Ideal S4096x128 .f32) (g u d : Vec Ideal S1024x1024 .bf16) (x6 x8 x10 : Vec Ideal S1x1x1024 .f32)

theorem zero_word : Ideal.ofBits .f32 0x00000000#32 = 0 := by simp [Ideal.ofBits, Ideal.ieee]

theorem join512 (r : Fin 512) (k : Fin 1024) : (k0_pay39 (strip 512 0 X) (strip 512 1 X) (strip 512 2 X) (strip 512 3 X) (strip 512 4 X) (strip 512 5 X) (strip 512 6 X) (strip 512 7 X) : FVec Ideal S512x1024 .bf16) (ix2 r k) = rowE X r.val k := by
  unfold k0_pay39
  exact cat8 (M := 512) (fun s => strip 512 s.val X) concatenates_S512x128_S512x128_S512x128_S512x128_S512x128_S512x128_S512x128_S512x128_S512x1024_d1 r k

theorem prod512 (L : FVec Ideal S512x1024 .bf16) (w : FVec Ideal S1024x1024 .bf16) (x : Vec Ideal S1x1x1024 .f32) (r : Fin 512) (f : Fin 1024) :
    (addf (matmul dot_S512x1024_S1024x1024_S512x1024_1_0_0_1_n_n none L w (constant S512x1024 .f32 0x00000000#32))
      (broadcastTo S512x1024 (shapeCast S1x1024 x shapeCasts_S1x1x1024_S1x1024) broadcasts_S1x1024_S512x1024) : FVec Ideal S512x1024 .f32) (ix2 r f)
      = ∑ k : Fin 1024, L (ix2 r k) * w (ix2 k f) + x (ix3 0 0 f) := by
  rw [addf_apply]
  refine congrArg₂ (fun a b : EReal => a + b) ?_ ?_
  · refine (Ideal.matmul_plain_apply (M := 512) (K := 1024) (N := 1024) (φ₁ := .bf16) (φ₂ := .bf16) none L w (constant S512x1024 .f32 0x00000000#32) r f).trans ?_
    show Ideal.ofBits .f32 0x00000000#32 + _ = _
    rw [zero_word, zero_add]
  · exact (broadcastTo_apply _ _ _ (ix2 0 f) fun a => match a with | ⟨0, _⟩ => rfl | ⟨1, _⟩ => rfl).trans (bias_apply x f)

theorem rows512_apply (r : Fin 512) (n : Fin 1024) : rows512 X g u d x6 x8 x10 (ix2 r n)
    = feedE (rowE X r.val) (fun k f => g (ix2 k f)) (fun k f => u (ix2 k f)) (fun k f => d (ix2 k f))
        (fun f => x6 (ix3 0 0 f)) (fun f => x8 (ix3 0 0 f)) (fun f => x10 (ix3 0 0 f)) n := by
  have hg : ∀ f : Fin 1024, (k0_pay40 (strip 512 0 X) (strip 512 1 X) (strip 512 2 X) (strip 512 3 X) (strip 512 4 X) (strip 512 5 X) (strip 512 6 X) (strip 512 7 X) g x6 : FVec Ideal S512x1024 .f32) (ix2 r f)
      = gateE (∑ k, rowE X r.val k * g (ix2 k f) + x6 (ix3 0 0 f)) := fun f => by
    unfold k0_pay40 gateE
    rw [Idealize.ShloMosaic.minimumf_apply, prod512]
    exact congrArg (fun a : EReal => FloatOps.minimumf (F := Ideal) (φ := .f32) (a + x6 (ix3 0 0 f)) seven)
      (Finset.sum_congr rfl fun k _ => congrArg (fun a : EReal => a * g (ix2 k f)) (join512 X r k))
  have hu : ∀ f : Fin 1024, (k0_pay41 (strip 512 0 X) (strip 512 1 X) (strip 512 2 X) (strip 512 3 X) (strip 512 4 X) (strip 512 5 X) (strip 512 6 X) (strip 512 7 X) u x8 : FVec Ideal S512x1024 .f32) (ix2 r f)
      = upE (∑ k, rowE X r.val k * u (ix2 k f) + x8 (ix3 0 0 f)) := fun f => by
    unfold k0_pay41 upE
    rw [Idealize.ShloMosaic.minimumf_apply, Idealize.ShloMosaic.maximumf_apply, prod512]
    exact congrArg (fun a : EReal => FloatOps.minimumf (F := Ideal) (φ := .f32) seven
        (FloatOps.maximumf (F := Ideal) (φ := .f32) minusSeven (a + x8 (ix3 0 0 f))))
      (Finset.sum_congr rfl fun k _ => congrArg (fun a : EReal => a * u (ix2 k f)) (join512 X r k))
  unfold rows512 k0_pay42 feedE
  dsimp only
  rw [prod512]
  refine congrArg (fun a : EReal => a + x10 (ix3 0 0 n)) (Finset.sum_congr rfl fun f _ => congrArg (fun a : EReal => a * d (ix2 f n)) ?_)
  rw [← hg, ← hu]
  unfold hiddenE
  rw [← sg_tanh]
  rfl

theorem join384 (r : Fin 384) (k : Fin 1024) : (k0_pay29 (strip 384 0 X) (strip 384 1 X) (strip 384 2 X) (strip 384 3 X) (strip 384 4 X) (strip 384 5 X) (strip 384 6 X) (strip 384 7 X) : FVec Ideal S384x1024 .bf16) (ix2 r k) = rowE X r.val k := by
  unfold k0_pay29
  exact cat8 (M := 384) (fun s => strip 384 s.val X) concatenates_S384x128_S384x128_S384x128_S384x128_S384x128_S384x128_S384x128_S384x128_S384x1024_d1 r k

theorem prod384 (L : FVec Ideal S384x1024 .bf16) (w : FVec Ideal S1024x1024 .bf16) (x : Vec Ideal S1x1x1024 .f32) (r : Fin 384) (f : Fin 1024) :
    (addf (matmul dot_S384x1024_S1024x1024_S384x1024_1_0_0_1_n_n none L w (constant S384x1024 .f32 0x00000000#32))
      (broadcastTo S384x1024 (shapeCast S1x1024 x shapeCasts_S1x1x1024_S1x1024) broadcasts_S1x1024_S384x1024) : FVec Ideal S384x1024 .f32) (ix2 r f)
      = ∑ k : Fin 1024, L (ix2 r k) * w (ix2 k f) + x (ix3 0 0 f) := by
  rw [addf_apply]
  refine congrArg₂ (fun a b : EReal => a + b) ?_ ?_
  · refine (Ideal.matmul_plain_apply (M := 384) (K := 1024) (N := 1024) (φ₁ := .bf16) (φ₂ := .bf16) none L w (constant S384x1024 .f32 0x00000000#32) r f).trans ?_
    show Ideal.ofBits .f32 0x00000000#32 + _ = _
    rw [zero_word, zero_add]
  · exact (broadcastTo_apply _ _ _ (ix2 0 f) fun a => match a with | ⟨0, _⟩ => rfl | ⟨1, _⟩ => rfl).trans (bias_apply x f)

theorem rows384_apply (r : Fin 384) (n : Fin 1024) : rows384 X g u d x6 x8 x10 (ix2 r n)
    = feedE (rowE X r.val) (fun k f => g (ix2 k f)) (fun k f => u (ix2 k f)) (fun k f => d (ix2 k f))
        (fun f => x6 (ix3 0 0 f)) (fun f => x8 (ix3 0 0 f)) (fun f => x10 (ix3 0 0 f)) n := by
  have hg : ∀ f : Fin 1024, (k0_pay30 (strip 384 0 X) (strip 384 1 X) (strip 384 2 X) (strip 384 3 X) (strip 384 4 X) (strip 384 5 X) (strip 384 6 X) (strip 384 7 X) g x6 : FVec Ideal S384x1024 .f32) (ix2 r f)
      = gateE (∑ k, rowE X r.val k * g (ix2 k f) + x6 (ix3 0 0 f)) := fun f => by
    unfold k0_pay30 gateE
    rw [Idealize.ShloMosaic.minimumf_apply, prod384]
    exact congrArg (fun a : EReal => FloatOps.minimumf (F := Ideal) (φ := .f32) (a + x6 (ix3 0 0 f)) seven)
      (Finset.sum_congr rfl fun k _ => congrArg (fun a : EReal => a * g (ix2 k f)) (join384 X r k))
  have hu : ∀ f : Fin 1024, (k0_pay31 (strip 384 0 X) (strip 384 1 X) (strip 384 2 X) (strip 384 3 X) (strip 384 4 X) (strip 384 5 X) (strip 384 6 X) (strip 384 7 X) u x8 : FVec Ideal S384x1024 .f32) (ix2 r f)
      = upE (∑ k, rowE X r.val k * u (ix2 k f) + x8 (ix3 0 0 f)) := fun f => by
    unfold k0_pay31 upE
    rw [Idealize.ShloMosaic.minimumf_apply, Idealize.ShloMosaic.maximumf_apply, prod384]
    exact congrArg (fun a : EReal => FloatOps.minimumf (F := Ideal) (φ := .f32) seven
        (FloatOps.maximumf (F := Ideal) (φ := .f32) minusSeven (a + x8 (ix3 0 0 f))))
      (Finset.sum_congr rfl fun k _ => congrArg (fun a : EReal => a * u (ix2 k f)) (join384 X r k))
  unfold rows384 k0_pay32 feedE
  dsimp only
  rw [prod384]
  refine congrArg (fun a : EReal => a + x10 (ix3 0 0 n)) (Finset.sum_congr rfl fun f _ => congrArg (fun a : EReal => a * d (ix2 f n)) ?_)
  rw [← hg, ← hu]
  unfold hiddenE
  rw [← sg_tanh]
  rfl

theorem join256 (r : Fin 256) (k : Fin 1024) : (k0_pay19 (strip 256 0 X) (strip 256 1 X) (strip 256 2 X) (strip 256 3 X) (strip 256 4 X) (strip 256 5 X) (strip 256 6 X) (strip 256 7 X) : FVec Ideal S256x1024 .bf16) (ix2 r k) = rowE X r.val k := by
  unfold k0_pay19
  exact cat8 (M := 256) (fun s => strip 256 s.val X) concatenates_S256x128_S256x128_S256x128_S256x128_S256x128_S256x128_S256x128_S256x128_S256x1024_d1 r k

theorem prod256 (L : FVec Ideal S256x1024 .bf16) (w : FVec Ideal S1024x1024 .bf16) (x : Vec Ideal S1x1x1024 .f32) (r : Fin 256) (f : Fin 1024) :
    (addf (matmul dot_S256x1024_S1024x1024_S256x1024_1_0_0_1_n_n none L w (constant S256x1024 .f32 0x00000000#32))
      (broadcastTo S256x1024 (shapeCast S1x1024 x shapeCasts_S1x1x1024_S1x1024) broadcasts_S1x1024_S256x1024) : FVec Ideal S256x1024 .f32) (ix2 r f)
      = ∑ k : Fin 1024, L (ix2 r k) * w (ix2 k f) + x (ix3 0 0 f) := by
  rw [addf_apply]
  refine congrArg₂ (fun a b : EReal => a + b) ?_ ?_
  · refine (Ideal.matmul_plain_apply (M := 256) (K := 1024) (N := 1024) (φ₁ := .bf16) (φ₂ := .bf16) none L w (constant S256x1024 .f32 0x00000000#32) r f).trans ?_
    show Ideal.ofBits .f32 0x00000000#32 + _ = _
    rw [zero_word, zero_add]
  · exact (broadcastTo_apply _ _ _ (ix2 0 f) fun a => match a with | ⟨0, _⟩ => rfl | ⟨1, _⟩ => rfl).trans (bias_apply x f)

theorem rows256_apply (r : Fin 256) (n : Fin 1024) : rows256 X g u d x6 x8 x10 (ix2 r n)
    = feedE (rowE X r.val) (fun k f => g (ix2 k f)) (fun k f => u (ix2 k f)) (fun k f => d (ix2 k f))
        (fun f => x6 (ix3 0 0 f)) (fun f => x8 (ix3 0 0 f)) (fun f => x10 (ix3 0 0 f)) n := by
  have hg : ∀ f : Fin 1024, (k0_pay20 (strip 256 0 X) (strip 256 1 X) (strip 256 2 X) (strip 256 3 X) (strip 256 4 X) (strip 256 5 X) (strip 256 6 X) (strip 256 7 X) g x6 : FVec Ideal S256x1024 .f32) (ix2 r f)
      = gateE (∑ k, rowE X r.val k * g (ix2 k f) + x6 (ix3 0 0 f)) := fun f => by
    unfold k0_pay20 gateE
    rw [Idealize.ShloMosaic.minimumf_apply, prod256]
    exact congrArg (fun a : EReal => FloatOps.minimumf (F := Ideal) (φ := .f32) (a + x6 (ix3 0 0 f)) seven)
      (Finset.sum_congr rfl fun k _ => congrArg (fun a : EReal => a * g (ix2 k f)) (join256 X r k))
  have hu : ∀ f : Fin 1024, (k0_pay21 (strip 256 0 X) (strip 256 1 X) (strip 256 2 X) (strip 256 3 X) (strip 256 4 X) (strip 256 5 X) (strip 256 6 X) (strip 256 7 X) u x8 : FVec Ideal S256x1024 .f32) (ix2 r f)
      = upE (∑ k, rowE X r.val k * u (ix2 k f) + x8 (ix3 0 0 f)) := fun f => by
    unfold k0_pay21 upE
    rw [Idealize.ShloMosaic.minimumf_apply, Idealize.ShloMosaic.maximumf_apply, prod256]
    exact congrArg (fun a : EReal => FloatOps.minimumf (F := Ideal) (φ := .f32) seven
        (FloatOps.maximumf (F := Ideal) (φ := .f32) minusSeven (a + x8 (ix3 0 0 f))))
      (Finset.sum_congr rfl fun k _ => congrArg (fun a : EReal => a * u (ix2 k f)) (join256 X r k))
  unfold rows256 k0_pay22 feedE
  dsimp only
  rw [prod256]
  refine congrArg (fun a : EReal => a + x10 (ix3 0 0 n)) (Finset.sum_congr rfl fun f _ => congrArg (fun a : EReal => a * d (ix2 f n)) ?_)
  rw [← hg, ← hu]
  unfold hiddenE
  rw [← sg_tanh]
  rfl

theorem join128 (r : Fin 128) (k : Fin 1024) : (k0_pay9 (strip 128 0 X) (strip 128 1 X) (strip 128 2 X) (strip 128 3 X) (strip 128 4 X) (strip 128 5 X) (strip 128 6 X) (strip 128 7 X) : FVec Ideal S128x1024 .bf16) (ix2 r k) = rowE X r.val k := by
  unfold k0_pay9
  exact cat8 (M := 128) (fun s => strip 128 s.val X) concatenates_S128x128_S128x128_S128x128_S128x128_S128x128_S128x128_S128x128_S128x128_S128x1024_d1 r k

theorem prod128 (L : FVec Ideal S128x1024 .bf16) (w : FVec Ideal S1024x1024 .bf16) (x : Vec Ideal S1x1x1024 .f32) (r : Fin 128) (f : Fin 1024) :
    (addf (matmul dot_S128x1024_S1024x1024_S128x1024_1_0_0_1_n_n none L w (constant S128x1024 .f32 0x00000000#32))
      (broadcastTo S128x1024 (shapeCast S1x1024 x shapeCasts_S1x1x1024_S1x1024) broadcasts_S1x1024_S128x1024) : FVec Ideal S128x1024 .f32) (ix2 r f)
      = ∑ k : Fin 1024, L (ix2 r k) * w (ix2 k f) + x (ix3 0 0 f) := by
  rw [addf_apply]
  refine congrArg₂ (fun a b : EReal => a + b) ?_ ?_
  · refine (Ideal.matmul_plain_apply (M := 128) (K := 1024) (N := 1024) (φ₁ := .bf16) (φ₂ := .bf16) none L w (constant S128x1024 .f32 0x00000000#32) r f).trans ?_
    show Ideal.ofBits .f32 0x00000000#32 + _ = _
    rw [zero_word, zero_add]
  · exact (broadcastTo_apply _ _ _ (ix2 0 f) fun a => match a with | ⟨0, _⟩ => rfl | ⟨1, _⟩ => rfl).trans (bias_apply x f)

theorem rows128_apply (r : Fin 128) (n : Fin 1024) : rows128 X g u d x6 x8 x10 (ix2 r n)
    = feedE (rowE X r.val) (fun k f => g (ix2 k f)) (fun k f => u (ix2 k f)) (fun k f => d (ix2 k f))
        (fun f => x6 (ix3 0 0 f)) (fun f => x8 (ix3 0 0 f)) (fun f => x10 (ix3 0 0 f)) n := by
  have hg : ∀ f : Fin 1024, (k0_pay10 (strip 128 0 X) (strip 128 1 X) (strip 128 2 X) (strip 128 3 X) (strip 128 4 X) (strip 128 5 X) (strip 128 6 X) (strip 128 7 X) g x6 : FVec Ideal S128x1024 .f32) (ix2 r f)
      = gateE (∑ k, rowE X r.val k * g (ix2 k f) + x6 (ix3 0 0 f)) := fun f => by
    unfold k0_pay10 gateE
    rw [Idealize.ShloMosaic.minimumf_apply, prod128]
    exact congrArg (fun a : EReal => FloatOps.minimumf (F := Ideal) (φ := .f32) (a + x6 (ix3 0 0 f)) seven)
      (Finset.sum_congr rfl fun k _ => congrArg (fun a : EReal => a * g (ix2 k f)) (join128 X r k))
  have hu : ∀ f : Fin 1024, (k0_pay11 (strip 128 0 X) (strip 128 1 X) (strip 128 2 X) (strip 128 3 X) (strip 128 4 X) (strip 128 5 X) (strip 128 6 X) (strip 128 7 X) u x8 : FVec Ideal S128x1024 .f32) (ix2 r f)
      = upE (∑ k, rowE X r.val k * u (ix2 k f) + x8 (ix3 0 0 f)) := fun f => by
    unfold k0_pay11 upE
    rw [Idealize.ShloMosaic.minimumf_apply, Idealize.ShloMosaic.maximumf_apply, prod128]
    exact congrArg (fun a : EReal => FloatOps.minimumf (F := Ideal) (φ := .f32) seven
        (FloatOps.maximumf (F := Ideal) (φ := .f32) minusSeven (a + x8 (ix3 0 0 f))))
      (Finset.sum_congr rfl fun k _ => congrArg (fun a : EReal => a * u (ix2 k f)) (join128 X r k))
  unfold rows128 k0_pay12 feedE
  dsimp only
  rw [prod128]
  refine congrArg (fun a : EReal => a + x10 (ix3 0 0 n)) (Finset.sum_congr rfl fun f _ => congrArg (fun a : EReal => a * d (ix2 f n)) ?_)
  rw [← hg, ← hu]
  unfold hiddenE
  rw [← sg_tanh]
  rfl

end Cert.Kernel3Ideal.Hand
end
-- ==== Proof.ExpValue.lean ====
/-
  The experts' call: its result, entry by entry.
-/
module

public import proofs.«01_k».proof.Proof.ExpFrame
public import proofs.«01_k».proof.Proof.ExpFeed
public import Idealize.ShloMosaic.Lib.Pipeline.Value

@[expose] public section

set_option maxRecDepth 16384
set_option maxHeartbeats 1000000

noncomputable section

namespace Cert.Kernel3Ideal.Hand

open Cert.Kernel3Ideal Cert.Kernel3Ideal.Gen
open Idealize.ShloMosaic Idealize.ShloMosaic.TcCoe Idealize.ShloMosaic.ValueIdx
open Idealize.ShloMosaic.Pipeline (Dat)

/-! ## A block -/

section Block

variable (W : Mats Ideal) (e : ℕ) (X : Vec Ideal S4096x128 .f32) (x6 x8 x10 : Vec Ideal S1x1x1024 .f32)

theorem rounded_apply (S : Stack Ideal) (k f : Fin 1024) : rounded S e (ix2 k f) = S (ix3 ⟨e % 32, Nat.mod_lt _ (by decide)⟩ k f) := by
  unfold rounded k0_pay7
  refine (congrFun (shapeCast_self _ _) (ix2 k f)).trans ?_
  refine (shapeCast_apply (s := S1x1024x1024) (t := S1024x1024) (slabOf S e) shapeCasts_S1x1024x1024_S1024x1024 (ix2 k f) (ix3 0 k f) ?_).trans rfl
  refine (Shape.rowMajor_val_three (d := S1x1024x1024.size) _).trans (Eq.trans ?_ (Shape.rowMajor_val_two (d := S1024x1024.size) _).symm)
  show (0 * 1024 + k.val) * 1024 + f.val = k.val * 1024 + f.val
  omega

/-- Row `r` of the block through its expert. -/
def rowOut (r : ℕ) (n : Fin 1024) : EReal :=
  feedE (rowE X r) (fun k f => W.g (ix3 ⟨e % 32, Nat.mod_lt _ (by decide)⟩ k f)) (fun k f => W.u (ix3 ⟨e % 32, Nat.mod_lt _ (by decide)⟩ k f))
    (fun k f => W.d (ix3 ⟨e % 32, Nat.mod_lt _ (by decide)⟩ k f)) (fun f => x6 (ix3 0 0 f)) (fun f => x8 (ix3 0 0 f)) (fun f => x10 (ix3 0 0 f)) n

abbrev colOf (y : S4096x128.Idx) : Fin 1024 := ⟨128 * ((y 0).val % 8) + (y 1).val, by have h1 : (y 1).val < 128 := (y 1).isLt; omega⟩

theorem packed128 (y : S4096x128.Idx) :
    packed (rows128 X (rounded W.g e) (rounded W.u e) (rounded W.d e) x6 x8 x10) (Scalar.ofBits .f32 0x00000000#32 : Ideal .f32) y
      = if (y 0).val / 8 < 128 then rowOut W e X x6 x8 x10 ((y 0).val / 8) (colOf y) else 0 := by
  unfold packed
  by_cases h : (y 0).val / 8 < 128
  · rw [dif_pos h, if_pos h, rows128_apply]
    unfold rowOut
    simp only [rounded_apply]
  · rw [dif_neg h, if_neg h]
    exact zero_word

theorem packed256 (y : S4096x128.Idx) :
    packed (rows256 X (rounded W.g e) (rounded W.u e) (rounded W.d e) x6 x8 x10) (Scalar.ofBits .f32 0x00000000#32 : Ideal .f32) y
      = if (y 0).val / 8 < 256 then rowOut W e X x6 x8 x10 ((y 0).val / 8) (colOf y) else 0 := by
  unfold packed
  by_cases h : (y 0).val / 8 < 256
  · rw [dif_pos h, if_pos h, rows256_apply]
    unfold rowOut
    simp only [rounded_apply]
  · rw [dif_neg h, if_neg h]
    exact zero_word

theorem packed384 (y : S4096x128.Idx) :
    packed (rows384 X (rounded W.g e) (rounded W.u e) (rounded W.d e) x6 x8 x10) (Scalar.ofBits .f32 0x00000000#32 : Ideal .f32) y
      = if (y 0).val / 8 < 384 then rowOut W e X x6 x8 x10 ((y 0).val / 8) (colOf y) else 0 := by
  unfold packed
  by_cases h : (y 0).val / 8 < 384
  · rw [dif_pos h, if_pos h, rows384_apply]
    unfold rowOut
    simp only [rounded_apply]
  · rw [dif_neg h, if_neg h]
    exact zero_word

theorem packed512 (y : S4096x128.Idx) :
    packed (rows512 X (rounded W.g e) (rounded W.u e) (rounded W.d e) x6 x8 x10) (Scalar.ofBits .f32 0x00000000#32 : Ideal .f32) y
      = if (y 0).val / 8 < 512 then rowOut W e X x6 x8 x10 ((y 0).val / 8) (colOf y) else 0 := by
  unfold packed
  by_cases h : (y 0).val / 8 < 512
  · rw [dif_pos h, if_pos h, rows512_apply]
    unfold rowOut
    simp only [rounded_apply]
  · rw [dif_neg h, if_neg h]
    exact zero_word

theorem block_used {i : grid0.Coords} {n v : BitVec 32} {y : S4096x128.Idx} {l : ℤ} (hu : ¬ k0_cond8 i n = 1#1) (hl : left i v = l) (hp : 0 < l) :
    outBlock W e i n v X x6 x8 x10 y
      = if (128 * ((y 0).val / 8 / 128 : ℕ) : ℤ) < l then rowOut W e X x6 x8 x10 ((y 0).val / 8) (colOf y) else 0 := by
  have h0 : (y 0).val < 4096 := (y 0).isLt
  unfold outBlock
  rw [if_neg hu, hl]
  by_cases h1 : l ≤ 128
  · rw [if_pos h1, packed128]
    exact if_congr (by omega) rfl rfl
  by_cases h2 : l ≤ 256
  · rw [if_neg h1, if_pos h2, packed256]
    exact if_congr (by omega) rfl rfl
  by_cases h3 : l ≤ 384
  · rw [if_neg h1, if_neg h2, if_pos h3, packed384]
    exact if_congr (by omega) rfl rfl
  · rw [if_neg h1, if_neg h2, if_neg h3, packed512]
    exact if_congr (by omega) rfl rfl

theorem block_unused {i : grid0.Coords} {n v : BitVec 32} {y : S4096x128.Idx} (hu : k0_cond8 i n = 1#1) : outBlock W e i n v X x6 x8 x10 y = 0 := by
  unfold outBlock
  rw [if_pos hu]
  exact zero_word

end Block

/-! ## The staged inputs -/

section Staged

variable (m : (ℓ : Loc nD τ sig) → Buf (Elt Ideal) ℓ) (hT : Tables (tB m 0) (tN m 0) (tE m 0))

abbrev tables : pre0.Contents (Elt Ideal) := fun k => V m 0 (pre0.ref k)

include hT in
theorem moves0 (t : Fin grid0.N) : ((cfgA m hT).win 0).index t = ![lastOf (tN m 0) t.val, 0] :=
  (map_x (pf := tables m) hT (grid0.coords t)).trans (congrArg (fun n => ![lastOf (tN m 0) n, 0]) (coords_val t))
theorem moves1 (t : Fin grid0.N) : ((cfgA m hT).win 1).index t = ![exOf (tB m 0) t.val, 0, 0] :=
  (map_g (pf := tables m) (grid0.coords t)).trans (congrArg (fun n => ![exOf (tB m 0) n, 0, 0]) (coords_val t))
theorem moves2 (t : Fin grid0.N) : ((cfgA m hT).win 2).index t = ![exOf (tB m 0) t.val, 0, 0] :=
  (map_u (pf := tables m) (grid0.coords t)).trans (congrArg (fun n => ![exOf (tB m 0) n, 0, 0]) (coords_val t))
theorem moves3 (t : Fin grid0.N) : ((cfgA m hT).win 3).index t = ![exOf (tB m 0) t.val, 0, 0] :=
  (map_d (pf := tables m) (grid0.coords t)).trans (congrArg (fun n => ![exOf (tB m 0) n, 0, 0]) (coords_val t))

theorem staged0 (c : Dev nD) (t : Fin grid0.N) (a : Fin 4096) (k : Fin 128) (p : Fin 655360) (hp : p.val = 4096 * lastOf (tN m 0) t.val + a.val) :
    stagedIn m hT c 0 t (ix2 a k) = (m ((c : Thread nD τ).loc main_arg3) : FVec Ideal S655360x128 .f32) (ix2 p k) := by
  have e0 := congrFun (moves0 m hT t) (0 : Fin 2)
  have e1 := congrFun (moves0 m hT t) (1 : Fin 2)
  have hv : stagedIn m hT c 0 t (ix2 a k) = (V m c main_arg3 : FVec Ideal S655360x128 .f32) (ix2 p k) :=
    congrArg (V m c main_arg3) (funext fun d => Fin.ext (match d with
      | ⟨0, _⟩ => by
        show ((cfgA m hT).win 0).index t (0 : Fin 2) * 4096 + 1 * a.val = p.val
        rw [e0]; show lastOf (tN m 0) t.val * 4096 + 1 * a.val = p.val; omega
      | ⟨1, _⟩ => by
        show ((cfgA m hT).win 0).index t (1 : Fin 2) * 128 + 1 * k.val = k.val
        rw [e1]; show 0 * 128 + 1 * k.val = k.val; omega))
  rw [hv, V_same m c main_arg3 (by decide)]

theorem staged1 (c : Dev nD) (t : Fin grid0.N) (k : Fin 1024) (e : Fin 32) (he : exOf (tB m 0) t.val = e.val) :
    stagedIn m hT c 1 t (ix3 0 0 k) = (m ((c : Thread nD τ).loc main_arg5) : FVec Ideal S32x1024 .f32) (ix2 e k) := by
  have e0 := congrFun (moves1 m hT t) (0 : Fin 3)
  have e1 := congrFun (moves1 m hT t) (1 : Fin 3)
  have e2 := congrFun (moves1 m hT t) (2 : Fin 3)
  have hv : stagedIn m hT c 1 t (ix3 0 0 k) = (V m c main_v14 : FVec Ideal S32x1x1024 .f32) (ix3 e 0 k) :=
    congrArg (V m c main_v14) (funext fun d => Fin.ext (match d with
      | ⟨0, _⟩ => by
        show ((cfgA m hT).win 1).index t (0 : Fin 3) * 1 + 1 * 0 = e.val
        rw [e0]; show exOf (tB m 0) t.val * 1 + 1 * 0 = e.val; omega
      | ⟨1, _⟩ => by
        show ((cfgA m hT).win 1).index t (1 : Fin 3) * 1 + 1 * 0 = 0
        rw [e1]; rfl
      | ⟨2, _⟩ => by
        show ((cfgA m hT).win 1).index t (2 : Fin 3) * 1024 + 1 * k.val = k.val
        rw [e2]; show 0 * 1024 + 1 * k.val = k.val; omega))
  have hr : V m c main_v14 = shapeCast S32x1x1024 (m ((c : Thread nD τ).loc main_arg5) : FVec Ideal S32x1024 .f32) shapeCasts_S32x1024_S32x1x1024 := by
    show StableHlo.after hostOps0 _ main_v14 = _
    unfold hostOps0
    after_reads_simp
    rfl
  rw [hv, hr]
  refine shapeCast_apply _ _ _ _ ?_
  refine (Shape.rowMajor_val_two (d := S32x1024.size) _).trans (Eq.trans ?_ (Shape.rowMajor_val_three (d := S32x1x1024.size) _).symm)
  show e.val * 1024 + k.val = (e.val * 1 + 0) * 1024 + k.val
  omega

theorem staged2 (c : Dev nD) (t : Fin grid0.N) (k : Fin 1024) (e : Fin 32) (he : exOf (tB m 0) t.val = e.val) :
    stagedIn m hT c 2 t (ix3 0 0 k) = (m ((c : Thread nD τ).loc main_arg7) : FVec Ideal S32x1024 .f32) (ix2 e k) := by
  have e0 := congrFun (moves2 m hT t) (0 : Fin 3)
  have e1 := congrFun (moves2 m hT t) (1 : Fin 3)
  have e2 := congrFun (moves2 m hT t) (2 : Fin 3)
  have hv : stagedIn m hT c 2 t (ix3 0 0 k) = (V m c main_v15 : FVec Ideal S32x1x1024 .f32) (ix3 e 0 k) :=
    congrArg (V m c main_v15) (funext fun d => Fin.ext (match d with
      | ⟨0, _⟩ => by
        show ((cfgA m hT).win 2).index t (0 : Fin 3) * 1 + 1 * 0 = e.val
        rw [e0]; show exOf (tB m 0) t.val * 1 + 1 * 0 = e.val; omega
      | ⟨1, _⟩ => by
        show ((cfgA m hT).win 2).index t (1 : Fin 3) * 1 + 1 * 0 = 0
        rw [e1]; rfl
      | ⟨2, _⟩ => by
        show ((cfgA m hT).win 2).index t (2 : Fin 3) * 1024 + 1 * k.val = k.val
        rw [e2]; show 0 * 1024 + 1 * k.val = k.val; omega))
  have hr : V m c main_v15 = shapeCast S32x1x1024 (m ((c : Thread nD τ).loc main_arg7) : FVec Ideal S32x1024 .f32) shapeCasts_S32x1024_S32x1x1024 := by
    show StableHlo.after hostOps0 _ main_v15 = _
    unfold hostOps0
    after_reads_simp
    rfl
  rw [hv, hr]
  refine shapeCast_apply _ _ _ _ ?_
  refine (Shape.rowMajor_val_two (d := S32x1024.size) _).trans (Eq.trans ?_ (Shape.rowMajor_val_three (d := S32x1x1024.size) _).symm)
  show e.val * 1024 + k.val = (e.val * 1 + 0) * 1024 + k.val
  omega

theorem staged3 (c : Dev nD) (t : Fin grid0.N) (k : Fin 1024) (e : Fin 32) (he : exOf (tB m 0) t.val = e.val) :
    stagedIn m hT c 3 t (ix3 0 0 k) = (m ((c : Thread nD τ).loc main_arg9) : FVec Ideal S32x1024 .f32) (ix2 e k) := by
  have e0 := congrFun (moves3 m hT t) (0 : Fin 3)
  have e1 := congrFun (moves3 m hT t) (1 : Fin 3)
  have e2 := congrFun (moves3 m hT t) (2 : Fin 3)
  have hv : stagedIn m hT c 3 t (ix3 0 0 k) = (V m c main_v16 : FVec Ideal S32x1x1024 .f32) (ix3 e 0 k) :=
    congrArg (V m c main_v16) (funext fun d => Fin.ext (match d with
      | ⟨0, _⟩ => by
        show ((cfgA m hT).win 3).index t (0 : Fin 3) * 1 + 1 * 0 = e.val
        rw [e0]; show exOf (tB m 0) t.val * 1 + 1 * 0 = e.val; omega
      | ⟨1, _⟩ => by
        show ((cfgA m hT).win 3).index t (1 : Fin 3) * 1 + 1 * 0 = 0
        rw [e1]; rfl
      | ⟨2, _⟩ => by
        show ((cfgA m hT).win 3).index t (2 : Fin 3) * 1024 + 1 * k.val = k.val
        rw [e2]; show 0 * 1024 + 1 * k.val = k.val; omega))
  have hr : V m c main_v16 = shapeCast S32x1x1024 (m ((c : Thread nD τ).loc main_arg9) : FVec Ideal S32x1024 .f32) shapeCasts_S32x1024_S32x1x1024 := by
    show StableHlo.after hostOps0 _ main_v16 = _
    unfold hostOps0
    after_reads_simp
    rfl
  rw [hv, hr]
  refine shapeCast_apply _ _ _ _ ?_
  refine (Shape.rowMajor_val_two (d := S32x1024.size) _).trans (Eq.trans ?_ (Shape.rowMajor_val_three (d := S32x1x1024.size) _).symm)
  show e.val * 1024 + k.val = (e.val * 1 + 0) * 1024 + k.val
  omega

/-! ## The final array -/

theorem out_inj (t t' : Fin grid0.N) (h : ((cfgA m hT).win 4).index t = ((cfgA m hT).win 4).index t') : t = t' := by
  rw [out_index, out_index] at h
  exact Fin.ext (congrFun h (0 : Fin 2))

theorem final_apply (c : Dev nD) (t : Fin grid0.N) (a : Fin 4096) (k : Fin 128) (p : Fin 655360) (hp : p.val = 4096 * t.val + a.val) :
    ((dats m hT 0 c).arrAt 4 (cfgA m hT).N : FVec Ideal S655360x128 .f32) (ix2 p k) = stagedOut m hT c t (ix2 a k) := by
  have e0 := congrFun (out_index m hT t) (0 : Fin 2)
  have e1 := congrFun (out_index m hT t) (1 : Fin 2)
  have hi : (ix2 p k : S655360x128.Idx) = (((cfgA m hT).win 4).blk t).view.emb (ix2 a k) := funext fun d => Fin.ext (match d with
    | ⟨0, _⟩ => by
      show p.val = ((cfgA m hT).win 4).index t (0 : Fin 2) * 4096 + 1 * a.val
      rw [e0]; show p.val = t.val * 4096 + 1 * a.val; omega
    | ⟨1, _⟩ => by
      show k.val = ((cfgA m hT).win 4).index t (1 : Fin 2) * 128 + 1 * k.val
      rw [e1]; show k.val = 0 * 128 + 1 * k.val; omega)
  rw [hi]
  refine ((dats m hT 0 c).arrAt_emb_eq_flushed 4 (fun t t' _ _ hne => ((cfgA m hT).win 4).disjoint_blk fun h => hne (out_inj m hT t t' h)) t (out_flush m hT t) (ix2 a k)).trans ?_
  show ((cfgA m hT).win 4).cut (grid0.coords t) ((dats m hT 0 c).after 4 t) (ix2 a k) = _
  rw [after_eq4]
  rfl

end Staged

/-- The kernel's result, entry by entry. -/
theorem kernel_apply (m : (ℓ : Loc nD τ sig) → Buf (Elt Ideal) ℓ) (hR : Raw (aB m 0) (aN m 0) (aE m 0)) (i : S655360x128.Idx) :
    ((dats m (tables_of_raw hR) 0 0).arrAt 4 (cfgA m (tables_of_raw hR)).N : FVec Ideal S655360x128 .f32) i
      = answer (aB m 0) (aE m 0) (m (((0 : Dev nD) : Thread nD τ).loc main_arg3)) (m (((0 : Dev nD) : Thread nD τ).loc main_arg4))
          (m (((0 : Dev nD) : Thread nD τ).loc main_arg5)) (m (((0 : Dev nD) : Thread nD τ).loc main_arg6)) (m (((0 : Dev nD) : Thread nD τ).loc main_arg7))
          (m (((0 : Dev nD) : Thread nD τ).loc main_arg8)) (m (((0 : Dev nD) : Thread nD τ).loc main_arg9)) ((i 0).val / 4096) ((i 0).val % 4096 / 8)
          ⟨128 * ((i 0).val % 8) + (i 1).val, by have h1 : (i 1).val < 128 := (i 1).isLt; omega⟩ := by
  have h0 : (i 0).val < 655360 := (i 0).isLt
  have h1 : (i 1).val < 128 := (i 1).isLt
  obtain ⟨t, ht⟩ : ∃ t : Fin grid0.N, t.val = (i 0).val / 4096 := ⟨⟨(i 0).val / 4096, by show _ < 160; omega⟩, rfl⟩
  have htl : t.val < 160 := t.isLt
  obtain ⟨a, ha⟩ : ∃ a : Fin 4096, a.val = (i 0).val % 4096 := ⟨⟨(i 0).val % 4096, by omega⟩, rfl⟩
  have hc := coords_val t
  have e1 : ((dats m (tables_of_raw hR) 0 0).arrAt 4 (cfgA m (tables_of_raw hR)).N : FVec Ideal S655360x128 .f32) i
      = stagedOut m (tables_of_raw hR) 0 t (ix2 a (i 1)) :=
    (congrArg _ (eq_ix2 i)).trans (final_apply m (tables_of_raw hR) 0 t a (i 1) (i 0) (by omega))
  have hcol : (⟨128 * ((i 0).val % 8) + (i 1).val, by omega⟩ : Fin 1024) = colOf (ix2 a (i 1)) := Fin.ext (by
    show 128 * ((i 0).val % 8) + (i 1).val = 128 * (a.val % 8) + (i 1).val
    omega)
  rw [e1, hcol, ← ht, ← ha]
  have hu : k0_cond8 (grid0.coords t) (wordAt (tN m 0) 0) = 1#1 ↔ ¬ t.val < usedOf (aN m 0) := by
    rw [cond8_iff, not_iff_not, tN_eq, hc]
    have hl := hR.le
    have hp := hR.pos
    unfold usedOf at hl hp ⊢
    refine (StableHlo.Predicate.slt_iff_toNat (a := BitVec.ofNat 32 t.val) (b := wordAt (aN m 0) 0) ?_ (by omega)).trans ?_
    · rw [BitVec.toNat_ofNat]; omega
    · rw [BitVec.toNat_ofNat, Nat.mod_eq_of_lt (by omega)]
  unfold stagedOut answer
  by_cases hlt : t.val < usedOf (aN m 0)
  · have hex := exOf_used hR t.val hlt
    have hlast : lastOf (tN m 0) t.val = t.val := by
      rw [tN_eq]; unfold lastOf; omega
    have hlv := hR.live t.val hlt
    have he := hR.lt t.val htl
    rw [hc, hlast, hex, tE_eq]
    have hleft : left (grid0.coords t) (wordAt (aE m 0) (32 + exOf (aB m 0) t.val)) = (wordAt (aE m 0) (32 + exOf (aB m 0) t.val)).toInt - 512 * t.val := by
      generalize wordAt (aE m 0) (32 + exOf (aB m 0) t.val) = v at hlv
      unfold left
      rw [hc]
      have hw : (Scalar.muli (BitVec.ofNat 32 t.val) 512#32 : BitVec 32).toInt = 512 * t.val := by
        have e : (Scalar.muli (BitVec.ofNat 32 t.val) 512#32 : BitVec 32).toNat = 512 * t.val := by
          show (BitVec.ofNat 32 t.val * 512#32).toNat = _
          rw [BitVec.toNat_mul, BitVec.toNat_ofNat]
          show t.val % 2 ^ 32 * 512 % 2 ^ 32 = _
          omega
        rw [BitVec.toInt_eq_toNat_cond, if_pos (by omega), e]; omega
      show (v - (Scalar.muli (BitVec.ofNat 32 t.val) 512#32 : BitVec 32)).toInt = _
      rw [BitVec.toInt_sub, hw]
      have := BitVec.toInt_lt (x := v)
      rw [Int.bmod_eq_of_le (by omega) (by omega)]
    refine (block_used (mats m 0) (exOf (aB m 0) t.val) _ _ _ _ (mt hu.mp (by omega)) hleft (by omega)).trans ?_
    refine if_congr ?_ ?_ rfl
    · show (128 * (a.val / 8 / 128 : ℕ) : ℤ) < _ ↔ (128 * (4 * t.val + a.val / 8 / 128 : ℕ) : ℤ) < _
      omega
    · have hee : exOf (tB m 0) t.val = exOf (aB m 0) t.val % 32 := by omega
      unfold rowOut
      have hx : rowE (stagedIn m (tables_of_raw hR) 0 0 t) (a.val / 8) = fun k : Fin 1024 => (m (((0 : Dev nD) : Thread nD τ).loc main_arg3) : FVec Ideal S655360x128 .f32)
          (ix2 ⟨(4096 * t.val + 8 * (a.val / 8) + k.val / 128) % 655360, Nat.mod_lt _ (by decide)⟩ ⟨k.val % 128, Nat.mod_lt _ (by decide)⟩) := funext fun k => by
        unfold rowE
        refine staged0 m (tables_of_raw hR) 0 t _ _ _ ?_
        rw [hlast]
        show (4096 * t.val + 8 * (a.val / 8) + k.val / 128) % 655360 = 4096 * t.val + (k.val / 128 + 8 * (a.val / 8)) % 4096
        omega
      show feedE (rowE (stagedIn m (tables_of_raw hR) 0 0 t) (a.val / 8)) _ _ _ _ _ _ _ = _
      rw [hx]
      simp only [staged1 m (tables_of_raw hR) 0 t _ ⟨exOf (aB m 0) t.val % 32, Nat.mod_lt _ (by decide)⟩ hee,
        staged2 m (tables_of_raw hR) 0 t _ ⟨exOf (aB m 0) t.val % 32, Nat.mod_lt _ (by decide)⟩ hee,
        staged3 m (tables_of_raw hR) 0 t _ ⟨exOf (aB m 0) t.val % 32, Nat.mod_lt _ (by decide)⟩ hee]
      unfold mats
      dsimp only
      rw [V_same m 0 main_arg4 (by decide), V_same m 0 main_arg6 (by decide), V_same m 0 main_arg8 (by decide)]
  · refine (block_unused _ _ _ _ _ _ (hu.mpr hlt)).trans (if_neg ?_).symm
    have hd := hR.dead t.val htl (by omega)
    omega

end Cert.Kernel3Ideal.Hand

end
-- ==== Proof.ExpRef.lean ====
/-
  The experts' reference: its run and its result as one expression.
-/
module

public import proofs.«01_k».proof.Proof.ExpFeed
public import proofs.«01_k».proof.Proof.Decode
public import proofs.«01_k».proof.Proof.Gen.Reference3Ideal
public import Idealize.ShloMosaic.Lib.StableHlo.RunRead
public import Idealize.ShloMosaic.Lib.Claim
public import Idealize.ShloMosaic.Lib.StackMember
public import Idealize.ShloMosaic.Lib.Routing.Ops
public import proofs.«01_k».proof.Defs

@[expose] public section

set_option maxRecDepth 16384
set_option maxHeartbeats 4000000

noncomputable section

namespace Cert.ExpRef

open Cert.Reference3Ideal Cert.Reference3Ideal.Gen
open Idealize.ShloMosaic Idealize.ShloMosaic.TcCoe Idealize.ShloMosaic.Tactic Idealize.SL.Sem

/-- The experts as a column of indices, a negative one moved up. -/
def column (B : IVec S160 32) : IVec S160x1 32 :=
  broadcastInDim S160x1 ![0] bcast_S160_S160x1_0 (select (cmpi .slt B (broadcastInDim S160 ![] bcast_S_S160 (constantI S_ 32 0#32)))
    (addi B (broadcastInDim S160 ![] bcast_S_S160 (constantI S_ 32 32#32))) B)

/-- The product of each block's rows with its expert's matrix, plus the expert's bias. -/
def linear (x : FVec Ideal S160x512x1024 .f32) (W : FVec Ideal S32x1024x1024 .f32) (b : FVec Ideal S32x1024 .f32) (B : IVec S160 32) :
    FVec Ideal S160x512x1024 .f32 :=
  addf (Host.dotGeneral dot_S160x512x1024_S160x1024x1024_S160x512x1024_2_1_1_2_0_0 none x
      (Host.gather gather_S32x1024x1024_S160x1_S160x1024x1024_12_0_n_n_0_1_110241024 W (column B)))
    (broadcastInDim S160x512x1024 ![0, 1, 2] bcast_S160x1x1024_S160x512x1024_0_1_2 (broadcastInDim S160x1x1024 ![0, 2] bcast_S160x1024_S160x1x1024_0_2
      (Host.gather gather_S32x1024_S160x1_S160x1024_1_0_n_n_0_1_11024 b (column B))))

def spread (w : BitVec 32) : FVec Ideal S160x512x1024 .f32 := broadcastInDim S160x512x1024 ![] bcast_S_S160x512x1024 (constant S_ .f32 w)

def gates (p : FVec Ideal S160x512x1024 .f32) : FVec Ideal S160x512x1024 .f32 := minimumf p (spread 0x40E00000#32)
def ups (p : FVec Ideal S160x512x1024 .f32) : FVec Ideal S160x512x1024 .f32 := minimumf (spread 0x40E00000#32) (maximumf (spread 0xC0E00000#32) p)
def mids (g u : FVec Ideal S160x512x1024 .f32) : FVec Ideal S160x512x1024 .f32 :=
  mulf (addf u (spread 0x3F800000#32)) (mulf g (Host.divf (spread 0x3F800000#32)
    (addf (spread 0x3F800000#32) (Host.exp (Host.negf (mulf (spread 0x3FD9DB23#32) g))))))

def blocksOf (X : FVec Ideal S655360x128 .f32) : FVec Ideal S160x512x1024 .f32 := shapeCast S160x512x1024 X shapeCasts_S655360x128_S160x512x1024

/-- Every block through its expert. -/
def through (B : IVec S160 32) (X : FVec Ideal S655360x128 .f32) (Wg : FVec Ideal S32x1024x1024 .f32) (bg : FVec Ideal S32x1024 .f32)
    (Wu : FVec Ideal S32x1024x1024 .f32) (bu : FVec Ideal S32x1024 .f32) (Wd : FVec Ideal S32x1024x1024 .f32) (bd : FVec Ideal S32x1024 .f32) :
    FVec Ideal S160x512x1024 .f32 :=
  linear (mids (gates (linear (blocksOf X) Wg bg B)) (ups (linear (blocksOf X) Wu bu B))) Wd bd B

/-- The rows' ends, by block. -/
def ends (B : IVec S160 32) : IVec S160 32 := addi (broadcastInDim S160 ![] bcast_S_S160 (constantI S_ 32 32#32)) B
def endsColumn (B : IVec S160 32) : IVec S160x1 32 :=
  broadcastInDim S160x1 ![0] bcast_S160_S160x1_0 (select (cmpi .slt (ends B) (broadcastInDim S160 ![] bcast_S_S160 (constantI S_ 32 0#32)))
    (addi (ends B) (broadcastInDim S160 ![] bcast_S_S160 (constantI S_ 32 64#32))) (ends B))
def live (B : IVec S160 32) (E : IVec S64 32) : IVec S160x4 1 :=
  cmpi .slt (shapeCast S160x4 (muli (iotaInDim S640 32 0) (broadcastInDim S640 ![] bcast_S_S640 (constantI S_ 32 128#32))) shapeCasts_S640_S160x4)
    (broadcastInDim S160x4 ![0, 1] bcast_S160x1_S160x4_0_1 (broadcastInDim S160x1 ![0] bcast_S160_S160x1_0
      (Host.gather gather_S64_S160x1_S160_n_0_n_n_0_1_1 E (endsColumn B))))

/-- The reference's result. -/
def result (B : IVec S160 32) (E : IVec S64 32) (X : FVec Ideal S655360x128 .f32) (Wg : FVec Ideal S32x1024x1024 .f32) (bg : FVec Ideal S32x1024 .f32)
    (Wu : FVec Ideal S32x1024x1024 .f32) (bu : FVec Ideal S32x1024 .f32) (Wd : FVec Ideal S32x1024x1024 .f32) (bd : FVec Ideal S32x1024 .f32) :
    FVec Ideal S655360x128 .f32 :=
  shapeCast S655360x128 (select (broadcastInDim S160x4x128x1024 ![0, 1, 2, 3] bcast_S160x4x1x1_S160x4x128x1024_0_1_2_3
      (broadcastInDim S160x4x1x1 ![0, 1] bcast_S160x4_S160x4x1x1_0_1 (live B E)))
    (shapeCast S160x4x128x1024 (through B X Wg bg Wu bu Wd bd) shapeCasts_S160x512x1024_S160x4x128x1024)
    (broadcastInDim S160x4x128x1024 ![] bcast_S_S160x4x128x1024 (constant S_ .f32 0x00000000#32))) shapeCasts_S160x4x128x1024_S655360x128

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v89) = result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run _ _ _).mono (fun r hr c => ?_) (StableHlo.run_hlo _ _ (by hlo_seq) (by decide) (by decide) (by simp)
    (by intro _ h; (repeat (cases h with | head => rfl | tail _ h => ?_)); exact nomatch h) m g)
  refine ⟨(hr c main_v89).trans ?_, (hr c main_arg0).trans ?_, (hr c main_arg1).trans ?_, (hr c main_arg2).trans ?_, (hr c main_arg3).trans ?_, (hr c main_arg4).trans ?_, (hr c main_arg5).trans ?_, (hr c main_arg6).trans ?_, (hr c main_arg7).trans ?_, (hr c main_arg8).trans ?_, (hr c main_arg9).trans ?_⟩
  all_goals after_reads_simp
  all_goals rfl

end Cert.ExpRef

end
-- ==== Proof.ExpRefValue.lean ====
/-
  The experts' reference: its result, entry by entry.
-/
module

public import proofs.«01_k».proof.Proof.ExpRef

@[expose] public section

set_option maxRecDepth 16384

noncomputable section

namespace Cert.ExpRef

open Cert.Reference3Ideal Cert.Reference3Ideal.Gen
open Idealize.ShloMosaic Idealize.ShloMosaic.TcCoe Idealize.ShloMosaic.ValueIdx
open Cert.Kernel3Ideal.Hand (feedE gateE upE hiddenE exOf wordAt answer zero_word)
open scoped BigOperators

variable (B : IVec S160 32) (E : IVec S64 32) (X : FVec Ideal S655360x128 .f32) (Wg : FVec Ideal S32x1024x1024 .f32) (bg : FVec Ideal S32x1024 .f32)
  (Wu : FVec Ideal S32x1024x1024 .f32) (bu : FVec Ideal S32x1024 .f32) (Wd : FVec Ideal S32x1024x1024 .f32) (bd : FVec Ideal S32x1024 .f32)

theorem exOf_at (t : Fin 160) : exOf B t.val = (B (ix1 t)).toNat := by
  unfold exOf wordAt
  rw [dif_pos t.isLt]
  exact congrArg (fun i => (B i).toNat) (funext fun a => match a with | ⟨0, _⟩ => rfl)

theorem nonneg {w : BitVec 32} (h : w.toNat < 64) : ¬ IntOp.cmpi .slt w 0#32 = 1#1 := fun e => by
  have := Cert.Decode.slt_int e
  rw [BitVec.toInt_eq_toNat_cond, if_pos (by omega)] at this
  have h0 : (0#32 : BitVec 32).toInt = 0 := rfl
  omega

variable {B}

theorem column_val {t : Fin 160} (h : (B (ix1 t)).toNat < 32) : column B (ix2 t 0) = B (ix1 t) := by
  unfold column
  refine (broadcastInDim_apply _ _ _ _ (ix1 t) fun a => match a with | ⟨0, _⟩ => rfl).trans ?_
  exact if_neg (nonneg (w := B (ix1 t)) (by omega))

/-- The gathered matrix of a block. -/
theorem mat_apply (W : FVec Ideal S32x1024x1024 .f32) {t : Fin 160} (e : Fin 32) (h : (B (ix1 t)).toNat = e.val) (k f : Fin 1024) :
    Host.gather gather_S32x1024x1024_S160x1_S160x1024x1024_12_0_n_n_0_1_110241024 W (column B) (ix3 t k f) = W (ix3 e k f) := by
  have hb : ∀ a : Fin 3, a ∉ gather_S32x1024x1024_S160x1_S160x1024x1024_12_0_n_n_0_1_110241024.operandBatchingDims := fun a => List.not_mem_nil
  have hk : (0 : Fin 3) ∉ gather_S32x1024x1024_S160x1_S160x1024x1024_12_0_n_n_0_1_110241024.sKept := by
    rw [GatherDims.mem_sKept]; exact fun h => h.1 (List.mem_singleton.mpr rfl)
  have hm : (0 : Fin 3) ∈ gather_S32x1024x1024_S160x1_S160x1024x1024_12_0_n_n_0_1_110241024.startIndexMap := List.mem_singleton.mpr rfl
  have hm1 : (1 : Fin 3) ∉ gather_S32x1024x1024_S160x1_S160x1024x1024_12_0_n_n_0_1_110241024.startIndexMap := fun h => absurd (List.mem_singleton.mp h) (by decide)
  have hm2 : (2 : Fin 3) ∉ gather_S32x1024x1024_S160x1_S160x1024x1024_12_0_n_n_0_1_110241024.startIndexMap := fun h => absurd (List.mem_singleton.mp h) (by decide)
  unfold Host.gather
  refine congrArg W (funext fun a => Fin.ext ?_)
  match a with
  | ⟨0, _⟩ =>
    show gather_S32x1024x1024_S160x1_S160x1024x1024_12_0_n_n_0_1_110241024.start (ix3 t k f) (column B) (0 : Fin 3) + gather_S32x1024x1024_S160x1_S160x1024x1024_12_0_n_n_0_1_110241024.batchCoord (ix3 t k f) (0 : Fin 3)
      + gather_S32x1024x1024_S160x1_S160x1024x1024_12_0_n_n_0_1_110241024.offCoord (ix3 t k f) (0 : Fin 3) = _
    rw [GatherDims.batchCoord_eq_zero _ _ _ (hb 0), GatherDims.offCoord_eq_zero _ _ _ hk]
    simp only [Nat.add_zero, GatherDims.start, dif_pos hm]
    show min (column B _).toInt.toNat (32 - 1) = e.val
    refine Eq.trans (b := min (column B (ix2 t 0)).toInt.toNat (32 - 1)) (congrArg (fun i => min (column B i).toInt.toNat (32 - 1)) (funext fun a => ?_)) ?_
    · match a with
      | ⟨0, _⟩ => exact Fin.ext rfl
      | ⟨1, _⟩ => exact Fin.ext rfl
    · have := e.isLt
      rw [column_val (by omega), BitVec.toInt_eq_toNat_cond, if_pos (by omega)]
      omega
  | ⟨1, _⟩ =>
    show gather_S32x1024x1024_S160x1_S160x1024x1024_12_0_n_n_0_1_110241024.start (ix3 t k f) (column B) (1 : Fin 3) + gather_S32x1024x1024_S160x1_S160x1024x1024_12_0_n_n_0_1_110241024.batchCoord (ix3 t k f) (1 : Fin 3)
      + gather_S32x1024x1024_S160x1_S160x1024x1024_12_0_n_n_0_1_110241024.offCoord (ix3 t k f) (1 : Fin 3) = _
    rw [GatherDims.batchCoord_eq_zero _ _ _ (hb 1)]
    simp only [Nat.add_zero, GatherDims.start, dif_neg hm1, Nat.zero_add]
    rfl
  | ⟨2, _⟩ =>
    show gather_S32x1024x1024_S160x1_S160x1024x1024_12_0_n_n_0_1_110241024.start (ix3 t k f) (column B) (2 : Fin 3) + gather_S32x1024x1024_S160x1_S160x1024x1024_12_0_n_n_0_1_110241024.batchCoord (ix3 t k f) (2 : Fin 3)
      + gather_S32x1024x1024_S160x1_S160x1024x1024_12_0_n_n_0_1_110241024.offCoord (ix3 t k f) (2 : Fin 3) = _
    rw [GatherDims.batchCoord_eq_zero _ _ _ (hb 2)]
    simp only [Nat.add_zero, GatherDims.start, dif_neg hm2, Nat.zero_add]
    rfl

theorem linear_apply (x : FVec Ideal S160x512x1024 .f32) (W : FVec Ideal S32x1024x1024 .f32) (b : FVec Ideal S32x1024 .f32) {t : Fin 160} (e : Fin 32)
    (h : (B (ix1 t)).toNat = e.val) (r : Fin 512) (n : Fin 1024) :
    linear x W b B (ix3 t r n) = ∑ k : Fin 1024, x (ix3 t r k) * W (ix3 e k n) + b (ix2 e n) := by
  unfold linear
  rw [addf_apply]
  refine congrArg₂ (fun a b : EReal => a + b) ?_ ?_
  · exact (StackMember.dotGeneral_stack_apply (G := 160) (m := 512) (k := 1024) (n := 1024) (φ₁ := .f32) (φ₂ := .f32) _ none x _ t r n).trans
      (Finset.sum_congr rfl fun k _ => congrArg (fun a : EReal => x (ix3 t r k) * a) (mat_apply W e h k n))
  · refine (broadcastInDim_apply _ _ _ _ (ix3 t 0 n) fun a => match a with | ⟨0, _⟩ => rfl | ⟨1, _⟩ => rfl | ⟨2, _⟩ => rfl).trans ?_
    refine (broadcastInDim_apply _ _ _ _ (ix2 t n) fun a => match a with | ⟨0, _⟩ => rfl | ⟨1, _⟩ => rfl).trans ?_
    refine Routing.gather_row _ rfl rfl rfl rfl rfl b (column B) t n e ?_ (by decide)
    have := e.isLt
    refine (column_val (by omega)).trans (BitVec.eq_of_toNat_eq ?_)
    rw [BitVec.toNat_ofNat, h, Nat.mod_eq_of_lt (by omega)]

theorem through_apply {t : Fin 160} (e : Fin 32) (h : (B (ix1 t)).toNat = e.val) (r : Fin 512) (n : Fin 1024) :
    through B X Wg bg Wu bu Wd bd (ix3 t r n) = feedE (fun k => blocksOf X (ix3 t r k)) (fun k f => Wg (ix3 e k f)) (fun k f => Wu (ix3 e k f))
      (fun k f => Wd (ix3 e k f)) (fun f => bg (ix2 e f)) (fun f => bu (ix2 e f)) (fun f => bd (ix2 e f)) n := by
  unfold through feedE
  rw [linear_apply _ Wd bd e h]
  refine congrArg (fun a : EReal => a + bd (ix2 e n)) (Finset.sum_congr rfl fun f _ => congrArg (fun a : EReal => a * Wd (ix3 e f n)) ?_)
  rw [← linear_apply (blocksOf X) Wg bg e h r f, ← linear_apply (blocksOf X) Wu bu e h r f]
  rfl

theorem blocks_apply (t : Fin 160) (r : Fin 512) (k : Fin 1024) : blocksOf X (ix3 t r k)
    = X (ix2 ⟨(4096 * t.val + 8 * r.val + k.val / 128) % 655360, Nat.mod_lt _ (by decide)⟩ ⟨k.val % 128, Nat.mod_lt _ (by decide)⟩) := by
  unfold blocksOf
  refine shapeCast_apply _ _ _ _ ?_
  rw [Shape.rowMajor_val_three, Shape.rowMajor_val_two]
  show (4096 * t.val + 8 * r.val + k.val / 128) % 655360 * 128 + k.val % 128 = (t.val * 512 + r.val) * 1024 + k.val
  omega

variable {E}

/-- Whether a group of 128 rows is live. -/
theorem live_iff {t : Fin 160} (h : (B (ix1 t)).toNat < 32) (b : Fin 4) :
    live B E (ix2 t b) = 1#1 ↔ (128 * (4 * t.val + b.val : ℕ) : ℤ) < (wordAt E (32 + exOf B t.val)).toInt := by
  have hs : ends B (ix1 t) = 32#32 + B (ix1 t) := rfl
  have hv : (ends B (ix1 t)).toNat = 32 + (B (ix1 t)).toNat := by
    rw [hs, BitVec.toNat_add]
    show (32 + (B (ix1 t)).toNat) % 2 ^ 32 = _
    omega
  have hc : endsColumn B (ix2 t 0) = ends B (ix1 t) := by
    unfold endsColumn
    refine (broadcastInDim_apply _ _ _ _ (ix1 t) fun a => match a with | ⟨0, _⟩ => rfl).trans ?_
    exact if_neg (nonneg (w := ends B (ix1 t)) (by omega))
  have hp : StableHlo.Predicate.ixP t = (ix2 t 0 : S160x1.Idx) := funext fun a => match a with | ⟨0, _⟩ => rfl | ⟨1, _⟩ => rfl
  have ho : (Shape.Idx.ofFin t : S160.Idx) = ix1 t := funext fun a => match a with | ⟨0, _⟩ => rfl
  have h1 : Host.gather gather_S64_S160x1_S160_n_0_n_n_0_1_1 E (endsColumn B) (ix1 t) = wordAt E (32 + exOf B t.val) := by
    rw [← ho]
    refine (StableHlo.Predicate.gather_take gather_S64_S160x1_S160_n_0_n_n_0_1_1 rfl rfl rfl rfl E (endsColumn B) t (by decide)).trans ?_
    unfold wordAt
    rw [exOf_at, dif_pos (show 32 + (B (ix1 t)).toNat < 64 by omega)]
    refine congrArg E (funext fun a => match a with | ⟨0, _⟩ => Fin.ext ?_)
    show min (endsColumn B (StableHlo.Predicate.ixP t)).toInt.toNat (64 - 1) = 32 + (B (ix1 t)).toNat
    rw [hp, hc, BitVec.toInt_eq_toNat_cond, if_pos (by omega), hv]
    omega
  have h2 : shapeCast S160x4 (muli (iotaInDim S640 32 0) (broadcastInDim S640 ![] bcast_S_S640 (constantI S_ 32 128#32))) shapeCasts_S640_S160x4 (ix2 t b)
      = BitVec.ofNat 32 (4 * t.val + b.val) * 128#32 := by
    refine (shapeCast_apply _ _ _ (ix1 ⟨4 * t.val + b.val, by omega⟩) ?_).trans rfl
    rw [Shape.rowMajor_val_one, Shape.rowMajor_val_two]
    show 4 * t.val + b.val = t.val * 4 + b.val
    omega
  have h3 : broadcastInDim S160x4 ![0, 1] bcast_S160x1_S160x4_0_1 (broadcastInDim S160x1 ![0] bcast_S160_S160x1_0
      (Host.gather gather_S64_S160x1_S160_n_0_n_n_0_1_1 E (endsColumn B))) (ix2 t b) = wordAt E (32 + exOf B t.val) := by
    refine (broadcastInDim_apply _ _ _ _ (ix2 t 0) fun a => match a with | ⟨0, _⟩ => rfl | ⟨1, _⟩ => rfl).trans ?_
    exact (broadcastInDim_apply _ _ _ _ (ix1 t) fun a => match a with | ⟨0, _⟩ => rfl).trans h1
  have h4 : (BitVec.ofNat 32 (4 * t.val + b.val) * 128#32).toInt = (128 * (4 * t.val + b.val : ℕ) : ℤ) := by
    have e : (BitVec.ofNat 32 (4 * t.val + b.val) * 128#32).toNat = 128 * (4 * t.val + b.val) := by
      rw [BitVec.toNat_mul, BitVec.toNat_ofNat]
      show (4 * t.val + b.val) % 2 ^ 32 * 128 % 2 ^ 32 = _
      omega
    rw [BitVec.toInt_eq_toNat_cond, if_pos (by omega), e]
    omega
  unfold live
  show IntOp.cmpi .slt _ _ = 1#1 ↔ _
  rw [h2, h3, ← h4, ← BitVec.slt_iff_toInt_lt]
  exact StableHlo.Predicate.ofBool_eq_one_iff _

/-- The reference's result, entry by entry. -/
theorem result_apply (hB : ∀ t < 160, exOf B t < 32) (i : S655360x128.Idx) : result B E X Wg bg Wu bu Wd bd i
    = answer B E X Wg bg Wu bu Wd bd ((i 0).val / 4096) ((i 0).val % 4096 / 8)
        ⟨128 * ((i 0).val % 8) + (i 1).val, by have h1 : (i 1).val < 128 := (i 1).isLt; omega⟩ := by
  have h0 : (i 0).val < 655360 := (i 0).isLt
  have h1 : (i 1).val < 128 := (i 1).isLt
  obtain ⟨t, ht⟩ : ∃ t : Fin 160, t.val = (i 0).val / 4096 := ⟨⟨(i 0).val / 4096, by omega⟩, rfl⟩
  obtain ⟨r, hr⟩ : ∃ r : Fin 512, r.val = (i 0).val % 4096 / 8 := ⟨⟨(i 0).val % 4096 / 8, by omega⟩, rfl⟩
  obtain ⟨n, hn⟩ : ∃ n : Fin 1024, n = ⟨128 * ((i 0).val % 8) + (i 1).val, by omega⟩ := ⟨_, rfl⟩
  have hnv : n.val = 128 * ((i 0).val % 8) + (i 1).val := congrArg Fin.val hn
  rw [← hn, ← ht, ← hr]
  have hb := hB t.val t.isLt
  have he : (B (ix1 t)).toNat = exOf B t.val := (exOf_at B t).symm
  have h : result B E X Wg bg Wu bu Wd bd i = Scalar.select (live B E (ix2 t ⟨r.val / 128, by omega⟩)) (through B X Wg bg Wu bu Wd bd (ix3 t r n)) (0 : EReal) := by
    unfold result
    refine (shapeCast_apply _ _ i (ix4 t (⟨r.val / 128, by omega⟩ : Fin 4) (⟨r.val % 128, Nat.mod_lt _ (by decide)⟩ : Fin 128) n) ?_).trans ?_
    · rw [Shape.rowMajor_val_four, Shape.rowMajor_val_two]
      show ((t.val * 4 + r.val / 128) * 128 + r.val % 128) * 1024 + n.val = (i 0).val * 128 + (i 1).val
      omega
    · show Scalar.select _ _ _ = _
      refine congr (congr (congrArg Scalar.select ?_) ?_) ?_
      · refine (broadcastInDim_apply _ _ _ _ (ix4 t (⟨r.val / 128, by omega⟩ : Fin 4) (0 : Fin 1) (0 : Fin 1)) fun a => match a with | ⟨0, _⟩ => rfl | ⟨1, _⟩ => rfl | ⟨2, _⟩ => rfl | ⟨3, _⟩ => rfl).trans ?_
        exact broadcastInDim_apply _ _ _ _ _ fun a => match a with | ⟨0, _⟩ => rfl | ⟨1, _⟩ => rfl
      · refine shapeCast_apply _ _ _ _ ?_
        rw [Shape.rowMajor_val_three, Shape.rowMajor_val_four]
        show (t.val * 512 + r.val) * 1024 + n.val = ((t.val * 4 + r.val / 128) * 128 + r.val % 128) * 1024 + n.val
        omega
      · exact zero_word
  rw [h, through_apply X Wg bg Wu bu Wd bd ⟨exOf B t.val % 32, Nat.mod_lt _ (by decide)⟩ (by show _ = exOf B t.val % 32; omega)]
  unfold answer
  simp only [blocks_apply]
  by_cases hl : live B E (ix2 t ⟨r.val / 128, by omega⟩) = 1#1
  · rw [if_pos ((live_iff (by omega) _).mp hl), hl]; rfl
  · rw [if_neg (fun e => hl ((live_iff (by omega) _).mpr e))]; exact if_neg hl

end Cert.ExpRef

end
-- ==== Proof.ExpClaims.lean ====
/-
  The experts' call: its claims. The two printings of the kernel are one program.
-/
module

public import proofs.«01_k».proof.Proof.ExpValue
public import proofs.«01_k».proof.Proof.ExpRefValue
public import proofs.«01_k».proof.Proof.Gen.Kernel3
public import proofs.«01_k».proof.Defs

@[expose] public section

set_option maxRecDepth 16384
set_option maxHeartbeats 1000000

noncomputable section

namespace Cert.ExpClaims

open Idealize.ShloMosaic Idealize.ShloMosaic.TcCoe Idealize.SL.Sem
open Cert.Kernel3Ideal.Hand

theorem bodies_eq : Cert.Kernel3.defs₀ (F := Bits) = Cert.Kernel3Ideal.defs₀ := by
  unfold Cert.Kernel3.defs₀ Cert.Kernel3Ideal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem defs_eq : Cert.Kernel3.defs (F := Bits) = Cert.Kernel3Ideal.defs := by
  unfold Cert.Kernel3.defs Cert.Kernel3Ideal.defs
  rw [bodies_eq]
  rfl

theorem main_eq : Cert.Kernel3.main (F := Bits) = Cert.Kernel3Ideal.main := rfl

theorem frame_kernel [Cert.Pre_experts_tables.Facts] : Cert.quiescent_Kernel3 := fun m g hp => by
  have hR : Raw (aB m 0) (aN m 0) (aE m 0) := raw_of_pre _ _ _ _ _ _ _ (congrFun (hp 0) fun a => a.elim0)
  rw [defs_eq, main_eq]
  exact (θ_run Cert.Kernel3Ideal.defs _ _).mono (fun r h => ⟨fun c => (h.1 c).2, h.2⟩) (run_end (F := Bits) m g (tables_of_raw hR))

theorem frame_kernelIdeal [Cert.Pre_experts_tables.Facts] : Cert.quiescent_Kernel3Ideal := fun m g hp => by
  have hR : Raw (aB m 0) (aN m 0) (aE m 0) := raw_of_pre _ _ _ _ _ _ _ (congrFun (hp 0) fun a => a.elim0)
  exact (θ_run Cert.Kernel3Ideal.defs _ _).mono (fun r h => ⟨fun c => (h.1 c).2, h.2⟩) (run_end (F := Ideal) m g (tables_of_raw hR))

theorem frame_referenceIdeal : Cert.quiescent_Reference3Ideal := fun m g _ =>
  (θ_run Cert.Reference3Ideal.defs _ _).mono (fun r h => ⟨fun c => (h c).2, sem_eq_zero_of_no_sems (by decide) r.2⟩) (Cert.ExpRef.run m g)

theorem algebraic [Cert.Pre_experts_tables.Facts] : Cert.algebraic_Kernel3Ideal_Reference3Ideal := fun m g m' g' hp hagree => by
  have hR : Raw (aB m 0) (aN m 0) (aE m 0) := raw_of_pre _ _ _ _ _ _ _ (congrFun (hp 0) fun a => a.elim0)
  refine ⟨fun c => (dats m (tables_of_raw hR) 0 c).arrAt 4 (cfgA m (tables_of_raw hR)).N,
    (θ_run Cert.Kernel3Ideal.defs _ _).mono (fun r h => h.1) (run_end (F := Ideal) m g (tables_of_raw hR)),
    (θ_run Cert.Reference3Ideal.defs _ _).mono (fun r h c => ?_) (Cert.ExpRef.run m' g')⟩
  obtain ⟨e, ha⟩ := h c
  obtain ⟨a0, a1, a2, a3, a4, a5, a6, a7, a8, a9⟩ := hagree c
  obtain rfl : c = 0 := Subsingleton.elim _ _
  rw [a0, a2, a3, a4, a5, a6, a7, a8, a9] at e
  exact ⟨e.trans (funext fun i => (Cert.ExpRef.result_apply _ _ _ _ _ _ _ hR.lt i).trans (kernel_apply m hR i).symm), ha⟩

end Cert.ExpClaims

end
-- ==== Proof.lean ====
/-
  The claim: the dispatch call runs and leaves its arguments and every semaphore as they were, and its result is the
  reference's. Each conjunct is read off the run of the call (`run_filled`) or of the reference (`run_reference`). The input
  projection's conjuncts are those of `ProjClaims`, the experts' those of `ExpClaims`.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Pre_segments_filled
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Pre_experts_tables
public import proofs.«01_k».proof.Proof.Final
public import proofs.«01_k».proof.Proof.Same
public import proofs.«01_k».proof.Proof.ProjClaims
public import proofs.«01_k».proof.Proof.ExpClaims
public import Idealize.ShloMosaic.Lib.Quiescent

@[expose] public section

noncomputable section

namespace Cert.Proof

open Idealize.ShloMosaic Idealize.ShloMosaic.TcCoe Idealize.SL.Sem
open Cert.KernelIdeal.Hand

theorem frame_kernel : Cert.quiescent_Kernel := fun m g hm => by
  rw [Cert.Same.defs_eq, Cert.Same.main_eq]
  exact (θ_run Cert.KernelIdeal.defs _ _).mono (fun _ h => ⟨fun c => (h.1 c).2, h.2⟩) (run_filled (F := Bits) m g hm)

theorem frame_kernelIdeal : Cert.quiescent_KernelIdeal := fun m g hm =>
  (θ_run Cert.KernelIdeal.defs _ _).mono (fun _ h => ⟨fun c => (h.1 c).2, h.2⟩) (run_filled (F := Ideal) m g hm)

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.Final.run_reference (F := Ideal) m g)

theorem frame_reference : Cert.quiescent_Reference := fun m g _ => by
  rw [Cert.Same.reference_defs_eq, Cert.Same.reference_main_eq]
  exact (θ_run Cert.ReferenceIdeal.defs _ _).mono (fun r h => ⟨fun c => (h c).2, sem_eq_zero_of_no_sems (by decide) r.2⟩)
    (Cert.Final.run_reference (F := Bits) m g)

/-- The reference's run from the same arguments ends in what the call leaves. -/
theorem reference_same {F : FTy → Type} [FloatOps F]
    {m : (ℓ : Loc Cert.KernelIdeal.nD Cert.KernelIdeal.τ Cert.KernelIdeal.sig) → Buf (Elt F) ℓ}
    {m' : (ℓ : Loc Cert.ReferenceIdeal.nD Cert.ReferenceIdeal.τ Cert.ReferenceIdeal.sig) → Buf (Elt F) ℓ} (hm : Filled m) (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.RefValue.result (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = final (c := c) (argD m c) (argH m c) := by
  rw [h1, h2]
  exact result_eq c (argD m c) _ (fun j => Cert.Decode.dest_lt (fun e => congrFun (hm c).1 e) j)
    (fun j j' e => Cert.Decode.dest_inj (fun e => congrFun (hm c).1 e) j j' e)

theorem algebraic : Cert.algebraic_KernelIdeal_ReferenceIdeal := fun m g m' g' hm hagree =>
  ⟨fun c => final (c := c) (argD m c) (argH m c),
    (θ_run Cert.KernelIdeal.defs _ _).mono (fun _ h => h.1) (run_filled (F := Ideal) m g hm),
    (θ_run Cert.ReferenceIdeal.defs _ _).mono
      (fun _ h c => ⟨(h c).1.trans (reference_same hm c (hagree c).2.1 (hagree c).2.2), (h c).2⟩)
      (Cert.Final.run_reference (F := Ideal) m' g')⟩

theorem bitexact : Cert.bitexact_Kernel_Reference := fun m g m' g' hm hagree => by
  rw [Cert.Same.defs_eq, Cert.Same.main_eq, Cert.Same.reference_defs_eq, Cert.Same.reference_main_eq]
  exact ⟨fun c => final (F := Bits) (c := c) (argD m c) (argH m c),
    (θ_run Cert.KernelIdeal.defs _ _).mono (fun _ h => h.1) (run_filled (F := Bits) m g hm),
    (θ_run Cert.ReferenceIdeal.defs _ _).mono
      (fun _ h c => ⟨(h c).1.trans (reference_same (F := Bits) hm c (hagree c).2.1 (hagree c).2.2), (h c).2⟩)
      (Cert.Final.run_reference (F := Bits) m' g')⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts, Cert.Pre_segments_filled.Gen.facts, Cert.Pre_experts_tables.Gen.facts,
    frame_kernel, frame_kernelIdeal, frame_referenceIdeal, fun m g _ => frame_referenceIdeal m g trivial, frame_reference,
    Cert.ProjClaims.frame_kernel, Cert.ProjClaims.frame_kernelIdeal, Cert.ProjClaims.frame_referenceIdeal,
    Cert.ExpClaims.frame_kernel, Cert.ExpClaims.frame_kernelIdeal, Cert.ExpClaims.frame_referenceIdeal,
    fun m g _ => Cert.ExpClaims.frame_referenceIdeal m g trivial,
    trivial, algebraic, bitexact, trivial, Cert.ProjClaims.algebraic, trivial, Cert.ExpClaims.algebraic⟩

end Cert.Proof

end
